-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x256 : Shape := ⟨2, ![512, 256]⟩
abbrev S2x256x128x64 : Shape := ⟨4, ![2, 256, 128, 64]⟩
abbrev S256x512 : Shape := ⟨2, ![256, 512]⟩
abbrev S2x256x64x128 : Shape := ⟨4, ![2, 256, 64, 128]⟩
abbrev S2x2x8x64x128 : Shape := ⟨5, ![2, 2, 8, 64, 128]⟩
abbrev S32x32x256 : Shape := ⟨3, ![32, 32, 256]⟩
abbrev S32x16x512 : Shape := ⟨3, ![32, 16, 512]⟩
abbrev S1x16x512 : Shape := ⟨3, ![1, 16, 512]⟩
abbrev S3 : Shape := ⟨1, ![3]⟩
abbrev S4 : Shape := ⟨1, ![4]⟩
abbrev S32 : Shape := ⟨1, ![32]⟩
abbrev S1 : Shape := ⟨1, ![1]⟩
abbrev S_ : Shape := ⟨0, ![]⟩
abbrev S1x1x8x64x128 : Shape := ⟨5, ![1, 1, 8, 64, 128]⟩
abbrev S8x64x128 : Shape := ⟨3, ![8, 64, 128]⟩
abbrev S1x8x64x128 : Shape := ⟨4, ![1, 8, 64, 128]⟩
abbrev S8x128x64 : Shape := ⟨3, ![8, 128, 64]⟩
abbrev S8x4x64 : Shape := ⟨3, ![8, 4, 64]⟩
abbrev S8x256 : Shape := ⟨2, ![8, 256]⟩
abbrev S1x8x256 : Shape := ⟨3, ![1, 8, 256]⟩
abbrev S1x32x256 : Shape := ⟨3, ![1, 32, 256]⟩
abbrev S32x256 : Shape := ⟨2, ![32, 256]⟩
abbrev S256x256 : Shape := ⟨2, ![256, 256]⟩
abbrev S1x256x512 : Shape := ⟨3, ![1, 256, 512]⟩
abbrev S256x64 : Shape := ⟨2, ![256, 64]⟩
abbrev S32x8x64 : Shape := ⟨3, ![32, 8, 64]⟩
abbrev S256 : Shape := ⟨1, ![256]⟩
abbrev S256x1 : Shape := ⟨2, ![256, 1]⟩
abbrev S16x512 : Shape := ⟨2, ![16, 512]⟩

abbrev nBuf : Space → Nat
  | .hbm => 8
  | .vmem => 10
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x128x64, .f32⟩
  | .hbm, ⟨3, _⟩ => ⟨S2x256x128x64, .f32⟩
  | .hbm, ⟨4, _⟩ => ⟨S256x512, .f32⟩
  | .hbm, ⟨5, _⟩ => ⟨S2x256x64x128, .f32⟩
  | .hbm, ⟨6, _⟩ => ⟨S2x256x64x128, .f32⟩
  | .hbm, ⟨7, _⟩ => ⟨S2x256x512, .f32⟩
  | .local _ .vmem, ⟨0, _⟩ => ⟨S2x256x512, .f32⟩
  | .local _ .vmem, ⟨1, _⟩ => ⟨S2x256x512, .f32⟩
  | .local _ .vmem, ⟨2, _⟩ => ⟨S512x256, .f32⟩
  | .local _ .vmem, ⟨3, _⟩ => ⟨S256x512, .f32⟩
  | .local _ .vmem, ⟨4, _⟩ => ⟨S2x2x8x64x128, .f32⟩
  | .local _ .vmem, ⟨5, _⟩ => ⟨S32x32x256, .f32⟩
  | .local _ .vmem, ⟨6, _⟩ => ⟨S32x32x256, .f32⟩
  | .local _ .vmem, ⟨7, _⟩ => ⟨S32x16x512, .f32⟩
  | .local _ .vmem, ⟨8, _⟩ => ⟨S32x16x512, .f32⟩
  | .local _ .vmem, ⟨9, _⟩ => ⟨S1x16x512, .f32⟩
  | _, _ => ⟨S2x256x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 200 → Bool
  | ⟨i, _⟩ => dmaSemScopedAt i

abbrev sig : RefSig :=
  (ofTc nBuf bufTy 1 200 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_off1 (d0 : Dev nD) : Fin 4 → Nat :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v9 : BitVec 32 := Scalar.muli v2 c8_i32
  let c0_i32_8 : BitVec 32 := 0#32
  let c0_i32_9 : BitVec 32 := 0#32
  ![0, v9.toNat, 0, 0]
def k0_off2 (d0 : Dev nD) : Fin 4 → Nat :=
  let c1_i32_11 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_10 : BitVec 32 := 8#32
  let v16 : BitVec 32 := Scalar.muli v2 c8_i32_10
  let c0_i32_18 : BitVec 32 := 0#32
  let c0_i32_19 : BitVec 32 := 0#32
  ![1, v16.toNat, 0, 0]
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_39 : BitVec 32 := 0#32
  let v38 : BitVec 1 := Scalar.cmpi .ne v2 c0_i32_39
  let v39 : BitVec 32 := Scalar.extui v38
  let c0_i32_40 : BitVec 32 := 0#32
  let v40 : BitVec 1 := Scalar.cmpi .ne v39 c0_i32_40
  v40

def k0_dev1 : Nat :=
  let c0_i32_2485 : BitVec 32 := 0#32
  let c0_i32_2483 : BitVec 32 := 0#32
  let c1_i32_2484 : BitVec 32 := 1#32
  let v3523 : BitVec 32 := Scalar.muli c0_i32_2483 c1_i32_2484
  let v3524 : BitVec 32 := Scalar.addi c0_i32_2485 v3523
  v3524.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_41 : BitVec 32 := 1#32
  let v41 : BitVec 1 := Scalar.cmpi .ne v2 c1_i32_41
  let v42 : BitVec 32 := Scalar.extui v41
  let c0_i32_42 : BitVec 32 := 0#32
  let v43 : BitVec 1 := Scalar.cmpi .ne v42 c0_i32_42
  v43

def k0_dev2 : Nat :=
  let c0_i32_2485 : BitVec 32 := 0#32
  let c1_i32_2483 : BitVec 32 := 1#32
  let c1_i32_2484 : BitVec 32 := 1#32
  let v3523 : BitVec 32 := Scalar.muli c1_i32_2483 c1_i32_2484
  let v3524 : BitVec 32 := Scalar.addi c0_i32_2485 v3523
  v3524.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_43 : BitVec 32 := 2#32
  let v44 : BitVec 1 := Scalar.cmpi .ne v2 c2_i32_43
  let v45 : BitVec 32 := Scalar.extui v44
  let c0_i32_44 : BitVec 32 := 0#32
  let v46 : BitVec 1 := Scalar.cmpi .ne v45 c0_i32_44
  v46

def k0_dev3 : Nat :=
  let c0_i32_2485 : BitVec 32 := 0#32
  let c2_i32_2483 : BitVec 32 := 2#32
  let c1_i32_2484 : BitVec 32 := 1#32
  let v3523 : BitVec 32 := Scalar.muli c2_i32_2483 c1_i32_2484
  let v3524 : BitVec 32 := Scalar.addi c0_i32_2485 v3523
  v3524.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_45 : BitVec 32 := 3#32
  let v47 : BitVec 1 := Scalar.cmpi .ne v2 c3_i32_45
  let v48 : BitVec 32 := Scalar.extui v47
  let c0_i32_46 : BitVec 32 := 0#32
  let v49 : BitVec 1 := Scalar.cmpi .ne v48 c0_i32_46
  v49

def k0_dev4 : Nat :=
  let c0_i32_2485 : BitVec 32 := 0#32
  let c3_i32_2483 : BitVec 32 := 3#32
  let c1_i32_2484 : BitVec 32 := 1#32
  let v3523 : BitVec 32 := Scalar.muli c3_i32_2483 c1_i32_2484
  let v3524 : BitVec 32 := Scalar.addi c0_i32_2485 v3523
  v3524.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v50 : BitVec 1 := Scalar.cmpi .ne v2 c4_i32
  let v51 : BitVec 32 := Scalar.extui v50
  let c0_i32_47 : BitVec 32 := 0#32
  let v52 : BitVec 1 := Scalar.cmpi .ne v51 c0_i32_47
  v52

def k0_dev5 : Nat :=
  let c0_i32_2485 : BitVec 32 := 0#32
  let c4_i32_2483 : BitVec 32 := 4#32
  let c1_i32_2484 : BitVec 32 := 1#32
  let v3523 : BitVec 32 := Scalar.muli c4_i32_2483 c1_i32_2484
  let v3524 : BitVec 32 := Scalar.addi c0_i32_2485 v3523
  v3524.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v53 : BitVec 1 := Scalar.cmpi .ne v2 c5_i32
  let v54 : BitVec 32 := Scalar.extui v53
  let c0_i32_48 : BitVec 32 := 0#32
  let v55 : BitVec 1 := Scalar.cmpi .ne v54 c0_i32_48
  v55

def k0_dev6 : Nat :=
  let c0_i32_2485 : BitVec 32 := 0#32
  let c5_i32_2483 : BitVec 32 := 5#32
  let c1_i32_2484 : BitVec 32 := 1#32
  let v3523 : BitVec 32 := Scalar.muli c5_i32_2483 c1_i32_2484
  let v3524 : BitVec 32 := Scalar.addi c0_i32_2485 v3523
  v3524.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v56 : BitVec 1 := Scalar.cmpi .ne v2 c6_i32
  let v57 : BitVec 32 := Scalar.extui v56
  let c0_i32_49 : BitVec 32 := 0#32
  let v58 : BitVec 1 := Scalar.cmpi .ne v57 c0_i32_49
  v58

def k0_dev7 : Nat :=
  let c0_i32_2485 : BitVec 32 := 0#32
  let c6_i32_2483 : BitVec 32 := 6#32
  let c1_i32_2484 : BitVec 32 := 1#32
  let v3523 : BitVec 32 := Scalar.muli c6_i32_2483 c1_i32_2484
  let v3524 : BitVec 32 := Scalar.addi c0_i32_2485 v3523
  v3524.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v59 : BitVec 1 := Scalar.cmpi .ne v2 c7_i32
  let v60 : BitVec 32 := Scalar.extui v59
  let c0_i32_50 : BitVec 32 := 0#32
  let v61 : BitVec 1 := Scalar.cmpi .ne v60 c0_i32_50
  v61

def k0_dev8 : Nat :=
  let c0_i32_2485 : BitVec 32 := 0#32
  let c7_i32_2483 : BitVec 32 := 7#32
  let c1_i32_2484 : BitVec 32 := 1#32
  let v3523 : BitVec 32 := Scalar.muli c7_i32_2483 c1_i32_2484
  let v3524 : BitVec 32 := Scalar.addi c0_i32_2485 v3523
  v3524.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_51 : BitVec 32 := 8#32
  let v62 : BitVec 1 := Scalar.cmpi .ne v2 c8_i32_51
  let v63 : BitVec 32 := Scalar.extui v62
  let c0_i32_52 : BitVec 32 := 0#32
  let v64 : BitVec 1 := Scalar.cmpi .ne v63 c0_i32_52
  v64

def k0_dev9 : Nat :=
  let c0_i32_2485 : BitVec 32 := 0#32
  let c8_i32_2483 : BitVec 32 := 8#32
  let c1_i32_2484 : BitVec 32 := 1#32
  let v3523 : BitVec 32 := Scalar.muli c8_i32_2483 c1_i32_2484
  let v3524 : BitVec 32 := Scalar.addi c0_i32_2485 v3523
  v3524.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v65 : BitVec 1 := Scalar.cmpi .ne v2 c9_i32
  let v66 : BitVec 32 := Scalar.extui v65
  let c0_i32_53 : BitVec 32 := 0#32
  let v67 : BitVec 1 := Scalar.cmpi .ne v66 c0_i32_53
  v67

def k0_dev10 : Nat :=
  let c0_i32_2485 : BitVec 32 := 0#32
  let c9_i32_2483 : BitVec 32 := 9#32
  let c1_i32_2484 : BitVec 32 := 1#32
  let v3523 : BitVec 32 := Scalar.muli c9_i32_2483 c1_i32_2484
  let v3524 : BitVec 32 := Scalar.addi c0_i32_2485 v3523
  v3524.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v68 : BitVec 1 := Scalar.cmpi .ne v2 c10_i32
  let v69 : BitVec 32 := Scalar.extui v68
  let c0_i32_54 : BitVec 32 := 0#32
  let v70 : BitVec 1 := Scalar.cmpi .ne v69 c0_i32_54
  v70

def k0_dev11 : Nat :=
  let c0_i32_2485 : BitVec 32 := 0#32
  let c10_i32_2483 : BitVec 32 := 10#32
  let c1_i32_2484 : BitVec 32 := 1#32
  let v3523 : BitVec 32 := Scalar.muli c10_i32_2483 c1_i32_2484
  let v3524 : BitVec 32 := Scalar.addi c0_i32_2485 v3523
  v3524.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v71 : BitVec 1 := Scalar.cmpi .ne v2 c11_i32
  let v72 : BitVec 32 := Scalar.extui v71
  let c0_i32_55 : BitVec 32 := 0#32
  let v73 : BitVec 1 := Scalar.cmpi .ne v72 c0_i32_55
  v73

def k0_dev12 : Nat :=
  let c0_i32_2485 : BitVec 32 := 0#32
  let c11_i32_2483 : BitVec 32 := 11#32
  let c1_i32_2484 : BitVec 32 := 1#32
  let v3523 : BitVec 32 := Scalar.muli c11_i32_2483 c1_i32_2484
  let v3524 : BitVec 32 := Scalar.addi c0_i32_2485 v3523
  v3524.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v74 : BitVec 1 := Scalar.cmpi .ne v2 c12_i32
  let v75 : BitVec 32 := Scalar.extui v74
  let c0_i32_56 : BitVec 32 := 0#32
  let v76 : BitVec 1 := Scalar.cmpi .ne v75 c0_i32_56
  v76

def k0_dev13 : Nat :=
  let c0_i32_2485 : BitVec 32 := 0#32
  let c12_i32_2483 : BitVec 32 := 12#32
  let c1_i32_2484 : BitVec 32 := 1#32
  let v3523 : BitVec 32 := Scalar.muli c12_i32_2483 c1_i32_2484
  let v3524 : BitVec 32 := Scalar.addi c0_i32_2485 v3523
  v3524.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v77 : BitVec 1 := Scalar.cmpi .ne v2 c13_i32
  let v78 : BitVec 32 := Scalar.extui v77
  let c0_i32_57 : BitVec 32 := 0#32
  let v79 : BitVec 1 := Scalar.cmpi .ne v78 c0_i32_57
  v79

def k0_dev14 : Nat :=
  let c0_i32_2485 : BitVec 32 := 0#32
  let c13_i32_2483 : BitVec 32 := 13#32
  let c1_i32_2484 : BitVec 32 := 1#32
  let v3523 : BitVec 32 := Scalar.muli c13_i32_2483 c1_i32_2484
  let v3524 : BitVec 32 := Scalar.addi c0_i32_2485 v3523
  v3524.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v80 : BitVec 1 := Scalar.cmpi .ne v2 c14_i32
  let v81 : BitVec 32 := Scalar.extui v80
  let c0_i32_58 : BitVec 32 := 0#32
  let v82 : BitVec 1 := Scalar.cmpi .ne v81 c0_i32_58
  v82

def k0_dev15 : Nat :=
  let c0_i32_2485 : BitVec 32 := 0#32
  let c14_i32_2483 : BitVec 32 := 14#32
  let c1_i32_2484 : BitVec 32 := 1#32
  let v3523 : BitVec 32 := Scalar.muli c14_i32_2483 c1_i32_2484
  let v3524 : BitVec 32 := Scalar.addi c0_i32_2485 v3523
  v3524.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v83 : BitVec 1 := Scalar.cmpi .ne v2 c15_i32
  let v84 : BitVec 32 := Scalar.extui v83
  let c0_i32_59 : BitVec 32 := 0#32
  let v85 : BitVec 1 := Scalar.cmpi .ne v84 c0_i32_59
  v85

def k0_dev16 : Nat :=
  let c0_i32_2485 : BitVec 32 := 0#32
  let c15_i32_2483 : BitVec 32 := 15#32
  let c1_i32_2484 : BitVec 32 := 1#32
  let v3523 : BitVec 32 := Scalar.muli c15_i32_2483 c1_i32_2484
  let v3524 : BitVec 32 := Scalar.addi c0_i32_2485 v3523
  v3524.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v86 : BitVec 1 := Scalar.cmpi .ne v2 c16_i32
  let v87 : BitVec 32 := Scalar.extui v86
  let c0_i32_60 : BitVec 32 := 0#32
  let v88 : BitVec 1 := Scalar.cmpi .ne v87 c0_i32_60
  v88

def k0_dev17 : Nat :=
  let c0_i32_2485 : BitVec 32 := 0#32
  let c16_i32_2483 : BitVec 32 := 16#32
  let c1_i32_2484 : BitVec 32 := 1#32
  let v3523 : BitVec 32 := Scalar.muli c16_i32_2483 c1_i32_2484
  let v3524 : BitVec 32 := Scalar.addi c0_i32_2485 v3523
  v3524.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v89 : BitVec 1 := Scalar.cmpi .ne v2 c17_i32
  let v90 : BitVec 32 := Scalar.extui v89
  let c0_i32_61 : BitVec 32 := 0#32
  let v91 : BitVec 1 := Scalar.cmpi .ne v90 c0_i32_61
  v91

def k0_dev18 : Nat :=
  let c0_i32_2485 : BitVec 32 := 0#32
  let c17_i32_2483 : BitVec 32 := 17#32
  let c1_i32_2484 : BitVec 32 := 1#32
  let v3523 : BitVec 32 := Scalar.muli c17_i32_2483 c1_i32_2484
  let v3524 : BitVec 32 := Scalar.addi c0_i32_2485 v3523
  v3524.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v92 : BitVec 1 := Scalar.cmpi .ne v2 c18_i32
  let v93 : BitVec 32 := Scalar.extui v92
  let c0_i32_62 : BitVec 32 := 0#32
  let v94 : BitVec 1 := Scalar.cmpi .ne v93 c0_i32_62
  v94

def k0_dev19 : Nat :=
  let c0_i32_2485 : BitVec 32 := 0#32
  let c18_i32_2483 : BitVec 32 := 18#32
  let c1_i32_2484 : BitVec 32 := 1#32
  let v3523 : BitVec 32 := Scalar.muli c18_i32_2483 c1_i32_2484
  let v3524 : BitVec 32 := Scalar.addi c0_i32_2485 v3523
  v3524.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v95 : BitVec 1 := Scalar.cmpi .ne v2 c19_i32
  let v96 : BitVec 32 := Scalar.extui v95
  let c0_i32_63 : BitVec 32 := 0#32
  let v97 : BitVec 1 := Scalar.cmpi .ne v96 c0_i32_63
  v97

def k0_dev20 : Nat :=
  let c0_i32_2485 : BitVec 32 := 0#32
  let c19_i32_2483 : BitVec 32 := 19#32
  let c1_i32_2484 : BitVec 32 := 1#32
  let v3523 : BitVec 32 := Scalar.muli c19_i32_2483 c1_i32_2484
  let v3524 : BitVec 32 := Scalar.addi c0_i32_2485 v3523
  v3524.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v98 : BitVec 1 := Scalar.cmpi .ne v2 c20_i32
  let v99 : BitVec 32 := Scalar.extui v98
  let c0_i32_64 : BitVec 32 := 0#32
  let v100 : BitVec 1 := Scalar.cmpi .ne v99 c0_i32_64
  v100

def k0_dev21 : Nat :=
  let c0_i32_2485 : BitVec 32 := 0#32
  let c20_i32_2483 : BitVec 32 := 20#32
  let c1_i32_2484 : BitVec 32 := 1#32
  let v3523 : BitVec 32 := Scalar.muli c20_i32_2483 c1_i32_2484
  let v3524 : BitVec 32 := Scalar.addi c0_i32_2485 v3523
  v3524.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v101 : BitVec 1 := Scalar.cmpi .ne v2 c21_i32
  let v102 : BitVec 32 := Scalar.extui v101
  let c0_i32_65 : BitVec 32 := 0#32
  let v103 : BitVec 1 := Scalar.cmpi .ne v102 c0_i32_65
  v103

def k0_dev22 : Nat :=
  let c0_i32_2485 : BitVec 32 := 0#32
  let c21_i32_2483 : BitVec 32 := 21#32
  let c1_i32_2484 : BitVec 32 := 1#32
  let v3523 : BitVec 32 := Scalar.muli c21_i32_2483 c1_i32_2484
  let v3524 : BitVec 32 := Scalar.addi c0_i32_2485 v3523
  v3524.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v104 : BitVec 1 := Scalar.cmpi .ne v2 c22_i32
  let v105 : BitVec 32 := Scalar.extui v104
  let c0_i32_66 : BitVec 32 := 0#32
  let v106 : BitVec 1 := Scalar.cmpi .ne v105 c0_i32_66
  v106

def k0_dev23 : Nat :=
  let c0_i32_2485 : BitVec 32 := 0#32
  let c22_i32_2483 : BitVec 32 := 22#32
  let c1_i32_2484 : BitVec 32 := 1#32
  let v3523 : BitVec 32 := Scalar.muli c22_i32_2483 c1_i32_2484
  let v3524 : BitVec 32 := Scalar.addi c0_i32_2485 v3523
  v3524.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v107 : BitVec 1 := Scalar.cmpi .ne v2 c23_i32
  let v108 : BitVec 32 := Scalar.extui v107
  let c0_i32_67 : BitVec 32 := 0#32
  let v109 : BitVec 1 := Scalar.cmpi .ne v108 c0_i32_67
  v109

def k0_dev24 : Nat :=
  let c0_i32_2485 : BitVec 32 := 0#32
  let c23_i32_2483 : BitVec 32 := 23#32
  let c1_i32_2484 : BitVec 32 := 1#32
  let v3523 : BitVec 32 := Scalar.muli c23_i32_2483 c1_i32_2484
  let v3524 : BitVec 32 := Scalar.addi c0_i32_2485 v3523
  v3524.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v110 : BitVec 1 := Scalar.cmpi .ne v2 c24_i32
  let v111 : BitVec 32 := Scalar.extui v110
  let c0_i32_68 : BitVec 32 := 0#32
  let v112 : BitVec 1 := Scalar.cmpi .ne v111 c0_i32_68
  v112

def k0_dev25 : Nat :=
  let c0_i32_2485 : BitVec 32 := 0#32
  let c24_i32_2483 : BitVec 32 := 24#32
  let c1_i32_2484 : BitVec 32 := 1#32
  let v3523 : BitVec 32 := Scalar.muli c24_i32_2483 c1_i32_2484
  let v3524 : BitVec 32 := Scalar.addi c0_i32_2485 v3523
  v3524.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v113 : BitVec 1 := Scalar.cmpi .ne v2 c25_i32
  let v114 : BitVec 32 := Scalar.extui v113
  let c0_i32_69 : BitVec 32 := 0#32
  let v115 : BitVec 1 := Scalar.cmpi .ne v114 c0_i32_69
  v115

def k0_dev26 : Nat :=
  let c0_i32_2485 : BitVec 32 := 0#32
  let c25_i32_2483 : BitVec 32 := 25#32
  let c1_i32_2484 : BitVec 32 := 1#32
  let v3523 : BitVec 32 := Scalar.muli c25_i32_2483 c1_i32_2484
  let v3524 : BitVec 32 := Scalar.addi c0_i32_2485 v3523
  v3524.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v116 : BitVec 1 := Scalar.cmpi .ne v2 c26_i32
  let v117 : BitVec 32 := Scalar.extui v116
  let c0_i32_70 : BitVec 32 := 0#32
  let v118 : BitVec 1 := Scalar.cmpi .ne v117 c0_i32_70
  v118

def k0_dev27 : Nat :=
  let c0_i32_2485 : BitVec 32 := 0#32
  let c26_i32_2483 : BitVec 32 := 26#32
  let c1_i32_2484 : BitVec 32 := 1#32
  let v3523 : BitVec 32 := Scalar.muli c26_i32_2483 c1_i32_2484
  let v3524 : BitVec 32 := Scalar.addi c0_i32_2485 v3523
  v3524.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v119 : BitVec 1 := Scalar.cmpi .ne v2 c27_i32
  let v120 : BitVec 32 := Scalar.extui v119
  let c0_i32_71 : BitVec 32 := 0#32
  let v121 : BitVec 1 := Scalar.cmpi .ne v120 c0_i32_71
  v121

def k0_dev28 : Nat :=
  let c0_i32_2485 : BitVec 32 := 0#32
  let c27_i32_2483 : BitVec 32 := 27#32
  let c1_i32_2484 : BitVec 32 := 1#32
  let v3523 : BitVec 32 := Scalar.muli c27_i32_2483 c1_i32_2484
  let v3524 : BitVec 32 := Scalar.addi c0_i32_2485 v3523
  v3524.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v122 : BitVec 1 := Scalar.cmpi .ne v2 c28_i32
  let v123 : BitVec 32 := Scalar.extui v122
  let c0_i32_72 : BitVec 32 := 0#32
  let v124 : BitVec 1 := Scalar.cmpi .ne v123 c0_i32_72
  v124

def k0_dev29 : Nat :=
  let c0_i32_2485 : BitVec 32 := 0#32
  let c28_i32_2483 : BitVec 32 := 28#32
  let c1_i32_2484 : BitVec 32 := 1#32
  let v3523 : BitVec 32 := Scalar.muli c28_i32_2483 c1_i32_2484
  let v3524 : BitVec 32 := Scalar.addi c0_i32_2485 v3523
  v3524.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v125 : BitVec 1 := Scalar.cmpi .ne v2 c29_i32
  let v126 : BitVec 32 := Scalar.extui v125
  let c0_i32_73 : BitVec 32 := 0#32
  let v127 : BitVec 1 := Scalar.cmpi .ne v126 c0_i32_73
  v127

def k0_dev30 : Nat :=
  let c0_i32_2485 : BitVec 32 := 0#32
  let c29_i32_2483 : BitVec 32 := 29#32
  let c1_i32_2484 : BitVec 32 := 1#32
  let v3523 : BitVec 32 := Scalar.muli c29_i32_2483 c1_i32_2484
  let v3524 : BitVec 32 := Scalar.addi c0_i32_2485 v3523
  v3524.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v128 : BitVec 1 := Scalar.cmpi .ne v2 c30_i32
  let v129 : BitVec 32 := Scalar.extui v128
  let c0_i32_74 : BitVec 32 := 0#32
  let v130 : BitVec 1 := Scalar.cmpi .ne v129 c0_i32_74
  v130

def k0_dev31 : Nat :=
  let c0_i32_2485 : BitVec 32 := 0#32
  let c30_i32_2483 : BitVec 32 := 30#32
  let c1_i32_2484 : BitVec 32 := 1#32
  let v3523 : BitVec 32 := Scalar.muli c30_i32_2483 c1_i32_2484
  let v3524 : BitVec 32 := Scalar.addi c0_i32_2485 v3523
  v3524.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v131 : BitVec 1 := Scalar.cmpi .ne v2 c31_i32
  let v132 : BitVec 32 := Scalar.extui v131
  let c0_i32_75 : BitVec 32 := 0#32
  let v133 : BitVec 1 := Scalar.cmpi .ne v132 c0_i32_75
  v133

def k0_dev32 : Nat :=
  let c0_i32_2485 : BitVec 32 := 0#32
  let c31_i32_2483 : BitVec 32 := 31#32
  let c1_i32_2484 : BitVec 32 := 1#32
  let v3523 : BitVec 32 := Scalar.muli c31_i32_2483 c1_i32_2484
  let v3524 : BitVec 32 := Scalar.addi c0_i32_2485 v3523
  v3524.toNat
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v810 : Index := Scalar.indexCast v2
  let c0_485 : Index := 0#32
  let c0_486 : Index := 0#32
  ![v810.toNat, 0, 0]
def k0_off4 (d0 : Dev nD) (c1_i32_489 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v816 : BitVec 32 := Scalar.addi v2 c1_i32_489
  let c32_i32_490 : BitVec 32 := 32#32
  let c0_i32_491 : BitVec 32 := 0#32
  let v817 : BitVec 1 := Scalar.cmpi .eq c32_i32_490 c0_i32_491
  let c1_i32_492 : BitVec 32 := 1#32
  let v818 : BitVec 32 := Scalar.select v817 c1_i32_492 c32_i32_490
  let v819 : BitVec 32 := Scalar.remsi v816 v818
  let c0_i32_494 : BitVec 32 := 0#32
  let v821 : BitVec 1 := Scalar.cmpi .slt v819 c0_i32_494
  let c0_i32_495 : BitVec 32 := 0#32
  let v822 : BitVec 1 := Scalar.cmpi .slt v818 c0_i32_495
  let v823 : BitVec 1 := Scalar.xori v821 v822
  let c0_i32_493 : BitVec 32 := 0#32
  let v820 : BitVec 1 := Scalar.cmpi .ne v819 c0_i32_493
  let v824 : BitVec 1 := Scalar.andi v823 v820
  let v825 : BitVec 32 := Scalar.addi v819 v818
  let v826 : BitVec 32 := Scalar.select v824 v825 v819
  ![v826.toNat]
def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_498 : BitVec 32 := 0#32
  let c0_i32_499 : BitVec 32 := 0#32
  ![v2.toNat, 0, 0]
def k0_off7 (d0 : Dev nD) (c1_i32_489 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v816 : BitVec 32 := Scalar.addi v2 c1_i32_489
  let c32_i32_490 : BitVec 32 := 32#32
  let c0_i32_491 : BitVec 32 := 0#32
  let v817 : BitVec 1 := Scalar.cmpi .eq c32_i32_490 c0_i32_491
  let c1_i32_492 : BitVec 32 := 1#32
  let v818 : BitVec 32 := Scalar.select v817 c1_i32_492 c32_i32_490
  let v819 : BitVec 32 := Scalar.remsi v816 v818
  let c0_i32_494 : BitVec 32 := 0#32
  let v821 : BitVec 1 := Scalar.cmpi .slt v819 c0_i32_494
  let c0_i32_495 : BitVec 32 := 0#32
  let v822 : BitVec 1 := Scalar.cmpi .slt v818 c0_i32_495
  let v823 : BitVec 1 := Scalar.xori v821 v822
  let c0_i32_493 : BitVec 32 := 0#32
  let v820 : BitVec 1 := Scalar.cmpi .ne v819 c0_i32_493
  let v824 : BitVec 1 := Scalar.andi v823 v820
  let v825 : BitVec 32 := Scalar.addi v819 v818
  let v826 : BitVec 32 := Scalar.select v824 v825 v819
  let c0_i32_500 : BitVec 32 := 0#32
  let c0_i32_501 : BitVec 32 := 0#32
  ![v826.toNat, 0, 0]
def k0_dev33 (d0 : Dev nD) : Nat :=
  let c0_i32_497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_489 : BitVec 32 := 1#32
  let v816 : BitVec 32 := Scalar.addi v2 c1_i32_489
  let c32_i32_490 : BitVec 32 := 32#32
  let c0_i32_491 : BitVec 32 := 0#32
  let v817 : BitVec 1 := Scalar.cmpi .eq c32_i32_490 c0_i32_491
  let c1_i32_492 : BitVec 32 := 1#32
  let v818 : BitVec 32 := Scalar.select v817 c1_i32_492 c32_i32_490
  let v819 : BitVec 32 := Scalar.remsi v816 v818
  let c0_i32_494 : BitVec 32 := 0#32
  let v821 : BitVec 1 := Scalar.cmpi .slt v819 c0_i32_494
  let c0_i32_495 : BitVec 32 := 0#32
  let v822 : BitVec 1 := Scalar.cmpi .slt v818 c0_i32_495
  let v823 : BitVec 1 := Scalar.xori v821 v822
  let c0_i32_493 : BitVec 32 := 0#32
  let v820 : BitVec 1 := Scalar.cmpi .ne v819 c0_i32_493
  let v824 : BitVec 1 := Scalar.andi v823 v820
  let v825 : BitVec 32 := Scalar.addi v819 v818
  let v826 : BitVec 32 := Scalar.select v824 v825 v819
  let c1_i32_496 : BitVec 32 := 1#32
  let v827 : BitVec 32 := Scalar.muli v826 c1_i32_496
  let v828 : BitVec 32 := Scalar.addi c0_i32_497 v827
  v828.toNat
def k0_dev34 (d0 : Dev nD) : Nat :=
  let c0_i32_510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_502 : BitVec 32 := 2#32
  let v837 : BitVec 32 := Scalar.addi v2 c2_i32_502
  let c32_i32_503 : BitVec 32 := 32#32
  let c0_i32_504 : BitVec 32 := 0#32
  let v838 : BitVec 1 := Scalar.cmpi .eq c32_i32_503 c0_i32_504
  let c1_i32_505 : BitVec 32 := 1#32
  let v839 : BitVec 32 := Scalar.select v838 c1_i32_505 c32_i32_503
  let v840 : BitVec 32 := Scalar.remsi v837 v839
  let c0_i32_507 : BitVec 32 := 0#32
  let v842 : BitVec 1 := Scalar.cmpi .slt v840 c0_i32_507
  let c0_i32_508 : BitVec 32 := 0#32
  let v843 : BitVec 1 := Scalar.cmpi .slt v839 c0_i32_508
  let v844 : BitVec 1 := Scalar.xori v842 v843
  let c0_i32_506 : BitVec 32 := 0#32
  let v841 : BitVec 1 := Scalar.cmpi .ne v840 c0_i32_506
  let v845 : BitVec 1 := Scalar.andi v844 v841
  let v846 : BitVec 32 := Scalar.addi v840 v839
  let v847 : BitVec 32 := Scalar.select v845 v846 v840
  let c1_i32_509 : BitVec 32 := 1#32
  let v848 : BitVec 32 := Scalar.muli v847 c1_i32_509
  let v849 : BitVec 32 := Scalar.addi c0_i32_510 v848
  v849.toNat
def k0_dev35 (d0 : Dev nD) : Nat :=
  let c0_i32_523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_515 : BitVec 32 := 3#32
  let v858 : BitVec 32 := Scalar.addi v2 c3_i32_515
  let c32_i32_516 : BitVec 32 := 32#32
  let c0_i32_517 : BitVec 32 := 0#32
  let v859 : BitVec 1 := Scalar.cmpi .eq c32_i32_516 c0_i32_517
  let c1_i32_518 : BitVec 32 := 1#32
  let v860 : BitVec 32 := Scalar.select v859 c1_i32_518 c32_i32_516
  let v861 : BitVec 32 := Scalar.remsi v858 v860
  let c0_i32_520 : BitVec 32 := 0#32
  let v863 : BitVec 1 := Scalar.cmpi .slt v861 c0_i32_520
  let c0_i32_521 : BitVec 32 := 0#32
  let v864 : BitVec 1 := Scalar.cmpi .slt v860 c0_i32_521
  let v865 : BitVec 1 := Scalar.xori v863 v864
  let c0_i32_519 : BitVec 32 := 0#32
  let v862 : BitVec 1 := Scalar.cmpi .ne v861 c0_i32_519
  let v866 : BitVec 1 := Scalar.andi v865 v862
  let v867 : BitVec 32 := Scalar.addi v861 v860
  let v868 : BitVec 32 := Scalar.select v866 v867 v861
  let c1_i32_522 : BitVec 32 := 1#32
  let v869 : BitVec 32 := Scalar.muli v868 c1_i32_522
  let v870 : BitVec 32 := Scalar.addi c0_i32_523 v869
  v870.toNat
def k0_dev36 (d0 : Dev nD) : Nat :=
  let c0_i32_536 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_528 : BitVec 32 := 4#32
  let v879 : BitVec 32 := Scalar.addi v2 c4_i32_528
  let c32_i32_529 : BitVec 32 := 32#32
  let c0_i32_530 : BitVec 32 := 0#32
  let v880 : BitVec 1 := Scalar.cmpi .eq c32_i32_529 c0_i32_530
  let c1_i32_531 : BitVec 32 := 1#32
  let v881 : BitVec 32 := Scalar.select v880 c1_i32_531 c32_i32_529
  let v882 : BitVec 32 := Scalar.remsi v879 v881
  let c0_i32_533 : BitVec 32 := 0#32
  let v884 : BitVec 1 := Scalar.cmpi .slt v882 c0_i32_533
  let c0_i32_534 : BitVec 32 := 0#32
  let v885 : BitVec 1 := Scalar.cmpi .slt v881 c0_i32_534
  let v886 : BitVec 1 := Scalar.xori v884 v885
  let c0_i32_532 : BitVec 32 := 0#32
  let v883 : BitVec 1 := Scalar.cmpi .ne v882 c0_i32_532
  let v887 : BitVec 1 := Scalar.andi v886 v883
  let v888 : BitVec 32 := Scalar.addi v882 v881
  let v889 : BitVec 32 := Scalar.select v887 v888 v882
  let c1_i32_535 : BitVec 32 := 1#32
  let v890 : BitVec 32 := Scalar.muli v889 c1_i32_535
  let v891 : BitVec 32 := Scalar.addi c0_i32_536 v890
  v891.toNat
def k0_dev37 (d0 : Dev nD) : Nat :=
  let c0_i32_549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_541 : BitVec 32 := 5#32
  let v900 : BitVec 32 := Scalar.addi v2 c5_i32_541
  let c32_i32_542 : BitVec 32 := 32#32
  let c0_i32_543 : BitVec 32 := 0#32
  let v901 : BitVec 1 := Scalar.cmpi .eq c32_i32_542 c0_i32_543
  let c1_i32_544 : BitVec 32 := 1#32
  let v902 : BitVec 32 := Scalar.select v901 c1_i32_544 c32_i32_542
  let v903 : BitVec 32 := Scalar.remsi v900 v902
  let c0_i32_546 : BitVec 32 := 0#32
  let v905 : BitVec 1 := Scalar.cmpi .slt v903 c0_i32_546
  let c0_i32_547 : BitVec 32 := 0#32
  let v906 : BitVec 1 := Scalar.cmpi .slt v902 c0_i32_547
  let v907 : BitVec 1 := Scalar.xori v905 v906
  let c0_i32_545 : BitVec 32 := 0#32
  let v904 : BitVec 1 := Scalar.cmpi .ne v903 c0_i32_545
  let v908 : BitVec 1 := Scalar.andi v907 v904
  let v909 : BitVec 32 := Scalar.addi v903 v902
  let v910 : BitVec 32 := Scalar.select v908 v909 v903
  let c1_i32_548 : BitVec 32 := 1#32
  let v911 : BitVec 32 := Scalar.muli v910 c1_i32_548
  let v912 : BitVec 32 := Scalar.addi c0_i32_549 v911
  v912.toNat
def k0_dev38 (d0 : Dev nD) : Nat :=
  let c0_i32_562 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_554 : BitVec 32 := 6#32
  let v921 : BitVec 32 := Scalar.addi v2 c6_i32_554
  let c32_i32_555 : BitVec 32 := 32#32
  let c0_i32_556 : BitVec 32 := 0#32
  let v922 : BitVec 1 := Scalar.cmpi .eq c32_i32_555 c0_i32_556
  let c1_i32_557 : BitVec 32 := 1#32
  let v923 : BitVec 32 := Scalar.select v922 c1_i32_557 c32_i32_555
  let v924 : BitVec 32 := Scalar.remsi v921 v923
  let c0_i32_559 : BitVec 32 := 0#32
  let v926 : BitVec 1 := Scalar.cmpi .slt v924 c0_i32_559
  let c0_i32_560 : BitVec 32 := 0#32
  let v927 : BitVec 1 := Scalar.cmpi .slt v923 c0_i32_560
  let v928 : BitVec 1 := Scalar.xori v926 v927
  let c0_i32_558 : BitVec 32 := 0#32
  let v925 : BitVec 1 := Scalar.cmpi .ne v924 c0_i32_558
  let v929 : BitVec 1 := Scalar.andi v928 v925
  let v930 : BitVec 32 := Scalar.addi v924 v923
  let v931 : BitVec 32 := Scalar.select v929 v930 v924
  let c1_i32_561 : BitVec 32 := 1#32
  let v932 : BitVec 32 := Scalar.muli v931 c1_i32_561
  let v933 : BitVec 32 := Scalar.addi c0_i32_562 v932
  v933.toNat
def k0_dev39 (d0 : Dev nD) : Nat :=
  let c0_i32_575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_567 : BitVec 32 := 7#32
  let v942 : BitVec 32 := Scalar.addi v2 c7_i32_567
  let c32_i32_568 : BitVec 32 := 32#32
  let c0_i32_569 : BitVec 32 := 0#32
  let v943 : BitVec 1 := Scalar.cmpi .eq c32_i32_568 c0_i32_569
  let c1_i32_570 : BitVec 32 := 1#32
  let v944 : BitVec 32 := Scalar.select v943 c1_i32_570 c32_i32_568
  let v945 : BitVec 32 := Scalar.remsi v942 v944
  let c0_i32_572 : BitVec 32 := 0#32
  let v947 : BitVec 1 := Scalar.cmpi .slt v945 c0_i32_572
  let c0_i32_573 : BitVec 32 := 0#32
  let v948 : BitVec 1 := Scalar.cmpi .slt v944 c0_i32_573
  let v949 : BitVec 1 := Scalar.xori v947 v948
  let c0_i32_571 : BitVec 32 := 0#32
  let v946 : BitVec 1 := Scalar.cmpi .ne v945 c0_i32_571
  let v950 : BitVec 1 := Scalar.andi v949 v946
  let v951 : BitVec 32 := Scalar.addi v945 v944
  let v952 : BitVec 32 := Scalar.select v950 v951 v945
  let c1_i32_574 : BitVec 32 := 1#32
  let v953 : BitVec 32 := Scalar.muli v952 c1_i32_574
  let v954 : BitVec 32 := Scalar.addi c0_i32_575 v953
  v954.toNat
def k0_dev40 (d0 : Dev nD) : Nat :=
  let c0_i32_588 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_580 : BitVec 32 := 8#32
  let v963 : BitVec 32 := Scalar.addi v2 c8_i32_580
  let c32_i32_581 : BitVec 32 := 32#32
  let c0_i32_582 : BitVec 32 := 0#32
  let v964 : BitVec 1 := Scalar.cmpi .eq c32_i32_581 c0_i32_582
  let c1_i32_583 : BitVec 32 := 1#32
  let v965 : BitVec 32 := Scalar.select v964 c1_i32_583 c32_i32_581
  let v966 : BitVec 32 := Scalar.remsi v963 v965
  let c0_i32_585 : BitVec 32 := 0#32
  let v968 : BitVec 1 := Scalar.cmpi .slt v966 c0_i32_585
  let c0_i32_586 : BitVec 32 := 0#32
  let v969 : BitVec 1 := Scalar.cmpi .slt v965 c0_i32_586
  let v970 : BitVec 1 := Scalar.xori v968 v969
  let c0_i32_584 : BitVec 32 := 0#32
  let v967 : BitVec 1 := Scalar.cmpi .ne v966 c0_i32_584
  let v971 : BitVec 1 := Scalar.andi v970 v967
  let v972 : BitVec 32 := Scalar.addi v966 v965
  let v973 : BitVec 32 := Scalar.select v971 v972 v966
  let c1_i32_587 : BitVec 32 := 1#32
  let v974 : BitVec 32 := Scalar.muli v973 c1_i32_587
  let v975 : BitVec 32 := Scalar.addi c0_i32_588 v974
  v975.toNat
def k0_dev41 (d0 : Dev nD) : Nat :=
  let c0_i32_601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_593 : BitVec 32 := 9#32
  let v984 : BitVec 32 := Scalar.addi v2 c9_i32_593
  let c32_i32_594 : BitVec 32 := 32#32
  let c0_i32_595 : BitVec 32 := 0#32
  let v985 : BitVec 1 := Scalar.cmpi .eq c32_i32_594 c0_i32_595
  let c1_i32_596 : BitVec 32 := 1#32
  let v986 : BitVec 32 := Scalar.select v985 c1_i32_596 c32_i32_594
  let v987 : BitVec 32 := Scalar.remsi v984 v986
  let c0_i32_598 : BitVec 32 := 0#32
  let v989 : BitVec 1 := Scalar.cmpi .slt v987 c0_i32_598
  let c0_i32_599 : BitVec 32 := 0#32
  let v990 : BitVec 1 := Scalar.cmpi .slt v986 c0_i32_599
  let v991 : BitVec 1 := Scalar.xori v989 v990
  let c0_i32_597 : BitVec 32 := 0#32
  let v988 : BitVec 1 := Scalar.cmpi .ne v987 c0_i32_597
  let v992 : BitVec 1 := Scalar.andi v991 v988
  let v993 : BitVec 32 := Scalar.addi v987 v986
  let v994 : BitVec 32 := Scalar.select v992 v993 v987
  let c1_i32_600 : BitVec 32 := 1#32
  let v995 : BitVec 32 := Scalar.muli v994 c1_i32_600
  let v996 : BitVec 32 := Scalar.addi c0_i32_601 v995
  v996.toNat
def k0_dev42 (d0 : Dev nD) : Nat :=
  let c0_i32_614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_606 : BitVec 32 := 10#32
  let v1005 : BitVec 32 := Scalar.addi v2 c10_i32_606
  let c32_i32_607 : BitVec 32 := 32#32
  let c0_i32_608 : BitVec 32 := 0#32
  let v1006 : BitVec 1 := Scalar.cmpi .eq c32_i32_607 c0_i32_608
  let c1_i32_609 : BitVec 32 := 1#32
  let v1007 : BitVec 32 := Scalar.select v1006 c1_i32_609 c32_i32_607
  let v1008 : BitVec 32 := Scalar.remsi v1005 v1007
  let c0_i32_611 : BitVec 32 := 0#32
  let v1010 : BitVec 1 := Scalar.cmpi .slt v1008 c0_i32_611
  let c0_i32_612 : BitVec 32 := 0#32
  let v1011 : BitVec 1 := Scalar.cmpi .slt v1007 c0_i32_612
  let v1012 : BitVec 1 := Scalar.xori v1010 v1011
  let c0_i32_610 : BitVec 32 := 0#32
  let v1009 : BitVec 1 := Scalar.cmpi .ne v1008 c0_i32_610
  let v1013 : BitVec 1 := Scalar.andi v1012 v1009
  let v1014 : BitVec 32 := Scalar.addi v1008 v1007
  let v1015 : BitVec 32 := Scalar.select v1013 v1014 v1008
  let c1_i32_613 : BitVec 32 := 1#32
  let v1016 : BitVec 32 := Scalar.muli v1015 c1_i32_613
  let v1017 : BitVec 32 := Scalar.addi c0_i32_614 v1016
  v1017.toNat
def k0_dev43 (d0 : Dev nD) : Nat :=
  let c0_i32_627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_619 : BitVec 32 := 11#32
  let v1026 : BitVec 32 := Scalar.addi v2 c11_i32_619
  let c32_i32_620 : BitVec 32 := 32#32
  let c0_i32_621 : BitVec 32 := 0#32
  let v1027 : BitVec 1 := Scalar.cmpi .eq c32_i32_620 c0_i32_621
  let c1_i32_622 : BitVec 32 := 1#32
  let v1028 : BitVec 32 := Scalar.select v1027 c1_i32_622 c32_i32_620
  let v1029 : BitVec 32 := Scalar.remsi v1026 v1028
  let c0_i32_624 : BitVec 32 := 0#32
  let v1031 : BitVec 1 := Scalar.cmpi .slt v1029 c0_i32_624
  let c0_i32_625 : BitVec 32 := 0#32
  let v1032 : BitVec 1 := Scalar.cmpi .slt v1028 c0_i32_625
  let v1033 : BitVec 1 := Scalar.xori v1031 v1032
  let c0_i32_623 : BitVec 32 := 0#32
  let v1030 : BitVec 1 := Scalar.cmpi .ne v1029 c0_i32_623
  let v1034 : BitVec 1 := Scalar.andi v1033 v1030
  let v1035 : BitVec 32 := Scalar.addi v1029 v1028
  let v1036 : BitVec 32 := Scalar.select v1034 v1035 v1029
  let c1_i32_626 : BitVec 32 := 1#32
  let v1037 : BitVec 32 := Scalar.muli v1036 c1_i32_626
  let v1038 : BitVec 32 := Scalar.addi c0_i32_627 v1037
  v1038.toNat
def k0_dev44 (d0 : Dev nD) : Nat :=
  let c0_i32_640 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_632 : BitVec 32 := 12#32
  let v1047 : BitVec 32 := Scalar.addi v2 c12_i32_632
  let c32_i32_633 : BitVec 32 := 32#32
  let c0_i32_634 : BitVec 32 := 0#32
  let v1048 : BitVec 1 := Scalar.cmpi .eq c32_i32_633 c0_i32_634
  let c1_i32_635 : BitVec 32 := 1#32
  let v1049 : BitVec 32 := Scalar.select v1048 c1_i32_635 c32_i32_633
  let v1050 : BitVec 32 := Scalar.remsi v1047 v1049
  let c0_i32_637 : BitVec 32 := 0#32
  let v1052 : BitVec 1 := Scalar.cmpi .slt v1050 c0_i32_637
  let c0_i32_638 : BitVec 32 := 0#32
  let v1053 : BitVec 1 := Scalar.cmpi .slt v1049 c0_i32_638
  let v1054 : BitVec 1 := Scalar.xori v1052 v1053
  let c0_i32_636 : BitVec 32 := 0#32
  let v1051 : BitVec 1 := Scalar.cmpi .ne v1050 c0_i32_636
  let v1055 : BitVec 1 := Scalar.andi v1054 v1051
  let v1056 : BitVec 32 := Scalar.addi v1050 v1049
  let v1057 : BitVec 32 := Scalar.select v1055 v1056 v1050
  let c1_i32_639 : BitVec 32 := 1#32
  let v1058 : BitVec 32 := Scalar.muli v1057 c1_i32_639
  let v1059 : BitVec 32 := Scalar.addi c0_i32_640 v1058
  v1059.toNat
def k0_dev45 (d0 : Dev nD) : Nat :=
  let c0_i32_653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_645 : BitVec 32 := 13#32
  let v1068 : BitVec 32 := Scalar.addi v2 c13_i32_645
  let c32_i32_646 : BitVec 32 := 32#32
  let c0_i32_647 : BitVec 32 := 0#32
  let v1069 : BitVec 1 := Scalar.cmpi .eq c32_i32_646 c0_i32_647
  let c1_i32_648 : BitVec 32 := 1#32
  let v1070 : BitVec 32 := Scalar.select v1069 c1_i32_648 c32_i32_646
  let v1071 : BitVec 32 := Scalar.remsi v1068 v1070
  let c0_i32_650 : BitVec 32 := 0#32
  let v1073 : BitVec 1 := Scalar.cmpi .slt v1071 c0_i32_650
  let c0_i32_651 : BitVec 32 := 0#32
  let v1074 : BitVec 1 := Scalar.cmpi .slt v1070 c0_i32_651
  let v1075 : BitVec 1 := Scalar.xori v1073 v1074
  let c0_i32_649 : BitVec 32 := 0#32
  let v1072 : BitVec 1 := Scalar.cmpi .ne v1071 c0_i32_649
  let v1076 : BitVec 1 := Scalar.andi v1075 v1072
  let v1077 : BitVec 32 := Scalar.addi v1071 v1070
  let v1078 : BitVec 32 := Scalar.select v1076 v1077 v1071
  let c1_i32_652 : BitVec 32 := 1#32
  let v1079 : BitVec 32 := Scalar.muli v1078 c1_i32_652
  let v1080 : BitVec 32 := Scalar.addi c0_i32_653 v1079
  v1080.toNat
def k0_dev46 (d0 : Dev nD) : Nat :=
  let c0_i32_666 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_658 : BitVec 32 := 14#32
  let v1089 : BitVec 32 := Scalar.addi v2 c14_i32_658
  let c32_i32_659 : BitVec 32 := 32#32
  let c0_i32_660 : BitVec 32 := 0#32
  let v1090 : BitVec 1 := Scalar.cmpi .eq c32_i32_659 c0_i32_660
  let c1_i32_661 : BitVec 32 := 1#32
  let v1091 : BitVec 32 := Scalar.select v1090 c1_i32_661 c32_i32_659
  let v1092 : BitVec 32 := Scalar.remsi v1089 v1091
  let c0_i32_663 : BitVec 32 := 0#32
  let v1094 : BitVec 1 := Scalar.cmpi .slt v1092 c0_i32_663
  let c0_i32_664 : BitVec 32 := 0#32
  let v1095 : BitVec 1 := Scalar.cmpi .slt v1091 c0_i32_664
  let v1096 : BitVec 1 := Scalar.xori v1094 v1095
  let c0_i32_662 : BitVec 32 := 0#32
  let v1093 : BitVec 1 := Scalar.cmpi .ne v1092 c0_i32_662
  let v1097 : BitVec 1 := Scalar.andi v1096 v1093
  let v1098 : BitVec 32 := Scalar.addi v1092 v1091
  let v1099 : BitVec 32 := Scalar.select v1097 v1098 v1092
  let c1_i32_665 : BitVec 32 := 1#32
  let v1100 : BitVec 32 := Scalar.muli v1099 c1_i32_665
  let v1101 : BitVec 32 := Scalar.addi c0_i32_666 v1100
  v1101.toNat
def k0_dev47 (d0 : Dev nD) : Nat :=
  let c0_i32_679 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_671 : BitVec 32 := 15#32
  let v1110 : BitVec 32 := Scalar.addi v2 c15_i32_671
  let c32_i32_672 : BitVec 32 := 32#32
  let c0_i32_673 : BitVec 32 := 0#32
  let v1111 : BitVec 1 := Scalar.cmpi .eq c32_i32_672 c0_i32_673
  let c1_i32_674 : BitVec 32 := 1#32
  let v1112 : BitVec 32 := Scalar.select v1111 c1_i32_674 c32_i32_672
  let v1113 : BitVec 32 := Scalar.remsi v1110 v1112
  let c0_i32_676 : BitVec 32 := 0#32
  let v1115 : BitVec 1 := Scalar.cmpi .slt v1113 c0_i32_676
  let c0_i32_677 : BitVec 32 := 0#32
  let v1116 : BitVec 1 := Scalar.cmpi .slt v1112 c0_i32_677
  let v1117 : BitVec 1 := Scalar.xori v1115 v1116
  let c0_i32_675 : BitVec 32 := 0#32
  let v1114 : BitVec 1 := Scalar.cmpi .ne v1113 c0_i32_675
  let v1118 : BitVec 1 := Scalar.andi v1117 v1114
  let v1119 : BitVec 32 := Scalar.addi v1113 v1112
  let v1120 : BitVec 32 := Scalar.select v1118 v1119 v1113
  let c1_i32_678 : BitVec 32 := 1#32
  let v1121 : BitVec 32 := Scalar.muli v1120 c1_i32_678
  let v1122 : BitVec 32 := Scalar.addi c0_i32_679 v1121
  v1122.toNat
def k0_dev48 (d0 : Dev nD) : Nat :=
  let c0_i32_692 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_684 : BitVec 32 := 16#32
  let v1131 : BitVec 32 := Scalar.addi v2 c16_i32_684
  let c32_i32_685 : BitVec 32 := 32#32
  let c0_i32_686 : BitVec 32 := 0#32
  let v1132 : BitVec 1 := Scalar.cmpi .eq c32_i32_685 c0_i32_686
  let c1_i32_687 : BitVec 32 := 1#32
  let v1133 : BitVec 32 := Scalar.select v1132 c1_i32_687 c32_i32_685
  let v1134 : BitVec 32 := Scalar.remsi v1131 v1133
  let c0_i32_689 : BitVec 32 := 0#32
  let v1136 : BitVec 1 := Scalar.cmpi .slt v1134 c0_i32_689
  let c0_i32_690 : BitVec 32 := 0#32
  let v1137 : BitVec 1 := Scalar.cmpi .slt v1133 c0_i32_690
  let v1138 : BitVec 1 := Scalar.xori v1136 v1137
  let c0_i32_688 : BitVec 32 := 0#32
  let v1135 : BitVec 1 := Scalar.cmpi .ne v1134 c0_i32_688
  let v1139 : BitVec 1 := Scalar.andi v1138 v1135
  let v1140 : BitVec 32 := Scalar.addi v1134 v1133
  let v1141 : BitVec 32 := Scalar.select v1139 v1140 v1134
  let c1_i32_691 : BitVec 32 := 1#32
  let v1142 : BitVec 32 := Scalar.muli v1141 c1_i32_691
  let v1143 : BitVec 32 := Scalar.addi c0_i32_692 v1142
  v1143.toNat
def k0_dev49 (d0 : Dev nD) : Nat :=
  let c0_i32_705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_697 : BitVec 32 := 17#32
  let v1152 : BitVec 32 := Scalar.addi v2 c17_i32_697
  let c32_i32_698 : BitVec 32 := 32#32
  let c0_i32_699 : BitVec 32 := 0#32
  let v1153 : BitVec 1 := Scalar.cmpi .eq c32_i32_698 c0_i32_699
  let c1_i32_700 : BitVec 32 := 1#32
  let v1154 : BitVec 32 := Scalar.select v1153 c1_i32_700 c32_i32_698
  let v1155 : BitVec 32 := Scalar.remsi v1152 v1154
  let c0_i32_702 : BitVec 32 := 0#32
  let v1157 : BitVec 1 := Scalar.cmpi .slt v1155 c0_i32_702
  let c0_i32_703 : BitVec 32 := 0#32
  let v1158 : BitVec 1 := Scalar.cmpi .slt v1154 c0_i32_703
  let v1159 : BitVec 1 := Scalar.xori v1157 v1158
  let c0_i32_701 : BitVec 32 := 0#32
  let v1156 : BitVec 1 := Scalar.cmpi .ne v1155 c0_i32_701
  let v1160 : BitVec 1 := Scalar.andi v1159 v1156
  let v1161 : BitVec 32 := Scalar.addi v1155 v1154
  let v1162 : BitVec 32 := Scalar.select v1160 v1161 v1155
  let c1_i32_704 : BitVec 32 := 1#32
  let v1163 : BitVec 32 := Scalar.muli v1162 c1_i32_704
  let v1164 : BitVec 32 := Scalar.addi c0_i32_705 v1163
  v1164.toNat
def k0_dev50 (d0 : Dev nD) : Nat :=
  let c0_i32_718 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_710 : BitVec 32 := 18#32
  let v1173 : BitVec 32 := Scalar.addi v2 c18_i32_710
  let c32_i32_711 : BitVec 32 := 32#32
  let c0_i32_712 : BitVec 32 := 0#32
  let v1174 : BitVec 1 := Scalar.cmpi .eq c32_i32_711 c0_i32_712
  let c1_i32_713 : BitVec 32 := 1#32
  let v1175 : BitVec 32 := Scalar.select v1174 c1_i32_713 c32_i32_711
  let v1176 : BitVec 32 := Scalar.remsi v1173 v1175
  let c0_i32_715 : BitVec 32 := 0#32
  let v1178 : BitVec 1 := Scalar.cmpi .slt v1176 c0_i32_715
  let c0_i32_716 : BitVec 32 := 0#32
  let v1179 : BitVec 1 := Scalar.cmpi .slt v1175 c0_i32_716
  let v1180 : BitVec 1 := Scalar.xori v1178 v1179
  let c0_i32_714 : BitVec 32 := 0#32
  let v1177 : BitVec 1 := Scalar.cmpi .ne v1176 c0_i32_714
  let v1181 : BitVec 1 := Scalar.andi v1180 v1177
  let v1182 : BitVec 32 := Scalar.addi v1176 v1175
  let v1183 : BitVec 32 := Scalar.select v1181 v1182 v1176
  let c1_i32_717 : BitVec 32 := 1#32
  let v1184 : BitVec 32 := Scalar.muli v1183 c1_i32_717
  let v1185 : BitVec 32 := Scalar.addi c0_i32_718 v1184
  v1185.toNat
def k0_dev51 (d0 : Dev nD) : Nat :=
  let c0_i32_731 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_723 : BitVec 32 := 19#32
  let v1194 : BitVec 32 := Scalar.addi v2 c19_i32_723
  let c32_i32_724 : BitVec 32 := 32#32
  let c0_i32_725 : BitVec 32 := 0#32
  let v1195 : BitVec 1 := Scalar.cmpi .eq c32_i32_724 c0_i32_725
  let c1_i32_726 : BitVec 32 := 1#32
  let v1196 : BitVec 32 := Scalar.select v1195 c1_i32_726 c32_i32_724
  let v1197 : BitVec 32 := Scalar.remsi v1194 v1196
  let c0_i32_728 : BitVec 32 := 0#32
  let v1199 : BitVec 1 := Scalar.cmpi .slt v1197 c0_i32_728
  let c0_i32_729 : BitVec 32 := 0#32
  let v1200 : BitVec 1 := Scalar.cmpi .slt v1196 c0_i32_729
  let v1201 : BitVec 1 := Scalar.xori v1199 v1200
  let c0_i32_727 : BitVec 32 := 0#32
  let v1198 : BitVec 1 := Scalar.cmpi .ne v1197 c0_i32_727
  let v1202 : BitVec 1 := Scalar.andi v1201 v1198
  let v1203 : BitVec 32 := Scalar.addi v1197 v1196
  let v1204 : BitVec 32 := Scalar.select v1202 v1203 v1197
  let c1_i32_730 : BitVec 32 := 1#32
  let v1205 : BitVec 32 := Scalar.muli v1204 c1_i32_730
  let v1206 : BitVec 32 := Scalar.addi c0_i32_731 v1205
  v1206.toNat
def k0_dev52 (d0 : Dev nD) : Nat :=
  let c0_i32_744 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_736 : BitVec 32 := 20#32
  let v1215 : BitVec 32 := Scalar.addi v2 c20_i32_736
  let c32_i32_737 : BitVec 32 := 32#32
  let c0_i32_738 : BitVec 32 := 0#32
  let v1216 : BitVec 1 := Scalar.cmpi .eq c32_i32_737 c0_i32_738
  let c1_i32_739 : BitVec 32 := 1#32
  let v1217 : BitVec 32 := Scalar.select v1216 c1_i32_739 c32_i32_737
  let v1218 : BitVec 32 := Scalar.remsi v1215 v1217
  let c0_i32_741 : BitVec 32 := 0#32
  let v1220 : BitVec 1 := Scalar.cmpi .slt v1218 c0_i32_741
  let c0_i32_742 : BitVec 32 := 0#32
  let v1221 : BitVec 1 := Scalar.cmpi .slt v1217 c0_i32_742
  let v1222 : BitVec 1 := Scalar.xori v1220 v1221
  let c0_i32_740 : BitVec 32 := 0#32
  let v1219 : BitVec 1 := Scalar.cmpi .ne v1218 c0_i32_740
  let v1223 : BitVec 1 := Scalar.andi v1222 v1219
  let v1224 : BitVec 32 := Scalar.addi v1218 v1217
  let v1225 : BitVec 32 := Scalar.select v1223 v1224 v1218
  let c1_i32_743 : BitVec 32 := 1#32
  let v1226 : BitVec 32 := Scalar.muli v1225 c1_i32_743
  let v1227 : BitVec 32 := Scalar.addi c0_i32_744 v1226
  v1227.toNat
def k0_dev53 (d0 : Dev nD) : Nat :=
  let c0_i32_757 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_749 : BitVec 32 := 21#32
  let v1236 : BitVec 32 := Scalar.addi v2 c21_i32_749
  let c32_i32_750 : BitVec 32 := 32#32
  let c0_i32_751 : BitVec 32 := 0#32
  let v1237 : BitVec 1 := Scalar.cmpi .eq c32_i32_750 c0_i32_751
  let c1_i32_752 : BitVec 32 := 1#32
  let v1238 : BitVec 32 := Scalar.select v1237 c1_i32_752 c32_i32_750
  let v1239 : BitVec 32 := Scalar.remsi v1236 v1238
  let c0_i32_754 : BitVec 32 := 0#32
  let v1241 : BitVec 1 := Scalar.cmpi .slt v1239 c0_i32_754
  let c0_i32_755 : BitVec 32 := 0#32
  let v1242 : BitVec 1 := Scalar.cmpi .slt v1238 c0_i32_755
  let v1243 : BitVec 1 := Scalar.xori v1241 v1242
  let c0_i32_753 : BitVec 32 := 0#32
  let v1240 : BitVec 1 := Scalar.cmpi .ne v1239 c0_i32_753
  let v1244 : BitVec 1 := Scalar.andi v1243 v1240
  let v1245 : BitVec 32 := Scalar.addi v1239 v1238
  let v1246 : BitVec 32 := Scalar.select v1244 v1245 v1239
  let c1_i32_756 : BitVec 32 := 1#32
  let v1247 : BitVec 32 := Scalar.muli v1246 c1_i32_756
  let v1248 : BitVec 32 := Scalar.addi c0_i32_757 v1247
  v1248.toNat
def k0_dev54 (d0 : Dev nD) : Nat :=
  let c0_i32_770 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_762 : BitVec 32 := 22#32
  let v1257 : BitVec 32 := Scalar.addi v2 c22_i32_762
  let c32_i32_763 : BitVec 32 := 32#32
  let c0_i32_764 : BitVec 32 := 0#32
  let v1258 : BitVec 1 := Scalar.cmpi .eq c32_i32_763 c0_i32_764
  let c1_i32_765 : BitVec 32 := 1#32
  let v1259 : BitVec 32 := Scalar.select v1258 c1_i32_765 c32_i32_763
  let v1260 : BitVec 32 := Scalar.remsi v1257 v1259
  let c0_i32_767 : BitVec 32 := 0#32
  let v1262 : BitVec 1 := Scalar.cmpi .slt v1260 c0_i32_767
  let c0_i32_768 : BitVec 32 := 0#32
  let v1263 : BitVec 1 := Scalar.cmpi .slt v1259 c0_i32_768
  let v1264 : BitVec 1 := Scalar.xori v1262 v1263
  let c0_i32_766 : BitVec 32 := 0#32
  let v1261 : BitVec 1 := Scalar.cmpi .ne v1260 c0_i32_766
  let v1265 : BitVec 1 := Scalar.andi v1264 v1261
  let v1266 : BitVec 32 := Scalar.addi v1260 v1259
  let v1267 : BitVec 32 := Scalar.select v1265 v1266 v1260
  let c1_i32_769 : BitVec 32 := 1#32
  let v1268 : BitVec 32 := Scalar.muli v1267 c1_i32_769
  let v1269 : BitVec 32 := Scalar.addi c0_i32_770 v1268
  v1269.toNat
def k0_dev55 (d0 : Dev nD) : Nat :=
  let c0_i32_783 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_775 : BitVec 32 := 23#32
  let v1278 : BitVec 32 := Scalar.addi v2 c23_i32_775
  let c32_i32_776 : BitVec 32 := 32#32
  let c0_i32_777 : BitVec 32 := 0#32
  let v1279 : BitVec 1 := Scalar.cmpi .eq c32_i32_776 c0_i32_777
  let c1_i32_778 : BitVec 32 := 1#32
  let v1280 : BitVec 32 := Scalar.select v1279 c1_i32_778 c32_i32_776
  let v1281 : BitVec 32 := Scalar.remsi v1278 v1280
  let c0_i32_780 : BitVec 32 := 0#32
  let v1283 : BitVec 1 := Scalar.cmpi .slt v1281 c0_i32_780
  let c0_i32_781 : BitVec 32 := 0#32
  let v1284 : BitVec 1 := Scalar.cmpi .slt v1280 c0_i32_781
  let v1285 : BitVec 1 := Scalar.xori v1283 v1284
  let c0_i32_779 : BitVec 32 := 0#32
  let v1282 : BitVec 1 := Scalar.cmpi .ne v1281 c0_i32_779
  let v1286 : BitVec 1 := Scalar.andi v1285 v1282
  let v1287 : BitVec 32 := Scalar.addi v1281 v1280
  let v1288 : BitVec 32 := Scalar.select v1286 v1287 v1281
  let c1_i32_782 : BitVec 32 := 1#32
  let v1289 : BitVec 32 := Scalar.muli v1288 c1_i32_782
  let v1290 : BitVec 32 := Scalar.addi c0_i32_783 v1289
  v1290.toNat
def k0_dev56 (d0 : Dev nD) : Nat :=
  let c0_i32_796 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_788 : BitVec 32 := 24#32
  let v1299 : BitVec 32 := Scalar.addi v2 c24_i32_788
  let c32_i32_789 : BitVec 32 := 32#32
  let c0_i32_790 : BitVec 32 := 0#32
  let v1300 : BitVec 1 := Scalar.cmpi .eq c32_i32_789 c0_i32_790
  let c1_i32_791 : BitVec 32 := 1#32
  let v1301 : BitVec 32 := Scalar.select v1300 c1_i32_791 c32_i32_789
  let v1302 : BitVec 32 := Scalar.remsi v1299 v1301
  let c0_i32_793 : BitVec 32 := 0#32
  let v1304 : BitVec 1 := Scalar.cmpi .slt v1302 c0_i32_793
  let c0_i32_794 : BitVec 32 := 0#32
  let v1305 : BitVec 1 := Scalar.cmpi .slt v1301 c0_i32_794
  let v1306 : BitVec 1 := Scalar.xori v1304 v1305
  let c0_i32_792 : BitVec 32 := 0#32
  let v1303 : BitVec 1 := Scalar.cmpi .ne v1302 c0_i32_792
  let v1307 : BitVec 1 := Scalar.andi v1306 v1303
  let v1308 : BitVec 32 := Scalar.addi v1302 v1301
  let v1309 : BitVec 32 := Scalar.select v1307 v1308 v1302
  let c1_i32_795 : BitVec 32 := 1#32
  let v1310 : BitVec 32 := Scalar.muli v1309 c1_i32_795
  let v1311 : BitVec 32 := Scalar.addi c0_i32_796 v1310
  v1311.toNat
def k0_dev57 (d0 : Dev nD) : Nat :=
  let c0_i32_809 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_801 : BitVec 32 := 25#32
  let v1320 : BitVec 32 := Scalar.addi v2 c25_i32_801
  let c32_i32_802 : BitVec 32 := 32#32
  let c0_i32_803 : BitVec 32 := 0#32
  let v1321 : BitVec 1 := Scalar.cmpi .eq c32_i32_802 c0_i32_803
  let c1_i32_804 : BitVec 32 := 1#32
  let v1322 : BitVec 32 := Scalar.select v1321 c1_i32_804 c32_i32_802
  let v1323 : BitVec 32 := Scalar.remsi v1320 v1322
  let c0_i32_806 : BitVec 32 := 0#32
  let v1325 : BitVec 1 := Scalar.cmpi .slt v1323 c0_i32_806
  let c0_i32_807 : BitVec 32 := 0#32
  let v1326 : BitVec 1 := Scalar.cmpi .slt v1322 c0_i32_807
  let v1327 : BitVec 1 := Scalar.xori v1325 v1326
  let c0_i32_805 : BitVec 32 := 0#32
  let v1324 : BitVec 1 := Scalar.cmpi .ne v1323 c0_i32_805
  let v1328 : BitVec 1 := Scalar.andi v1327 v1324
  let v1329 : BitVec 32 := Scalar.addi v1323 v1322
  let v1330 : BitVec 32 := Scalar.select v1328 v1329 v1323
  let c1_i32_808 : BitVec 32 := 1#32
  let v1331 : BitVec 32 := Scalar.muli v1330 c1_i32_808
  let v1332 : BitVec 32 := Scalar.addi c0_i32_809 v1331
  v1332.toNat
def k0_dev58 (d0 : Dev nD) : Nat :=
  let c0_i32_822 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_814 : BitVec 32 := 26#32
  let v1341 : BitVec 32 := Scalar.addi v2 c26_i32_814
  let c32_i32_815 : BitVec 32 := 32#32
  let c0_i32_816 : BitVec 32 := 0#32
  let v1342 : BitVec 1 := Scalar.cmpi .eq c32_i32_815 c0_i32_816
  let c1_i32_817 : BitVec 32 := 1#32
  let v1343 : BitVec 32 := Scalar.select v1342 c1_i32_817 c32_i32_815
  let v1344 : BitVec 32 := Scalar.remsi v1341 v1343
  let c0_i32_819 : BitVec 32 := 0#32
  let v1346 : BitVec 1 := Scalar.cmpi .slt v1344 c0_i32_819
  let c0_i32_820 : BitVec 32 := 0#32
  let v1347 : BitVec 1 := Scalar.cmpi .slt v1343 c0_i32_820
  let v1348 : BitVec 1 := Scalar.xori v1346 v1347
  let c0_i32_818 : BitVec 32 := 0#32
  let v1345 : BitVec 1 := Scalar.cmpi .ne v1344 c0_i32_818
  let v1349 : BitVec 1 := Scalar.andi v1348 v1345
  let v1350 : BitVec 32 := Scalar.addi v1344 v1343
  let v1351 : BitVec 32 := Scalar.select v1349 v1350 v1344
  let c1_i32_821 : BitVec 32 := 1#32
  let v1352 : BitVec 32 := Scalar.muli v1351 c1_i32_821
  let v1353 : BitVec 32 := Scalar.addi c0_i32_822 v1352
  v1353.toNat
def k0_dev59 (d0 : Dev nD) : Nat :=
  let c0_i32_835 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_827 : BitVec 32 := 27#32
  let v1362 : BitVec 32 := Scalar.addi v2 c27_i32_827
  let c32_i32_828 : BitVec 32 := 32#32
  let c0_i32_829 : BitVec 32 := 0#32
  let v1363 : BitVec 1 := Scalar.cmpi .eq c32_i32_828 c0_i32_829
  let c1_i32_830 : BitVec 32 := 1#32
  let v1364 : BitVec 32 := Scalar.select v1363 c1_i32_830 c32_i32_828
  let v1365 : BitVec 32 := Scalar.remsi v1362 v1364
  let c0_i32_832 : BitVec 32 := 0#32
  let v1367 : BitVec 1 := Scalar.cmpi .slt v1365 c0_i32_832
  let c0_i32_833 : BitVec 32 := 0#32
  let v1368 : BitVec 1 := Scalar.cmpi .slt v1364 c0_i32_833
  let v1369 : BitVec 1 := Scalar.xori v1367 v1368
  let c0_i32_831 : BitVec 32 := 0#32
  let v1366 : BitVec 1 := Scalar.cmpi .ne v1365 c0_i32_831
  let v1370 : BitVec 1 := Scalar.andi v1369 v1366
  let v1371 : BitVec 32 := Scalar.addi v1365 v1364
  let v1372 : BitVec 32 := Scalar.select v1370 v1371 v1365
  let c1_i32_834 : BitVec 32 := 1#32
  let v1373 : BitVec 32 := Scalar.muli v1372 c1_i32_834
  let v1374 : BitVec 32 := Scalar.addi c0_i32_835 v1373
  v1374.toNat
def k0_dev60 (d0 : Dev nD) : Nat :=
  let c0_i32_848 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_840 : BitVec 32 := 28#32
  let v1383 : BitVec 32 := Scalar.addi v2 c28_i32_840
  let c32_i32_841 : BitVec 32 := 32#32
  let c0_i32_842 : BitVec 32 := 0#32
  let v1384 : BitVec 1 := Scalar.cmpi .eq c32_i32_841 c0_i32_842
  let c1_i32_843 : BitVec 32 := 1#32
  let v1385 : BitVec 32 := Scalar.select v1384 c1_i32_843 c32_i32_841
  let v1386 : BitVec 32 := Scalar.remsi v1383 v1385
  let c0_i32_845 : BitVec 32 := 0#32
  let v1388 : BitVec 1 := Scalar.cmpi .slt v1386 c0_i32_845
  let c0_i32_846 : BitVec 32 := 0#32
  let v1389 : BitVec 1 := Scalar.cmpi .slt v1385 c0_i32_846
  let v1390 : BitVec 1 := Scalar.xori v1388 v1389
  let c0_i32_844 : BitVec 32 := 0#32
  let v1387 : BitVec 1 := Scalar.cmpi .ne v1386 c0_i32_844
  let v1391 : BitVec 1 := Scalar.andi v1390 v1387
  let v1392 : BitVec 32 := Scalar.addi v1386 v1385
  let v1393 : BitVec 32 := Scalar.select v1391 v1392 v1386
  let c1_i32_847 : BitVec 32 := 1#32
  let v1394 : BitVec 32 := Scalar.muli v1393 c1_i32_847
  let v1395 : BitVec 32 := Scalar.addi c0_i32_848 v1394
  v1395.toNat
def k0_dev61 (d0 : Dev nD) : Nat :=
  let c0_i32_861 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_853 : BitVec 32 := 29#32
  let v1404 : BitVec 32 := Scalar.addi v2 c29_i32_853
  let c32_i32_854 : BitVec 32 := 32#32
  let c0_i32_855 : BitVec 32 := 0#32
  let v1405 : BitVec 1 := Scalar.cmpi .eq c32_i32_854 c0_i32_855
  let c1_i32_856 : BitVec 32 := 1#32
  let v1406 : BitVec 32 := Scalar.select v1405 c1_i32_856 c32_i32_854
  let v1407 : BitVec 32 := Scalar.remsi v1404 v1406
  let c0_i32_858 : BitVec 32 := 0#32
  let v1409 : BitVec 1 := Scalar.cmpi .slt v1407 c0_i32_858
  let c0_i32_859 : BitVec 32 := 0#32
  let v1410 : BitVec 1 := Scalar.cmpi .slt v1406 c0_i32_859
  let v1411 : BitVec 1 := Scalar.xori v1409 v1410
  let c0_i32_857 : BitVec 32 := 0#32
  let v1408 : BitVec 1 := Scalar.cmpi .ne v1407 c0_i32_857
  let v1412 : BitVec 1 := Scalar.andi v1411 v1408
  let v1413 : BitVec 32 := Scalar.addi v1407 v1406
  let v1414 : BitVec 32 := Scalar.select v1412 v1413 v1407
  let c1_i32_860 : BitVec 32 := 1#32
  let v1415 : BitVec 32 := Scalar.muli v1414 c1_i32_860
  let v1416 : BitVec 32 := Scalar.addi c0_i32_861 v1415
  v1416.toNat
def k0_dev62 (d0 : Dev nD) : Nat :=
  let c0_i32_874 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_866 : BitVec 32 := 30#32
  let v1425 : BitVec 32 := Scalar.addi v2 c30_i32_866
  let c32_i32_867 : BitVec 32 := 32#32
  let c0_i32_868 : BitVec 32 := 0#32
  let v1426 : BitVec 1 := Scalar.cmpi .eq c32_i32_867 c0_i32_868
  let c1_i32_869 : BitVec 32 := 1#32
  let v1427 : BitVec 32 := Scalar.select v1426 c1_i32_869 c32_i32_867
  let v1428 : BitVec 32 := Scalar.remsi v1425 v1427
  let c0_i32_871 : BitVec 32 := 0#32
  let v1430 : BitVec 1 := Scalar.cmpi .slt v1428 c0_i32_871
  let c0_i32_872 : BitVec 32 := 0#32
  let v1431 : BitVec 1 := Scalar.cmpi .slt v1427 c0_i32_872
  let v1432 : BitVec 1 := Scalar.xori v1430 v1431
  let c0_i32_870 : BitVec 32 := 0#32
  let v1429 : BitVec 1 := Scalar.cmpi .ne v1428 c0_i32_870
  let v1433 : BitVec 1 := Scalar.andi v1432 v1429
  let v1434 : BitVec 32 := Scalar.addi v1428 v1427
  let v1435 : BitVec 32 := Scalar.select v1433 v1434 v1428
  let c1_i32_873 : BitVec 32 := 1#32
  let v1436 : BitVec 32 := Scalar.muli v1435 c1_i32_873
  let v1437 : BitVec 32 := Scalar.addi c0_i32_874 v1436
  v1437.toNat
def k0_dev63 (d0 : Dev nD) : Nat :=
  let c0_i32_887 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_879 : BitVec 32 := 31#32
  let v1446 : BitVec 32 := Scalar.addi v2 c31_i32_879
  let c32_i32_880 : BitVec 32 := 32#32
  let c0_i32_881 : BitVec 32 := 0#32
  let v1447 : BitVec 1 := Scalar.cmpi .eq c32_i32_880 c0_i32_881
  let c1_i32_882 : BitVec 32 := 1#32
  let v1448 : BitVec 32 := Scalar.select v1447 c1_i32_882 c32_i32_880
  let v1449 : BitVec 32 := Scalar.remsi v1446 v1448
  let c0_i32_884 : BitVec 32 := 0#32
  let v1451 : BitVec 1 := Scalar.cmpi .slt v1449 c0_i32_884
  let c0_i32_885 : BitVec 32 := 0#32
  let v1452 : BitVec 1 := Scalar.cmpi .slt v1448 c0_i32_885
  let v1453 : BitVec 1 := Scalar.xori v1451 v1452
  let c0_i32_883 : BitVec 32 := 0#32
  let v1450 : BitVec 1 := Scalar.cmpi .ne v1449 c0_i32_883
  let v1454 : BitVec 1 := Scalar.andi v1453 v1450
  let v1455 : BitVec 32 := Scalar.addi v1449 v1448
  let v1456 : BitVec 32 := Scalar.select v1454 v1455 v1449
  let c1_i32_886 : BitVec 32 := 1#32
  let v1457 : BitVec 32 := Scalar.muli v1456 c1_i32_886
  let v1458 : BitVec 32 := Scalar.addi c0_i32_887 v1457
  v1458.toNat
def k0_cond65 (d0 : Dev nD) : BitVec 1 :=
  let c0_i32_1199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let v1729 : BitVec 32 := Scalar.addi v2 c0_i32_1192
  let c16_i32_1193 : BitVec 32 := 16#32
  let c0_i32_1194 : BitVec 32 := 0#32
  let v1730 : BitVec 1 := Scalar.cmpi .eq c16_i32_1193 c0_i32_1194
  let c1_i32_1195 : BitVec 32 := 1#32
  let v1731 : BitVec 32 := Scalar.select v1730 c1_i32_1195 c16_i32_1193
  let v1732 : BitVec 32 := Scalar.remsi v1729 v1731
  let c0_i32_1197 : BitVec 32 := 0#32
  let v1734 : BitVec 1 := Scalar.cmpi .slt v1732 c0_i32_1197
  let c0_i32_1198 : BitVec 32 := 0#32
  let v1735 : BitVec 1 := Scalar.cmpi .slt v1731 c0_i32_1198
  let v1736 : BitVec 1 := Scalar.xori v1734 v1735
  let c0_i32_1196 : BitVec 32 := 0#32
  let v1733 : BitVec 1 := Scalar.cmpi .ne v1732 c0_i32_1196
  let v1737 : BitVec 1 := Scalar.andi v1736 v1733
  let v1738 : BitVec 32 := Scalar.addi v1732 v1731
  let v1739 : BitVec 32 := Scalar.select v1737 v1738 v1732
  let v1740 : BitVec 32 := Scalar.addi c0_i32_1199 v1739
  let v1741 : BitVec 1 := Scalar.cmpi .ne v1740 v2
  let v1742 : BitVec 32 := Scalar.extui v1741
  let c0_i32_1200 : BitVec 32 := 0#32
  let v1743 : BitVec 1 := Scalar.cmpi .ne v1742 c0_i32_1200
  v1743

def k0_off8 (d0 : Dev nD) : Fin 1 → Nat :=
  let c0_i32_1199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let v1729 : BitVec 32 := Scalar.addi v2 c0_i32_1192
  let c16_i32_1193 : BitVec 32 := 16#32
  let c0_i32_1194 : BitVec 32 := 0#32
  let v1730 : BitVec 1 := Scalar.cmpi .eq c16_i32_1193 c0_i32_1194
  let c1_i32_1195 : BitVec 32 := 1#32
  let v1731 : BitVec 32 := Scalar.select v1730 c1_i32_1195 c16_i32_1193
  let v1732 : BitVec 32 := Scalar.remsi v1729 v1731
  let c0_i32_1197 : BitVec 32 := 0#32
  let v1734 : BitVec 1 := Scalar.cmpi .slt v1732 c0_i32_1197
  let c0_i32_1198 : BitVec 32 := 0#32
  let v1735 : BitVec 1 := Scalar.cmpi .slt v1731 c0_i32_1198
  let v1736 : BitVec 1 := Scalar.xori v1734 v1735
  let c0_i32_1196 : BitVec 32 := 0#32
  let v1733 : BitVec 1 := Scalar.cmpi .ne v1732 c0_i32_1196
  let v1737 : BitVec 1 := Scalar.andi v1736 v1733
  let v1738 : BitVec 32 := Scalar.addi v1732 v1731
  let v1739 : BitVec 32 := Scalar.select v1737 v1738 v1732
  let v1740 : BitVec 32 := Scalar.addi c0_i32_1199 v1739
  ![v1740.toNat]
def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off11 (d0 : Dev nD) : Fin 3 → Nat :=
  let c0_i32_1199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let v1729 : BitVec 32 := Scalar.addi v2 c0_i32_1192
  let c16_i32_1193 : BitVec 32 := 16#32
  let c0_i32_1194 : BitVec 32 := 0#32
  let v1730 : BitVec 1 := Scalar.cmpi .eq c16_i32_1193 c0_i32_1194
  let c1_i32_1195 : BitVec 32 := 1#32
  let v1731 : BitVec 32 := Scalar.select v1730 c1_i32_1195 c16_i32_1193
  let v1732 : BitVec 32 := Scalar.remsi v1729 v1731
  let c0_i32_1197 : BitVec 32 := 0#32
  let v1734 : BitVec 1 := Scalar.cmpi .slt v1732 c0_i32_1197
  let c0_i32_1198 : BitVec 32 := 0#32
  let v1735 : BitVec 1 := Scalar.cmpi .slt v1731 c0_i32_1198
  let v1736 : BitVec 1 := Scalar.xori v1734 v1735
  let c0_i32_1196 : BitVec 32 := 0#32
  let v1733 : BitVec 1 := Scalar.cmpi .ne v1732 c0_i32_1196
  let v1737 : BitVec 1 := Scalar.andi v1736 v1733
  let v1738 : BitVec 32 := Scalar.addi v1732 v1731
  let v1739 : BitVec 32 := Scalar.select v1737 v1738 v1732
  let v1740 : BitVec 32 := Scalar.addi c0_i32_1199 v1739
  let c0_i32_2486 : BitVec 32 := 0#32
  let c0_i32_2487 : BitVec 32 := 0#32
  ![v1740.toNat, 0, 0]
def k0_dev64 (d0 : Dev nD) : Nat :=
  let c0_i32_2483 : BitVec 32 := 0#32
  let c0_i32_1199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let v1729 : BitVec 32 := Scalar.addi v2 c0_i32_1192
  let c16_i32_1193 : BitVec 32 := 16#32
  let c0_i32_1194 : BitVec 32 := 0#32
  let v1730 : BitVec 1 := Scalar.cmpi .eq c16_i32_1193 c0_i32_1194
  let c1_i32_1195 : BitVec 32 := 1#32
  let v1731 : BitVec 32 := Scalar.select v1730 c1_i32_1195 c16_i32_1193
  let v1732 : BitVec 32 := Scalar.remsi v1729 v1731
  let c0_i32_1197 : BitVec 32 := 0#32
  let v1734 : BitVec 1 := Scalar.cmpi .slt v1732 c0_i32_1197
  let c0_i32_1198 : BitVec 32 := 0#32
  let v1735 : BitVec 1 := Scalar.cmpi .slt v1731 c0_i32_1198
  let v1736 : BitVec 1 := Scalar.xori v1734 v1735
  let c0_i32_1196 : BitVec 32 := 0#32
  let v1733 : BitVec 1 := Scalar.cmpi .ne v1732 c0_i32_1196
  let v1737 : BitVec 1 := Scalar.andi v1736 v1733
  let v1738 : BitVec 32 := Scalar.addi v1732 v1731
  let v1739 : BitVec 32 := Scalar.select v1737 v1738 v1732
  let v1740 : BitVec 32 := Scalar.addi c0_i32_1199 v1739
  let c1_i32_2482 : BitVec 32 := 1#32
  let v3523 : BitVec 32 := Scalar.muli v1740 c1_i32_2482
  let v3524 : BitVec 32 := Scalar.addi c0_i32_2483 v3523
  v3524.toNat
def k0_cond66 (d0 : Dev nD) : BitVec 1 :=
  let c0_i32_1208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1201 : BitVec 32 := 1#32
  let v1744 : BitVec 32 := Scalar.addi v2 c1_i32_1201
  let c16_i32_1202 : BitVec 32 := 16#32
  let c0_i32_1203 : BitVec 32 := 0#32
  let v1745 : BitVec 1 := Scalar.cmpi .eq c16_i32_1202 c0_i32_1203
  let c1_i32_1204 : BitVec 32 := 1#32
  let v1746 : BitVec 32 := Scalar.select v1745 c1_i32_1204 c16_i32_1202
  let v1747 : BitVec 32 := Scalar.remsi v1744 v1746
  let c0_i32_1206 : BitVec 32 := 0#32
  let v1749 : BitVec 1 := Scalar.cmpi .slt v1747 c0_i32_1206
  let c0_i32_1207 : BitVec 32 := 0#32
  let v1750 : BitVec 1 := Scalar.cmpi .slt v1746 c0_i32_1207
  let v1751 : BitVec 1 := Scalar.xori v1749 v1750
  let c0_i32_1205 : BitVec 32 := 0#32
  let v1748 : BitVec 1 := Scalar.cmpi .ne v1747 c0_i32_1205
  let v1752 : BitVec 1 := Scalar.andi v1751 v1748
  let v1753 : BitVec 32 := Scalar.addi v1747 v1746
  let v1754 : BitVec 32 := Scalar.select v1752 v1753 v1747
  let v1755 : BitVec 32 := Scalar.addi c0_i32_1208 v1754
  let v1756 : BitVec 1 := Scalar.cmpi .ne v1755 v2
  let v1757 : BitVec 32 := Scalar.extui v1756
  let c0_i32_1209 : BitVec 32 := 0#32
  let v1758 : BitVec 1 := Scalar.cmpi .ne v1757 c0_i32_1209
  v1758

def k0_off12 (d0 : Dev nD) : Fin 1 → Nat :=
  let c0_i32_1208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1201 : BitVec 32 := 1#32
  let v1744 : BitVec 32 := Scalar.addi v2 c1_i32_1201
  let c16_i32_1202 : BitVec 32 := 16#32
  let c0_i32_1203 : BitVec 32 := 0#32
  let v1745 : BitVec 1 := Scalar.cmpi .eq c16_i32_1202 c0_i32_1203
  let c1_i32_1204 : BitVec 32 := 1#32
  let v1746 : BitVec 32 := Scalar.select v1745 c1_i32_1204 c16_i32_1202
  let v1747 : BitVec 32 := Scalar.remsi v1744 v1746
  let c0_i32_1206 : BitVec 32 := 0#32
  let v1749 : BitVec 1 := Scalar.cmpi .slt v1747 c0_i32_1206
  let c0_i32_1207 : BitVec 32 := 0#32
  let v1750 : BitVec 1 := Scalar.cmpi .slt v1746 c0_i32_1207
  let v1751 : BitVec 1 := Scalar.xori v1749 v1750
  let c0_i32_1205 : BitVec 32 := 0#32
  let v1748 : BitVec 1 := Scalar.cmpi .ne v1747 c0_i32_1205
  let v1752 : BitVec 1 := Scalar.andi v1751 v1748
  let v1753 : BitVec 32 := Scalar.addi v1747 v1746
  let v1754 : BitVec 32 := Scalar.select v1752 v1753 v1747
  let v1755 : BitVec 32 := Scalar.addi c0_i32_1208 v1754
  ![v1755.toNat]
def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off15 (d0 : Dev nD) : Fin 3 → Nat :=
  let c0_i32_1208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1201 : BitVec 32 := 1#32
  let v1744 : BitVec 32 := Scalar.addi v2 c1_i32_1201
  let c16_i32_1202 : BitVec 32 := 16#32
  let c0_i32_1203 : BitVec 32 := 0#32
  let v1745 : BitVec 1 := Scalar.cmpi .eq c16_i32_1202 c0_i32_1203
  let c1_i32_1204 : BitVec 32 := 1#32
  let v1746 : BitVec 32 := Scalar.select v1745 c1_i32_1204 c16_i32_1202
  let v1747 : BitVec 32 := Scalar.remsi v1744 v1746
  let c0_i32_1206 : BitVec 32 := 0#32
  let v1749 : BitVec 1 := Scalar.cmpi .slt v1747 c0_i32_1206
  let c0_i32_1207 : BitVec 32 := 0#32
  let v1750 : BitVec 1 := Scalar.cmpi .slt v1746 c0_i32_1207
  let v1751 : BitVec 1 := Scalar.xori v1749 v1750
  let c0_i32_1205 : BitVec 32 := 0#32
  let v1748 : BitVec 1 := Scalar.cmpi .ne v1747 c0_i32_1205
  let v1752 : BitVec 1 := Scalar.andi v1751 v1748
  let v1753 : BitVec 32 := Scalar.addi v1747 v1746
  let v1754 : BitVec 32 := Scalar.select v1752 v1753 v1747
  let v1755 : BitVec 32 := Scalar.addi c0_i32_1208 v1754
  let c0_i32_2486 : BitVec 32 := 0#32
  let c0_i32_2487 : BitVec 32 := 0#32
  ![v1755.toNat, 0, 0]
def k0_dev65 (d0 : Dev nD) : Nat :=
  let c0_i32_2483 : BitVec 32 := 0#32
  let c0_i32_1208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1201 : BitVec 32 := 1#32
  let v1744 : BitVec 32 := Scalar.addi v2 c1_i32_1201
  let c16_i32_1202 : BitVec 32 := 16#32
  let c0_i32_1203 : BitVec 32 := 0#32
  let v1745 : BitVec 1 := Scalar.cmpi .eq c16_i32_1202 c0_i32_1203
  let c1_i32_1204 : BitVec 32 := 1#32
  let v1746 : BitVec 32 := Scalar.select v1745 c1_i32_1204 c16_i32_1202
  let v1747 : BitVec 32 := Scalar.remsi v1744 v1746
  let c0_i32_1206 : BitVec 32 := 0#32
  let v1749 : BitVec 1 := Scalar.cmpi .slt v1747 c0_i32_1206
  let c0_i32_1207 : BitVec 32 := 0#32
  let v1750 : BitVec 1 := Scalar.cmpi .slt v1746 c0_i32_1207
  let v1751 : BitVec 1 := Scalar.xori v1749 v1750
  let c0_i32_1205 : BitVec 32 := 0#32
  let v1748 : BitVec 1 := Scalar.cmpi .ne v1747 c0_i32_1205
  let v1752 : BitVec 1 := Scalar.andi v1751 v1748
  let v1753 : BitVec 32 := Scalar.addi v1747 v1746
  let v1754 : BitVec 32 := Scalar.select v1752 v1753 v1747
  let v1755 : BitVec 32 := Scalar.addi c0_i32_1208 v1754
  let c1_i32_2482 : BitVec 32 := 1#32
  let v3523 : BitVec 32 := Scalar.muli v1755 c1_i32_2482
  let v3524 : BitVec 32 := Scalar.addi c0_i32_2483 v3523
  v3524.toNat
def k0_cond67 (d0 : Dev nD) : BitVec 1 :=
  let c0_i32_1217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1210 : BitVec 32 := 2#32
  let v1759 : BitVec 32 := Scalar.addi v2 c2_i32_1210
  let c16_i32_1211 : BitVec 32 := 16#32
  let c0_i32_1212 : BitVec 32 := 0#32
  let v1760 : BitVec 1 := Scalar.cmpi .eq c16_i32_1211 c0_i32_1212
  let c1_i32_1213 : BitVec 32 := 1#32
  let v1761 : BitVec 32 := Scalar.select v1760 c1_i32_1213 c16_i32_1211
  let v1762 : BitVec 32 := Scalar.remsi v1759 v1761
  let c0_i32_1215 : BitVec 32 := 0#32
  let v1764 : BitVec 1 := Scalar.cmpi .slt v1762 c0_i32_1215
  let c0_i32_1216 : BitVec 32 := 0#32
  let v1765 : BitVec 1 := Scalar.cmpi .slt v1761 c0_i32_1216
  let v1766 : BitVec 1 := Scalar.xori v1764 v1765
  let c0_i32_1214 : BitVec 32 := 0#32
  let v1763 : BitVec 1 := Scalar.cmpi .ne v1762 c0_i32_1214
  let v1767 : BitVec 1 := Scalar.andi v1766 v1763
  let v1768 : BitVec 32 := Scalar.addi v1762 v1761
  let v1769 : BitVec 32 := Scalar.select v1767 v1768 v1762
  let v1770 : BitVec 32 := Scalar.addi c0_i32_1217 v1769
  let v1771 : BitVec 1 := Scalar.cmpi .ne v1770 v2
  let v1772 : BitVec 32 := Scalar.extui v1771
  let c0_i32_1218 : BitVec 32 := 0#32
  let v1773 : BitVec 1 := Scalar.cmpi .ne v1772 c0_i32_1218
  v1773

def k0_off16 (d0 : Dev nD) : Fin 1 → Nat :=
  let c0_i32_1217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1210 : BitVec 32 := 2#32
  let v1759 : BitVec 32 := Scalar.addi v2 c2_i32_1210
  let c16_i32_1211 : BitVec 32 := 16#32
  let c0_i32_1212 : BitVec 32 := 0#32
  let v1760 : BitVec 1 := Scalar.cmpi .eq c16_i32_1211 c0_i32_1212
  let c1_i32_1213 : BitVec 32 := 1#32
  let v1761 : BitVec 32 := Scalar.select v1760 c1_i32_1213 c16_i32_1211
  let v1762 : BitVec 32 := Scalar.remsi v1759 v1761
  let c0_i32_1215 : BitVec 32 := 0#32
  let v1764 : BitVec 1 := Scalar.cmpi .slt v1762 c0_i32_1215
  let c0_i32_1216 : BitVec 32 := 0#32
  let v1765 : BitVec 1 := Scalar.cmpi .slt v1761 c0_i32_1216
  let v1766 : BitVec 1 := Scalar.xori v1764 v1765
  let c0_i32_1214 : BitVec 32 := 0#32
  let v1763 : BitVec 1 := Scalar.cmpi .ne v1762 c0_i32_1214
  let v1767 : BitVec 1 := Scalar.andi v1766 v1763
  let v1768 : BitVec 32 := Scalar.addi v1762 v1761
  let v1769 : BitVec 32 := Scalar.select v1767 v1768 v1762
  let v1770 : BitVec 32 := Scalar.addi c0_i32_1217 v1769
  ![v1770.toNat]
def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off19 (d0 : Dev nD) : Fin 3 → Nat :=
  let c0_i32_1217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1210 : BitVec 32 := 2#32
  let v1759 : BitVec 32 := Scalar.addi v2 c2_i32_1210
  let c16_i32_1211 : BitVec 32 := 16#32
  let c0_i32_1212 : BitVec 32 := 0#32
  let v1760 : BitVec 1 := Scalar.cmpi .eq c16_i32_1211 c0_i32_1212
  let c1_i32_1213 : BitVec 32 := 1#32
  let v1761 : BitVec 32 := Scalar.select v1760 c1_i32_1213 c16_i32_1211
  let v1762 : BitVec 32 := Scalar.remsi v1759 v1761
  let c0_i32_1215 : BitVec 32 := 0#32
  let v1764 : BitVec 1 := Scalar.cmpi .slt v1762 c0_i32_1215
  let c0_i32_1216 : BitVec 32 := 0#32
  let v1765 : BitVec 1 := Scalar.cmpi .slt v1761 c0_i32_1216
  let v1766 : BitVec 1 := Scalar.xori v1764 v1765
  let c0_i32_1214 : BitVec 32 := 0#32
  let v1763 : BitVec 1 := Scalar.cmpi .ne v1762 c0_i32_1214
  let v1767 : BitVec 1 := Scalar.andi v1766 v1763
  let v1768 : BitVec 32 := Scalar.addi v1762 v1761
  let v1769 : BitVec 32 := Scalar.select v1767 v1768 v1762
  let v1770 : BitVec 32 := Scalar.addi c0_i32_1217 v1769
  let c0_i32_2486 : BitVec 32 := 0#32
  let c0_i32_2487 : BitVec 32 := 0#32
  ![v1770.toNat, 0, 0]
def k0_dev66 (d0 : Dev nD) : Nat :=
  let c0_i32_2483 : BitVec 32 := 0#32
  let c0_i32_1217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1210 : BitVec 32 := 2#32
  let v1759 : BitVec 32 := Scalar.addi v2 c2_i32_1210
  let c16_i32_1211 : BitVec 32 := 16#32
  let c0_i32_1212 : BitVec 32 := 0#32
  let v1760 : BitVec 1 := Scalar.cmpi .eq c16_i32_1211 c0_i32_1212
  let c1_i32_1213 : BitVec 32 := 1#32
  let v1761 : BitVec 32 := Scalar.select v1760 c1_i32_1213 c16_i32_1211
  let v1762 : BitVec 32 := Scalar.remsi v1759 v1761
  let c0_i32_1215 : BitVec 32 := 0#32
  let v1764 : BitVec 1 := Scalar.cmpi .slt v1762 c0_i32_1215
  let c0_i32_1216 : BitVec 32 := 0#32
  let v1765 : BitVec 1 := Scalar.cmpi .slt v1761 c0_i32_1216
  let v1766 : BitVec 1 := Scalar.xori v1764 v1765
  let c0_i32_1214 : BitVec 32 := 0#32
  let v1763 : BitVec 1 := Scalar.cmpi .ne v1762 c0_i32_1214
  let v1767 : BitVec 1 := Scalar.andi v1766 v1763
  let v1768 : BitVec 32 := Scalar.addi v1762 v1761
  let v1769 : BitVec 32 := Scalar.select v1767 v1768 v1762
  let v1770 : BitVec 32 := Scalar.addi c0_i32_1217 v1769
  let c1_i32_2482 : BitVec 32 := 1#32
  let v3523 : BitVec 32 := Scalar.muli v1770 c1_i32_2482
  let v3524 : BitVec 32 := Scalar.addi c0_i32_2483 v3523
  v3524.toNat
def k0_cond68 (d0 : Dev nD) : BitVec 1 :=
  let c0_i32_1226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1219 : BitVec 32 := 3#32
  let v1774 : BitVec 32 := Scalar.addi v2 c3_i32_1219
  let c16_i32_1220 : BitVec 32 := 16#32
  let c0_i32_1221 : BitVec 32 := 0#32
  let v1775 : BitVec 1 := Scalar.cmpi .eq c16_i32_1220 c0_i32_1221
  let c1_i32_1222 : BitVec 32 := 1#32
  let v1776 : BitVec 32 := Scalar.select v1775 c1_i32_1222 c16_i32_1220
  let v1777 : BitVec 32 := Scalar.remsi v1774 v1776
  let c0_i32_1224 : BitVec 32 := 0#32
  let v1779 : BitVec 1 := Scalar.cmpi .slt v1777 c0_i32_1224
  let c0_i32_1225 : BitVec 32 := 0#32
  let v1780 : BitVec 1 := Scalar.cmpi .slt v1776 c0_i32_1225
  let v1781 : BitVec 1 := Scalar.xori v1779 v1780
  let c0_i32_1223 : BitVec 32 := 0#32
  let v1778 : BitVec 1 := Scalar.cmpi .ne v1777 c0_i32_1223
  let v1782 : BitVec 1 := Scalar.andi v1781 v1778
  let v1783 : BitVec 32 := Scalar.addi v1777 v1776
  let v1784 : BitVec 32 := Scalar.select v1782 v1783 v1777
  let v1785 : BitVec 32 := Scalar.addi c0_i32_1226 v1784
  let v1786 : BitVec 1 := Scalar.cmpi .ne v1785 v2
  let v1787 : BitVec 32 := Scalar.extui v1786
  let c0_i32_1227 : BitVec 32 := 0#32
  let v1788 : BitVec 1 := Scalar.cmpi .ne v1787 c0_i32_1227
  v1788

def k0_off20 (d0 : Dev nD) : Fin 1 → Nat :=
  let c0_i32_1226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1219 : BitVec 32 := 3#32
  let v1774 : BitVec 32 := Scalar.addi v2 c3_i32_1219
  let c16_i32_1220 : BitVec 32 := 16#32
  let c0_i32_1221 : BitVec 32 := 0#32
  let v1775 : BitVec 1 := Scalar.cmpi .eq c16_i32_1220 c0_i32_1221
  let c1_i32_1222 : BitVec 32 := 1#32
  let v1776 : BitVec 32 := Scalar.select v1775 c1_i32_1222 c16_i32_1220
  let v1777 : BitVec 32 := Scalar.remsi v1774 v1776
  let c0_i32_1224 : BitVec 32 := 0#32
  let v1779 : BitVec 1 := Scalar.cmpi .slt v1777 c0_i32_1224
  let c0_i32_1225 : BitVec 32 := 0#32
  let v1780 : BitVec 1 := Scalar.cmpi .slt v1776 c0_i32_1225
  let v1781 : BitVec 1 := Scalar.xori v1779 v1780
  let c0_i32_1223 : BitVec 32 := 0#32
  let v1778 : BitVec 1 := Scalar.cmpi .ne v1777 c0_i32_1223
  let v1782 : BitVec 1 := Scalar.andi v1781 v1778
  let v1783 : BitVec 32 := Scalar.addi v1777 v1776
  let v1784 : BitVec 32 := Scalar.select v1782 v1783 v1777
  let v1785 : BitVec 32 := Scalar.addi c0_i32_1226 v1784
  ![v1785.toNat]
def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off23 (d0 : Dev nD) : Fin 3 → Nat :=
  let c0_i32_1226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1219 : BitVec 32 := 3#32
  let v1774 : BitVec 32 := Scalar.addi v2 c3_i32_1219
  let c16_i32_1220 : BitVec 32 := 16#32
  let c0_i32_1221 : BitVec 32 := 0#32
  let v1775 : BitVec 1 := Scalar.cmpi .eq c16_i32_1220 c0_i32_1221
  let c1_i32_1222 : BitVec 32 := 1#32
  let v1776 : BitVec 32 := Scalar.select v1775 c1_i32_1222 c16_i32_1220
  let v1777 : BitVec 32 := Scalar.remsi v1774 v1776
  let c0_i32_1224 : BitVec 32 := 0#32
  let v1779 : BitVec 1 := Scalar.cmpi .slt v1777 c0_i32_1224
  let c0_i32_1225 : BitVec 32 := 0#32
  let v1780 : BitVec 1 := Scalar.cmpi .slt v1776 c0_i32_1225
  let v1781 : BitVec 1 := Scalar.xori v1779 v1780
  let c0_i32_1223 : BitVec 32 := 0#32
  let v1778 : BitVec 1 := Scalar.cmpi .ne v1777 c0_i32_1223
  let v1782 : BitVec 1 := Scalar.andi v1781 v1778
  let v1783 : BitVec 32 := Scalar.addi v1777 v1776
  let v1784 : BitVec 32 := Scalar.select v1782 v1783 v1777
  let v1785 : BitVec 32 := Scalar.addi c0_i32_1226 v1784
  let c0_i32_2486 : BitVec 32 := 0#32
  let c0_i32_2487 : BitVec 32 := 0#32
  ![v1785.toNat, 0, 0]
def k0_dev67 (d0 : Dev nD) : Nat :=
  let c0_i32_2483 : BitVec 32 := 0#32
  let c0_i32_1226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1219 : BitVec 32 := 3#32
  let v1774 : BitVec 32 := Scalar.addi v2 c3_i32_1219
  let c16_i32_1220 : BitVec 32 := 16#32
  let c0_i32_1221 : BitVec 32 := 0#32
  let v1775 : BitVec 1 := Scalar.cmpi .eq c16_i32_1220 c0_i32_1221
  let c1_i32_1222 : BitVec 32 := 1#32
  let v1776 : BitVec 32 := Scalar.select v1775 c1_i32_1222 c16_i32_1220
  let v1777 : BitVec 32 := Scalar.remsi v1774 v1776
  let c0_i32_1224 : BitVec 32 := 0#32
  let v1779 : BitVec 1 := Scalar.cmpi .slt v1777 c0_i32_1224
  let c0_i32_1225 : BitVec 32 := 0#32
  let v1780 : BitVec 1 := Scalar.cmpi .slt v1776 c0_i32_1225
  let v1781 : BitVec 1 := Scalar.xori v1779 v1780
  let c0_i32_1223 : BitVec 32 := 0#32
  let v1778 : BitVec 1 := Scalar.cmpi .ne v1777 c0_i32_1223
  let v1782 : BitVec 1 := Scalar.andi v1781 v1778
  let v1783 : BitVec 32 := Scalar.addi v1777 v1776
  let v1784 : BitVec 32 := Scalar.select v1782 v1783 v1777
  let v1785 : BitVec 32 := Scalar.addi c0_i32_1226 v1784
  let c1_i32_2482 : BitVec 32 := 1#32
  let v3523 : BitVec 32 := Scalar.muli v1785 c1_i32_2482
  let v3524 : BitVec 32 := Scalar.addi c0_i32_2483 v3523
  v3524.toNat
def k0_cond69 (d0 : Dev nD) : BitVec 1 :=
  let c0_i32_1235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1228 : BitVec 32 := 4#32
  let v1789 : BitVec 32 := Scalar.addi v2 c4_i32_1228
  let c16_i32_1229 : BitVec 32 := 16#32
  let c0_i32_1230 : BitVec 32 := 0#32
  let v1790 : BitVec 1 := Scalar.cmpi .eq c16_i32_1229 c0_i32_1230
  let c1_i32_1231 : BitVec 32 := 1#32
  let v1791 : BitVec 32 := Scalar.select v1790 c1_i32_1231 c16_i32_1229
  let v1792 : BitVec 32 := Scalar.remsi v1789 v1791
  let c0_i32_1233 : BitVec 32 := 0#32
  let v1794 : BitVec 1 := Scalar.cmpi .slt v1792 c0_i32_1233
  let c0_i32_1234 : BitVec 32 := 0#32
  let v1795 : BitVec 1 := Scalar.cmpi .slt v1791 c0_i32_1234
  let v1796 : BitVec 1 := Scalar.xori v1794 v1795
  let c0_i32_1232 : BitVec 32 := 0#32
  let v1793 : BitVec 1 := Scalar.cmpi .ne v1792 c0_i32_1232
  let v1797 : BitVec 1 := Scalar.andi v1796 v1793
  let v1798 : BitVec 32 := Scalar.addi v1792 v1791
  let v1799 : BitVec 32 := Scalar.select v1797 v1798 v1792
  let v1800 : BitVec 32 := Scalar.addi c0_i32_1235 v1799
  let v1801 : BitVec 1 := Scalar.cmpi .ne v1800 v2
  let v1802 : BitVec 32 := Scalar.extui v1801
  let c0_i32_1236 : BitVec 32 := 0#32
  let v1803 : BitVec 1 := Scalar.cmpi .ne v1802 c0_i32_1236
  v1803

def k0_off24 (d0 : Dev nD) : Fin 1 → Nat :=
  let c0_i32_1235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1228 : BitVec 32 := 4#32
  let v1789 : BitVec 32 := Scalar.addi v2 c4_i32_1228
  let c16_i32_1229 : BitVec 32 := 16#32
  let c0_i32_1230 : BitVec 32 := 0#32
  let v1790 : BitVec 1 := Scalar.cmpi .eq c16_i32_1229 c0_i32_1230
  let c1_i32_1231 : BitVec 32 := 1#32
  let v1791 : BitVec 32 := Scalar.select v1790 c1_i32_1231 c16_i32_1229
  let v1792 : BitVec 32 := Scalar.remsi v1789 v1791
  let c0_i32_1233 : BitVec 32 := 0#32
  let v1794 : BitVec 1 := Scalar.cmpi .slt v1792 c0_i32_1233
  let c0_i32_1234 : BitVec 32 := 0#32
  let v1795 : BitVec 1 := Scalar.cmpi .slt v1791 c0_i32_1234
  let v1796 : BitVec 1 := Scalar.xori v1794 v1795
  let c0_i32_1232 : BitVec 32 := 0#32
  let v1793 : BitVec 1 := Scalar.cmpi .ne v1792 c0_i32_1232
  let v1797 : BitVec 1 := Scalar.andi v1796 v1793
  let v1798 : BitVec 32 := Scalar.addi v1792 v1791
  let v1799 : BitVec 32 := Scalar.select v1797 v1798 v1792
  let v1800 : BitVec 32 := Scalar.addi c0_i32_1235 v1799
  ![v1800.toNat]
def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off27 (d0 : Dev nD) : Fin 3 → Nat :=
  let c0_i32_1235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1228 : BitVec 32 := 4#32
  let v1789 : BitVec 32 := Scalar.addi v2 c4_i32_1228
  let c16_i32_1229 : BitVec 32 := 16#32
  let c0_i32_1230 : BitVec 32 := 0#32
  let v1790 : BitVec 1 := Scalar.cmpi .eq c16_i32_1229 c0_i32_1230
  let c1_i32_1231 : BitVec 32 := 1#32
  let v1791 : BitVec 32 := Scalar.select v1790 c1_i32_1231 c16_i32_1229
  let v1792 : BitVec 32 := Scalar.remsi v1789 v1791
  let c0_i32_1233 : BitVec 32 := 0#32
  let v1794 : BitVec 1 := Scalar.cmpi .slt v1792 c0_i32_1233
  let c0_i32_1234 : BitVec 32 := 0#32
  let v1795 : BitVec 1 := Scalar.cmpi .slt v1791 c0_i32_1234
  let v1796 : BitVec 1 := Scalar.xori v1794 v1795
  let c0_i32_1232 : BitVec 32 := 0#32
  let v1793 : BitVec 1 := Scalar.cmpi .ne v1792 c0_i32_1232
  let v1797 : BitVec 1 := Scalar.andi v1796 v1793
  let v1798 : BitVec 32 := Scalar.addi v1792 v1791
  let v1799 : BitVec 32 := Scalar.select v1797 v1798 v1792
  let v1800 : BitVec 32 := Scalar.addi c0_i32_1235 v1799
  let c0_i32_2486 : BitVec 32 := 0#32
  let c0_i32_2487 : BitVec 32 := 0#32
  ![v1800.toNat, 0, 0]
def k0_dev68 (d0 : Dev nD) : Nat :=
  let c0_i32_2483 : BitVec 32 := 0#32
  let c0_i32_1235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1228 : BitVec 32 := 4#32
  let v1789 : BitVec 32 := Scalar.addi v2 c4_i32_1228
  let c16_i32_1229 : BitVec 32 := 16#32
  let c0_i32_1230 : BitVec 32 := 0#32
  let v1790 : BitVec 1 := Scalar.cmpi .eq c16_i32_1229 c0_i32_1230
  let c1_i32_1231 : BitVec 32 := 1#32
  let v1791 : BitVec 32 := Scalar.select v1790 c1_i32_1231 c16_i32_1229
  let v1792 : BitVec 32 := Scalar.remsi v1789 v1791
  let c0_i32_1233 : BitVec 32 := 0#32
  let v1794 : BitVec 1 := Scalar.cmpi .slt v1792 c0_i32_1233
  let c0_i32_1234 : BitVec 32 := 0#32
  let v1795 : BitVec 1 := Scalar.cmpi .slt v1791 c0_i32_1234
  let v1796 : BitVec 1 := Scalar.xori v1794 v1795
  let c0_i32_1232 : BitVec 32 := 0#32
  let v1793 : BitVec 1 := Scalar.cmpi .ne v1792 c0_i32_1232
  let v1797 : BitVec 1 := Scalar.andi v1796 v1793
  let v1798 : BitVec 32 := Scalar.addi v1792 v1791
  let v1799 : BitVec 32 := Scalar.select v1797 v1798 v1792
  let v1800 : BitVec 32 := Scalar.addi c0_i32_1235 v1799
  let c1_i32_2482 : BitVec 32 := 1#32
  let v3523 : BitVec 32 := Scalar.muli v1800 c1_i32_2482
  let v3524 : BitVec 32 := Scalar.addi c0_i32_2483 v3523
  v3524.toNat
def k0_cond70 (d0 : Dev nD) : BitVec 1 :=
  let c0_i32_1244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1237 : BitVec 32 := 5#32
  let v1804 : BitVec 32 := Scalar.addi v2 c5_i32_1237
  let c16_i32_1238 : BitVec 32 := 16#32
  let c0_i32_1239 : BitVec 32 := 0#32
  let v1805 : BitVec 1 := Scalar.cmpi .eq c16_i32_1238 c0_i32_1239
  let c1_i32_1240 : BitVec 32 := 1#32
  let v1806 : BitVec 32 := Scalar.select v1805 c1_i32_1240 c16_i32_1238
  let v1807 : BitVec 32 := Scalar.remsi v1804 v1806
  let c0_i32_1242 : BitVec 32 := 0#32
  let v1809 : BitVec 1 := Scalar.cmpi .slt v1807 c0_i32_1242
  let c0_i32_1243 : BitVec 32 := 0#32
  let v1810 : BitVec 1 := Scalar.cmpi .slt v1806 c0_i32_1243
  let v1811 : BitVec 1 := Scalar.xori v1809 v1810
  let c0_i32_1241 : BitVec 32 := 0#32
  let v1808 : BitVec 1 := Scalar.cmpi .ne v1807 c0_i32_1241
  let v1812 : BitVec 1 := Scalar.andi v1811 v1808
  let v1813 : BitVec 32 := Scalar.addi v1807 v1806
  let v1814 : BitVec 32 := Scalar.select v1812 v1813 v1807
  let v1815 : BitVec 32 := Scalar.addi c0_i32_1244 v1814
  let v1816 : BitVec 1 := Scalar.cmpi .ne v1815 v2
  let v1817 : BitVec 32 := Scalar.extui v1816
  let c0_i32_1245 : BitVec 32 := 0#32
  let v1818 : BitVec 1 := Scalar.cmpi .ne v1817 c0_i32_1245
  v1818

def k0_off28 (d0 : Dev nD) : Fin 1 → Nat :=
  let c0_i32_1244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1237 : BitVec 32 := 5#32
  let v1804 : BitVec 32 := Scalar.addi v2 c5_i32_1237
  let c16_i32_1238 : BitVec 32 := 16#32
  let c0_i32_1239 : BitVec 32 := 0#32
  let v1805 : BitVec 1 := Scalar.cmpi .eq c16_i32_1238 c0_i32_1239
  let c1_i32_1240 : BitVec 32 := 1#32
  let v1806 : BitVec 32 := Scalar.select v1805 c1_i32_1240 c16_i32_1238
  let v1807 : BitVec 32 := Scalar.remsi v1804 v1806
  let c0_i32_1242 : BitVec 32 := 0#32
  let v1809 : BitVec 1 := Scalar.cmpi .slt v1807 c0_i32_1242
  let c0_i32_1243 : BitVec 32 := 0#32
  let v1810 : BitVec 1 := Scalar.cmpi .slt v1806 c0_i32_1243
  let v1811 : BitVec 1 := Scalar.xori v1809 v1810
  let c0_i32_1241 : BitVec 32 := 0#32
  let v1808 : BitVec 1 := Scalar.cmpi .ne v1807 c0_i32_1241
  let v1812 : BitVec 1 := Scalar.andi v1811 v1808
  let v1813 : BitVec 32 := Scalar.addi v1807 v1806
  let v1814 : BitVec 32 := Scalar.select v1812 v1813 v1807
  let v1815 : BitVec 32 := Scalar.addi c0_i32_1244 v1814
  ![v1815.toNat]
def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off31 (d0 : Dev nD) : Fin 3 → Nat :=
  let c0_i32_1244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1237 : BitVec 32 := 5#32
  let v1804 : BitVec 32 := Scalar.addi v2 c5_i32_1237
  let c16_i32_1238 : BitVec 32 := 16#32
  let c0_i32_1239 : BitVec 32 := 0#32
  let v1805 : BitVec 1 := Scalar.cmpi .eq c16_i32_1238 c0_i32_1239
  let c1_i32_1240 : BitVec 32 := 1#32
  let v1806 : BitVec 32 := Scalar.select v1805 c1_i32_1240 c16_i32_1238
  let v1807 : BitVec 32 := Scalar.remsi v1804 v1806
  let c0_i32_1242 : BitVec 32 := 0#32
  let v1809 : BitVec 1 := Scalar.cmpi .slt v1807 c0_i32_1242
  let c0_i32_1243 : BitVec 32 := 0#32
  let v1810 : BitVec 1 := Scalar.cmpi .slt v1806 c0_i32_1243
  let v1811 : BitVec 1 := Scalar.xori v1809 v1810
  let c0_i32_1241 : BitVec 32 := 0#32
  let v1808 : BitVec 1 := Scalar.cmpi .ne v1807 c0_i32_1241
  let v1812 : BitVec 1 := Scalar.andi v1811 v1808
  let v1813 : BitVec 32 := Scalar.addi v1807 v1806
  let v1814 : BitVec 32 := Scalar.select v1812 v1813 v1807
  let v1815 : BitVec 32 := Scalar.addi c0_i32_1244 v1814
  let c0_i32_2486 : BitVec 32 := 0#32
  let c0_i32_2487 : BitVec 32 := 0#32
  ![v1815.toNat, 0, 0]
def k0_dev69 (d0 : Dev nD) : Nat :=
  let c0_i32_2483 : BitVec 32 := 0#32
  let c0_i32_1244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1237 : BitVec 32 := 5#32
  let v1804 : BitVec 32 := Scalar.addi v2 c5_i32_1237
  let c16_i32_1238 : BitVec 32 := 16#32
  let c0_i32_1239 : BitVec 32 := 0#32
  let v1805 : BitVec 1 := Scalar.cmpi .eq c16_i32_1238 c0_i32_1239
  let c1_i32_1240 : BitVec 32 := 1#32
  let v1806 : BitVec 32 := Scalar.select v1805 c1_i32_1240 c16_i32_1238
  let v1807 : BitVec 32 := Scalar.remsi v1804 v1806
  let c0_i32_1242 : BitVec 32 := 0#32
  let v1809 : BitVec 1 := Scalar.cmpi .slt v1807 c0_i32_1242
  let c0_i32_1243 : BitVec 32 := 0#32
  let v1810 : BitVec 1 := Scalar.cmpi .slt v1806 c0_i32_1243
  let v1811 : BitVec 1 := Scalar.xori v1809 v1810
  let c0_i32_1241 : BitVec 32 := 0#32
  let v1808 : BitVec 1 := Scalar.cmpi .ne v1807 c0_i32_1241
  let v1812 : BitVec 1 := Scalar.andi v1811 v1808
  let v1813 : BitVec 32 := Scalar.addi v1807 v1806
  let v1814 : BitVec 32 := Scalar.select v1812 v1813 v1807
  let v1815 : BitVec 32 := Scalar.addi c0_i32_1244 v1814
  let c1_i32_2482 : BitVec 32 := 1#32
  let v3523 : BitVec 32 := Scalar.muli v1815 c1_i32_2482
  let v3524 : BitVec 32 := Scalar.addi c0_i32_2483 v3523
  v3524.toNat
def k0_cond71 (d0 : Dev nD) : BitVec 1 :=
  let c0_i32_1253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1246 : BitVec 32 := 6#32
  let v1819 : BitVec 32 := Scalar.addi v2 c6_i32_1246
  let c16_i32_1247 : BitVec 32 := 16#32
  let c0_i32_1248 : BitVec 32 := 0#32
  let v1820 : BitVec 1 := Scalar.cmpi .eq c16_i32_1247 c0_i32_1248
  let c1_i32_1249 : BitVec 32 := 1#32
  let v1821 : BitVec 32 := Scalar.select v1820 c1_i32_1249 c16_i32_1247
  let v1822 : BitVec 32 := Scalar.remsi v1819 v1821
  let c0_i32_1251 : BitVec 32 := 0#32
  let v1824 : BitVec 1 := Scalar.cmpi .slt v1822 c0_i32_1251
  let c0_i32_1252 : BitVec 32 := 0#32
  let v1825 : BitVec 1 := Scalar.cmpi .slt v1821 c0_i32_1252
  let v1826 : BitVec 1 := Scalar.xori v1824 v1825
  let c0_i32_1250 : BitVec 32 := 0#32
  let v1823 : BitVec 1 := Scalar.cmpi .ne v1822 c0_i32_1250
  let v1827 : BitVec 1 := Scalar.andi v1826 v1823
  let v1828 : BitVec 32 := Scalar.addi v1822 v1821
  let v1829 : BitVec 32 := Scalar.select v1827 v1828 v1822
  let v1830 : BitVec 32 := Scalar.addi c0_i32_1253 v1829
  let v1831 : BitVec 1 := Scalar.cmpi .ne v1830 v2
  let v1832 : BitVec 32 := Scalar.extui v1831
  let c0_i32_1254 : BitVec 32 := 0#32
  let v1833 : BitVec 1 := Scalar.cmpi .ne v1832 c0_i32_1254
  v1833

def k0_off32 (d0 : Dev nD) : Fin 1 → Nat :=
  let c0_i32_1253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1246 : BitVec 32 := 6#32
  let v1819 : BitVec 32 := Scalar.addi v2 c6_i32_1246
  let c16_i32_1247 : BitVec 32 := 16#32
  let c0_i32_1248 : BitVec 32 := 0#32
  let v1820 : BitVec 1 := Scalar.cmpi .eq c16_i32_1247 c0_i32_1248
  let c1_i32_1249 : BitVec 32 := 1#32
  let v1821 : BitVec 32 := Scalar.select v1820 c1_i32_1249 c16_i32_1247
  let v1822 : BitVec 32 := Scalar.remsi v1819 v1821
  let c0_i32_1251 : BitVec 32 := 0#32
  let v1824 : BitVec 1 := Scalar.cmpi .slt v1822 c0_i32_1251
  let c0_i32_1252 : BitVec 32 := 0#32
  let v1825 : BitVec 1 := Scalar.cmpi .slt v1821 c0_i32_1252
  let v1826 : BitVec 1 := Scalar.xori v1824 v1825
  let c0_i32_1250 : BitVec 32 := 0#32
  let v1823 : BitVec 1 := Scalar.cmpi .ne v1822 c0_i32_1250
  let v1827 : BitVec 1 := Scalar.andi v1826 v1823
  let v1828 : BitVec 32 := Scalar.addi v1822 v1821
  let v1829 : BitVec 32 := Scalar.select v1827 v1828 v1822
  let v1830 : BitVec 32 := Scalar.addi c0_i32_1253 v1829
  ![v1830.toNat]
def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off35 (d0 : Dev nD) : Fin 3 → Nat :=
  let c0_i32_1253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1246 : BitVec 32 := 6#32
  let v1819 : BitVec 32 := Scalar.addi v2 c6_i32_1246
  let c16_i32_1247 : BitVec 32 := 16#32
  let c0_i32_1248 : BitVec 32 := 0#32
  let v1820 : BitVec 1 := Scalar.cmpi .eq c16_i32_1247 c0_i32_1248
  let c1_i32_1249 : BitVec 32 := 1#32
  let v1821 : BitVec 32 := Scalar.select v1820 c1_i32_1249 c16_i32_1247
  let v1822 : BitVec 32 := Scalar.remsi v1819 v1821
  let c0_i32_1251 : BitVec 32 := 0#32
  let v1824 : BitVec 1 := Scalar.cmpi .slt v1822 c0_i32_1251
  let c0_i32_1252 : BitVec 32 := 0#32
  let v1825 : BitVec 1 := Scalar.cmpi .slt v1821 c0_i32_1252
  let v1826 : BitVec 1 := Scalar.xori v1824 v1825
  let c0_i32_1250 : BitVec 32 := 0#32
  let v1823 : BitVec 1 := Scalar.cmpi .ne v1822 c0_i32_1250
  let v1827 : BitVec 1 := Scalar.andi v1826 v1823
  let v1828 : BitVec 32 := Scalar.addi v1822 v1821
  let v1829 : BitVec 32 := Scalar.select v1827 v1828 v1822
  let v1830 : BitVec 32 := Scalar.addi c0_i32_1253 v1829
  let c0_i32_2486 : BitVec 32 := 0#32
  let c0_i32_2487 : BitVec 32 := 0#32
  ![v1830.toNat, 0, 0]
def k0_dev70 (d0 : Dev nD) : Nat :=
  let c0_i32_2483 : BitVec 32 := 0#32
  let c0_i32_1253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1246 : BitVec 32 := 6#32
  let v1819 : BitVec 32 := Scalar.addi v2 c6_i32_1246
  let c16_i32_1247 : BitVec 32 := 16#32
  let c0_i32_1248 : BitVec 32 := 0#32
  let v1820 : BitVec 1 := Scalar.cmpi .eq c16_i32_1247 c0_i32_1248
  let c1_i32_1249 : BitVec 32 := 1#32
  let v1821 : BitVec 32 := Scalar.select v1820 c1_i32_1249 c16_i32_1247
  let v1822 : BitVec 32 := Scalar.remsi v1819 v1821
  let c0_i32_1251 : BitVec 32 := 0#32
  let v1824 : BitVec 1 := Scalar.cmpi .slt v1822 c0_i32_1251
  let c0_i32_1252 : BitVec 32 := 0#32
  let v1825 : BitVec 1 := Scalar.cmpi .slt v1821 c0_i32_1252
  let v1826 : BitVec 1 := Scalar.xori v1824 v1825
  let c0_i32_1250 : BitVec 32 := 0#32
  let v1823 : BitVec 1 := Scalar.cmpi .ne v1822 c0_i32_1250
  let v1827 : BitVec 1 := Scalar.andi v1826 v1823
  let v1828 : BitVec 32 := Scalar.addi v1822 v1821
  let v1829 : BitVec 32 := Scalar.select v1827 v1828 v1822
  let v1830 : BitVec 32 := Scalar.addi c0_i32_1253 v1829
  let c1_i32_2482 : BitVec 32 := 1#32
  let v3523 : BitVec 32 := Scalar.muli v1830 c1_i32_2482
  let v3524 : BitVec 32 := Scalar.addi c0_i32_2483 v3523
  v3524.toNat
def k0_cond72 (d0 : Dev nD) : BitVec 1 :=
  let c0_i32_1262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1255 : BitVec 32 := 7#32
  let v1834 : BitVec 32 := Scalar.addi v2 c7_i32_1255
  let c16_i32_1256 : BitVec 32 := 16#32
  let c0_i32_1257 : BitVec 32 := 0#32
  let v1835 : BitVec 1 := Scalar.cmpi .eq c16_i32_1256 c0_i32_1257
  let c1_i32_1258 : BitVec 32 := 1#32
  let v1836 : BitVec 32 := Scalar.select v1835 c1_i32_1258 c16_i32_1256
  let v1837 : BitVec 32 := Scalar.remsi v1834 v1836
  let c0_i32_1260 : BitVec 32 := 0#32
  let v1839 : BitVec 1 := Scalar.cmpi .slt v1837 c0_i32_1260
  let c0_i32_1261 : BitVec 32 := 0#32
  let v1840 : BitVec 1 := Scalar.cmpi .slt v1836 c0_i32_1261
  let v1841 : BitVec 1 := Scalar.xori v1839 v1840
  let c0_i32_1259 : BitVec 32 := 0#32
  let v1838 : BitVec 1 := Scalar.cmpi .ne v1837 c0_i32_1259
  let v1842 : BitVec 1 := Scalar.andi v1841 v1838
  let v1843 : BitVec 32 := Scalar.addi v1837 v1836
  let v1844 : BitVec 32 := Scalar.select v1842 v1843 v1837
  let v1845 : BitVec 32 := Scalar.addi c0_i32_1262 v1844
  let v1846 : BitVec 1 := Scalar.cmpi .ne v1845 v2
  let v1847 : BitVec 32 := Scalar.extui v1846
  let c0_i32_1263 : BitVec 32 := 0#32
  let v1848 : BitVec 1 := Scalar.cmpi .ne v1847 c0_i32_1263
  v1848

def k0_off36 (d0 : Dev nD) : Fin 1 → Nat :=
  let c0_i32_1262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1255 : BitVec 32 := 7#32
  let v1834 : BitVec 32 := Scalar.addi v2 c7_i32_1255
  let c16_i32_1256 : BitVec 32 := 16#32
  let c0_i32_1257 : BitVec 32 := 0#32
  let v1835 : BitVec 1 := Scalar.cmpi .eq c16_i32_1256 c0_i32_1257
  let c1_i32_1258 : BitVec 32 := 1#32
  let v1836 : BitVec 32 := Scalar.select v1835 c1_i32_1258 c16_i32_1256
  let v1837 : BitVec 32 := Scalar.remsi v1834 v1836
  let c0_i32_1260 : BitVec 32 := 0#32
  let v1839 : BitVec 1 := Scalar.cmpi .slt v1837 c0_i32_1260
  let c0_i32_1261 : BitVec 32 := 0#32
  let v1840 : BitVec 1 := Scalar.cmpi .slt v1836 c0_i32_1261
  let v1841 : BitVec 1 := Scalar.xori v1839 v1840
  let c0_i32_1259 : BitVec 32 := 0#32
  let v1838 : BitVec 1 := Scalar.cmpi .ne v1837 c0_i32_1259
  let v1842 : BitVec 1 := Scalar.andi v1841 v1838
  let v1843 : BitVec 32 := Scalar.addi v1837 v1836
  let v1844 : BitVec 32 := Scalar.select v1842 v1843 v1837
  let v1845 : BitVec 32 := Scalar.addi c0_i32_1262 v1844
  ![v1845.toNat]
def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off39 (d0 : Dev nD) : Fin 3 → Nat :=
  let c0_i32_1262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1255 : BitVec 32 := 7#32
  let v1834 : BitVec 32 := Scalar.addi v2 c7_i32_1255
  let c16_i32_1256 : BitVec 32 := 16#32
  let c0_i32_1257 : BitVec 32 := 0#32
  let v1835 : BitVec 1 := Scalar.cmpi .eq c16_i32_1256 c0_i32_1257
  let c1_i32_1258 : BitVec 32 := 1#32
  let v1836 : BitVec 32 := Scalar.select v1835 c1_i32_1258 c16_i32_1256
  let v1837 : BitVec 32 := Scalar.remsi v1834 v1836
  let c0_i32_1260 : BitVec 32 := 0#32
  let v1839 : BitVec 1 := Scalar.cmpi .slt v1837 c0_i32_1260
  let c0_i32_1261 : BitVec 32 := 0#32
  let v1840 : BitVec 1 := Scalar.cmpi .slt v1836 c0_i32_1261
  let v1841 : BitVec 1 := Scalar.xori v1839 v1840
  let c0_i32_1259 : BitVec 32 := 0#32
  let v1838 : BitVec 1 := Scalar.cmpi .ne v1837 c0_i32_1259
  let v1842 : BitVec 1 := Scalar.andi v1841 v1838
  let v1843 : BitVec 32 := Scalar.addi v1837 v1836
  let v1844 : BitVec 32 := Scalar.select v1842 v1843 v1837
  let v1845 : BitVec 32 := Scalar.addi c0_i32_1262 v1844
  let c0_i32_2486 : BitVec 32 := 0#32
  let c0_i32_2487 : BitVec 32 := 0#32
  ![v1845.toNat, 0, 0]
def k0_dev71 (d0 : Dev nD) : Nat :=
  let c0_i32_2483 : BitVec 32 := 0#32
  let c0_i32_1262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1255 : BitVec 32 := 7#32
  let v1834 : BitVec 32 := Scalar.addi v2 c7_i32_1255
  let c16_i32_1256 : BitVec 32 := 16#32
  let c0_i32_1257 : BitVec 32 := 0#32
  let v1835 : BitVec 1 := Scalar.cmpi .eq c16_i32_1256 c0_i32_1257
  let c1_i32_1258 : BitVec 32 := 1#32
  let v1836 : BitVec 32 := Scalar.select v1835 c1_i32_1258 c16_i32_1256
  let v1837 : BitVec 32 := Scalar.remsi v1834 v1836
  let c0_i32_1260 : BitVec 32 := 0#32
  let v1839 : BitVec 1 := Scalar.cmpi .slt v1837 c0_i32_1260
  let c0_i32_1261 : BitVec 32 := 0#32
  let v1840 : BitVec 1 := Scalar.cmpi .slt v1836 c0_i32_1261
  let v1841 : BitVec 1 := Scalar.xori v1839 v1840
  let c0_i32_1259 : BitVec 32 := 0#32
  let v1838 : BitVec 1 := Scalar.cmpi .ne v1837 c0_i32_1259
  let v1842 : BitVec 1 := Scalar.andi v1841 v1838
  let v1843 : BitVec 32 := Scalar.addi v1837 v1836
  let v1844 : BitVec 32 := Scalar.select v1842 v1843 v1837
  let v1845 : BitVec 32 := Scalar.addi c0_i32_1262 v1844
  let c1_i32_2482 : BitVec 32 := 1#32
  let v3523 : BitVec 32 := Scalar.muli v1845 c1_i32_2482
  let v3524 : BitVec 32 := Scalar.addi c0_i32_2483 v3523
  v3524.toNat
def k0_cond73 (d0 : Dev nD) : BitVec 1 :=
  let c0_i32_1271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1264 : BitVec 32 := 8#32
  let v1849 : BitVec 32 := Scalar.addi v2 c8_i32_1264
  let c16_i32_1265 : BitVec 32 := 16#32
  let c0_i32_1266 : BitVec 32 := 0#32
  let v1850 : BitVec 1 := Scalar.cmpi .eq c16_i32_1265 c0_i32_1266
  let c1_i32_1267 : BitVec 32 := 1#32
  let v1851 : BitVec 32 := Scalar.select v1850 c1_i32_1267 c16_i32_1265
  let v1852 : BitVec 32 := Scalar.remsi v1849 v1851
  let c0_i32_1269 : BitVec 32 := 0#32
  let v1854 : BitVec 1 := Scalar.cmpi .slt v1852 c0_i32_1269
  let c0_i32_1270 : BitVec 32 := 0#32
  let v1855 : BitVec 1 := Scalar.cmpi .slt v1851 c0_i32_1270
  let v1856 : BitVec 1 := Scalar.xori v1854 v1855
  let c0_i32_1268 : BitVec 32 := 0#32
  let v1853 : BitVec 1 := Scalar.cmpi .ne v1852 c0_i32_1268
  let v1857 : BitVec 1 := Scalar.andi v1856 v1853
  let v1858 : BitVec 32 := Scalar.addi v1852 v1851
  let v1859 : BitVec 32 := Scalar.select v1857 v1858 v1852
  let v1860 : BitVec 32 := Scalar.addi c0_i32_1271 v1859
  let v1861 : BitVec 1 := Scalar.cmpi .ne v1860 v2
  let v1862 : BitVec 32 := Scalar.extui v1861
  let c0_i32_1272 : BitVec 32 := 0#32
  let v1863 : BitVec 1 := Scalar.cmpi .ne v1862 c0_i32_1272
  v1863

def k0_off40 (d0 : Dev nD) : Fin 1 → Nat :=
  let c0_i32_1271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1264 : BitVec 32 := 8#32
  let v1849 : BitVec 32 := Scalar.addi v2 c8_i32_1264
  let c16_i32_1265 : BitVec 32 := 16#32
  let c0_i32_1266 : BitVec 32 := 0#32
  let v1850 : BitVec 1 := Scalar.cmpi .eq c16_i32_1265 c0_i32_1266
  let c1_i32_1267 : BitVec 32 := 1#32
  let v1851 : BitVec 32 := Scalar.select v1850 c1_i32_1267 c16_i32_1265
  let v1852 : BitVec 32 := Scalar.remsi v1849 v1851
  let c0_i32_1269 : BitVec 32 := 0#32
  let v1854 : BitVec 1 := Scalar.cmpi .slt v1852 c0_i32_1269
  let c0_i32_1270 : BitVec 32 := 0#32
  let v1855 : BitVec 1 := Scalar.cmpi .slt v1851 c0_i32_1270
  let v1856 : BitVec 1 := Scalar.xori v1854 v1855
  let c0_i32_1268 : BitVec 32 := 0#32
  let v1853 : BitVec 1 := Scalar.cmpi .ne v1852 c0_i32_1268
  let v1857 : BitVec 1 := Scalar.andi v1856 v1853
  let v1858 : BitVec 32 := Scalar.addi v1852 v1851
  let v1859 : BitVec 32 := Scalar.select v1857 v1858 v1852
  let v1860 : BitVec 32 := Scalar.addi c0_i32_1271 v1859
  ![v1860.toNat]
def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off43 (d0 : Dev nD) : Fin 3 → Nat :=
  let c0_i32_1271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1264 : BitVec 32 := 8#32
  let v1849 : BitVec 32 := Scalar.addi v2 c8_i32_1264
  let c16_i32_1265 : BitVec 32 := 16#32
  let c0_i32_1266 : BitVec 32 := 0#32
  let v1850 : BitVec 1 := Scalar.cmpi .eq c16_i32_1265 c0_i32_1266
  let c1_i32_1267 : BitVec 32 := 1#32
  let v1851 : BitVec 32 := Scalar.select v1850 c1_i32_1267 c16_i32_1265
  let v1852 : BitVec 32 := Scalar.remsi v1849 v1851
  let c0_i32_1269 : BitVec 32 := 0#32
  let v1854 : BitVec 1 := Scalar.cmpi .slt v1852 c0_i32_1269
  let c0_i32_1270 : BitVec 32 := 0#32
  let v1855 : BitVec 1 := Scalar.cmpi .slt v1851 c0_i32_1270
  let v1856 : BitVec 1 := Scalar.xori v1854 v1855
  let c0_i32_1268 : BitVec 32 := 0#32
  let v1853 : BitVec 1 := Scalar.cmpi .ne v1852 c0_i32_1268
  let v1857 : BitVec 1 := Scalar.andi v1856 v1853
  let v1858 : BitVec 32 := Scalar.addi v1852 v1851
  let v1859 : BitVec 32 := Scalar.select v1857 v1858 v1852
  let v1860 : BitVec 32 := Scalar.addi c0_i32_1271 v1859
  let c0_i32_2486 : BitVec 32 := 0#32
  let c0_i32_2487 : BitVec 32 := 0#32
  ![v1860.toNat, 0, 0]
def k0_dev72 (d0 : Dev nD) : Nat :=
  let c0_i32_2483 : BitVec 32 := 0#32
  let c0_i32_1271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1264 : BitVec 32 := 8#32
  let v1849 : BitVec 32 := Scalar.addi v2 c8_i32_1264
  let c16_i32_1265 : BitVec 32 := 16#32
  let c0_i32_1266 : BitVec 32 := 0#32
  let v1850 : BitVec 1 := Scalar.cmpi .eq c16_i32_1265 c0_i32_1266
  let c1_i32_1267 : BitVec 32 := 1#32
  let v1851 : BitVec 32 := Scalar.select v1850 c1_i32_1267 c16_i32_1265
  let v1852 : BitVec 32 := Scalar.remsi v1849 v1851
  let c0_i32_1269 : BitVec 32 := 0#32
  let v1854 : BitVec 1 := Scalar.cmpi .slt v1852 c0_i32_1269
  let c0_i32_1270 : BitVec 32 := 0#32
  let v1855 : BitVec 1 := Scalar.cmpi .slt v1851 c0_i32_1270
  let v1856 : BitVec 1 := Scalar.xori v1854 v1855
  let c0_i32_1268 : BitVec 32 := 0#32
  let v1853 : BitVec 1 := Scalar.cmpi .ne v1852 c0_i32_1268
  let v1857 : BitVec 1 := Scalar.andi v1856 v1853
  let v1858 : BitVec 32 := Scalar.addi v1852 v1851
  let v1859 : BitVec 32 := Scalar.select v1857 v1858 v1852
  let v1860 : BitVec 32 := Scalar.addi c0_i32_1271 v1859
  let c1_i32_2482 : BitVec 32 := 1#32
  let v3523 : BitVec 32 := Scalar.muli v1860 c1_i32_2482
  let v3524 : BitVec 32 := Scalar.addi c0_i32_2483 v3523
  v3524.toNat
def k0_cond74 (d0 : Dev nD) : BitVec 1 :=
  let c0_i32_1280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1273 : BitVec 32 := 9#32
  let v1864 : BitVec 32 := Scalar.addi v2 c9_i32_1273
  let c16_i32_1274 : BitVec 32 := 16#32
  let c0_i32_1275 : BitVec 32 := 0#32
  let v1865 : BitVec 1 := Scalar.cmpi .eq c16_i32_1274 c0_i32_1275
  let c1_i32_1276 : BitVec 32 := 1#32
  let v1866 : BitVec 32 := Scalar.select v1865 c1_i32_1276 c16_i32_1274
  let v1867 : BitVec 32 := Scalar.remsi v1864 v1866
  let c0_i32_1278 : BitVec 32 := 0#32
  let v1869 : BitVec 1 := Scalar.cmpi .slt v1867 c0_i32_1278
  let c0_i32_1279 : BitVec 32 := 0#32
  let v1870 : BitVec 1 := Scalar.cmpi .slt v1866 c0_i32_1279
  let v1871 : BitVec 1 := Scalar.xori v1869 v1870
  let c0_i32_1277 : BitVec 32 := 0#32
  let v1868 : BitVec 1 := Scalar.cmpi .ne v1867 c0_i32_1277
  let v1872 : BitVec 1 := Scalar.andi v1871 v1868
  let v1873 : BitVec 32 := Scalar.addi v1867 v1866
  let v1874 : BitVec 32 := Scalar.select v1872 v1873 v1867
  let v1875 : BitVec 32 := Scalar.addi c0_i32_1280 v1874
  let v1876 : BitVec 1 := Scalar.cmpi .ne v1875 v2
  let v1877 : BitVec 32 := Scalar.extui v1876
  let c0_i32_1281 : BitVec 32 := 0#32
  let v1878 : BitVec 1 := Scalar.cmpi .ne v1877 c0_i32_1281
  v1878

def k0_off44 (d0 : Dev nD) : Fin 1 → Nat :=
  let c0_i32_1280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1273 : BitVec 32 := 9#32
  let v1864 : BitVec 32 := Scalar.addi v2 c9_i32_1273
  let c16_i32_1274 : BitVec 32 := 16#32
  let c0_i32_1275 : BitVec 32 := 0#32
  let v1865 : BitVec 1 := Scalar.cmpi .eq c16_i32_1274 c0_i32_1275
  let c1_i32_1276 : BitVec 32 := 1#32
  let v1866 : BitVec 32 := Scalar.select v1865 c1_i32_1276 c16_i32_1274
  let v1867 : BitVec 32 := Scalar.remsi v1864 v1866
  let c0_i32_1278 : BitVec 32 := 0#32
  let v1869 : BitVec 1 := Scalar.cmpi .slt v1867 c0_i32_1278
  let c0_i32_1279 : BitVec 32 := 0#32
  let v1870 : BitVec 1 := Scalar.cmpi .slt v1866 c0_i32_1279
  let v1871 : BitVec 1 := Scalar.xori v1869 v1870
  let c0_i32_1277 : BitVec 32 := 0#32
  let v1868 : BitVec 1 := Scalar.cmpi .ne v1867 c0_i32_1277
  let v1872 : BitVec 1 := Scalar.andi v1871 v1868
  let v1873 : BitVec 32 := Scalar.addi v1867 v1866
  let v1874 : BitVec 32 := Scalar.select v1872 v1873 v1867
  let v1875 : BitVec 32 := Scalar.addi c0_i32_1280 v1874
  ![v1875.toNat]
def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off47 (d0 : Dev nD) : Fin 3 → Nat :=
  let c0_i32_1280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1273 : BitVec 32 := 9#32
  let v1864 : BitVec 32 := Scalar.addi v2 c9_i32_1273
  let c16_i32_1274 : BitVec 32 := 16#32
  let c0_i32_1275 : BitVec 32 := 0#32
  let v1865 : BitVec 1 := Scalar.cmpi .eq c16_i32_1274 c0_i32_1275
  let c1_i32_1276 : BitVec 32 := 1#32
  let v1866 : BitVec 32 := Scalar.select v1865 c1_i32_1276 c16_i32_1274
  let v1867 : BitVec 32 := Scalar.remsi v1864 v1866
  let c0_i32_1278 : BitVec 32 := 0#32
  let v1869 : BitVec 1 := Scalar.cmpi .slt v1867 c0_i32_1278
  let c0_i32_1279 : BitVec 32 := 0#32
  let v1870 : BitVec 1 := Scalar.cmpi .slt v1866 c0_i32_1279
  let v1871 : BitVec 1 := Scalar.xori v1869 v1870
  let c0_i32_1277 : BitVec 32 := 0#32
  let v1868 : BitVec 1 := Scalar.cmpi .ne v1867 c0_i32_1277
  let v1872 : BitVec 1 := Scalar.andi v1871 v1868
  let v1873 : BitVec 32 := Scalar.addi v1867 v1866
  let v1874 : BitVec 32 := Scalar.select v1872 v1873 v1867
  let v1875 : BitVec 32 := Scalar.addi c0_i32_1280 v1874
  let c0_i32_2486 : BitVec 32 := 0#32
  let c0_i32_2487 : BitVec 32 := 0#32
  ![v1875.toNat, 0, 0]
def k0_dev73 (d0 : Dev nD) : Nat :=
  let c0_i32_2483 : BitVec 32 := 0#32
  let c0_i32_1280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1273 : BitVec 32 := 9#32
  let v1864 : BitVec 32 := Scalar.addi v2 c9_i32_1273
  let c16_i32_1274 : BitVec 32 := 16#32
  let c0_i32_1275 : BitVec 32 := 0#32
  let v1865 : BitVec 1 := Scalar.cmpi .eq c16_i32_1274 c0_i32_1275
  let c1_i32_1276 : BitVec 32 := 1#32
  let v1866 : BitVec 32 := Scalar.select v1865 c1_i32_1276 c16_i32_1274
  let v1867 : BitVec 32 := Scalar.remsi v1864 v1866
  let c0_i32_1278 : BitVec 32 := 0#32
  let v1869 : BitVec 1 := Scalar.cmpi .slt v1867 c0_i32_1278
  let c0_i32_1279 : BitVec 32 := 0#32
  let v1870 : BitVec 1 := Scalar.cmpi .slt v1866 c0_i32_1279
  let v1871 : BitVec 1 := Scalar.xori v1869 v1870
  let c0_i32_1277 : BitVec 32 := 0#32
  let v1868 : BitVec 1 := Scalar.cmpi .ne v1867 c0_i32_1277
  let v1872 : BitVec 1 := Scalar.andi v1871 v1868
  let v1873 : BitVec 32 := Scalar.addi v1867 v1866
  let v1874 : BitVec 32 := Scalar.select v1872 v1873 v1867
  let v1875 : BitVec 32 := Scalar.addi c0_i32_1280 v1874
  let c1_i32_2482 : BitVec 32 := 1#32
  let v3523 : BitVec 32 := Scalar.muli v1875 c1_i32_2482
  let v3524 : BitVec 32 := Scalar.addi c0_i32_2483 v3523
  v3524.toNat
def k0_cond75 (d0 : Dev nD) : BitVec 1 :=
  let c0_i32_1289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1282 : BitVec 32 := 10#32
  let v1879 : BitVec 32 := Scalar.addi v2 c10_i32_1282
  let c16_i32_1283 : BitVec 32 := 16#32
  let c0_i32_1284 : BitVec 32 := 0#32
  let v1880 : BitVec 1 := Scalar.cmpi .eq c16_i32_1283 c0_i32_1284
  let c1_i32_1285 : BitVec 32 := 1#32
  let v1881 : BitVec 32 := Scalar.select v1880 c1_i32_1285 c16_i32_1283
  let v1882 : BitVec 32 := Scalar.remsi v1879 v1881
  let c0_i32_1287 : BitVec 32 := 0#32
  let v1884 : BitVec 1 := Scalar.cmpi .slt v1882 c0_i32_1287
  let c0_i32_1288 : BitVec 32 := 0#32
  let v1885 : BitVec 1 := Scalar.cmpi .slt v1881 c0_i32_1288
  let v1886 : BitVec 1 := Scalar.xori v1884 v1885
  let c0_i32_1286 : BitVec 32 := 0#32
  let v1883 : BitVec 1 := Scalar.cmpi .ne v1882 c0_i32_1286
  let v1887 : BitVec 1 := Scalar.andi v1886 v1883
  let v1888 : BitVec 32 := Scalar.addi v1882 v1881
  let v1889 : BitVec 32 := Scalar.select v1887 v1888 v1882
  let v1890 : BitVec 32 := Scalar.addi c0_i32_1289 v1889
  let v1891 : BitVec 1 := Scalar.cmpi .ne v1890 v2
  let v1892 : BitVec 32 := Scalar.extui v1891
  let c0_i32_1290 : BitVec 32 := 0#32
  let v1893 : BitVec 1 := Scalar.cmpi .ne v1892 c0_i32_1290
  v1893

def k0_off48 (d0 : Dev nD) : Fin 1 → Nat :=
  let c0_i32_1289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1282 : BitVec 32 := 10#32
  let v1879 : BitVec 32 := Scalar.addi v2 c10_i32_1282
  let c16_i32_1283 : BitVec 32 := 16#32
  let c0_i32_1284 : BitVec 32 := 0#32
  let v1880 : BitVec 1 := Scalar.cmpi .eq c16_i32_1283 c0_i32_1284
  let c1_i32_1285 : BitVec 32 := 1#32
  let v1881 : BitVec 32 := Scalar.select v1880 c1_i32_1285 c16_i32_1283
  let v1882 : BitVec 32 := Scalar.remsi v1879 v1881
  let c0_i32_1287 : BitVec 32 := 0#32
  let v1884 : BitVec 1 := Scalar.cmpi .slt v1882 c0_i32_1287
  let c0_i32_1288 : BitVec 32 := 0#32
  let v1885 : BitVec 1 := Scalar.cmpi .slt v1881 c0_i32_1288
  let v1886 : BitVec 1 := Scalar.xori v1884 v1885
  let c0_i32_1286 : BitVec 32 := 0#32
  let v1883 : BitVec 1 := Scalar.cmpi .ne v1882 c0_i32_1286
  let v1887 : BitVec 1 := Scalar.andi v1886 v1883
  let v1888 : BitVec 32 := Scalar.addi v1882 v1881
  let v1889 : BitVec 32 := Scalar.select v1887 v1888 v1882
  let v1890 : BitVec 32 := Scalar.addi c0_i32_1289 v1889
  ![v1890.toNat]
def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off51 (d0 : Dev nD) : Fin 3 → Nat :=
  let c0_i32_1289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1282 : BitVec 32 := 10#32
  let v1879 : BitVec 32 := Scalar.addi v2 c10_i32_1282
  let c16_i32_1283 : BitVec 32 := 16#32
  let c0_i32_1284 : BitVec 32 := 0#32
  let v1880 : BitVec 1 := Scalar.cmpi .eq c16_i32_1283 c0_i32_1284
  let c1_i32_1285 : BitVec 32 := 1#32
  let v1881 : BitVec 32 := Scalar.select v1880 c1_i32_1285 c16_i32_1283
  let v1882 : BitVec 32 := Scalar.remsi v1879 v1881
  let c0_i32_1287 : BitVec 32 := 0#32
  let v1884 : BitVec 1 := Scalar.cmpi .slt v1882 c0_i32_1287
  let c0_i32_1288 : BitVec 32 := 0#32
  let v1885 : BitVec 1 := Scalar.cmpi .slt v1881 c0_i32_1288
  let v1886 : BitVec 1 := Scalar.xori v1884 v1885
  let c0_i32_1286 : BitVec 32 := 0#32
  let v1883 : BitVec 1 := Scalar.cmpi .ne v1882 c0_i32_1286
  let v1887 : BitVec 1 := Scalar.andi v1886 v1883
  let v1888 : BitVec 32 := Scalar.addi v1882 v1881
  let v1889 : BitVec 32 := Scalar.select v1887 v1888 v1882
  let v1890 : BitVec 32 := Scalar.addi c0_i32_1289 v1889
  let c0_i32_2486 : BitVec 32 := 0#32
  let c0_i32_2487 : BitVec 32 := 0#32
  ![v1890.toNat, 0, 0]
def k0_dev74 (d0 : Dev nD) : Nat :=
  let c0_i32_2483 : BitVec 32 := 0#32
  let c0_i32_1289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1282 : BitVec 32 := 10#32
  let v1879 : BitVec 32 := Scalar.addi v2 c10_i32_1282
  let c16_i32_1283 : BitVec 32 := 16#32
  let c0_i32_1284 : BitVec 32 := 0#32
  let v1880 : BitVec 1 := Scalar.cmpi .eq c16_i32_1283 c0_i32_1284
  let c1_i32_1285 : BitVec 32 := 1#32
  let v1881 : BitVec 32 := Scalar.select v1880 c1_i32_1285 c16_i32_1283
  let v1882 : BitVec 32 := Scalar.remsi v1879 v1881
  let c0_i32_1287 : BitVec 32 := 0#32
  let v1884 : BitVec 1 := Scalar.cmpi .slt v1882 c0_i32_1287
  let c0_i32_1288 : BitVec 32 := 0#32
  let v1885 : BitVec 1 := Scalar.cmpi .slt v1881 c0_i32_1288
  let v1886 : BitVec 1 := Scalar.xori v1884 v1885
  let c0_i32_1286 : BitVec 32 := 0#32
  let v1883 : BitVec 1 := Scalar.cmpi .ne v1882 c0_i32_1286
  let v1887 : BitVec 1 := Scalar.andi v1886 v1883
  let v1888 : BitVec 32 := Scalar.addi v1882 v1881
  let v1889 : BitVec 32 := Scalar.select v1887 v1888 v1882
  let v1890 : BitVec 32 := Scalar.addi c0_i32_1289 v1889
  let c1_i32_2482 : BitVec 32 := 1#32
  let v3523 : BitVec 32 := Scalar.muli v1890 c1_i32_2482
  let v3524 : BitVec 32 := Scalar.addi c0_i32_2483 v3523
  v3524.toNat
def k0_cond76 (d0 : Dev nD) : BitVec 1 :=
  let c0_i32_1298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1291 : BitVec 32 := 11#32
  let v1894 : BitVec 32 := Scalar.addi v2 c11_i32_1291
  let c16_i32_1292 : BitVec 32 := 16#32
  let c0_i32_1293 : BitVec 32 := 0#32
  let v1895 : BitVec 1 := Scalar.cmpi .eq c16_i32_1292 c0_i32_1293
  let c1_i32_1294 : BitVec 32 := 1#32
  let v1896 : BitVec 32 := Scalar.select v1895 c1_i32_1294 c16_i32_1292
  let v1897 : BitVec 32 := Scalar.remsi v1894 v1896
  let c0_i32_1296 : BitVec 32 := 0#32
  let v1899 : BitVec 1 := Scalar.cmpi .slt v1897 c0_i32_1296
  let c0_i32_1297 : BitVec 32 := 0#32
  let v1900 : BitVec 1 := Scalar.cmpi .slt v1896 c0_i32_1297
  let v1901 : BitVec 1 := Scalar.xori v1899 v1900
  let c0_i32_1295 : BitVec 32 := 0#32
  let v1898 : BitVec 1 := Scalar.cmpi .ne v1897 c0_i32_1295
  let v1902 : BitVec 1 := Scalar.andi v1901 v1898
  let v1903 : BitVec 32 := Scalar.addi v1897 v1896
  let v1904 : BitVec 32 := Scalar.select v1902 v1903 v1897
  let v1905 : BitVec 32 := Scalar.addi c0_i32_1298 v1904
  let v1906 : BitVec 1 := Scalar.cmpi .ne v1905 v2
  let v1907 : BitVec 32 := Scalar.extui v1906
  let c0_i32_1299 : BitVec 32 := 0#32
  let v1908 : BitVec 1 := Scalar.cmpi .ne v1907 c0_i32_1299
  v1908

def k0_off52 (d0 : Dev nD) : Fin 1 → Nat :=
  let c0_i32_1298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1291 : BitVec 32 := 11#32
  let v1894 : BitVec 32 := Scalar.addi v2 c11_i32_1291
  let c16_i32_1292 : BitVec 32 := 16#32
  let c0_i32_1293 : BitVec 32 := 0#32
  let v1895 : BitVec 1 := Scalar.cmpi .eq c16_i32_1292 c0_i32_1293
  let c1_i32_1294 : BitVec 32 := 1#32
  let v1896 : BitVec 32 := Scalar.select v1895 c1_i32_1294 c16_i32_1292
  let v1897 : BitVec 32 := Scalar.remsi v1894 v1896
  let c0_i32_1296 : BitVec 32 := 0#32
  let v1899 : BitVec 1 := Scalar.cmpi .slt v1897 c0_i32_1296
  let c0_i32_1297 : BitVec 32 := 0#32
  let v1900 : BitVec 1 := Scalar.cmpi .slt v1896 c0_i32_1297
  let v1901 : BitVec 1 := Scalar.xori v1899 v1900
  let c0_i32_1295 : BitVec 32 := 0#32
  let v1898 : BitVec 1 := Scalar.cmpi .ne v1897 c0_i32_1295
  let v1902 : BitVec 1 := Scalar.andi v1901 v1898
  let v1903 : BitVec 32 := Scalar.addi v1897 v1896
  let v1904 : BitVec 32 := Scalar.select v1902 v1903 v1897
  let v1905 : BitVec 32 := Scalar.addi c0_i32_1298 v1904
  ![v1905.toNat]
def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off55 (d0 : Dev nD) : Fin 3 → Nat :=
  let c0_i32_1298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1291 : BitVec 32 := 11#32
  let v1894 : BitVec 32 := Scalar.addi v2 c11_i32_1291
  let c16_i32_1292 : BitVec 32 := 16#32
  let c0_i32_1293 : BitVec 32 := 0#32
  let v1895 : BitVec 1 := Scalar.cmpi .eq c16_i32_1292 c0_i32_1293
  let c1_i32_1294 : BitVec 32 := 1#32
  let v1896 : BitVec 32 := Scalar.select v1895 c1_i32_1294 c16_i32_1292
  let v1897 : BitVec 32 := Scalar.remsi v1894 v1896
  let c0_i32_1296 : BitVec 32 := 0#32
  let v1899 : BitVec 1 := Scalar.cmpi .slt v1897 c0_i32_1296
  let c0_i32_1297 : BitVec 32 := 0#32
  let v1900 : BitVec 1 := Scalar.cmpi .slt v1896 c0_i32_1297
  let v1901 : BitVec 1 := Scalar.xori v1899 v1900
  let c0_i32_1295 : BitVec 32 := 0#32
  let v1898 : BitVec 1 := Scalar.cmpi .ne v1897 c0_i32_1295
  let v1902 : BitVec 1 := Scalar.andi v1901 v1898
  let v1903 : BitVec 32 := Scalar.addi v1897 v1896
  let v1904 : BitVec 32 := Scalar.select v1902 v1903 v1897
  let v1905 : BitVec 32 := Scalar.addi c0_i32_1298 v1904
  let c0_i32_2486 : BitVec 32 := 0#32
  let c0_i32_2487 : BitVec 32 := 0#32
  ![v1905.toNat, 0, 0]
def k0_dev75 (d0 : Dev nD) : Nat :=
  let c0_i32_2483 : BitVec 32 := 0#32
  let c0_i32_1298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1291 : BitVec 32 := 11#32
  let v1894 : BitVec 32 := Scalar.addi v2 c11_i32_1291
  let c16_i32_1292 : BitVec 32 := 16#32
  let c0_i32_1293 : BitVec 32 := 0#32
  let v1895 : BitVec 1 := Scalar.cmpi .eq c16_i32_1292 c0_i32_1293
  let c1_i32_1294 : BitVec 32 := 1#32
  let v1896 : BitVec 32 := Scalar.select v1895 c1_i32_1294 c16_i32_1292
  let v1897 : BitVec 32 := Scalar.remsi v1894 v1896
  let c0_i32_1296 : BitVec 32 := 0#32
  let v1899 : BitVec 1 := Scalar.cmpi .slt v1897 c0_i32_1296
  let c0_i32_1297 : BitVec 32 := 0#32
  let v1900 : BitVec 1 := Scalar.cmpi .slt v1896 c0_i32_1297
  let v1901 : BitVec 1 := Scalar.xori v1899 v1900
  let c0_i32_1295 : BitVec 32 := 0#32
  let v1898 : BitVec 1 := Scalar.cmpi .ne v1897 c0_i32_1295
  let v1902 : BitVec 1 := Scalar.andi v1901 v1898
  let v1903 : BitVec 32 := Scalar.addi v1897 v1896
  let v1904 : BitVec 32 := Scalar.select v1902 v1903 v1897
  let v1905 : BitVec 32 := Scalar.addi c0_i32_1298 v1904
  let c1_i32_2482 : BitVec 32 := 1#32
  let v3523 : BitVec 32 := Scalar.muli v1905 c1_i32_2482
  let v3524 : BitVec 32 := Scalar.addi c0_i32_2483 v3523
  v3524.toNat
def k0_cond77 (d0 : Dev nD) : BitVec 1 :=
  let c0_i32_1307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1300 : BitVec 32 := 12#32
  let v1909 : BitVec 32 := Scalar.addi v2 c12_i32_1300
  let c16_i32_1301 : BitVec 32 := 16#32
  let c0_i32_1302 : BitVec 32 := 0#32
  let v1910 : BitVec 1 := Scalar.cmpi .eq c16_i32_1301 c0_i32_1302
  let c1_i32_1303 : BitVec 32 := 1#32
  let v1911 : BitVec 32 := Scalar.select v1910 c1_i32_1303 c16_i32_1301
  let v1912 : BitVec 32 := Scalar.remsi v1909 v1911
  let c0_i32_1305 : BitVec 32 := 0#32
  let v1914 : BitVec 1 := Scalar.cmpi .slt v1912 c0_i32_1305
  let c0_i32_1306 : BitVec 32 := 0#32
  let v1915 : BitVec 1 := Scalar.cmpi .slt v1911 c0_i32_1306
  let v1916 : BitVec 1 := Scalar.xori v1914 v1915
  let c0_i32_1304 : BitVec 32 := 0#32
  let v1913 : BitVec 1 := Scalar.cmpi .ne v1912 c0_i32_1304
  let v1917 : BitVec 1 := Scalar.andi v1916 v1913
  let v1918 : BitVec 32 := Scalar.addi v1912 v1911
  let v1919 : BitVec 32 := Scalar.select v1917 v1918 v1912
  let v1920 : BitVec 32 := Scalar.addi c0_i32_1307 v1919
  let v1921 : BitVec 1 := Scalar.cmpi .ne v1920 v2
  let v1922 : BitVec 32 := Scalar.extui v1921
  let c0_i32_1308 : BitVec 32 := 0#32
  let v1923 : BitVec 1 := Scalar.cmpi .ne v1922 c0_i32_1308
  v1923

def k0_off56 (d0 : Dev nD) : Fin 1 → Nat :=
  let c0_i32_1307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1300 : BitVec 32 := 12#32
  let v1909 : BitVec 32 := Scalar.addi v2 c12_i32_1300
  let c16_i32_1301 : BitVec 32 := 16#32
  let c0_i32_1302 : BitVec 32 := 0#32
  let v1910 : BitVec 1 := Scalar.cmpi .eq c16_i32_1301 c0_i32_1302
  let c1_i32_1303 : BitVec 32 := 1#32
  let v1911 : BitVec 32 := Scalar.select v1910 c1_i32_1303 c16_i32_1301
  let v1912 : BitVec 32 := Scalar.remsi v1909 v1911
  let c0_i32_1305 : BitVec 32 := 0#32
  let v1914 : BitVec 1 := Scalar.cmpi .slt v1912 c0_i32_1305
  let c0_i32_1306 : BitVec 32 := 0#32
  let v1915 : BitVec 1 := Scalar.cmpi .slt v1911 c0_i32_1306
  let v1916 : BitVec 1 := Scalar.xori v1914 v1915
  let c0_i32_1304 : BitVec 32 := 0#32
  let v1913 : BitVec 1 := Scalar.cmpi .ne v1912 c0_i32_1304
  let v1917 : BitVec 1 := Scalar.andi v1916 v1913
  let v1918 : BitVec 32 := Scalar.addi v1912 v1911
  let v1919 : BitVec 32 := Scalar.select v1917 v1918 v1912
  let v1920 : BitVec 32 := Scalar.addi c0_i32_1307 v1919
  ![v1920.toNat]
def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off59 (d0 : Dev nD) : Fin 3 → Nat :=
  let c0_i32_1307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1300 : BitVec 32 := 12#32
  let v1909 : BitVec 32 := Scalar.addi v2 c12_i32_1300
  let c16_i32_1301 : BitVec 32 := 16#32
  let c0_i32_1302 : BitVec 32 := 0#32
  let v1910 : BitVec 1 := Scalar.cmpi .eq c16_i32_1301 c0_i32_1302
  let c1_i32_1303 : BitVec 32 := 1#32
  let v1911 : BitVec 32 := Scalar.select v1910 c1_i32_1303 c16_i32_1301
  let v1912 : BitVec 32 := Scalar.remsi v1909 v1911
  let c0_i32_1305 : BitVec 32 := 0#32
  let v1914 : BitVec 1 := Scalar.cmpi .slt v1912 c0_i32_1305
  let c0_i32_1306 : BitVec 32 := 0#32
  let v1915 : BitVec 1 := Scalar.cmpi .slt v1911 c0_i32_1306
  let v1916 : BitVec 1 := Scalar.xori v1914 v1915
  let c0_i32_1304 : BitVec 32 := 0#32
  let v1913 : BitVec 1 := Scalar.cmpi .ne v1912 c0_i32_1304
  let v1917 : BitVec 1 := Scalar.andi v1916 v1913
  let v1918 : BitVec 32 := Scalar.addi v1912 v1911
  let v1919 : BitVec 32 := Scalar.select v1917 v1918 v1912
  let v1920 : BitVec 32 := Scalar.addi c0_i32_1307 v1919
  let c0_i32_2486 : BitVec 32 := 0#32
  let c0_i32_2487 : BitVec 32 := 0#32
  ![v1920.toNat, 0, 0]
def k0_dev76 (d0 : Dev nD) : Nat :=
  let c0_i32_2483 : BitVec 32 := 0#32
  let c0_i32_1307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1300 : BitVec 32 := 12#32
  let v1909 : BitVec 32 := Scalar.addi v2 c12_i32_1300
  let c16_i32_1301 : BitVec 32 := 16#32
  let c0_i32_1302 : BitVec 32 := 0#32
  let v1910 : BitVec 1 := Scalar.cmpi .eq c16_i32_1301 c0_i32_1302
  let c1_i32_1303 : BitVec 32 := 1#32
  let v1911 : BitVec 32 := Scalar.select v1910 c1_i32_1303 c16_i32_1301
  let v1912 : BitVec 32 := Scalar.remsi v1909 v1911
  let c0_i32_1305 : BitVec 32 := 0#32
  let v1914 : BitVec 1 := Scalar.cmpi .slt v1912 c0_i32_1305
  let c0_i32_1306 : BitVec 32 := 0#32
  let v1915 : BitVec 1 := Scalar.cmpi .slt v1911 c0_i32_1306
  let v1916 : BitVec 1 := Scalar.xori v1914 v1915
  let c0_i32_1304 : BitVec 32 := 0#32
  let v1913 : BitVec 1 := Scalar.cmpi .ne v1912 c0_i32_1304
  let v1917 : BitVec 1 := Scalar.andi v1916 v1913
  let v1918 : BitVec 32 := Scalar.addi v1912 v1911
  let v1919 : BitVec 32 := Scalar.select v1917 v1918 v1912
  let v1920 : BitVec 32 := Scalar.addi c0_i32_1307 v1919
  let c1_i32_2482 : BitVec 32 := 1#32
  let v3523 : BitVec 32 := Scalar.muli v1920 c1_i32_2482
  let v3524 : BitVec 32 := Scalar.addi c0_i32_2483 v3523
  v3524.toNat
def k0_cond78 (d0 : Dev nD) : BitVec 1 :=
  let c0_i32_1316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1309 : BitVec 32 := 13#32
  let v1924 : BitVec 32 := Scalar.addi v2 c13_i32_1309
  let c16_i32_1310 : BitVec 32 := 16#32
  let c0_i32_1311 : BitVec 32 := 0#32
  let v1925 : BitVec 1 := Scalar.cmpi .eq c16_i32_1310 c0_i32_1311
  let c1_i32_1312 : BitVec 32 := 1#32
  let v1926 : BitVec 32 := Scalar.select v1925 c1_i32_1312 c16_i32_1310
  let v1927 : BitVec 32 := Scalar.remsi v1924 v1926
  let c0_i32_1314 : BitVec 32 := 0#32
  let v1929 : BitVec 1 := Scalar.cmpi .slt v1927 c0_i32_1314
  let c0_i32_1315 : BitVec 32 := 0#32
  let v1930 : BitVec 1 := Scalar.cmpi .slt v1926 c0_i32_1315
  let v1931 : BitVec 1 := Scalar.xori v1929 v1930
  let c0_i32_1313 : BitVec 32 := 0#32
  let v1928 : BitVec 1 := Scalar.cmpi .ne v1927 c0_i32_1313
  let v1932 : BitVec 1 := Scalar.andi v1931 v1928
  let v1933 : BitVec 32 := Scalar.addi v1927 v1926
  let v1934 : BitVec 32 := Scalar.select v1932 v1933 v1927
  let v1935 : BitVec 32 := Scalar.addi c0_i32_1316 v1934
  let v1936 : BitVec 1 := Scalar.cmpi .ne v1935 v2
  let v1937 : BitVec 32 := Scalar.extui v1936
  let c0_i32_1317 : BitVec 32 := 0#32
  let v1938 : BitVec 1 := Scalar.cmpi .ne v1937 c0_i32_1317
  v1938

def k0_off60 (d0 : Dev nD) : Fin 1 → Nat :=
  let c0_i32_1316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1309 : BitVec 32 := 13#32
  let v1924 : BitVec 32 := Scalar.addi v2 c13_i32_1309
  let c16_i32_1310 : BitVec 32 := 16#32
  let c0_i32_1311 : BitVec 32 := 0#32
  let v1925 : BitVec 1 := Scalar.cmpi .eq c16_i32_1310 c0_i32_1311
  let c1_i32_1312 : BitVec 32 := 1#32
  let v1926 : BitVec 32 := Scalar.select v1925 c1_i32_1312 c16_i32_1310
  let v1927 : BitVec 32 := Scalar.remsi v1924 v1926
  let c0_i32_1314 : BitVec 32 := 0#32
  let v1929 : BitVec 1 := Scalar.cmpi .slt v1927 c0_i32_1314
  let c0_i32_1315 : BitVec 32 := 0#32
  let v1930 : BitVec 1 := Scalar.cmpi .slt v1926 c0_i32_1315
  let v1931 : BitVec 1 := Scalar.xori v1929 v1930
  let c0_i32_1313 : BitVec 32 := 0#32
  let v1928 : BitVec 1 := Scalar.cmpi .ne v1927 c0_i32_1313
  let v1932 : BitVec 1 := Scalar.andi v1931 v1928
  let v1933 : BitVec 32 := Scalar.addi v1927 v1926
  let v1934 : BitVec 32 := Scalar.select v1932 v1933 v1927
  let v1935 : BitVec 32 := Scalar.addi c0_i32_1316 v1934
  ![v1935.toNat]
def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off63 (d0 : Dev nD) : Fin 3 → Nat :=
  let c0_i32_1316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1309 : BitVec 32 := 13#32
  let v1924 : BitVec 32 := Scalar.addi v2 c13_i32_1309
  let c16_i32_1310 : BitVec 32 := 16#32
  let c0_i32_1311 : BitVec 32 := 0#32
  let v1925 : BitVec 1 := Scalar.cmpi .eq c16_i32_1310 c0_i32_1311
  let c1_i32_1312 : BitVec 32 := 1#32
  let v1926 : BitVec 32 := Scalar.select v1925 c1_i32_1312 c16_i32_1310
  let v1927 : BitVec 32 := Scalar.remsi v1924 v1926
  let c0_i32_1314 : BitVec 32 := 0#32
  let v1929 : BitVec 1 := Scalar.cmpi .slt v1927 c0_i32_1314
  let c0_i32_1315 : BitVec 32 := 0#32
  let v1930 : BitVec 1 := Scalar.cmpi .slt v1926 c0_i32_1315
  let v1931 : BitVec 1 := Scalar.xori v1929 v1930
  let c0_i32_1313 : BitVec 32 := 0#32
  let v1928 : BitVec 1 := Scalar.cmpi .ne v1927 c0_i32_1313
  let v1932 : BitVec 1 := Scalar.andi v1931 v1928
  let v1933 : BitVec 32 := Scalar.addi v1927 v1926
  let v1934 : BitVec 32 := Scalar.select v1932 v1933 v1927
  let v1935 : BitVec 32 := Scalar.addi c0_i32_1316 v1934
  let c0_i32_2486 : BitVec 32 := 0#32
  let c0_i32_2487 : BitVec 32 := 0#32
  ![v1935.toNat, 0, 0]
def k0_dev77 (d0 : Dev nD) : Nat :=
  let c0_i32_2483 : BitVec 32 := 0#32
  let c0_i32_1316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1309 : BitVec 32 := 13#32
  let v1924 : BitVec 32 := Scalar.addi v2 c13_i32_1309
  let c16_i32_1310 : BitVec 32 := 16#32
  let c0_i32_1311 : BitVec 32 := 0#32
  let v1925 : BitVec 1 := Scalar.cmpi .eq c16_i32_1310 c0_i32_1311
  let c1_i32_1312 : BitVec 32 := 1#32
  let v1926 : BitVec 32 := Scalar.select v1925 c1_i32_1312 c16_i32_1310
  let v1927 : BitVec 32 := Scalar.remsi v1924 v1926
  let c0_i32_1314 : BitVec 32 := 0#32
  let v1929 : BitVec 1 := Scalar.cmpi .slt v1927 c0_i32_1314
  let c0_i32_1315 : BitVec 32 := 0#32
  let v1930 : BitVec 1 := Scalar.cmpi .slt v1926 c0_i32_1315
  let v1931 : BitVec 1 := Scalar.xori v1929 v1930
  let c0_i32_1313 : BitVec 32 := 0#32
  let v1928 : BitVec 1 := Scalar.cmpi .ne v1927 c0_i32_1313
  let v1932 : BitVec 1 := Scalar.andi v1931 v1928
  let v1933 : BitVec 32 := Scalar.addi v1927 v1926
  let v1934 : BitVec 32 := Scalar.select v1932 v1933 v1927
  let v1935 : BitVec 32 := Scalar.addi c0_i32_1316 v1934
  let c1_i32_2482 : BitVec 32 := 1#32
  let v3523 : BitVec 32 := Scalar.muli v1935 c1_i32_2482
  let v3524 : BitVec 32 := Scalar.addi c0_i32_2483 v3523
  v3524.toNat
def k0_cond79 (d0 : Dev nD) : BitVec 1 :=
  let c0_i32_1325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1318 : BitVec 32 := 14#32
  let v1939 : BitVec 32 := Scalar.addi v2 c14_i32_1318
  let c16_i32_1319 : BitVec 32 := 16#32
  let c0_i32_1320 : BitVec 32 := 0#32
  let v1940 : BitVec 1 := Scalar.cmpi .eq c16_i32_1319 c0_i32_1320
  let c1_i32_1321 : BitVec 32 := 1#32
  let v1941 : BitVec 32 := Scalar.select v1940 c1_i32_1321 c16_i32_1319
  let v1942 : BitVec 32 := Scalar.remsi v1939 v1941
  let c0_i32_1323 : BitVec 32 := 0#32
  let v1944 : BitVec 1 := Scalar.cmpi .slt v1942 c0_i32_1323
  let c0_i32_1324 : BitVec 32 := 0#32
  let v1945 : BitVec 1 := Scalar.cmpi .slt v1941 c0_i32_1324
  let v1946 : BitVec 1 := Scalar.xori v1944 v1945
  let c0_i32_1322 : BitVec 32 := 0#32
  let v1943 : BitVec 1 := Scalar.cmpi .ne v1942 c0_i32_1322
  let v1947 : BitVec 1 := Scalar.andi v1946 v1943
  let v1948 : BitVec 32 := Scalar.addi v1942 v1941
  let v1949 : BitVec 32 := Scalar.select v1947 v1948 v1942
  let v1950 : BitVec 32 := Scalar.addi c0_i32_1325 v1949
  let v1951 : BitVec 1 := Scalar.cmpi .ne v1950 v2
  let v1952 : BitVec 32 := Scalar.extui v1951
  let c0_i32_1326 : BitVec 32 := 0#32
  let v1953 : BitVec 1 := Scalar.cmpi .ne v1952 c0_i32_1326
  v1953

def k0_off64 (d0 : Dev nD) : Fin 1 → Nat :=
  let c0_i32_1325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1318 : BitVec 32 := 14#32
  let v1939 : BitVec 32 := Scalar.addi v2 c14_i32_1318
  let c16_i32_1319 : BitVec 32 := 16#32
  let c0_i32_1320 : BitVec 32 := 0#32
  let v1940 : BitVec 1 := Scalar.cmpi .eq c16_i32_1319 c0_i32_1320
  let c1_i32_1321 : BitVec 32 := 1#32
  let v1941 : BitVec 32 := Scalar.select v1940 c1_i32_1321 c16_i32_1319
  let v1942 : BitVec 32 := Scalar.remsi v1939 v1941
  let c0_i32_1323 : BitVec 32 := 0#32
  let v1944 : BitVec 1 := Scalar.cmpi .slt v1942 c0_i32_1323
  let c0_i32_1324 : BitVec 32 := 0#32
  let v1945 : BitVec 1 := Scalar.cmpi .slt v1941 c0_i32_1324
  let v1946 : BitVec 1 := Scalar.xori v1944 v1945
  let c0_i32_1322 : BitVec 32 := 0#32
  let v1943 : BitVec 1 := Scalar.cmpi .ne v1942 c0_i32_1322
  let v1947 : BitVec 1 := Scalar.andi v1946 v1943
  let v1948 : BitVec 32 := Scalar.addi v1942 v1941
  let v1949 : BitVec 32 := Scalar.select v1947 v1948 v1942
  let v1950 : BitVec 32 := Scalar.addi c0_i32_1325 v1949
  ![v1950.toNat]
def k0_off65 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off67 (d0 : Dev nD) : Fin 3 → Nat :=
  let c0_i32_1325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1318 : BitVec 32 := 14#32
  let v1939 : BitVec 32 := Scalar.addi v2 c14_i32_1318
  let c16_i32_1319 : BitVec 32 := 16#32
  let c0_i32_1320 : BitVec 32 := 0#32
  let v1940 : BitVec 1 := Scalar.cmpi .eq c16_i32_1319 c0_i32_1320
  let c1_i32_1321 : BitVec 32 := 1#32
  let v1941 : BitVec 32 := Scalar.select v1940 c1_i32_1321 c16_i32_1319
  let v1942 : BitVec 32 := Scalar.remsi v1939 v1941
  let c0_i32_1323 : BitVec 32 := 0#32
  let v1944 : BitVec 1 := Scalar.cmpi .slt v1942 c0_i32_1323
  let c0_i32_1324 : BitVec 32 := 0#32
  let v1945 : BitVec 1 := Scalar.cmpi .slt v1941 c0_i32_1324
  let v1946 : BitVec 1 := Scalar.xori v1944 v1945
  let c0_i32_1322 : BitVec 32 := 0#32
  let v1943 : BitVec 1 := Scalar.cmpi .ne v1942 c0_i32_1322
  let v1947 : BitVec 1 := Scalar.andi v1946 v1943
  let v1948 : BitVec 32 := Scalar.addi v1942 v1941
  let v1949 : BitVec 32 := Scalar.select v1947 v1948 v1942
  let v1950 : BitVec 32 := Scalar.addi c0_i32_1325 v1949
  let c0_i32_2486 : BitVec 32 := 0#32
  let c0_i32_2487 : BitVec 32 := 0#32
  ![v1950.toNat, 0, 0]
def k0_dev78 (d0 : Dev nD) : Nat :=
  let c0_i32_2483 : BitVec 32 := 0#32
  let c0_i32_1325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1318 : BitVec 32 := 14#32
  let v1939 : BitVec 32 := Scalar.addi v2 c14_i32_1318
  let c16_i32_1319 : BitVec 32 := 16#32
  let c0_i32_1320 : BitVec 32 := 0#32
  let v1940 : BitVec 1 := Scalar.cmpi .eq c16_i32_1319 c0_i32_1320
  let c1_i32_1321 : BitVec 32 := 1#32
  let v1941 : BitVec 32 := Scalar.select v1940 c1_i32_1321 c16_i32_1319
  let v1942 : BitVec 32 := Scalar.remsi v1939 v1941
  let c0_i32_1323 : BitVec 32 := 0#32
  let v1944 : BitVec 1 := Scalar.cmpi .slt v1942 c0_i32_1323
  let c0_i32_1324 : BitVec 32 := 0#32
  let v1945 : BitVec 1 := Scalar.cmpi .slt v1941 c0_i32_1324
  let v1946 : BitVec 1 := Scalar.xori v1944 v1945
  let c0_i32_1322 : BitVec 32 := 0#32
  let v1943 : BitVec 1 := Scalar.cmpi .ne v1942 c0_i32_1322
  let v1947 : BitVec 1 := Scalar.andi v1946 v1943
  let v1948 : BitVec 32 := Scalar.addi v1942 v1941
  let v1949 : BitVec 32 := Scalar.select v1947 v1948 v1942
  let v1950 : BitVec 32 := Scalar.addi c0_i32_1325 v1949
  let c1_i32_2482 : BitVec 32 := 1#32
  let v3523 : BitVec 32 := Scalar.muli v1950 c1_i32_2482
  let v3524 : BitVec 32 := Scalar.addi c0_i32_2483 v3523
  v3524.toNat
def k0_cond80 (d0 : Dev nD) : BitVec 1 :=
  let c0_i32_1334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1327 : BitVec 32 := 15#32
  let v1954 : BitVec 32 := Scalar.addi v2 c15_i32_1327
  let c16_i32_1328 : BitVec 32 := 16#32
  let c0_i32_1329 : BitVec 32 := 0#32
  let v1955 : BitVec 1 := Scalar.cmpi .eq c16_i32_1328 c0_i32_1329
  let c1_i32_1330 : BitVec 32 := 1#32
  let v1956 : BitVec 32 := Scalar.select v1955 c1_i32_1330 c16_i32_1328
  let v1957 : BitVec 32 := Scalar.remsi v1954 v1956
  let c0_i32_1332 : BitVec 32 := 0#32
  let v1959 : BitVec 1 := Scalar.cmpi .slt v1957 c0_i32_1332
  let c0_i32_1333 : BitVec 32 := 0#32
  let v1960 : BitVec 1 := Scalar.cmpi .slt v1956 c0_i32_1333
  let v1961 : BitVec 1 := Scalar.xori v1959 v1960
  let c0_i32_1331 : BitVec 32 := 0#32
  let v1958 : BitVec 1 := Scalar.cmpi .ne v1957 c0_i32_1331
  let v1962 : BitVec 1 := Scalar.andi v1961 v1958
  let v1963 : BitVec 32 := Scalar.addi v1957 v1956
  let v1964 : BitVec 32 := Scalar.select v1962 v1963 v1957
  let v1965 : BitVec 32 := Scalar.addi c0_i32_1334 v1964
  let v1966 : BitVec 1 := Scalar.cmpi .ne v1965 v2
  let v1967 : BitVec 32 := Scalar.extui v1966
  let c0_i32_1335 : BitVec 32 := 0#32
  let v1968 : BitVec 1 := Scalar.cmpi .ne v1967 c0_i32_1335
  v1968

def k0_off68 (d0 : Dev nD) : Fin 1 → Nat :=
  let c0_i32_1334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1327 : BitVec 32 := 15#32
  let v1954 : BitVec 32 := Scalar.addi v2 c15_i32_1327
  let c16_i32_1328 : BitVec 32 := 16#32
  let c0_i32_1329 : BitVec 32 := 0#32
  let v1955 : BitVec 1 := Scalar.cmpi .eq c16_i32_1328 c0_i32_1329
  let c1_i32_1330 : BitVec 32 := 1#32
  let v1956 : BitVec 32 := Scalar.select v1955 c1_i32_1330 c16_i32_1328
  let v1957 : BitVec 32 := Scalar.remsi v1954 v1956
  let c0_i32_1332 : BitVec 32 := 0#32
  let v1959 : BitVec 1 := Scalar.cmpi .slt v1957 c0_i32_1332
  let c0_i32_1333 : BitVec 32 := 0#32
  let v1960 : BitVec 1 := Scalar.cmpi .slt v1956 c0_i32_1333
  let v1961 : BitVec 1 := Scalar.xori v1959 v1960
  let c0_i32_1331 : BitVec 32 := 0#32
  let v1958 : BitVec 1 := Scalar.cmpi .ne v1957 c0_i32_1331
  let v1962 : BitVec 1 := Scalar.andi v1961 v1958
  let v1963 : BitVec 32 := Scalar.addi v1957 v1956
  let v1964 : BitVec 32 := Scalar.select v1962 v1963 v1957
  let v1965 : BitVec 32 := Scalar.addi c0_i32_1334 v1964
  ![v1965.toNat]
def k0_off69 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off71 (d0 : Dev nD) : Fin 3 → Nat :=
  let c0_i32_1334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1327 : BitVec 32 := 15#32
  let v1954 : BitVec 32 := Scalar.addi v2 c15_i32_1327
  let c16_i32_1328 : BitVec 32 := 16#32
  let c0_i32_1329 : BitVec 32 := 0#32
  let v1955 : BitVec 1 := Scalar.cmpi .eq c16_i32_1328 c0_i32_1329
  let c1_i32_1330 : BitVec 32 := 1#32
  let v1956 : BitVec 32 := Scalar.select v1955 c1_i32_1330 c16_i32_1328
  let v1957 : BitVec 32 := Scalar.remsi v1954 v1956
  let c0_i32_1332 : BitVec 32 := 0#32
  let v1959 : BitVec 1 := Scalar.cmpi .slt v1957 c0_i32_1332
  let c0_i32_1333 : BitVec 32 := 0#32
  let v1960 : BitVec 1 := Scalar.cmpi .slt v1956 c0_i32_1333
  let v1961 : BitVec 1 := Scalar.xori v1959 v1960
  let c0_i32_1331 : BitVec 32 := 0#32
  let v1958 : BitVec 1 := Scalar.cmpi .ne v1957 c0_i32_1331
  let v1962 : BitVec 1 := Scalar.andi v1961 v1958
  let v1963 : BitVec 32 := Scalar.addi v1957 v1956
  let v1964 : BitVec 32 := Scalar.select v1962 v1963 v1957
  let v1965 : BitVec 32 := Scalar.addi c0_i32_1334 v1964
  let c0_i32_2486 : BitVec 32 := 0#32
  let c0_i32_2487 : BitVec 32 := 0#32
  ![v1965.toNat, 0, 0]
def k0_dev79 (d0 : Dev nD) : Nat :=
  let c0_i32_2483 : BitVec 32 := 0#32
  let c0_i32_1334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1327 : BitVec 32 := 15#32
  let v1954 : BitVec 32 := Scalar.addi v2 c15_i32_1327
  let c16_i32_1328 : BitVec 32 := 16#32
  let c0_i32_1329 : BitVec 32 := 0#32
  let v1955 : BitVec 1 := Scalar.cmpi .eq c16_i32_1328 c0_i32_1329
  let c1_i32_1330 : BitVec 32 := 1#32
  let v1956 : BitVec 32 := Scalar.select v1955 c1_i32_1330 c16_i32_1328
  let v1957 : BitVec 32 := Scalar.remsi v1954 v1956
  let c0_i32_1332 : BitVec 32 := 0#32
  let v1959 : BitVec 1 := Scalar.cmpi .slt v1957 c0_i32_1332
  let c0_i32_1333 : BitVec 32 := 0#32
  let v1960 : BitVec 1 := Scalar.cmpi .slt v1956 c0_i32_1333
  let v1961 : BitVec 1 := Scalar.xori v1959 v1960
  let c0_i32_1331 : BitVec 32 := 0#32
  let v1958 : BitVec 1 := Scalar.cmpi .ne v1957 c0_i32_1331
  let v1962 : BitVec 1 := Scalar.andi v1961 v1958
  let v1963 : BitVec 32 := Scalar.addi v1957 v1956
  let v1964 : BitVec 32 := Scalar.select v1962 v1963 v1957
  let v1965 : BitVec 32 := Scalar.addi c0_i32_1334 v1964
  let c1_i32_2482 : BitVec 32 := 1#32
  let v3523 : BitVec 32 := Scalar.muli v1965 c1_i32_2482
  let v3524 : BitVec 32 := Scalar.addi c0_i32_2483 v3523
  v3524.toNat
def k0_cond81 (d0 : Dev nD) : BitVec 1 :=
  let c16_i32_1440 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1433 : BitVec 32 := 0#32
  let v2115 : BitVec 32 := Scalar.addi v2 c0_i32_1433
  let c16_i32_1434 : BitVec 32 := 16#32
  let c0_i32_1435 : BitVec 32 := 0#32
  let v2116 : BitVec 1 := Scalar.cmpi .eq c16_i32_1434 c0_i32_1435
  let c1_i32_1436 : BitVec 32 := 1#32
  let v2117 : BitVec 32 := Scalar.select v2116 c1_i32_1436 c16_i32_1434
  let v2118 : BitVec 32 := Scalar.remsi v2115 v2117
  let c0_i32_1438 : BitVec 32 := 0#32
  let v2120 : BitVec 1 := Scalar.cmpi .slt v2118 c0_i32_1438
  let c0_i32_1439 : BitVec 32 := 0#32
  let v2121 : BitVec 1 := Scalar.cmpi .slt v2117 c0_i32_1439
  let v2122 : BitVec 1 := Scalar.xori v2120 v2121
  let c0_i32_1437 : BitVec 32 := 0#32
  let v2119 : BitVec 1 := Scalar.cmpi .ne v2118 c0_i32_1437
  let v2123 : BitVec 1 := Scalar.andi v2122 v2119
  let v2124 : BitVec 32 := Scalar.addi v2118 v2117
  let v2125 : BitVec 32 := Scalar.select v2123 v2124 v2118
  let v2126 : BitVec 32 := Scalar.addi c16_i32_1440 v2125
  let v2127 : BitVec 1 := Scalar.cmpi .ne v2126 v2
  let v2128 : BitVec 32 := Scalar.extui v2127
  let c0_i32_1441 : BitVec 32 := 0#32
  let v2129 : BitVec 1 := Scalar.cmpi .ne v2128 c0_i32_1441
  v2129

def k0_off72 (d0 : Dev nD) : Fin 1 → Nat :=
  let c16_i32_1440 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1433 : BitVec 32 := 0#32
  let v2115 : BitVec 32 := Scalar.addi v2 c0_i32_1433
  let c16_i32_1434 : BitVec 32 := 16#32
  let c0_i32_1435 : BitVec 32 := 0#32
  let v2116 : BitVec 1 := Scalar.cmpi .eq c16_i32_1434 c0_i32_1435
  let c1_i32_1436 : BitVec 32 := 1#32
  let v2117 : BitVec 32 := Scalar.select v2116 c1_i32_1436 c16_i32_1434
  let v2118 : BitVec 32 := Scalar.remsi v2115 v2117
  let c0_i32_1438 : BitVec 32 := 0#32
  let v2120 : BitVec 1 := Scalar.cmpi .slt v2118 c0_i32_1438
  let c0_i32_1439 : BitVec 32 := 0#32
  let v2121 : BitVec 1 := Scalar.cmpi .slt v2117 c0_i32_1439
  let v2122 : BitVec 1 := Scalar.xori v2120 v2121
  let c0_i32_1437 : BitVec 32 := 0#32
  let v2119 : BitVec 1 := Scalar.cmpi .ne v2118 c0_i32_1437
  let v2123 : BitVec 1 := Scalar.andi v2122 v2119
  let v2124 : BitVec 32 := Scalar.addi v2118 v2117
  let v2125 : BitVec 32 := Scalar.select v2123 v2124 v2118
  let v2126 : BitVec 32 := Scalar.addi c16_i32_1440 v2125
  ![v2126.toNat]
def k0_off73 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off75 (d0 : Dev nD) : Fin 3 → Nat :=
  let c16_i32_1440 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1433 : BitVec 32 := 0#32
  let v2115 : BitVec 32 := Scalar.addi v2 c0_i32_1433
  let c16_i32_1434 : BitVec 32 := 16#32
  let c0_i32_1435 : BitVec 32 := 0#32
  let v2116 : BitVec 1 := Scalar.cmpi .eq c16_i32_1434 c0_i32_1435
  let c1_i32_1436 : BitVec 32 := 1#32
  let v2117 : BitVec 32 := Scalar.select v2116 c1_i32_1436 c16_i32_1434
  let v2118 : BitVec 32 := Scalar.remsi v2115 v2117
  let c0_i32_1438 : BitVec 32 := 0#32
  let v2120 : BitVec 1 := Scalar.cmpi .slt v2118 c0_i32_1438
  let c0_i32_1439 : BitVec 32 := 0#32
  let v2121 : BitVec 1 := Scalar.cmpi .slt v2117 c0_i32_1439
  let v2122 : BitVec 1 := Scalar.xori v2120 v2121
  let c0_i32_1437 : BitVec 32 := 0#32
  let v2119 : BitVec 1 := Scalar.cmpi .ne v2118 c0_i32_1437
  let v2123 : BitVec 1 := Scalar.andi v2122 v2119
  let v2124 : BitVec 32 := Scalar.addi v2118 v2117
  let v2125 : BitVec 32 := Scalar.select v2123 v2124 v2118
  let v2126 : BitVec 32 := Scalar.addi c16_i32_1440 v2125
  let c0_i32_2486 : BitVec 32 := 0#32
  let c0_i32_2487 : BitVec 32 := 0#32
  ![v2126.toNat, 0, 0]
def k0_dev80 (d0 : Dev nD) : Nat :=
  let c0_i32_2483 : BitVec 32 := 0#32
  let c16_i32_1440 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1433 : BitVec 32 := 0#32
  let v2115 : BitVec 32 := Scalar.addi v2 c0_i32_1433
  let c16_i32_1434 : BitVec 32 := 16#32
  let c0_i32_1435 : BitVec 32 := 0#32
  let v2116 : BitVec 1 := Scalar.cmpi .eq c16_i32_1434 c0_i32_1435
  let c1_i32_1436 : BitVec 32 := 1#32
  let v2117 : BitVec 32 := Scalar.select v2116 c1_i32_1436 c16_i32_1434
  let v2118 : BitVec 32 := Scalar.remsi v2115 v2117
  let c0_i32_1438 : BitVec 32 := 0#32
  let v2120 : BitVec 1 := Scalar.cmpi .slt v2118 c0_i32_1438
  let c0_i32_1439 : BitVec 32 := 0#32
  let v2121 : BitVec 1 := Scalar.cmpi .slt v2117 c0_i32_1439
  let v2122 : BitVec 1 := Scalar.xori v2120 v2121
  let c0_i32_1437 : BitVec 32 := 0#32
  let v2119 : BitVec 1 := Scalar.cmpi .ne v2118 c0_i32_1437
  let v2123 : BitVec 1 := Scalar.andi v2122 v2119
  let v2124 : BitVec 32 := Scalar.addi v2118 v2117
  let v2125 : BitVec 32 := Scalar.select v2123 v2124 v2118
  let v2126 : BitVec 32 := Scalar.addi c16_i32_1440 v2125
  let c1_i32_2482 : BitVec 32 := 1#32
  let v3523 : BitVec 32 := Scalar.muli v2126 c1_i32_2482
  let v3524 : BitVec 32 := Scalar.addi c0_i32_2483 v3523
  v3524.toNat
def k0_cond82 (d0 : Dev nD) : BitVec 1 :=
  let c16_i32_1449 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1442 : BitVec 32 := 1#32
  let v2130 : BitVec 32 := Scalar.addi v2 c1_i32_1442
  let c16_i32_1443 : BitVec 32 := 16#32
  let c0_i32_1444 : BitVec 32 := 0#32
  let v2131 : BitVec 1 := Scalar.cmpi .eq c16_i32_1443 c0_i32_1444
  let c1_i32_1445 : BitVec 32 := 1#32
  let v2132 : BitVec 32 := Scalar.select v2131 c1_i32_1445 c16_i32_1443
  let v2133 : BitVec 32 := Scalar.remsi v2130 v2132
  let c0_i32_1447 : BitVec 32 := 0#32
  let v2135 : BitVec 1 := Scalar.cmpi .slt v2133 c0_i32_1447
  let c0_i32_1448 : BitVec 32 := 0#32
  let v2136 : BitVec 1 := Scalar.cmpi .slt v2132 c0_i32_1448
  let v2137 : BitVec 1 := Scalar.xori v2135 v2136
  let c0_i32_1446 : BitVec 32 := 0#32
  let v2134 : BitVec 1 := Scalar.cmpi .ne v2133 c0_i32_1446
  let v2138 : BitVec 1 := Scalar.andi v2137 v2134
  let v2139 : BitVec 32 := Scalar.addi v2133 v2132
  let v2140 : BitVec 32 := Scalar.select v2138 v2139 v2133
  let v2141 : BitVec 32 := Scalar.addi c16_i32_1449 v2140
  let v2142 : BitVec 1 := Scalar.cmpi .ne v2141 v2
  let v2143 : BitVec 32 := Scalar.extui v2142
  let c0_i32_1450 : BitVec 32 := 0#32
  let v2144 : BitVec 1 := Scalar.cmpi .ne v2143 c0_i32_1450
  v2144

def k0_off76 (d0 : Dev nD) : Fin 1 → Nat :=
  let c16_i32_1449 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1442 : BitVec 32 := 1#32
  let v2130 : BitVec 32 := Scalar.addi v2 c1_i32_1442
  let c16_i32_1443 : BitVec 32 := 16#32
  let c0_i32_1444 : BitVec 32 := 0#32
  let v2131 : BitVec 1 := Scalar.cmpi .eq c16_i32_1443 c0_i32_1444
  let c1_i32_1445 : BitVec 32 := 1#32
  let v2132 : BitVec 32 := Scalar.select v2131 c1_i32_1445 c16_i32_1443
  let v2133 : BitVec 32 := Scalar.remsi v2130 v2132
  let c0_i32_1447 : BitVec 32 := 0#32
  let v2135 : BitVec 1 := Scalar.cmpi .slt v2133 c0_i32_1447
  let c0_i32_1448 : BitVec 32 := 0#32
  let v2136 : BitVec 1 := Scalar.cmpi .slt v2132 c0_i32_1448
  let v2137 : BitVec 1 := Scalar.xori v2135 v2136
  let c0_i32_1446 : BitVec 32 := 0#32
  let v2134 : BitVec 1 := Scalar.cmpi .ne v2133 c0_i32_1446
  let v2138 : BitVec 1 := Scalar.andi v2137 v2134
  let v2139 : BitVec 32 := Scalar.addi v2133 v2132
  let v2140 : BitVec 32 := Scalar.select v2138 v2139 v2133
  let v2141 : BitVec 32 := Scalar.addi c16_i32_1449 v2140
  ![v2141.toNat]
def k0_off77 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off79 (d0 : Dev nD) : Fin 3 → Nat :=
  let c16_i32_1449 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1442 : BitVec 32 := 1#32
  let v2130 : BitVec 32 := Scalar.addi v2 c1_i32_1442
  let c16_i32_1443 : BitVec 32 := 16#32
  let c0_i32_1444 : BitVec 32 := 0#32
  let v2131 : BitVec 1 := Scalar.cmpi .eq c16_i32_1443 c0_i32_1444
  let c1_i32_1445 : BitVec 32 := 1#32
  let v2132 : BitVec 32 := Scalar.select v2131 c1_i32_1445 c16_i32_1443
  let v2133 : BitVec 32 := Scalar.remsi v2130 v2132
  let c0_i32_1447 : BitVec 32 := 0#32
  let v2135 : BitVec 1 := Scalar.cmpi .slt v2133 c0_i32_1447
  let c0_i32_1448 : BitVec 32 := 0#32
  let v2136 : BitVec 1 := Scalar.cmpi .slt v2132 c0_i32_1448
  let v2137 : BitVec 1 := Scalar.xori v2135 v2136
  let c0_i32_1446 : BitVec 32 := 0#32
  let v2134 : BitVec 1 := Scalar.cmpi .ne v2133 c0_i32_1446
  let v2138 : BitVec 1 := Scalar.andi v2137 v2134
  let v2139 : BitVec 32 := Scalar.addi v2133 v2132
  let v2140 : BitVec 32 := Scalar.select v2138 v2139 v2133
  let v2141 : BitVec 32 := Scalar.addi c16_i32_1449 v2140
  let c0_i32_2486 : BitVec 32 := 0#32
  let c0_i32_2487 : BitVec 32 := 0#32
  ![v2141.toNat, 0, 0]
def k0_dev81 (d0 : Dev nD) : Nat :=
  let c0_i32_2483 : BitVec 32 := 0#32
  let c16_i32_1449 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1442 : BitVec 32 := 1#32
  let v2130 : BitVec 32 := Scalar.addi v2 c1_i32_1442
  let c16_i32_1443 : BitVec 32 := 16#32
  let c0_i32_1444 : BitVec 32 := 0#32
  let v2131 : BitVec 1 := Scalar.cmpi .eq c16_i32_1443 c0_i32_1444
  let c1_i32_1445 : BitVec 32 := 1#32
  let v2132 : BitVec 32 := Scalar.select v2131 c1_i32_1445 c16_i32_1443
  let v2133 : BitVec 32 := Scalar.remsi v2130 v2132
  let c0_i32_1447 : BitVec 32 := 0#32
  let v2135 : BitVec 1 := Scalar.cmpi .slt v2133 c0_i32_1447
  let c0_i32_1448 : BitVec 32 := 0#32
  let v2136 : BitVec 1 := Scalar.cmpi .slt v2132 c0_i32_1448
  let v2137 : BitVec 1 := Scalar.xori v2135 v2136
  let c0_i32_1446 : BitVec 32 := 0#32
  let v2134 : BitVec 1 := Scalar.cmpi .ne v2133 c0_i32_1446
  let v2138 : BitVec 1 := Scalar.andi v2137 v2134
  let v2139 : BitVec 32 := Scalar.addi v2133 v2132
  let v2140 : BitVec 32 := Scalar.select v2138 v2139 v2133
  let v2141 : BitVec 32 := Scalar.addi c16_i32_1449 v2140
  let c1_i32_2482 : BitVec 32 := 1#32
  let v3523 : BitVec 32 := Scalar.muli v2141 c1_i32_2482
  let v3524 : BitVec 32 := Scalar.addi c0_i32_2483 v3523
  v3524.toNat
def k0_cond83 (d0 : Dev nD) : BitVec 1 :=
  let c16_i32_1458 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1451 : BitVec 32 := 2#32
  let v2145 : BitVec 32 := Scalar.addi v2 c2_i32_1451
  let c16_i32_1452 : BitVec 32 := 16#32
  let c0_i32_1453 : BitVec 32 := 0#32
  let v2146 : BitVec 1 := Scalar.cmpi .eq c16_i32_1452 c0_i32_1453
  let c1_i32_1454 : BitVec 32 := 1#32
  let v2147 : BitVec 32 := Scalar.select v2146 c1_i32_1454 c16_i32_1452
  let v2148 : BitVec 32 := Scalar.remsi v2145 v2147
  let c0_i32_1456 : BitVec 32 := 0#32
  let v2150 : BitVec 1 := Scalar.cmpi .slt v2148 c0_i32_1456
  let c0_i32_1457 : BitVec 32 := 0#32
  let v2151 : BitVec 1 := Scalar.cmpi .slt v2147 c0_i32_1457
  let v2152 : BitVec 1 := Scalar.xori v2150 v2151
  let c0_i32_1455 : BitVec 32 := 0#32
  let v2149 : BitVec 1 := Scalar.cmpi .ne v2148 c0_i32_1455
  let v2153 : BitVec 1 := Scalar.andi v2152 v2149
  let v2154 : BitVec 32 := Scalar.addi v2148 v2147
  let v2155 : BitVec 32 := Scalar.select v2153 v2154 v2148
  let v2156 : BitVec 32 := Scalar.addi c16_i32_1458 v2155
  let v2157 : BitVec 1 := Scalar.cmpi .ne v2156 v2
  let v2158 : BitVec 32 := Scalar.extui v2157
  let c0_i32_1459 : BitVec 32 := 0#32
  let v2159 : BitVec 1 := Scalar.cmpi .ne v2158 c0_i32_1459
  v2159

def k0_off80 (d0 : Dev nD) : Fin 1 → Nat :=
  let c16_i32_1458 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1451 : BitVec 32 := 2#32
  let v2145 : BitVec 32 := Scalar.addi v2 c2_i32_1451
  let c16_i32_1452 : BitVec 32 := 16#32
  let c0_i32_1453 : BitVec 32 := 0#32
  let v2146 : BitVec 1 := Scalar.cmpi .eq c16_i32_1452 c0_i32_1453
  let c1_i32_1454 : BitVec 32 := 1#32
  let v2147 : BitVec 32 := Scalar.select v2146 c1_i32_1454 c16_i32_1452
  let v2148 : BitVec 32 := Scalar.remsi v2145 v2147
  let c0_i32_1456 : BitVec 32 := 0#32
  let v2150 : BitVec 1 := Scalar.cmpi .slt v2148 c0_i32_1456
  let c0_i32_1457 : BitVec 32 := 0#32
  let v2151 : BitVec 1 := Scalar.cmpi .slt v2147 c0_i32_1457
  let v2152 : BitVec 1 := Scalar.xori v2150 v2151
  let c0_i32_1455 : BitVec 32 := 0#32
  let v2149 : BitVec 1 := Scalar.cmpi .ne v2148 c0_i32_1455
  let v2153 : BitVec 1 := Scalar.andi v2152 v2149
  let v2154 : BitVec 32 := Scalar.addi v2148 v2147
  let v2155 : BitVec 32 := Scalar.select v2153 v2154 v2148
  let v2156 : BitVec 32 := Scalar.addi c16_i32_1458 v2155
  ![v2156.toNat]
def k0_off81 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off83 (d0 : Dev nD) : Fin 3 → Nat :=
  let c16_i32_1458 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1451 : BitVec 32 := 2#32
  let v2145 : BitVec 32 := Scalar.addi v2 c2_i32_1451
  let c16_i32_1452 : BitVec 32 := 16#32
  let c0_i32_1453 : BitVec 32 := 0#32
  let v2146 : BitVec 1 := Scalar.cmpi .eq c16_i32_1452 c0_i32_1453
  let c1_i32_1454 : BitVec 32 := 1#32
  let v2147 : BitVec 32 := Scalar.select v2146 c1_i32_1454 c16_i32_1452
  let v2148 : BitVec 32 := Scalar.remsi v2145 v2147
  let c0_i32_1456 : BitVec 32 := 0#32
  let v2150 : BitVec 1 := Scalar.cmpi .slt v2148 c0_i32_1456
  let c0_i32_1457 : BitVec 32 := 0#32
  let v2151 : BitVec 1 := Scalar.cmpi .slt v2147 c0_i32_1457
  let v2152 : BitVec 1 := Scalar.xori v2150 v2151
  let c0_i32_1455 : BitVec 32 := 0#32
  let v2149 : BitVec 1 := Scalar.cmpi .ne v2148 c0_i32_1455
  let v2153 : BitVec 1 := Scalar.andi v2152 v2149
  let v2154 : BitVec 32 := Scalar.addi v2148 v2147
  let v2155 : BitVec 32 := Scalar.select v2153 v2154 v2148
  let v2156 : BitVec 32 := Scalar.addi c16_i32_1458 v2155
  let c0_i32_2486 : BitVec 32 := 0#32
  let c0_i32_2487 : BitVec 32 := 0#32
  ![v2156.toNat, 0, 0]
def k0_dev82 (d0 : Dev nD) : Nat :=
  let c0_i32_2483 : BitVec 32 := 0#32
  let c16_i32_1458 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1451 : BitVec 32 := 2#32
  let v2145 : BitVec 32 := Scalar.addi v2 c2_i32_1451
  let c16_i32_1452 : BitVec 32 := 16#32
  let c0_i32_1453 : BitVec 32 := 0#32
  let v2146 : BitVec 1 := Scalar.cmpi .eq c16_i32_1452 c0_i32_1453
  let c1_i32_1454 : BitVec 32 := 1#32
  let v2147 : BitVec 32 := Scalar.select v2146 c1_i32_1454 c16_i32_1452
  let v2148 : BitVec 32 := Scalar.remsi v2145 v2147
  let c0_i32_1456 : BitVec 32 := 0#32
  let v2150 : BitVec 1 := Scalar.cmpi .slt v2148 c0_i32_1456
  let c0_i32_1457 : BitVec 32 := 0#32
  let v2151 : BitVec 1 := Scalar.cmpi .slt v2147 c0_i32_1457
  let v2152 : BitVec 1 := Scalar.xori v2150 v2151
  let c0_i32_1455 : BitVec 32 := 0#32
  let v2149 : BitVec 1 := Scalar.cmpi .ne v2148 c0_i32_1455
  let v2153 : BitVec 1 := Scalar.andi v2152 v2149
  let v2154 : BitVec 32 := Scalar.addi v2148 v2147
  let v2155 : BitVec 32 := Scalar.select v2153 v2154 v2148
  let v2156 : BitVec 32 := Scalar.addi c16_i32_1458 v2155
  let c1_i32_2482 : BitVec 32 := 1#32
  let v3523 : BitVec 32 := Scalar.muli v2156 c1_i32_2482
  let v3524 : BitVec 32 := Scalar.addi c0_i32_2483 v3523
  v3524.toNat
def k0_cond84 (d0 : Dev nD) : BitVec 1 :=
  let c16_i32_1467 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1460 : BitVec 32 := 3#32
  let v2160 : BitVec 32 := Scalar.addi v2 c3_i32_1460
  let c16_i32_1461 : BitVec 32 := 16#32
  let c0_i32_1462 : BitVec 32 := 0#32
  let v2161 : BitVec 1 := Scalar.cmpi .eq c16_i32_1461 c0_i32_1462
  let c1_i32_1463 : BitVec 32 := 1#32
  let v2162 : BitVec 32 := Scalar.select v2161 c1_i32_1463 c16_i32_1461
  let v2163 : BitVec 32 := Scalar.remsi v2160 v2162
  let c0_i32_1465 : BitVec 32 := 0#32
  let v2165 : BitVec 1 := Scalar.cmpi .slt v2163 c0_i32_1465
  let c0_i32_1466 : BitVec 32 := 0#32
  let v2166 : BitVec 1 := Scalar.cmpi .slt v2162 c0_i32_1466
  let v2167 : BitVec 1 := Scalar.xori v2165 v2166
  let c0_i32_1464 : BitVec 32 := 0#32
  let v2164 : BitVec 1 := Scalar.cmpi .ne v2163 c0_i32_1464
  let v2168 : BitVec 1 := Scalar.andi v2167 v2164
  let v2169 : BitVec 32 := Scalar.addi v2163 v2162
  let v2170 : BitVec 32 := Scalar.select v2168 v2169 v2163
  let v2171 : BitVec 32 := Scalar.addi c16_i32_1467 v2170
  let v2172 : BitVec 1 := Scalar.cmpi .ne v2171 v2
  let v2173 : BitVec 32 := Scalar.extui v2172
  let c0_i32_1468 : BitVec 32 := 0#32
  let v2174 : BitVec 1 := Scalar.cmpi .ne v2173 c0_i32_1468
  v2174

def k0_off84 (d0 : Dev nD) : Fin 1 → Nat :=
  let c16_i32_1467 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1460 : BitVec 32 := 3#32
  let v2160 : BitVec 32 := Scalar.addi v2 c3_i32_1460
  let c16_i32_1461 : BitVec 32 := 16#32
  let c0_i32_1462 : BitVec 32 := 0#32
  let v2161 : BitVec 1 := Scalar.cmpi .eq c16_i32_1461 c0_i32_1462
  let c1_i32_1463 : BitVec 32 := 1#32
  let v2162 : BitVec 32 := Scalar.select v2161 c1_i32_1463 c16_i32_1461
  let v2163 : BitVec 32 := Scalar.remsi v2160 v2162
  let c0_i32_1465 : BitVec 32 := 0#32
  let v2165 : BitVec 1 := Scalar.cmpi .slt v2163 c0_i32_1465
  let c0_i32_1466 : BitVec 32 := 0#32
  let v2166 : BitVec 1 := Scalar.cmpi .slt v2162 c0_i32_1466
  let v2167 : BitVec 1 := Scalar.xori v2165 v2166
  let c0_i32_1464 : BitVec 32 := 0#32
  let v2164 : BitVec 1 := Scalar.cmpi .ne v2163 c0_i32_1464
  let v2168 : BitVec 1 := Scalar.andi v2167 v2164
  let v2169 : BitVec 32 := Scalar.addi v2163 v2162
  let v2170 : BitVec 32 := Scalar.select v2168 v2169 v2163
  let v2171 : BitVec 32 := Scalar.addi c16_i32_1467 v2170
  ![v2171.toNat]
def k0_off85 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off87 (d0 : Dev nD) : Fin 3 → Nat :=
  let c16_i32_1467 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1460 : BitVec 32 := 3#32
  let v2160 : BitVec 32 := Scalar.addi v2 c3_i32_1460
  let c16_i32_1461 : BitVec 32 := 16#32
  let c0_i32_1462 : BitVec 32 := 0#32
  let v2161 : BitVec 1 := Scalar.cmpi .eq c16_i32_1461 c0_i32_1462
  let c1_i32_1463 : BitVec 32 := 1#32
  let v2162 : BitVec 32 := Scalar.select v2161 c1_i32_1463 c16_i32_1461
  let v2163 : BitVec 32 := Scalar.remsi v2160 v2162
  let c0_i32_1465 : BitVec 32 := 0#32
  let v2165 : BitVec 1 := Scalar.cmpi .slt v2163 c0_i32_1465
  let c0_i32_1466 : BitVec 32 := 0#32
  let v2166 : BitVec 1 := Scalar.cmpi .slt v2162 c0_i32_1466
  let v2167 : BitVec 1 := Scalar.xori v2165 v2166
  let c0_i32_1464 : BitVec 32 := 0#32
  let v2164 : BitVec 1 := Scalar.cmpi .ne v2163 c0_i32_1464
  let v2168 : BitVec 1 := Scalar.andi v2167 v2164
  let v2169 : BitVec 32 := Scalar.addi v2163 v2162
  let v2170 : BitVec 32 := Scalar.select v2168 v2169 v2163
  let v2171 : BitVec 32 := Scalar.addi c16_i32_1467 v2170
  let c0_i32_2486 : BitVec 32 := 0#32
  let c0_i32_2487 : BitVec 32 := 0#32
  ![v2171.toNat, 0, 0]
def k0_dev83 (d0 : Dev nD) : Nat :=
  let c0_i32_2483 : BitVec 32 := 0#32
  let c16_i32_1467 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1460 : BitVec 32 := 3#32
  let v2160 : BitVec 32 := Scalar.addi v2 c3_i32_1460
  let c16_i32_1461 : BitVec 32 := 16#32
  let c0_i32_1462 : BitVec 32 := 0#32
  let v2161 : BitVec 1 := Scalar.cmpi .eq c16_i32_1461 c0_i32_1462
  let c1_i32_1463 : BitVec 32 := 1#32
  let v2162 : BitVec 32 := Scalar.select v2161 c1_i32_1463 c16_i32_1461
  let v2163 : BitVec 32 := Scalar.remsi v2160 v2162
  let c0_i32_1465 : BitVec 32 := 0#32
  let v2165 : BitVec 1 := Scalar.cmpi .slt v2163 c0_i32_1465
  let c0_i32_1466 : BitVec 32 := 0#32
  let v2166 : BitVec 1 := Scalar.cmpi .slt v2162 c0_i32_1466
  let v2167 : BitVec 1 := Scalar.xori v2165 v2166
  let c0_i32_1464 : BitVec 32 := 0#32
  let v2164 : BitVec 1 := Scalar.cmpi .ne v2163 c0_i32_1464
  let v2168 : BitVec 1 := Scalar.andi v2167 v2164
  let v2169 : BitVec 32 := Scalar.addi v2163 v2162
  let v2170 : BitVec 32 := Scalar.select v2168 v2169 v2163
  let v2171 : BitVec 32 := Scalar.addi c16_i32_1467 v2170
  let c1_i32_2482 : BitVec 32 := 1#32
  let v3523 : BitVec 32 := Scalar.muli v2171 c1_i32_2482
  let v3524 : BitVec 32 := Scalar.addi c0_i32_2483 v3523
  v3524.toNat
def k0_cond85 (d0 : Dev nD) : BitVec 1 :=
  let c16_i32_1476 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1469 : BitVec 32 := 4#32
  let v2175 : BitVec 32 := Scalar.addi v2 c4_i32_1469
  let c16_i32_1470 : BitVec 32 := 16#32
  let c0_i32_1471 : BitVec 32 := 0#32
  let v2176 : BitVec 1 := Scalar.cmpi .eq c16_i32_1470 c0_i32_1471
  let c1_i32_1472 : BitVec 32 := 1#32
  let v2177 : BitVec 32 := Scalar.select v2176 c1_i32_1472 c16_i32_1470
  let v2178 : BitVec 32 := Scalar.remsi v2175 v2177
  let c0_i32_1474 : BitVec 32 := 0#32
  let v2180 : BitVec 1 := Scalar.cmpi .slt v2178 c0_i32_1474
  let c0_i32_1475 : BitVec 32 := 0#32
  let v2181 : BitVec 1 := Scalar.cmpi .slt v2177 c0_i32_1475
  let v2182 : BitVec 1 := Scalar.xori v2180 v2181
  let c0_i32_1473 : BitVec 32 := 0#32
  let v2179 : BitVec 1 := Scalar.cmpi .ne v2178 c0_i32_1473
  let v2183 : BitVec 1 := Scalar.andi v2182 v2179
  let v2184 : BitVec 32 := Scalar.addi v2178 v2177
  let v2185 : BitVec 32 := Scalar.select v2183 v2184 v2178
  let v2186 : BitVec 32 := Scalar.addi c16_i32_1476 v2185
  let v2187 : BitVec 1 := Scalar.cmpi .ne v2186 v2
  let v2188 : BitVec 32 := Scalar.extui v2187
  let c0_i32_1477 : BitVec 32 := 0#32
  let v2189 : BitVec 1 := Scalar.cmpi .ne v2188 c0_i32_1477
  v2189

def k0_off88 (d0 : Dev nD) : Fin 1 → Nat :=
  let c16_i32_1476 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1469 : BitVec 32 := 4#32
  let v2175 : BitVec 32 := Scalar.addi v2 c4_i32_1469
  let c16_i32_1470 : BitVec 32 := 16#32
  let c0_i32_1471 : BitVec 32 := 0#32
  let v2176 : BitVec 1 := Scalar.cmpi .eq c16_i32_1470 c0_i32_1471
  let c1_i32_1472 : BitVec 32 := 1#32
  let v2177 : BitVec 32 := Scalar.select v2176 c1_i32_1472 c16_i32_1470
  let v2178 : BitVec 32 := Scalar.remsi v2175 v2177
  let c0_i32_1474 : BitVec 32 := 0#32
  let v2180 : BitVec 1 := Scalar.cmpi .slt v2178 c0_i32_1474
  let c0_i32_1475 : BitVec 32 := 0#32
  let v2181 : BitVec 1 := Scalar.cmpi .slt v2177 c0_i32_1475
  let v2182 : BitVec 1 := Scalar.xori v2180 v2181
  let c0_i32_1473 : BitVec 32 := 0#32
  let v2179 : BitVec 1 := Scalar.cmpi .ne v2178 c0_i32_1473
  let v2183 : BitVec 1 := Scalar.andi v2182 v2179
  let v2184 : BitVec 32 := Scalar.addi v2178 v2177
  let v2185 : BitVec 32 := Scalar.select v2183 v2184 v2178
  let v2186 : BitVec 32 := Scalar.addi c16_i32_1476 v2185
  ![v2186.toNat]
def k0_off89 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off91 (d0 : Dev nD) : Fin 3 → Nat :=
  let c16_i32_1476 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1469 : BitVec 32 := 4#32
  let v2175 : BitVec 32 := Scalar.addi v2 c4_i32_1469
  let c16_i32_1470 : BitVec 32 := 16#32
  let c0_i32_1471 : BitVec 32 := 0#32
  let v2176 : BitVec 1 := Scalar.cmpi .eq c16_i32_1470 c0_i32_1471
  let c1_i32_1472 : BitVec 32 := 1#32
  let v2177 : BitVec 32 := Scalar.select v2176 c1_i32_1472 c16_i32_1470
  let v2178 : BitVec 32 := Scalar.remsi v2175 v2177
  let c0_i32_1474 : BitVec 32 := 0#32
  let v2180 : BitVec 1 := Scalar.cmpi .slt v2178 c0_i32_1474
  let c0_i32_1475 : BitVec 32 := 0#32
  let v2181 : BitVec 1 := Scalar.cmpi .slt v2177 c0_i32_1475
  let v2182 : BitVec 1 := Scalar.xori v2180 v2181
  let c0_i32_1473 : BitVec 32 := 0#32
  let v2179 : BitVec 1 := Scalar.cmpi .ne v2178 c0_i32_1473
  let v2183 : BitVec 1 := Scalar.andi v2182 v2179
  let v2184 : BitVec 32 := Scalar.addi v2178 v2177
  let v2185 : BitVec 32 := Scalar.select v2183 v2184 v2178
  let v2186 : BitVec 32 := Scalar.addi c16_i32_1476 v2185
  let c0_i32_2486 : BitVec 32 := 0#32
  let c0_i32_2487 : BitVec 32 := 0#32
  ![v2186.toNat, 0, 0]
def k0_dev84 (d0 : Dev nD) : Nat :=
  let c0_i32_2483 : BitVec 32 := 0#32
  let c16_i32_1476 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1469 : BitVec 32 := 4#32
  let v2175 : BitVec 32 := Scalar.addi v2 c4_i32_1469
  let c16_i32_1470 : BitVec 32 := 16#32
  let c0_i32_1471 : BitVec 32 := 0#32
  let v2176 : BitVec 1 := Scalar.cmpi .eq c16_i32_1470 c0_i32_1471
  let c1_i32_1472 : BitVec 32 := 1#32
  let v2177 : BitVec 32 := Scalar.select v2176 c1_i32_1472 c16_i32_1470
  let v2178 : BitVec 32 := Scalar.remsi v2175 v2177
  let c0_i32_1474 : BitVec 32 := 0#32
  let v2180 : BitVec 1 := Scalar.cmpi .slt v2178 c0_i32_1474
  let c0_i32_1475 : BitVec 32 := 0#32
  let v2181 : BitVec 1 := Scalar.cmpi .slt v2177 c0_i32_1475
  let v2182 : BitVec 1 := Scalar.xori v2180 v2181
  let c0_i32_1473 : BitVec 32 := 0#32
  let v2179 : BitVec 1 := Scalar.cmpi .ne v2178 c0_i32_1473
  let v2183 : BitVec 1 := Scalar.andi v2182 v2179
  let v2184 : BitVec 32 := Scalar.addi v2178 v2177
  let v2185 : BitVec 32 := Scalar.select v2183 v2184 v2178
  let v2186 : BitVec 32 := Scalar.addi c16_i32_1476 v2185
  let c1_i32_2482 : BitVec 32 := 1#32
  let v3523 : BitVec 32 := Scalar.muli v2186 c1_i32_2482
  let v3524 : BitVec 32 := Scalar.addi c0_i32_2483 v3523
  v3524.toNat
def k0_cond86 (d0 : Dev nD) : BitVec 1 :=
  let c16_i32_1485 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1478 : BitVec 32 := 5#32
  let v2190 : BitVec 32 := Scalar.addi v2 c5_i32_1478
  let c16_i32_1479 : BitVec 32 := 16#32
  let c0_i32_1480 : BitVec 32 := 0#32
  let v2191 : BitVec 1 := Scalar.cmpi .eq c16_i32_1479 c0_i32_1480
  let c1_i32_1481 : BitVec 32 := 1#32
  let v2192 : BitVec 32 := Scalar.select v2191 c1_i32_1481 c16_i32_1479
  let v2193 : BitVec 32 := Scalar.remsi v2190 v2192
  let c0_i32_1483 : BitVec 32 := 0#32
  let v2195 : BitVec 1 := Scalar.cmpi .slt v2193 c0_i32_1483
  let c0_i32_1484 : BitVec 32 := 0#32
  let v2196 : BitVec 1 := Scalar.cmpi .slt v2192 c0_i32_1484
  let v2197 : BitVec 1 := Scalar.xori v2195 v2196
  let c0_i32_1482 : BitVec 32 := 0#32
  let v2194 : BitVec 1 := Scalar.cmpi .ne v2193 c0_i32_1482
  let v2198 : BitVec 1 := Scalar.andi v2197 v2194
  let v2199 : BitVec 32 := Scalar.addi v2193 v2192
  let v2200 : BitVec 32 := Scalar.select v2198 v2199 v2193
  let v2201 : BitVec 32 := Scalar.addi c16_i32_1485 v2200
  let v2202 : BitVec 1 := Scalar.cmpi .ne v2201 v2
  let v2203 : BitVec 32 := Scalar.extui v2202
  let c0_i32_1486 : BitVec 32 := 0#32
  let v2204 : BitVec 1 := Scalar.cmpi .ne v2203 c0_i32_1486
  v2204

def k0_off92 (d0 : Dev nD) : Fin 1 → Nat :=
  let c16_i32_1485 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1478 : BitVec 32 := 5#32
  let v2190 : BitVec 32 := Scalar.addi v2 c5_i32_1478
  let c16_i32_1479 : BitVec 32 := 16#32
  let c0_i32_1480 : BitVec 32 := 0#32
  let v2191 : BitVec 1 := Scalar.cmpi .eq c16_i32_1479 c0_i32_1480
  let c1_i32_1481 : BitVec 32 := 1#32
  let v2192 : BitVec 32 := Scalar.select v2191 c1_i32_1481 c16_i32_1479
  let v2193 : BitVec 32 := Scalar.remsi v2190 v2192
  let c0_i32_1483 : BitVec 32 := 0#32
  let v2195 : BitVec 1 := Scalar.cmpi .slt v2193 c0_i32_1483
  let c0_i32_1484 : BitVec 32 := 0#32
  let v2196 : BitVec 1 := Scalar.cmpi .slt v2192 c0_i32_1484
  let v2197 : BitVec 1 := Scalar.xori v2195 v2196
  let c0_i32_1482 : BitVec 32 := 0#32
  let v2194 : BitVec 1 := Scalar.cmpi .ne v2193 c0_i32_1482
  let v2198 : BitVec 1 := Scalar.andi v2197 v2194
  let v2199 : BitVec 32 := Scalar.addi v2193 v2192
  let v2200 : BitVec 32 := Scalar.select v2198 v2199 v2193
  let v2201 : BitVec 32 := Scalar.addi c16_i32_1485 v2200
  ![v2201.toNat]
def k0_off93 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off95 (d0 : Dev nD) : Fin 3 → Nat :=
  let c16_i32_1485 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1478 : BitVec 32 := 5#32
  let v2190 : BitVec 32 := Scalar.addi v2 c5_i32_1478
  let c16_i32_1479 : BitVec 32 := 16#32
  let c0_i32_1480 : BitVec 32 := 0#32
  let v2191 : BitVec 1 := Scalar.cmpi .eq c16_i32_1479 c0_i32_1480
  let c1_i32_1481 : BitVec 32 := 1#32
  let v2192 : BitVec 32 := Scalar.select v2191 c1_i32_1481 c16_i32_1479
  let v2193 : BitVec 32 := Scalar.remsi v2190 v2192
  let c0_i32_1483 : BitVec 32 := 0#32
  let v2195 : BitVec 1 := Scalar.cmpi .slt v2193 c0_i32_1483
  let c0_i32_1484 : BitVec 32 := 0#32
  let v2196 : BitVec 1 := Scalar.cmpi .slt v2192 c0_i32_1484
  let v2197 : BitVec 1 := Scalar.xori v2195 v2196
  let c0_i32_1482 : BitVec 32 := 0#32
  let v2194 : BitVec 1 := Scalar.cmpi .ne v2193 c0_i32_1482
  let v2198 : BitVec 1 := Scalar.andi v2197 v2194
  let v2199 : BitVec 32 := Scalar.addi v2193 v2192
  let v2200 : BitVec 32 := Scalar.select v2198 v2199 v2193
  let v2201 : BitVec 32 := Scalar.addi c16_i32_1485 v2200
  let c0_i32_2486 : BitVec 32 := 0#32
  let c0_i32_2487 : BitVec 32 := 0#32
  ![v2201.toNat, 0, 0]
def k0_dev85 (d0 : Dev nD) : Nat :=
  let c0_i32_2483 : BitVec 32 := 0#32
  let c16_i32_1485 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1478 : BitVec 32 := 5#32
  let v2190 : BitVec 32 := Scalar.addi v2 c5_i32_1478
  let c16_i32_1479 : BitVec 32 := 16#32
  let c0_i32_1480 : BitVec 32 := 0#32
  let v2191 : BitVec 1 := Scalar.cmpi .eq c16_i32_1479 c0_i32_1480
  let c1_i32_1481 : BitVec 32 := 1#32
  let v2192 : BitVec 32 := Scalar.select v2191 c1_i32_1481 c16_i32_1479
  let v2193 : BitVec 32 := Scalar.remsi v2190 v2192
  let c0_i32_1483 : BitVec 32 := 0#32
  let v2195 : BitVec 1 := Scalar.cmpi .slt v2193 c0_i32_1483
  let c0_i32_1484 : BitVec 32 := 0#32
  let v2196 : BitVec 1 := Scalar.cmpi .slt v2192 c0_i32_1484
  let v2197 : BitVec 1 := Scalar.xori v2195 v2196
  let c0_i32_1482 : BitVec 32 := 0#32
  let v2194 : BitVec 1 := Scalar.cmpi .ne v2193 c0_i32_1482
  let v2198 : BitVec 1 := Scalar.andi v2197 v2194
  let v2199 : BitVec 32 := Scalar.addi v2193 v2192
  let v2200 : BitVec 32 := Scalar.select v2198 v2199 v2193
  let v2201 : BitVec 32 := Scalar.addi c16_i32_1485 v2200
  let c1_i32_2482 : BitVec 32 := 1#32
  let v3523 : BitVec 32 := Scalar.muli v2201 c1_i32_2482
  let v3524 : BitVec 32 := Scalar.addi c0_i32_2483 v3523
  v3524.toNat
def k0_cond87 (d0 : Dev nD) : BitVec 1 :=
  let c16_i32_1494 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1487 : BitVec 32 := 6#32
  let v2205 : BitVec 32 := Scalar.addi v2 c6_i32_1487
  let c16_i32_1488 : BitVec 32 := 16#32
  let c0_i32_1489 : BitVec 32 := 0#32
  let v2206 : BitVec 1 := Scalar.cmpi .eq c16_i32_1488 c0_i32_1489
  let c1_i32_1490 : BitVec 32 := 1#32
  let v2207 : BitVec 32 := Scalar.select v2206 c1_i32_1490 c16_i32_1488
  let v2208 : BitVec 32 := Scalar.remsi v2205 v2207
  let c0_i32_1492 : BitVec 32 := 0#32
  let v2210 : BitVec 1 := Scalar.cmpi .slt v2208 c0_i32_1492
  let c0_i32_1493 : BitVec 32 := 0#32
  let v2211 : BitVec 1 := Scalar.cmpi .slt v2207 c0_i32_1493
  let v2212 : BitVec 1 := Scalar.xori v2210 v2211
  let c0_i32_1491 : BitVec 32 := 0#32
  let v2209 : BitVec 1 := Scalar.cmpi .ne v2208 c0_i32_1491
  let v2213 : BitVec 1 := Scalar.andi v2212 v2209
  let v2214 : BitVec 32 := Scalar.addi v2208 v2207
  let v2215 : BitVec 32 := Scalar.select v2213 v2214 v2208
  let v2216 : BitVec 32 := Scalar.addi c16_i32_1494 v2215
  let v2217 : BitVec 1 := Scalar.cmpi .ne v2216 v2
  let v2218 : BitVec 32 := Scalar.extui v2217
  let c0_i32_1495 : BitVec 32 := 0#32
  let v2219 : BitVec 1 := Scalar.cmpi .ne v2218 c0_i32_1495
  v2219

def k0_off96 (d0 : Dev nD) : Fin 1 → Nat :=
  let c16_i32_1494 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1487 : BitVec 32 := 6#32
  let v2205 : BitVec 32 := Scalar.addi v2 c6_i32_1487
  let c16_i32_1488 : BitVec 32 := 16#32
  let c0_i32_1489 : BitVec 32 := 0#32
  let v2206 : BitVec 1 := Scalar.cmpi .eq c16_i32_1488 c0_i32_1489
  let c1_i32_1490 : BitVec 32 := 1#32
  let v2207 : BitVec 32 := Scalar.select v2206 c1_i32_1490 c16_i32_1488
  let v2208 : BitVec 32 := Scalar.remsi v2205 v2207
  let c0_i32_1492 : BitVec 32 := 0#32
  let v2210 : BitVec 1 := Scalar.cmpi .slt v2208 c0_i32_1492
  let c0_i32_1493 : BitVec 32 := 0#32
  let v2211 : BitVec 1 := Scalar.cmpi .slt v2207 c0_i32_1493
  let v2212 : BitVec 1 := Scalar.xori v2210 v2211
  let c0_i32_1491 : BitVec 32 := 0#32
  let v2209 : BitVec 1 := Scalar.cmpi .ne v2208 c0_i32_1491
  let v2213 : BitVec 1 := Scalar.andi v2212 v2209
  let v2214 : BitVec 32 := Scalar.addi v2208 v2207
  let v2215 : BitVec 32 := Scalar.select v2213 v2214 v2208
  let v2216 : BitVec 32 := Scalar.addi c16_i32_1494 v2215
  ![v2216.toNat]
def k0_off97 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off98 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off99 (d0 : Dev nD) : Fin 3 → Nat :=
  let c16_i32_1494 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1487 : BitVec 32 := 6#32
  let v2205 : BitVec 32 := Scalar.addi v2 c6_i32_1487
  let c16_i32_1488 : BitVec 32 := 16#32
  let c0_i32_1489 : BitVec 32 := 0#32
  let v2206 : BitVec 1 := Scalar.cmpi .eq c16_i32_1488 c0_i32_1489
  let c1_i32_1490 : BitVec 32 := 1#32
  let v2207 : BitVec 32 := Scalar.select v2206 c1_i32_1490 c16_i32_1488
  let v2208 : BitVec 32 := Scalar.remsi v2205 v2207
  let c0_i32_1492 : BitVec 32 := 0#32
  let v2210 : BitVec 1 := Scalar.cmpi .slt v2208 c0_i32_1492
  let c0_i32_1493 : BitVec 32 := 0#32
  let v2211 : BitVec 1 := Scalar.cmpi .slt v2207 c0_i32_1493
  let v2212 : BitVec 1 := Scalar.xori v2210 v2211
  let c0_i32_1491 : BitVec 32 := 0#32
  let v2209 : BitVec 1 := Scalar.cmpi .ne v2208 c0_i32_1491
  let v2213 : BitVec 1 := Scalar.andi v2212 v2209
  let v2214 : BitVec 32 := Scalar.addi v2208 v2207
  let v2215 : BitVec 32 := Scalar.select v2213 v2214 v2208
  let v2216 : BitVec 32 := Scalar.addi c16_i32_1494 v2215
  let c0_i32_2486 : BitVec 32 := 0#32
  let c0_i32_2487 : BitVec 32 := 0#32
  ![v2216.toNat, 0, 0]
def k0_dev86 (d0 : Dev nD) : Nat :=
  let c0_i32_2483 : BitVec 32 := 0#32
  let c16_i32_1494 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1487 : BitVec 32 := 6#32
  let v2205 : BitVec 32 := Scalar.addi v2 c6_i32_1487
  let c16_i32_1488 : BitVec 32 := 16#32
  let c0_i32_1489 : BitVec 32 := 0#32
  let v2206 : BitVec 1 := Scalar.cmpi .eq c16_i32_1488 c0_i32_1489
  let c1_i32_1490 : BitVec 32 := 1#32
  let v2207 : BitVec 32 := Scalar.select v2206 c1_i32_1490 c16_i32_1488
  let v2208 : BitVec 32 := Scalar.remsi v2205 v2207
  let c0_i32_1492 : BitVec 32 := 0#32
  let v2210 : BitVec 1 := Scalar.cmpi .slt v2208 c0_i32_1492
  let c0_i32_1493 : BitVec 32 := 0#32
  let v2211 : BitVec 1 := Scalar.cmpi .slt v2207 c0_i32_1493
  let v2212 : BitVec 1 := Scalar.xori v2210 v2211
  let c0_i32_1491 : BitVec 32 := 0#32
  let v2209 : BitVec 1 := Scalar.cmpi .ne v2208 c0_i32_1491
  let v2213 : BitVec 1 := Scalar.andi v2212 v2209
  let v2214 : BitVec 32 := Scalar.addi v2208 v2207
  let v2215 : BitVec 32 := Scalar.select v2213 v2214 v2208
  let v2216 : BitVec 32 := Scalar.addi c16_i32_1494 v2215
  let c1_i32_2482 : BitVec 32 := 1#32
  let v3523 : BitVec 32 := Scalar.muli v2216 c1_i32_2482
  let v3524 : BitVec 32 := Scalar.addi c0_i32_2483 v3523
  v3524.toNat
def k0_cond88 (d0 : Dev nD) : BitVec 1 :=
  let c16_i32_1503 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1496 : BitVec 32 := 7#32
  let v2220 : BitVec 32 := Scalar.addi v2 c7_i32_1496
  let c16_i32_1497 : BitVec 32 := 16#32
  let c0_i32_1498 : BitVec 32 := 0#32
  let v2221 : BitVec 1 := Scalar.cmpi .eq c16_i32_1497 c0_i32_1498
  let c1_i32_1499 : BitVec 32 := 1#32
  let v2222 : BitVec 32 := Scalar.select v2221 c1_i32_1499 c16_i32_1497
  let v2223 : BitVec 32 := Scalar.remsi v2220 v2222
  let c0_i32_1501 : BitVec 32 := 0#32
  let v2225 : BitVec 1 := Scalar.cmpi .slt v2223 c0_i32_1501
  let c0_i32_1502 : BitVec 32 := 0#32
  let v2226 : BitVec 1 := Scalar.cmpi .slt v2222 c0_i32_1502
  let v2227 : BitVec 1 := Scalar.xori v2225 v2226
  let c0_i32_1500 : BitVec 32 := 0#32
  let v2224 : BitVec 1 := Scalar.cmpi .ne v2223 c0_i32_1500
  let v2228 : BitVec 1 := Scalar.andi v2227 v2224
  let v2229 : BitVec 32 := Scalar.addi v2223 v2222
  let v2230 : BitVec 32 := Scalar.select v2228 v2229 v2223
  let v2231 : BitVec 32 := Scalar.addi c16_i32_1503 v2230
  let v2232 : BitVec 1 := Scalar.cmpi .ne v2231 v2
  let v2233 : BitVec 32 := Scalar.extui v2232
  let c0_i32_1504 : BitVec 32 := 0#32
  let v2234 : BitVec 1 := Scalar.cmpi .ne v2233 c0_i32_1504
  v2234

def k0_off100 (d0 : Dev nD) : Fin 1 → Nat :=
  let c16_i32_1503 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1496 : BitVec 32 := 7#32
  let v2220 : BitVec 32 := Scalar.addi v2 c7_i32_1496
  let c16_i32_1497 : BitVec 32 := 16#32
  let c0_i32_1498 : BitVec 32 := 0#32
  let v2221 : BitVec 1 := Scalar.cmpi .eq c16_i32_1497 c0_i32_1498
  let c1_i32_1499 : BitVec 32 := 1#32
  let v2222 : BitVec 32 := Scalar.select v2221 c1_i32_1499 c16_i32_1497
  let v2223 : BitVec 32 := Scalar.remsi v2220 v2222
  let c0_i32_1501 : BitVec 32 := 0#32
  let v2225 : BitVec 1 := Scalar.cmpi .slt v2223 c0_i32_1501
  let c0_i32_1502 : BitVec 32 := 0#32
  let v2226 : BitVec 1 := Scalar.cmpi .slt v2222 c0_i32_1502
  let v2227 : BitVec 1 := Scalar.xori v2225 v2226
  let c0_i32_1500 : BitVec 32 := 0#32
  let v2224 : BitVec 1 := Scalar.cmpi .ne v2223 c0_i32_1500
  let v2228 : BitVec 1 := Scalar.andi v2227 v2224
  let v2229 : BitVec 32 := Scalar.addi v2223 v2222
  let v2230 : BitVec 32 := Scalar.select v2228 v2229 v2223
  let v2231 : BitVec 32 := Scalar.addi c16_i32_1503 v2230
  ![v2231.toNat]
def k0_off101 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off102 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off103 (d0 : Dev nD) : Fin 3 → Nat :=
  let c16_i32_1503 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1496 : BitVec 32 := 7#32
  let v2220 : BitVec 32 := Scalar.addi v2 c7_i32_1496
  let c16_i32_1497 : BitVec 32 := 16#32
  let c0_i32_1498 : BitVec 32 := 0#32
  let v2221 : BitVec 1 := Scalar.cmpi .eq c16_i32_1497 c0_i32_1498
  let c1_i32_1499 : BitVec 32 := 1#32
  let v2222 : BitVec 32 := Scalar.select v2221 c1_i32_1499 c16_i32_1497
  let v2223 : BitVec 32 := Scalar.remsi v2220 v2222
  let c0_i32_1501 : BitVec 32 := 0#32
  let v2225 : BitVec 1 := Scalar.cmpi .slt v2223 c0_i32_1501
  let c0_i32_1502 : BitVec 32 := 0#32
  let v2226 : BitVec 1 := Scalar.cmpi .slt v2222 c0_i32_1502
  let v2227 : BitVec 1 := Scalar.xori v2225 v2226
  let c0_i32_1500 : BitVec 32 := 0#32
  let v2224 : BitVec 1 := Scalar.cmpi .ne v2223 c0_i32_1500
  let v2228 : BitVec 1 := Scalar.andi v2227 v2224
  let v2229 : BitVec 32 := Scalar.addi v2223 v2222
  let v2230 : BitVec 32 := Scalar.select v2228 v2229 v2223
  let v2231 : BitVec 32 := Scalar.addi c16_i32_1503 v2230
  let c0_i32_2486 : BitVec 32 := 0#32
  let c0_i32_2487 : BitVec 32 := 0#32
  ![v2231.toNat, 0, 0]
def k0_dev87 (d0 : Dev nD) : Nat :=
  let c0_i32_2483 : BitVec 32 := 0#32
  let c16_i32_1503 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1496 : BitVec 32 := 7#32
  let v2220 : BitVec 32 := Scalar.addi v2 c7_i32_1496
  let c16_i32_1497 : BitVec 32 := 16#32
  let c0_i32_1498 : BitVec 32 := 0#32
  let v2221 : BitVec 1 := Scalar.cmpi .eq c16_i32_1497 c0_i32_1498
  let c1_i32_1499 : BitVec 32 := 1#32
  let v2222 : BitVec 32 := Scalar.select v2221 c1_i32_1499 c16_i32_1497
  let v2223 : BitVec 32 := Scalar.remsi v2220 v2222
  let c0_i32_1501 : BitVec 32 := 0#32
  let v2225 : BitVec 1 := Scalar.cmpi .slt v2223 c0_i32_1501
  let c0_i32_1502 : BitVec 32 := 0#32
  let v2226 : BitVec 1 := Scalar.cmpi .slt v2222 c0_i32_1502
  let v2227 : BitVec 1 := Scalar.xori v2225 v2226
  let c0_i32_1500 : BitVec 32 := 0#32
  let v2224 : BitVec 1 := Scalar.cmpi .ne v2223 c0_i32_1500
  let v2228 : BitVec 1 := Scalar.andi v2227 v2224
  let v2229 : BitVec 32 := Scalar.addi v2223 v2222
  let v2230 : BitVec 32 := Scalar.select v2228 v2229 v2223
  let v2231 : BitVec 32 := Scalar.addi c16_i32_1503 v2230
  let c1_i32_2482 : BitVec 32 := 1#32
  let v3523 : BitVec 32 := Scalar.muli v2231 c1_i32_2482
  let v3524 : BitVec 32 := Scalar.addi c0_i32_2483 v3523
  v3524.toNat
def k0_cond89 (d0 : Dev nD) : BitVec 1 :=
  let c16_i32_1512 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1505 : BitVec 32 := 8#32
  let v2235 : BitVec 32 := Scalar.addi v2 c8_i32_1505
  let c16_i32_1506 : BitVec 32 := 16#32
  let c0_i32_1507 : BitVec 32 := 0#32
  let v2236 : BitVec 1 := Scalar.cmpi .eq c16_i32_1506 c0_i32_1507
  let c1_i32_1508 : BitVec 32 := 1#32
  let v2237 : BitVec 32 := Scalar.select v2236 c1_i32_1508 c16_i32_1506
  let v2238 : BitVec 32 := Scalar.remsi v2235 v2237
  let c0_i32_1510 : BitVec 32 := 0#32
  let v2240 : BitVec 1 := Scalar.cmpi .slt v2238 c0_i32_1510
  let c0_i32_1511 : BitVec 32 := 0#32
  let v2241 : BitVec 1 := Scalar.cmpi .slt v2237 c0_i32_1511
  let v2242 : BitVec 1 := Scalar.xori v2240 v2241
  let c0_i32_1509 : BitVec 32 := 0#32
  let v2239 : BitVec 1 := Scalar.cmpi .ne v2238 c0_i32_1509
  let v2243 : BitVec 1 := Scalar.andi v2242 v2239
  let v2244 : BitVec 32 := Scalar.addi v2238 v2237
  let v2245 : BitVec 32 := Scalar.select v2243 v2244 v2238
  let v2246 : BitVec 32 := Scalar.addi c16_i32_1512 v2245
  let v2247 : BitVec 1 := Scalar.cmpi .ne v2246 v2
  let v2248 : BitVec 32 := Scalar.extui v2247
  let c0_i32_1513 : BitVec 32 := 0#32
  let v2249 : BitVec 1 := Scalar.cmpi .ne v2248 c0_i32_1513
  v2249

def k0_off104 (d0 : Dev nD) : Fin 1 → Nat :=
  let c16_i32_1512 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1505 : BitVec 32 := 8#32
  let v2235 : BitVec 32 := Scalar.addi v2 c8_i32_1505
  let c16_i32_1506 : BitVec 32 := 16#32
  let c0_i32_1507 : BitVec 32 := 0#32
  let v2236 : BitVec 1 := Scalar.cmpi .eq c16_i32_1506 c0_i32_1507
  let c1_i32_1508 : BitVec 32 := 1#32
  let v2237 : BitVec 32 := Scalar.select v2236 c1_i32_1508 c16_i32_1506
  let v2238 : BitVec 32 := Scalar.remsi v2235 v2237
  let c0_i32_1510 : BitVec 32 := 0#32
  let v2240 : BitVec 1 := Scalar.cmpi .slt v2238 c0_i32_1510
  let c0_i32_1511 : BitVec 32 := 0#32
  let v2241 : BitVec 1 := Scalar.cmpi .slt v2237 c0_i32_1511
  let v2242 : BitVec 1 := Scalar.xori v2240 v2241
  let c0_i32_1509 : BitVec 32 := 0#32
  let v2239 : BitVec 1 := Scalar.cmpi .ne v2238 c0_i32_1509
  let v2243 : BitVec 1 := Scalar.andi v2242 v2239
  let v2244 : BitVec 32 := Scalar.addi v2238 v2237
  let v2245 : BitVec 32 := Scalar.select v2243 v2244 v2238
  let v2246 : BitVec 32 := Scalar.addi c16_i32_1512 v2245
  ![v2246.toNat]
def k0_off105 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off106 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off107 (d0 : Dev nD) : Fin 3 → Nat :=
  let c16_i32_1512 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1505 : BitVec 32 := 8#32
  let v2235 : BitVec 32 := Scalar.addi v2 c8_i32_1505
  let c16_i32_1506 : BitVec 32 := 16#32
  let c0_i32_1507 : BitVec 32 := 0#32
  let v2236 : BitVec 1 := Scalar.cmpi .eq c16_i32_1506 c0_i32_1507
  let c1_i32_1508 : BitVec 32 := 1#32
  let v2237 : BitVec 32 := Scalar.select v2236 c1_i32_1508 c16_i32_1506
  let v2238 : BitVec 32 := Scalar.remsi v2235 v2237
  let c0_i32_1510 : BitVec 32 := 0#32
  let v2240 : BitVec 1 := Scalar.cmpi .slt v2238 c0_i32_1510
  let c0_i32_1511 : BitVec 32 := 0#32
  let v2241 : BitVec 1 := Scalar.cmpi .slt v2237 c0_i32_1511
  let v2242 : BitVec 1 := Scalar.xori v2240 v2241
  let c0_i32_1509 : BitVec 32 := 0#32
  let v2239 : BitVec 1 := Scalar.cmpi .ne v2238 c0_i32_1509
  let v2243 : BitVec 1 := Scalar.andi v2242 v2239
  let v2244 : BitVec 32 := Scalar.addi v2238 v2237
  let v2245 : BitVec 32 := Scalar.select v2243 v2244 v2238
  let v2246 : BitVec 32 := Scalar.addi c16_i32_1512 v2245
  let c0_i32_2486 : BitVec 32 := 0#32
  let c0_i32_2487 : BitVec 32 := 0#32
  ![v2246.toNat, 0, 0]
def k0_dev88 (d0 : Dev nD) : Nat :=
  let c0_i32_2483 : BitVec 32 := 0#32
  let c16_i32_1512 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1505 : BitVec 32 := 8#32
  let v2235 : BitVec 32 := Scalar.addi v2 c8_i32_1505
  let c16_i32_1506 : BitVec 32 := 16#32
  let c0_i32_1507 : BitVec 32 := 0#32
  let v2236 : BitVec 1 := Scalar.cmpi .eq c16_i32_1506 c0_i32_1507
  let c1_i32_1508 : BitVec 32 := 1#32
  let v2237 : BitVec 32 := Scalar.select v2236 c1_i32_1508 c16_i32_1506
  let v2238 : BitVec 32 := Scalar.remsi v2235 v2237
  let c0_i32_1510 : BitVec 32 := 0#32
  let v2240 : BitVec 1 := Scalar.cmpi .slt v2238 c0_i32_1510
  let c0_i32_1511 : BitVec 32 := 0#32
  let v2241 : BitVec 1 := Scalar.cmpi .slt v2237 c0_i32_1511
  let v2242 : BitVec 1 := Scalar.xori v2240 v2241
  let c0_i32_1509 : BitVec 32 := 0#32
  let v2239 : BitVec 1 := Scalar.cmpi .ne v2238 c0_i32_1509
  let v2243 : BitVec 1 := Scalar.andi v2242 v2239
  let v2244 : BitVec 32 := Scalar.addi v2238 v2237
  let v2245 : BitVec 32 := Scalar.select v2243 v2244 v2238
  let v2246 : BitVec 32 := Scalar.addi c16_i32_1512 v2245
  let c1_i32_2482 : BitVec 32 := 1#32
  let v3523 : BitVec 32 := Scalar.muli v2246 c1_i32_2482
  let v3524 : BitVec 32 := Scalar.addi c0_i32_2483 v3523
  v3524.toNat
def k0_cond90 (d0 : Dev nD) : BitVec 1 :=
  let c16_i32_1521 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1514 : BitVec 32 := 9#32
  let v2250 : BitVec 32 := Scalar.addi v2 c9_i32_1514
  let c16_i32_1515 : BitVec 32 := 16#32
  let c0_i32_1516 : BitVec 32 := 0#32
  let v2251 : BitVec 1 := Scalar.cmpi .eq c16_i32_1515 c0_i32_1516
  let c1_i32_1517 : BitVec 32 := 1#32
  let v2252 : BitVec 32 := Scalar.select v2251 c1_i32_1517 c16_i32_1515
  let v2253 : BitVec 32 := Scalar.remsi v2250 v2252
  let c0_i32_1519 : BitVec 32 := 0#32
  let v2255 : BitVec 1 := Scalar.cmpi .slt v2253 c0_i32_1519
  let c0_i32_1520 : BitVec 32 := 0#32
  let v2256 : BitVec 1 := Scalar.cmpi .slt v2252 c0_i32_1520
  let v2257 : BitVec 1 := Scalar.xori v2255 v2256
  let c0_i32_1518 : BitVec 32 := 0#32
  let v2254 : BitVec 1 := Scalar.cmpi .ne v2253 c0_i32_1518
  let v2258 : BitVec 1 := Scalar.andi v2257 v2254
  let v2259 : BitVec 32 := Scalar.addi v2253 v2252
  let v2260 : BitVec 32 := Scalar.select v2258 v2259 v2253
  let v2261 : BitVec 32 := Scalar.addi c16_i32_1521 v2260
  let v2262 : BitVec 1 := Scalar.cmpi .ne v2261 v2
  let v2263 : BitVec 32 := Scalar.extui v2262
  let c0_i32_1522 : BitVec 32 := 0#32
  let v2264 : BitVec 1 := Scalar.cmpi .ne v2263 c0_i32_1522
  v2264

def k0_off108 (d0 : Dev nD) : Fin 1 → Nat :=
  let c16_i32_1521 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1514 : BitVec 32 := 9#32
  let v2250 : BitVec 32 := Scalar.addi v2 c9_i32_1514
  let c16_i32_1515 : BitVec 32 := 16#32
  let c0_i32_1516 : BitVec 32 := 0#32
  let v2251 : BitVec 1 := Scalar.cmpi .eq c16_i32_1515 c0_i32_1516
  let c1_i32_1517 : BitVec 32 := 1#32
  let v2252 : BitVec 32 := Scalar.select v2251 c1_i32_1517 c16_i32_1515
  let v2253 : BitVec 32 := Scalar.remsi v2250 v2252
  let c0_i32_1519 : BitVec 32 := 0#32
  let v2255 : BitVec 1 := Scalar.cmpi .slt v2253 c0_i32_1519
  let c0_i32_1520 : BitVec 32 := 0#32
  let v2256 : BitVec 1 := Scalar.cmpi .slt v2252 c0_i32_1520
  let v2257 : BitVec 1 := Scalar.xori v2255 v2256
  let c0_i32_1518 : BitVec 32 := 0#32
  let v2254 : BitVec 1 := Scalar.cmpi .ne v2253 c0_i32_1518
  let v2258 : BitVec 1 := Scalar.andi v2257 v2254
  let v2259 : BitVec 32 := Scalar.addi v2253 v2252
  let v2260 : BitVec 32 := Scalar.select v2258 v2259 v2253
  let v2261 : BitVec 32 := Scalar.addi c16_i32_1521 v2260
  ![v2261.toNat]
def k0_off109 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off110 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off111 (d0 : Dev nD) : Fin 3 → Nat :=
  let c16_i32_1521 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1514 : BitVec 32 := 9#32
  let v2250 : BitVec 32 := Scalar.addi v2 c9_i32_1514
  let c16_i32_1515 : BitVec 32 := 16#32
  let c0_i32_1516 : BitVec 32 := 0#32
  let v2251 : BitVec 1 := Scalar.cmpi .eq c16_i32_1515 c0_i32_1516
  let c1_i32_1517 : BitVec 32 := 1#32
  let v2252 : BitVec 32 := Scalar.select v2251 c1_i32_1517 c16_i32_1515
  let v2253 : BitVec 32 := Scalar.remsi v2250 v2252
  let c0_i32_1519 : BitVec 32 := 0#32
  let v2255 : BitVec 1 := Scalar.cmpi .slt v2253 c0_i32_1519
  let c0_i32_1520 : BitVec 32 := 0#32
  let v2256 : BitVec 1 := Scalar.cmpi .slt v2252 c0_i32_1520
  let v2257 : BitVec 1 := Scalar.xori v2255 v2256
  let c0_i32_1518 : BitVec 32 := 0#32
  let v2254 : BitVec 1 := Scalar.cmpi .ne v2253 c0_i32_1518
  let v2258 : BitVec 1 := Scalar.andi v2257 v2254
  let v2259 : BitVec 32 := Scalar.addi v2253 v2252
  let v2260 : BitVec 32 := Scalar.select v2258 v2259 v2253
  let v2261 : BitVec 32 := Scalar.addi c16_i32_1521 v2260
  let c0_i32_2486 : BitVec 32 := 0#32
  let c0_i32_2487 : BitVec 32 := 0#32
  ![v2261.toNat, 0, 0]
def k0_dev89 (d0 : Dev nD) : Nat :=
  let c0_i32_2483 : BitVec 32 := 0#32
  let c16_i32_1521 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1514 : BitVec 32 := 9#32
  let v2250 : BitVec 32 := Scalar.addi v2 c9_i32_1514
  let c16_i32_1515 : BitVec 32 := 16#32
  let c0_i32_1516 : BitVec 32 := 0#32
  let v2251 : BitVec 1 := Scalar.cmpi .eq c16_i32_1515 c0_i32_1516
  let c1_i32_1517 : BitVec 32 := 1#32
  let v2252 : BitVec 32 := Scalar.select v2251 c1_i32_1517 c16_i32_1515
  let v2253 : BitVec 32 := Scalar.remsi v2250 v2252
  let c0_i32_1519 : BitVec 32 := 0#32
  let v2255 : BitVec 1 := Scalar.cmpi .slt v2253 c0_i32_1519
  let c0_i32_1520 : BitVec 32 := 0#32
  let v2256 : BitVec 1 := Scalar.cmpi .slt v2252 c0_i32_1520
  let v2257 : BitVec 1 := Scalar.xori v2255 v2256
  let c0_i32_1518 : BitVec 32 := 0#32
  let v2254 : BitVec 1 := Scalar.cmpi .ne v2253 c0_i32_1518
  let v2258 : BitVec 1 := Scalar.andi v2257 v2254
  let v2259 : BitVec 32 := Scalar.addi v2253 v2252
  let v2260 : BitVec 32 := Scalar.select v2258 v2259 v2253
  let v2261 : BitVec 32 := Scalar.addi c16_i32_1521 v2260
  let c1_i32_2482 : BitVec 32 := 1#32
  let v3523 : BitVec 32 := Scalar.muli v2261 c1_i32_2482
  let v3524 : BitVec 32 := Scalar.addi c0_i32_2483 v3523
  v3524.toNat
def k0_cond91 (d0 : Dev nD) : BitVec 1 :=
  let c16_i32_1530 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1523 : BitVec 32 := 10#32
  let v2265 : BitVec 32 := Scalar.addi v2 c10_i32_1523
  let c16_i32_1524 : BitVec 32 := 16#32
  let c0_i32_1525 : BitVec 32 := 0#32
  let v2266 : BitVec 1 := Scalar.cmpi .eq c16_i32_1524 c0_i32_1525
  let c1_i32_1526 : BitVec 32 := 1#32
  let v2267 : BitVec 32 := Scalar.select v2266 c1_i32_1526 c16_i32_1524
  let v2268 : BitVec 32 := Scalar.remsi v2265 v2267
  let c0_i32_1528 : BitVec 32 := 0#32
  let v2270 : BitVec 1 := Scalar.cmpi .slt v2268 c0_i32_1528
  let c0_i32_1529 : BitVec 32 := 0#32
  let v2271 : BitVec 1 := Scalar.cmpi .slt v2267 c0_i32_1529
  let v2272 : BitVec 1 := Scalar.xori v2270 v2271
  let c0_i32_1527 : BitVec 32 := 0#32
  let v2269 : BitVec 1 := Scalar.cmpi .ne v2268 c0_i32_1527
  let v2273 : BitVec 1 := Scalar.andi v2272 v2269
  let v2274 : BitVec 32 := Scalar.addi v2268 v2267
  let v2275 : BitVec 32 := Scalar.select v2273 v2274 v2268
  let v2276 : BitVec 32 := Scalar.addi c16_i32_1530 v2275
  let v2277 : BitVec 1 := Scalar.cmpi .ne v2276 v2
  let v2278 : BitVec 32 := Scalar.extui v2277
  let c0_i32_1531 : BitVec 32 := 0#32
  let v2279 : BitVec 1 := Scalar.cmpi .ne v2278 c0_i32_1531
  v2279

def k0_off112 (d0 : Dev nD) : Fin 1 → Nat :=
  let c16_i32_1530 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1523 : BitVec 32 := 10#32
  let v2265 : BitVec 32 := Scalar.addi v2 c10_i32_1523
  let c16_i32_1524 : BitVec 32 := 16#32
  let c0_i32_1525 : BitVec 32 := 0#32
  let v2266 : BitVec 1 := Scalar.cmpi .eq c16_i32_1524 c0_i32_1525
  let c1_i32_1526 : BitVec 32 := 1#32
  let v2267 : BitVec 32 := Scalar.select v2266 c1_i32_1526 c16_i32_1524
  let v2268 : BitVec 32 := Scalar.remsi v2265 v2267
  let c0_i32_1528 : BitVec 32 := 0#32
  let v2270 : BitVec 1 := Scalar.cmpi .slt v2268 c0_i32_1528
  let c0_i32_1529 : BitVec 32 := 0#32
  let v2271 : BitVec 1 := Scalar.cmpi .slt v2267 c0_i32_1529
  let v2272 : BitVec 1 := Scalar.xori v2270 v2271
  let c0_i32_1527 : BitVec 32 := 0#32
  let v2269 : BitVec 1 := Scalar.cmpi .ne v2268 c0_i32_1527
  let v2273 : BitVec 1 := Scalar.andi v2272 v2269
  let v2274 : BitVec 32 := Scalar.addi v2268 v2267
  let v2275 : BitVec 32 := Scalar.select v2273 v2274 v2268
  let v2276 : BitVec 32 := Scalar.addi c16_i32_1530 v2275
  ![v2276.toNat]
def k0_off113 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off114 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off115 (d0 : Dev nD) : Fin 3 → Nat :=
  let c16_i32_1530 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1523 : BitVec 32 := 10#32
  let v2265 : BitVec 32 := Scalar.addi v2 c10_i32_1523
  let c16_i32_1524 : BitVec 32 := 16#32
  let c0_i32_1525 : BitVec 32 := 0#32
  let v2266 : BitVec 1 := Scalar.cmpi .eq c16_i32_1524 c0_i32_1525
  let c1_i32_1526 : BitVec 32 := 1#32
  let v2267 : BitVec 32 := Scalar.select v2266 c1_i32_1526 c16_i32_1524
  let v2268 : BitVec 32 := Scalar.remsi v2265 v2267
  let c0_i32_1528 : BitVec 32 := 0#32
  let v2270 : BitVec 1 := Scalar.cmpi .slt v2268 c0_i32_1528
  let c0_i32_1529 : BitVec 32 := 0#32
  let v2271 : BitVec 1 := Scalar.cmpi .slt v2267 c0_i32_1529
  let v2272 : BitVec 1 := Scalar.xori v2270 v2271
  let c0_i32_1527 : BitVec 32 := 0#32
  let v2269 : BitVec 1 := Scalar.cmpi .ne v2268 c0_i32_1527
  let v2273 : BitVec 1 := Scalar.andi v2272 v2269
  let v2274 : BitVec 32 := Scalar.addi v2268 v2267
  let v2275 : BitVec 32 := Scalar.select v2273 v2274 v2268
  let v2276 : BitVec 32 := Scalar.addi c16_i32_1530 v2275
  let c0_i32_2486 : BitVec 32 := 0#32
  let c0_i32_2487 : BitVec 32 := 0#32
  ![v2276.toNat, 0, 0]
def k0_dev90 (d0 : Dev nD) : Nat :=
  let c0_i32_2483 : BitVec 32 := 0#32
  let c16_i32_1530 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1523 : BitVec 32 := 10#32
  let v2265 : BitVec 32 := Scalar.addi v2 c10_i32_1523
  let c16_i32_1524 : BitVec 32 := 16#32
  let c0_i32_1525 : BitVec 32 := 0#32
  let v2266 : BitVec 1 := Scalar.cmpi .eq c16_i32_1524 c0_i32_1525
  let c1_i32_1526 : BitVec 32 := 1#32
  let v2267 : BitVec 32 := Scalar.select v2266 c1_i32_1526 c16_i32_1524
  let v2268 : BitVec 32 := Scalar.remsi v2265 v2267
  let c0_i32_1528 : BitVec 32 := 0#32
  let v2270 : BitVec 1 := Scalar.cmpi .slt v2268 c0_i32_1528
  let c0_i32_1529 : BitVec 32 := 0#32
  let v2271 : BitVec 1 := Scalar.cmpi .slt v2267 c0_i32_1529
  let v2272 : BitVec 1 := Scalar.xori v2270 v2271
  let c0_i32_1527 : BitVec 32 := 0#32
  let v2269 : BitVec 1 := Scalar.cmpi .ne v2268 c0_i32_1527
  let v2273 : BitVec 1 := Scalar.andi v2272 v2269
  let v2274 : BitVec 32 := Scalar.addi v2268 v2267
  let v2275 : BitVec 32 := Scalar.select v2273 v2274 v2268
  let v2276 : BitVec 32 := Scalar.addi c16_i32_1530 v2275
  let c1_i32_2482 : BitVec 32 := 1#32
  let v3523 : BitVec 32 := Scalar.muli v2276 c1_i32_2482
  let v3524 : BitVec 32 := Scalar.addi c0_i32_2483 v3523
  v3524.toNat
def k0_cond92 (d0 : Dev nD) : BitVec 1 :=
  let c16_i32_1539 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1532 : BitVec 32 := 11#32
  let v2280 : BitVec 32 := Scalar.addi v2 c11_i32_1532
  let c16_i32_1533 : BitVec 32 := 16#32
  let c0_i32_1534 : BitVec 32 := 0#32
  let v2281 : BitVec 1 := Scalar.cmpi .eq c16_i32_1533 c0_i32_1534
  let c1_i32_1535 : BitVec 32 := 1#32
  let v2282 : BitVec 32 := Scalar.select v2281 c1_i32_1535 c16_i32_1533
  let v2283 : BitVec 32 := Scalar.remsi v2280 v2282
  let c0_i32_1537 : BitVec 32 := 0#32
  let v2285 : BitVec 1 := Scalar.cmpi .slt v2283 c0_i32_1537
  let c0_i32_1538 : BitVec 32 := 0#32
  let v2286 : BitVec 1 := Scalar.cmpi .slt v2282 c0_i32_1538
  let v2287 : BitVec 1 := Scalar.xori v2285 v2286
  let c0_i32_1536 : BitVec 32 := 0#32
  let v2284 : BitVec 1 := Scalar.cmpi .ne v2283 c0_i32_1536
  let v2288 : BitVec 1 := Scalar.andi v2287 v2284
  let v2289 : BitVec 32 := Scalar.addi v2283 v2282
  let v2290 : BitVec 32 := Scalar.select v2288 v2289 v2283
  let v2291 : BitVec 32 := Scalar.addi c16_i32_1539 v2290
  let v2292 : BitVec 1 := Scalar.cmpi .ne v2291 v2
  let v2293 : BitVec 32 := Scalar.extui v2292
  let c0_i32_1540 : BitVec 32 := 0#32
  let v2294 : BitVec 1 := Scalar.cmpi .ne v2293 c0_i32_1540
  v2294

def k0_off116 (d0 : Dev nD) : Fin 1 → Nat :=
  let c16_i32_1539 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1532 : BitVec 32 := 11#32
  let v2280 : BitVec 32 := Scalar.addi v2 c11_i32_1532
  let c16_i32_1533 : BitVec 32 := 16#32
  let c0_i32_1534 : BitVec 32 := 0#32
  let v2281 : BitVec 1 := Scalar.cmpi .eq c16_i32_1533 c0_i32_1534
  let c1_i32_1535 : BitVec 32 := 1#32
  let v2282 : BitVec 32 := Scalar.select v2281 c1_i32_1535 c16_i32_1533
  let v2283 : BitVec 32 := Scalar.remsi v2280 v2282
  let c0_i32_1537 : BitVec 32 := 0#32
  let v2285 : BitVec 1 := Scalar.cmpi .slt v2283 c0_i32_1537
  let c0_i32_1538 : BitVec 32 := 0#32
  let v2286 : BitVec 1 := Scalar.cmpi .slt v2282 c0_i32_1538
  let v2287 : BitVec 1 := Scalar.xori v2285 v2286
  let c0_i32_1536 : BitVec 32 := 0#32
  let v2284 : BitVec 1 := Scalar.cmpi .ne v2283 c0_i32_1536
  let v2288 : BitVec 1 := Scalar.andi v2287 v2284
  let v2289 : BitVec 32 := Scalar.addi v2283 v2282
  let v2290 : BitVec 32 := Scalar.select v2288 v2289 v2283
  let v2291 : BitVec 32 := Scalar.addi c16_i32_1539 v2290
  ![v2291.toNat]
def k0_off117 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off118 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off119 (d0 : Dev nD) : Fin 3 → Nat :=
  let c16_i32_1539 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1532 : BitVec 32 := 11#32
  let v2280 : BitVec 32 := Scalar.addi v2 c11_i32_1532
  let c16_i32_1533 : BitVec 32 := 16#32
  let c0_i32_1534 : BitVec 32 := 0#32
  let v2281 : BitVec 1 := Scalar.cmpi .eq c16_i32_1533 c0_i32_1534
  let c1_i32_1535 : BitVec 32 := 1#32
  let v2282 : BitVec 32 := Scalar.select v2281 c1_i32_1535 c16_i32_1533
  let v2283 : BitVec 32 := Scalar.remsi v2280 v2282
  let c0_i32_1537 : BitVec 32 := 0#32
  let v2285 : BitVec 1 := Scalar.cmpi .slt v2283 c0_i32_1537
  let c0_i32_1538 : BitVec 32 := 0#32
  let v2286 : BitVec 1 := Scalar.cmpi .slt v2282 c0_i32_1538
  let v2287 : BitVec 1 := Scalar.xori v2285 v2286
  let c0_i32_1536 : BitVec 32 := 0#32
  let v2284 : BitVec 1 := Scalar.cmpi .ne v2283 c0_i32_1536
  let v2288 : BitVec 1 := Scalar.andi v2287 v2284
  let v2289 : BitVec 32 := Scalar.addi v2283 v2282
  let v2290 : BitVec 32 := Scalar.select v2288 v2289 v2283
  let v2291 : BitVec 32 := Scalar.addi c16_i32_1539 v2290
  let c0_i32_2486 : BitVec 32 := 0#32
  let c0_i32_2487 : BitVec 32 := 0#32
  ![v2291.toNat, 0, 0]
def k0_dev91 (d0 : Dev nD) : Nat :=
  let c0_i32_2483 : BitVec 32 := 0#32
  let c16_i32_1539 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1532 : BitVec 32 := 11#32
  let v2280 : BitVec 32 := Scalar.addi v2 c11_i32_1532
  let c16_i32_1533 : BitVec 32 := 16#32
  let c0_i32_1534 : BitVec 32 := 0#32
  let v2281 : BitVec 1 := Scalar.cmpi .eq c16_i32_1533 c0_i32_1534
  let c1_i32_1535 : BitVec 32 := 1#32
  let v2282 : BitVec 32 := Scalar.select v2281 c1_i32_1535 c16_i32_1533
  let v2283 : BitVec 32 := Scalar.remsi v2280 v2282
  let c0_i32_1537 : BitVec 32 := 0#32
  let v2285 : BitVec 1 := Scalar.cmpi .slt v2283 c0_i32_1537
  let c0_i32_1538 : BitVec 32 := 0#32
  let v2286 : BitVec 1 := Scalar.cmpi .slt v2282 c0_i32_1538
  let v2287 : BitVec 1 := Scalar.xori v2285 v2286
  let c0_i32_1536 : BitVec 32 := 0#32
  let v2284 : BitVec 1 := Scalar.cmpi .ne v2283 c0_i32_1536
  let v2288 : BitVec 1 := Scalar.andi v2287 v2284
  let v2289 : BitVec 32 := Scalar.addi v2283 v2282
  let v2290 : BitVec 32 := Scalar.select v2288 v2289 v2283
  let v2291 : BitVec 32 := Scalar.addi c16_i32_1539 v2290
  let c1_i32_2482 : BitVec 32 := 1#32
  let v3523 : BitVec 32 := Scalar.muli v2291 c1_i32_2482
  let v3524 : BitVec 32 := Scalar.addi c0_i32_2483 v3523
  v3524.toNat
def k0_cond93 (d0 : Dev nD) : BitVec 1 :=
  let c16_i32_1548 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1541 : BitVec 32 := 12#32
  let v2295 : BitVec 32 := Scalar.addi v2 c12_i32_1541
  let c16_i32_1542 : BitVec 32 := 16#32
  let c0_i32_1543 : BitVec 32 := 0#32
  let v2296 : BitVec 1 := Scalar.cmpi .eq c16_i32_1542 c0_i32_1543
  let c1_i32_1544 : BitVec 32 := 1#32
  let v2297 : BitVec 32 := Scalar.select v2296 c1_i32_1544 c16_i32_1542
  let v2298 : BitVec 32 := Scalar.remsi v2295 v2297
  let c0_i32_1546 : BitVec 32 := 0#32
  let v2300 : BitVec 1 := Scalar.cmpi .slt v2298 c0_i32_1546
  let c0_i32_1547 : BitVec 32 := 0#32
  let v2301 : BitVec 1 := Scalar.cmpi .slt v2297 c0_i32_1547
  let v2302 : BitVec 1 := Scalar.xori v2300 v2301
  let c0_i32_1545 : BitVec 32 := 0#32
  let v2299 : BitVec 1 := Scalar.cmpi .ne v2298 c0_i32_1545
  let v2303 : BitVec 1 := Scalar.andi v2302 v2299
  let v2304 : BitVec 32 := Scalar.addi v2298 v2297
  let v2305 : BitVec 32 := Scalar.select v2303 v2304 v2298
  let v2306 : BitVec 32 := Scalar.addi c16_i32_1548 v2305
  let v2307 : BitVec 1 := Scalar.cmpi .ne v2306 v2
  let v2308 : BitVec 32 := Scalar.extui v2307
  let c0_i32_1549 : BitVec 32 := 0#32
  let v2309 : BitVec 1 := Scalar.cmpi .ne v2308 c0_i32_1549
  v2309

def k0_off120 (d0 : Dev nD) : Fin 1 → Nat :=
  let c16_i32_1548 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1541 : BitVec 32 := 12#32
  let v2295 : BitVec 32 := Scalar.addi v2 c12_i32_1541
  let c16_i32_1542 : BitVec 32 := 16#32
  let c0_i32_1543 : BitVec 32 := 0#32
  let v2296 : BitVec 1 := Scalar.cmpi .eq c16_i32_1542 c0_i32_1543
  let c1_i32_1544 : BitVec 32 := 1#32
  let v2297 : BitVec 32 := Scalar.select v2296 c1_i32_1544 c16_i32_1542
  let v2298 : BitVec 32 := Scalar.remsi v2295 v2297
  let c0_i32_1546 : BitVec 32 := 0#32
  let v2300 : BitVec 1 := Scalar.cmpi .slt v2298 c0_i32_1546
  let c0_i32_1547 : BitVec 32 := 0#32
  let v2301 : BitVec 1 := Scalar.cmpi .slt v2297 c0_i32_1547
  let v2302 : BitVec 1 := Scalar.xori v2300 v2301
  let c0_i32_1545 : BitVec 32 := 0#32
  let v2299 : BitVec 1 := Scalar.cmpi .ne v2298 c0_i32_1545
  let v2303 : BitVec 1 := Scalar.andi v2302 v2299
  let v2304 : BitVec 32 := Scalar.addi v2298 v2297
  let v2305 : BitVec 32 := Scalar.select v2303 v2304 v2298
  let v2306 : BitVec 32 := Scalar.addi c16_i32_1548 v2305
  ![v2306.toNat]
def k0_off121 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off122 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off123 (d0 : Dev nD) : Fin 3 → Nat :=
  let c16_i32_1548 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1541 : BitVec 32 := 12#32
  let v2295 : BitVec 32 := Scalar.addi v2 c12_i32_1541
  let c16_i32_1542 : BitVec 32 := 16#32
  let c0_i32_1543 : BitVec 32 := 0#32
  let v2296 : BitVec 1 := Scalar.cmpi .eq c16_i32_1542 c0_i32_1543
  let c1_i32_1544 : BitVec 32 := 1#32
  let v2297 : BitVec 32 := Scalar.select v2296 c1_i32_1544 c16_i32_1542
  let v2298 : BitVec 32 := Scalar.remsi v2295 v2297
  let c0_i32_1546 : BitVec 32 := 0#32
  let v2300 : BitVec 1 := Scalar.cmpi .slt v2298 c0_i32_1546
  let c0_i32_1547 : BitVec 32 := 0#32
  let v2301 : BitVec 1 := Scalar.cmpi .slt v2297 c0_i32_1547
  let v2302 : BitVec 1 := Scalar.xori v2300 v2301
  let c0_i32_1545 : BitVec 32 := 0#32
  let v2299 : BitVec 1 := Scalar.cmpi .ne v2298 c0_i32_1545
  let v2303 : BitVec 1 := Scalar.andi v2302 v2299
  let v2304 : BitVec 32 := Scalar.addi v2298 v2297
  let v2305 : BitVec 32 := Scalar.select v2303 v2304 v2298
  let v2306 : BitVec 32 := Scalar.addi c16_i32_1548 v2305
  let c0_i32_2486 : BitVec 32 := 0#32
  let c0_i32_2487 : BitVec 32 := 0#32
  ![v2306.toNat, 0, 0]
def k0_dev92 (d0 : Dev nD) : Nat :=
  let c0_i32_2483 : BitVec 32 := 0#32
  let c16_i32_1548 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1541 : BitVec 32 := 12#32
  let v2295 : BitVec 32 := Scalar.addi v2 c12_i32_1541
  let c16_i32_1542 : BitVec 32 := 16#32
  let c0_i32_1543 : BitVec 32 := 0#32
  let v2296 : BitVec 1 := Scalar.cmpi .eq c16_i32_1542 c0_i32_1543
  let c1_i32_1544 : BitVec 32 := 1#32
  let v2297 : BitVec 32 := Scalar.select v2296 c1_i32_1544 c16_i32_1542
  let v2298 : BitVec 32 := Scalar.remsi v2295 v2297
  let c0_i32_1546 : BitVec 32 := 0#32
  let v2300 : BitVec 1 := Scalar.cmpi .slt v2298 c0_i32_1546
  let c0_i32_1547 : BitVec 32 := 0#32
  let v2301 : BitVec 1 := Scalar.cmpi .slt v2297 c0_i32_1547
  let v2302 : BitVec 1 := Scalar.xori v2300 v2301
  let c0_i32_1545 : BitVec 32 := 0#32
  let v2299 : BitVec 1 := Scalar.cmpi .ne v2298 c0_i32_1545
  let v2303 : BitVec 1 := Scalar.andi v2302 v2299
  let v2304 : BitVec 32 := Scalar.addi v2298 v2297
  let v2305 : BitVec 32 := Scalar.select v2303 v2304 v2298
  let v2306 : BitVec 32 := Scalar.addi c16_i32_1548 v2305
  let c1_i32_2482 : BitVec 32 := 1#32
  let v3523 : BitVec 32 := Scalar.muli v2306 c1_i32_2482
  let v3524 : BitVec 32 := Scalar.addi c0_i32_2483 v3523
  v3524.toNat
def k0_cond94 (d0 : Dev nD) : BitVec 1 :=
  let c16_i32_1557 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1550 : BitVec 32 := 13#32
  let v2310 : BitVec 32 := Scalar.addi v2 c13_i32_1550
  let c16_i32_1551 : BitVec 32 := 16#32
  let c0_i32_1552 : BitVec 32 := 0#32
  let v2311 : BitVec 1 := Scalar.cmpi .eq c16_i32_1551 c0_i32_1552
  let c1_i32_1553 : BitVec 32 := 1#32
  let v2312 : BitVec 32 := Scalar.select v2311 c1_i32_1553 c16_i32_1551
  let v2313 : BitVec 32 := Scalar.remsi v2310 v2312
  let c0_i32_1555 : BitVec 32 := 0#32
  let v2315 : BitVec 1 := Scalar.cmpi .slt v2313 c0_i32_1555
  let c0_i32_1556 : BitVec 32 := 0#32
  let v2316 : BitVec 1 := Scalar.cmpi .slt v2312 c0_i32_1556
  let v2317 : BitVec 1 := Scalar.xori v2315 v2316
  let c0_i32_1554 : BitVec 32 := 0#32
  let v2314 : BitVec 1 := Scalar.cmpi .ne v2313 c0_i32_1554
  let v2318 : BitVec 1 := Scalar.andi v2317 v2314
  let v2319 : BitVec 32 := Scalar.addi v2313 v2312
  let v2320 : BitVec 32 := Scalar.select v2318 v2319 v2313
  let v2321 : BitVec 32 := Scalar.addi c16_i32_1557 v2320
  let v2322 : BitVec 1 := Scalar.cmpi .ne v2321 v2
  let v2323 : BitVec 32 := Scalar.extui v2322
  let c0_i32_1558 : BitVec 32 := 0#32
  let v2324 : BitVec 1 := Scalar.cmpi .ne v2323 c0_i32_1558
  v2324

def k0_off124 (d0 : Dev nD) : Fin 1 → Nat :=
  let c16_i32_1557 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1550 : BitVec 32 := 13#32
  let v2310 : BitVec 32 := Scalar.addi v2 c13_i32_1550
  let c16_i32_1551 : BitVec 32 := 16#32
  let c0_i32_1552 : BitVec 32 := 0#32
  let v2311 : BitVec 1 := Scalar.cmpi .eq c16_i32_1551 c0_i32_1552
  let c1_i32_1553 : BitVec 32 := 1#32
  let v2312 : BitVec 32 := Scalar.select v2311 c1_i32_1553 c16_i32_1551
  let v2313 : BitVec 32 := Scalar.remsi v2310 v2312
  let c0_i32_1555 : BitVec 32 := 0#32
  let v2315 : BitVec 1 := Scalar.cmpi .slt v2313 c0_i32_1555
  let c0_i32_1556 : BitVec 32 := 0#32
  let v2316 : BitVec 1 := Scalar.cmpi .slt v2312 c0_i32_1556
  let v2317 : BitVec 1 := Scalar.xori v2315 v2316
  let c0_i32_1554 : BitVec 32 := 0#32
  let v2314 : BitVec 1 := Scalar.cmpi .ne v2313 c0_i32_1554
  let v2318 : BitVec 1 := Scalar.andi v2317 v2314
  let v2319 : BitVec 32 := Scalar.addi v2313 v2312
  let v2320 : BitVec 32 := Scalar.select v2318 v2319 v2313
  let v2321 : BitVec 32 := Scalar.addi c16_i32_1557 v2320
  ![v2321.toNat]
def k0_off125 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off126 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off127 (d0 : Dev nD) : Fin 3 → Nat :=
  let c16_i32_1557 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1550 : BitVec 32 := 13#32
  let v2310 : BitVec 32 := Scalar.addi v2 c13_i32_1550
  let c16_i32_1551 : BitVec 32 := 16#32
  let c0_i32_1552 : BitVec 32 := 0#32
  let v2311 : BitVec 1 := Scalar.cmpi .eq c16_i32_1551 c0_i32_1552
  let c1_i32_1553 : BitVec 32 := 1#32
  let v2312 : BitVec 32 := Scalar.select v2311 c1_i32_1553 c16_i32_1551
  let v2313 : BitVec 32 := Scalar.remsi v2310 v2312
  let c0_i32_1555 : BitVec 32 := 0#32
  let v2315 : BitVec 1 := Scalar.cmpi .slt v2313 c0_i32_1555
  let c0_i32_1556 : BitVec 32 := 0#32
  let v2316 : BitVec 1 := Scalar.cmpi .slt v2312 c0_i32_1556
  let v2317 : BitVec 1 := Scalar.xori v2315 v2316
  let c0_i32_1554 : BitVec 32 := 0#32
  let v2314 : BitVec 1 := Scalar.cmpi .ne v2313 c0_i32_1554
  let v2318 : BitVec 1 := Scalar.andi v2317 v2314
  let v2319 : BitVec 32 := Scalar.addi v2313 v2312
  let v2320 : BitVec 32 := Scalar.select v2318 v2319 v2313
  let v2321 : BitVec 32 := Scalar.addi c16_i32_1557 v2320
  let c0_i32_2486 : BitVec 32 := 0#32
  let c0_i32_2487 : BitVec 32 := 0#32
  ![v2321.toNat, 0, 0]
def k0_dev93 (d0 : Dev nD) : Nat :=
  let c0_i32_2483 : BitVec 32 := 0#32
  let c16_i32_1557 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1550 : BitVec 32 := 13#32
  let v2310 : BitVec 32 := Scalar.addi v2 c13_i32_1550
  let c16_i32_1551 : BitVec 32 := 16#32
  let c0_i32_1552 : BitVec 32 := 0#32
  let v2311 : BitVec 1 := Scalar.cmpi .eq c16_i32_1551 c0_i32_1552
  let c1_i32_1553 : BitVec 32 := 1#32
  let v2312 : BitVec 32 := Scalar.select v2311 c1_i32_1553 c16_i32_1551
  let v2313 : BitVec 32 := Scalar.remsi v2310 v2312
  let c0_i32_1555 : BitVec 32 := 0#32
  let v2315 : BitVec 1 := Scalar.cmpi .slt v2313 c0_i32_1555
  let c0_i32_1556 : BitVec 32 := 0#32
  let v2316 : BitVec 1 := Scalar.cmpi .slt v2312 c0_i32_1556
  let v2317 : BitVec 1 := Scalar.xori v2315 v2316
  let c0_i32_1554 : BitVec 32 := 0#32
  let v2314 : BitVec 1 := Scalar.cmpi .ne v2313 c0_i32_1554
  let v2318 : BitVec 1 := Scalar.andi v2317 v2314
  let v2319 : BitVec 32 := Scalar.addi v2313 v2312
  let v2320 : BitVec 32 := Scalar.select v2318 v2319 v2313
  let v2321 : BitVec 32 := Scalar.addi c16_i32_1557 v2320
  let c1_i32_2482 : BitVec 32 := 1#32
  let v3523 : BitVec 32 := Scalar.muli v2321 c1_i32_2482
  let v3524 : BitVec 32 := Scalar.addi c0_i32_2483 v3523
  v3524.toNat
def k0_cond95 (d0 : Dev nD) : BitVec 1 :=
  let c16_i32_1566 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1559 : BitVec 32 := 14#32
  let v2325 : BitVec 32 := Scalar.addi v2 c14_i32_1559
  let c16_i32_1560 : BitVec 32 := 16#32
  let c0_i32_1561 : BitVec 32 := 0#32
  let v2326 : BitVec 1 := Scalar.cmpi .eq c16_i32_1560 c0_i32_1561
  let c1_i32_1562 : BitVec 32 := 1#32
  let v2327 : BitVec 32 := Scalar.select v2326 c1_i32_1562 c16_i32_1560
  let v2328 : BitVec 32 := Scalar.remsi v2325 v2327
  let c0_i32_1564 : BitVec 32 := 0#32
  let v2330 : BitVec 1 := Scalar.cmpi .slt v2328 c0_i32_1564
  let c0_i32_1565 : BitVec 32 := 0#32
  let v2331 : BitVec 1 := Scalar.cmpi .slt v2327 c0_i32_1565
  let v2332 : BitVec 1 := Scalar.xori v2330 v2331
  let c0_i32_1563 : BitVec 32 := 0#32
  let v2329 : BitVec 1 := Scalar.cmpi .ne v2328 c0_i32_1563
  let v2333 : BitVec 1 := Scalar.andi v2332 v2329
  let v2334 : BitVec 32 := Scalar.addi v2328 v2327
  let v2335 : BitVec 32 := Scalar.select v2333 v2334 v2328
  let v2336 : BitVec 32 := Scalar.addi c16_i32_1566 v2335
  let v2337 : BitVec 1 := Scalar.cmpi .ne v2336 v2
  let v2338 : BitVec 32 := Scalar.extui v2337
  let c0_i32_1567 : BitVec 32 := 0#32
  let v2339 : BitVec 1 := Scalar.cmpi .ne v2338 c0_i32_1567
  v2339

def k0_off128 (d0 : Dev nD) : Fin 1 → Nat :=
  let c16_i32_1566 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1559 : BitVec 32 := 14#32
  let v2325 : BitVec 32 := Scalar.addi v2 c14_i32_1559
  let c16_i32_1560 : BitVec 32 := 16#32
  let c0_i32_1561 : BitVec 32 := 0#32
  let v2326 : BitVec 1 := Scalar.cmpi .eq c16_i32_1560 c0_i32_1561
  let c1_i32_1562 : BitVec 32 := 1#32
  let v2327 : BitVec 32 := Scalar.select v2326 c1_i32_1562 c16_i32_1560
  let v2328 : BitVec 32 := Scalar.remsi v2325 v2327
  let c0_i32_1564 : BitVec 32 := 0#32
  let v2330 : BitVec 1 := Scalar.cmpi .slt v2328 c0_i32_1564
  let c0_i32_1565 : BitVec 32 := 0#32
  let v2331 : BitVec 1 := Scalar.cmpi .slt v2327 c0_i32_1565
  let v2332 : BitVec 1 := Scalar.xori v2330 v2331
  let c0_i32_1563 : BitVec 32 := 0#32
  let v2329 : BitVec 1 := Scalar.cmpi .ne v2328 c0_i32_1563
  let v2333 : BitVec 1 := Scalar.andi v2332 v2329
  let v2334 : BitVec 32 := Scalar.addi v2328 v2327
  let v2335 : BitVec 32 := Scalar.select v2333 v2334 v2328
  let v2336 : BitVec 32 := Scalar.addi c16_i32_1566 v2335
  ![v2336.toNat]
def k0_off129 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off130 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off131 (d0 : Dev nD) : Fin 3 → Nat :=
  let c16_i32_1566 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1559 : BitVec 32 := 14#32
  let v2325 : BitVec 32 := Scalar.addi v2 c14_i32_1559
  let c16_i32_1560 : BitVec 32 := 16#32
  let c0_i32_1561 : BitVec 32 := 0#32
  let v2326 : BitVec 1 := Scalar.cmpi .eq c16_i32_1560 c0_i32_1561
  let c1_i32_1562 : BitVec 32 := 1#32
  let v2327 : BitVec 32 := Scalar.select v2326 c1_i32_1562 c16_i32_1560
  let v2328 : BitVec 32 := Scalar.remsi v2325 v2327
  let c0_i32_1564 : BitVec 32 := 0#32
  let v2330 : BitVec 1 := Scalar.cmpi .slt v2328 c0_i32_1564
  let c0_i32_1565 : BitVec 32 := 0#32
  let v2331 : BitVec 1 := Scalar.cmpi .slt v2327 c0_i32_1565
  let v2332 : BitVec 1 := Scalar.xori v2330 v2331
  let c0_i32_1563 : BitVec 32 := 0#32
  let v2329 : BitVec 1 := Scalar.cmpi .ne v2328 c0_i32_1563
  let v2333 : BitVec 1 := Scalar.andi v2332 v2329
  let v2334 : BitVec 32 := Scalar.addi v2328 v2327
  let v2335 : BitVec 32 := Scalar.select v2333 v2334 v2328
  let v2336 : BitVec 32 := Scalar.addi c16_i32_1566 v2335
  let c0_i32_2486 : BitVec 32 := 0#32
  let c0_i32_2487 : BitVec 32 := 0#32
  ![v2336.toNat, 0, 0]
def k0_dev94 (d0 : Dev nD) : Nat :=
  let c0_i32_2483 : BitVec 32 := 0#32
  let c16_i32_1566 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1559 : BitVec 32 := 14#32
  let v2325 : BitVec 32 := Scalar.addi v2 c14_i32_1559
  let c16_i32_1560 : BitVec 32 := 16#32
  let c0_i32_1561 : BitVec 32 := 0#32
  let v2326 : BitVec 1 := Scalar.cmpi .eq c16_i32_1560 c0_i32_1561
  let c1_i32_1562 : BitVec 32 := 1#32
  let v2327 : BitVec 32 := Scalar.select v2326 c1_i32_1562 c16_i32_1560
  let v2328 : BitVec 32 := Scalar.remsi v2325 v2327
  let c0_i32_1564 : BitVec 32 := 0#32
  let v2330 : BitVec 1 := Scalar.cmpi .slt v2328 c0_i32_1564
  let c0_i32_1565 : BitVec 32 := 0#32
  let v2331 : BitVec 1 := Scalar.cmpi .slt v2327 c0_i32_1565
  let v2332 : BitVec 1 := Scalar.xori v2330 v2331
  let c0_i32_1563 : BitVec 32 := 0#32
  let v2329 : BitVec 1 := Scalar.cmpi .ne v2328 c0_i32_1563
  let v2333 : BitVec 1 := Scalar.andi v2332 v2329
  let v2334 : BitVec 32 := Scalar.addi v2328 v2327
  let v2335 : BitVec 32 := Scalar.select v2333 v2334 v2328
  let v2336 : BitVec 32 := Scalar.addi c16_i32_1566 v2335
  let c1_i32_2482 : BitVec 32 := 1#32
  let v3523 : BitVec 32 := Scalar.muli v2336 c1_i32_2482
  let v3524 : BitVec 32 := Scalar.addi c0_i32_2483 v3523
  v3524.toNat
def k0_cond96 (d0 : Dev nD) : BitVec 1 :=
  let c16_i32_1575 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1568 : BitVec 32 := 15#32
  let v2340 : BitVec 32 := Scalar.addi v2 c15_i32_1568
  let c16_i32_1569 : BitVec 32 := 16#32
  let c0_i32_1570 : BitVec 32 := 0#32
  let v2341 : BitVec 1 := Scalar.cmpi .eq c16_i32_1569 c0_i32_1570
  let c1_i32_1571 : BitVec 32 := 1#32
  let v2342 : BitVec 32 := Scalar.select v2341 c1_i32_1571 c16_i32_1569
  let v2343 : BitVec 32 := Scalar.remsi v2340 v2342
  let c0_i32_1573 : BitVec 32 := 0#32
  let v2345 : BitVec 1 := Scalar.cmpi .slt v2343 c0_i32_1573
  let c0_i32_1574 : BitVec 32 := 0#32
  let v2346 : BitVec 1 := Scalar.cmpi .slt v2342 c0_i32_1574
  let v2347 : BitVec 1 := Scalar.xori v2345 v2346
  let c0_i32_1572 : BitVec 32 := 0#32
  let v2344 : BitVec 1 := Scalar.cmpi .ne v2343 c0_i32_1572
  let v2348 : BitVec 1 := Scalar.andi v2347 v2344
  let v2349 : BitVec 32 := Scalar.addi v2343 v2342
  let v2350 : BitVec 32 := Scalar.select v2348 v2349 v2343
  let v2351 : BitVec 32 := Scalar.addi c16_i32_1575 v2350
  let v2352 : BitVec 1 := Scalar.cmpi .ne v2351 v2
  let v2353 : BitVec 32 := Scalar.extui v2352
  let c0_i32_1576 : BitVec 32 := 0#32
  let v2354 : BitVec 1 := Scalar.cmpi .ne v2353 c0_i32_1576
  v2354

def k0_off132 (d0 : Dev nD) : Fin 1 → Nat :=
  let c16_i32_1575 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1568 : BitVec 32 := 15#32
  let v2340 : BitVec 32 := Scalar.addi v2 c15_i32_1568
  let c16_i32_1569 : BitVec 32 := 16#32
  let c0_i32_1570 : BitVec 32 := 0#32
  let v2341 : BitVec 1 := Scalar.cmpi .eq c16_i32_1569 c0_i32_1570
  let c1_i32_1571 : BitVec 32 := 1#32
  let v2342 : BitVec 32 := Scalar.select v2341 c1_i32_1571 c16_i32_1569
  let v2343 : BitVec 32 := Scalar.remsi v2340 v2342
  let c0_i32_1573 : BitVec 32 := 0#32
  let v2345 : BitVec 1 := Scalar.cmpi .slt v2343 c0_i32_1573
  let c0_i32_1574 : BitVec 32 := 0#32
  let v2346 : BitVec 1 := Scalar.cmpi .slt v2342 c0_i32_1574
  let v2347 : BitVec 1 := Scalar.xori v2345 v2346
  let c0_i32_1572 : BitVec 32 := 0#32
  let v2344 : BitVec 1 := Scalar.cmpi .ne v2343 c0_i32_1572
  let v2348 : BitVec 1 := Scalar.andi v2347 v2344
  let v2349 : BitVec 32 := Scalar.addi v2343 v2342
  let v2350 : BitVec 32 := Scalar.select v2348 v2349 v2343
  let v2351 : BitVec 32 := Scalar.addi c16_i32_1575 v2350
  ![v2351.toNat]
def k0_off133 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off134 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2484 : BitVec 32 := 0#32
  let c0_i32_2485 : BitVec 32 := 0#32
  ![v2.toNat, 0, 0]
def k0_off135 (d0 : Dev nD) : Fin 3 → Nat :=
  let c16_i32_1575 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1568 : BitVec 32 := 15#32
  let v2340 : BitVec 32 := Scalar.addi v2 c15_i32_1568
  let c16_i32_1569 : BitVec 32 := 16#32
  let c0_i32_1570 : BitVec 32 := 0#32
  let v2341 : BitVec 1 := Scalar.cmpi .eq c16_i32_1569 c0_i32_1570
  let c1_i32_1571 : BitVec 32 := 1#32
  let v2342 : BitVec 32 := Scalar.select v2341 c1_i32_1571 c16_i32_1569
  let v2343 : BitVec 32 := Scalar.remsi v2340 v2342
  let c0_i32_1573 : BitVec 32 := 0#32
  let v2345 : BitVec 1 := Scalar.cmpi .slt v2343 c0_i32_1573
  let c0_i32_1574 : BitVec 32 := 0#32
  let v2346 : BitVec 1 := Scalar.cmpi .slt v2342 c0_i32_1574
  let v2347 : BitVec 1 := Scalar.xori v2345 v2346
  let c0_i32_1572 : BitVec 32 := 0#32
  let v2344 : BitVec 1 := Scalar.cmpi .ne v2343 c0_i32_1572
  let v2348 : BitVec 1 := Scalar.andi v2347 v2344
  let v2349 : BitVec 32 := Scalar.addi v2343 v2342
  let v2350 : BitVec 32 := Scalar.select v2348 v2349 v2343
  let v2351 : BitVec 32 := Scalar.addi c16_i32_1575 v2350
  let c0_i32_2486 : BitVec 32 := 0#32
  let c0_i32_2487 : BitVec 32 := 0#32
  ![v2351.toNat, 0, 0]
def k0_dev95 (d0 : Dev nD) : Nat :=
  let c0_i32_2483 : BitVec 32 := 0#32
  let c16_i32_1575 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1568 : BitVec 32 := 15#32
  let v2340 : BitVec 32 := Scalar.addi v2 c15_i32_1568
  let c16_i32_1569 : BitVec 32 := 16#32
  let c0_i32_1570 : BitVec 32 := 0#32
  let v2341 : BitVec 1 := Scalar.cmpi .eq c16_i32_1569 c0_i32_1570
  let c1_i32_1571 : BitVec 32 := 1#32
  let v2342 : BitVec 32 := Scalar.select v2341 c1_i32_1571 c16_i32_1569
  let v2343 : BitVec 32 := Scalar.remsi v2340 v2342
  let c0_i32_1573 : BitVec 32 := 0#32
  let v2345 : BitVec 1 := Scalar.cmpi .slt v2343 c0_i32_1573
  let c0_i32_1574 : BitVec 32 := 0#32
  let v2346 : BitVec 1 := Scalar.cmpi .slt v2342 c0_i32_1574
  let v2347 : BitVec 1 := Scalar.xori v2345 v2346
  let c0_i32_1572 : BitVec 32 := 0#32
  let v2344 : BitVec 1 := Scalar.cmpi .ne v2343 c0_i32_1572
  let v2348 : BitVec 1 := Scalar.andi v2347 v2344
  let v2349 : BitVec 32 := Scalar.addi v2343 v2342
  let v2350 : BitVec 32 := Scalar.select v2348 v2349 v2343
  let v2351 : BitVec 32 := Scalar.addi c16_i32_1575 v2350
  let c1_i32_2482 : BitVec 32 := 1#32
  let v3523 : BitVec 32 := Scalar.muli v2351 c1_i32_2482
  let v3524 : BitVec 32 := Scalar.addi c0_i32_2483 v3523
  v3524.toNat
def k0_off136 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2355 : Index := Scalar.indexCast v2
  let c0_1577 : Index := 0#32
  let c0_1578 : Index := 0#32
  ![v2355.toNat, 0, 0]
def k0_off137 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1781 : BitVec 32 := 0#32
  let v2463 : BitVec 1 := Scalar.cmpi .sgt v2 c0_i32_1781
  let v2464 : BitVec 32 := Scalar.extui v2463
  let c0_i32_1782 : BitVec 32 := 0#32
  let v2465 : BitVec 1 := Scalar.cmpi .slt v2 c0_i32_1782
  let v2466 : BitVec 32 := Scalar.extui v2465
  let v2467 : BitVec 32 := Scalar.subi v2464 v2466
  let c16_i32_1780 : BitVec 32 := 16#32
  let c0_i32_1783 : BitVec 32 := 0#32
  let v2468 : BitVec 1 := Scalar.cmpi .sgt c16_i32_1780 c0_i32_1783
  let v2469 : BitVec 32 := Scalar.extui v2468
  let c0_i32_1784 : BitVec 32 := 0#32
  let v2470 : BitVec 1 := Scalar.cmpi .slt c16_i32_1780 c0_i32_1784
  let v2471 : BitVec 32 := Scalar.extui v2470
  let v2472 : BitVec 32 := Scalar.subi v2469 v2471
  let v2473 : BitVec 1 := Scalar.cmpi .ne v2467 v2472
  let v2474 : BitVec 32 := Scalar.remsi v2 c16_i32_1780
  let c0_i32_1785 : BitVec 32 := 0#32
  let v2475 : BitVec 1 := Scalar.cmpi .ne v2474 c0_i32_1785
  let v2476 : BitVec 1 := Scalar.andi v2473 v2475
  let v2462 : BitVec 32 := Scalar.divsi v2 c16_i32_1780
  let c1_i32_1786 : BitVec 32 := 1#32
  let v2477 : BitVec 32 := Scalar.subi v2462 c1_i32_1786
  let v2478 : BitVec 32 := Scalar.select v2476 v2477 v2462
  let v2491 : Index := Scalar.indexCast v2478
  let c16_i32_1787 : BitVec 32 := 16#32
  let c0_i32_1788 : BitVec 32 := 0#32
  let v2479 : BitVec 1 := Scalar.cmpi .eq c16_i32_1787 c0_i32_1788
  let c1_i32_1789 : BitVec 32 := 1#32
  let v2480 : BitVec 32 := Scalar.select v2479 c1_i32_1789 c16_i32_1787
  let v2481 : BitVec 32 := Scalar.remsi v2 v2480
  let c0_i32_1791 : BitVec 32 := 0#32
  let v2483 : BitVec 1 := Scalar.cmpi .slt v2481 c0_i32_1791
  let c0_i32_1792 : BitVec 32 := 0#32
  let v2484 : BitVec 1 := Scalar.cmpi .slt v2480 c0_i32_1792
  let v2485 : BitVec 1 := Scalar.xori v2483 v2484
  let c0_i32_1790 : BitVec 32 := 0#32
  let v2482 : BitVec 1 := Scalar.cmpi .ne v2481 c0_i32_1790
  let v2486 : BitVec 1 := Scalar.andi v2485 v2482
  let v2487 : BitVec 32 := Scalar.addi v2481 v2480
  let v2488 : BitVec 32 := Scalar.select v2486 v2487 v2481
  let c16_i32_1793 : BitVec 32 := 16#32
  let v2489 : BitVec 32 := Scalar.muli v2488 c16_i32_1793
  let v2492 : Index := Scalar.indexCast v2489
  let c0_1794 : Index := 0#32
  ![v2491.toNat, v2492.toNat, 0]
def k0_off138 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1781 : BitVec 32 := 0#32
  let v2463 : BitVec 1 := Scalar.cmpi .sgt v2 c0_i32_1781
  let v2464 : BitVec 32 := Scalar.extui v2463
  let c0_i32_1782 : BitVec 32 := 0#32
  let v2465 : BitVec 1 := Scalar.cmpi .slt v2 c0_i32_1782
  let v2466 : BitVec 32 := Scalar.extui v2465
  let v2467 : BitVec 32 := Scalar.subi v2464 v2466
  let c16_i32_1780 : BitVec 32 := 16#32
  let c0_i32_1783 : BitVec 32 := 0#32
  let v2468 : BitVec 1 := Scalar.cmpi .sgt c16_i32_1780 c0_i32_1783
  let v2469 : BitVec 32 := Scalar.extui v2468
  let c0_i32_1784 : BitVec 32 := 0#32
  let v2470 : BitVec 1 := Scalar.cmpi .slt c16_i32_1780 c0_i32_1784
  let v2471 : BitVec 32 := Scalar.extui v2470
  let v2472 : BitVec 32 := Scalar.subi v2469 v2471
  let v2473 : BitVec 1 := Scalar.cmpi .ne v2467 v2472
  let v2474 : BitVec 32 := Scalar.remsi v2 c16_i32_1780
  let c0_i32_1785 : BitVec 32 := 0#32
  let v2475 : BitVec 1 := Scalar.cmpi .ne v2474 c0_i32_1785
  let v2476 : BitVec 1 := Scalar.andi v2473 v2475
  let v2462 : BitVec 32 := Scalar.divsi v2 c16_i32_1780
  let c1_i32_1786 : BitVec 32 := 1#32
  let v2477 : BitVec 32 := Scalar.subi v2462 c1_i32_1786
  let v2478 : BitVec 32 := Scalar.select v2476 v2477 v2462
  let c16_i32_1787 : BitVec 32 := 16#32
  let c0_i32_1788 : BitVec 32 := 0#32
  let v2479 : BitVec 1 := Scalar.cmpi .eq c16_i32_1787 c0_i32_1788
  let c1_i32_1789 : BitVec 32 := 1#32
  let v2480 : BitVec 32 := Scalar.select v2479 c1_i32_1789 c16_i32_1787
  let v2481 : BitVec 32 := Scalar.remsi v2 v2480
  let c0_i32_1791 : BitVec 32 := 0#32
  let v2483 : BitVec 1 := Scalar.cmpi .slt v2481 c0_i32_1791
  let c0_i32_1792 : BitVec 32 := 0#32
  let v2484 : BitVec 1 := Scalar.cmpi .slt v2480 c0_i32_1792
  let v2485 : BitVec 1 := Scalar.xori v2483 v2484
  let c0_i32_1790 : BitVec 32 := 0#32
  let v2482 : BitVec 1 := Scalar.cmpi .ne v2481 c0_i32_1790
  let v2486 : BitVec 1 := Scalar.andi v2485 v2482
  let v2487 : BitVec 32 := Scalar.addi v2481 v2480
  let v2488 : BitVec 32 := Scalar.select v2486 v2487 v2481
  let c16_i32_1793 : BitVec 32 := 16#32
  let v2489 : BitVec 32 := Scalar.muli v2488 c16_i32_1793
  let c0_i32_1804 : BitVec 32 := 0#32
  ![v2478.toNat, v2489.toNat, 0]
def k0_dev96 (d0 : Dev nD) : Nat :=
  let c0_i32_1803 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1795 : BitVec 32 := 1#32
  let v2494 : BitVec 32 := Scalar.addi v2 c1_i32_1795
  let c32_i32_1796 : BitVec 32 := 32#32
  let c0_i32_1797 : BitVec 32 := 0#32
  let v2495 : BitVec 1 := Scalar.cmpi .eq c32_i32_1796 c0_i32_1797
  let c1_i32_1798 : BitVec 32 := 1#32
  let v2496 : BitVec 32 := Scalar.select v2495 c1_i32_1798 c32_i32_1796
  let v2497 : BitVec 32 := Scalar.remsi v2494 v2496
  let c0_i32_1800 : BitVec 32 := 0#32
  let v2499 : BitVec 1 := Scalar.cmpi .slt v2497 c0_i32_1800
  let c0_i32_1801 : BitVec 32 := 0#32
  let v2500 : BitVec 1 := Scalar.cmpi .slt v2496 c0_i32_1801
  let v2501 : BitVec 1 := Scalar.xori v2499 v2500
  let c0_i32_1799 : BitVec 32 := 0#32
  let v2498 : BitVec 1 := Scalar.cmpi .ne v2497 c0_i32_1799
  let v2502 : BitVec 1 := Scalar.andi v2501 v2498
  let v2503 : BitVec 32 := Scalar.addi v2497 v2496
  let v2504 : BitVec 32 := Scalar.select v2502 v2503 v2497
  let c1_i32_1802 : BitVec 32 := 1#32
  let v2505 : BitVec 32 := Scalar.muli v2504 c1_i32_1802
  let v2506 : BitVec 32 := Scalar.addi c0_i32_1803 v2505
  v2506.toNat
def k0_dev97 (d0 : Dev nD) : Nat :=
  let c0_i32_1813 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1805 : BitVec 32 := 2#32
  let v2512 : BitVec 32 := Scalar.addi v2 c2_i32_1805
  let c32_i32_1806 : BitVec 32 := 32#32
  let c0_i32_1807 : BitVec 32 := 0#32
  let v2513 : BitVec 1 := Scalar.cmpi .eq c32_i32_1806 c0_i32_1807
  let c1_i32_1808 : BitVec 32 := 1#32
  let v2514 : BitVec 32 := Scalar.select v2513 c1_i32_1808 c32_i32_1806
  let v2515 : BitVec 32 := Scalar.remsi v2512 v2514
  let c0_i32_1810 : BitVec 32 := 0#32
  let v2517 : BitVec 1 := Scalar.cmpi .slt v2515 c0_i32_1810
  let c0_i32_1811 : BitVec 32 := 0#32
  let v2518 : BitVec 1 := Scalar.cmpi .slt v2514 c0_i32_1811
  let v2519 : BitVec 1 := Scalar.xori v2517 v2518
  let c0_i32_1809 : BitVec 32 := 0#32
  let v2516 : BitVec 1 := Scalar.cmpi .ne v2515 c0_i32_1809
  let v2520 : BitVec 1 := Scalar.andi v2519 v2516
  let v2521 : BitVec 32 := Scalar.addi v2515 v2514
  let v2522 : BitVec 32 := Scalar.select v2520 v2521 v2515
  let c1_i32_1812 : BitVec 32 := 1#32
  let v2523 : BitVec 32 := Scalar.muli v2522 c1_i32_1812
  let v2524 : BitVec 32 := Scalar.addi c0_i32_1813 v2523
  v2524.toNat
def k0_dev98 (d0 : Dev nD) : Nat :=
  let c0_i32_1823 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1815 : BitVec 32 := 3#32
  let v2530 : BitVec 32 := Scalar.addi v2 c3_i32_1815
  let c32_i32_1816 : BitVec 32 := 32#32
  let c0_i32_1817 : BitVec 32 := 0#32
  let v2531 : BitVec 1 := Scalar.cmpi .eq c32_i32_1816 c0_i32_1817
  let c1_i32_1818 : BitVec 32 := 1#32
  let v2532 : BitVec 32 := Scalar.select v2531 c1_i32_1818 c32_i32_1816
  let v2533 : BitVec 32 := Scalar.remsi v2530 v2532
  let c0_i32_1820 : BitVec 32 := 0#32
  let v2535 : BitVec 1 := Scalar.cmpi .slt v2533 c0_i32_1820
  let c0_i32_1821 : BitVec 32 := 0#32
  let v2536 : BitVec 1 := Scalar.cmpi .slt v2532 c0_i32_1821
  let v2537 : BitVec 1 := Scalar.xori v2535 v2536
  let c0_i32_1819 : BitVec 32 := 0#32
  let v2534 : BitVec 1 := Scalar.cmpi .ne v2533 c0_i32_1819
  let v2538 : BitVec 1 := Scalar.andi v2537 v2534
  let v2539 : BitVec 32 := Scalar.addi v2533 v2532
  let v2540 : BitVec 32 := Scalar.select v2538 v2539 v2533
  let c1_i32_1822 : BitVec 32 := 1#32
  let v2541 : BitVec 32 := Scalar.muli v2540 c1_i32_1822
  let v2542 : BitVec 32 := Scalar.addi c0_i32_1823 v2541
  v2542.toNat
def k0_dev99 (d0 : Dev nD) : Nat :=
  let c0_i32_1833 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1825 : BitVec 32 := 4#32
  let v2548 : BitVec 32 := Scalar.addi v2 c4_i32_1825
  let c32_i32_1826 : BitVec 32 := 32#32
  let c0_i32_1827 : BitVec 32 := 0#32
  let v2549 : BitVec 1 := Scalar.cmpi .eq c32_i32_1826 c0_i32_1827
  let c1_i32_1828 : BitVec 32 := 1#32
  let v2550 : BitVec 32 := Scalar.select v2549 c1_i32_1828 c32_i32_1826
  let v2551 : BitVec 32 := Scalar.remsi v2548 v2550
  let c0_i32_1830 : BitVec 32 := 0#32
  let v2553 : BitVec 1 := Scalar.cmpi .slt v2551 c0_i32_1830
  let c0_i32_1831 : BitVec 32 := 0#32
  let v2554 : BitVec 1 := Scalar.cmpi .slt v2550 c0_i32_1831
  let v2555 : BitVec 1 := Scalar.xori v2553 v2554
  let c0_i32_1829 : BitVec 32 := 0#32
  let v2552 : BitVec 1 := Scalar.cmpi .ne v2551 c0_i32_1829
  let v2556 : BitVec 1 := Scalar.andi v2555 v2552
  let v2557 : BitVec 32 := Scalar.addi v2551 v2550
  let v2558 : BitVec 32 := Scalar.select v2556 v2557 v2551
  let c1_i32_1832 : BitVec 32 := 1#32
  let v2559 : BitVec 32 := Scalar.muli v2558 c1_i32_1832
  let v2560 : BitVec 32 := Scalar.addi c0_i32_1833 v2559
  v2560.toNat
def k0_dev100 (d0 : Dev nD) : Nat :=
  let c0_i32_1843 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1835 : BitVec 32 := 5#32
  let v2566 : BitVec 32 := Scalar.addi v2 c5_i32_1835
  let c32_i32_1836 : BitVec 32 := 32#32
  let c0_i32_1837 : BitVec 32 := 0#32
  let v2567 : BitVec 1 := Scalar.cmpi .eq c32_i32_1836 c0_i32_1837
  let c1_i32_1838 : BitVec 32 := 1#32
  let v2568 : BitVec 32 := Scalar.select v2567 c1_i32_1838 c32_i32_1836
  let v2569 : BitVec 32 := Scalar.remsi v2566 v2568
  let c0_i32_1840 : BitVec 32 := 0#32
  let v2571 : BitVec 1 := Scalar.cmpi .slt v2569 c0_i32_1840
  let c0_i32_1841 : BitVec 32 := 0#32
  let v2572 : BitVec 1 := Scalar.cmpi .slt v2568 c0_i32_1841
  let v2573 : BitVec 1 := Scalar.xori v2571 v2572
  let c0_i32_1839 : BitVec 32 := 0#32
  let v2570 : BitVec 1 := Scalar.cmpi .ne v2569 c0_i32_1839
  let v2574 : BitVec 1 := Scalar.andi v2573 v2570
  let v2575 : BitVec 32 := Scalar.addi v2569 v2568
  let v2576 : BitVec 32 := Scalar.select v2574 v2575 v2569
  let c1_i32_1842 : BitVec 32 := 1#32
  let v2577 : BitVec 32 := Scalar.muli v2576 c1_i32_1842
  let v2578 : BitVec 32 := Scalar.addi c0_i32_1843 v2577
  v2578.toNat
def k0_dev101 (d0 : Dev nD) : Nat :=
  let c0_i32_1853 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1845 : BitVec 32 := 6#32
  let v2584 : BitVec 32 := Scalar.addi v2 c6_i32_1845
  let c32_i32_1846 : BitVec 32 := 32#32
  let c0_i32_1847 : BitVec 32 := 0#32
  let v2585 : BitVec 1 := Scalar.cmpi .eq c32_i32_1846 c0_i32_1847
  let c1_i32_1848 : BitVec 32 := 1#32
  let v2586 : BitVec 32 := Scalar.select v2585 c1_i32_1848 c32_i32_1846
  let v2587 : BitVec 32 := Scalar.remsi v2584 v2586
  let c0_i32_1850 : BitVec 32 := 0#32
  let v2589 : BitVec 1 := Scalar.cmpi .slt v2587 c0_i32_1850
  let c0_i32_1851 : BitVec 32 := 0#32
  let v2590 : BitVec 1 := Scalar.cmpi .slt v2586 c0_i32_1851
  let v2591 : BitVec 1 := Scalar.xori v2589 v2590
  let c0_i32_1849 : BitVec 32 := 0#32
  let v2588 : BitVec 1 := Scalar.cmpi .ne v2587 c0_i32_1849
  let v2592 : BitVec 1 := Scalar.andi v2591 v2588
  let v2593 : BitVec 32 := Scalar.addi v2587 v2586
  let v2594 : BitVec 32 := Scalar.select v2592 v2593 v2587
  let c1_i32_1852 : BitVec 32 := 1#32
  let v2595 : BitVec 32 := Scalar.muli v2594 c1_i32_1852
  let v2596 : BitVec 32 := Scalar.addi c0_i32_1853 v2595
  v2596.toNat
def k0_dev102 (d0 : Dev nD) : Nat :=
  let c0_i32_1863 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1855 : BitVec 32 := 7#32
  let v2602 : BitVec 32 := Scalar.addi v2 c7_i32_1855
  let c32_i32_1856 : BitVec 32 := 32#32
  let c0_i32_1857 : BitVec 32 := 0#32
  let v2603 : BitVec 1 := Scalar.cmpi .eq c32_i32_1856 c0_i32_1857
  let c1_i32_1858 : BitVec 32 := 1#32
  let v2604 : BitVec 32 := Scalar.select v2603 c1_i32_1858 c32_i32_1856
  let v2605 : BitVec 32 := Scalar.remsi v2602 v2604
  let c0_i32_1860 : BitVec 32 := 0#32
  let v2607 : BitVec 1 := Scalar.cmpi .slt v2605 c0_i32_1860
  let c0_i32_1861 : BitVec 32 := 0#32
  let v2608 : BitVec 1 := Scalar.cmpi .slt v2604 c0_i32_1861
  let v2609 : BitVec 1 := Scalar.xori v2607 v2608
  let c0_i32_1859 : BitVec 32 := 0#32
  let v2606 : BitVec 1 := Scalar.cmpi .ne v2605 c0_i32_1859
  let v2610 : BitVec 1 := Scalar.andi v2609 v2606
  let v2611 : BitVec 32 := Scalar.addi v2605 v2604
  let v2612 : BitVec 32 := Scalar.select v2610 v2611 v2605
  let c1_i32_1862 : BitVec 32 := 1#32
  let v2613 : BitVec 32 := Scalar.muli v2612 c1_i32_1862
  let v2614 : BitVec 32 := Scalar.addi c0_i32_1863 v2613
  v2614.toNat
def k0_dev103 (d0 : Dev nD) : Nat :=
  let c0_i32_1873 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1865 : BitVec 32 := 8#32
  let v2620 : BitVec 32 := Scalar.addi v2 c8_i32_1865
  let c32_i32_1866 : BitVec 32 := 32#32
  let c0_i32_1867 : BitVec 32 := 0#32
  let v2621 : BitVec 1 := Scalar.cmpi .eq c32_i32_1866 c0_i32_1867
  let c1_i32_1868 : BitVec 32 := 1#32
  let v2622 : BitVec 32 := Scalar.select v2621 c1_i32_1868 c32_i32_1866
  let v2623 : BitVec 32 := Scalar.remsi v2620 v2622
  let c0_i32_1870 : BitVec 32 := 0#32
  let v2625 : BitVec 1 := Scalar.cmpi .slt v2623 c0_i32_1870
  let c0_i32_1871 : BitVec 32 := 0#32
  let v2626 : BitVec 1 := Scalar.cmpi .slt v2622 c0_i32_1871
  let v2627 : BitVec 1 := Scalar.xori v2625 v2626
  let c0_i32_1869 : BitVec 32 := 0#32
  let v2624 : BitVec 1 := Scalar.cmpi .ne v2623 c0_i32_1869
  let v2628 : BitVec 1 := Scalar.andi v2627 v2624
  let v2629 : BitVec 32 := Scalar.addi v2623 v2622
  let v2630 : BitVec 32 := Scalar.select v2628 v2629 v2623
  let c1_i32_1872 : BitVec 32 := 1#32
  let v2631 : BitVec 32 := Scalar.muli v2630 c1_i32_1872
  let v2632 : BitVec 32 := Scalar.addi c0_i32_1873 v2631
  v2632.toNat
def k0_dev104 (d0 : Dev nD) : Nat :=
  let c0_i32_1883 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1875 : BitVec 32 := 9#32
  let v2638 : BitVec 32 := Scalar.addi v2 c9_i32_1875
  let c32_i32_1876 : BitVec 32 := 32#32
  let c0_i32_1877 : BitVec 32 := 0#32
  let v2639 : BitVec 1 := Scalar.cmpi .eq c32_i32_1876 c0_i32_1877
  let c1_i32_1878 : BitVec 32 := 1#32
  let v2640 : BitVec 32 := Scalar.select v2639 c1_i32_1878 c32_i32_1876
  let v2641 : BitVec 32 := Scalar.remsi v2638 v2640
  let c0_i32_1880 : BitVec 32 := 0#32
  let v2643 : BitVec 1 := Scalar.cmpi .slt v2641 c0_i32_1880
  let c0_i32_1881 : BitVec 32 := 0#32
  let v2644 : BitVec 1 := Scalar.cmpi .slt v2640 c0_i32_1881
  let v2645 : BitVec 1 := Scalar.xori v2643 v2644
  let c0_i32_1879 : BitVec 32 := 0#32
  let v2642 : BitVec 1 := Scalar.cmpi .ne v2641 c0_i32_1879
  let v2646 : BitVec 1 := Scalar.andi v2645 v2642
  let v2647 : BitVec 32 := Scalar.addi v2641 v2640
  let v2648 : BitVec 32 := Scalar.select v2646 v2647 v2641
  let c1_i32_1882 : BitVec 32 := 1#32
  let v2649 : BitVec 32 := Scalar.muli v2648 c1_i32_1882
  let v2650 : BitVec 32 := Scalar.addi c0_i32_1883 v2649
  v2650.toNat
def k0_dev105 (d0 : Dev nD) : Nat :=
  let c0_i32_1893 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1885 : BitVec 32 := 10#32
  let v2656 : BitVec 32 := Scalar.addi v2 c10_i32_1885
  let c32_i32_1886 : BitVec 32 := 32#32
  let c0_i32_1887 : BitVec 32 := 0#32
  let v2657 : BitVec 1 := Scalar.cmpi .eq c32_i32_1886 c0_i32_1887
  let c1_i32_1888 : BitVec 32 := 1#32
  let v2658 : BitVec 32 := Scalar.select v2657 c1_i32_1888 c32_i32_1886
  let v2659 : BitVec 32 := Scalar.remsi v2656 v2658
  let c0_i32_1890 : BitVec 32 := 0#32
  let v2661 : BitVec 1 := Scalar.cmpi .slt v2659 c0_i32_1890
  let c0_i32_1891 : BitVec 32 := 0#32
  let v2662 : BitVec 1 := Scalar.cmpi .slt v2658 c0_i32_1891
  let v2663 : BitVec 1 := Scalar.xori v2661 v2662
  let c0_i32_1889 : BitVec 32 := 0#32
  let v2660 : BitVec 1 := Scalar.cmpi .ne v2659 c0_i32_1889
  let v2664 : BitVec 1 := Scalar.andi v2663 v2660
  let v2665 : BitVec 32 := Scalar.addi v2659 v2658
  let v2666 : BitVec 32 := Scalar.select v2664 v2665 v2659
  let c1_i32_1892 : BitVec 32 := 1#32
  let v2667 : BitVec 32 := Scalar.muli v2666 c1_i32_1892
  let v2668 : BitVec 32 := Scalar.addi c0_i32_1893 v2667
  v2668.toNat
def k0_dev106 (d0 : Dev nD) : Nat :=
  let c0_i32_1903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1895 : BitVec 32 := 11#32
  let v2674 : BitVec 32 := Scalar.addi v2 c11_i32_1895
  let c32_i32_1896 : BitVec 32 := 32#32
  let c0_i32_1897 : BitVec 32 := 0#32
  let v2675 : BitVec 1 := Scalar.cmpi .eq c32_i32_1896 c0_i32_1897
  let c1_i32_1898 : BitVec 32 := 1#32
  let v2676 : BitVec 32 := Scalar.select v2675 c1_i32_1898 c32_i32_1896
  let v2677 : BitVec 32 := Scalar.remsi v2674 v2676
  let c0_i32_1900 : BitVec 32 := 0#32
  let v2679 : BitVec 1 := Scalar.cmpi .slt v2677 c0_i32_1900
  let c0_i32_1901 : BitVec 32 := 0#32
  let v2680 : BitVec 1 := Scalar.cmpi .slt v2676 c0_i32_1901
  let v2681 : BitVec 1 := Scalar.xori v2679 v2680
  let c0_i32_1899 : BitVec 32 := 0#32
  let v2678 : BitVec 1 := Scalar.cmpi .ne v2677 c0_i32_1899
  let v2682 : BitVec 1 := Scalar.andi v2681 v2678
  let v2683 : BitVec 32 := Scalar.addi v2677 v2676
  let v2684 : BitVec 32 := Scalar.select v2682 v2683 v2677
  let c1_i32_1902 : BitVec 32 := 1#32
  let v2685 : BitVec 32 := Scalar.muli v2684 c1_i32_1902
  let v2686 : BitVec 32 := Scalar.addi c0_i32_1903 v2685
  v2686.toNat
def k0_dev107 (d0 : Dev nD) : Nat :=
  let c0_i32_1913 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1905 : BitVec 32 := 12#32
  let v2692 : BitVec 32 := Scalar.addi v2 c12_i32_1905
  let c32_i32_1906 : BitVec 32 := 32#32
  let c0_i32_1907 : BitVec 32 := 0#32
  let v2693 : BitVec 1 := Scalar.cmpi .eq c32_i32_1906 c0_i32_1907
  let c1_i32_1908 : BitVec 32 := 1#32
  let v2694 : BitVec 32 := Scalar.select v2693 c1_i32_1908 c32_i32_1906
  let v2695 : BitVec 32 := Scalar.remsi v2692 v2694
  let c0_i32_1910 : BitVec 32 := 0#32
  let v2697 : BitVec 1 := Scalar.cmpi .slt v2695 c0_i32_1910
  let c0_i32_1911 : BitVec 32 := 0#32
  let v2698 : BitVec 1 := Scalar.cmpi .slt v2694 c0_i32_1911
  let v2699 : BitVec 1 := Scalar.xori v2697 v2698
  let c0_i32_1909 : BitVec 32 := 0#32
  let v2696 : BitVec 1 := Scalar.cmpi .ne v2695 c0_i32_1909
  let v2700 : BitVec 1 := Scalar.andi v2699 v2696
  let v2701 : BitVec 32 := Scalar.addi v2695 v2694
  let v2702 : BitVec 32 := Scalar.select v2700 v2701 v2695
  let c1_i32_1912 : BitVec 32 := 1#32
  let v2703 : BitVec 32 := Scalar.muli v2702 c1_i32_1912
  let v2704 : BitVec 32 := Scalar.addi c0_i32_1913 v2703
  v2704.toNat
def k0_dev108 (d0 : Dev nD) : Nat :=
  let c0_i32_1923 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1915 : BitVec 32 := 13#32
  let v2710 : BitVec 32 := Scalar.addi v2 c13_i32_1915
  let c32_i32_1916 : BitVec 32 := 32#32
  let c0_i32_1917 : BitVec 32 := 0#32
  let v2711 : BitVec 1 := Scalar.cmpi .eq c32_i32_1916 c0_i32_1917
  let c1_i32_1918 : BitVec 32 := 1#32
  let v2712 : BitVec 32 := Scalar.select v2711 c1_i32_1918 c32_i32_1916
  let v2713 : BitVec 32 := Scalar.remsi v2710 v2712
  let c0_i32_1920 : BitVec 32 := 0#32
  let v2715 : BitVec 1 := Scalar.cmpi .slt v2713 c0_i32_1920
  let c0_i32_1921 : BitVec 32 := 0#32
  let v2716 : BitVec 1 := Scalar.cmpi .slt v2712 c0_i32_1921
  let v2717 : BitVec 1 := Scalar.xori v2715 v2716
  let c0_i32_1919 : BitVec 32 := 0#32
  let v2714 : BitVec 1 := Scalar.cmpi .ne v2713 c0_i32_1919
  let v2718 : BitVec 1 := Scalar.andi v2717 v2714
  let v2719 : BitVec 32 := Scalar.addi v2713 v2712
  let v2720 : BitVec 32 := Scalar.select v2718 v2719 v2713
  let c1_i32_1922 : BitVec 32 := 1#32
  let v2721 : BitVec 32 := Scalar.muli v2720 c1_i32_1922
  let v2722 : BitVec 32 := Scalar.addi c0_i32_1923 v2721
  v2722.toNat
def k0_dev109 (d0 : Dev nD) : Nat :=
  let c0_i32_1933 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1925 : BitVec 32 := 14#32
  let v2728 : BitVec 32 := Scalar.addi v2 c14_i32_1925
  let c32_i32_1926 : BitVec 32 := 32#32
  let c0_i32_1927 : BitVec 32 := 0#32
  let v2729 : BitVec 1 := Scalar.cmpi .eq c32_i32_1926 c0_i32_1927
  let c1_i32_1928 : BitVec 32 := 1#32
  let v2730 : BitVec 32 := Scalar.select v2729 c1_i32_1928 c32_i32_1926
  let v2731 : BitVec 32 := Scalar.remsi v2728 v2730
  let c0_i32_1930 : BitVec 32 := 0#32
  let v2733 : BitVec 1 := Scalar.cmpi .slt v2731 c0_i32_1930
  let c0_i32_1931 : BitVec 32 := 0#32
  let v2734 : BitVec 1 := Scalar.cmpi .slt v2730 c0_i32_1931
  let v2735 : BitVec 1 := Scalar.xori v2733 v2734
  let c0_i32_1929 : BitVec 32 := 0#32
  let v2732 : BitVec 1 := Scalar.cmpi .ne v2731 c0_i32_1929
  let v2736 : BitVec 1 := Scalar.andi v2735 v2732
  let v2737 : BitVec 32 := Scalar.addi v2731 v2730
  let v2738 : BitVec 32 := Scalar.select v2736 v2737 v2731
  let c1_i32_1932 : BitVec 32 := 1#32
  let v2739 : BitVec 32 := Scalar.muli v2738 c1_i32_1932
  let v2740 : BitVec 32 := Scalar.addi c0_i32_1933 v2739
  v2740.toNat
def k0_dev110 (d0 : Dev nD) : Nat :=
  let c0_i32_1943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1935 : BitVec 32 := 15#32
  let v2746 : BitVec 32 := Scalar.addi v2 c15_i32_1935
  let c32_i32_1936 : BitVec 32 := 32#32
  let c0_i32_1937 : BitVec 32 := 0#32
  let v2747 : BitVec 1 := Scalar.cmpi .eq c32_i32_1936 c0_i32_1937
  let c1_i32_1938 : BitVec 32 := 1#32
  let v2748 : BitVec 32 := Scalar.select v2747 c1_i32_1938 c32_i32_1936
  let v2749 : BitVec 32 := Scalar.remsi v2746 v2748
  let c0_i32_1940 : BitVec 32 := 0#32
  let v2751 : BitVec 1 := Scalar.cmpi .slt v2749 c0_i32_1940
  let c0_i32_1941 : BitVec 32 := 0#32
  let v2752 : BitVec 1 := Scalar.cmpi .slt v2748 c0_i32_1941
  let v2753 : BitVec 1 := Scalar.xori v2751 v2752
  let c0_i32_1939 : BitVec 32 := 0#32
  let v2750 : BitVec 1 := Scalar.cmpi .ne v2749 c0_i32_1939
  let v2754 : BitVec 1 := Scalar.andi v2753 v2750
  let v2755 : BitVec 32 := Scalar.addi v2749 v2748
  let v2756 : BitVec 32 := Scalar.select v2754 v2755 v2749
  let c1_i32_1942 : BitVec 32 := 1#32
  let v2757 : BitVec 32 := Scalar.muli v2756 c1_i32_1942
  let v2758 : BitVec 32 := Scalar.addi c0_i32_1943 v2757
  v2758.toNat
def k0_dev111 (d0 : Dev nD) : Nat :=
  let c0_i32_1953 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1945 : BitVec 32 := 16#32
  let v2764 : BitVec 32 := Scalar.addi v2 c16_i32_1945
  let c32_i32_1946 : BitVec 32 := 32#32
  let c0_i32_1947 : BitVec 32 := 0#32
  let v2765 : BitVec 1 := Scalar.cmpi .eq c32_i32_1946 c0_i32_1947
  let c1_i32_1948 : BitVec 32 := 1#32
  let v2766 : BitVec 32 := Scalar.select v2765 c1_i32_1948 c32_i32_1946
  let v2767 : BitVec 32 := Scalar.remsi v2764 v2766
  let c0_i32_1950 : BitVec 32 := 0#32
  let v2769 : BitVec 1 := Scalar.cmpi .slt v2767 c0_i32_1950
  let c0_i32_1951 : BitVec 32 := 0#32
  let v2770 : BitVec 1 := Scalar.cmpi .slt v2766 c0_i32_1951
  let v2771 : BitVec 1 := Scalar.xori v2769 v2770
  let c0_i32_1949 : BitVec 32 := 0#32
  let v2768 : BitVec 1 := Scalar.cmpi .ne v2767 c0_i32_1949
  let v2772 : BitVec 1 := Scalar.andi v2771 v2768
  let v2773 : BitVec 32 := Scalar.addi v2767 v2766
  let v2774 : BitVec 32 := Scalar.select v2772 v2773 v2767
  let c1_i32_1952 : BitVec 32 := 1#32
  let v2775 : BitVec 32 := Scalar.muli v2774 c1_i32_1952
  let v2776 : BitVec 32 := Scalar.addi c0_i32_1953 v2775
  v2776.toNat
def k0_dev112 (d0 : Dev nD) : Nat :=
  let c0_i32_1963 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1955 : BitVec 32 := 17#32
  let v2782 : BitVec 32 := Scalar.addi v2 c17_i32_1955
  let c32_i32_1956 : BitVec 32 := 32#32
  let c0_i32_1957 : BitVec 32 := 0#32
  let v2783 : BitVec 1 := Scalar.cmpi .eq c32_i32_1956 c0_i32_1957
  let c1_i32_1958 : BitVec 32 := 1#32
  let v2784 : BitVec 32 := Scalar.select v2783 c1_i32_1958 c32_i32_1956
  let v2785 : BitVec 32 := Scalar.remsi v2782 v2784
  let c0_i32_1960 : BitVec 32 := 0#32
  let v2787 : BitVec 1 := Scalar.cmpi .slt v2785 c0_i32_1960
  let c0_i32_1961 : BitVec 32 := 0#32
  let v2788 : BitVec 1 := Scalar.cmpi .slt v2784 c0_i32_1961
  let v2789 : BitVec 1 := Scalar.xori v2787 v2788
  let c0_i32_1959 : BitVec 32 := 0#32
  let v2786 : BitVec 1 := Scalar.cmpi .ne v2785 c0_i32_1959
  let v2790 : BitVec 1 := Scalar.andi v2789 v2786
  let v2791 : BitVec 32 := Scalar.addi v2785 v2784
  let v2792 : BitVec 32 := Scalar.select v2790 v2791 v2785
  let c1_i32_1962 : BitVec 32 := 1#32
  let v2793 : BitVec 32 := Scalar.muli v2792 c1_i32_1962
  let v2794 : BitVec 32 := Scalar.addi c0_i32_1963 v2793
  v2794.toNat
def k0_dev113 (d0 : Dev nD) : Nat :=
  let c0_i32_1973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1965 : BitVec 32 := 18#32
  let v2800 : BitVec 32 := Scalar.addi v2 c18_i32_1965
  let c32_i32_1966 : BitVec 32 := 32#32
  let c0_i32_1967 : BitVec 32 := 0#32
  let v2801 : BitVec 1 := Scalar.cmpi .eq c32_i32_1966 c0_i32_1967
  let c1_i32_1968 : BitVec 32 := 1#32
  let v2802 : BitVec 32 := Scalar.select v2801 c1_i32_1968 c32_i32_1966
  let v2803 : BitVec 32 := Scalar.remsi v2800 v2802
  let c0_i32_1970 : BitVec 32 := 0#32
  let v2805 : BitVec 1 := Scalar.cmpi .slt v2803 c0_i32_1970
  let c0_i32_1971 : BitVec 32 := 0#32
  let v2806 : BitVec 1 := Scalar.cmpi .slt v2802 c0_i32_1971
  let v2807 : BitVec 1 := Scalar.xori v2805 v2806
  let c0_i32_1969 : BitVec 32 := 0#32
  let v2804 : BitVec 1 := Scalar.cmpi .ne v2803 c0_i32_1969
  let v2808 : BitVec 1 := Scalar.andi v2807 v2804
  let v2809 : BitVec 32 := Scalar.addi v2803 v2802
  let v2810 : BitVec 32 := Scalar.select v2808 v2809 v2803
  let c1_i32_1972 : BitVec 32 := 1#32
  let v2811 : BitVec 32 := Scalar.muli v2810 c1_i32_1972
  let v2812 : BitVec 32 := Scalar.addi c0_i32_1973 v2811
  v2812.toNat
def k0_dev114 (d0 : Dev nD) : Nat :=
  let c0_i32_1983 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1975 : BitVec 32 := 19#32
  let v2818 : BitVec 32 := Scalar.addi v2 c19_i32_1975
  let c32_i32_1976 : BitVec 32 := 32#32
  let c0_i32_1977 : BitVec 32 := 0#32
  let v2819 : BitVec 1 := Scalar.cmpi .eq c32_i32_1976 c0_i32_1977
  let c1_i32_1978 : BitVec 32 := 1#32
  let v2820 : BitVec 32 := Scalar.select v2819 c1_i32_1978 c32_i32_1976
  let v2821 : BitVec 32 := Scalar.remsi v2818 v2820
  let c0_i32_1980 : BitVec 32 := 0#32
  let v2823 : BitVec 1 := Scalar.cmpi .slt v2821 c0_i32_1980
  let c0_i32_1981 : BitVec 32 := 0#32
  let v2824 : BitVec 1 := Scalar.cmpi .slt v2820 c0_i32_1981
  let v2825 : BitVec 1 := Scalar.xori v2823 v2824
  let c0_i32_1979 : BitVec 32 := 0#32
  let v2822 : BitVec 1 := Scalar.cmpi .ne v2821 c0_i32_1979
  let v2826 : BitVec 1 := Scalar.andi v2825 v2822
  let v2827 : BitVec 32 := Scalar.addi v2821 v2820
  let v2828 : BitVec 32 := Scalar.select v2826 v2827 v2821
  let c1_i32_1982 : BitVec 32 := 1#32
  let v2829 : BitVec 32 := Scalar.muli v2828 c1_i32_1982
  let v2830 : BitVec 32 := Scalar.addi c0_i32_1983 v2829
  v2830.toNat
def k0_dev115 (d0 : Dev nD) : Nat :=
  let c0_i32_1993 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1985 : BitVec 32 := 20#32
  let v2836 : BitVec 32 := Scalar.addi v2 c20_i32_1985
  let c32_i32_1986 : BitVec 32 := 32#32
  let c0_i32_1987 : BitVec 32 := 0#32
  let v2837 : BitVec 1 := Scalar.cmpi .eq c32_i32_1986 c0_i32_1987
  let c1_i32_1988 : BitVec 32 := 1#32
  let v2838 : BitVec 32 := Scalar.select v2837 c1_i32_1988 c32_i32_1986
  let v2839 : BitVec 32 := Scalar.remsi v2836 v2838
  let c0_i32_1990 : BitVec 32 := 0#32
  let v2841 : BitVec 1 := Scalar.cmpi .slt v2839 c0_i32_1990
  let c0_i32_1991 : BitVec 32 := 0#32
  let v2842 : BitVec 1 := Scalar.cmpi .slt v2838 c0_i32_1991
  let v2843 : BitVec 1 := Scalar.xori v2841 v2842
  let c0_i32_1989 : BitVec 32 := 0#32
  let v2840 : BitVec 1 := Scalar.cmpi .ne v2839 c0_i32_1989
  let v2844 : BitVec 1 := Scalar.andi v2843 v2840
  let v2845 : BitVec 32 := Scalar.addi v2839 v2838
  let v2846 : BitVec 32 := Scalar.select v2844 v2845 v2839
  let c1_i32_1992 : BitVec 32 := 1#32
  let v2847 : BitVec 32 := Scalar.muli v2846 c1_i32_1992
  let v2848 : BitVec 32 := Scalar.addi c0_i32_1993 v2847
  v2848.toNat
def k0_dev116 (d0 : Dev nD) : Nat :=
  let c0_i32_2003 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1995 : BitVec 32 := 21#32
  let v2854 : BitVec 32 := Scalar.addi v2 c21_i32_1995
  let c32_i32_1996 : BitVec 32 := 32#32
  let c0_i32_1997 : BitVec 32 := 0#32
  let v2855 : BitVec 1 := Scalar.cmpi .eq c32_i32_1996 c0_i32_1997
  let c1_i32_1998 : BitVec 32 := 1#32
  let v2856 : BitVec 32 := Scalar.select v2855 c1_i32_1998 c32_i32_1996
  let v2857 : BitVec 32 := Scalar.remsi v2854 v2856
  let c0_i32_2000 : BitVec 32 := 0#32
  let v2859 : BitVec 1 := Scalar.cmpi .slt v2857 c0_i32_2000
  let c0_i32_2001 : BitVec 32 := 0#32
  let v2860 : BitVec 1 := Scalar.cmpi .slt v2856 c0_i32_2001
  let v2861 : BitVec 1 := Scalar.xori v2859 v2860
  let c0_i32_1999 : BitVec 32 := 0#32
  let v2858 : BitVec 1 := Scalar.cmpi .ne v2857 c0_i32_1999
  let v2862 : BitVec 1 := Scalar.andi v2861 v2858
  let v2863 : BitVec 32 := Scalar.addi v2857 v2856
  let v2864 : BitVec 32 := Scalar.select v2862 v2863 v2857
  let c1_i32_2002 : BitVec 32 := 1#32
  let v2865 : BitVec 32 := Scalar.muli v2864 c1_i32_2002
  let v2866 : BitVec 32 := Scalar.addi c0_i32_2003 v2865
  v2866.toNat
def k0_dev117 (d0 : Dev nD) : Nat :=
  let c0_i32_2013 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2005 : BitVec 32 := 22#32
  let v2872 : BitVec 32 := Scalar.addi v2 c22_i32_2005
  let c32_i32_2006 : BitVec 32 := 32#32
  let c0_i32_2007 : BitVec 32 := 0#32
  let v2873 : BitVec 1 := Scalar.cmpi .eq c32_i32_2006 c0_i32_2007
  let c1_i32_2008 : BitVec 32 := 1#32
  let v2874 : BitVec 32 := Scalar.select v2873 c1_i32_2008 c32_i32_2006
  let v2875 : BitVec 32 := Scalar.remsi v2872 v2874
  let c0_i32_2010 : BitVec 32 := 0#32
  let v2877 : BitVec 1 := Scalar.cmpi .slt v2875 c0_i32_2010
  let c0_i32_2011 : BitVec 32 := 0#32
  let v2878 : BitVec 1 := Scalar.cmpi .slt v2874 c0_i32_2011
  let v2879 : BitVec 1 := Scalar.xori v2877 v2878
  let c0_i32_2009 : BitVec 32 := 0#32
  let v2876 : BitVec 1 := Scalar.cmpi .ne v2875 c0_i32_2009
  let v2880 : BitVec 1 := Scalar.andi v2879 v2876
  let v2881 : BitVec 32 := Scalar.addi v2875 v2874
  let v2882 : BitVec 32 := Scalar.select v2880 v2881 v2875
  let c1_i32_2012 : BitVec 32 := 1#32
  let v2883 : BitVec 32 := Scalar.muli v2882 c1_i32_2012
  let v2884 : BitVec 32 := Scalar.addi c0_i32_2013 v2883
  v2884.toNat
def k0_dev118 (d0 : Dev nD) : Nat :=
  let c0_i32_2023 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2015 : BitVec 32 := 23#32
  let v2890 : BitVec 32 := Scalar.addi v2 c23_i32_2015
  let c32_i32_2016 : BitVec 32 := 32#32
  let c0_i32_2017 : BitVec 32 := 0#32
  let v2891 : BitVec 1 := Scalar.cmpi .eq c32_i32_2016 c0_i32_2017
  let c1_i32_2018 : BitVec 32 := 1#32
  let v2892 : BitVec 32 := Scalar.select v2891 c1_i32_2018 c32_i32_2016
  let v2893 : BitVec 32 := Scalar.remsi v2890 v2892
  let c0_i32_2020 : BitVec 32 := 0#32
  let v2895 : BitVec 1 := Scalar.cmpi .slt v2893 c0_i32_2020
  let c0_i32_2021 : BitVec 32 := 0#32
  let v2896 : BitVec 1 := Scalar.cmpi .slt v2892 c0_i32_2021
  let v2897 : BitVec 1 := Scalar.xori v2895 v2896
  let c0_i32_2019 : BitVec 32 := 0#32
  let v2894 : BitVec 1 := Scalar.cmpi .ne v2893 c0_i32_2019
  let v2898 : BitVec 1 := Scalar.andi v2897 v2894
  let v2899 : BitVec 32 := Scalar.addi v2893 v2892
  let v2900 : BitVec 32 := Scalar.select v2898 v2899 v2893
  let c1_i32_2022 : BitVec 32 := 1#32
  let v2901 : BitVec 32 := Scalar.muli v2900 c1_i32_2022
  let v2902 : BitVec 32 := Scalar.addi c0_i32_2023 v2901
  v2902.toNat
def k0_dev119 (d0 : Dev nD) : Nat :=
  let c0_i32_2033 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2025 : BitVec 32 := 24#32
  let v2908 : BitVec 32 := Scalar.addi v2 c24_i32_2025
  let c32_i32_2026 : BitVec 32 := 32#32
  let c0_i32_2027 : BitVec 32 := 0#32
  let v2909 : BitVec 1 := Scalar.cmpi .eq c32_i32_2026 c0_i32_2027
  let c1_i32_2028 : BitVec 32 := 1#32
  let v2910 : BitVec 32 := Scalar.select v2909 c1_i32_2028 c32_i32_2026
  let v2911 : BitVec 32 := Scalar.remsi v2908 v2910
  let c0_i32_2030 : BitVec 32 := 0#32
  let v2913 : BitVec 1 := Scalar.cmpi .slt v2911 c0_i32_2030
  let c0_i32_2031 : BitVec 32 := 0#32
  let v2914 : BitVec 1 := Scalar.cmpi .slt v2910 c0_i32_2031
  let v2915 : BitVec 1 := Scalar.xori v2913 v2914
  let c0_i32_2029 : BitVec 32 := 0#32
  let v2912 : BitVec 1 := Scalar.cmpi .ne v2911 c0_i32_2029
  let v2916 : BitVec 1 := Scalar.andi v2915 v2912
  let v2917 : BitVec 32 := Scalar.addi v2911 v2910
  let v2918 : BitVec 32 := Scalar.select v2916 v2917 v2911
  let c1_i32_2032 : BitVec 32 := 1#32
  let v2919 : BitVec 32 := Scalar.muli v2918 c1_i32_2032
  let v2920 : BitVec 32 := Scalar.addi c0_i32_2033 v2919
  v2920.toNat
def k0_dev120 (d0 : Dev nD) : Nat :=
  let c0_i32_2043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2035 : BitVec 32 := 25#32
  let v2926 : BitVec 32 := Scalar.addi v2 c25_i32_2035
  let c32_i32_2036 : BitVec 32 := 32#32
  let c0_i32_2037 : BitVec 32 := 0#32
  let v2927 : BitVec 1 := Scalar.cmpi .eq c32_i32_2036 c0_i32_2037
  let c1_i32_2038 : BitVec 32 := 1#32
  let v2928 : BitVec 32 := Scalar.select v2927 c1_i32_2038 c32_i32_2036
  let v2929 : BitVec 32 := Scalar.remsi v2926 v2928
  let c0_i32_2040 : BitVec 32 := 0#32
  let v2931 : BitVec 1 := Scalar.cmpi .slt v2929 c0_i32_2040
  let c0_i32_2041 : BitVec 32 := 0#32
  let v2932 : BitVec 1 := Scalar.cmpi .slt v2928 c0_i32_2041
  let v2933 : BitVec 1 := Scalar.xori v2931 v2932
  let c0_i32_2039 : BitVec 32 := 0#32
  let v2930 : BitVec 1 := Scalar.cmpi .ne v2929 c0_i32_2039
  let v2934 : BitVec 1 := Scalar.andi v2933 v2930
  let v2935 : BitVec 32 := Scalar.addi v2929 v2928
  let v2936 : BitVec 32 := Scalar.select v2934 v2935 v2929
  let c1_i32_2042 : BitVec 32 := 1#32
  let v2937 : BitVec 32 := Scalar.muli v2936 c1_i32_2042
  let v2938 : BitVec 32 := Scalar.addi c0_i32_2043 v2937
  v2938.toNat
def k0_dev121 (d0 : Dev nD) : Nat :=
  let c0_i32_2053 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2045 : BitVec 32 := 26#32
  let v2944 : BitVec 32 := Scalar.addi v2 c26_i32_2045
  let c32_i32_2046 : BitVec 32 := 32#32
  let c0_i32_2047 : BitVec 32 := 0#32
  let v2945 : BitVec 1 := Scalar.cmpi .eq c32_i32_2046 c0_i32_2047
  let c1_i32_2048 : BitVec 32 := 1#32
  let v2946 : BitVec 32 := Scalar.select v2945 c1_i32_2048 c32_i32_2046
  let v2947 : BitVec 32 := Scalar.remsi v2944 v2946
  let c0_i32_2050 : BitVec 32 := 0#32
  let v2949 : BitVec 1 := Scalar.cmpi .slt v2947 c0_i32_2050
  let c0_i32_2051 : BitVec 32 := 0#32
  let v2950 : BitVec 1 := Scalar.cmpi .slt v2946 c0_i32_2051
  let v2951 : BitVec 1 := Scalar.xori v2949 v2950
  let c0_i32_2049 : BitVec 32 := 0#32
  let v2948 : BitVec 1 := Scalar.cmpi .ne v2947 c0_i32_2049
  let v2952 : BitVec 1 := Scalar.andi v2951 v2948
  let v2953 : BitVec 32 := Scalar.addi v2947 v2946
  let v2954 : BitVec 32 := Scalar.select v2952 v2953 v2947
  let c1_i32_2052 : BitVec 32 := 1#32
  let v2955 : BitVec 32 := Scalar.muli v2954 c1_i32_2052
  let v2956 : BitVec 32 := Scalar.addi c0_i32_2053 v2955
  v2956.toNat
def k0_dev122 (d0 : Dev nD) : Nat :=
  let c0_i32_2063 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2055 : BitVec 32 := 27#32
  let v2962 : BitVec 32 := Scalar.addi v2 c27_i32_2055
  let c32_i32_2056 : BitVec 32 := 32#32
  let c0_i32_2057 : BitVec 32 := 0#32
  let v2963 : BitVec 1 := Scalar.cmpi .eq c32_i32_2056 c0_i32_2057
  let c1_i32_2058 : BitVec 32 := 1#32
  let v2964 : BitVec 32 := Scalar.select v2963 c1_i32_2058 c32_i32_2056
  let v2965 : BitVec 32 := Scalar.remsi v2962 v2964
  let c0_i32_2060 : BitVec 32 := 0#32
  let v2967 : BitVec 1 := Scalar.cmpi .slt v2965 c0_i32_2060
  let c0_i32_2061 : BitVec 32 := 0#32
  let v2968 : BitVec 1 := Scalar.cmpi .slt v2964 c0_i32_2061
  let v2969 : BitVec 1 := Scalar.xori v2967 v2968
  let c0_i32_2059 : BitVec 32 := 0#32
  let v2966 : BitVec 1 := Scalar.cmpi .ne v2965 c0_i32_2059
  let v2970 : BitVec 1 := Scalar.andi v2969 v2966
  let v2971 : BitVec 32 := Scalar.addi v2965 v2964
  let v2972 : BitVec 32 := Scalar.select v2970 v2971 v2965
  let c1_i32_2062 : BitVec 32 := 1#32
  let v2973 : BitVec 32 := Scalar.muli v2972 c1_i32_2062
  let v2974 : BitVec 32 := Scalar.addi c0_i32_2063 v2973
  v2974.toNat
def k0_dev123 (d0 : Dev nD) : Nat :=
  let c0_i32_2073 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2065 : BitVec 32 := 28#32
  let v2980 : BitVec 32 := Scalar.addi v2 c28_i32_2065
  let c32_i32_2066 : BitVec 32 := 32#32
  let c0_i32_2067 : BitVec 32 := 0#32
  let v2981 : BitVec 1 := Scalar.cmpi .eq c32_i32_2066 c0_i32_2067
  let c1_i32_2068 : BitVec 32 := 1#32
  let v2982 : BitVec 32 := Scalar.select v2981 c1_i32_2068 c32_i32_2066
  let v2983 : BitVec 32 := Scalar.remsi v2980 v2982
  let c0_i32_2070 : BitVec 32 := 0#32
  let v2985 : BitVec 1 := Scalar.cmpi .slt v2983 c0_i32_2070
  let c0_i32_2071 : BitVec 32 := 0#32
  let v2986 : BitVec 1 := Scalar.cmpi .slt v2982 c0_i32_2071
  let v2987 : BitVec 1 := Scalar.xori v2985 v2986
  let c0_i32_2069 : BitVec 32 := 0#32
  let v2984 : BitVec 1 := Scalar.cmpi .ne v2983 c0_i32_2069
  let v2988 : BitVec 1 := Scalar.andi v2987 v2984
  let v2989 : BitVec 32 := Scalar.addi v2983 v2982
  let v2990 : BitVec 32 := Scalar.select v2988 v2989 v2983
  let c1_i32_2072 : BitVec 32 := 1#32
  let v2991 : BitVec 32 := Scalar.muli v2990 c1_i32_2072
  let v2992 : BitVec 32 := Scalar.addi c0_i32_2073 v2991
  v2992.toNat
def k0_dev124 (d0 : Dev nD) : Nat :=
  let c0_i32_2083 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2075 : BitVec 32 := 29#32
  let v2998 : BitVec 32 := Scalar.addi v2 c29_i32_2075
  let c32_i32_2076 : BitVec 32 := 32#32
  let c0_i32_2077 : BitVec 32 := 0#32
  let v2999 : BitVec 1 := Scalar.cmpi .eq c32_i32_2076 c0_i32_2077
  let c1_i32_2078 : BitVec 32 := 1#32
  let v3000 : BitVec 32 := Scalar.select v2999 c1_i32_2078 c32_i32_2076
  let v3001 : BitVec 32 := Scalar.remsi v2998 v3000
  let c0_i32_2080 : BitVec 32 := 0#32
  let v3003 : BitVec 1 := Scalar.cmpi .slt v3001 c0_i32_2080
  let c0_i32_2081 : BitVec 32 := 0#32
  let v3004 : BitVec 1 := Scalar.cmpi .slt v3000 c0_i32_2081
  let v3005 : BitVec 1 := Scalar.xori v3003 v3004
  let c0_i32_2079 : BitVec 32 := 0#32
  let v3002 : BitVec 1 := Scalar.cmpi .ne v3001 c0_i32_2079
  let v3006 : BitVec 1 := Scalar.andi v3005 v3002
  let v3007 : BitVec 32 := Scalar.addi v3001 v3000
  let v3008 : BitVec 32 := Scalar.select v3006 v3007 v3001
  let c1_i32_2082 : BitVec 32 := 1#32
  let v3009 : BitVec 32 := Scalar.muli v3008 c1_i32_2082
  let v3010 : BitVec 32 := Scalar.addi c0_i32_2083 v3009
  v3010.toNat
def k0_dev125 (d0 : Dev nD) : Nat :=
  let c0_i32_2093 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2085 : BitVec 32 := 30#32
  let v3016 : BitVec 32 := Scalar.addi v2 c30_i32_2085
  let c32_i32_2086 : BitVec 32 := 32#32
  let c0_i32_2087 : BitVec 32 := 0#32
  let v3017 : BitVec 1 := Scalar.cmpi .eq c32_i32_2086 c0_i32_2087
  let c1_i32_2088 : BitVec 32 := 1#32
  let v3018 : BitVec 32 := Scalar.select v3017 c1_i32_2088 c32_i32_2086
  let v3019 : BitVec 32 := Scalar.remsi v3016 v3018
  let c0_i32_2090 : BitVec 32 := 0#32
  let v3021 : BitVec 1 := Scalar.cmpi .slt v3019 c0_i32_2090
  let c0_i32_2091 : BitVec 32 := 0#32
  let v3022 : BitVec 1 := Scalar.cmpi .slt v3018 c0_i32_2091
  let v3023 : BitVec 1 := Scalar.xori v3021 v3022
  let c0_i32_2089 : BitVec 32 := 0#32
  let v3020 : BitVec 1 := Scalar.cmpi .ne v3019 c0_i32_2089
  let v3024 : BitVec 1 := Scalar.andi v3023 v3020
  let v3025 : BitVec 32 := Scalar.addi v3019 v3018
  let v3026 : BitVec 32 := Scalar.select v3024 v3025 v3019
  let c1_i32_2092 : BitVec 32 := 1#32
  let v3027 : BitVec 32 := Scalar.muli v3026 c1_i32_2092
  let v3028 : BitVec 32 := Scalar.addi c0_i32_2093 v3027
  v3028.toNat
def k0_dev126 (d0 : Dev nD) : Nat :=
  let c0_i32_2103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2095 : BitVec 32 := 31#32
  let v3034 : BitVec 32 := Scalar.addi v2 c31_i32_2095
  let c32_i32_2096 : BitVec 32 := 32#32
  let c0_i32_2097 : BitVec 32 := 0#32
  let v3035 : BitVec 1 := Scalar.cmpi .eq c32_i32_2096 c0_i32_2097
  let c1_i32_2098 : BitVec 32 := 1#32
  let v3036 : BitVec 32 := Scalar.select v3035 c1_i32_2098 c32_i32_2096
  let v3037 : BitVec 32 := Scalar.remsi v3034 v3036
  let c0_i32_2100 : BitVec 32 := 0#32
  let v3039 : BitVec 1 := Scalar.cmpi .slt v3037 c0_i32_2100
  let c0_i32_2101 : BitVec 32 := 0#32
  let v3040 : BitVec 1 := Scalar.cmpi .slt v3036 c0_i32_2101
  let v3041 : BitVec 1 := Scalar.xori v3039 v3040
  let c0_i32_2099 : BitVec 32 := 0#32
  let v3038 : BitVec 1 := Scalar.cmpi .ne v3037 c0_i32_2099
  let v3042 : BitVec 1 := Scalar.andi v3041 v3038
  let v3043 : BitVec 32 := Scalar.addi v3037 v3036
  let v3044 : BitVec 32 := Scalar.select v3042 v3043 v3037
  let c1_i32_2102 : BitVec 32 := 1#32
  let v3045 : BitVec 32 := Scalar.muli v3044 c1_i32_2102
  let v3046 : BitVec 32 := Scalar.addi c0_i32_2103 v3045
  v3046.toNat
def k0_cond161 (d0 : Dev nD) : BitVec 1 :=
  let c0_i32_1199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let v1729 : BitVec 32 := Scalar.addi v2 c0_i32_1192
  let c16_i32_1193 : BitVec 32 := 16#32
  let c0_i32_1194 : BitVec 32 := 0#32
  let v1730 : BitVec 1 := Scalar.cmpi .eq c16_i32_1193 c0_i32_1194
  let c1_i32_1195 : BitVec 32 := 1#32
  let v1731 : BitVec 32 := Scalar.select v1730 c1_i32_1195 c16_i32_1193
  let v1732 : BitVec 32 := Scalar.remsi v1729 v1731
  let c0_i32_1197 : BitVec 32 := 0#32
  let v1734 : BitVec 1 := Scalar.cmpi .slt v1732 c0_i32_1197
  let c0_i32_1198 : BitVec 32 := 0#32
  let v1735 : BitVec 1 := Scalar.cmpi .slt v1731 c0_i32_1198
  let v1736 : BitVec 1 := Scalar.xori v1734 v1735
  let c0_i32_1196 : BitVec 32 := 0#32
  let v1733 : BitVec 1 := Scalar.cmpi .ne v1732 c0_i32_1196
  let v1737 : BitVec 1 := Scalar.andi v1736 v1733
  let v1738 : BitVec 32 := Scalar.addi v1732 v1731
  let v1739 : BitVec 32 := Scalar.select v1737 v1738 v1732
  let v1740 : BitVec 32 := Scalar.addi c0_i32_1199 v1739
  let v3334 : BitVec 1 := Scalar.cmpi .ne v1740 v2
  let v3335 : BitVec 32 := Scalar.extui v3334
  let c0_i32_2388 : BitVec 32 := 0#32
  let v3336 : BitVec 1 := Scalar.cmpi .ne v3335 c0_i32_2388
  v3336

def k0_off139 (d0 : Dev nD) : Fin 1 → Nat :=
  let c0_i32_1199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let v1729 : BitVec 32 := Scalar.addi v2 c0_i32_1192
  let c16_i32_1193 : BitVec 32 := 16#32
  let c0_i32_1194 : BitVec 32 := 0#32
  let v1730 : BitVec 1 := Scalar.cmpi .eq c16_i32_1193 c0_i32_1194
  let c1_i32_1195 : BitVec 32 := 1#32
  let v1731 : BitVec 32 := Scalar.select v1730 c1_i32_1195 c16_i32_1193
  let v1732 : BitVec 32 := Scalar.remsi v1729 v1731
  let c0_i32_1197 : BitVec 32 := 0#32
  let v1734 : BitVec 1 := Scalar.cmpi .slt v1732 c0_i32_1197
  let c0_i32_1198 : BitVec 32 := 0#32
  let v1735 : BitVec 1 := Scalar.cmpi .slt v1731 c0_i32_1198
  let v1736 : BitVec 1 := Scalar.xori v1734 v1735
  let c0_i32_1196 : BitVec 32 := 0#32
  let v1733 : BitVec 1 := Scalar.cmpi .ne v1732 c0_i32_1196
  let v1737 : BitVec 1 := Scalar.andi v1736 v1733
  let v1738 : BitVec 32 := Scalar.addi v1732 v1731
  let v1739 : BitVec 32 := Scalar.select v1737 v1738 v1732
  let v1740 : BitVec 32 := Scalar.addi c0_i32_1199 v1739
  ![v1740.toNat]
def k0_off140 (d0 : Dev nD) : Fin 3 → Nat :=
  let c0_i32_1199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let v1729 : BitVec 32 := Scalar.addi v2 c0_i32_1192
  let c16_i32_1193 : BitVec 32 := 16#32
  let c0_i32_1194 : BitVec 32 := 0#32
  let v1730 : BitVec 1 := Scalar.cmpi .eq c16_i32_1193 c0_i32_1194
  let c1_i32_1195 : BitVec 32 := 1#32
  let v1731 : BitVec 32 := Scalar.select v1730 c1_i32_1195 c16_i32_1193
  let v1732 : BitVec 32 := Scalar.remsi v1729 v1731
  let c0_i32_1197 : BitVec 32 := 0#32
  let v1734 : BitVec 1 := Scalar.cmpi .slt v1732 c0_i32_1197
  let c0_i32_1198 : BitVec 32 := 0#32
  let v1735 : BitVec 1 := Scalar.cmpi .slt v1731 c0_i32_1198
  let v1736 : BitVec 1 := Scalar.xori v1734 v1735
  let c0_i32_1196 : BitVec 32 := 0#32
  let v1733 : BitVec 1 := Scalar.cmpi .ne v1732 c0_i32_1196
  let v1737 : BitVec 1 := Scalar.andi v1736 v1733
  let v1738 : BitVec 32 := Scalar.addi v1732 v1731
  let v1739 : BitVec 32 := Scalar.select v1737 v1738 v1732
  let v1740 : BitVec 32 := Scalar.addi c0_i32_1199 v1739
  let c0_i32_2483 : BitVec 32 := 0#32
  let c0_i32_2484 : BitVec 32 := 0#32
  ![v1740.toNat, 0, 0]
def k0_off141 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond162 (d0 : Dev nD) : BitVec 1 :=
  let c0_i32_1208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1201 : BitVec 32 := 1#32
  let v1744 : BitVec 32 := Scalar.addi v2 c1_i32_1201
  let c16_i32_1202 : BitVec 32 := 16#32
  let c0_i32_1203 : BitVec 32 := 0#32
  let v1745 : BitVec 1 := Scalar.cmpi .eq c16_i32_1202 c0_i32_1203
  let c1_i32_1204 : BitVec 32 := 1#32
  let v1746 : BitVec 32 := Scalar.select v1745 c1_i32_1204 c16_i32_1202
  let v1747 : BitVec 32 := Scalar.remsi v1744 v1746
  let c0_i32_1206 : BitVec 32 := 0#32
  let v1749 : BitVec 1 := Scalar.cmpi .slt v1747 c0_i32_1206
  let c0_i32_1207 : BitVec 32 := 0#32
  let v1750 : BitVec 1 := Scalar.cmpi .slt v1746 c0_i32_1207
  let v1751 : BitVec 1 := Scalar.xori v1749 v1750
  let c0_i32_1205 : BitVec 32 := 0#32
  let v1748 : BitVec 1 := Scalar.cmpi .ne v1747 c0_i32_1205
  let v1752 : BitVec 1 := Scalar.andi v1751 v1748
  let v1753 : BitVec 32 := Scalar.addi v1747 v1746
  let v1754 : BitVec 32 := Scalar.select v1752 v1753 v1747
  let v1755 : BitVec 32 := Scalar.addi c0_i32_1208 v1754
  let v3337 : BitVec 1 := Scalar.cmpi .ne v1755 v2
  let v3338 : BitVec 32 := Scalar.extui v3337
  let c0_i32_2389 : BitVec 32 := 0#32
  let v3339 : BitVec 1 := Scalar.cmpi .ne v3338 c0_i32_2389
  v3339

def k0_off142 (d0 : Dev nD) : Fin 1 → Nat :=
  let c0_i32_1208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1201 : BitVec 32 := 1#32
  let v1744 : BitVec 32 := Scalar.addi v2 c1_i32_1201
  let c16_i32_1202 : BitVec 32 := 16#32
  let c0_i32_1203 : BitVec 32 := 0#32
  let v1745 : BitVec 1 := Scalar.cmpi .eq c16_i32_1202 c0_i32_1203
  let c1_i32_1204 : BitVec 32 := 1#32
  let v1746 : BitVec 32 := Scalar.select v1745 c1_i32_1204 c16_i32_1202
  let v1747 : BitVec 32 := Scalar.remsi v1744 v1746
  let c0_i32_1206 : BitVec 32 := 0#32
  let v1749 : BitVec 1 := Scalar.cmpi .slt v1747 c0_i32_1206
  let c0_i32_1207 : BitVec 32 := 0#32
  let v1750 : BitVec 1 := Scalar.cmpi .slt v1746 c0_i32_1207
  let v1751 : BitVec 1 := Scalar.xori v1749 v1750
  let c0_i32_1205 : BitVec 32 := 0#32
  let v1748 : BitVec 1 := Scalar.cmpi .ne v1747 c0_i32_1205
  let v1752 : BitVec 1 := Scalar.andi v1751 v1748
  let v1753 : BitVec 32 := Scalar.addi v1747 v1746
  let v1754 : BitVec 32 := Scalar.select v1752 v1753 v1747
  let v1755 : BitVec 32 := Scalar.addi c0_i32_1208 v1754
  ![v1755.toNat]
def k0_off143 (d0 : Dev nD) : Fin 3 → Nat :=
  let c0_i32_1208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1201 : BitVec 32 := 1#32
  let v1744 : BitVec 32 := Scalar.addi v2 c1_i32_1201
  let c16_i32_1202 : BitVec 32 := 16#32
  let c0_i32_1203 : BitVec 32 := 0#32
  let v1745 : BitVec 1 := Scalar.cmpi .eq c16_i32_1202 c0_i32_1203
  let c1_i32_1204 : BitVec 32 := 1#32
  let v1746 : BitVec 32 := Scalar.select v1745 c1_i32_1204 c16_i32_1202
  let v1747 : BitVec 32 := Scalar.remsi v1744 v1746
  let c0_i32_1206 : BitVec 32 := 0#32
  let v1749 : BitVec 1 := Scalar.cmpi .slt v1747 c0_i32_1206
  let c0_i32_1207 : BitVec 32 := 0#32
  let v1750 : BitVec 1 := Scalar.cmpi .slt v1746 c0_i32_1207
  let v1751 : BitVec 1 := Scalar.xori v1749 v1750
  let c0_i32_1205 : BitVec 32 := 0#32
  let v1748 : BitVec 1 := Scalar.cmpi .ne v1747 c0_i32_1205
  let v1752 : BitVec 1 := Scalar.andi v1751 v1748
  let v1753 : BitVec 32 := Scalar.addi v1747 v1746
  let v1754 : BitVec 32 := Scalar.select v1752 v1753 v1747
  let v1755 : BitVec 32 := Scalar.addi c0_i32_1208 v1754
  let c0_i32_2483 : BitVec 32 := 0#32
  let c0_i32_2484 : BitVec 32 := 0#32
  ![v1755.toNat, 0, 0]
def k0_off144 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond163 (d0 : Dev nD) : BitVec 1 :=
  let c0_i32_1217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1210 : BitVec 32 := 2#32
  let v1759 : BitVec 32 := Scalar.addi v2 c2_i32_1210
  let c16_i32_1211 : BitVec 32 := 16#32
  let c0_i32_1212 : BitVec 32 := 0#32
  let v1760 : BitVec 1 := Scalar.cmpi .eq c16_i32_1211 c0_i32_1212
  let c1_i32_1213 : BitVec 32 := 1#32
  let v1761 : BitVec 32 := Scalar.select v1760 c1_i32_1213 c16_i32_1211
  let v1762 : BitVec 32 := Scalar.remsi v1759 v1761
  let c0_i32_1215 : BitVec 32 := 0#32
  let v1764 : BitVec 1 := Scalar.cmpi .slt v1762 c0_i32_1215
  let c0_i32_1216 : BitVec 32 := 0#32
  let v1765 : BitVec 1 := Scalar.cmpi .slt v1761 c0_i32_1216
  let v1766 : BitVec 1 := Scalar.xori v1764 v1765
  let c0_i32_1214 : BitVec 32 := 0#32
  let v1763 : BitVec 1 := Scalar.cmpi .ne v1762 c0_i32_1214
  let v1767 : BitVec 1 := Scalar.andi v1766 v1763
  let v1768 : BitVec 32 := Scalar.addi v1762 v1761
  let v1769 : BitVec 32 := Scalar.select v1767 v1768 v1762
  let v1770 : BitVec 32 := Scalar.addi c0_i32_1217 v1769
  let v3340 : BitVec 1 := Scalar.cmpi .ne v1770 v2
  let v3341 : BitVec 32 := Scalar.extui v3340
  let c0_i32_2390 : BitVec 32 := 0#32
  let v3342 : BitVec 1 := Scalar.cmpi .ne v3341 c0_i32_2390
  v3342

def k0_off145 (d0 : Dev nD) : Fin 1 → Nat :=
  let c0_i32_1217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1210 : BitVec 32 := 2#32
  let v1759 : BitVec 32 := Scalar.addi v2 c2_i32_1210
  let c16_i32_1211 : BitVec 32 := 16#32
  let c0_i32_1212 : BitVec 32 := 0#32
  let v1760 : BitVec 1 := Scalar.cmpi .eq c16_i32_1211 c0_i32_1212
  let c1_i32_1213 : BitVec 32 := 1#32
  let v1761 : BitVec 32 := Scalar.select v1760 c1_i32_1213 c16_i32_1211
  let v1762 : BitVec 32 := Scalar.remsi v1759 v1761
  let c0_i32_1215 : BitVec 32 := 0#32
  let v1764 : BitVec 1 := Scalar.cmpi .slt v1762 c0_i32_1215
  let c0_i32_1216 : BitVec 32 := 0#32
  let v1765 : BitVec 1 := Scalar.cmpi .slt v1761 c0_i32_1216
  let v1766 : BitVec 1 := Scalar.xori v1764 v1765
  let c0_i32_1214 : BitVec 32 := 0#32
  let v1763 : BitVec 1 := Scalar.cmpi .ne v1762 c0_i32_1214
  let v1767 : BitVec 1 := Scalar.andi v1766 v1763
  let v1768 : BitVec 32 := Scalar.addi v1762 v1761
  let v1769 : BitVec 32 := Scalar.select v1767 v1768 v1762
  let v1770 : BitVec 32 := Scalar.addi c0_i32_1217 v1769
  ![v1770.toNat]
def k0_off146 (d0 : Dev nD) : Fin 3 → Nat :=
  let c0_i32_1217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1210 : BitVec 32 := 2#32
  let v1759 : BitVec 32 := Scalar.addi v2 c2_i32_1210
  let c16_i32_1211 : BitVec 32 := 16#32
  let c0_i32_1212 : BitVec 32 := 0#32
  let v1760 : BitVec 1 := Scalar.cmpi .eq c16_i32_1211 c0_i32_1212
  let c1_i32_1213 : BitVec 32 := 1#32
  let v1761 : BitVec 32 := Scalar.select v1760 c1_i32_1213 c16_i32_1211
  let v1762 : BitVec 32 := Scalar.remsi v1759 v1761
  let c0_i32_1215 : BitVec 32 := 0#32
  let v1764 : BitVec 1 := Scalar.cmpi .slt v1762 c0_i32_1215
  let c0_i32_1216 : BitVec 32 := 0#32
  let v1765 : BitVec 1 := Scalar.cmpi .slt v1761 c0_i32_1216
  let v1766 : BitVec 1 := Scalar.xori v1764 v1765
  let c0_i32_1214 : BitVec 32 := 0#32
  let v1763 : BitVec 1 := Scalar.cmpi .ne v1762 c0_i32_1214
  let v1767 : BitVec 1 := Scalar.andi v1766 v1763
  let v1768 : BitVec 32 := Scalar.addi v1762 v1761
  let v1769 : BitVec 32 := Scalar.select v1767 v1768 v1762
  let v1770 : BitVec 32 := Scalar.addi c0_i32_1217 v1769
  let c0_i32_2483 : BitVec 32 := 0#32
  let c0_i32_2484 : BitVec 32 := 0#32
  ![v1770.toNat, 0, 0]
def k0_off147 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond164 (d0 : Dev nD) : BitVec 1 :=
  let c0_i32_1226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1219 : BitVec 32 := 3#32
  let v1774 : BitVec 32 := Scalar.addi v2 c3_i32_1219
  let c16_i32_1220 : BitVec 32 := 16#32
  let c0_i32_1221 : BitVec 32 := 0#32
  let v1775 : BitVec 1 := Scalar.cmpi .eq c16_i32_1220 c0_i32_1221
  let c1_i32_1222 : BitVec 32 := 1#32
  let v1776 : BitVec 32 := Scalar.select v1775 c1_i32_1222 c16_i32_1220
  let v1777 : BitVec 32 := Scalar.remsi v1774 v1776
  let c0_i32_1224 : BitVec 32 := 0#32
  let v1779 : BitVec 1 := Scalar.cmpi .slt v1777 c0_i32_1224
  let c0_i32_1225 : BitVec 32 := 0#32
  let v1780 : BitVec 1 := Scalar.cmpi .slt v1776 c0_i32_1225
  let v1781 : BitVec 1 := Scalar.xori v1779 v1780
  let c0_i32_1223 : BitVec 32 := 0#32
  let v1778 : BitVec 1 := Scalar.cmpi .ne v1777 c0_i32_1223
  let v1782 : BitVec 1 := Scalar.andi v1781 v1778
  let v1783 : BitVec 32 := Scalar.addi v1777 v1776
  let v1784 : BitVec 32 := Scalar.select v1782 v1783 v1777
  let v1785 : BitVec 32 := Scalar.addi c0_i32_1226 v1784
  let v3343 : BitVec 1 := Scalar.cmpi .ne v1785 v2
  let v3344 : BitVec 32 := Scalar.extui v3343
  let c0_i32_2391 : BitVec 32 := 0#32
  let v3345 : BitVec 1 := Scalar.cmpi .ne v3344 c0_i32_2391
  v3345

def k0_off148 (d0 : Dev nD) : Fin 1 → Nat :=
  let c0_i32_1226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1219 : BitVec 32 := 3#32
  let v1774 : BitVec 32 := Scalar.addi v2 c3_i32_1219
  let c16_i32_1220 : BitVec 32 := 16#32
  let c0_i32_1221 : BitVec 32 := 0#32
  let v1775 : BitVec 1 := Scalar.cmpi .eq c16_i32_1220 c0_i32_1221
  let c1_i32_1222 : BitVec 32 := 1#32
  let v1776 : BitVec 32 := Scalar.select v1775 c1_i32_1222 c16_i32_1220
  let v1777 : BitVec 32 := Scalar.remsi v1774 v1776
  let c0_i32_1224 : BitVec 32 := 0#32
  let v1779 : BitVec 1 := Scalar.cmpi .slt v1777 c0_i32_1224
  let c0_i32_1225 : BitVec 32 := 0#32
  let v1780 : BitVec 1 := Scalar.cmpi .slt v1776 c0_i32_1225
  let v1781 : BitVec 1 := Scalar.xori v1779 v1780
  let c0_i32_1223 : BitVec 32 := 0#32
  let v1778 : BitVec 1 := Scalar.cmpi .ne v1777 c0_i32_1223
  let v1782 : BitVec 1 := Scalar.andi v1781 v1778
  let v1783 : BitVec 32 := Scalar.addi v1777 v1776
  let v1784 : BitVec 32 := Scalar.select v1782 v1783 v1777
  let v1785 : BitVec 32 := Scalar.addi c0_i32_1226 v1784
  ![v1785.toNat]
def k0_off149 (d0 : Dev nD) : Fin 3 → Nat :=
  let c0_i32_1226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1219 : BitVec 32 := 3#32
  let v1774 : BitVec 32 := Scalar.addi v2 c3_i32_1219
  let c16_i32_1220 : BitVec 32 := 16#32
  let c0_i32_1221 : BitVec 32 := 0#32
  let v1775 : BitVec 1 := Scalar.cmpi .eq c16_i32_1220 c0_i32_1221
  let c1_i32_1222 : BitVec 32 := 1#32
  let v1776 : BitVec 32 := Scalar.select v1775 c1_i32_1222 c16_i32_1220
  let v1777 : BitVec 32 := Scalar.remsi v1774 v1776
  let c0_i32_1224 : BitVec 32 := 0#32
  let v1779 : BitVec 1 := Scalar.cmpi .slt v1777 c0_i32_1224
  let c0_i32_1225 : BitVec 32 := 0#32
  let v1780 : BitVec 1 := Scalar.cmpi .slt v1776 c0_i32_1225
  let v1781 : BitVec 1 := Scalar.xori v1779 v1780
  let c0_i32_1223 : BitVec 32 := 0#32
  let v1778 : BitVec 1 := Scalar.cmpi .ne v1777 c0_i32_1223
  let v1782 : BitVec 1 := Scalar.andi v1781 v1778
  let v1783 : BitVec 32 := Scalar.addi v1777 v1776
  let v1784 : BitVec 32 := Scalar.select v1782 v1783 v1777
  let v1785 : BitVec 32 := Scalar.addi c0_i32_1226 v1784
  let c0_i32_2483 : BitVec 32 := 0#32
  let c0_i32_2484 : BitVec 32 := 0#32
  ![v1785.toNat, 0, 0]
def k0_off150 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond165 (d0 : Dev nD) : BitVec 1 :=
  let c0_i32_1235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1228 : BitVec 32 := 4#32
  let v1789 : BitVec 32 := Scalar.addi v2 c4_i32_1228
  let c16_i32_1229 : BitVec 32 := 16#32
  let c0_i32_1230 : BitVec 32 := 0#32
  let v1790 : BitVec 1 := Scalar.cmpi .eq c16_i32_1229 c0_i32_1230
  let c1_i32_1231 : BitVec 32 := 1#32
  let v1791 : BitVec 32 := Scalar.select v1790 c1_i32_1231 c16_i32_1229
  let v1792 : BitVec 32 := Scalar.remsi v1789 v1791
  let c0_i32_1233 : BitVec 32 := 0#32
  let v1794 : BitVec 1 := Scalar.cmpi .slt v1792 c0_i32_1233
  let c0_i32_1234 : BitVec 32 := 0#32
  let v1795 : BitVec 1 := Scalar.cmpi .slt v1791 c0_i32_1234
  let v1796 : BitVec 1 := Scalar.xori v1794 v1795
  let c0_i32_1232 : BitVec 32 := 0#32
  let v1793 : BitVec 1 := Scalar.cmpi .ne v1792 c0_i32_1232
  let v1797 : BitVec 1 := Scalar.andi v1796 v1793
  let v1798 : BitVec 32 := Scalar.addi v1792 v1791
  let v1799 : BitVec 32 := Scalar.select v1797 v1798 v1792
  let v1800 : BitVec 32 := Scalar.addi c0_i32_1235 v1799
  let v3346 : BitVec 1 := Scalar.cmpi .ne v1800 v2
  let v3347 : BitVec 32 := Scalar.extui v3346
  let c0_i32_2392 : BitVec 32 := 0#32
  let v3348 : BitVec 1 := Scalar.cmpi .ne v3347 c0_i32_2392
  v3348

def k0_off151 (d0 : Dev nD) : Fin 1 → Nat :=
  let c0_i32_1235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1228 : BitVec 32 := 4#32
  let v1789 : BitVec 32 := Scalar.addi v2 c4_i32_1228
  let c16_i32_1229 : BitVec 32 := 16#32
  let c0_i32_1230 : BitVec 32 := 0#32
  let v1790 : BitVec 1 := Scalar.cmpi .eq c16_i32_1229 c0_i32_1230
  let c1_i32_1231 : BitVec 32 := 1#32
  let v1791 : BitVec 32 := Scalar.select v1790 c1_i32_1231 c16_i32_1229
  let v1792 : BitVec 32 := Scalar.remsi v1789 v1791
  let c0_i32_1233 : BitVec 32 := 0#32
  let v1794 : BitVec 1 := Scalar.cmpi .slt v1792 c0_i32_1233
  let c0_i32_1234 : BitVec 32 := 0#32
  let v1795 : BitVec 1 := Scalar.cmpi .slt v1791 c0_i32_1234
  let v1796 : BitVec 1 := Scalar.xori v1794 v1795
  let c0_i32_1232 : BitVec 32 := 0#32
  let v1793 : BitVec 1 := Scalar.cmpi .ne v1792 c0_i32_1232
  let v1797 : BitVec 1 := Scalar.andi v1796 v1793
  let v1798 : BitVec 32 := Scalar.addi v1792 v1791
  let v1799 : BitVec 32 := Scalar.select v1797 v1798 v1792
  let v1800 : BitVec 32 := Scalar.addi c0_i32_1235 v1799
  ![v1800.toNat]
def k0_off152 (d0 : Dev nD) : Fin 3 → Nat :=
  let c0_i32_1235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1228 : BitVec 32 := 4#32
  let v1789 : BitVec 32 := Scalar.addi v2 c4_i32_1228
  let c16_i32_1229 : BitVec 32 := 16#32
  let c0_i32_1230 : BitVec 32 := 0#32
  let v1790 : BitVec 1 := Scalar.cmpi .eq c16_i32_1229 c0_i32_1230
  let c1_i32_1231 : BitVec 32 := 1#32
  let v1791 : BitVec 32 := Scalar.select v1790 c1_i32_1231 c16_i32_1229
  let v1792 : BitVec 32 := Scalar.remsi v1789 v1791
  let c0_i32_1233 : BitVec 32 := 0#32
  let v1794 : BitVec 1 := Scalar.cmpi .slt v1792 c0_i32_1233
  let c0_i32_1234 : BitVec 32 := 0#32
  let v1795 : BitVec 1 := Scalar.cmpi .slt v1791 c0_i32_1234
  let v1796 : BitVec 1 := Scalar.xori v1794 v1795
  let c0_i32_1232 : BitVec 32 := 0#32
  let v1793 : BitVec 1 := Scalar.cmpi .ne v1792 c0_i32_1232
  let v1797 : BitVec 1 := Scalar.andi v1796 v1793
  let v1798 : BitVec 32 := Scalar.addi v1792 v1791
  let v1799 : BitVec 32 := Scalar.select v1797 v1798 v1792
  let v1800 : BitVec 32 := Scalar.addi c0_i32_1235 v1799
  let c0_i32_2483 : BitVec 32 := 0#32
  let c0_i32_2484 : BitVec 32 := 0#32
  ![v1800.toNat, 0, 0]
def k0_off153 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond166 (d0 : Dev nD) : BitVec 1 :=
  let c0_i32_1244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1237 : BitVec 32 := 5#32
  let v1804 : BitVec 32 := Scalar.addi v2 c5_i32_1237
  let c16_i32_1238 : BitVec 32 := 16#32
  let c0_i32_1239 : BitVec 32 := 0#32
  let v1805 : BitVec 1 := Scalar.cmpi .eq c16_i32_1238 c0_i32_1239
  let c1_i32_1240 : BitVec 32 := 1#32
  let v1806 : BitVec 32 := Scalar.select v1805 c1_i32_1240 c16_i32_1238
  let v1807 : BitVec 32 := Scalar.remsi v1804 v1806
  let c0_i32_1242 : BitVec 32 := 0#32
  let v1809 : BitVec 1 := Scalar.cmpi .slt v1807 c0_i32_1242
  let c0_i32_1243 : BitVec 32 := 0#32
  let v1810 : BitVec 1 := Scalar.cmpi .slt v1806 c0_i32_1243
  let v1811 : BitVec 1 := Scalar.xori v1809 v1810
  let c0_i32_1241 : BitVec 32 := 0#32
  let v1808 : BitVec 1 := Scalar.cmpi .ne v1807 c0_i32_1241
  let v1812 : BitVec 1 := Scalar.andi v1811 v1808
  let v1813 : BitVec 32 := Scalar.addi v1807 v1806
  let v1814 : BitVec 32 := Scalar.select v1812 v1813 v1807
  let v1815 : BitVec 32 := Scalar.addi c0_i32_1244 v1814
  let v3349 : BitVec 1 := Scalar.cmpi .ne v1815 v2
  let v3350 : BitVec 32 := Scalar.extui v3349
  let c0_i32_2393 : BitVec 32 := 0#32
  let v3351 : BitVec 1 := Scalar.cmpi .ne v3350 c0_i32_2393
  v3351

def k0_off154 (d0 : Dev nD) : Fin 1 → Nat :=
  let c0_i32_1244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1237 : BitVec 32 := 5#32
  let v1804 : BitVec 32 := Scalar.addi v2 c5_i32_1237
  let c16_i32_1238 : BitVec 32 := 16#32
  let c0_i32_1239 : BitVec 32 := 0#32
  let v1805 : BitVec 1 := Scalar.cmpi .eq c16_i32_1238 c0_i32_1239
  let c1_i32_1240 : BitVec 32 := 1#32
  let v1806 : BitVec 32 := Scalar.select v1805 c1_i32_1240 c16_i32_1238
  let v1807 : BitVec 32 := Scalar.remsi v1804 v1806
  let c0_i32_1242 : BitVec 32 := 0#32
  let v1809 : BitVec 1 := Scalar.cmpi .slt v1807 c0_i32_1242
  let c0_i32_1243 : BitVec 32 := 0#32
  let v1810 : BitVec 1 := Scalar.cmpi .slt v1806 c0_i32_1243
  let v1811 : BitVec 1 := Scalar.xori v1809 v1810
  let c0_i32_1241 : BitVec 32 := 0#32
  let v1808 : BitVec 1 := Scalar.cmpi .ne v1807 c0_i32_1241
  let v1812 : BitVec 1 := Scalar.andi v1811 v1808
  let v1813 : BitVec 32 := Scalar.addi v1807 v1806
  let v1814 : BitVec 32 := Scalar.select v1812 v1813 v1807
  let v1815 : BitVec 32 := Scalar.addi c0_i32_1244 v1814
  ![v1815.toNat]
def k0_off155 (d0 : Dev nD) : Fin 3 → Nat :=
  let c0_i32_1244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1237 : BitVec 32 := 5#32
  let v1804 : BitVec 32 := Scalar.addi v2 c5_i32_1237
  let c16_i32_1238 : BitVec 32 := 16#32
  let c0_i32_1239 : BitVec 32 := 0#32
  let v1805 : BitVec 1 := Scalar.cmpi .eq c16_i32_1238 c0_i32_1239
  let c1_i32_1240 : BitVec 32 := 1#32
  let v1806 : BitVec 32 := Scalar.select v1805 c1_i32_1240 c16_i32_1238
  let v1807 : BitVec 32 := Scalar.remsi v1804 v1806
  let c0_i32_1242 : BitVec 32 := 0#32
  let v1809 : BitVec 1 := Scalar.cmpi .slt v1807 c0_i32_1242
  let c0_i32_1243 : BitVec 32 := 0#32
  let v1810 : BitVec 1 := Scalar.cmpi .slt v1806 c0_i32_1243
  let v1811 : BitVec 1 := Scalar.xori v1809 v1810
  let c0_i32_1241 : BitVec 32 := 0#32
  let v1808 : BitVec 1 := Scalar.cmpi .ne v1807 c0_i32_1241
  let v1812 : BitVec 1 := Scalar.andi v1811 v1808
  let v1813 : BitVec 32 := Scalar.addi v1807 v1806
  let v1814 : BitVec 32 := Scalar.select v1812 v1813 v1807
  let v1815 : BitVec 32 := Scalar.addi c0_i32_1244 v1814
  let c0_i32_2483 : BitVec 32 := 0#32
  let c0_i32_2484 : BitVec 32 := 0#32
  ![v1815.toNat, 0, 0]
def k0_off156 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond167 (d0 : Dev nD) : BitVec 1 :=
  let c0_i32_1253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1246 : BitVec 32 := 6#32
  let v1819 : BitVec 32 := Scalar.addi v2 c6_i32_1246
  let c16_i32_1247 : BitVec 32 := 16#32
  let c0_i32_1248 : BitVec 32 := 0#32
  let v1820 : BitVec 1 := Scalar.cmpi .eq c16_i32_1247 c0_i32_1248
  let c1_i32_1249 : BitVec 32 := 1#32
  let v1821 : BitVec 32 := Scalar.select v1820 c1_i32_1249 c16_i32_1247
  let v1822 : BitVec 32 := Scalar.remsi v1819 v1821
  let c0_i32_1251 : BitVec 32 := 0#32
  let v1824 : BitVec 1 := Scalar.cmpi .slt v1822 c0_i32_1251
  let c0_i32_1252 : BitVec 32 := 0#32
  let v1825 : BitVec 1 := Scalar.cmpi .slt v1821 c0_i32_1252
  let v1826 : BitVec 1 := Scalar.xori v1824 v1825
  let c0_i32_1250 : BitVec 32 := 0#32
  let v1823 : BitVec 1 := Scalar.cmpi .ne v1822 c0_i32_1250
  let v1827 : BitVec 1 := Scalar.andi v1826 v1823
  let v1828 : BitVec 32 := Scalar.addi v1822 v1821
  let v1829 : BitVec 32 := Scalar.select v1827 v1828 v1822
  let v1830 : BitVec 32 := Scalar.addi c0_i32_1253 v1829
  let v3352 : BitVec 1 := Scalar.cmpi .ne v1830 v2
  let v3353 : BitVec 32 := Scalar.extui v3352
  let c0_i32_2394 : BitVec 32 := 0#32
  let v3354 : BitVec 1 := Scalar.cmpi .ne v3353 c0_i32_2394
  v3354

def k0_off157 (d0 : Dev nD) : Fin 1 → Nat :=
  let c0_i32_1253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1246 : BitVec 32 := 6#32
  let v1819 : BitVec 32 := Scalar.addi v2 c6_i32_1246
  let c16_i32_1247 : BitVec 32 := 16#32
  let c0_i32_1248 : BitVec 32 := 0#32
  let v1820 : BitVec 1 := Scalar.cmpi .eq c16_i32_1247 c0_i32_1248
  let c1_i32_1249 : BitVec 32 := 1#32
  let v1821 : BitVec 32 := Scalar.select v1820 c1_i32_1249 c16_i32_1247
  let v1822 : BitVec 32 := Scalar.remsi v1819 v1821
  let c0_i32_1251 : BitVec 32 := 0#32
  let v1824 : BitVec 1 := Scalar.cmpi .slt v1822 c0_i32_1251
  let c0_i32_1252 : BitVec 32 := 0#32
  let v1825 : BitVec 1 := Scalar.cmpi .slt v1821 c0_i32_1252
  let v1826 : BitVec 1 := Scalar.xori v1824 v1825
  let c0_i32_1250 : BitVec 32 := 0#32
  let v1823 : BitVec 1 := Scalar.cmpi .ne v1822 c0_i32_1250
  let v1827 : BitVec 1 := Scalar.andi v1826 v1823
  let v1828 : BitVec 32 := Scalar.addi v1822 v1821
  let v1829 : BitVec 32 := Scalar.select v1827 v1828 v1822
  let v1830 : BitVec 32 := Scalar.addi c0_i32_1253 v1829
  ![v1830.toNat]
def k0_off158 (d0 : Dev nD) : Fin 3 → Nat :=
  let c0_i32_1253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1246 : BitVec 32 := 6#32
  let v1819 : BitVec 32 := Scalar.addi v2 c6_i32_1246
  let c16_i32_1247 : BitVec 32 := 16#32
  let c0_i32_1248 : BitVec 32 := 0#32
  let v1820 : BitVec 1 := Scalar.cmpi .eq c16_i32_1247 c0_i32_1248
  let c1_i32_1249 : BitVec 32 := 1#32
  let v1821 : BitVec 32 := Scalar.select v1820 c1_i32_1249 c16_i32_1247
  let v1822 : BitVec 32 := Scalar.remsi v1819 v1821
  let c0_i32_1251 : BitVec 32 := 0#32
  let v1824 : BitVec 1 := Scalar.cmpi .slt v1822 c0_i32_1251
  let c0_i32_1252 : BitVec 32 := 0#32
  let v1825 : BitVec 1 := Scalar.cmpi .slt v1821 c0_i32_1252
  let v1826 : BitVec 1 := Scalar.xori v1824 v1825
  let c0_i32_1250 : BitVec 32 := 0#32
  let v1823 : BitVec 1 := Scalar.cmpi .ne v1822 c0_i32_1250
  let v1827 : BitVec 1 := Scalar.andi v1826 v1823
  let v1828 : BitVec 32 := Scalar.addi v1822 v1821
  let v1829 : BitVec 32 := Scalar.select v1827 v1828 v1822
  let v1830 : BitVec 32 := Scalar.addi c0_i32_1253 v1829
  let c0_i32_2483 : BitVec 32 := 0#32
  let c0_i32_2484 : BitVec 32 := 0#32
  ![v1830.toNat, 0, 0]
def k0_off159 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond168 (d0 : Dev nD) : BitVec 1 :=
  let c0_i32_1262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1255 : BitVec 32 := 7#32
  let v1834 : BitVec 32 := Scalar.addi v2 c7_i32_1255
  let c16_i32_1256 : BitVec 32 := 16#32
  let c0_i32_1257 : BitVec 32 := 0#32
  let v1835 : BitVec 1 := Scalar.cmpi .eq c16_i32_1256 c0_i32_1257
  let c1_i32_1258 : BitVec 32 := 1#32
  let v1836 : BitVec 32 := Scalar.select v1835 c1_i32_1258 c16_i32_1256
  let v1837 : BitVec 32 := Scalar.remsi v1834 v1836
  let c0_i32_1260 : BitVec 32 := 0#32
  let v1839 : BitVec 1 := Scalar.cmpi .slt v1837 c0_i32_1260
  let c0_i32_1261 : BitVec 32 := 0#32
  let v1840 : BitVec 1 := Scalar.cmpi .slt v1836 c0_i32_1261
  let v1841 : BitVec 1 := Scalar.xori v1839 v1840
  let c0_i32_1259 : BitVec 32 := 0#32
  let v1838 : BitVec 1 := Scalar.cmpi .ne v1837 c0_i32_1259
  let v1842 : BitVec 1 := Scalar.andi v1841 v1838
  let v1843 : BitVec 32 := Scalar.addi v1837 v1836
  let v1844 : BitVec 32 := Scalar.select v1842 v1843 v1837
  let v1845 : BitVec 32 := Scalar.addi c0_i32_1262 v1844
  let v3355 : BitVec 1 := Scalar.cmpi .ne v1845 v2
  let v3356 : BitVec 32 := Scalar.extui v3355
  let c0_i32_2395 : BitVec 32 := 0#32
  let v3357 : BitVec 1 := Scalar.cmpi .ne v3356 c0_i32_2395
  v3357

def k0_off160 (d0 : Dev nD) : Fin 1 → Nat :=
  let c0_i32_1262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1255 : BitVec 32 := 7#32
  let v1834 : BitVec 32 := Scalar.addi v2 c7_i32_1255
  let c16_i32_1256 : BitVec 32 := 16#32
  let c0_i32_1257 : BitVec 32 := 0#32
  let v1835 : BitVec 1 := Scalar.cmpi .eq c16_i32_1256 c0_i32_1257
  let c1_i32_1258 : BitVec 32 := 1#32
  let v1836 : BitVec 32 := Scalar.select v1835 c1_i32_1258 c16_i32_1256
  let v1837 : BitVec 32 := Scalar.remsi v1834 v1836
  let c0_i32_1260 : BitVec 32 := 0#32
  let v1839 : BitVec 1 := Scalar.cmpi .slt v1837 c0_i32_1260
  let c0_i32_1261 : BitVec 32 := 0#32
  let v1840 : BitVec 1 := Scalar.cmpi .slt v1836 c0_i32_1261
  let v1841 : BitVec 1 := Scalar.xori v1839 v1840
  let c0_i32_1259 : BitVec 32 := 0#32
  let v1838 : BitVec 1 := Scalar.cmpi .ne v1837 c0_i32_1259
  let v1842 : BitVec 1 := Scalar.andi v1841 v1838
  let v1843 : BitVec 32 := Scalar.addi v1837 v1836
  let v1844 : BitVec 32 := Scalar.select v1842 v1843 v1837
  let v1845 : BitVec 32 := Scalar.addi c0_i32_1262 v1844
  ![v1845.toNat]
def k0_off161 (d0 : Dev nD) : Fin 3 → Nat :=
  let c0_i32_1262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1255 : BitVec 32 := 7#32
  let v1834 : BitVec 32 := Scalar.addi v2 c7_i32_1255
  let c16_i32_1256 : BitVec 32 := 16#32
  let c0_i32_1257 : BitVec 32 := 0#32
  let v1835 : BitVec 1 := Scalar.cmpi .eq c16_i32_1256 c0_i32_1257
  let c1_i32_1258 : BitVec 32 := 1#32
  let v1836 : BitVec 32 := Scalar.select v1835 c1_i32_1258 c16_i32_1256
  let v1837 : BitVec 32 := Scalar.remsi v1834 v1836
  let c0_i32_1260 : BitVec 32 := 0#32
  let v1839 : BitVec 1 := Scalar.cmpi .slt v1837 c0_i32_1260
  let c0_i32_1261 : BitVec 32 := 0#32
  let v1840 : BitVec 1 := Scalar.cmpi .slt v1836 c0_i32_1261
  let v1841 : BitVec 1 := Scalar.xori v1839 v1840
  let c0_i32_1259 : BitVec 32 := 0#32
  let v1838 : BitVec 1 := Scalar.cmpi .ne v1837 c0_i32_1259
  let v1842 : BitVec 1 := Scalar.andi v1841 v1838
  let v1843 : BitVec 32 := Scalar.addi v1837 v1836
  let v1844 : BitVec 32 := Scalar.select v1842 v1843 v1837
  let v1845 : BitVec 32 := Scalar.addi c0_i32_1262 v1844
  let c0_i32_2483 : BitVec 32 := 0#32
  let c0_i32_2484 : BitVec 32 := 0#32
  ![v1845.toNat, 0, 0]
def k0_off162 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond169 (d0 : Dev nD) : BitVec 1 :=
  let c0_i32_1271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1264 : BitVec 32 := 8#32
  let v1849 : BitVec 32 := Scalar.addi v2 c8_i32_1264
  let c16_i32_1265 : BitVec 32 := 16#32
  let c0_i32_1266 : BitVec 32 := 0#32
  let v1850 : BitVec 1 := Scalar.cmpi .eq c16_i32_1265 c0_i32_1266
  let c1_i32_1267 : BitVec 32 := 1#32
  let v1851 : BitVec 32 := Scalar.select v1850 c1_i32_1267 c16_i32_1265
  let v1852 : BitVec 32 := Scalar.remsi v1849 v1851
  let c0_i32_1269 : BitVec 32 := 0#32
  let v1854 : BitVec 1 := Scalar.cmpi .slt v1852 c0_i32_1269
  let c0_i32_1270 : BitVec 32 := 0#32
  let v1855 : BitVec 1 := Scalar.cmpi .slt v1851 c0_i32_1270
  let v1856 : BitVec 1 := Scalar.xori v1854 v1855
  let c0_i32_1268 : BitVec 32 := 0#32
  let v1853 : BitVec 1 := Scalar.cmpi .ne v1852 c0_i32_1268
  let v1857 : BitVec 1 := Scalar.andi v1856 v1853
  let v1858 : BitVec 32 := Scalar.addi v1852 v1851
  let v1859 : BitVec 32 := Scalar.select v1857 v1858 v1852
  let v1860 : BitVec 32 := Scalar.addi c0_i32_1271 v1859
  let v3358 : BitVec 1 := Scalar.cmpi .ne v1860 v2
  let v3359 : BitVec 32 := Scalar.extui v3358
  let c0_i32_2396 : BitVec 32 := 0#32
  let v3360 : BitVec 1 := Scalar.cmpi .ne v3359 c0_i32_2396
  v3360

def k0_off163 (d0 : Dev nD) : Fin 1 → Nat :=
  let c0_i32_1271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1264 : BitVec 32 := 8#32
  let v1849 : BitVec 32 := Scalar.addi v2 c8_i32_1264
  let c16_i32_1265 : BitVec 32 := 16#32
  let c0_i32_1266 : BitVec 32 := 0#32
  let v1850 : BitVec 1 := Scalar.cmpi .eq c16_i32_1265 c0_i32_1266
  let c1_i32_1267 : BitVec 32 := 1#32
  let v1851 : BitVec 32 := Scalar.select v1850 c1_i32_1267 c16_i32_1265
  let v1852 : BitVec 32 := Scalar.remsi v1849 v1851
  let c0_i32_1269 : BitVec 32 := 0#32
  let v1854 : BitVec 1 := Scalar.cmpi .slt v1852 c0_i32_1269
  let c0_i32_1270 : BitVec 32 := 0#32
  let v1855 : BitVec 1 := Scalar.cmpi .slt v1851 c0_i32_1270
  let v1856 : BitVec 1 := Scalar.xori v1854 v1855
  let c0_i32_1268 : BitVec 32 := 0#32
  let v1853 : BitVec 1 := Scalar.cmpi .ne v1852 c0_i32_1268
  let v1857 : BitVec 1 := Scalar.andi v1856 v1853
  let v1858 : BitVec 32 := Scalar.addi v1852 v1851
  let v1859 : BitVec 32 := Scalar.select v1857 v1858 v1852
  let v1860 : BitVec 32 := Scalar.addi c0_i32_1271 v1859
  ![v1860.toNat]
def k0_off164 (d0 : Dev nD) : Fin 3 → Nat :=
  let c0_i32_1271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1264 : BitVec 32 := 8#32
  let v1849 : BitVec 32 := Scalar.addi v2 c8_i32_1264
  let c16_i32_1265 : BitVec 32 := 16#32
  let c0_i32_1266 : BitVec 32 := 0#32
  let v1850 : BitVec 1 := Scalar.cmpi .eq c16_i32_1265 c0_i32_1266
  let c1_i32_1267 : BitVec 32 := 1#32
  let v1851 : BitVec 32 := Scalar.select v1850 c1_i32_1267 c16_i32_1265
  let v1852 : BitVec 32 := Scalar.remsi v1849 v1851
  let c0_i32_1269 : BitVec 32 := 0#32
  let v1854 : BitVec 1 := Scalar.cmpi .slt v1852 c0_i32_1269
  let c0_i32_1270 : BitVec 32 := 0#32
  let v1855 : BitVec 1 := Scalar.cmpi .slt v1851 c0_i32_1270
  let v1856 : BitVec 1 := Scalar.xori v1854 v1855
  let c0_i32_1268 : BitVec 32 := 0#32
  let v1853 : BitVec 1 := Scalar.cmpi .ne v1852 c0_i32_1268
  let v1857 : BitVec 1 := Scalar.andi v1856 v1853
  let v1858 : BitVec 32 := Scalar.addi v1852 v1851
  let v1859 : BitVec 32 := Scalar.select v1857 v1858 v1852
  let v1860 : BitVec 32 := Scalar.addi c0_i32_1271 v1859
  let c0_i32_2483 : BitVec 32 := 0#32
  let c0_i32_2484 : BitVec 32 := 0#32
  ![v1860.toNat, 0, 0]
def k0_off165 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond170 (d0 : Dev nD) : BitVec 1 :=
  let c0_i32_1280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1273 : BitVec 32 := 9#32
  let v1864 : BitVec 32 := Scalar.addi v2 c9_i32_1273
  let c16_i32_1274 : BitVec 32 := 16#32
  let c0_i32_1275 : BitVec 32 := 0#32
  let v1865 : BitVec 1 := Scalar.cmpi .eq c16_i32_1274 c0_i32_1275
  let c1_i32_1276 : BitVec 32 := 1#32
  let v1866 : BitVec 32 := Scalar.select v1865 c1_i32_1276 c16_i32_1274
  let v1867 : BitVec 32 := Scalar.remsi v1864 v1866
  let c0_i32_1278 : BitVec 32 := 0#32
  let v1869 : BitVec 1 := Scalar.cmpi .slt v1867 c0_i32_1278
  let c0_i32_1279 : BitVec 32 := 0#32
  let v1870 : BitVec 1 := Scalar.cmpi .slt v1866 c0_i32_1279
  let v1871 : BitVec 1 := Scalar.xori v1869 v1870
  let c0_i32_1277 : BitVec 32 := 0#32
  let v1868 : BitVec 1 := Scalar.cmpi .ne v1867 c0_i32_1277
  let v1872 : BitVec 1 := Scalar.andi v1871 v1868
  let v1873 : BitVec 32 := Scalar.addi v1867 v1866
  let v1874 : BitVec 32 := Scalar.select v1872 v1873 v1867
  let v1875 : BitVec 32 := Scalar.addi c0_i32_1280 v1874
  let v3361 : BitVec 1 := Scalar.cmpi .ne v1875 v2
  let v3362 : BitVec 32 := Scalar.extui v3361
  let c0_i32_2397 : BitVec 32 := 0#32
  let v3363 : BitVec 1 := Scalar.cmpi .ne v3362 c0_i32_2397
  v3363

def k0_off166 (d0 : Dev nD) : Fin 1 → Nat :=
  let c0_i32_1280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1273 : BitVec 32 := 9#32
  let v1864 : BitVec 32 := Scalar.addi v2 c9_i32_1273
  let c16_i32_1274 : BitVec 32 := 16#32
  let c0_i32_1275 : BitVec 32 := 0#32
  let v1865 : BitVec 1 := Scalar.cmpi .eq c16_i32_1274 c0_i32_1275
  let c1_i32_1276 : BitVec 32 := 1#32
  let v1866 : BitVec 32 := Scalar.select v1865 c1_i32_1276 c16_i32_1274
  let v1867 : BitVec 32 := Scalar.remsi v1864 v1866
  let c0_i32_1278 : BitVec 32 := 0#32
  let v1869 : BitVec 1 := Scalar.cmpi .slt v1867 c0_i32_1278
  let c0_i32_1279 : BitVec 32 := 0#32
  let v1870 : BitVec 1 := Scalar.cmpi .slt v1866 c0_i32_1279
  let v1871 : BitVec 1 := Scalar.xori v1869 v1870
  let c0_i32_1277 : BitVec 32 := 0#32
  let v1868 : BitVec 1 := Scalar.cmpi .ne v1867 c0_i32_1277
  let v1872 : BitVec 1 := Scalar.andi v1871 v1868
  let v1873 : BitVec 32 := Scalar.addi v1867 v1866
  let v1874 : BitVec 32 := Scalar.select v1872 v1873 v1867
  let v1875 : BitVec 32 := Scalar.addi c0_i32_1280 v1874
  ![v1875.toNat]
def k0_off167 (d0 : Dev nD) : Fin 3 → Nat :=
  let c0_i32_1280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1273 : BitVec 32 := 9#32
  let v1864 : BitVec 32 := Scalar.addi v2 c9_i32_1273
  let c16_i32_1274 : BitVec 32 := 16#32
  let c0_i32_1275 : BitVec 32 := 0#32
  let v1865 : BitVec 1 := Scalar.cmpi .eq c16_i32_1274 c0_i32_1275
  let c1_i32_1276 : BitVec 32 := 1#32
  let v1866 : BitVec 32 := Scalar.select v1865 c1_i32_1276 c16_i32_1274
  let v1867 : BitVec 32 := Scalar.remsi v1864 v1866
  let c0_i32_1278 : BitVec 32 := 0#32
  let v1869 : BitVec 1 := Scalar.cmpi .slt v1867 c0_i32_1278
  let c0_i32_1279 : BitVec 32 := 0#32
  let v1870 : BitVec 1 := Scalar.cmpi .slt v1866 c0_i32_1279
  let v1871 : BitVec 1 := Scalar.xori v1869 v1870
  let c0_i32_1277 : BitVec 32 := 0#32
  let v1868 : BitVec 1 := Scalar.cmpi .ne v1867 c0_i32_1277
  let v1872 : BitVec 1 := Scalar.andi v1871 v1868
  let v1873 : BitVec 32 := Scalar.addi v1867 v1866
  let v1874 : BitVec 32 := Scalar.select v1872 v1873 v1867
  let v1875 : BitVec 32 := Scalar.addi c0_i32_1280 v1874
  let c0_i32_2483 : BitVec 32 := 0#32
  let c0_i32_2484 : BitVec 32 := 0#32
  ![v1875.toNat, 0, 0]
def k0_off168 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond171 (d0 : Dev nD) : BitVec 1 :=
  let c0_i32_1289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1282 : BitVec 32 := 10#32
  let v1879 : BitVec 32 := Scalar.addi v2 c10_i32_1282
  let c16_i32_1283 : BitVec 32 := 16#32
  let c0_i32_1284 : BitVec 32 := 0#32
  let v1880 : BitVec 1 := Scalar.cmpi .eq c16_i32_1283 c0_i32_1284
  let c1_i32_1285 : BitVec 32 := 1#32
  let v1881 : BitVec 32 := Scalar.select v1880 c1_i32_1285 c16_i32_1283
  let v1882 : BitVec 32 := Scalar.remsi v1879 v1881
  let c0_i32_1287 : BitVec 32 := 0#32
  let v1884 : BitVec 1 := Scalar.cmpi .slt v1882 c0_i32_1287
  let c0_i32_1288 : BitVec 32 := 0#32
  let v1885 : BitVec 1 := Scalar.cmpi .slt v1881 c0_i32_1288
  let v1886 : BitVec 1 := Scalar.xori v1884 v1885
  let c0_i32_1286 : BitVec 32 := 0#32
  let v1883 : BitVec 1 := Scalar.cmpi .ne v1882 c0_i32_1286
  let v1887 : BitVec 1 := Scalar.andi v1886 v1883
  let v1888 : BitVec 32 := Scalar.addi v1882 v1881
  let v1889 : BitVec 32 := Scalar.select v1887 v1888 v1882
  let v1890 : BitVec 32 := Scalar.addi c0_i32_1289 v1889
  let v3364 : BitVec 1 := Scalar.cmpi .ne v1890 v2
  let v3365 : BitVec 32 := Scalar.extui v3364
  let c0_i32_2398 : BitVec 32 := 0#32
  let v3366 : BitVec 1 := Scalar.cmpi .ne v3365 c0_i32_2398
  v3366

def k0_off169 (d0 : Dev nD) : Fin 1 → Nat :=
  let c0_i32_1289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1282 : BitVec 32 := 10#32
  let v1879 : BitVec 32 := Scalar.addi v2 c10_i32_1282
  let c16_i32_1283 : BitVec 32 := 16#32
  let c0_i32_1284 : BitVec 32 := 0#32
  let v1880 : BitVec 1 := Scalar.cmpi .eq c16_i32_1283 c0_i32_1284
  let c1_i32_1285 : BitVec 32 := 1#32
  let v1881 : BitVec 32 := Scalar.select v1880 c1_i32_1285 c16_i32_1283
  let v1882 : BitVec 32 := Scalar.remsi v1879 v1881
  let c0_i32_1287 : BitVec 32 := 0#32
  let v1884 : BitVec 1 := Scalar.cmpi .slt v1882 c0_i32_1287
  let c0_i32_1288 : BitVec 32 := 0#32
  let v1885 : BitVec 1 := Scalar.cmpi .slt v1881 c0_i32_1288
  let v1886 : BitVec 1 := Scalar.xori v1884 v1885
  let c0_i32_1286 : BitVec 32 := 0#32
  let v1883 : BitVec 1 := Scalar.cmpi .ne v1882 c0_i32_1286
  let v1887 : BitVec 1 := Scalar.andi v1886 v1883
  let v1888 : BitVec 32 := Scalar.addi v1882 v1881
  let v1889 : BitVec 32 := Scalar.select v1887 v1888 v1882
  let v1890 : BitVec 32 := Scalar.addi c0_i32_1289 v1889
  ![v1890.toNat]
def k0_off170 (d0 : Dev nD) : Fin 3 → Nat :=
  let c0_i32_1289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1282 : BitVec 32 := 10#32
  let v1879 : BitVec 32 := Scalar.addi v2 c10_i32_1282
  let c16_i32_1283 : BitVec 32 := 16#32
  let c0_i32_1284 : BitVec 32 := 0#32
  let v1880 : BitVec 1 := Scalar.cmpi .eq c16_i32_1283 c0_i32_1284
  let c1_i32_1285 : BitVec 32 := 1#32
  let v1881 : BitVec 32 := Scalar.select v1880 c1_i32_1285 c16_i32_1283
  let v1882 : BitVec 32 := Scalar.remsi v1879 v1881
  let c0_i32_1287 : BitVec 32 := 0#32
  let v1884 : BitVec 1 := Scalar.cmpi .slt v1882 c0_i32_1287
  let c0_i32_1288 : BitVec 32 := 0#32
  let v1885 : BitVec 1 := Scalar.cmpi .slt v1881 c0_i32_1288
  let v1886 : BitVec 1 := Scalar.xori v1884 v1885
  let c0_i32_1286 : BitVec 32 := 0#32
  let v1883 : BitVec 1 := Scalar.cmpi .ne v1882 c0_i32_1286
  let v1887 : BitVec 1 := Scalar.andi v1886 v1883
  let v1888 : BitVec 32 := Scalar.addi v1882 v1881
  let v1889 : BitVec 32 := Scalar.select v1887 v1888 v1882
  let v1890 : BitVec 32 := Scalar.addi c0_i32_1289 v1889
  let c0_i32_2483 : BitVec 32 := 0#32
  let c0_i32_2484 : BitVec 32 := 0#32
  ![v1890.toNat, 0, 0]
def k0_off171 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond172 (d0 : Dev nD) : BitVec 1 :=
  let c0_i32_1298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1291 : BitVec 32 := 11#32
  let v1894 : BitVec 32 := Scalar.addi v2 c11_i32_1291
  let c16_i32_1292 : BitVec 32 := 16#32
  let c0_i32_1293 : BitVec 32 := 0#32
  let v1895 : BitVec 1 := Scalar.cmpi .eq c16_i32_1292 c0_i32_1293
  let c1_i32_1294 : BitVec 32 := 1#32
  let v1896 : BitVec 32 := Scalar.select v1895 c1_i32_1294 c16_i32_1292
  let v1897 : BitVec 32 := Scalar.remsi v1894 v1896
  let c0_i32_1296 : BitVec 32 := 0#32
  let v1899 : BitVec 1 := Scalar.cmpi .slt v1897 c0_i32_1296
  let c0_i32_1297 : BitVec 32 := 0#32
  let v1900 : BitVec 1 := Scalar.cmpi .slt v1896 c0_i32_1297
  let v1901 : BitVec 1 := Scalar.xori v1899 v1900
  let c0_i32_1295 : BitVec 32 := 0#32
  let v1898 : BitVec 1 := Scalar.cmpi .ne v1897 c0_i32_1295
  let v1902 : BitVec 1 := Scalar.andi v1901 v1898
  let v1903 : BitVec 32 := Scalar.addi v1897 v1896
  let v1904 : BitVec 32 := Scalar.select v1902 v1903 v1897
  let v1905 : BitVec 32 := Scalar.addi c0_i32_1298 v1904
  let v3367 : BitVec 1 := Scalar.cmpi .ne v1905 v2
  let v3368 : BitVec 32 := Scalar.extui v3367
  let c0_i32_2399 : BitVec 32 := 0#32
  let v3369 : BitVec 1 := Scalar.cmpi .ne v3368 c0_i32_2399
  v3369

def k0_off172 (d0 : Dev nD) : Fin 1 → Nat :=
  let c0_i32_1298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1291 : BitVec 32 := 11#32
  let v1894 : BitVec 32 := Scalar.addi v2 c11_i32_1291
  let c16_i32_1292 : BitVec 32 := 16#32
  let c0_i32_1293 : BitVec 32 := 0#32
  let v1895 : BitVec 1 := Scalar.cmpi .eq c16_i32_1292 c0_i32_1293
  let c1_i32_1294 : BitVec 32 := 1#32
  let v1896 : BitVec 32 := Scalar.select v1895 c1_i32_1294 c16_i32_1292
  let v1897 : BitVec 32 := Scalar.remsi v1894 v1896
  let c0_i32_1296 : BitVec 32 := 0#32
  let v1899 : BitVec 1 := Scalar.cmpi .slt v1897 c0_i32_1296
  let c0_i32_1297 : BitVec 32 := 0#32
  let v1900 : BitVec 1 := Scalar.cmpi .slt v1896 c0_i32_1297
  let v1901 : BitVec 1 := Scalar.xori v1899 v1900
  let c0_i32_1295 : BitVec 32 := 0#32
  let v1898 : BitVec 1 := Scalar.cmpi .ne v1897 c0_i32_1295
  let v1902 : BitVec 1 := Scalar.andi v1901 v1898
  let v1903 : BitVec 32 := Scalar.addi v1897 v1896
  let v1904 : BitVec 32 := Scalar.select v1902 v1903 v1897
  let v1905 : BitVec 32 := Scalar.addi c0_i32_1298 v1904
  ![v1905.toNat]
def k0_off173 (d0 : Dev nD) : Fin 3 → Nat :=
  let c0_i32_1298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1291 : BitVec 32 := 11#32
  let v1894 : BitVec 32 := Scalar.addi v2 c11_i32_1291
  let c16_i32_1292 : BitVec 32 := 16#32
  let c0_i32_1293 : BitVec 32 := 0#32
  let v1895 : BitVec 1 := Scalar.cmpi .eq c16_i32_1292 c0_i32_1293
  let c1_i32_1294 : BitVec 32 := 1#32
  let v1896 : BitVec 32 := Scalar.select v1895 c1_i32_1294 c16_i32_1292
  let v1897 : BitVec 32 := Scalar.remsi v1894 v1896
  let c0_i32_1296 : BitVec 32 := 0#32
  let v1899 : BitVec 1 := Scalar.cmpi .slt v1897 c0_i32_1296
  let c0_i32_1297 : BitVec 32 := 0#32
  let v1900 : BitVec 1 := Scalar.cmpi .slt v1896 c0_i32_1297
  let v1901 : BitVec 1 := Scalar.xori v1899 v1900
  let c0_i32_1295 : BitVec 32 := 0#32
  let v1898 : BitVec 1 := Scalar.cmpi .ne v1897 c0_i32_1295
  let v1902 : BitVec 1 := Scalar.andi v1901 v1898
  let v1903 : BitVec 32 := Scalar.addi v1897 v1896
  let v1904 : BitVec 32 := Scalar.select v1902 v1903 v1897
  let v1905 : BitVec 32 := Scalar.addi c0_i32_1298 v1904
  let c0_i32_2483 : BitVec 32 := 0#32
  let c0_i32_2484 : BitVec 32 := 0#32
  ![v1905.toNat, 0, 0]
def k0_off174 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond173 (d0 : Dev nD) : BitVec 1 :=
  let c0_i32_1307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1300 : BitVec 32 := 12#32
  let v1909 : BitVec 32 := Scalar.addi v2 c12_i32_1300
  let c16_i32_1301 : BitVec 32 := 16#32
  let c0_i32_1302 : BitVec 32 := 0#32
  let v1910 : BitVec 1 := Scalar.cmpi .eq c16_i32_1301 c0_i32_1302
  let c1_i32_1303 : BitVec 32 := 1#32
  let v1911 : BitVec 32 := Scalar.select v1910 c1_i32_1303 c16_i32_1301
  let v1912 : BitVec 32 := Scalar.remsi v1909 v1911
  let c0_i32_1305 : BitVec 32 := 0#32
  let v1914 : BitVec 1 := Scalar.cmpi .slt v1912 c0_i32_1305
  let c0_i32_1306 : BitVec 32 := 0#32
  let v1915 : BitVec 1 := Scalar.cmpi .slt v1911 c0_i32_1306
  let v1916 : BitVec 1 := Scalar.xori v1914 v1915
  let c0_i32_1304 : BitVec 32 := 0#32
  let v1913 : BitVec 1 := Scalar.cmpi .ne v1912 c0_i32_1304
  let v1917 : BitVec 1 := Scalar.andi v1916 v1913
  let v1918 : BitVec 32 := Scalar.addi v1912 v1911
  let v1919 : BitVec 32 := Scalar.select v1917 v1918 v1912
  let v1920 : BitVec 32 := Scalar.addi c0_i32_1307 v1919
  let v3370 : BitVec 1 := Scalar.cmpi .ne v1920 v2
  let v3371 : BitVec 32 := Scalar.extui v3370
  let c0_i32_2400 : BitVec 32 := 0#32
  let v3372 : BitVec 1 := Scalar.cmpi .ne v3371 c0_i32_2400
  v3372

def k0_off175 (d0 : Dev nD) : Fin 1 → Nat :=
  let c0_i32_1307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1300 : BitVec 32 := 12#32
  let v1909 : BitVec 32 := Scalar.addi v2 c12_i32_1300
  let c16_i32_1301 : BitVec 32 := 16#32
  let c0_i32_1302 : BitVec 32 := 0#32
  let v1910 : BitVec 1 := Scalar.cmpi .eq c16_i32_1301 c0_i32_1302
  let c1_i32_1303 : BitVec 32 := 1#32
  let v1911 : BitVec 32 := Scalar.select v1910 c1_i32_1303 c16_i32_1301
  let v1912 : BitVec 32 := Scalar.remsi v1909 v1911
  let c0_i32_1305 : BitVec 32 := 0#32
  let v1914 : BitVec 1 := Scalar.cmpi .slt v1912 c0_i32_1305
  let c0_i32_1306 : BitVec 32 := 0#32
  let v1915 : BitVec 1 := Scalar.cmpi .slt v1911 c0_i32_1306
  let v1916 : BitVec 1 := Scalar.xori v1914 v1915
  let c0_i32_1304 : BitVec 32 := 0#32
  let v1913 : BitVec 1 := Scalar.cmpi .ne v1912 c0_i32_1304
  let v1917 : BitVec 1 := Scalar.andi v1916 v1913
  let v1918 : BitVec 32 := Scalar.addi v1912 v1911
  let v1919 : BitVec 32 := Scalar.select v1917 v1918 v1912
  let v1920 : BitVec 32 := Scalar.addi c0_i32_1307 v1919
  ![v1920.toNat]
def k0_off176 (d0 : Dev nD) : Fin 3 → Nat :=
  let c0_i32_1307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1300 : BitVec 32 := 12#32
  let v1909 : BitVec 32 := Scalar.addi v2 c12_i32_1300
  let c16_i32_1301 : BitVec 32 := 16#32
  let c0_i32_1302 : BitVec 32 := 0#32
  let v1910 : BitVec 1 := Scalar.cmpi .eq c16_i32_1301 c0_i32_1302
  let c1_i32_1303 : BitVec 32 := 1#32
  let v1911 : BitVec 32 := Scalar.select v1910 c1_i32_1303 c16_i32_1301
  let v1912 : BitVec 32 := Scalar.remsi v1909 v1911
  let c0_i32_1305 : BitVec 32 := 0#32
  let v1914 : BitVec 1 := Scalar.cmpi .slt v1912 c0_i32_1305
  let c0_i32_1306 : BitVec 32 := 0#32
  let v1915 : BitVec 1 := Scalar.cmpi .slt v1911 c0_i32_1306
  let v1916 : BitVec 1 := Scalar.xori v1914 v1915
  let c0_i32_1304 : BitVec 32 := 0#32
  let v1913 : BitVec 1 := Scalar.cmpi .ne v1912 c0_i32_1304
  let v1917 : BitVec 1 := Scalar.andi v1916 v1913
  let v1918 : BitVec 32 := Scalar.addi v1912 v1911
  let v1919 : BitVec 32 := Scalar.select v1917 v1918 v1912
  let v1920 : BitVec 32 := Scalar.addi c0_i32_1307 v1919
  let c0_i32_2483 : BitVec 32 := 0#32
  let c0_i32_2484 : BitVec 32 := 0#32
  ![v1920.toNat, 0, 0]
def k0_off177 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond174 (d0 : Dev nD) : BitVec 1 :=
  let c0_i32_1316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1309 : BitVec 32 := 13#32
  let v1924 : BitVec 32 := Scalar.addi v2 c13_i32_1309
  let c16_i32_1310 : BitVec 32 := 16#32
  let c0_i32_1311 : BitVec 32 := 0#32
  let v1925 : BitVec 1 := Scalar.cmpi .eq c16_i32_1310 c0_i32_1311
  let c1_i32_1312 : BitVec 32 := 1#32
  let v1926 : BitVec 32 := Scalar.select v1925 c1_i32_1312 c16_i32_1310
  let v1927 : BitVec 32 := Scalar.remsi v1924 v1926
  let c0_i32_1314 : BitVec 32 := 0#32
  let v1929 : BitVec 1 := Scalar.cmpi .slt v1927 c0_i32_1314
  let c0_i32_1315 : BitVec 32 := 0#32
  let v1930 : BitVec 1 := Scalar.cmpi .slt v1926 c0_i32_1315
  let v1931 : BitVec 1 := Scalar.xori v1929 v1930
  let c0_i32_1313 : BitVec 32 := 0#32
  let v1928 : BitVec 1 := Scalar.cmpi .ne v1927 c0_i32_1313
  let v1932 : BitVec 1 := Scalar.andi v1931 v1928
  let v1933 : BitVec 32 := Scalar.addi v1927 v1926
  let v1934 : BitVec 32 := Scalar.select v1932 v1933 v1927
  let v1935 : BitVec 32 := Scalar.addi c0_i32_1316 v1934
  let v3373 : BitVec 1 := Scalar.cmpi .ne v1935 v2
  let v3374 : BitVec 32 := Scalar.extui v3373
  let c0_i32_2401 : BitVec 32 := 0#32
  let v3375 : BitVec 1 := Scalar.cmpi .ne v3374 c0_i32_2401
  v3375

def k0_off178 (d0 : Dev nD) : Fin 1 → Nat :=
  let c0_i32_1316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1309 : BitVec 32 := 13#32
  let v1924 : BitVec 32 := Scalar.addi v2 c13_i32_1309
  let c16_i32_1310 : BitVec 32 := 16#32
  let c0_i32_1311 : BitVec 32 := 0#32
  let v1925 : BitVec 1 := Scalar.cmpi .eq c16_i32_1310 c0_i32_1311
  let c1_i32_1312 : BitVec 32 := 1#32
  let v1926 : BitVec 32 := Scalar.select v1925 c1_i32_1312 c16_i32_1310
  let v1927 : BitVec 32 := Scalar.remsi v1924 v1926
  let c0_i32_1314 : BitVec 32 := 0#32
  let v1929 : BitVec 1 := Scalar.cmpi .slt v1927 c0_i32_1314
  let c0_i32_1315 : BitVec 32 := 0#32
  let v1930 : BitVec 1 := Scalar.cmpi .slt v1926 c0_i32_1315
  let v1931 : BitVec 1 := Scalar.xori v1929 v1930
  let c0_i32_1313 : BitVec 32 := 0#32
  let v1928 : BitVec 1 := Scalar.cmpi .ne v1927 c0_i32_1313
  let v1932 : BitVec 1 := Scalar.andi v1931 v1928
  let v1933 : BitVec 32 := Scalar.addi v1927 v1926
  let v1934 : BitVec 32 := Scalar.select v1932 v1933 v1927
  let v1935 : BitVec 32 := Scalar.addi c0_i32_1316 v1934
  ![v1935.toNat]
def k0_off179 (d0 : Dev nD) : Fin 3 → Nat :=
  let c0_i32_1316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1309 : BitVec 32 := 13#32
  let v1924 : BitVec 32 := Scalar.addi v2 c13_i32_1309
  let c16_i32_1310 : BitVec 32 := 16#32
  let c0_i32_1311 : BitVec 32 := 0#32
  let v1925 : BitVec 1 := Scalar.cmpi .eq c16_i32_1310 c0_i32_1311
  let c1_i32_1312 : BitVec 32 := 1#32
  let v1926 : BitVec 32 := Scalar.select v1925 c1_i32_1312 c16_i32_1310
  let v1927 : BitVec 32 := Scalar.remsi v1924 v1926
  let c0_i32_1314 : BitVec 32 := 0#32
  let v1929 : BitVec 1 := Scalar.cmpi .slt v1927 c0_i32_1314
  let c0_i32_1315 : BitVec 32 := 0#32
  let v1930 : BitVec 1 := Scalar.cmpi .slt v1926 c0_i32_1315
  let v1931 : BitVec 1 := Scalar.xori v1929 v1930
  let c0_i32_1313 : BitVec 32 := 0#32
  let v1928 : BitVec 1 := Scalar.cmpi .ne v1927 c0_i32_1313
  let v1932 : BitVec 1 := Scalar.andi v1931 v1928
  let v1933 : BitVec 32 := Scalar.addi v1927 v1926
  let v1934 : BitVec 32 := Scalar.select v1932 v1933 v1927
  let v1935 : BitVec 32 := Scalar.addi c0_i32_1316 v1934
  let c0_i32_2483 : BitVec 32 := 0#32
  let c0_i32_2484 : BitVec 32 := 0#32
  ![v1935.toNat, 0, 0]
def k0_off180 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond175 (d0 : Dev nD) : BitVec 1 :=
  let c0_i32_1325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1318 : BitVec 32 := 14#32
  let v1939 : BitVec 32 := Scalar.addi v2 c14_i32_1318
  let c16_i32_1319 : BitVec 32 := 16#32
  let c0_i32_1320 : BitVec 32 := 0#32
  let v1940 : BitVec 1 := Scalar.cmpi .eq c16_i32_1319 c0_i32_1320
  let c1_i32_1321 : BitVec 32 := 1#32
  let v1941 : BitVec 32 := Scalar.select v1940 c1_i32_1321 c16_i32_1319
  let v1942 : BitVec 32 := Scalar.remsi v1939 v1941
  let c0_i32_1323 : BitVec 32 := 0#32
  let v1944 : BitVec 1 := Scalar.cmpi .slt v1942 c0_i32_1323
  let c0_i32_1324 : BitVec 32 := 0#32
  let v1945 : BitVec 1 := Scalar.cmpi .slt v1941 c0_i32_1324
  let v1946 : BitVec 1 := Scalar.xori v1944 v1945
  let c0_i32_1322 : BitVec 32 := 0#32
  let v1943 : BitVec 1 := Scalar.cmpi .ne v1942 c0_i32_1322
  let v1947 : BitVec 1 := Scalar.andi v1946 v1943
  let v1948 : BitVec 32 := Scalar.addi v1942 v1941
  let v1949 : BitVec 32 := Scalar.select v1947 v1948 v1942
  let v1950 : BitVec 32 := Scalar.addi c0_i32_1325 v1949
  let v3376 : BitVec 1 := Scalar.cmpi .ne v1950 v2
  let v3377 : BitVec 32 := Scalar.extui v3376
  let c0_i32_2402 : BitVec 32 := 0#32
  let v3378 : BitVec 1 := Scalar.cmpi .ne v3377 c0_i32_2402
  v3378

def k0_off181 (d0 : Dev nD) : Fin 1 → Nat :=
  let c0_i32_1325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1318 : BitVec 32 := 14#32
  let v1939 : BitVec 32 := Scalar.addi v2 c14_i32_1318
  let c16_i32_1319 : BitVec 32 := 16#32
  let c0_i32_1320 : BitVec 32 := 0#32
  let v1940 : BitVec 1 := Scalar.cmpi .eq c16_i32_1319 c0_i32_1320
  let c1_i32_1321 : BitVec 32 := 1#32
  let v1941 : BitVec 32 := Scalar.select v1940 c1_i32_1321 c16_i32_1319
  let v1942 : BitVec 32 := Scalar.remsi v1939 v1941
  let c0_i32_1323 : BitVec 32 := 0#32
  let v1944 : BitVec 1 := Scalar.cmpi .slt v1942 c0_i32_1323
  let c0_i32_1324 : BitVec 32 := 0#32
  let v1945 : BitVec 1 := Scalar.cmpi .slt v1941 c0_i32_1324
  let v1946 : BitVec 1 := Scalar.xori v1944 v1945
  let c0_i32_1322 : BitVec 32 := 0#32
  let v1943 : BitVec 1 := Scalar.cmpi .ne v1942 c0_i32_1322
  let v1947 : BitVec 1 := Scalar.andi v1946 v1943
  let v1948 : BitVec 32 := Scalar.addi v1942 v1941
  let v1949 : BitVec 32 := Scalar.select v1947 v1948 v1942
  let v1950 : BitVec 32 := Scalar.addi c0_i32_1325 v1949
  ![v1950.toNat]
def k0_off182 (d0 : Dev nD) : Fin 3 → Nat :=
  let c0_i32_1325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1318 : BitVec 32 := 14#32
  let v1939 : BitVec 32 := Scalar.addi v2 c14_i32_1318
  let c16_i32_1319 : BitVec 32 := 16#32
  let c0_i32_1320 : BitVec 32 := 0#32
  let v1940 : BitVec 1 := Scalar.cmpi .eq c16_i32_1319 c0_i32_1320
  let c1_i32_1321 : BitVec 32 := 1#32
  let v1941 : BitVec 32 := Scalar.select v1940 c1_i32_1321 c16_i32_1319
  let v1942 : BitVec 32 := Scalar.remsi v1939 v1941
  let c0_i32_1323 : BitVec 32 := 0#32
  let v1944 : BitVec 1 := Scalar.cmpi .slt v1942 c0_i32_1323
  let c0_i32_1324 : BitVec 32 := 0#32
  let v1945 : BitVec 1 := Scalar.cmpi .slt v1941 c0_i32_1324
  let v1946 : BitVec 1 := Scalar.xori v1944 v1945
  let c0_i32_1322 : BitVec 32 := 0#32
  let v1943 : BitVec 1 := Scalar.cmpi .ne v1942 c0_i32_1322
  let v1947 : BitVec 1 := Scalar.andi v1946 v1943
  let v1948 : BitVec 32 := Scalar.addi v1942 v1941
  let v1949 : BitVec 32 := Scalar.select v1947 v1948 v1942
  let v1950 : BitVec 32 := Scalar.addi c0_i32_1325 v1949
  let c0_i32_2483 : BitVec 32 := 0#32
  let c0_i32_2484 : BitVec 32 := 0#32
  ![v1950.toNat, 0, 0]
def k0_off183 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond176 (d0 : Dev nD) : BitVec 1 :=
  let c0_i32_1334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1327 : BitVec 32 := 15#32
  let v1954 : BitVec 32 := Scalar.addi v2 c15_i32_1327
  let c16_i32_1328 : BitVec 32 := 16#32
  let c0_i32_1329 : BitVec 32 := 0#32
  let v1955 : BitVec 1 := Scalar.cmpi .eq c16_i32_1328 c0_i32_1329
  let c1_i32_1330 : BitVec 32 := 1#32
  let v1956 : BitVec 32 := Scalar.select v1955 c1_i32_1330 c16_i32_1328
  let v1957 : BitVec 32 := Scalar.remsi v1954 v1956
  let c0_i32_1332 : BitVec 32 := 0#32
  let v1959 : BitVec 1 := Scalar.cmpi .slt v1957 c0_i32_1332
  let c0_i32_1333 : BitVec 32 := 0#32
  let v1960 : BitVec 1 := Scalar.cmpi .slt v1956 c0_i32_1333
  let v1961 : BitVec 1 := Scalar.xori v1959 v1960
  let c0_i32_1331 : BitVec 32 := 0#32
  let v1958 : BitVec 1 := Scalar.cmpi .ne v1957 c0_i32_1331
  let v1962 : BitVec 1 := Scalar.andi v1961 v1958
  let v1963 : BitVec 32 := Scalar.addi v1957 v1956
  let v1964 : BitVec 32 := Scalar.select v1962 v1963 v1957
  let v1965 : BitVec 32 := Scalar.addi c0_i32_1334 v1964
  let v3379 : BitVec 1 := Scalar.cmpi .ne v1965 v2
  let v3380 : BitVec 32 := Scalar.extui v3379
  let c0_i32_2403 : BitVec 32 := 0#32
  let v3381 : BitVec 1 := Scalar.cmpi .ne v3380 c0_i32_2403
  v3381

def k0_off184 (d0 : Dev nD) : Fin 1 → Nat :=
  let c0_i32_1334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1327 : BitVec 32 := 15#32
  let v1954 : BitVec 32 := Scalar.addi v2 c15_i32_1327
  let c16_i32_1328 : BitVec 32 := 16#32
  let c0_i32_1329 : BitVec 32 := 0#32
  let v1955 : BitVec 1 := Scalar.cmpi .eq c16_i32_1328 c0_i32_1329
  let c1_i32_1330 : BitVec 32 := 1#32
  let v1956 : BitVec 32 := Scalar.select v1955 c1_i32_1330 c16_i32_1328
  let v1957 : BitVec 32 := Scalar.remsi v1954 v1956
  let c0_i32_1332 : BitVec 32 := 0#32
  let v1959 : BitVec 1 := Scalar.cmpi .slt v1957 c0_i32_1332
  let c0_i32_1333 : BitVec 32 := 0#32
  let v1960 : BitVec 1 := Scalar.cmpi .slt v1956 c0_i32_1333
  let v1961 : BitVec 1 := Scalar.xori v1959 v1960
  let c0_i32_1331 : BitVec 32 := 0#32
  let v1958 : BitVec 1 := Scalar.cmpi .ne v1957 c0_i32_1331
  let v1962 : BitVec 1 := Scalar.andi v1961 v1958
  let v1963 : BitVec 32 := Scalar.addi v1957 v1956
  let v1964 : BitVec 32 := Scalar.select v1962 v1963 v1957
  let v1965 : BitVec 32 := Scalar.addi c0_i32_1334 v1964
  ![v1965.toNat]
def k0_off185 (d0 : Dev nD) : Fin 3 → Nat :=
  let c0_i32_1334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1327 : BitVec 32 := 15#32
  let v1954 : BitVec 32 := Scalar.addi v2 c15_i32_1327
  let c16_i32_1328 : BitVec 32 := 16#32
  let c0_i32_1329 : BitVec 32 := 0#32
  let v1955 : BitVec 1 := Scalar.cmpi .eq c16_i32_1328 c0_i32_1329
  let c1_i32_1330 : BitVec 32 := 1#32
  let v1956 : BitVec 32 := Scalar.select v1955 c1_i32_1330 c16_i32_1328
  let v1957 : BitVec 32 := Scalar.remsi v1954 v1956
  let c0_i32_1332 : BitVec 32 := 0#32
  let v1959 : BitVec 1 := Scalar.cmpi .slt v1957 c0_i32_1332
  let c0_i32_1333 : BitVec 32 := 0#32
  let v1960 : BitVec 1 := Scalar.cmpi .slt v1956 c0_i32_1333
  let v1961 : BitVec 1 := Scalar.xori v1959 v1960
  let c0_i32_1331 : BitVec 32 := 0#32
  let v1958 : BitVec 1 := Scalar.cmpi .ne v1957 c0_i32_1331
  let v1962 : BitVec 1 := Scalar.andi v1961 v1958
  let v1963 : BitVec 32 := Scalar.addi v1957 v1956
  let v1964 : BitVec 32 := Scalar.select v1962 v1963 v1957
  let v1965 : BitVec 32 := Scalar.addi c0_i32_1334 v1964
  let c0_i32_2483 : BitVec 32 := 0#32
  let c0_i32_2484 : BitVec 32 := 0#32
  ![v1965.toNat, 0, 0]
def k0_off186 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond177 (d0 : Dev nD) : BitVec 1 :=
  let c16_i32_1440 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1433 : BitVec 32 := 0#32
  let v2115 : BitVec 32 := Scalar.addi v2 c0_i32_1433
  let c16_i32_1434 : BitVec 32 := 16#32
  let c0_i32_1435 : BitVec 32 := 0#32
  let v2116 : BitVec 1 := Scalar.cmpi .eq c16_i32_1434 c0_i32_1435
  let c1_i32_1436 : BitVec 32 := 1#32
  let v2117 : BitVec 32 := Scalar.select v2116 c1_i32_1436 c16_i32_1434
  let v2118 : BitVec 32 := Scalar.remsi v2115 v2117
  let c0_i32_1438 : BitVec 32 := 0#32
  let v2120 : BitVec 1 := Scalar.cmpi .slt v2118 c0_i32_1438
  let c0_i32_1439 : BitVec 32 := 0#32
  let v2121 : BitVec 1 := Scalar.cmpi .slt v2117 c0_i32_1439
  let v2122 : BitVec 1 := Scalar.xori v2120 v2121
  let c0_i32_1437 : BitVec 32 := 0#32
  let v2119 : BitVec 1 := Scalar.cmpi .ne v2118 c0_i32_1437
  let v2123 : BitVec 1 := Scalar.andi v2122 v2119
  let v2124 : BitVec 32 := Scalar.addi v2118 v2117
  let v2125 : BitVec 32 := Scalar.select v2123 v2124 v2118
  let v2126 : BitVec 32 := Scalar.addi c16_i32_1440 v2125
  let v3382 : BitVec 1 := Scalar.cmpi .ne v2126 v2
  let v3383 : BitVec 32 := Scalar.extui v3382
  let c0_i32_2404 : BitVec 32 := 0#32
  let v3384 : BitVec 1 := Scalar.cmpi .ne v3383 c0_i32_2404
  v3384

def k0_off187 (d0 : Dev nD) : Fin 1 → Nat :=
  let c16_i32_1440 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1433 : BitVec 32 := 0#32
  let v2115 : BitVec 32 := Scalar.addi v2 c0_i32_1433
  let c16_i32_1434 : BitVec 32 := 16#32
  let c0_i32_1435 : BitVec 32 := 0#32
  let v2116 : BitVec 1 := Scalar.cmpi .eq c16_i32_1434 c0_i32_1435
  let c1_i32_1436 : BitVec 32 := 1#32
  let v2117 : BitVec 32 := Scalar.select v2116 c1_i32_1436 c16_i32_1434
  let v2118 : BitVec 32 := Scalar.remsi v2115 v2117
  let c0_i32_1438 : BitVec 32 := 0#32
  let v2120 : BitVec 1 := Scalar.cmpi .slt v2118 c0_i32_1438
  let c0_i32_1439 : BitVec 32 := 0#32
  let v2121 : BitVec 1 := Scalar.cmpi .slt v2117 c0_i32_1439
  let v2122 : BitVec 1 := Scalar.xori v2120 v2121
  let c0_i32_1437 : BitVec 32 := 0#32
  let v2119 : BitVec 1 := Scalar.cmpi .ne v2118 c0_i32_1437
  let v2123 : BitVec 1 := Scalar.andi v2122 v2119
  let v2124 : BitVec 32 := Scalar.addi v2118 v2117
  let v2125 : BitVec 32 := Scalar.select v2123 v2124 v2118
  let v2126 : BitVec 32 := Scalar.addi c16_i32_1440 v2125
  ![v2126.toNat]
def k0_off188 (d0 : Dev nD) : Fin 3 → Nat :=
  let c16_i32_1440 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1433 : BitVec 32 := 0#32
  let v2115 : BitVec 32 := Scalar.addi v2 c0_i32_1433
  let c16_i32_1434 : BitVec 32 := 16#32
  let c0_i32_1435 : BitVec 32 := 0#32
  let v2116 : BitVec 1 := Scalar.cmpi .eq c16_i32_1434 c0_i32_1435
  let c1_i32_1436 : BitVec 32 := 1#32
  let v2117 : BitVec 32 := Scalar.select v2116 c1_i32_1436 c16_i32_1434
  let v2118 : BitVec 32 := Scalar.remsi v2115 v2117
  let c0_i32_1438 : BitVec 32 := 0#32
  let v2120 : BitVec 1 := Scalar.cmpi .slt v2118 c0_i32_1438
  let c0_i32_1439 : BitVec 32 := 0#32
  let v2121 : BitVec 1 := Scalar.cmpi .slt v2117 c0_i32_1439
  let v2122 : BitVec 1 := Scalar.xori v2120 v2121
  let c0_i32_1437 : BitVec 32 := 0#32
  let v2119 : BitVec 1 := Scalar.cmpi .ne v2118 c0_i32_1437
  let v2123 : BitVec 1 := Scalar.andi v2122 v2119
  let v2124 : BitVec 32 := Scalar.addi v2118 v2117
  let v2125 : BitVec 32 := Scalar.select v2123 v2124 v2118
  let v2126 : BitVec 32 := Scalar.addi c16_i32_1440 v2125
  let c0_i32_2483 : BitVec 32 := 0#32
  let c0_i32_2484 : BitVec 32 := 0#32
  ![v2126.toNat, 0, 0]
def k0_off189 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond178 (d0 : Dev nD) : BitVec 1 :=
  let c16_i32_1449 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1442 : BitVec 32 := 1#32
  let v2130 : BitVec 32 := Scalar.addi v2 c1_i32_1442
  let c16_i32_1443 : BitVec 32 := 16#32
  let c0_i32_1444 : BitVec 32 := 0#32
  let v2131 : BitVec 1 := Scalar.cmpi .eq c16_i32_1443 c0_i32_1444
  let c1_i32_1445 : BitVec 32 := 1#32
  let v2132 : BitVec 32 := Scalar.select v2131 c1_i32_1445 c16_i32_1443
  let v2133 : BitVec 32 := Scalar.remsi v2130 v2132
  let c0_i32_1447 : BitVec 32 := 0#32
  let v2135 : BitVec 1 := Scalar.cmpi .slt v2133 c0_i32_1447
  let c0_i32_1448 : BitVec 32 := 0#32
  let v2136 : BitVec 1 := Scalar.cmpi .slt v2132 c0_i32_1448
  let v2137 : BitVec 1 := Scalar.xori v2135 v2136
  let c0_i32_1446 : BitVec 32 := 0#32
  let v2134 : BitVec 1 := Scalar.cmpi .ne v2133 c0_i32_1446
  let v2138 : BitVec 1 := Scalar.andi v2137 v2134
  let v2139 : BitVec 32 := Scalar.addi v2133 v2132
  let v2140 : BitVec 32 := Scalar.select v2138 v2139 v2133
  let v2141 : BitVec 32 := Scalar.addi c16_i32_1449 v2140
  let v3385 : BitVec 1 := Scalar.cmpi .ne v2141 v2
  let v3386 : BitVec 32 := Scalar.extui v3385
  let c0_i32_2405 : BitVec 32 := 0#32
  let v3387 : BitVec 1 := Scalar.cmpi .ne v3386 c0_i32_2405
  v3387

def k0_off190 (d0 : Dev nD) : Fin 1 → Nat :=
  let c16_i32_1449 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1442 : BitVec 32 := 1#32
  let v2130 : BitVec 32 := Scalar.addi v2 c1_i32_1442
  let c16_i32_1443 : BitVec 32 := 16#32
  let c0_i32_1444 : BitVec 32 := 0#32
  let v2131 : BitVec 1 := Scalar.cmpi .eq c16_i32_1443 c0_i32_1444
  let c1_i32_1445 : BitVec 32 := 1#32
  let v2132 : BitVec 32 := Scalar.select v2131 c1_i32_1445 c16_i32_1443
  let v2133 : BitVec 32 := Scalar.remsi v2130 v2132
  let c0_i32_1447 : BitVec 32 := 0#32
  let v2135 : BitVec 1 := Scalar.cmpi .slt v2133 c0_i32_1447
  let c0_i32_1448 : BitVec 32 := 0#32
  let v2136 : BitVec 1 := Scalar.cmpi .slt v2132 c0_i32_1448
  let v2137 : BitVec 1 := Scalar.xori v2135 v2136
  let c0_i32_1446 : BitVec 32 := 0#32
  let v2134 : BitVec 1 := Scalar.cmpi .ne v2133 c0_i32_1446
  let v2138 : BitVec 1 := Scalar.andi v2137 v2134
  let v2139 : BitVec 32 := Scalar.addi v2133 v2132
  let v2140 : BitVec 32 := Scalar.select v2138 v2139 v2133
  let v2141 : BitVec 32 := Scalar.addi c16_i32_1449 v2140
  ![v2141.toNat]
def k0_off191 (d0 : Dev nD) : Fin 3 → Nat :=
  let c16_i32_1449 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1442 : BitVec 32 := 1#32
  let v2130 : BitVec 32 := Scalar.addi v2 c1_i32_1442
  let c16_i32_1443 : BitVec 32 := 16#32
  let c0_i32_1444 : BitVec 32 := 0#32
  let v2131 : BitVec 1 := Scalar.cmpi .eq c16_i32_1443 c0_i32_1444
  let c1_i32_1445 : BitVec 32 := 1#32
  let v2132 : BitVec 32 := Scalar.select v2131 c1_i32_1445 c16_i32_1443
  let v2133 : BitVec 32 := Scalar.remsi v2130 v2132
  let c0_i32_1447 : BitVec 32 := 0#32
  let v2135 : BitVec 1 := Scalar.cmpi .slt v2133 c0_i32_1447
  let c0_i32_1448 : BitVec 32 := 0#32
  let v2136 : BitVec 1 := Scalar.cmpi .slt v2132 c0_i32_1448
  let v2137 : BitVec 1 := Scalar.xori v2135 v2136
  let c0_i32_1446 : BitVec 32 := 0#32
  let v2134 : BitVec 1 := Scalar.cmpi .ne v2133 c0_i32_1446
  let v2138 : BitVec 1 := Scalar.andi v2137 v2134
  let v2139 : BitVec 32 := Scalar.addi v2133 v2132
  let v2140 : BitVec 32 := Scalar.select v2138 v2139 v2133
  let v2141 : BitVec 32 := Scalar.addi c16_i32_1449 v2140
  let c0_i32_2483 : BitVec 32 := 0#32
  let c0_i32_2484 : BitVec 32 := 0#32
  ![v2141.toNat, 0, 0]
def k0_off192 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond179 (d0 : Dev nD) : BitVec 1 :=
  let c16_i32_1458 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1451 : BitVec 32 := 2#32
  let v2145 : BitVec 32 := Scalar.addi v2 c2_i32_1451
  let c16_i32_1452 : BitVec 32 := 16#32
  let c0_i32_1453 : BitVec 32 := 0#32
  let v2146 : BitVec 1 := Scalar.cmpi .eq c16_i32_1452 c0_i32_1453
  let c1_i32_1454 : BitVec 32 := 1#32
  let v2147 : BitVec 32 := Scalar.select v2146 c1_i32_1454 c16_i32_1452
  let v2148 : BitVec 32 := Scalar.remsi v2145 v2147
  let c0_i32_1456 : BitVec 32 := 0#32
  let v2150 : BitVec 1 := Scalar.cmpi .slt v2148 c0_i32_1456
  let c0_i32_1457 : BitVec 32 := 0#32
  let v2151 : BitVec 1 := Scalar.cmpi .slt v2147 c0_i32_1457
  let v2152 : BitVec 1 := Scalar.xori v2150 v2151
  let c0_i32_1455 : BitVec 32 := 0#32
  let v2149 : BitVec 1 := Scalar.cmpi .ne v2148 c0_i32_1455
  let v2153 : BitVec 1 := Scalar.andi v2152 v2149
  let v2154 : BitVec 32 := Scalar.addi v2148 v2147
  let v2155 : BitVec 32 := Scalar.select v2153 v2154 v2148
  let v2156 : BitVec 32 := Scalar.addi c16_i32_1458 v2155
  let v3388 : BitVec 1 := Scalar.cmpi .ne v2156 v2
  let v3389 : BitVec 32 := Scalar.extui v3388
  let c0_i32_2406 : BitVec 32 := 0#32
  let v3390 : BitVec 1 := Scalar.cmpi .ne v3389 c0_i32_2406
  v3390

def k0_off193 (d0 : Dev nD) : Fin 1 → Nat :=
  let c16_i32_1458 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1451 : BitVec 32 := 2#32
  let v2145 : BitVec 32 := Scalar.addi v2 c2_i32_1451
  let c16_i32_1452 : BitVec 32 := 16#32
  let c0_i32_1453 : BitVec 32 := 0#32
  let v2146 : BitVec 1 := Scalar.cmpi .eq c16_i32_1452 c0_i32_1453
  let c1_i32_1454 : BitVec 32 := 1#32
  let v2147 : BitVec 32 := Scalar.select v2146 c1_i32_1454 c16_i32_1452
  let v2148 : BitVec 32 := Scalar.remsi v2145 v2147
  let c0_i32_1456 : BitVec 32 := 0#32
  let v2150 : BitVec 1 := Scalar.cmpi .slt v2148 c0_i32_1456
  let c0_i32_1457 : BitVec 32 := 0#32
  let v2151 : BitVec 1 := Scalar.cmpi .slt v2147 c0_i32_1457
  let v2152 : BitVec 1 := Scalar.xori v2150 v2151
  let c0_i32_1455 : BitVec 32 := 0#32
  let v2149 : BitVec 1 := Scalar.cmpi .ne v2148 c0_i32_1455
  let v2153 : BitVec 1 := Scalar.andi v2152 v2149
  let v2154 : BitVec 32 := Scalar.addi v2148 v2147
  let v2155 : BitVec 32 := Scalar.select v2153 v2154 v2148
  let v2156 : BitVec 32 := Scalar.addi c16_i32_1458 v2155
  ![v2156.toNat]
def k0_off194 (d0 : Dev nD) : Fin 3 → Nat :=
  let c16_i32_1458 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1451 : BitVec 32 := 2#32
  let v2145 : BitVec 32 := Scalar.addi v2 c2_i32_1451
  let c16_i32_1452 : BitVec 32 := 16#32
  let c0_i32_1453 : BitVec 32 := 0#32
  let v2146 : BitVec 1 := Scalar.cmpi .eq c16_i32_1452 c0_i32_1453
  let c1_i32_1454 : BitVec 32 := 1#32
  let v2147 : BitVec 32 := Scalar.select v2146 c1_i32_1454 c16_i32_1452
  let v2148 : BitVec 32 := Scalar.remsi v2145 v2147
  let c0_i32_1456 : BitVec 32 := 0#32
  let v2150 : BitVec 1 := Scalar.cmpi .slt v2148 c0_i32_1456
  let c0_i32_1457 : BitVec 32 := 0#32
  let v2151 : BitVec 1 := Scalar.cmpi .slt v2147 c0_i32_1457
  let v2152 : BitVec 1 := Scalar.xori v2150 v2151
  let c0_i32_1455 : BitVec 32 := 0#32
  let v2149 : BitVec 1 := Scalar.cmpi .ne v2148 c0_i32_1455
  let v2153 : BitVec 1 := Scalar.andi v2152 v2149
  let v2154 : BitVec 32 := Scalar.addi v2148 v2147
  let v2155 : BitVec 32 := Scalar.select v2153 v2154 v2148
  let v2156 : BitVec 32 := Scalar.addi c16_i32_1458 v2155
  let c0_i32_2483 : BitVec 32 := 0#32
  let c0_i32_2484 : BitVec 32 := 0#32
  ![v2156.toNat, 0, 0]
def k0_off195 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond180 (d0 : Dev nD) : BitVec 1 :=
  let c16_i32_1467 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1460 : BitVec 32 := 3#32
  let v2160 : BitVec 32 := Scalar.addi v2 c3_i32_1460
  let c16_i32_1461 : BitVec 32 := 16#32
  let c0_i32_1462 : BitVec 32 := 0#32
  let v2161 : BitVec 1 := Scalar.cmpi .eq c16_i32_1461 c0_i32_1462
  let c1_i32_1463 : BitVec 32 := 1#32
  let v2162 : BitVec 32 := Scalar.select v2161 c1_i32_1463 c16_i32_1461
  let v2163 : BitVec 32 := Scalar.remsi v2160 v2162
  let c0_i32_1465 : BitVec 32 := 0#32
  let v2165 : BitVec 1 := Scalar.cmpi .slt v2163 c0_i32_1465
  let c0_i32_1466 : BitVec 32 := 0#32
  let v2166 : BitVec 1 := Scalar.cmpi .slt v2162 c0_i32_1466
  let v2167 : BitVec 1 := Scalar.xori v2165 v2166
  let c0_i32_1464 : BitVec 32 := 0#32
  let v2164 : BitVec 1 := Scalar.cmpi .ne v2163 c0_i32_1464
  let v2168 : BitVec 1 := Scalar.andi v2167 v2164
  let v2169 : BitVec 32 := Scalar.addi v2163 v2162
  let v2170 : BitVec 32 := Scalar.select v2168 v2169 v2163
  let v2171 : BitVec 32 := Scalar.addi c16_i32_1467 v2170
  let v3391 : BitVec 1 := Scalar.cmpi .ne v2171 v2
  let v3392 : BitVec 32 := Scalar.extui v3391
  let c0_i32_2407 : BitVec 32 := 0#32
  let v3393 : BitVec 1 := Scalar.cmpi .ne v3392 c0_i32_2407
  v3393

def k0_off196 (d0 : Dev nD) : Fin 1 → Nat :=
  let c16_i32_1467 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1460 : BitVec 32 := 3#32
  let v2160 : BitVec 32 := Scalar.addi v2 c3_i32_1460
  let c16_i32_1461 : BitVec 32 := 16#32
  let c0_i32_1462 : BitVec 32 := 0#32
  let v2161 : BitVec 1 := Scalar.cmpi .eq c16_i32_1461 c0_i32_1462
  let c1_i32_1463 : BitVec 32 := 1#32
  let v2162 : BitVec 32 := Scalar.select v2161 c1_i32_1463 c16_i32_1461
  let v2163 : BitVec 32 := Scalar.remsi v2160 v2162
  let c0_i32_1465 : BitVec 32 := 0#32
  let v2165 : BitVec 1 := Scalar.cmpi .slt v2163 c0_i32_1465
  let c0_i32_1466 : BitVec 32 := 0#32
  let v2166 : BitVec 1 := Scalar.cmpi .slt v2162 c0_i32_1466
  let v2167 : BitVec 1 := Scalar.xori v2165 v2166
  let c0_i32_1464 : BitVec 32 := 0#32
  let v2164 : BitVec 1 := Scalar.cmpi .ne v2163 c0_i32_1464
  let v2168 : BitVec 1 := Scalar.andi v2167 v2164
  let v2169 : BitVec 32 := Scalar.addi v2163 v2162
  let v2170 : BitVec 32 := Scalar.select v2168 v2169 v2163
  let v2171 : BitVec 32 := Scalar.addi c16_i32_1467 v2170
  ![v2171.toNat]
def k0_off197 (d0 : Dev nD) : Fin 3 → Nat :=
  let c16_i32_1467 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1460 : BitVec 32 := 3#32
  let v2160 : BitVec 32 := Scalar.addi v2 c3_i32_1460
  let c16_i32_1461 : BitVec 32 := 16#32
  let c0_i32_1462 : BitVec 32 := 0#32
  let v2161 : BitVec 1 := Scalar.cmpi .eq c16_i32_1461 c0_i32_1462
  let c1_i32_1463 : BitVec 32 := 1#32
  let v2162 : BitVec 32 := Scalar.select v2161 c1_i32_1463 c16_i32_1461
  let v2163 : BitVec 32 := Scalar.remsi v2160 v2162
  let c0_i32_1465 : BitVec 32 := 0#32
  let v2165 : BitVec 1 := Scalar.cmpi .slt v2163 c0_i32_1465
  let c0_i32_1466 : BitVec 32 := 0#32
  let v2166 : BitVec 1 := Scalar.cmpi .slt v2162 c0_i32_1466
  let v2167 : BitVec 1 := Scalar.xori v2165 v2166
  let c0_i32_1464 : BitVec 32 := 0#32
  let v2164 : BitVec 1 := Scalar.cmpi .ne v2163 c0_i32_1464
  let v2168 : BitVec 1 := Scalar.andi v2167 v2164
  let v2169 : BitVec 32 := Scalar.addi v2163 v2162
  let v2170 : BitVec 32 := Scalar.select v2168 v2169 v2163
  let v2171 : BitVec 32 := Scalar.addi c16_i32_1467 v2170
  let c0_i32_2483 : BitVec 32 := 0#32
  let c0_i32_2484 : BitVec 32 := 0#32
  ![v2171.toNat, 0, 0]
def k0_off198 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond181 (d0 : Dev nD) : BitVec 1 :=
  let c16_i32_1476 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1469 : BitVec 32 := 4#32
  let v2175 : BitVec 32 := Scalar.addi v2 c4_i32_1469
  let c16_i32_1470 : BitVec 32 := 16#32
  let c0_i32_1471 : BitVec 32 := 0#32
  let v2176 : BitVec 1 := Scalar.cmpi .eq c16_i32_1470 c0_i32_1471
  let c1_i32_1472 : BitVec 32 := 1#32
  let v2177 : BitVec 32 := Scalar.select v2176 c1_i32_1472 c16_i32_1470
  let v2178 : BitVec 32 := Scalar.remsi v2175 v2177
  let c0_i32_1474 : BitVec 32 := 0#32
  let v2180 : BitVec 1 := Scalar.cmpi .slt v2178 c0_i32_1474
  let c0_i32_1475 : BitVec 32 := 0#32
  let v2181 : BitVec 1 := Scalar.cmpi .slt v2177 c0_i32_1475
  let v2182 : BitVec 1 := Scalar.xori v2180 v2181
  let c0_i32_1473 : BitVec 32 := 0#32
  let v2179 : BitVec 1 := Scalar.cmpi .ne v2178 c0_i32_1473
  let v2183 : BitVec 1 := Scalar.andi v2182 v2179
  let v2184 : BitVec 32 := Scalar.addi v2178 v2177
  let v2185 : BitVec 32 := Scalar.select v2183 v2184 v2178
  let v2186 : BitVec 32 := Scalar.addi c16_i32_1476 v2185
  let v3394 : BitVec 1 := Scalar.cmpi .ne v2186 v2
  let v3395 : BitVec 32 := Scalar.extui v3394
  let c0_i32_2408 : BitVec 32 := 0#32
  let v3396 : BitVec 1 := Scalar.cmpi .ne v3395 c0_i32_2408
  v3396

def k0_off199 (d0 : Dev nD) : Fin 1 → Nat :=
  let c16_i32_1476 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1469 : BitVec 32 := 4#32
  let v2175 : BitVec 32 := Scalar.addi v2 c4_i32_1469
  let c16_i32_1470 : BitVec 32 := 16#32
  let c0_i32_1471 : BitVec 32 := 0#32
  let v2176 : BitVec 1 := Scalar.cmpi .eq c16_i32_1470 c0_i32_1471
  let c1_i32_1472 : BitVec 32 := 1#32
  let v2177 : BitVec 32 := Scalar.select v2176 c1_i32_1472 c16_i32_1470
  let v2178 : BitVec 32 := Scalar.remsi v2175 v2177
  let c0_i32_1474 : BitVec 32 := 0#32
  let v2180 : BitVec 1 := Scalar.cmpi .slt v2178 c0_i32_1474
  let c0_i32_1475 : BitVec 32 := 0#32
  let v2181 : BitVec 1 := Scalar.cmpi .slt v2177 c0_i32_1475
  let v2182 : BitVec 1 := Scalar.xori v2180 v2181
  let c0_i32_1473 : BitVec 32 := 0#32
  let v2179 : BitVec 1 := Scalar.cmpi .ne v2178 c0_i32_1473
  let v2183 : BitVec 1 := Scalar.andi v2182 v2179
  let v2184 : BitVec 32 := Scalar.addi v2178 v2177
  let v2185 : BitVec 32 := Scalar.select v2183 v2184 v2178
  let v2186 : BitVec 32 := Scalar.addi c16_i32_1476 v2185
  ![v2186.toNat]
def k0_off200 (d0 : Dev nD) : Fin 3 → Nat :=
  let c16_i32_1476 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1469 : BitVec 32 := 4#32
  let v2175 : BitVec 32 := Scalar.addi v2 c4_i32_1469
  let c16_i32_1470 : BitVec 32 := 16#32
  let c0_i32_1471 : BitVec 32 := 0#32
  let v2176 : BitVec 1 := Scalar.cmpi .eq c16_i32_1470 c0_i32_1471
  let c1_i32_1472 : BitVec 32 := 1#32
  let v2177 : BitVec 32 := Scalar.select v2176 c1_i32_1472 c16_i32_1470
  let v2178 : BitVec 32 := Scalar.remsi v2175 v2177
  let c0_i32_1474 : BitVec 32 := 0#32
  let v2180 : BitVec 1 := Scalar.cmpi .slt v2178 c0_i32_1474
  let c0_i32_1475 : BitVec 32 := 0#32
  let v2181 : BitVec 1 := Scalar.cmpi .slt v2177 c0_i32_1475
  let v2182 : BitVec 1 := Scalar.xori v2180 v2181
  let c0_i32_1473 : BitVec 32 := 0#32
  let v2179 : BitVec 1 := Scalar.cmpi .ne v2178 c0_i32_1473
  let v2183 : BitVec 1 := Scalar.andi v2182 v2179
  let v2184 : BitVec 32 := Scalar.addi v2178 v2177
  let v2185 : BitVec 32 := Scalar.select v2183 v2184 v2178
  let v2186 : BitVec 32 := Scalar.addi c16_i32_1476 v2185
  let c0_i32_2483 : BitVec 32 := 0#32
  let c0_i32_2484 : BitVec 32 := 0#32
  ![v2186.toNat, 0, 0]
def k0_off201 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond182 (d0 : Dev nD) : BitVec 1 :=
  let c16_i32_1485 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1478 : BitVec 32 := 5#32
  let v2190 : BitVec 32 := Scalar.addi v2 c5_i32_1478
  let c16_i32_1479 : BitVec 32 := 16#32
  let c0_i32_1480 : BitVec 32 := 0#32
  let v2191 : BitVec 1 := Scalar.cmpi .eq c16_i32_1479 c0_i32_1480
  let c1_i32_1481 : BitVec 32 := 1#32
  let v2192 : BitVec 32 := Scalar.select v2191 c1_i32_1481 c16_i32_1479
  let v2193 : BitVec 32 := Scalar.remsi v2190 v2192
  let c0_i32_1483 : BitVec 32 := 0#32
  let v2195 : BitVec 1 := Scalar.cmpi .slt v2193 c0_i32_1483
  let c0_i32_1484 : BitVec 32 := 0#32
  let v2196 : BitVec 1 := Scalar.cmpi .slt v2192 c0_i32_1484
  let v2197 : BitVec 1 := Scalar.xori v2195 v2196
  let c0_i32_1482 : BitVec 32 := 0#32
  let v2194 : BitVec 1 := Scalar.cmpi .ne v2193 c0_i32_1482
  let v2198 : BitVec 1 := Scalar.andi v2197 v2194
  let v2199 : BitVec 32 := Scalar.addi v2193 v2192
  let v2200 : BitVec 32 := Scalar.select v2198 v2199 v2193
  let v2201 : BitVec 32 := Scalar.addi c16_i32_1485 v2200
  let v3397 : BitVec 1 := Scalar.cmpi .ne v2201 v2
  let v3398 : BitVec 32 := Scalar.extui v3397
  let c0_i32_2409 : BitVec 32 := 0#32
  let v3399 : BitVec 1 := Scalar.cmpi .ne v3398 c0_i32_2409
  v3399

def k0_off202 (d0 : Dev nD) : Fin 1 → Nat :=
  let c16_i32_1485 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1478 : BitVec 32 := 5#32
  let v2190 : BitVec 32 := Scalar.addi v2 c5_i32_1478
  let c16_i32_1479 : BitVec 32 := 16#32
  let c0_i32_1480 : BitVec 32 := 0#32
  let v2191 : BitVec 1 := Scalar.cmpi .eq c16_i32_1479 c0_i32_1480
  let c1_i32_1481 : BitVec 32 := 1#32
  let v2192 : BitVec 32 := Scalar.select v2191 c1_i32_1481 c16_i32_1479
  let v2193 : BitVec 32 := Scalar.remsi v2190 v2192
  let c0_i32_1483 : BitVec 32 := 0#32
  let v2195 : BitVec 1 := Scalar.cmpi .slt v2193 c0_i32_1483
  let c0_i32_1484 : BitVec 32 := 0#32
  let v2196 : BitVec 1 := Scalar.cmpi .slt v2192 c0_i32_1484
  let v2197 : BitVec 1 := Scalar.xori v2195 v2196
  let c0_i32_1482 : BitVec 32 := 0#32
  let v2194 : BitVec 1 := Scalar.cmpi .ne v2193 c0_i32_1482
  let v2198 : BitVec 1 := Scalar.andi v2197 v2194
  let v2199 : BitVec 32 := Scalar.addi v2193 v2192
  let v2200 : BitVec 32 := Scalar.select v2198 v2199 v2193
  let v2201 : BitVec 32 := Scalar.addi c16_i32_1485 v2200
  ![v2201.toNat]
def k0_off203 (d0 : Dev nD) : Fin 3 → Nat :=
  let c16_i32_1485 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1478 : BitVec 32 := 5#32
  let v2190 : BitVec 32 := Scalar.addi v2 c5_i32_1478
  let c16_i32_1479 : BitVec 32 := 16#32
  let c0_i32_1480 : BitVec 32 := 0#32
  let v2191 : BitVec 1 := Scalar.cmpi .eq c16_i32_1479 c0_i32_1480
  let c1_i32_1481 : BitVec 32 := 1#32
  let v2192 : BitVec 32 := Scalar.select v2191 c1_i32_1481 c16_i32_1479
  let v2193 : BitVec 32 := Scalar.remsi v2190 v2192
  let c0_i32_1483 : BitVec 32 := 0#32
  let v2195 : BitVec 1 := Scalar.cmpi .slt v2193 c0_i32_1483
  let c0_i32_1484 : BitVec 32 := 0#32
  let v2196 : BitVec 1 := Scalar.cmpi .slt v2192 c0_i32_1484
  let v2197 : BitVec 1 := Scalar.xori v2195 v2196
  let c0_i32_1482 : BitVec 32 := 0#32
  let v2194 : BitVec 1 := Scalar.cmpi .ne v2193 c0_i32_1482
  let v2198 : BitVec 1 := Scalar.andi v2197 v2194
  let v2199 : BitVec 32 := Scalar.addi v2193 v2192
  let v2200 : BitVec 32 := Scalar.select v2198 v2199 v2193
  let v2201 : BitVec 32 := Scalar.addi c16_i32_1485 v2200
  let c0_i32_2483 : BitVec 32 := 0#32
  let c0_i32_2484 : BitVec 32 := 0#32
  ![v2201.toNat, 0, 0]
def k0_off204 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond183 (d0 : Dev nD) : BitVec 1 :=
  let c16_i32_1494 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1487 : BitVec 32 := 6#32
  let v2205 : BitVec 32 := Scalar.addi v2 c6_i32_1487
  let c16_i32_1488 : BitVec 32 := 16#32
  let c0_i32_1489 : BitVec 32 := 0#32
  let v2206 : BitVec 1 := Scalar.cmpi .eq c16_i32_1488 c0_i32_1489
  let c1_i32_1490 : BitVec 32 := 1#32
  let v2207 : BitVec 32 := Scalar.select v2206 c1_i32_1490 c16_i32_1488
  let v2208 : BitVec 32 := Scalar.remsi v2205 v2207
  let c0_i32_1492 : BitVec 32 := 0#32
  let v2210 : BitVec 1 := Scalar.cmpi .slt v2208 c0_i32_1492
  let c0_i32_1493 : BitVec 32 := 0#32
  let v2211 : BitVec 1 := Scalar.cmpi .slt v2207 c0_i32_1493
  let v2212 : BitVec 1 := Scalar.xori v2210 v2211
  let c0_i32_1491 : BitVec 32 := 0#32
  let v2209 : BitVec 1 := Scalar.cmpi .ne v2208 c0_i32_1491
  let v2213 : BitVec 1 := Scalar.andi v2212 v2209
  let v2214 : BitVec 32 := Scalar.addi v2208 v2207
  let v2215 : BitVec 32 := Scalar.select v2213 v2214 v2208
  let v2216 : BitVec 32 := Scalar.addi c16_i32_1494 v2215
  let v3400 : BitVec 1 := Scalar.cmpi .ne v2216 v2
  let v3401 : BitVec 32 := Scalar.extui v3400
  let c0_i32_2410 : BitVec 32 := 0#32
  let v3402 : BitVec 1 := Scalar.cmpi .ne v3401 c0_i32_2410
  v3402

def k0_off205 (d0 : Dev nD) : Fin 1 → Nat :=
  let c16_i32_1494 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1487 : BitVec 32 := 6#32
  let v2205 : BitVec 32 := Scalar.addi v2 c6_i32_1487
  let c16_i32_1488 : BitVec 32 := 16#32
  let c0_i32_1489 : BitVec 32 := 0#32
  let v2206 : BitVec 1 := Scalar.cmpi .eq c16_i32_1488 c0_i32_1489
  let c1_i32_1490 : BitVec 32 := 1#32
  let v2207 : BitVec 32 := Scalar.select v2206 c1_i32_1490 c16_i32_1488
  let v2208 : BitVec 32 := Scalar.remsi v2205 v2207
  let c0_i32_1492 : BitVec 32 := 0#32
  let v2210 : BitVec 1 := Scalar.cmpi .slt v2208 c0_i32_1492
  let c0_i32_1493 : BitVec 32 := 0#32
  let v2211 : BitVec 1 := Scalar.cmpi .slt v2207 c0_i32_1493
  let v2212 : BitVec 1 := Scalar.xori v2210 v2211
  let c0_i32_1491 : BitVec 32 := 0#32
  let v2209 : BitVec 1 := Scalar.cmpi .ne v2208 c0_i32_1491
  let v2213 : BitVec 1 := Scalar.andi v2212 v2209
  let v2214 : BitVec 32 := Scalar.addi v2208 v2207
  let v2215 : BitVec 32 := Scalar.select v2213 v2214 v2208
  let v2216 : BitVec 32 := Scalar.addi c16_i32_1494 v2215
  ![v2216.toNat]
def k0_off206 (d0 : Dev nD) : Fin 3 → Nat :=
  let c16_i32_1494 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1487 : BitVec 32 := 6#32
  let v2205 : BitVec 32 := Scalar.addi v2 c6_i32_1487
  let c16_i32_1488 : BitVec 32 := 16#32
  let c0_i32_1489 : BitVec 32 := 0#32
  let v2206 : BitVec 1 := Scalar.cmpi .eq c16_i32_1488 c0_i32_1489
  let c1_i32_1490 : BitVec 32 := 1#32
  let v2207 : BitVec 32 := Scalar.select v2206 c1_i32_1490 c16_i32_1488
  let v2208 : BitVec 32 := Scalar.remsi v2205 v2207
  let c0_i32_1492 : BitVec 32 := 0#32
  let v2210 : BitVec 1 := Scalar.cmpi .slt v2208 c0_i32_1492
  let c0_i32_1493 : BitVec 32 := 0#32
  let v2211 : BitVec 1 := Scalar.cmpi .slt v2207 c0_i32_1493
  let v2212 : BitVec 1 := Scalar.xori v2210 v2211
  let c0_i32_1491 : BitVec 32 := 0#32
  let v2209 : BitVec 1 := Scalar.cmpi .ne v2208 c0_i32_1491
  let v2213 : BitVec 1 := Scalar.andi v2212 v2209
  let v2214 : BitVec 32 := Scalar.addi v2208 v2207
  let v2215 : BitVec 32 := Scalar.select v2213 v2214 v2208
  let v2216 : BitVec 32 := Scalar.addi c16_i32_1494 v2215
  let c0_i32_2483 : BitVec 32 := 0#32
  let c0_i32_2484 : BitVec 32 := 0#32
  ![v2216.toNat, 0, 0]
def k0_off207 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond184 (d0 : Dev nD) : BitVec 1 :=
  let c16_i32_1503 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1496 : BitVec 32 := 7#32
  let v2220 : BitVec 32 := Scalar.addi v2 c7_i32_1496
  let c16_i32_1497 : BitVec 32 := 16#32
  let c0_i32_1498 : BitVec 32 := 0#32
  let v2221 : BitVec 1 := Scalar.cmpi .eq c16_i32_1497 c0_i32_1498
  let c1_i32_1499 : BitVec 32 := 1#32
  let v2222 : BitVec 32 := Scalar.select v2221 c1_i32_1499 c16_i32_1497
  let v2223 : BitVec 32 := Scalar.remsi v2220 v2222
  let c0_i32_1501 : BitVec 32 := 0#32
  let v2225 : BitVec 1 := Scalar.cmpi .slt v2223 c0_i32_1501
  let c0_i32_1502 : BitVec 32 := 0#32
  let v2226 : BitVec 1 := Scalar.cmpi .slt v2222 c0_i32_1502
  let v2227 : BitVec 1 := Scalar.xori v2225 v2226
  let c0_i32_1500 : BitVec 32 := 0#32
  let v2224 : BitVec 1 := Scalar.cmpi .ne v2223 c0_i32_1500
  let v2228 : BitVec 1 := Scalar.andi v2227 v2224
  let v2229 : BitVec 32 := Scalar.addi v2223 v2222
  let v2230 : BitVec 32 := Scalar.select v2228 v2229 v2223
  let v2231 : BitVec 32 := Scalar.addi c16_i32_1503 v2230
  let v3403 : BitVec 1 := Scalar.cmpi .ne v2231 v2
  let v3404 : BitVec 32 := Scalar.extui v3403
  let c0_i32_2411 : BitVec 32 := 0#32
  let v3405 : BitVec 1 := Scalar.cmpi .ne v3404 c0_i32_2411
  v3405

def k0_off208 (d0 : Dev nD) : Fin 1 → Nat :=
  let c16_i32_1503 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1496 : BitVec 32 := 7#32
  let v2220 : BitVec 32 := Scalar.addi v2 c7_i32_1496
  let c16_i32_1497 : BitVec 32 := 16#32
  let c0_i32_1498 : BitVec 32 := 0#32
  let v2221 : BitVec 1 := Scalar.cmpi .eq c16_i32_1497 c0_i32_1498
  let c1_i32_1499 : BitVec 32 := 1#32
  let v2222 : BitVec 32 := Scalar.select v2221 c1_i32_1499 c16_i32_1497
  let v2223 : BitVec 32 := Scalar.remsi v2220 v2222
  let c0_i32_1501 : BitVec 32 := 0#32
  let v2225 : BitVec 1 := Scalar.cmpi .slt v2223 c0_i32_1501
  let c0_i32_1502 : BitVec 32 := 0#32
  let v2226 : BitVec 1 := Scalar.cmpi .slt v2222 c0_i32_1502
  let v2227 : BitVec 1 := Scalar.xori v2225 v2226
  let c0_i32_1500 : BitVec 32 := 0#32
  let v2224 : BitVec 1 := Scalar.cmpi .ne v2223 c0_i32_1500
  let v2228 : BitVec 1 := Scalar.andi v2227 v2224
  let v2229 : BitVec 32 := Scalar.addi v2223 v2222
  let v2230 : BitVec 32 := Scalar.select v2228 v2229 v2223
  let v2231 : BitVec 32 := Scalar.addi c16_i32_1503 v2230
  ![v2231.toNat]
def k0_off209 (d0 : Dev nD) : Fin 3 → Nat :=
  let c16_i32_1503 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1496 : BitVec 32 := 7#32
  let v2220 : BitVec 32 := Scalar.addi v2 c7_i32_1496
  let c16_i32_1497 : BitVec 32 := 16#32
  let c0_i32_1498 : BitVec 32 := 0#32
  let v2221 : BitVec 1 := Scalar.cmpi .eq c16_i32_1497 c0_i32_1498
  let c1_i32_1499 : BitVec 32 := 1#32
  let v2222 : BitVec 32 := Scalar.select v2221 c1_i32_1499 c16_i32_1497
  let v2223 : BitVec 32 := Scalar.remsi v2220 v2222
  let c0_i32_1501 : BitVec 32 := 0#32
  let v2225 : BitVec 1 := Scalar.cmpi .slt v2223 c0_i32_1501
  let c0_i32_1502 : BitVec 32 := 0#32
  let v2226 : BitVec 1 := Scalar.cmpi .slt v2222 c0_i32_1502
  let v2227 : BitVec 1 := Scalar.xori v2225 v2226
  let c0_i32_1500 : BitVec 32 := 0#32
  let v2224 : BitVec 1 := Scalar.cmpi .ne v2223 c0_i32_1500
  let v2228 : BitVec 1 := Scalar.andi v2227 v2224
  let v2229 : BitVec 32 := Scalar.addi v2223 v2222
  let v2230 : BitVec 32 := Scalar.select v2228 v2229 v2223
  let v2231 : BitVec 32 := Scalar.addi c16_i32_1503 v2230
  let c0_i32_2483 : BitVec 32 := 0#32
  let c0_i32_2484 : BitVec 32 := 0#32
  ![v2231.toNat, 0, 0]
def k0_off210 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond185 (d0 : Dev nD) : BitVec 1 :=
  let c16_i32_1512 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1505 : BitVec 32 := 8#32
  let v2235 : BitVec 32 := Scalar.addi v2 c8_i32_1505
  let c16_i32_1506 : BitVec 32 := 16#32
  let c0_i32_1507 : BitVec 32 := 0#32
  let v2236 : BitVec 1 := Scalar.cmpi .eq c16_i32_1506 c0_i32_1507
  let c1_i32_1508 : BitVec 32 := 1#32
  let v2237 : BitVec 32 := Scalar.select v2236 c1_i32_1508 c16_i32_1506
  let v2238 : BitVec 32 := Scalar.remsi v2235 v2237
  let c0_i32_1510 : BitVec 32 := 0#32
  let v2240 : BitVec 1 := Scalar.cmpi .slt v2238 c0_i32_1510
  let c0_i32_1511 : BitVec 32 := 0#32
  let v2241 : BitVec 1 := Scalar.cmpi .slt v2237 c0_i32_1511
  let v2242 : BitVec 1 := Scalar.xori v2240 v2241
  let c0_i32_1509 : BitVec 32 := 0#32
  let v2239 : BitVec 1 := Scalar.cmpi .ne v2238 c0_i32_1509
  let v2243 : BitVec 1 := Scalar.andi v2242 v2239
  let v2244 : BitVec 32 := Scalar.addi v2238 v2237
  let v2245 : BitVec 32 := Scalar.select v2243 v2244 v2238
  let v2246 : BitVec 32 := Scalar.addi c16_i32_1512 v2245
  let v3406 : BitVec 1 := Scalar.cmpi .ne v2246 v2
  let v3407 : BitVec 32 := Scalar.extui v3406
  let c0_i32_2412 : BitVec 32 := 0#32
  let v3408 : BitVec 1 := Scalar.cmpi .ne v3407 c0_i32_2412
  v3408

def k0_off211 (d0 : Dev nD) : Fin 1 → Nat :=
  let c16_i32_1512 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1505 : BitVec 32 := 8#32
  let v2235 : BitVec 32 := Scalar.addi v2 c8_i32_1505
  let c16_i32_1506 : BitVec 32 := 16#32
  let c0_i32_1507 : BitVec 32 := 0#32
  let v2236 : BitVec 1 := Scalar.cmpi .eq c16_i32_1506 c0_i32_1507
  let c1_i32_1508 : BitVec 32 := 1#32
  let v2237 : BitVec 32 := Scalar.select v2236 c1_i32_1508 c16_i32_1506
  let v2238 : BitVec 32 := Scalar.remsi v2235 v2237
  let c0_i32_1510 : BitVec 32 := 0#32
  let v2240 : BitVec 1 := Scalar.cmpi .slt v2238 c0_i32_1510
  let c0_i32_1511 : BitVec 32 := 0#32
  let v2241 : BitVec 1 := Scalar.cmpi .slt v2237 c0_i32_1511
  let v2242 : BitVec 1 := Scalar.xori v2240 v2241
  let c0_i32_1509 : BitVec 32 := 0#32
  let v2239 : BitVec 1 := Scalar.cmpi .ne v2238 c0_i32_1509
  let v2243 : BitVec 1 := Scalar.andi v2242 v2239
  let v2244 : BitVec 32 := Scalar.addi v2238 v2237
  let v2245 : BitVec 32 := Scalar.select v2243 v2244 v2238
  let v2246 : BitVec 32 := Scalar.addi c16_i32_1512 v2245
  ![v2246.toNat]
def k0_off212 (d0 : Dev nD) : Fin 3 → Nat :=
  let c16_i32_1512 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1505 : BitVec 32 := 8#32
  let v2235 : BitVec 32 := Scalar.addi v2 c8_i32_1505
  let c16_i32_1506 : BitVec 32 := 16#32
  let c0_i32_1507 : BitVec 32 := 0#32
  let v2236 : BitVec 1 := Scalar.cmpi .eq c16_i32_1506 c0_i32_1507
  let c1_i32_1508 : BitVec 32 := 1#32
  let v2237 : BitVec 32 := Scalar.select v2236 c1_i32_1508 c16_i32_1506
  let v2238 : BitVec 32 := Scalar.remsi v2235 v2237
  let c0_i32_1510 : BitVec 32 := 0#32
  let v2240 : BitVec 1 := Scalar.cmpi .slt v2238 c0_i32_1510
  let c0_i32_1511 : BitVec 32 := 0#32
  let v2241 : BitVec 1 := Scalar.cmpi .slt v2237 c0_i32_1511
  let v2242 : BitVec 1 := Scalar.xori v2240 v2241
  let c0_i32_1509 : BitVec 32 := 0#32
  let v2239 : BitVec 1 := Scalar.cmpi .ne v2238 c0_i32_1509
  let v2243 : BitVec 1 := Scalar.andi v2242 v2239
  let v2244 : BitVec 32 := Scalar.addi v2238 v2237
  let v2245 : BitVec 32 := Scalar.select v2243 v2244 v2238
  let v2246 : BitVec 32 := Scalar.addi c16_i32_1512 v2245
  let c0_i32_2483 : BitVec 32 := 0#32
  let c0_i32_2484 : BitVec 32 := 0#32
  ![v2246.toNat, 0, 0]
def k0_off213 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond186 (d0 : Dev nD) : BitVec 1 :=
  let c16_i32_1521 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1514 : BitVec 32 := 9#32
  let v2250 : BitVec 32 := Scalar.addi v2 c9_i32_1514
  let c16_i32_1515 : BitVec 32 := 16#32
  let c0_i32_1516 : BitVec 32 := 0#32
  let v2251 : BitVec 1 := Scalar.cmpi .eq c16_i32_1515 c0_i32_1516
  let c1_i32_1517 : BitVec 32 := 1#32
  let v2252 : BitVec 32 := Scalar.select v2251 c1_i32_1517 c16_i32_1515
  let v2253 : BitVec 32 := Scalar.remsi v2250 v2252
  let c0_i32_1519 : BitVec 32 := 0#32
  let v2255 : BitVec 1 := Scalar.cmpi .slt v2253 c0_i32_1519
  let c0_i32_1520 : BitVec 32 := 0#32
  let v2256 : BitVec 1 := Scalar.cmpi .slt v2252 c0_i32_1520
  let v2257 : BitVec 1 := Scalar.xori v2255 v2256
  let c0_i32_1518 : BitVec 32 := 0#32
  let v2254 : BitVec 1 := Scalar.cmpi .ne v2253 c0_i32_1518
  let v2258 : BitVec 1 := Scalar.andi v2257 v2254
  let v2259 : BitVec 32 := Scalar.addi v2253 v2252
  let v2260 : BitVec 32 := Scalar.select v2258 v2259 v2253
  let v2261 : BitVec 32 := Scalar.addi c16_i32_1521 v2260
  let v3409 : BitVec 1 := Scalar.cmpi .ne v2261 v2
  let v3410 : BitVec 32 := Scalar.extui v3409
  let c0_i32_2413 : BitVec 32 := 0#32
  let v3411 : BitVec 1 := Scalar.cmpi .ne v3410 c0_i32_2413
  v3411

def k0_off214 (d0 : Dev nD) : Fin 1 → Nat :=
  let c16_i32_1521 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1514 : BitVec 32 := 9#32
  let v2250 : BitVec 32 := Scalar.addi v2 c9_i32_1514
  let c16_i32_1515 : BitVec 32 := 16#32
  let c0_i32_1516 : BitVec 32 := 0#32
  let v2251 : BitVec 1 := Scalar.cmpi .eq c16_i32_1515 c0_i32_1516
  let c1_i32_1517 : BitVec 32 := 1#32
  let v2252 : BitVec 32 := Scalar.select v2251 c1_i32_1517 c16_i32_1515
  let v2253 : BitVec 32 := Scalar.remsi v2250 v2252
  let c0_i32_1519 : BitVec 32 := 0#32
  let v2255 : BitVec 1 := Scalar.cmpi .slt v2253 c0_i32_1519
  let c0_i32_1520 : BitVec 32 := 0#32
  let v2256 : BitVec 1 := Scalar.cmpi .slt v2252 c0_i32_1520
  let v2257 : BitVec 1 := Scalar.xori v2255 v2256
  let c0_i32_1518 : BitVec 32 := 0#32
  let v2254 : BitVec 1 := Scalar.cmpi .ne v2253 c0_i32_1518
  let v2258 : BitVec 1 := Scalar.andi v2257 v2254
  let v2259 : BitVec 32 := Scalar.addi v2253 v2252
  let v2260 : BitVec 32 := Scalar.select v2258 v2259 v2253
  let v2261 : BitVec 32 := Scalar.addi c16_i32_1521 v2260
  ![v2261.toNat]
def k0_off215 (d0 : Dev nD) : Fin 3 → Nat :=
  let c16_i32_1521 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1514 : BitVec 32 := 9#32
  let v2250 : BitVec 32 := Scalar.addi v2 c9_i32_1514
  let c16_i32_1515 : BitVec 32 := 16#32
  let c0_i32_1516 : BitVec 32 := 0#32
  let v2251 : BitVec 1 := Scalar.cmpi .eq c16_i32_1515 c0_i32_1516
  let c1_i32_1517 : BitVec 32 := 1#32
  let v2252 : BitVec 32 := Scalar.select v2251 c1_i32_1517 c16_i32_1515
  let v2253 : BitVec 32 := Scalar.remsi v2250 v2252
  let c0_i32_1519 : BitVec 32 := 0#32
  let v2255 : BitVec 1 := Scalar.cmpi .slt v2253 c0_i32_1519
  let c0_i32_1520 : BitVec 32 := 0#32
  let v2256 : BitVec 1 := Scalar.cmpi .slt v2252 c0_i32_1520
  let v2257 : BitVec 1 := Scalar.xori v2255 v2256
  let c0_i32_1518 : BitVec 32 := 0#32
  let v2254 : BitVec 1 := Scalar.cmpi .ne v2253 c0_i32_1518
  let v2258 : BitVec 1 := Scalar.andi v2257 v2254
  let v2259 : BitVec 32 := Scalar.addi v2253 v2252
  let v2260 : BitVec 32 := Scalar.select v2258 v2259 v2253
  let v2261 : BitVec 32 := Scalar.addi c16_i32_1521 v2260
  let c0_i32_2483 : BitVec 32 := 0#32
  let c0_i32_2484 : BitVec 32 := 0#32
  ![v2261.toNat, 0, 0]
def k0_off216 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond187 (d0 : Dev nD) : BitVec 1 :=
  let c16_i32_1530 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1523 : BitVec 32 := 10#32
  let v2265 : BitVec 32 := Scalar.addi v2 c10_i32_1523
  let c16_i32_1524 : BitVec 32 := 16#32
  let c0_i32_1525 : BitVec 32 := 0#32
  let v2266 : BitVec 1 := Scalar.cmpi .eq c16_i32_1524 c0_i32_1525
  let c1_i32_1526 : BitVec 32 := 1#32
  let v2267 : BitVec 32 := Scalar.select v2266 c1_i32_1526 c16_i32_1524
  let v2268 : BitVec 32 := Scalar.remsi v2265 v2267
  let c0_i32_1528 : BitVec 32 := 0#32
  let v2270 : BitVec 1 := Scalar.cmpi .slt v2268 c0_i32_1528
  let c0_i32_1529 : BitVec 32 := 0#32
  let v2271 : BitVec 1 := Scalar.cmpi .slt v2267 c0_i32_1529
  let v2272 : BitVec 1 := Scalar.xori v2270 v2271
  let c0_i32_1527 : BitVec 32 := 0#32
  let v2269 : BitVec 1 := Scalar.cmpi .ne v2268 c0_i32_1527
  let v2273 : BitVec 1 := Scalar.andi v2272 v2269
  let v2274 : BitVec 32 := Scalar.addi v2268 v2267
  let v2275 : BitVec 32 := Scalar.select v2273 v2274 v2268
  let v2276 : BitVec 32 := Scalar.addi c16_i32_1530 v2275
  let v3412 : BitVec 1 := Scalar.cmpi .ne v2276 v2
  let v3413 : BitVec 32 := Scalar.extui v3412
  let c0_i32_2414 : BitVec 32 := 0#32
  let v3414 : BitVec 1 := Scalar.cmpi .ne v3413 c0_i32_2414
  v3414

def k0_off217 (d0 : Dev nD) : Fin 1 → Nat :=
  let c16_i32_1530 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1523 : BitVec 32 := 10#32
  let v2265 : BitVec 32 := Scalar.addi v2 c10_i32_1523
  let c16_i32_1524 : BitVec 32 := 16#32
  let c0_i32_1525 : BitVec 32 := 0#32
  let v2266 : BitVec 1 := Scalar.cmpi .eq c16_i32_1524 c0_i32_1525
  let c1_i32_1526 : BitVec 32 := 1#32
  let v2267 : BitVec 32 := Scalar.select v2266 c1_i32_1526 c16_i32_1524
  let v2268 : BitVec 32 := Scalar.remsi v2265 v2267
  let c0_i32_1528 : BitVec 32 := 0#32
  let v2270 : BitVec 1 := Scalar.cmpi .slt v2268 c0_i32_1528
  let c0_i32_1529 : BitVec 32 := 0#32
  let v2271 : BitVec 1 := Scalar.cmpi .slt v2267 c0_i32_1529
  let v2272 : BitVec 1 := Scalar.xori v2270 v2271
  let c0_i32_1527 : BitVec 32 := 0#32
  let v2269 : BitVec 1 := Scalar.cmpi .ne v2268 c0_i32_1527
  let v2273 : BitVec 1 := Scalar.andi v2272 v2269
  let v2274 : BitVec 32 := Scalar.addi v2268 v2267
  let v2275 : BitVec 32 := Scalar.select v2273 v2274 v2268
  let v2276 : BitVec 32 := Scalar.addi c16_i32_1530 v2275
  ![v2276.toNat]
def k0_off218 (d0 : Dev nD) : Fin 3 → Nat :=
  let c16_i32_1530 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1523 : BitVec 32 := 10#32
  let v2265 : BitVec 32 := Scalar.addi v2 c10_i32_1523
  let c16_i32_1524 : BitVec 32 := 16#32
  let c0_i32_1525 : BitVec 32 := 0#32
  let v2266 : BitVec 1 := Scalar.cmpi .eq c16_i32_1524 c0_i32_1525
  let c1_i32_1526 : BitVec 32 := 1#32
  let v2267 : BitVec 32 := Scalar.select v2266 c1_i32_1526 c16_i32_1524
  let v2268 : BitVec 32 := Scalar.remsi v2265 v2267
  let c0_i32_1528 : BitVec 32 := 0#32
  let v2270 : BitVec 1 := Scalar.cmpi .slt v2268 c0_i32_1528
  let c0_i32_1529 : BitVec 32 := 0#32
  let v2271 : BitVec 1 := Scalar.cmpi .slt v2267 c0_i32_1529
  let v2272 : BitVec 1 := Scalar.xori v2270 v2271
  let c0_i32_1527 : BitVec 32 := 0#32
  let v2269 : BitVec 1 := Scalar.cmpi .ne v2268 c0_i32_1527
  let v2273 : BitVec 1 := Scalar.andi v2272 v2269
  let v2274 : BitVec 32 := Scalar.addi v2268 v2267
  let v2275 : BitVec 32 := Scalar.select v2273 v2274 v2268
  let v2276 : BitVec 32 := Scalar.addi c16_i32_1530 v2275
  let c0_i32_2483 : BitVec 32 := 0#32
  let c0_i32_2484 : BitVec 32 := 0#32
  ![v2276.toNat, 0, 0]
def k0_off219 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond188 (d0 : Dev nD) : BitVec 1 :=
  let c16_i32_1539 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1532 : BitVec 32 := 11#32
  let v2280 : BitVec 32 := Scalar.addi v2 c11_i32_1532
  let c16_i32_1533 : BitVec 32 := 16#32
  let c0_i32_1534 : BitVec 32 := 0#32
  let v2281 : BitVec 1 := Scalar.cmpi .eq c16_i32_1533 c0_i32_1534
  let c1_i32_1535 : BitVec 32 := 1#32
  let v2282 : BitVec 32 := Scalar.select v2281 c1_i32_1535 c16_i32_1533
  let v2283 : BitVec 32 := Scalar.remsi v2280 v2282
  let c0_i32_1537 : BitVec 32 := 0#32
  let v2285 : BitVec 1 := Scalar.cmpi .slt v2283 c0_i32_1537
  let c0_i32_1538 : BitVec 32 := 0#32
  let v2286 : BitVec 1 := Scalar.cmpi .slt v2282 c0_i32_1538
  let v2287 : BitVec 1 := Scalar.xori v2285 v2286
  let c0_i32_1536 : BitVec 32 := 0#32
  let v2284 : BitVec 1 := Scalar.cmpi .ne v2283 c0_i32_1536
  let v2288 : BitVec 1 := Scalar.andi v2287 v2284
  let v2289 : BitVec 32 := Scalar.addi v2283 v2282
  let v2290 : BitVec 32 := Scalar.select v2288 v2289 v2283
  let v2291 : BitVec 32 := Scalar.addi c16_i32_1539 v2290
  let v3415 : BitVec 1 := Scalar.cmpi .ne v2291 v2
  let v3416 : BitVec 32 := Scalar.extui v3415
  let c0_i32_2415 : BitVec 32 := 0#32
  let v3417 : BitVec 1 := Scalar.cmpi .ne v3416 c0_i32_2415
  v3417

def k0_off220 (d0 : Dev nD) : Fin 1 → Nat :=
  let c16_i32_1539 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1532 : BitVec 32 := 11#32
  let v2280 : BitVec 32 := Scalar.addi v2 c11_i32_1532
  let c16_i32_1533 : BitVec 32 := 16#32
  let c0_i32_1534 : BitVec 32 := 0#32
  let v2281 : BitVec 1 := Scalar.cmpi .eq c16_i32_1533 c0_i32_1534
  let c1_i32_1535 : BitVec 32 := 1#32
  let v2282 : BitVec 32 := Scalar.select v2281 c1_i32_1535 c16_i32_1533
  let v2283 : BitVec 32 := Scalar.remsi v2280 v2282
  let c0_i32_1537 : BitVec 32 := 0#32
  let v2285 : BitVec 1 := Scalar.cmpi .slt v2283 c0_i32_1537
  let c0_i32_1538 : BitVec 32 := 0#32
  let v2286 : BitVec 1 := Scalar.cmpi .slt v2282 c0_i32_1538
  let v2287 : BitVec 1 := Scalar.xori v2285 v2286
  let c0_i32_1536 : BitVec 32 := 0#32
  let v2284 : BitVec 1 := Scalar.cmpi .ne v2283 c0_i32_1536
  let v2288 : BitVec 1 := Scalar.andi v2287 v2284
  let v2289 : BitVec 32 := Scalar.addi v2283 v2282
  let v2290 : BitVec 32 := Scalar.select v2288 v2289 v2283
  let v2291 : BitVec 32 := Scalar.addi c16_i32_1539 v2290
  ![v2291.toNat]
def k0_off221 (d0 : Dev nD) : Fin 3 → Nat :=
  let c16_i32_1539 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1532 : BitVec 32 := 11#32
  let v2280 : BitVec 32 := Scalar.addi v2 c11_i32_1532
  let c16_i32_1533 : BitVec 32 := 16#32
  let c0_i32_1534 : BitVec 32 := 0#32
  let v2281 : BitVec 1 := Scalar.cmpi .eq c16_i32_1533 c0_i32_1534
  let c1_i32_1535 : BitVec 32 := 1#32
  let v2282 : BitVec 32 := Scalar.select v2281 c1_i32_1535 c16_i32_1533
  let v2283 : BitVec 32 := Scalar.remsi v2280 v2282
  let c0_i32_1537 : BitVec 32 := 0#32
  let v2285 : BitVec 1 := Scalar.cmpi .slt v2283 c0_i32_1537
  let c0_i32_1538 : BitVec 32 := 0#32
  let v2286 : BitVec 1 := Scalar.cmpi .slt v2282 c0_i32_1538
  let v2287 : BitVec 1 := Scalar.xori v2285 v2286
  let c0_i32_1536 : BitVec 32 := 0#32
  let v2284 : BitVec 1 := Scalar.cmpi .ne v2283 c0_i32_1536
  let v2288 : BitVec 1 := Scalar.andi v2287 v2284
  let v2289 : BitVec 32 := Scalar.addi v2283 v2282
  let v2290 : BitVec 32 := Scalar.select v2288 v2289 v2283
  let v2291 : BitVec 32 := Scalar.addi c16_i32_1539 v2290
  let c0_i32_2483 : BitVec 32 := 0#32
  let c0_i32_2484 : BitVec 32 := 0#32
  ![v2291.toNat, 0, 0]
def k0_off222 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond189 (d0 : Dev nD) : BitVec 1 :=
  let c16_i32_1548 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1541 : BitVec 32 := 12#32
  let v2295 : BitVec 32 := Scalar.addi v2 c12_i32_1541
  let c16_i32_1542 : BitVec 32 := 16#32
  let c0_i32_1543 : BitVec 32 := 0#32
  let v2296 : BitVec 1 := Scalar.cmpi .eq c16_i32_1542 c0_i32_1543
  let c1_i32_1544 : BitVec 32 := 1#32
  let v2297 : BitVec 32 := Scalar.select v2296 c1_i32_1544 c16_i32_1542
  let v2298 : BitVec 32 := Scalar.remsi v2295 v2297
  let c0_i32_1546 : BitVec 32 := 0#32
  let v2300 : BitVec 1 := Scalar.cmpi .slt v2298 c0_i32_1546
  let c0_i32_1547 : BitVec 32 := 0#32
  let v2301 : BitVec 1 := Scalar.cmpi .slt v2297 c0_i32_1547
  let v2302 : BitVec 1 := Scalar.xori v2300 v2301
  let c0_i32_1545 : BitVec 32 := 0#32
  let v2299 : BitVec 1 := Scalar.cmpi .ne v2298 c0_i32_1545
  let v2303 : BitVec 1 := Scalar.andi v2302 v2299
  let v2304 : BitVec 32 := Scalar.addi v2298 v2297
  let v2305 : BitVec 32 := Scalar.select v2303 v2304 v2298
  let v2306 : BitVec 32 := Scalar.addi c16_i32_1548 v2305
  let v3418 : BitVec 1 := Scalar.cmpi .ne v2306 v2
  let v3419 : BitVec 32 := Scalar.extui v3418
  let c0_i32_2416 : BitVec 32 := 0#32
  let v3420 : BitVec 1 := Scalar.cmpi .ne v3419 c0_i32_2416
  v3420

def k0_off223 (d0 : Dev nD) : Fin 1 → Nat :=
  let c16_i32_1548 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1541 : BitVec 32 := 12#32
  let v2295 : BitVec 32 := Scalar.addi v2 c12_i32_1541
  let c16_i32_1542 : BitVec 32 := 16#32
  let c0_i32_1543 : BitVec 32 := 0#32
  let v2296 : BitVec 1 := Scalar.cmpi .eq c16_i32_1542 c0_i32_1543
  let c1_i32_1544 : BitVec 32 := 1#32
  let v2297 : BitVec 32 := Scalar.select v2296 c1_i32_1544 c16_i32_1542
  let v2298 : BitVec 32 := Scalar.remsi v2295 v2297
  let c0_i32_1546 : BitVec 32 := 0#32
  let v2300 : BitVec 1 := Scalar.cmpi .slt v2298 c0_i32_1546
  let c0_i32_1547 : BitVec 32 := 0#32
  let v2301 : BitVec 1 := Scalar.cmpi .slt v2297 c0_i32_1547
  let v2302 : BitVec 1 := Scalar.xori v2300 v2301
  let c0_i32_1545 : BitVec 32 := 0#32
  let v2299 : BitVec 1 := Scalar.cmpi .ne v2298 c0_i32_1545
  let v2303 : BitVec 1 := Scalar.andi v2302 v2299
  let v2304 : BitVec 32 := Scalar.addi v2298 v2297
  let v2305 : BitVec 32 := Scalar.select v2303 v2304 v2298
  let v2306 : BitVec 32 := Scalar.addi c16_i32_1548 v2305
  ![v2306.toNat]
def k0_off224 (d0 : Dev nD) : Fin 3 → Nat :=
  let c16_i32_1548 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1541 : BitVec 32 := 12#32
  let v2295 : BitVec 32 := Scalar.addi v2 c12_i32_1541
  let c16_i32_1542 : BitVec 32 := 16#32
  let c0_i32_1543 : BitVec 32 := 0#32
  let v2296 : BitVec 1 := Scalar.cmpi .eq c16_i32_1542 c0_i32_1543
  let c1_i32_1544 : BitVec 32 := 1#32
  let v2297 : BitVec 32 := Scalar.select v2296 c1_i32_1544 c16_i32_1542
  let v2298 : BitVec 32 := Scalar.remsi v2295 v2297
  let c0_i32_1546 : BitVec 32 := 0#32
  let v2300 : BitVec 1 := Scalar.cmpi .slt v2298 c0_i32_1546
  let c0_i32_1547 : BitVec 32 := 0#32
  let v2301 : BitVec 1 := Scalar.cmpi .slt v2297 c0_i32_1547
  let v2302 : BitVec 1 := Scalar.xori v2300 v2301
  let c0_i32_1545 : BitVec 32 := 0#32
  let v2299 : BitVec 1 := Scalar.cmpi .ne v2298 c0_i32_1545
  let v2303 : BitVec 1 := Scalar.andi v2302 v2299
  let v2304 : BitVec 32 := Scalar.addi v2298 v2297
  let v2305 : BitVec 32 := Scalar.select v2303 v2304 v2298
  let v2306 : BitVec 32 := Scalar.addi c16_i32_1548 v2305
  let c0_i32_2483 : BitVec 32 := 0#32
  let c0_i32_2484 : BitVec 32 := 0#32
  ![v2306.toNat, 0, 0]
def k0_off225 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond190 (d0 : Dev nD) : BitVec 1 :=
  let c16_i32_1557 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1550 : BitVec 32 := 13#32
  let v2310 : BitVec 32 := Scalar.addi v2 c13_i32_1550
  let c16_i32_1551 : BitVec 32 := 16#32
  let c0_i32_1552 : BitVec 32 := 0#32
  let v2311 : BitVec 1 := Scalar.cmpi .eq c16_i32_1551 c0_i32_1552
  let c1_i32_1553 : BitVec 32 := 1#32
  let v2312 : BitVec 32 := Scalar.select v2311 c1_i32_1553 c16_i32_1551
  let v2313 : BitVec 32 := Scalar.remsi v2310 v2312
  let c0_i32_1555 : BitVec 32 := 0#32
  let v2315 : BitVec 1 := Scalar.cmpi .slt v2313 c0_i32_1555
  let c0_i32_1556 : BitVec 32 := 0#32
  let v2316 : BitVec 1 := Scalar.cmpi .slt v2312 c0_i32_1556
  let v2317 : BitVec 1 := Scalar.xori v2315 v2316
  let c0_i32_1554 : BitVec 32 := 0#32
  let v2314 : BitVec 1 := Scalar.cmpi .ne v2313 c0_i32_1554
  let v2318 : BitVec 1 := Scalar.andi v2317 v2314
  let v2319 : BitVec 32 := Scalar.addi v2313 v2312
  let v2320 : BitVec 32 := Scalar.select v2318 v2319 v2313
  let v2321 : BitVec 32 := Scalar.addi c16_i32_1557 v2320
  let v3421 : BitVec 1 := Scalar.cmpi .ne v2321 v2
  let v3422 : BitVec 32 := Scalar.extui v3421
  let c0_i32_2417 : BitVec 32 := 0#32
  let v3423 : BitVec 1 := Scalar.cmpi .ne v3422 c0_i32_2417
  v3423

def k0_off226 (d0 : Dev nD) : Fin 1 → Nat :=
  let c16_i32_1557 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1550 : BitVec 32 := 13#32
  let v2310 : BitVec 32 := Scalar.addi v2 c13_i32_1550
  let c16_i32_1551 : BitVec 32 := 16#32
  let c0_i32_1552 : BitVec 32 := 0#32
  let v2311 : BitVec 1 := Scalar.cmpi .eq c16_i32_1551 c0_i32_1552
  let c1_i32_1553 : BitVec 32 := 1#32
  let v2312 : BitVec 32 := Scalar.select v2311 c1_i32_1553 c16_i32_1551
  let v2313 : BitVec 32 := Scalar.remsi v2310 v2312
  let c0_i32_1555 : BitVec 32 := 0#32
  let v2315 : BitVec 1 := Scalar.cmpi .slt v2313 c0_i32_1555
  let c0_i32_1556 : BitVec 32 := 0#32
  let v2316 : BitVec 1 := Scalar.cmpi .slt v2312 c0_i32_1556
  let v2317 : BitVec 1 := Scalar.xori v2315 v2316
  let c0_i32_1554 : BitVec 32 := 0#32
  let v2314 : BitVec 1 := Scalar.cmpi .ne v2313 c0_i32_1554
  let v2318 : BitVec 1 := Scalar.andi v2317 v2314
  let v2319 : BitVec 32 := Scalar.addi v2313 v2312
  let v2320 : BitVec 32 := Scalar.select v2318 v2319 v2313
  let v2321 : BitVec 32 := Scalar.addi c16_i32_1557 v2320
  ![v2321.toNat]
def k0_off227 (d0 : Dev nD) : Fin 3 → Nat :=
  let c16_i32_1557 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1550 : BitVec 32 := 13#32
  let v2310 : BitVec 32 := Scalar.addi v2 c13_i32_1550
  let c16_i32_1551 : BitVec 32 := 16#32
  let c0_i32_1552 : BitVec 32 := 0#32
  let v2311 : BitVec 1 := Scalar.cmpi .eq c16_i32_1551 c0_i32_1552
  let c1_i32_1553 : BitVec 32 := 1#32
  let v2312 : BitVec 32 := Scalar.select v2311 c1_i32_1553 c16_i32_1551
  let v2313 : BitVec 32 := Scalar.remsi v2310 v2312
  let c0_i32_1555 : BitVec 32 := 0#32
  let v2315 : BitVec 1 := Scalar.cmpi .slt v2313 c0_i32_1555
  let c0_i32_1556 : BitVec 32 := 0#32
  let v2316 : BitVec 1 := Scalar.cmpi .slt v2312 c0_i32_1556
  let v2317 : BitVec 1 := Scalar.xori v2315 v2316
  let c0_i32_1554 : BitVec 32 := 0#32
  let v2314 : BitVec 1 := Scalar.cmpi .ne v2313 c0_i32_1554
  let v2318 : BitVec 1 := Scalar.andi v2317 v2314
  let v2319 : BitVec 32 := Scalar.addi v2313 v2312
  let v2320 : BitVec 32 := Scalar.select v2318 v2319 v2313
  let v2321 : BitVec 32 := Scalar.addi c16_i32_1557 v2320
  let c0_i32_2483 : BitVec 32 := 0#32
  let c0_i32_2484 : BitVec 32 := 0#32
  ![v2321.toNat, 0, 0]
def k0_off228 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond191 (d0 : Dev nD) : BitVec 1 :=
  let c16_i32_1566 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1559 : BitVec 32 := 14#32
  let v2325 : BitVec 32 := Scalar.addi v2 c14_i32_1559
  let c16_i32_1560 : BitVec 32 := 16#32
  let c0_i32_1561 : BitVec 32 := 0#32
  let v2326 : BitVec 1 := Scalar.cmpi .eq c16_i32_1560 c0_i32_1561
  let c1_i32_1562 : BitVec 32 := 1#32
  let v2327 : BitVec 32 := Scalar.select v2326 c1_i32_1562 c16_i32_1560
  let v2328 : BitVec 32 := Scalar.remsi v2325 v2327
  let c0_i32_1564 : BitVec 32 := 0#32
  let v2330 : BitVec 1 := Scalar.cmpi .slt v2328 c0_i32_1564
  let c0_i32_1565 : BitVec 32 := 0#32
  let v2331 : BitVec 1 := Scalar.cmpi .slt v2327 c0_i32_1565
  let v2332 : BitVec 1 := Scalar.xori v2330 v2331
  let c0_i32_1563 : BitVec 32 := 0#32
  let v2329 : BitVec 1 := Scalar.cmpi .ne v2328 c0_i32_1563
  let v2333 : BitVec 1 := Scalar.andi v2332 v2329
  let v2334 : BitVec 32 := Scalar.addi v2328 v2327
  let v2335 : BitVec 32 := Scalar.select v2333 v2334 v2328
  let v2336 : BitVec 32 := Scalar.addi c16_i32_1566 v2335
  let v3424 : BitVec 1 := Scalar.cmpi .ne v2336 v2
  let v3425 : BitVec 32 := Scalar.extui v3424
  let c0_i32_2418 : BitVec 32 := 0#32
  let v3426 : BitVec 1 := Scalar.cmpi .ne v3425 c0_i32_2418
  v3426

def k0_off229 (d0 : Dev nD) : Fin 1 → Nat :=
  let c16_i32_1566 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1559 : BitVec 32 := 14#32
  let v2325 : BitVec 32 := Scalar.addi v2 c14_i32_1559
  let c16_i32_1560 : BitVec 32 := 16#32
  let c0_i32_1561 : BitVec 32 := 0#32
  let v2326 : BitVec 1 := Scalar.cmpi .eq c16_i32_1560 c0_i32_1561
  let c1_i32_1562 : BitVec 32 := 1#32
  let v2327 : BitVec 32 := Scalar.select v2326 c1_i32_1562 c16_i32_1560
  let v2328 : BitVec 32 := Scalar.remsi v2325 v2327
  let c0_i32_1564 : BitVec 32 := 0#32
  let v2330 : BitVec 1 := Scalar.cmpi .slt v2328 c0_i32_1564
  let c0_i32_1565 : BitVec 32 := 0#32
  let v2331 : BitVec 1 := Scalar.cmpi .slt v2327 c0_i32_1565
  let v2332 : BitVec 1 := Scalar.xori v2330 v2331
  let c0_i32_1563 : BitVec 32 := 0#32
  let v2329 : BitVec 1 := Scalar.cmpi .ne v2328 c0_i32_1563
  let v2333 : BitVec 1 := Scalar.andi v2332 v2329
  let v2334 : BitVec 32 := Scalar.addi v2328 v2327
  let v2335 : BitVec 32 := Scalar.select v2333 v2334 v2328
  let v2336 : BitVec 32 := Scalar.addi c16_i32_1566 v2335
  ![v2336.toNat]
def k0_off230 (d0 : Dev nD) : Fin 3 → Nat :=
  let c16_i32_1566 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1559 : BitVec 32 := 14#32
  let v2325 : BitVec 32 := Scalar.addi v2 c14_i32_1559
  let c16_i32_1560 : BitVec 32 := 16#32
  let c0_i32_1561 : BitVec 32 := 0#32
  let v2326 : BitVec 1 := Scalar.cmpi .eq c16_i32_1560 c0_i32_1561
  let c1_i32_1562 : BitVec 32 := 1#32
  let v2327 : BitVec 32 := Scalar.select v2326 c1_i32_1562 c16_i32_1560
  let v2328 : BitVec 32 := Scalar.remsi v2325 v2327
  let c0_i32_1564 : BitVec 32 := 0#32
  let v2330 : BitVec 1 := Scalar.cmpi .slt v2328 c0_i32_1564
  let c0_i32_1565 : BitVec 32 := 0#32
  let v2331 : BitVec 1 := Scalar.cmpi .slt v2327 c0_i32_1565
  let v2332 : BitVec 1 := Scalar.xori v2330 v2331
  let c0_i32_1563 : BitVec 32 := 0#32
  let v2329 : BitVec 1 := Scalar.cmpi .ne v2328 c0_i32_1563
  let v2333 : BitVec 1 := Scalar.andi v2332 v2329
  let v2334 : BitVec 32 := Scalar.addi v2328 v2327
  let v2335 : BitVec 32 := Scalar.select v2333 v2334 v2328
  let v2336 : BitVec 32 := Scalar.addi c16_i32_1566 v2335
  let c0_i32_2483 : BitVec 32 := 0#32
  let c0_i32_2484 : BitVec 32 := 0#32
  ![v2336.toNat, 0, 0]
def k0_off231 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
def k0_cond192 (d0 : Dev nD) : BitVec 1 :=
  let c16_i32_1575 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1568 : BitVec 32 := 15#32
  let v2340 : BitVec 32 := Scalar.addi v2 c15_i32_1568
  let c16_i32_1569 : BitVec 32 := 16#32
  let c0_i32_1570 : BitVec 32 := 0#32
  let v2341 : BitVec 1 := Scalar.cmpi .eq c16_i32_1569 c0_i32_1570
  let c1_i32_1571 : BitVec 32 := 1#32
  let v2342 : BitVec 32 := Scalar.select v2341 c1_i32_1571 c16_i32_1569
  let v2343 : BitVec 32 := Scalar.remsi v2340 v2342
  let c0_i32_1573 : BitVec 32 := 0#32
  let v2345 : BitVec 1 := Scalar.cmpi .slt v2343 c0_i32_1573
  let c0_i32_1574 : BitVec 32 := 0#32
  let v2346 : BitVec 1 := Scalar.cmpi .slt v2342 c0_i32_1574
  let v2347 : BitVec 1 := Scalar.xori v2345 v2346
  let c0_i32_1572 : BitVec 32 := 0#32
  let v2344 : BitVec 1 := Scalar.cmpi .ne v2343 c0_i32_1572
  let v2348 : BitVec 1 := Scalar.andi v2347 v2344
  let v2349 : BitVec 32 := Scalar.addi v2343 v2342
  let v2350 : BitVec 32 := Scalar.select v2348 v2349 v2343
  let v2351 : BitVec 32 := Scalar.addi c16_i32_1575 v2350
  let v3427 : BitVec 1 := Scalar.cmpi .ne v2351 v2
  let v3428 : BitVec 32 := Scalar.extui v3427
  let c0_i32_2419 : BitVec 32 := 0#32
  let v3429 : BitVec 1 := Scalar.cmpi .ne v3428 c0_i32_2419
  v3429

def k0_off232 (d0 : Dev nD) : Fin 1 → Nat :=
  let c16_i32_1575 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1568 : BitVec 32 := 15#32
  let v2340 : BitVec 32 := Scalar.addi v2 c15_i32_1568
  let c16_i32_1569 : BitVec 32 := 16#32
  let c0_i32_1570 : BitVec 32 := 0#32
  let v2341 : BitVec 1 := Scalar.cmpi .eq c16_i32_1569 c0_i32_1570
  let c1_i32_1571 : BitVec 32 := 1#32
  let v2342 : BitVec 32 := Scalar.select v2341 c1_i32_1571 c16_i32_1569
  let v2343 : BitVec 32 := Scalar.remsi v2340 v2342
  let c0_i32_1573 : BitVec 32 := 0#32
  let v2345 : BitVec 1 := Scalar.cmpi .slt v2343 c0_i32_1573
  let c0_i32_1574 : BitVec 32 := 0#32
  let v2346 : BitVec 1 := Scalar.cmpi .slt v2342 c0_i32_1574
  let v2347 : BitVec 1 := Scalar.xori v2345 v2346
  let c0_i32_1572 : BitVec 32 := 0#32
  let v2344 : BitVec 1 := Scalar.cmpi .ne v2343 c0_i32_1572
  let v2348 : BitVec 1 := Scalar.andi v2347 v2344
  let v2349 : BitVec 32 := Scalar.addi v2343 v2342
  let v2350 : BitVec 32 := Scalar.select v2348 v2349 v2343
  let v2351 : BitVec 32 := Scalar.addi c16_i32_1575 v2350
  ![v2351.toNat]
def k0_off233 (d0 : Dev nD) : Fin 3 → Nat :=
  let c16_i32_1575 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1568 : BitVec 32 := 15#32
  let v2340 : BitVec 32 := Scalar.addi v2 c15_i32_1568
  let c16_i32_1569 : BitVec 32 := 16#32
  let c0_i32_1570 : BitVec 32 := 0#32
  let v2341 : BitVec 1 := Scalar.cmpi .eq c16_i32_1569 c0_i32_1570
  let c1_i32_1571 : BitVec 32 := 1#32
  let v2342 : BitVec 32 := Scalar.select v2341 c1_i32_1571 c16_i32_1569
  let v2343 : BitVec 32 := Scalar.remsi v2340 v2342
  let c0_i32_1573 : BitVec 32 := 0#32
  let v2345 : BitVec 1 := Scalar.cmpi .slt v2343 c0_i32_1573
  let c0_i32_1574 : BitVec 32 := 0#32
  let v2346 : BitVec 1 := Scalar.cmpi .slt v2342 c0_i32_1574
  let v2347 : BitVec 1 := Scalar.xori v2345 v2346
  let c0_i32_1572 : BitVec 32 := 0#32
  let v2344 : BitVec 1 := Scalar.cmpi .ne v2343 c0_i32_1572
  let v2348 : BitVec 1 := Scalar.andi v2347 v2344
  let v2349 : BitVec 32 := Scalar.addi v2343 v2342
  let v2350 : BitVec 32 := Scalar.select v2348 v2349 v2343
  let v2351 : BitVec 32 := Scalar.addi c16_i32_1575 v2350
  let c0_i32_2483 : BitVec 32 := 0#32
  let c0_i32_2484 : BitVec 32 := 0#32
  ![v2351.toNat, 0, 0]
def k0_off234 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2485 : BitVec 32 := 0#32
  let c0_i32_2486 : BitVec 32 := 0#32
  ![v2.toNat, 0, 0]
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x256x512 : Shape := ⟨3, ![2, 256, 512]⟩
abbrev S512x8192 : Shape := ⟨2, ![512, 8192]⟩
abbrev S2x256x128x64 : Shape := ⟨4, ![2, 256, 128, 64]⟩
abbrev S8192x512 : Shape := ⟨2, ![8192, 512]⟩
abbrev S2x256x8192 : Shape := ⟨3, ![2, 256, 8192]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S2x128x256x256 : Shape := ⟨4, ![2, 128, 256, 256]⟩
abbrev S1x1x256x256 : Shape := ⟨4, ![1, 1, 256, 256]⟩
abbrev S2x128x256 : Shape := ⟨3, ![2, 128, 256]⟩
abbrev S2x128x256x1 : Shape := ⟨4, ![2, 128, 256, 1]⟩
abbrev S1x1x256x1 : Shape := ⟨4, ![1, 1, 256, 1]⟩
abbrev S2x128x64x256 : Shape := ⟨4, ![2, 128, 64, 256]⟩

abbrev nBuf : Space → Nat
  | .hbm => 57
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x8192, .f32⟩
  | .hbm, ⟨2, _⟩ => ⟨S2x256x128x64, .f32⟩
  | .hbm, ⟨3, _⟩ => ⟨S2x256x128x64, .f32⟩
  | .hbm, ⟨4, _⟩ => ⟨S8192x512, .f32⟩
  | .hbm, ⟨5, _⟩ => ⟨S2x256x8192, .f32⟩
  | .hbm, ⟨6, _⟩ => ⟨S2x256x128x64, .f32⟩
  | .hbm, ⟨7, _⟩ => ⟨S256, .i32⟩
  | .hbm, ⟨8, _⟩ => ⟨S256x1, .i32⟩
  | .hbm, ⟨9, _⟩ => ⟨S256, .i32⟩
  | .hbm, ⟨10, _⟩ => ⟨S1x256, .i32⟩
  | .hbm, ⟨11, _⟩ => ⟨S256x256, .i32⟩
  | .hbm, ⟨12, _⟩ => ⟨S256x256, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i1⟩
  | .hbm, ⟨18, _⟩ => ⟨S2x128x256x256, .f32⟩
  | .hbm, ⟨19, _⟩ => ⟨S_, .f32⟩
  | .hbm, ⟨20, _⟩ => ⟨S2x128x256x256, .f32⟩
  | .hbm, ⟨21, _⟩ => ⟨S2x128x256x256, .f32⟩
  | .hbm, ⟨22, _⟩ => ⟨S1x1x256x256, .i1⟩
  | .hbm, ⟨23, _⟩ => ⟨S_, .f32⟩
  | .hbm, ⟨24, _⟩ => ⟨S_, .f32⟩
  | .hbm, ⟨25, _⟩ => ⟨S2x128x256x256, .i1⟩
  | .hbm, ⟨26, _⟩ => ⟨S2x128x256x256, .f32⟩
  | .hbm, ⟨27, _⟩ => ⟨S2x128x256x256, .f32⟩
  | .hbm, ⟨28, _⟩ => ⟨S_, .f32⟩
  | .hbm, ⟨29, _⟩ => ⟨S2x128x256, .f32⟩
  | .hbm, ⟨30, _⟩ => ⟨S2x128x256x1, .f32⟩
  | .hbm, ⟨31, _⟩ => ⟨S2x128x256x256, .f32⟩
  | .hbm, ⟨32, _⟩ => ⟨S2x128x256x256, .f32⟩
  | .hbm, ⟨33, _⟩ => ⟨S2x128x256x256, .f32⟩
  | .hbm, ⟨34, _⟩ => ⟨S_, .i1⟩
  | .hbm, ⟨35, _⟩ => ⟨S256, .i1⟩
  | .hbm, ⟨36, _⟩ => ⟨S1x1x256x1, .i1⟩
  | .hbm, ⟨37, _⟩ => ⟨S_, .f32⟩
  | .hbm, ⟨38, _⟩ => ⟨S2x128x256, .f32⟩
  | .hbm, ⟨39, _⟩ => ⟨S2x128x256x1, .f32⟩
  | .hbm, ⟨40, _⟩ => ⟨S_, .f32⟩
  | .hbm, ⟨41, _⟩ => ⟨S_, .f32⟩
  | .hbm, ⟨42, _⟩ => ⟨S2x128x256x1, .i1⟩
  | .hbm, ⟨43, _⟩ => ⟨S2x128x256x1, .f32⟩
  | .hbm, ⟨44, _⟩ => ⟨S2x128x256x1, .f32⟩
  | .hbm, ⟨45, _⟩ => ⟨S2x128x256x256, .f32⟩
  | .hbm, ⟨46, _⟩ => ⟨S2x128x256x256, .f32⟩
  | .hbm, ⟨47, _⟩ => ⟨S1x1x256x1, .i1⟩
  | .hbm, ⟨48, _⟩ => ⟨S_, .f32⟩
  | .hbm, ⟨49, _⟩ => ⟨S_, .f32⟩
  | .hbm, ⟨50, _⟩ => ⟨S2x128x256x256, .i1⟩
  | .hbm, ⟨51, _⟩ => ⟨S2x128x256x256, .f32⟩
  | .hbm, ⟨52, _⟩ => ⟨S2x128x256x256, .f32⟩
  | .hbm, ⟨53, _⟩ => ⟨S2x128x64x256, .f32⟩
  | .hbm, ⟨54, _⟩ => ⟨S2x256x128x64, .f32⟩
  | .hbm, ⟨55, _⟩ => ⟨S2x256x8192, .f32⟩
  | .hbm, ⟨56, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Top.Same.lean ====
/-
  The kernel as printed and the idealized kernel are the same program text.
-/
module

public import proofs.«01_k».proof.Kernel
public import proofs.«01_k».proof.KernelIdeal

@[expose] public section

noncomputable section

namespace Cert.Same

open Idealize.ShloMosaic Idealize.SL.Sem

variable {F : FTy → Type} [FloatOps F] [hK : Cert.Kernel.Facts] [hI : Cert.KernelIdeal.Facts]

set_option maxHeartbeats 4000000 in
/-- The two programs' kernel bodies are the same. -/
theorem bodies_eq : (Cert.Kernel.defs₀ (F := F)) = (Cert.KernelIdeal.defs₀ (F := F)) := by
  unfold Cert.Kernel.defs₀ Cert.KernelIdeal.defs₀
  refine congrArg Defs.onTc (funext fun l => funext fun a => ?_)
  obtain ⟨l, hl⟩ := l
  obtain rfl : l = 0 := by omega
  rfl

/-- And so are their definitions. -/
theorem defs_eq : (Cert.Kernel.defs (F := F)) = (Cert.KernelIdeal.defs (F := F)) := by
  unfold Cert.Kernel.defs Cert.KernelIdeal.defs
  rw [bodies_eq]
  rfl

end Cert.Same

end
-- ==== Proof.KI.Geo.lean ====
/-
  The buffers, slots and semaphores that the kernel's copies name: what elements each slice covers, where its
  elements lie, and which semaphore of each array each copy credits.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Rounds
public import Idealize.ShloMosaic.Lib.ValueIdxCore
public import Idealize.ShloMosaic.Lib.Pipeline.Kit
public import Idealize.ShloMosaic.Lib.Pipeline.Regions
public import Idealize.ShloMosaic.Lib.Pipeline.RegionTalk

@[expose] public section

noncomputable section

namespace Cert.KernelIdeal.Mesh

open Idealize.ShloMosaic Idealize.ShloMosaic.TcCoe Idealize.ShloMosaic.ValueIdx Cert.KernelIdeal Cert.KernelIdeal.Gen
open Idealize.SL Idealize.SL.RA Idealize.SL.BI
open scoped Idealize.SL.BI

variable {F : FTy → Type} [FloatOps F]

/-! ## The buffers -/

abbrev xvM : Memref sig .tc .vmem S2x256x512 .f32 := Memref.whole cc0_scratch0
abbrev wqM : Memref sig .tc .vmem S512x256 .f32 := Memref.whole cc0_scratch1
abbrev woM : Memref sig .tc .vmem S256x512 .f32 := Memref.whole cc0_scratch2
abbrev rdM : Memref sig .tc .vmem S2x2x8x64x128 .f32 := Memref.whole cc0_scratch3
abbrev kvsM : Memref sig .tc .vmem S32x32x256 .f32 := Memref.whole cc0_scratch4
abbrev kvrM : Memref sig .tc .vmem S32x32x256 .f32 := Memref.whole cc0_scratch5
abbrev parM : Memref sig .tc .vmem S32x16x512 .f32 := Memref.whole cc0_scratch6
abbrev comM : Memref sig .tc .vmem S32x16x512 .f32 := Memref.whole cc0_scratch7
abbrev redM : Memref sig .tc .vmem S1x16x512 .f32 := Memref.whole cc0_scratch8
abbrev outM : Memref sig .tc .vmem S2x256x512 .f32 := st0_0 t0_0

/-- The slot at `off` of a buffer of thirty-two `32 × 256` slots. -/
abbrev sl256 (M : Memref sig .tc .vmem S32x32x256 .f32) (off : Fin 3 → ℕ) (inb : ∀ a, off a + S1x32x256.size a ≤ S32x32x256.size a) : Memref sig .tc .vmem S32x256 .f32 :=
  (M.slice (Rect.unit (s := S32x32x256) off S1x32x256.size inb) (fun _ => rfl)).squeeze S32x256 squeezes_S1x32x256_S32x256
/-- The slot at `off` of a buffer of thirty-two `16 × 512` slots. -/
abbrev sl512 (M : Memref sig .tc .vmem S32x16x512 .f32) (off : Fin 3 → ℕ) (inb : ∀ a, off a + S1x16x512.size a ≤ S32x16x512.size a) : Memref sig .tc .vmem S16x512 .f32 :=
  (M.slice (Rect.unit (s := S32x16x512) off S1x16x512.size inb) (fun _ => rfl)).squeeze S16x512 squeezes_S1x16x512_S16x512
/-- Sixteen rows, at `off`, of the result. -/
abbrev slOut (off : Fin 3 → ℕ) (inb : ∀ a, off a + S1x16x512.size a ≤ S2x256x512.size a) : Memref sig .tc .vmem S1x16x512 .f32 :=
  outM.slice (Rect.unit (s := S2x256x512) off S1x16x512.size inb) (fun _ => rfl)

/-! ## Their elements -/

/-- Slot `p` of a buffer of thirty-two `32 × 256` slots, as a set of elements. -/
def slot256 (p : ℕ) : Finset S32x32x256.Idx := Finset.univ.filter fun i => (i 0).val = p
/-- Slot `p` of a buffer of thirty-two `16 × 512` slots. -/
def slot512 (p : ℕ) : Finset S32x16x512.Idx := Finset.univ.filter fun i => (i 0).val = p
/-- Chunk `p` of the result: sixteen rows of batch `p / 16`. -/
def chunk (p : ℕ) : Finset S2x256x512.Idx := Finset.univ.filter fun i => (i 0).val * 16 + (i 1).val / 16 = p

theorem mem_slot256 {p : ℕ} {i : S32x32x256.Idx} : i ∈ slot256 p ↔ (i 0).val = p := by simp [slot256]
theorem mem_slot512 {p : ℕ} {i : S32x16x512.Idx} : i ∈ slot512 p ↔ (i 0).val = p := by simp [slot512]
theorem mem_chunk {p : ℕ} {i : S2x256x512.Idx} : i ∈ chunk p ↔ (i 0).val * 16 + (i 1).val / 16 = p := by simp [chunk]

/-- Where element `x` of the slot at `![p, 0, 0]` lies. -/
theorem sl256_emb (M) (p : Fin 32) {off : Fin 3 → ℕ} {inb} (h : off = ![p.val, 0, 0]) (x : S32x256.Idx) :
    (sl256 M off inb).view.emb x = M.view.emb (ix3 p (x 0) (x 1)) := by
  subst h
  show M.view.emb ((Rect.unit (s := S32x32x256) ![p.val, 0, 0] S1x32x256.size inb).emb (Shape.reshapeEquiv _ x)) = _
  congr 1
  have e := Shape.reshapeEquiv_cons_one (d := ![32, 256]) squeezes_S1x32x256_S32x256.numel_eq x
  funext a
  refine Fin.ext ?_
  show (![p.val, 0, 0] : Fin 3 → ℕ) a + 1 * (Shape.reshapeEquiv squeezes_S1x32x256_S32x256.numel_eq x a : ℕ) = _
  rw [show Shape.reshapeEquiv squeezes_S1x32x256_S32x256.numel_eq x = Fin.cons ⟨0, Nat.one_pos⟩ x from e]
  match a with
  | ⟨0, _⟩ => show p.val + 1 * 0 = p.val; omega
  | ⟨1, _⟩ => show 0 + 1 * (x 0).val = (x 0).val; omega
  | ⟨2, _⟩ => show 0 + 1 * (x 1).val = (x 1).val; omega

/-- Where element `x` of the slot at `![p, 0, 0]` lies. -/
theorem sl512_emb (M) (p : Fin 32) {off : Fin 3 → ℕ} {inb} (h : off = ![p.val, 0, 0]) (x : S16x512.Idx) :
    (sl512 M off inb).view.emb x = M.view.emb (ix3 p (x 0) (x 1)) := by
  subst h
  show M.view.emb ((Rect.unit (s := S32x16x512) ![p.val, 0, 0] S1x16x512.size inb).emb (Shape.reshapeEquiv _ x)) = _
  congr 1
  have e := Shape.reshapeEquiv_cons_one (d := ![16, 512]) squeezes_S1x16x512_S16x512.numel_eq x
  funext a
  refine Fin.ext ?_
  show (![p.val, 0, 0] : Fin 3 → ℕ) a + 1 * (Shape.reshapeEquiv squeezes_S1x16x512_S16x512.numel_eq x a : ℕ) = _
  rw [show Shape.reshapeEquiv squeezes_S1x16x512_S16x512.numel_eq x = Fin.cons ⟨0, Nat.one_pos⟩ x from e]
  match a with
  | ⟨0, _⟩ => show p.val + 1 * 0 = p.val; omega
  | ⟨1, _⟩ => show 0 + 1 * (x 0).val = (x 0).val; omega
  | ⟨2, _⟩ => show 0 + 1 * (x 1).val = (x 1).val; omega

/-- The offsets of chunk `p` in the result. -/
def chunkOff (p : ℕ) : Fin 3 → ℕ := ![p / 16, 16 * (p % 16), 0]

/-- Row `r` of chunk `p`, at column `l`, as an element of the result. -/
def chunkIx (p : Fin 32) (r : Fin 16) (l : Fin 512) : S2x256x512.Idx :=
  ix3 (⟨p.val / 16, by omega⟩ : Fin 2) (⟨16 * (p.val % 16) + r.val, by omega⟩ : Fin 256) l

theorem slOut_emb (p : Fin 32) {off : Fin 3 → ℕ} {inb} (h : off = chunkOff p.val) (x : S1x16x512.Idx) :
    (slOut off inb).view.emb x = (chunkIx p (x 1) (x 2) : S2x256x512.Idx) := by
  subst h
  have h0 : (x 0).val = 0 := by have := (x 0).isLt; change (x 0).val < 1 at this; omega
  funext a
  refine Fin.ext ?_
  match a with
  | ⟨0, _⟩ => show p.val / 16 + 1 * (x 0).val = p.val / 16; omega
  | ⟨1, _⟩ => show 16 * (p.val % 16) + 1 * (x 1).val = 16 * (p.val % 16) + (x 1).val; omega
  | ⟨2, _⟩ => show 0 + 1 * (x 2).val = (x 2).val; omega

theorem sl256_set (M : Memref sig .tc .vmem S32x32x256 .f32) (p : Fin 32) {off : Fin 3 → ℕ} {inb}
    (h : off = ![p.val, 0, 0]) : (sl256 M off inb).view.set = (slot256 p.val).map M.view.emb := by
  ext j
  simp only [View.set, Finset.mem_map, Finset.mem_univ, true_and]
  constructor
  · rintro ⟨x, rfl⟩
    exact ⟨ix3 p (x 0) (x 1), mem_slot256.2 rfl, (sl256_emb M p h x).symm⟩
  · rintro ⟨i, hi, rfl⟩
    refine ⟨ix2 (i 1) (i 2), (sl256_emb M p h _).trans (congrArg _ ?_)⟩
    have : p = i 0 := Fin.ext (mem_slot256.1 hi).symm
    rw [this]; exact (eq_ix3 i).symm

theorem kvs_set (p : Fin 32) {off : Fin 3 → ℕ} {inb} (h : off = ![p.val, 0, 0]) :
    ((sl256 kvsM off inb).view.set : Finset S32x32x256.Idx) = slot256 p.val :=
  (sl256_set kvsM p h).trans (Finset.map_refl)
theorem kvr_set (p : Fin 32) {off : Fin 3 → ℕ} {inb} (h : off = ![p.val, 0, 0]) :
    ((sl256 kvrM off inb).view.set : Finset S32x32x256.Idx) = slot256 p.val :=
  (sl256_set kvrM p h).trans (Finset.map_refl)

theorem sl512_set (M : Memref sig .tc .vmem S32x16x512 .f32) (p : Fin 32) {off : Fin 3 → ℕ} {inb}
    (h : off = ![p.val, 0, 0]) : (sl512 M off inb).view.set = (slot512 p.val).map M.view.emb := by
  ext j
  simp only [View.set, Finset.mem_map, Finset.mem_univ, true_and]
  constructor
  · rintro ⟨x, rfl⟩
    exact ⟨ix3 p (x 0) (x 1), mem_slot512.2 rfl, (sl512_emb M p h x).symm⟩
  · rintro ⟨i, hi, rfl⟩
    refine ⟨ix2 (i 1) (i 2), (sl512_emb M p h _).trans (congrArg _ ?_)⟩
    have : p = i 0 := Fin.ext (mem_slot512.1 hi).symm
    rw [this]; exact (eq_ix3 i).symm

theorem par_set (p : Fin 32) {off : Fin 3 → ℕ} {inb} (h : off = ![p.val, 0, 0]) :
    ((sl512 parM off inb).view.set : Finset S32x16x512.Idx) = slot512 p.val :=
  (sl512_set parM p h).trans (Finset.map_refl)
theorem com_set (p : Fin 32) {off : Fin 3 → ℕ} {inb} (h : off = ![p.val, 0, 0]) :
    ((sl512 comM off inb).view.set : Finset S32x16x512.Idx) = slot512 p.val :=
  (sl512_set comM p h).trans (Finset.map_refl)

theorem slOut_set (p : Fin 32) {off : Fin 3 → ℕ} {inb} (h : off = chunkOff p.val) :
    ((slOut off inb).view.set : Finset S2x256x512.Idx) = chunk p.val := by
  ext j
  simp only [View.set, Finset.mem_map, Finset.mem_univ, true_and]
  constructor
  · rintro ⟨x, rfl⟩
    refine (congrArg (· ∈ chunk p.val) (slOut_emb p h x)).mpr (mem_chunk.2 ?_)
    show p.val / 16 * 16 + (16 * (p.val % 16) + (x 1).val) / 16 = p.val
    have : (x 1).val < 16 := (x 1).isLt
    omega
  · intro hj
    have hj := mem_chunk.1 hj
    have h0 : (j 0).val < 2 := (j 0).isLt
    have h1 : (j 1).val < 256 := (j 1).isLt
    refine ⟨ix3 (0 : Fin 1) (⟨(j 1).val % 16, by omega⟩ : Fin 16) (j 2), (slOut_emb p h _).trans ?_⟩
    funext a
    refine Fin.ext ?_
    match a with
    | ⟨0, _⟩ => show p.val / 16 = (j 0).val; omega
    | ⟨1, _⟩ => show 16 * (p.val % 16) + (j 1).val % 16 = (j 1).val; omega
    | ⟨2, _⟩ => rfl

/-! ## A copy's landing -/

section Landing
variable {κ κ' : Kind} {sp sp' : Space} {s : Shape} {e : EltTy} {Val : EltTy → Type}

/-- A copy lands `g` on the destination's elements when the source reads what the destination would read of `g`. -/
theorem landed_eq (vs : View sig κ sp s e) (vd : View sig κ' sp' s e) (fs : vs.ty.Contents Val) (fd g : vd.ty.Contents Val)
    (h : vs.read Val fs = vd.read Val g) : ∀ i ∈ vd.set, vd.write Val fd (vs.read Val fs) Finset.univ i = g i := by
  intro i hi
  obtain ⟨x, -, rfl⟩ := Finset.mem_map.1 hi
  rw [View.write_emb_of_mem _ _ (Finset.mem_univ x), h, View.read_apply]
  exact cast_cast _ _ _
end Landing

/-! ## The semaphores -/

theorem sem_consecutive {base p : ℕ} (hb : base + S32.numel ≤ 200) (hp : base + p < 200) {off : Fin 1 → ℕ} {inb} (h : off = ![p]) :
    (((SemArray.consecutive base S32 hb : SemArray (Fin 200) S32).slice (Rect.unit (s := S32) off S1.size inb)).squeeze S_ squeezes_S1_S_).sem
      = ⟨base + p, hp⟩ := by
  subst h
  refine Fin.ext ?_
  show base + (S32.rowMajor ((Rect.unit (s := S32) ![p] S1.size inb).emb (Shape.reshapeEquiv squeezes_S1_S_.numel_eq (fun i => i.elim0)))).val = base + p
  rw [Shape.rowMajor_val_one]
  show base + (p + 1 * (Shape.reshapeEquiv squeezes_S1_S_.numel_eq (fun i => i.elim0) (0 : Fin 1)).val) = base + p
  have : (Shape.reshapeEquiv squeezes_S1_S_.numel_eq (fun i => i.elim0) (0 : Fin 1)).val < 1 := Fin.isLt _
  omega

/-- The credit of a copy of one `32 × 256` slot. -/
def N256 : ℕ := (sl256 kvrM ![0, 0, 0] (by decide)).view.dmaCredit
/-- The credit of a copy of one `16 × 512` slot. -/
def N512 : ℕ := (sl512 comM ![0, 0, 0] (by decide)).view.dmaCredit
/-- The credit of a copy of one chunk of the result. -/
def Nout : ℕ := (slOut ![0, 0, 0] (by decide)).view.dmaCredit

theorem N256_pos : 0 < N256 := View.dmaCredit_pos _ (by decide)
theorem N512_pos : 0 < N512 := View.dmaCredit_pos _ (by decide)
theorem Nout_pos : 0 < Nout := View.dmaCredit_pos _ (by decide)

theorem kvr_amount {off inb} (k : DmaSem sig) : (sl256 kvrM off inb).view.amount (.dma k) = N256 := rfl
theorem com_amount {off inb} (k : DmaSem sig) : (sl512 comM off inb).view.amount (.dma k) = N512 := rfl
theorem out_amount {off inb} (k : DmaSem sig) : (slOut off inb).view.amount (.dma k) = Nout := rfl

end Cert.KernelIdeal.Mesh
-- ==== Proof.KI.Vals.lean ====
/-
  What every buffer of the kernel holds, device by device, as functions of the memory at launch: the keys and values each
  device reads, what it sends and receives of them, its own share of the attention's output, and the summed result.
-/
module

public import proofs.«01_k».proof.Proof.KI.Geo
public import proofs.«01_k».proof.Proof.Gen.KernelIdeal.Frame

@[expose] public section

noncomputable section

namespace Cert.KernelIdeal.Mesh

open Idealize.ShloMosaic Idealize.ShloMosaic.TcCoe Idealize.ShloMosaic.ValueIdx Cert.KernelIdeal Cert.KernelIdeal.Gen

variable {F : FTy → Type} [FloatOps F]
variable (m : (ℓ : Loc nD τ sig) → Buf (Elt F) ℓ)

/-! ## What each device reads of the arguments -/

/-- The activations, as device `c` holds them. -/
abbrev xB (c : Dev nD) : Vec F S2x256x512 .f32 := V m c main_arg0
/-- Device `c`'s columns of the query projection. -/
abbrev wqB (c : Dev nD) : Vec F S512x256 .f32 := V m c main_arg1
/-- Device `c`'s rows of the output projection. -/
abbrev woB (c : Dev nD) : Vec F S256x512 .f32 := V m c main_arg4
/-- The keys and the values, their last two axes exchanged by the host. -/
abbrev ktB (c : Dev nD) : Vec F S2x256x64x128 .f32 := V m c main_v1
abbrev vtB (c : Dev nD) : Vec F S2x256x64x128 .f32 := V m c main_v2
/-- The keys (`t = 0`) or the values (`t = 1`). -/
def kvB (c : Dev nD) (t : Fin 2) : Vec F S2x256x64x128 .f32 := if t = 0 then ktB m c else vtB m c

/-- Row `r` of device `c`'s eight. -/
def row8 (c : Fin 32) (r : Fin 8) : Fin 256 := ⟨8 * c.val + r.val, by omega⟩

/-- The eight rows of keys and values that device `c` reads. -/
def rdB (c : Dev nD) : Vec F S2x2x8x64x128 .f32 := fun i =>
  kvB m c (i 0) (ix4 (i 1) (row8 c (i 2)) (i 3) (i 4))

/-! ## The first exchange: each device's heads of the keys and values -/

/-- What device `c` packs for the others: slot `p` has, at row `16 t + 8 b + r` and column `64 h + d`, entry `d` of
    head `4 p + h` of row `r` of batch `b`. -/
def kvs (c : Dev nD) : Vec F S32x32x256 .f32 := fun i =>
  rdB m c (ix5 (⟨(i 1).val / 16, by have : (i 1).val < 32 := (i 1).isLt; omega⟩ : Fin 2)
    (⟨(i 1).val / 8 % 2, by omega⟩ : Fin 2) (⟨(i 1).val % 8, by omega⟩ : Fin 8)
    (⟨(i 2).val % 64, by omega⟩ : Fin 64)
    (⟨4 * (i 0).val + (i 2).val / 64, by have : (i 0).val < 32 := (i 0).isLt; have : (i 2).val < 256 := (i 2).isLt; omega⟩ : Fin 128))

/-- What device `c` has received: slot `j` from device `j`. -/
def kvr (c : Dev nD) : Vec F S32x32x256 .f32 := fun i => kvs m (i 0) (ix3 c (i 1) (i 2))

/-! ## Device `c`'s share of the attention -/

/-- The mask: entries at most 128 from the diagonal. -/
abbrev maskV : IVec S256x256 1 := k0_pay150

/-- Device `c`'s queries of batch `b`. -/
def qB (c : Dev nD) (b : Fin 2) : FVec F S256x256 .f32 :=
  k0_pay151 (wqB m c) (fun i => xB m c (ix3 b (i 1) (i 2)))

/-- Device `c`'s keys (`t = 0`) or values (`t = 1`) of batch `b` and head `h`. -/
def kvH (c : Dev nD) (t b : Fin 2) (h : Fin 4) : Vec F S32x8x64 .f32 := fun i =>
  kvr m c (ix3 (i 0) (⟨16 * t.val + 8 * b.val + (i 1).val, by have : (i 1).val < 8 := (i 1).isLt; omega⟩ : Fin 32)
    (⟨64 * h.val + (i 2).val, by have : (i 2).val < 64 := (i 2).isLt; omega⟩ : Fin 256))

/-- One head's attention from its queries, keys and values. -/
abbrev att (q k v : FVec F S256x64 .f32) : FVec F S256x64 .f32 := k0_pay181 maskV q k v (constant S256x256 .f32 0x00000000#32)
/-- Thirty-two rows of eight, as 256 rows. -/
abbrev rows (k : Vec F S32x8x64 .f32) : FVec F S256x64 .f32 := k0_pay179 k

/-- Device `c`'s share of the output of batch `b`: its four heads' attention against its rows of the output projection. -/
def pb (c : Dev nD) (b : Fin 2) : FVec F S256x512 .f32 :=
  k0_pay185 maskV (woB m c) (qB m c b)
    (att (extractStridedSlice S256x64 ![0, 0] (qB m c b) slices_S256x256_o0_0_S256x64) (rows (kvH m c 0 b 0)) (rows (kvH m c 1 b 0)))
    (att (extractStridedSlice S256x64 ![0, 64] (qB m c b) slices_S256x256_o0_64_S256x64) (rows (kvH m c 0 b 1)) (rows (kvH m c 1 b 1)))
    (extractStridedSlice S256x64 ![0, 128] (qB m c b) slices_S256x256_o0_128_S256x64)
    (rows (kvH m c 0 b 2)) (kvH m c 1 b 2) (kvH m c 0 b 3) (kvH m c 1 b 3)

/-- The same, as thirty-two chunks of sixteen rows, batch after batch. -/
def par (c : Dev nD) : Vec F S32x16x512 .f32 := fun i =>
  pb m c (⟨(i 0).val / 16, by have : (i 0).val < 32 := (i 0).isLt; omega⟩ : Fin 2)
    (ix2 (⟨16 * ((i 0).val % 16) + (i 1).val, by have : (i 1).val < 16 := (i 1).isLt; omega⟩ : Fin 256) (i 2))

/-! ## The second and third exchanges: the sum over the devices, gathered -/

/-- What device `c` has received: slot `j` is device `j`'s share of chunk `c`. -/
def com (c : Dev nD) : Vec F S32x16x512 .f32 := fun i => par m (i 0) (ix3 c (i 1) (i 2))

/-- Chunk `c` of the result: the sum of the shares. -/
def red (c : Dev nD) : Vec F S1x16x512 .f32 := k0_pay207 (com m c)

/-- The result, chunk `p` from device `p`. -/
def res : Vec F S2x256x512 .f32 := fun i =>
  red m (⟨16 * (i 0).val + (i 1).val / 16, by
      have : (i 0).val < 2 := (i 0).isLt; have : (i 1).val < 256 := (i 1).isLt; show _ < 32; omega⟩ : Dev nD)
    (ix3 (0 : Fin 1) (⟨(i 1).val % 16, by omega⟩ : Fin 16) (i 2))

/-! ## The slots agree across the exchanges -/

theorem kvr_slot (c p : Dev nD) {offs offd : Fin 3 → ℕ} {inbs inbd} (hs : offs = ![c.val, 0, 0]) (hd : offd = ![p.val, 0, 0]) :
    (sl256 kvsM offs inbs).view.read (Elt F) (kvs m p) = (sl256 kvrM offd inbd).view.read (Elt F) (kvr m c) := by
  funext x
  rw [View.read_apply, View.read_apply, sl256_emb kvsM c hs, sl256_emb kvrM p hd]
  rfl

theorem com_slot (c p : Dev nD) {offs offd : Fin 3 → ℕ} {inbs inbd} (hs : offs = ![c.val, 0, 0]) (hd : offd = ![p.val, 0, 0]) :
    (sl512 parM offs inbs).view.read (Elt F) (par m p) = (sl512 comM offd inbd).view.read (Elt F) (com m c) := by
  funext x
  rw [View.read_apply, View.read_apply, sl512_emb parM c hs, sl512_emb comM p hd]
  rfl

theorem res_chunkIx (p : Fin 32) (r : Fin 16) (l : Fin 512) : res m (chunkIx p r l) = red m p (ix3 (0 : Fin 1) r l) := by
  have e1 : (16 * (p.val / 16) + (16 * (p.val % 16) + r.val) / 16) = p.val := by omega
  have e2 : (16 * (p.val % 16) + r.val) % 16 = r.val := by omega
  have h : ∀ (a a' : Dev nD) (b b' : Fin 16), a = a' → b = b' → red m a (ix3 (0 : Fin 1) b l) = red m a' (ix3 (0 : Fin 1) b' l) := by
    rintro a _ b _ rfl rfl; rfl
  exact h _ _ _ _ (Fin.ext e1) (Fin.ext e2)

theorem out_slot (p : Dev nD) {offd : Fin 3 → ℕ} {inbd} (hd : offd = chunkOff p.val) :
    redM.view.read (Elt F) (red m p) = (slOut offd inbd).view.read (Elt F) (res m) := by
  funext x
  rw [View.read_apply, View.read_apply, slOut_emb p hd]
  have h0 : x 0 = (0 : Fin 1) := Subsingleton.elim (α := Fin 1) _ _
  refine (?_ : red m p x = res m (chunkIx p (x 1) (x 2)))
  refine Eq.trans ?_ (res_chunkIx m p (x 1) (x 2)).symm
  refine congrArg (red m p) ((eq_ix3 x).trans ?_)
  rw [h0]; rfl

end Cert.KernelIdeal.Mesh
-- ==== Proof.KI.Proto.lean ====
/-
  The protocol of the kernel's semaphores, written as one round per semaphore.

  The barrier of device `c` is signalled once by every other device `p`; with its unit `p` hands `c` the places on `p` that
  `c` will write: slot `c` of the two receive buffers and chunk `c` of the result. Each of the three exchanges `a` has a send
  and a receive semaphore per peer: the copy from `c` to `p` credits `snd a p` on `c`, handing the source back, and
  `rcv a c` on `p`, handing `p` what landed. The seven local copies have a semaphore each.
-/
module

public import proofs.«01_k».proof.Proof.KI.Vals
public import Idealize.ShloMosaic.Lib.ValueLayout

@[expose] public section

noncomputable section

namespace Cert.KernelIdeal.Mesh

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UM : Type := URounds (GSem nD τ sig) (Dev nD)
abbrev UU : Type := UR sig nD τ × UM

local notation "𝕄" => MT nD τ sig Unit (Elt F) ℕ UU ℕ

abbrev EP : Emb (UR sig nD τ) (MT nD τ sig Unit (Elt F) ℕ UU ℕ) := embL
abbrev ER : Emb UM (MT nD τ sig Unit (Elt F) ℕ UU ℕ) := embR

variable (m : (ℓ : Loc nD τ sig) → Buf (Elt F) ℓ)

/-! ## The semaphores and what each is for -/

abbrev barS : Sem sig := barrier0
/-- The semaphore that the copy of exchange `a` to device `p` credits on its sender. -/
def snd (a : Fin 3) (p : Dev nD) : DmaSem sig := (⟨8 + 64 * a.val + p.val, by have h : p.val < 32 := p.isLt; omega⟩ : Fin 200)
/-- The semaphore that the copy of exchange `a` from device `p` credits on its receiver. -/
def rcv (a : Fin 3) (p : Dev nD) : DmaSem sig := (⟨40 + 64 * a.val + p.val, by have h : p.val < 32 := p.isLt; omega⟩ : Fin 200)
/-- The semaphore of local copy `k`. -/
def lcl (k : Fin 7) : DmaSem sig := (⟨1 + k.val, by omega⟩ : Fin 200)

/-- What a semaphore is for. -/
inductive Role where
  | none
  | bar
  | lcl (k : Fin 7)
  | snd (a : Fin 3) (p : Dev nD)
  | rcv (a : Fin 3) (p : Dev nD)

def dmaRole (k : Fin 200) : Role :=
  if h0 : k.val < 1 then .none
  else if h1 : k.val < 8 then .lcl ⟨k.val - 1, by omega⟩
  else if h2 : (k.val - 8) % 64 < 32 then .snd ⟨(k.val - 8) / 64, by omega⟩ ⟨(k.val - 8) % 64, h2⟩
  else .rcv ⟨(k.val - 8) / 64, by omega⟩ ⟨(k.val - 8) % 64 - 32, by show _ < 32; omega⟩

def role : SemLoc sig → Role
  | .reg _ => .bar
  | .dma k => dmaRole k

theorem role_bar : role (.reg barS) = .bar := rfl
theorem role_snd (a : Fin 3) (p : Dev nD) : role (.dma (snd a p)) = .snd a p := by
  have hp : p.val < 32 := p.isLt
  show dmaRole ⟨8 + 64 * a.val + p.val, _⟩ = _
  unfold dmaRole
  rw [dif_neg (by dsimp only; omega), dif_neg (by dsimp only; omega), dif_pos (by dsimp only; omega)]
  congr 1
  · exact Fin.ext (by dsimp only; omega)
  · exact Fin.ext (by dsimp only; omega)
theorem role_rcv (a : Fin 3) (p : Dev nD) : role (.dma (rcv a p)) = .rcv a p := by
  have hp : p.val < 32 := p.isLt
  show dmaRole ⟨40 + 64 * a.val + p.val, _⟩ = _
  unfold dmaRole
  rw [dif_neg (by dsimp only; omega), dif_neg (by dsimp only; omega), dif_neg (by dsimp only; omega)]
  congr 1
  · exact Fin.ext (by dsimp only; omega)
  · exact Fin.ext (by dsimp only; omega)
theorem role_lcl (k : Fin 7) : role (.dma (lcl k)) = .lcl k := by
  show dmaRole ⟨1 + k.val, _⟩ = _
  unfold dmaRole
  rw [dif_neg (by dsimp only; omega), dif_pos (by dsimp only; omega)]
  congr 1
  exact Fin.ext (by dsimp only; omega)

abbrev cellB (c : Dev nD) : GSem nD τ sig := ((c : Thread nD τ), .reg barS)
abbrev cellD (c : Dev nD) (k : DmaSem sig) : GSem nD τ sig := ((c : Thread nD τ), .dma k)

/-! ## The slices the local copies name -/

/-- A slice of eight rows of one batch of the keys or the values. -/
abbrev slSrc (M : Memref sig .tc .hbm S2x256x64x128 .f32) (off : Fin 4 → ℕ) (inb : ∀ a, off a + S1x8x64x128.size a ≤ S2x256x64x128.size a) :
    Memref sig .tc .hbm S8x64x128 .f32 :=
  (M.slice (Rect.unit (s := S2x256x64x128) off S1x8x64x128.size inb) (fun _ => rfl)).squeeze S8x64x128 squeezes_S1x8x64x128_S8x64x128
/-- The place of those eight rows in scratch memory. -/
abbrev slRd (off : Fin 5 → ℕ) (inb : ∀ a, off a + S1x1x8x64x128.size a ≤ S2x2x8x64x128.size a) : Memref sig .tc .vmem S8x64x128 .f32 :=
  (rdM.slice (Rect.unit (s := S2x2x8x64x128) off S1x1x8x64x128.size inb) (fun _ => rfl)).squeeze S8x64x128 squeezes_S1x1x8x64x128_S8x64x128

/-- Rows `8 c` to `8 c + 7` of batch `b`. -/
def srcSet (b c : ℕ) : Finset S2x256x64x128.Idx := Finset.univ.filter fun i => (i 0).val = b ∧ (i 1).val / 8 = c
def rdSet (t b : ℕ) : Finset S2x2x8x64x128.Idx := Finset.univ.filter fun i => (i 0).val = t ∧ (i 1).val = b
theorem mem_srcSet {b c : ℕ} {i : S2x256x64x128.Idx} : i ∈ srcSet b c ↔ (i 0).val = b ∧ (i 1).val / 8 = c := by simp [srcSet]
theorem mem_rdSet {t b : ℕ} {i : S2x2x8x64x128.Idx} : i ∈ rdSet t b ↔ (i 0).val = t ∧ (i 1).val = b := by simp [rdSet]

theorem slSrc_emb (M) (b : Fin 2) (c : Fin 32) {off : Fin 4 → ℕ} {inb} (h : off = ![b.val, 8 * c.val, 0, 0]) (x : S8x64x128.Idx) :
    (slSrc M off inb).view.emb x = M.view.emb (ix4 b (row8 c (x 0)) (x 1) (x 2)) := by
  subst h
  show M.view.emb ((Rect.unit (s := S2x256x64x128) ![b.val, 8 * c.val, 0, 0] S1x8x64x128.size inb).emb (Shape.reshapeEquiv _ x)) = _
  congr 1
  have e := Shape.reshapeEquiv_cons_one (d := ![8, 64, 128]) squeezes_S1x8x64x128_S8x64x128.numel_eq x
  funext a
  refine Fin.ext ?_
  show (![b.val, 8 * c.val, 0, 0] : Fin 4 → ℕ) a + 1 * (Shape.reshapeEquiv squeezes_S1x8x64x128_S8x64x128.numel_eq x a : ℕ) = _
  rw [show Shape.reshapeEquiv squeezes_S1x8x64x128_S8x64x128.numel_eq x = Fin.cons ⟨0, Nat.one_pos⟩ x from e]
  match a with
  | ⟨0, _⟩ => show b.val + 1 * 0 = b.val; omega
  | ⟨1, _⟩ => show 8 * c.val + 1 * (x 0).val = 8 * c.val + (x 0).val; omega
  | ⟨2, _⟩ => show 0 + 1 * (x 1).val = (x 1).val; omega
  | ⟨3, _⟩ => show 0 + 1 * (x 2).val = (x 2).val; omega

theorem slRd_emb (t b : Fin 2) {off : Fin 5 → ℕ} {inb} (h : off = ![t.val, b.val, 0, 0, 0]) (x : S8x64x128.Idx) :
    (slRd off inb).view.emb x = (ix5 t b (x 0) (x 1) (x 2) : S2x2x8x64x128.Idx) := by
  subst h
  have e : Shape.reshapeEquiv squeezes_S1x1x8x64x128_S8x64x128.numel_eq x = ix5 (0 : Fin 1) (0 : Fin 1) (x 0) (x 1) (x 2) :=
    (congrArg (Shape.reshapeEquiv squeezes_S1x1x8x64x128_S8x64x128.numel_eq) (eq_ix3 x)).trans (reshapeEquiv_ix3_11abc _ _ _ _)
  funext a
  refine Fin.ext ?_
  show (![t.val, b.val, 0, 0, 0] : Fin 5 → ℕ) a + 1 * (Shape.reshapeEquiv squeezes_S1x1x8x64x128_S8x64x128.numel_eq x a : ℕ) = _
  rw [e]
  match a with
  | ⟨0, _⟩ => show t.val + 1 * 0 = t.val; omega
  | ⟨1, _⟩ => show b.val + 1 * 0 = b.val; omega
  | ⟨2, _⟩ => show 0 + 1 * (x 0).val = (x 0).val; omega
  | ⟨3, _⟩ => show 0 + 1 * (x 1).val = (x 1).val; omega
  | ⟨4, _⟩ => show 0 + 1 * (x 2).val = (x 2).val; omega

theorem slSrc_set (M : Memref sig .tc .hbm S2x256x64x128 .f32) (b : Fin 2) (c : Fin 32) {off : Fin 4 → ℕ} {inb}
    (h : off = ![b.val, 8 * c.val, 0, 0]) : (slSrc M off inb).view.set = (srcSet b.val c.val).map M.view.emb := by
  ext j
  simp only [View.set, Finset.mem_map, Finset.mem_univ, true_and]
  constructor
  · rintro ⟨x, rfl⟩
    have h8 : (x 0).val < 8 := (x 0).isLt
    exact ⟨ix4 b (row8 c (x 0)) (x 1) (x 2), mem_srcSet.2 ⟨rfl, (by show (8 * c.val + (x 0).val) / 8 = c.val; omega)⟩, (slSrc_emb M b c h x).symm⟩
  · rintro ⟨i, hi, rfl⟩
    obtain ⟨h0, h1⟩ := mem_srcSet.1 hi
    refine ⟨ix3 (⟨(i 1).val % 8, by omega⟩ : Fin 8) (i 2) (i 3), (slSrc_emb M b c h _).trans (congrArg _ ?_)⟩
    funext a
    refine Fin.ext ?_
    match a with
    | ⟨0, _⟩ => exact h0.symm
    | ⟨1, _⟩ => show 8 * c.val + (i 1).val % 8 = (i 1).val; omega
    | ⟨2, _⟩ => rfl
    | ⟨3, _⟩ => rfl

theorem slRd_set (t b : Fin 2) {off : Fin 5 → ℕ} {inb} (h : off = ![t.val, b.val, 0, 0, 0]) :
    ((slRd off inb).view.set : Finset S2x2x8x64x128.Idx) = rdSet t.val b.val := by
  ext j
  simp only [View.set, Finset.mem_map, Finset.mem_univ, true_and]
  constructor
  · rintro ⟨x, rfl⟩
    exact (congrArg (· ∈ rdSet t.val b.val) (slRd_emb t b h x)).mpr (mem_rdSet.2 ⟨rfl, rfl⟩)
  · intro hj
    obtain ⟨h0, h1⟩ := mem_rdSet.1 hj
    refine ⟨ix3 (j 2) (j 3) (j 4), (slRd_emb t b h _).trans ?_⟩
    funext a
    refine Fin.ext ?_
    match a with
    | ⟨0, _⟩ => exact h0.symm
    | ⟨1, _⟩ => exact h1.symm
    | ⟨2, _⟩ => rfl
    | ⟨3, _⟩ => rfl
    | ⟨4, _⟩ => rfl

/-! ## What each landing hands over -/

abbrev pt (c : Dev nD) (b : Ref sig .tc) (f : b.ty.Contents (Elt F)) : sProp 𝕄 := ((c : Thread nD τ).loc b) ↦{fullShare} f
abbrev ptS (c : Dev nD) (b : Ref sig .tc) (S : Finset b.ty.shape.Idx) (f : b.ty.Contents (Elt F)) : sProp 𝕄 := ((c : Thread nD τ).loc b) ↦[S]{fullShare} f

/-- The buffer of the result's window. -/
abbrev outR : Ref sig .tc := outM.view.ref

/-- The share of chunk `c`'s sum that the copy to device `p` reads. -/
abbrev redTok (c p : Dev nD) : sProp 𝕄 := ((c : Thread nD τ).loc cc0_scratch8) ↦{Transfers.shareTokN fullShare p.val} red m c

/-- The source of device `c`'s copy to `p` in exchange `a`. -/
def srcP (a : Fin 3) (c p : Dev nD) : sProp 𝕄 :=
  if a = 0 then ptS c cc0_scratch4 (slot256 p.val) (kvs m c)
  else if a = 1 then ptS c cc0_scratch6 (slot512 p.val) (par m c)
  else redTok m c p
/-- Where device `p`'s copy of exchange `a` lands on device `c`, at contents not chosen. -/
def anyP (a : Fin 3) (c p : Dev nD) : sProp 𝕄 :=
  if a = 0 then iprop(∃ f, ptS c cc0_scratch5 (slot256 p.val) f)
  else if a = 1 then iprop(∃ f, ptS c cc0_scratch7 (slot512 p.val) f)
  else iprop(∃ f, ptS c outR (chunk p.val) f)
/-- The same, at what lands. -/
def landP (a : Fin 3) (c p : Dev nD) : sProp 𝕄 :=
  if a = 0 then ptS c cc0_scratch5 (slot256 p.val) (kvr m c)
  else if a = 1 then ptS c cc0_scratch7 (slot512 p.val) (com m c)
  else ptS c outR (chunk p.val) (res m)

/-- What device `p`'s signal hands device `c`. -/
def barP (c p : Dev nD) : sProp 𝕄 :=
  iprop((anyP 0 p c ∗ anyP 1 p c ∗ anyP 2 p c) ∗ (reached ER (cellD p (rcv 0 c)) 0 ∗ reached ER (cellD p (rcv 1 c)) 0 ∗ reached ER (cellD p (rcv 2 c)) 0))

/-- The place in scratch memory of the eight rows read by local copy `3 + 2 t + b`. -/
abbrev rdP (c : Dev nD) (t b : Fin 2) : sProp 𝕄 := ptS c cc0_scratch3 (rdSet t.val b.val) (rdB m c)

/-- What local copy `k` of device `c` hands back: its destination and its source. -/
def lclP (c : Dev nD) (k : Fin 7) : sProp 𝕄 :=
  match k with
  | 0 => iprop(pt c cc0_scratch0 (xB m c) ∗ pt c main_arg0 (V m c main_arg0))
  | 1 => iprop(pt c cc0_scratch1 (wqB m c) ∗ pt c main_arg1 (V m c main_arg1))
  | 2 => iprop(pt c cc0_scratch2 (woB m c) ∗ pt c main_arg4 (V m c main_arg4))
  | 3 => iprop(rdP m c 0 0 ∗ ptS c main_v1 (srcSet 0 c.val) (V m c main_v1))
  | 4 => iprop(rdP m c 0 1 ∗ ptS c main_v1 (srcSet 1 c.val) (V m c main_v1))
  | 5 => iprop(rdP m c 1 0 ∗ ptS c main_v2 (srcSet 0 c.val) (V m c main_v2))
  | 6 => iprop(rdP m c 1 1 ∗ ptS c main_v2 (srcSet 1 c.val) (V m c main_v2))

/-! ## The amounts -/

def NX : ℕ := xvM.view.dmaCredit
def NQ : ℕ := wqM.view.dmaCredit
def NO : ℕ := woM.view.dmaCredit
def NR : ℕ := (slRd ![0, 0, 0, 0, 0] (by decide)).view.dmaCredit
/-- The credit of a copy of exchange `a`. -/
def NA (a : Fin 3) : ℕ := if a = 0 then N256 else if a = 1 then N512 else Nout
/-- The credit of local copy `k`. -/
def NL (k : Fin 7) : ℕ := if k = 0 then NX else if k = 1 then NQ else if k = 2 then NO else NR

theorem NA_pos (a : Fin 3) : 0 < NA a := by
  unfold NA; split
  · exact N256_pos
  split
  · exact N512_pos
  exact Nout_pos
theorem NL_pos (k : Fin 7) : 0 < NL k := by
  unfold NL; split
  · exact View.dmaCredit_pos _ (by decide)
  split
  · exact View.dmaCredit_pos _ (by decide)
  split
  · exact View.dmaCredit_pos _ (by decide)
  exact View.dmaCredit_pos _ (by decide)

/-! ## The schedule -/

/-- Who pays a semaphore of device `c`. -/
def payers (c : Dev nD) : Role → Finset (Dev nD)
  | .none => ∅
  | .bar => Finset.univ.erase c
  | .lcl _ => {c}
  | .snd _ p => if p = c then ∅ else {c}
  | .rcv _ p => if p = c then ∅ else {p}

def amt : Role → ℕ
  | .none => 1
  | .bar => 1
  | .lcl k => NL k
  | .snd a _ => NA a
  | .rcv a _ => NA a

def pay (c d : Dev nD) : Role → sProp 𝕄
  | .none => iprop(emp)
  | .bar => barP c d
  | .lcl k => lclP m c k
  | .snd a p => srcP m a c p
  | .rcv a p => landP m a c p

def Rd : Rounds.Schedule (GSem nD τ sig) (Dev nD) 𝕄 where
  duties g r := if r = 0 ∧ g.1.2 = .tc then payers g.1.1 (role g.2) else ∅
  unitless _ := False
  amount g _ _ := amt (role g.2)
  payload g _ d := pay m g.1.1 d (role g.2)
  amount_pos g _ _ _ := by
    cases h : role g.2
    · exact Nat.one_pos
    · exact Nat.one_pos
    · exact NL_pos _
    · exact NA_pos _
    · exact NA_pos _

instance Rd_payload_storable (g : GSem nD τ sig) (r : ℕ) (d : Dev nD) :
    BI.Storable (upEmb : UEmb _ 𝕄) ((Rd (F := F) m).payload g r d) := by
  show BI.Storable upEmb (pay m g.1.1 d (role g.2))
  cases role g.2 with
  | none => unfold pay; infer_instance
  | bar => unfold pay barP anyP; dsimp only; (repeat' split) <;> infer_instance
  | lcl k => unfold pay lclP; dsimp only; split <;> infer_instance
  | snd a p => unfold pay srcP; dsimp only; (repeat' split) <;> infer_instance
  | rcv a p => unfold pay landP; dsimp only; (repeat' split) <;> infer_instance

theorem duties_bar (c : Dev nD) : (Rd (F := F) m).duties (cellB c) 0 = Finset.univ.erase c := by dsimp only [Rd]; exact if_pos ⟨rfl, rfl⟩
theorem duties_lcl (c : Dev nD) (k) : (Rd (F := F) m).duties (cellD c (lcl k)) 0 = {c} := by
  dsimp only [Rd]; rw [if_pos ⟨rfl, rfl⟩, role_lcl]; rfl
theorem duties_snd (c : Dev nD) (a p) (h : p ≠ c) : (Rd (F := F) m).duties (cellD c (snd a p)) 0 = {c} := by
  dsimp only [Rd]; rw [if_pos ⟨rfl, rfl⟩, role_snd]; exact if_neg h
theorem duties_rcv (c : Dev nD) (a p) (h : p ≠ c) : (Rd (F := F) m).duties (cellD c (rcv a p)) 0 = {p} := by
  dsimp only [Rd]; rw [if_pos ⟨rfl, rfl⟩, role_rcv]; exact if_neg h
theorem duties_snd_self (c : Dev nD) (a) : (Rd (F := F) m).duties (cellD c (snd a c)) 0 = ∅ := by
  dsimp only [Rd]; rw [if_pos ⟨rfl, rfl⟩, role_snd]; exact if_pos rfl
theorem duties_rcv_self (c : Dev nD) (a) : (Rd (F := F) m).duties (cellD c (rcv a c)) 0 = ∅ := by
  dsimp only [Rd]; rw [if_pos ⟨rfl, rfl⟩, role_rcv]; exact if_pos rfl
theorem duties_later (g : GSem nD τ sig) : ∀ r, 1 ≤ r → (Rd (F := F) m).duties g r = ∅ :=
  fun r hr => by dsimp only [Rd]; rw [if_neg (fun h => by omega)]

theorem amount_bar (c d : Dev nD) : (Rd (F := F) m).amount (cellB c) 0 d = 1 := rfl
theorem amount_lcl (c d : Dev nD) (k) : (Rd (F := F) m).amount (cellD c (lcl k)) 0 d = NL k := by dsimp only [Rd]; rw [role_lcl]; rfl
theorem amount_snd (c d : Dev nD) (a p) : (Rd (F := F) m).amount (cellD c (snd a p)) 0 d = NA a := by dsimp only [Rd]; rw [role_snd]; rfl
theorem amount_rcv (c d : Dev nD) (a p) : (Rd (F := F) m).amount (cellD c (rcv a p)) 0 d = NA a := by dsimp only [Rd]; rw [role_rcv]; rfl

theorem payload_bar (c d : Dev nD) : (Rd (F := F) m).payload (cellB c) 0 d = barP c d := rfl
theorem payload_lcl (c d : Dev nD) (k) : (Rd (F := F) m).payload (cellD c (lcl k)) 0 d = lclP m c k := by dsimp only [Rd]; rw [role_lcl]; rfl
theorem payload_snd (c d : Dev nD) (a p) : (Rd (F := F) m).payload (cellD c (snd a p)) 0 d = srcP m a c p := by dsimp only [Rd]; rw [role_snd]; rfl
theorem payload_rcv (c d : Dev nD) (a p) : (Rd (F := F) m).payload (cellD c (rcv a p)) 0 d = landP m a c p := by dsimp only [Rd]; rw [role_rcv]; rfl

theorem expect_bar (c : Dev nD) : (Rd (F := F) m).expect (cellB c) 0 = 31 := by
  unfold Schedule.expect Schedule.amountOf
  rw [duties_bar, Finset.sum_congr rfl fun d _ => amount_bar m c d, Finset.sum_const, Finset.card_erase_of_mem (Finset.mem_univ c)]
  rfl
theorem expect_lcl (c : Dev nD) (k) : (Rd (F := F) m).expect (cellD c (lcl k)) 0 = NL k := by
  unfold Schedule.expect Schedule.amountOf; rw [duties_lcl, Finset.sum_singleton, amount_lcl]
theorem expect_snd (c : Dev nD) (a p) (h : p ≠ c) : (Rd (F := F) m).expect (cellD c (snd a p)) 0 = NA a := by
  unfold Schedule.expect Schedule.amountOf; rw [duties_snd m c a p h, Finset.sum_singleton, amount_snd]
theorem expect_rcv (c : Dev nD) (a p) (h : p ≠ c) : (Rd (F := F) m).expect (cellD c (rcv a p)) 0 = NA a := by
  unfold Schedule.expect Schedule.amountOf; rw [duties_rcv m c a p h, Finset.sum_singleton, amount_rcv]

theorem rest_bar (c : Dev nD) : bigSep ((Rd (F := F) m).duties (cellB c) 0 \ ∅) (fun d => (Rd (F := F) m).payload (cellB c) 0 d)
    = bigSep (Finset.univ.erase c) fun p => barP c p := by
  rw [Finset.sdiff_empty, duties_bar]; rfl
theorem rest_lcl (c : Dev nD) (k) : bigSep ((Rd (F := F) m).duties (cellD c (lcl k)) 0 \ ∅) (fun d => (Rd (F := F) m).payload (cellD c (lcl k)) 0 d)
    = lclP m c k := by
  rw [Finset.sdiff_empty, duties_lcl, bigSep_singleton, payload_lcl]
theorem rest_snd (c : Dev nD) (a p) (h : p ≠ c) : bigSep ((Rd (F := F) m).duties (cellD c (snd a p)) 0 \ ∅) (fun d => (Rd (F := F) m).payload (cellD c (snd a p)) 0 d)
    = srcP m a c p := by
  rw [Finset.sdiff_empty, duties_snd m c a p h, bigSep_singleton, payload_snd]
theorem rest_rcv (c : Dev nD) (a p) (h : p ≠ c) : bigSep ((Rd (F := F) m).duties (cellD c (rcv a p)) 0 \ ∅) (fun d => (Rd (F := F) m).payload (cellD c (rcv a p)) 0 d)
    = landP m a c p := by
  rw [Finset.sdiff_empty, duties_rcv m c a p h, bigSep_singleton, payload_rcv]

/-! ## What each device owes; the levels -/

/-- One unit owed to the barrier of each device of `s`. -/
def oB (s : Finset (Dev nD)) : CellTallies nD τ sig Unit := ∑ p ∈ s, tallyAt (cellB p) () 1
/-- A landing of exchange `a` owed by device `c` to each device of `s`. -/
def oR (a : Fin 3) (c : Dev nD) (s : Finset (Dev nD)) : CellTallies nD τ sig Unit := ∑ p ∈ s, tallyAt (cellD p (rcv a c)) () (NA a)

/-- All but `c`. -/
abbrev others (c : Dev nD) : Finset (Dev nD) := Finset.univ.erase c

/-- What device `c` owes at launch. -/
def O₀ (c : Dev nD) : CellTallies nD τ sig Unit :=
  oB (others c) + (oR 0 c (others c) + (oR 1 c (others c) + oR 2 c (others c)))

def L (g : GSem nD τ sig) : Finset Unit := if g.1.2 = .tc then {()} else ∅
/-- The barrier at 1, the landings of exchange `a` at `2 + a`, the rest at 0. -/
def lvR : Role → ℕ
  | .bar => 1
  | .rcv a _ => 2 + a.val
  | _ => 0
def lv (g : GSem nD τ sig) (_ : Unit) : ℕ := lvR (role g.2)

theorem L_of_ne (g : GSem nD τ sig) (h : g.1.2 ≠ .tc) : L g = ∅ := if_neg h
theorem L_tc (c : Dev nD) (sm : SemLoc sig) : L ((c : Thread nD τ), sm) = {()} := if_pos rfl

theorem tally_sum_pos {ι : Type} [DecidableEq ι] {s : Finset ι} {f : ι → GSem nD τ sig} {n : ℕ} {g : GSem nD τ sig} {u : Unit}
    (h : 0 < (∑ p ∈ s, tallyAt (f p) () n : CellTallies nD τ sig Unit) g u) : ∃ p ∈ s, g = f p := by
  induction s using Finset.induction_on with
  | empty => exact absurd h (Nat.lt_irrefl 0)
  | insert i s hi ih =>
    rw [Finset.sum_insert hi, Pi.add_apply, Finsupp.add_apply] at h
    rcases Nat.add_pos_iff_pos_or_pos.mp h with h | h
    · rw [tallyAt_apply] at h
      split at h
      · next hg => exact ⟨i, Finset.mem_insert_self _ _, hg.1⟩
      · exact absurd h (Nat.lt_irrefl 0)
    · obtain ⟨p, hp, e⟩ := ih h
      exact ⟨p, Finset.mem_insert_of_mem hp, e⟩

/-- Everything owed in `O` is at a level above `n`. -/
def Above (n : ℕ) (O : CellTallies nD τ sig Unit) : Prop := ∀ g u, 0 < O g u → g.1.2 = .tc ∧ n < lv g u

theorem above_zero (n : ℕ) : Above n 0 := fun _ _ h => absurd h (Nat.lt_irrefl 0)
theorem above_add {n : ℕ} {O O'} (h : Above n O) (h' : Above n O') : Above n (O + O') := fun g u hg => by
  rw [Pi.add_apply, Finsupp.add_apply] at hg
  rcases Nat.add_pos_iff_pos_or_pos.mp hg with hg | hg
  · exact h g u hg
  · exact h' g u hg
theorem above_oR (n : ℕ) (a : Fin 3) (c : Dev nD) (s) (hn : n < 2 + a.val) : Above n (oR a c s) := fun g u hg => by
  obtain ⟨p, -, rfl⟩ := tally_sum_pos hg
  refine ⟨rfl, ?_⟩
  unfold lv; rw [role_rcv]; exact hn
theorem above_oB (s) : Above 0 (oB s) := fun g u hg => by
  obtain ⟨p, -, rfl⟩ := tally_sum_pos hg
  exact ⟨rfl, Nat.one_pos⟩

theorem mayWait (c : Dev nD) (sm : SemLoc sig) (O) (n : ℕ) (hn : lvR (role sm) ≤ n) (h : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact hn)
    (fun g u hg => (h g u hg).2)

/-! ## What every step may consult -/

/-- The kernel's own semaphores. -/
abbrev osem : Fin 199 → SemLoc sig := fun k => .dma (⟨1 + k.val, by omega⟩ : Fin 200)

/-- The invariants of every semaphore of the mesh; that every barrier's round has begun and that the round of each of device
    `c`'s own semaphores has; the levels. -/
def ctx (K : GSem nD τ sig → ℕ) (c : Dev nD) : sProp 𝕄 :=
  iprop(levAts L lv
    ∗ (bigSep Finset.univ fun p : Dev nD => cellInv ER (Rd m) (K (cellB p)) (cellB p))
    ∗ (bigSep Finset.univ fun p : Dev nD => reached ER (cellB p) 0)
    ∗ (bigSep Finset.univ fun p : Dev nD => bigSep Finset.univ fun k : Fin 199 => cellInv ER (Rd m) (K ((p : Thread nD τ), osem k)) ((p : Thread nD τ), osem k))
    ∗ (bigSep Finset.univ fun k : Fin 199 => reached ER ((c : Thread nD τ), osem k) 0))

instance ctx_persistent (K : GSem nD τ sig → ℕ) (c : Dev nD) : BI.Persistent (ctx m K c) := by unfold ctx; infer_instance

variable {m}
variable {K : GSem nD τ sig → ℕ} {c : Dev nD}

theorem ctx_lev : ctx m K c ⊢ levAts L lv := by
  unfold ctx; exact Laws.sep_elim_left
theorem ctx_invB (p : Dev nD) : ctx m K c ⊢ cellInv ER (Rd m) (K (cellB p)) (cellB p) := by
  unfold ctx
  exact Laws.sep_elim_right.trans (Laws.sep_elim_left.trans (bigSep_elim (Finset.mem_univ p)))
theorem ctx_reachedB (p : Dev nD) : ctx m K c ⊢ reached ER (cellB p) 0 := by
  unfold ctx
  exact Laws.sep_elim_right.trans (Laws.sep_elim_right.trans (Laws.sep_elim_left.trans (bigSep_elim (Finset.mem_univ p))))
theorem ctx_invK (p : Dev nD) (k : Fin 199) : ctx m K c ⊢ cellInv ER (Rd m) (K ((p : Thread nD τ), osem k)) ((p : Thread nD τ), osem k) := by
  unfold ctx
  exact Laws.sep_elim_right.trans (Laws.sep_elim_right.trans (Laws.sep_elim_right.trans (Laws.sep_elim_left.trans ((bigSep_elim (Finset.mem_univ p)).trans (bigSep_elim (Finset.mem_univ k))))))
theorem ctx_reachedK (k : Fin 199) : ctx m K c ⊢ reached ER ((c : Thread nD τ), osem k) 0 := by
  unfold ctx
  exact Laws.sep_elim_right.trans (Laws.sep_elim_right.trans (Laws.sep_elim_right.trans (Laws.sep_elim_right.trans (bigSep_elim (Finset.mem_univ k)))))

theorem osem_of (k : DmaSem sig) (h : k ≠ (0 : Fin 200)) : ∃ k', osem k' = .dma k := by
  have h0 : (k : Fin 200).val ≠ 0 := fun e => h (Fin.ext e)
  have hlt : (k : Fin 200).val < 200 := Fin.isLt _
  exact ⟨⟨(k : Fin 200).val - 1, by omega⟩, congrArg SemLoc.dma (Fin.ext (by dsimp only; omega))⟩
theorem ctx_inv (p : Dev nD) (k : DmaSem sig) (h : k ≠ (0 : Fin 200)) : ctx m K c ⊢ cellInv ER (Rd m) (K (cellD p k)) (cellD p k) := by
  obtain ⟨k', e⟩ := osem_of k h
  rw [show cellD p k = ((p : Thread nD τ), osem k') from by rw [e]]
  exact ctx_invK p k'
theorem ctx_reached (k : DmaSem sig) (h : k ≠ (0 : Fin 200)) : ctx m K c ⊢ reached ER (cellD c k) 0 := by
  obtain ⟨k', e⟩ := osem_of k h
  rw [show cellD c k = ((c : Thread nD τ), osem k') from by rw [e]]
  exact ctx_reachedK k'

theorem snd_ne (a p) : snd a p ≠ (0 : Fin 200) := fun h => by
  have := congrArg (fun k : Fin 200 => k.val) h; dsimp only [snd] at this; change 8 + _ + _ = 0 at this; omega
theorem rcv_ne (a p) : rcv a p ≠ (0 : Fin 200) := fun h => by
  have := congrArg (fun k : Fin 200 => k.val) h; dsimp only [rcv] at this; change 40 + _ + _ = 0 at this; omega
theorem lcl_ne (k) : lcl k ≠ (0 : Fin 200) := fun h => by
  have := congrArg (fun k : Fin 200 => k.val) h; dsimp only [lcl] at this; change 1 + _ = 0 at this; omega

end Cert.KernelIdeal.Mesh
-- ==== Proof.KI.Steps.lean ====
/-
  The steps of the kernel's body: sequencing, the copies, the signals and the waits, each on a state that says how far the
  device has come in one of its exchanges.
-/
module

public import proofs.«01_k».proof.Proof.KI.Proto

@[expose] public section

noncomputable section

namespace Cert.KernelIdeal.Mesh

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a part of the body on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Sequencing -/

section Seq
variable {c : Dev nD} {α β : Type} {p : Prog (TpuEff nD τ sig (Elt F) Λ₀ .tc) α} {k : α → Prog (TpuEff nD τ sig (Elt F) Λ₀ .tc) β}
  {A R : sProp (MT nD τ sig Unit (Elt F) ℕ UU ℕ)} {B : α → sProp (MT nD τ sig Unit (Elt F) ℕ UU ℕ)} {Q : β → sProp (MT nD τ sig Unit (Elt F) ℕ UU ℕ)}

theorem seq1 (h : A ⊢ WP c p B) (next : ∀ x, B x ⊢ WP c (k x) Q) : A ⊢ WP c (p >>= k) Q := by
  unfold WP; rw [wp_bind]
  exact h.trans (wp_mono _ _ _ next)

theorem seq (h : A ⊢ WP c p B) (next : ∀ x, iprop(B x ∗ R) ⊢ WP c (k x) Q) : iprop(A ∗ R) ⊢ WP c (p >>= k) Q := by
  unfold WP; rw [wp_bind]
  exact (sep_mono_left h).trans ((wp_frame_r _ _ _).trans (wp_mono _ _ _ next))

/-- A part that returns something known, the rest kept aside. -/
theorem seqP {P : α → Prop} {B' : sProp 𝕄} (h : A ⊢ WP c p fun x => iprop(⌜P x⌝ ∗ B')) (next : ∀ x, P x → iprop(B' ∗ R) ⊢ WP c (k x) Q) :
    iprop(A ∗ R) ⊢ WP c (p >>= k) Q :=
  seq h fun x => by
    iintro ⟨⟨%hP, HB⟩, HR⟩
    iapply (next x hP)
    isplitl [HB]; · iexact HB
    iexact HR

theorem ret1 {x : α} (h : A ⊢ B x) : A ⊢ WP c (pure x) B := h.trans (le_wp_ret _ _ _ _ _)

theorem retP {P : α → Prop} {B' : sProp 𝕄} {x : α} (hP : P x) (h : A ⊢ B') : A ⊢ WP c (pure x) fun x => iprop(⌜P x⌝ ∗ B') :=
  ret1 (by
    iintro HA
    isplitr
    · ipureintro; exact hP
    iapply h $$ HA)

theorem post {B' : α → sProp 𝕄} (h : A ⊢ WP c p B) (hB : ∀ x, B x ⊢ B' x) : A ⊢ WP c p B' := h.trans (wp_mono _ _ _ hB)

theorem frameR (h : A ⊢ WP c p B) : iprop(A ∗ R) ⊢ WP c p fun x => iprop(B x ∗ R) := (sep_mono_left h).trans (wp_frame_r _ _ _)

/-- One operation, from its rule. -/
theorem lift1 {γ : Type} {e : TpuEff nD τ sig (Elt F) Λ₀ .tc γ} {P X : sProp 𝕄} {Q : γ → sProp 𝕄} {v : γ}
    (h : P ⊢ iprop((X -∗ WP c (.ret v) Q) -∗ WP c (.op e .ret) Q)) (hX : iprop(X ∗ R) ⊢ Q v) : iprop(P ∗ R) ⊢ WP c (Prog.lift e) Q := by
  iintro ⟨HP, HR⟩
  iapply h $$ HP
  iintro HX
  iapply (le_wp_ret (Fr := frame) (wpE := wpE (defs₀ (F := F)) 𝒱₀ (c : Thread nD τ) none) (E := Set.univ) v Q)
  iapply hX
  isplitl [HX]; · iexact HX
  iexact HR

/-- A step taken by every device but one. -/
theorem cond_step {cond : Prop} [Decidable cond] {P : Prop} (hc : cond ↔ P) {t : cond → Prog (TpuEff nD τ sig (Elt F) Λ₀ .tc) α} {e : ¬ cond → Prog (TpuEff nD τ sig (Elt F) Λ₀ .tc) α}
    (ht : ∀ h : cond, P → A ⊢ WP c (t h) B) (he : ∀ h : ¬ cond, ¬ P → A ⊢ WP c (e h) B) : A ⊢ WP c (if h : cond then t h else e h) B := by
  split
  · next h => exact ht h (hc.mp h)
  · next h => exact he h fun hP => h (hc.mpr hP)

/-- A step some devices take, then the rest. -/
theorem ifs1 {cond : Prop} [Decidable cond] {t : cond → Prog (TpuEff nD τ sig (Elt F) Λ₀ .tc) PUnit} {rest : Prog (TpuEff nD τ sig (Elt F) Λ₀ .tc) β} {B : sProp 𝕄}
    (h : A ⊢ WP c (if h : cond then t h else pure ⟨⟩) fun _ => B) (next : B ⊢ WP c rest Q) :
    A ⊢ WP c (if h : cond then (t h >>= fun _ => rest) else rest) Q := by
  by_cases hc : cond
  · rw [dif_pos hc] at h ⊢; exact seq1 h fun _ => next
  · rw [dif_neg hc] at h ⊢; exact (seq1 h fun _ => next : A ⊢ WP c ((pure ⟨⟩ : Prog (TpuEff nD τ sig (Elt F) Λ₀ .tc) PUnit) >>= fun _ => rest) Q)
theorem ifs {cond : Prop} [Decidable cond] {t : cond → Prog (TpuEff nD τ sig (Elt F) Λ₀ .tc) PUnit} {rest : Prog (TpuEff nD τ sig (Elt F) Λ₀ .tc) β} {B : sProp 𝕄}
    (h : A ⊢ WP c (if h : cond then t h else pure ⟨⟩) fun _ => B) (next : iprop(B ∗ R) ⊢ WP c rest Q) :
    iprop(A ∗ R) ⊢ WP c (if h : cond then (t h >>= fun _ => rest) else rest) Q :=
  ifs1 (frameR h) next
/-- A step on the second of two states. -/
theorem seqR (h : A ⊢ WP c p B) (next : ∀ x, iprop(R ∗ B x) ⊢ WP c (k x) Q) : iprop(R ∗ A) ⊢ WP c (p >>= k) Q := by
  refine (Entails.of_eq (equiv_iff.mp ⟨sep_comm, sep_comm⟩)).trans (seq h fun x => ?_)
  exact sep_comm.trans (next x)
end Seq

/-! ## Who has been dealt with and who has not -/

/-- An order in which to take the devices. -/
structure Order where
  rk : Dev nD → ℕ
  inj : ∀ p q, rk p = rk q → p = q
  lt : ∀ p, rk p < 32

def byIx : Order where
  rk p := p.val
  inj _ _ h := Fin.ext h
  lt p := p.isLt
/-- From the next device round to oneself. -/
def byOff (c : Dev nD) : Order where
  rk p := (p.val + 32 - c.val) % 32
  inj p q h := Fin.ext (by
    have h1 : p.val < 32 := p.isLt
    have h2 : q.val < 32 := q.isLt
    have h3 : c.val < 32 := c.isLt
    omega)
  lt p := Nat.mod_lt _ (by decide)
/-- The first sixteen devices, from one's own place round; then the others. -/
def byHalf (c : Dev nD) : Order where
  rk p := 16 * (p.val / 16) + (p.val + 32 - c.val) % 16
  inj p q h := Fin.ext (by
    have h1 : p.val < 32 := p.isLt
    have h2 : q.val < 32 := q.isLt
    have h3 : c.val < 32 := c.isLt
    omega)
  lt p := by
    have h1 : p.val < 32 := p.isLt
    omega

def todo (G : Finset (Dev nD)) (r : Order) (n : ℕ) : Finset (Dev nD) := G.filter fun p => n ≤ r.rk p
def don (G : Finset (Dev nD)) (r : Order) (n : ℕ) : Finset (Dev nD) := G.filter fun p => r.rk p < n

section Families
variable {G : Finset (Dev nD)} {r : Order} {n : ℕ} {p : Dev nD}

theorem todo_pop (hn : r.rk p = n) (hG : p ∈ G) : todo G r n = insert p (todo G r (n + 1)) ∧ p ∉ todo G r (n + 1) := by
  constructor
  · ext q
    simp only [todo, Finset.mem_insert, Finset.mem_filter]
    constructor
    · rintro ⟨h1, h2⟩
      by_cases hq : q = p
      · exact .inl hq
      · refine .inr ⟨h1, ?_⟩
        have : r.rk q ≠ n := fun h => hq (r.inj _ _ (h.trans hn.symm))
        omega
    · rintro (rfl | ⟨h1, h2⟩)
      · exact ⟨hG, by omega⟩
      · exact ⟨h1, by omega⟩
  · simp only [todo, Finset.mem_filter, not_and]; intro _; omega
theorem todo_skip (hn : r.rk p = n) (hG : p ∉ G) : todo G r n = todo G r (n + 1) := by
  ext q
  simp only [todo, Finset.mem_filter]
  refine and_congr_right fun hq => ?_
  have : r.rk q ≠ n := fun h => hG (by rwa [← r.inj _ _ (h.trans hn.symm)])
  omega
theorem don_push (hn : r.rk p = n) (hG : p ∈ G) : don G r (n + 1) = insert p (don G r n) ∧ p ∉ don G r n := by
  constructor
  · ext q
    simp only [don, Finset.mem_insert, Finset.mem_filter]
    constructor
    · rintro ⟨h1, h2⟩
      by_cases hq : q = p
      · exact .inl hq
      · refine .inr ⟨h1, ?_⟩
        have : r.rk q ≠ n := fun h => hq (r.inj _ _ (h.trans hn.symm))
        omega
    · rintro (rfl | ⟨h1, h2⟩)
      · exact ⟨hG, by omega⟩
      · exact ⟨h1, by omega⟩
  · simp only [don, Finset.mem_filter, not_and]; intro _; omega
theorem don_skip (hn : r.rk p = n) (hG : p ∉ G) : don G r (n + 1) = don G r n := by
  ext q
  simp only [don, Finset.mem_filter]
  refine and_congr_right fun hq => ?_
  have : r.rk q ≠ n := fun h => hG (by rwa [← r.inj _ _ (h.trans hn.symm)])
  omega
theorem todo_first {n : ℕ} (h : ∀ p ∈ G, n ≤ r.rk p) : todo G r n = G := Finset.filter_true_of_mem h
theorem todo_last {n : ℕ} (h : ∀ p ∈ G, r.rk p < n) : todo G r n = ∅ := Finset.filter_false_of_mem fun p hp => by have := h p hp; omega
theorem don_first {n : ℕ} (h : ∀ p ∈ G, n ≤ r.rk p) : don G r n = ∅ := Finset.filter_false_of_mem fun p hp => by have := h p hp; omega
theorem don_last {n : ℕ} (h : ∀ p ∈ G, r.rk p < n) : don G r n = G := Finset.filter_true_of_mem h
end Families

theorem mem_others {c p : Dev nD} : p ∈ others c ↔ p ≠ c := by simp

theorem oR_insert (a : Fin 3) (c p : Dev nD) {s} (hp : p ∉ s) : oR a c (insert p s) = oR a c s + tallyAt (cellD p (rcv a c)) () (NA a) := by
  unfold oR; rw [Finset.sum_insert hp, add_comm]
theorem oB_insert (p : Dev nD) {s} (hp : p ∉ s) : oB (insert p s) = oB s + tallyAt (cellB p) () 1 := by
  unfold oB; rw [Finset.sum_insert hp, add_comm]
theorem oR_union (a : Fin 3) (c : Dev nD) {s t} (h : Disjoint s t) : oR a c (s ∪ t) = oR a c s + oR a c t := by
  unfold oR; exact Finset.sum_union h
theorem oR_empty (a : Fin 3) (c : Dev nD) : oR a c ∅ = 0 := rfl
theorem oB_empty : oB ∅ = 0 := rfl

variable (m : (ℓ : Loc nD τ sig) → Buf (Elt F) ℓ) (K : GSem nD τ sig → ℕ)

theorem bigSep_cons {ι : Type} [DecidableEq ι] {i : ι} {s : Finset ι} (hi : i ∉ s) (Φ : ι → sProp 𝕄) :
    bigSep (insert i s) Φ = iprop(Φ i ∗ bigSep s Φ) := bigSep_insert hi
theorem bigSep_none {ι : Type} [DecidableEq ι] (Φ : ι → sProp 𝕄) : bigSep ∅ Φ = iprop(emp) := bigSep_empty

/-! ## A process that takes its peers one by one -/

/-- `I p` is held for every peer not dealt with, `D p` for every peer dealt with. -/
def prog (I D : Dev nD → sProp 𝕄) (G : Finset (Dev nD)) (r : Order) (n : ℕ) : sProp 𝕄 :=
  iprop(bigSep (todo G r n) I ∗ bigSep (don G r n) D)

section Progress
variable {I D : Dev nD → sProp (MT nD τ sig Unit (Elt F) ℕ UU ℕ)} {G : Finset (Dev nD)} {r : Order} {n : ℕ} {p : Dev nD}

theorem prog_pop (hn : r.rk p = n) (hG : p ∈ G) : prog I D G r n ⊢ iprop(I p ∗ bigSep (todo G r (n + 1)) I ∗ bigSep (don G r n) D) := by
  unfold prog
  rw [(todo_pop hn hG).1, bigSep_cons (todo_pop hn hG).2]
  iintro ⟨⟨H1, H2⟩, H3⟩
  isplitl [H1]; · iexact H1
  isplitl [H2]; · iexact H2
  iexact H3
theorem prog_push (hn : r.rk p = n) (hG : p ∈ G) : iprop(D p ∗ bigSep (todo G r (n + 1)) I ∗ bigSep (don G r n) D) ⊢ prog I D G r (n + 1) := by
  unfold prog
  rw [(don_push hn hG).1, bigSep_cons (don_push hn hG).2]
  iintro ⟨H1, H2, H3⟩
  isplitl [H2]; · iexact H2
  isplitl [H1]; · iexact H1
  iexact H3
theorem prog_skip (hn : r.rk p = n) (hG : p ∉ G) : prog I D G r n = prog I D G r (n + 1) := by
  unfold prog; rw [todo_skip hn hG, don_skip hn hG]
theorem prog_first (h : ∀ p ∈ G, n ≤ r.rk p) : prog I D G r n = bigSep G I := by
  unfold prog; rw [todo_first h, don_first h, bigSep_none]; exact sep_emp_eq (bigSep G I)
theorem prog_last (h : ∀ p ∈ G, r.rk p < n) : prog I D G r n = bigSep G D := by
  unfold prog; rw [todo_last h, don_last h, bigSep_none]; exact emp_sep_eq (bigSep G D)
end Progress

/-! ## The copies to the other devices -/

/-- What device `c` needs for its copy of exchange `a` to `p`. -/
def sendIn (a : Fin 3) (c p : Dev nD) : sProp 𝕄 :=
  iprop(srcP m a c p ∗ anyP a p c ∗ reached ER (cellD p (rcv a c)) 0 ∗ dutyTok ER (cellD c (snd a p)) 0 c ∗ dutyTok ER (cellD p (rcv a c)) 0 c)
/-- What it has afterwards. -/
abbrev sendOut (a : Fin 3) (c p : Dev nD) : sProp 𝕄 := cred (tallyAt (cellD c (snd a p)) () (NA a))

/-- Device `c` among its copies of exchange `a` to the devices of `G`, the first `n` in the order `r` issued. -/
def SendSt (a : Fin 3) (c : Dev nD) (G : Finset (Dev nD)) (r : Order) (O : CellTallies nD τ sig Unit) (n : ℕ) : sProp 𝕄 :=
  iprop(ctx m K c ∗ (∃ W, owes (c : Thread nD τ) (oR a c (todo G r n) + O) W) ∗ prog (sendIn m a c) (sendOut a c) G r n)

variable {m K}

theorem send_one {a : Fin 3} {c p : Dev nD} (hp : p ≠ c) {sp sp' : Space} {s : Shape} {e : EltTy} {src : Memref sig .tc sp s e} {dst : Memref sig .tc sp' s e}
    {hsc : dst.view.ref.isScScratch = false} {sS sR : DmaSem sig} (hS : sS = snd a p) (hR : sR = rcv a c)
    {hsrc : src.view.WordExact} {hdst : dst.view.WordExact} {hsem : DmaTarget.Typed sp (.dma sR) (.remote (Dev.tc p) dst (.dma sS) hsc)}
    {q : PosShare TreeShare} {fs : Buf (Elt F) (src.view.loc (c : Thread nD τ))}
    (es : srcP m a c p = (src.view.loc (c : Thread nD τ) ↦[src.view.set]{q} fs))
    (ed : (anyP a p c : sProp 𝕄) = iprop(∃ fd, dst.view.loc (p : Thread nD τ) ↦[dst.view.set]{fullShare} fd))
    (el : ∀ fd, (dst.view.loc (p : Thread nD τ) ↦[dst.view.set]{fullShare} dst.view.write (Elt F) fd (src.view.read (Elt F) fs) Finset.univ : sProp 𝕄) ⊢ landP m a p c)
    (hN : dst.view.dmaCredit = NA a) (O : CellTallies nD τ sig Unit) (W : Waits sig Unit) :
    iprop(ctx m K c ∗ owes (c : Thread nD τ) (O + tallyAt (cellD p (rcv a c)) () (NA a)) W ∗ sendIn m a c p)
      ⊢ WP c (Prog.lift (.enqueueDma src (.remote (Dev.tc p) dst (.dma sS) hsc) (.dma sR) hsrc hdst hsem))
          fun _ => iprop(ctx m K c ∗ owes (c : Thread nD τ) O W ∗ sendOut a c p) := by
  subst hS hR
  unfold sendIn
  rw [es, ed]
  iintro ⟨#HC, HO, Hs, ⟨%fd, Hd⟩, #Hr, Ht1, Ht2⟩
  ihave #Hi1 := (ctx_inv (m := m) (K := K) (c := c) c (snd a p) (snd_ne a p)) $$ HC
  ihave #Hi2 := (ctx_inv (m := m) (K := K) (c := c) p (rcv a c) (rcv_ne a c)) $$ HC
  ihave #Hr1 := (ctx_reached (m := m) (K := K) (c := c) (snd a p) (snd_ne a p)) $$ HC
  iapply (Rounds.wp_send_pointsTo 𝒱₀ ER (Rd m) (c : Thread nD τ) none (c' := (p : Thread nD τ)) (src := src) (dst := dst) (sS := .dma (snd a p)) (sem := .dma (rcv a c))
    (q := q) (fs := fs) (fd := fd) (r₁ := 0) (r₂ := 0) (d₁ := c) (d₂ := c)
    (by rw [duties_snd m c a p hp]; exact Finset.mem_singleton_self _) (by rw [duties_rcv m p a c hp.symm]; exact Finset.mem_singleton_self _) () () (NA a) hN
    (amount_snd m c c a p) (amount_rcv m p c a c) O rfl (W := W)
    (Entails.of_eq (es.symm.trans (payload_snd m c c a p).symm)) (by rw [payload_rcv]; exact el fd)) $$ [Hs Hd HO Ht1 Ht2]
  · isplitr; · iexact Hi1
    isplitr; · iexact Hi2
    isplitl [Hs]; · iexact Hs
    isplitl [Hd]; · iexact Hd
    isplitl [HO]; · iexact HO
    isplitl [Ht1]; · iexact Ht1
    isplitr; · iexact Hr1
    isplitl [Ht2]; · iexact Ht2
    iexact Hr
  iintro ⟨Hc, HO⟩
  iapply (le_wp_ret (Fr := frame) (wpE := wpE (defs₀ (F := F)) 𝒱₀ (c : Thread nD τ) none) (E := Set.univ))
  isplitr; · iexact HC
  isplitl [HO]; · iexact HO
  iexact Hc

/-- One copy more. -/
theorem send_step {a : Fin 3} {c p : Dev nD} {G : Finset (Dev nD)} {r : Order} {O : CellTallies nD τ sig Unit} {n : ℕ} (hn : r.rk p = n) (hG : p ∈ G)
    {pr : Prog (TpuEff nD τ sig (Elt F) Λ₀ .tc) PUnit}
    (h : ∀ O W, iprop(ctx m K c ∗ owes (c : Thread nD τ) (O + tallyAt (cellD p (rcv a c)) () (NA a)) W ∗ sendIn m a c p)
      ⊢ WP c pr fun _ => iprop(ctx m K c ∗ owes (c : Thread nD τ) O W ∗ sendOut a c p)) :
    SendSt m K a c G r O n ⊢ WP c pr fun _ => SendSt m K a c G r O (n + 1) := by
  unfold SendSt
  rw [(todo_pop hn hG).1, oR_insert a c p (todo_pop hn hG).2]
  iintro ⟨HC, ⟨%W, HO⟩, HP⟩
  ihave HP := (prog_pop hn hG) $$ HP
  icases HP with ⟨HI, HT, HD⟩
  iapply (wp_wand (Fr := frame) (wpE := wpE (defs₀ (F := F)) 𝒱₀ (c : Thread nD τ) none) (E := Set.univ) (p := pr)
    (Q := fun _ => iprop(ctx m K c ∗ owes (c : Thread nD τ) (oR a c (todo G r (n + 1)) + O) W ∗ sendOut a c p))) $$ [HC HO HI]
  · iapply (h _ W)
    isplitl [HC]; · iexact HC
    isplitl [HO]; · iapply (Entails.of_eq (congrArg (fun O => owes (c : Thread nD τ) O W) (add_right_comm _ _ _))) $$ HO
    iexact HI
  iintro %x ⟨HC, HO, HD'⟩
  isplitl [HC]; · iexact HC
  isplitl [HO]; · iexists W; iexact HO
  iapply (prog_push hn hG)
  isplitl [HD']; · iexact HD'
  isplitl [HT]; · iexact HT
  iexact HD

theorem send_skip {a : Fin 3} {c p : Dev nD} {G : Finset (Dev nD)} {r : Order} {O : CellTallies nD τ sig Unit} {n : ℕ} (hn : r.rk p = n) (hG : p ∉ G) :
    SendSt m K a c G r O n = SendSt m K a c G r O (n + 1) := by
  unfold SendSt; rw [todo_skip hn hG, prog_skip hn hG]

/-! ## The signals of the barrier -/

/-- What device `c`'s signal to `p` hands over, with the right to signal. -/
def barIn (c p : Dev nD) : sProp 𝕄 := iprop(barP p c ∗ dutyTok ER (cellB p) 0 c)

variable (m K) in
def BarSt (c : Dev nD) (O : CellTallies nD τ sig Unit) (n : ℕ) : sProp 𝕄 :=
  iprop(ctx m K c ∗ (∃ W, owes (c : Thread nD τ) (oB (todo (others c) byIx n) + O) W) ∗ prog (barIn c) (fun _ => iprop(emp)) (others c) byIx n)

theorem bar_one {c p : Dev nD} (hp : p ≠ c) {sem : Sem sig} (hs : sem = barS) (O : CellTallies nD τ sig Unit) (W : Waits sig Unit) :
    iprop(ctx m K c ∗ owes (c : Thread nD τ) (O + tallyAt (cellB p) () 1) W ∗ barIn c p)
      ⊢ WP c (semSignalWord p sem 1#32) fun _ => iprop(ctx m K c ∗ owes (c : Thread nD τ) O W) := by
  subst hs
  unfold barIn
  iintro ⟨#HC, HO, Hp, Ht⟩
  ihave #Hi := (ctx_invB (m := m) (K := K) (c := c) p) $$ HC
  ihave #Hr := (ctx_reachedB (m := m) (K := K) (c := c) p) $$ HC
  iapply (Rounds.wp_signal 𝒱₀ ER (Rd m) (c : Thread nD τ) none (dst := (p : Thread nD τ)) (sem := barS) (r := 0) (d := c) (k' := 1)
    (by rw [duties_bar]; exact Finset.mem_erase.2 ⟨hp.symm, Finset.mem_univ _⟩) (amount_bar m p c) () O rfl (W := W)) $$ [Hp HO Ht]
  · isplitr; · iexact Hi
    isplitl [HO]; · iexact HO
    isplitl [Ht]; · iexact Ht
    isplitl [Hp]; · rw [payload_bar]; iexact Hp
    iexact Hr
  iintro HO
  iapply (le_wp_ret (Fr := frame) (wpE := wpE (defs₀ (F := F)) 𝒱₀ (c : Thread nD τ) none) (E := Set.univ))
  isplitr; · iexact HC
  iexact HO

theorem bar_step {c p : Dev nD} {O : CellTallies nD τ sig Unit} {n : ℕ} (hn : p.val = n) {cond : Prop} [Decidable cond] (hc : cond ↔ p ≠ c)
    {q : cond → Dev nD} (hq : ∀ h, q h = p) {sem : Sem sig} (hs : sem = barS) :
    BarSt m K c O n ⊢ WP c (if h : cond then semSignalWord (q h) sem 1#32 else (pure ⟨⟩ : Prog (TpuEff nD τ sig (Elt F) Λ₀ .tc) PUnit)) fun _ => BarSt m K c O (n + 1) := by
  refine cond_step hc (fun h hp => ?_) fun h hp => ret1 ?_
  · rw [hq h]
    have hG := mem_others.2 hp
    have hn : byIx.rk p = n := hn
    unfold BarSt
    rw [(todo_pop hn hG).1, oB_insert p (todo_pop hn hG).2]
    iintro ⟨HC, ⟨%W, HO⟩, HP⟩
    ihave HP := (prog_pop hn hG) $$ HP
    icases HP with ⟨HI, HT, HD⟩
    iapply (wp_wand (Fr := frame) (wpE := wpE (defs₀ (F := F)) 𝒱₀ (c : Thread nD τ) none) (E := Set.univ) (p := semSignalWord p sem 1#32)
      (Q := fun _ => iprop(ctx m K c ∗ owes (c : Thread nD τ) (oB (todo (others c) byIx (n + 1)) + O) W))) $$ [HC HO HI]
    · iapply (bar_one hp hs _ W)
      isplitl [HC]; · iexact HC
      isplitl [HO]; · iapply (Entails.of_eq (congrArg (fun O => owes (c : Thread nD τ) O W) (add_right_comm _ _ _))) $$ HO
      iexact HI
    iintro %x ⟨HC, HO⟩
    isplitl [HC]; · iexact HC
    isplitl [HO]; · iexists W; iexact HO
    iapply (prog_push hn hG)
    isplitr; · iempintro
    isplitl [HT]; · iexact HT
    iexact HD
  · have hG : p ∉ others c := fun hG => hp (mem_others.1 hG)
    have hn : byIx.rk p = n := hn
    unfold BarSt
    rw [todo_skip hn hG, prog_skip hn hG]

/-- The wait on the barrier takes what every other device handed over. -/
theorem bar_wait {c : Dev nD} {sem : Sem sig} (hs : sem = barS) {O : CellTallies nD τ sig Unit} (hO : Above 1 O) :
    iprop(ctx m K c ∗ (∃ W, owes (c : Thread nD τ) O W) ∗ cred (tallyAt (cellB c) () 31) ∗ atPos ER (cellB c) 0 ∅ 0)
      ⊢ WP c (semWaitWord sem 31#32) fun _ => iprop(ctx m K c ∗ (∃ W, owes (c : Thread nD τ) O W) ∗ atPos ER (cellB c) 1 ∅ 0 ∗ bigSep (others c) (barP c)) := by
  subst hs
  iintro ⟨#HC, ⟨%W, HO⟩, Hc, Ha⟩
  ihave #Hi := (ctx_invB (m := m) (K := K) (c := c) c) $$ HC
  iapply (Rounds.wp_wait_rest_token 𝒱₀ ER (Rd m) (c : Thread nD τ) none (κ := K (cellB c))
    (wpE_semWait_eq 𝒱₀ (c : Thread nD τ) none Set.univ) (Set.mem_univ _) () (O := O) (W := W) (R := 0) (m := 0) (T := ∅)
    ((Nat.zero_add _).trans (expect_bar m c).symm)) $$ [HO Hc Ha]
  · isplitr; · iexact Hi
    isplitl [Hc]; · iexact Hc
    isplitl [HO]; · iexact HO
    isplitr; · iapply (ctx_lev.trans (mayWait c (.reg barS) O 1 (le_of_eq rfl) hO)) $$ HC
    iexact Ha
  iintro ⟨HO, Ha, -, Hp⟩
  ihave Hp := (Entails.of_eq (rest_bar m c)) $$ Hp
  iapply (le_wp_ret (Fr := frame) (wpE := wpE (defs₀ (F := F)) 𝒱₀ (c : Thread nD τ) none) (E := Set.univ))
  isplitr; · iexact HC
  isplitl [HO]; · iexists _; iexact HO
  isplitl [Ha]; · iexact Ha
  iexact Hp

/-! ## The waits on the copies -/

/-- A wait on a semaphore whose one payment is due, which takes what it hands over. -/
theorem wait_one {c : Dev nD} {k k' : DmaSem sig} (hk' : k' = k) (h0 : k ≠ (0 : Fin 200)) {N : ℕ} (hx : (Rd m).expect (cellD c k) 0 = N) {P : sProp 𝕄}
    (hrest : bigSep ((Rd m).duties (cellD c k) 0 \ ∅) (fun d => (Rd m).payload (cellD c k) 0 d) = P)
    {O : CellTallies nD τ sig Unit} {l : ℕ} (hl : lvR (role (.dma k)) ≤ l) (hO : Above l O)
    {sp sp' : Space} {s s' : Shape} {e e' : EltTy} {src : Memref sig .tc sp' s' e'} {dst : Memref sig .tc sp s e} {hsrc : src.view.WordExact} {hdst : dst.view.WordExact}
    (hN : dst.view.dmaCredit = N) :
    iprop(ctx m K c ∗ (∃ W, owes (c : Thread nD τ) O W) ∗ cred (tallyAt (cellD c k) () N) ∗ atPos ER (cellD c k) 0 ∅ 0)
      ⊢ WP c (Prog.lift (.waitDma2 k' src dst hsrc hdst)) fun _ => iprop(ctx m K c ∗ (∃ W, owes (c : Thread nD τ) O W) ∗ atPos ER (cellD c k) 1 ∅ 0 ∗ P) := by
  subst hk' hN hrest
  iintro ⟨#HC, ⟨%W, HO⟩, Hc, Ha⟩
  ihave #Hi := (ctx_inv (m := m) (K := K) (c := c) c k' h0) $$ HC
  iapply (Rounds.wp_wait_rest_token 𝒱₀ ER (Rd m) (c : Thread nD τ) none (κ := K (cellD c k'))
    (wpE_waitDma2_eq (src := src) (dst := dst) 𝒱₀ (c : Thread nD τ) none Set.univ) (Set.mem_univ _) () (O := O) (W := W) (R := 0) (m := 0) (T := ∅)
    ((Nat.zero_add _).trans hx.symm)) $$ [HO Hc Ha]
  · isplitr; · iexact Hi
    isplitl [Hc]; · iexact Hc
    isplitl [HO]; · iexact HO
    isplitr; · iapply (ctx_lev.trans (mayWait c (.dma k') O l hl hO)) $$ HC
    iexact Ha
  iintro ⟨HO, Ha, -, Hp⟩
  iapply (le_wp_ret (Fr := frame) (wpE := wpE (defs₀ (F := F)) 𝒱₀ (c : Thread nD τ) none) (E := Set.univ))
  isplitr; · iexact HC
  isplitl [HO]; · iexists _; iexact HO
  isplitl [Ha]; · iexact Ha
  iexact Hp

/-- What a wait on semaphore `k` of device `c` for `N` needs, -/
def waitIn (k : Dev nD → DmaSem sig) (N : ℕ) (c p : Dev nD) : sProp 𝕄 := iprop(cred (tallyAt (cellD c (k p)) () N) ∗ atPos ER (cellD c (k p)) 0 ∅ 0)
/-- and what one has after it. -/
def waitOut (k : Dev nD → DmaSem sig) (P : Dev nD → sProp 𝕄) (c p : Dev nD) : sProp 𝕄 := iprop(atPos ER (cellD c (k p)) 1 ∅ 0 ∗ P p)

variable (m K) in
def WaitSt (k : Dev nD → DmaSem sig) (N : ℕ) (P : Dev nD → sProp 𝕄) (c : Dev nD) (r : Order) (O : CellTallies nD τ sig Unit) (n : ℕ) : sProp 𝕄 :=
  iprop((ctx m K c ∗ (∃ W, owes (c : Thread nD τ) O W)) ∗ prog (waitIn k N c) (waitOut k P c) (others c) r n)

theorem wait_step {k : Dev nD → DmaSem sig} {N : ℕ} {P : Dev nD → sProp 𝕄} {c p : Dev nD} {r : Order} {O : CellTallies nD τ sig Unit} {n : ℕ} (hn : r.rk p = n) (hG : p ∈ others c)
    {pr : Prog (TpuEff nD τ sig (Elt F) Λ₀ .tc) PUnit}
    (h : iprop(ctx m K c ∗ (∃ W, owes (c : Thread nD τ) O W) ∗ cred (tallyAt (cellD c (k p)) () N) ∗ atPos ER (cellD c (k p)) 0 ∅ 0)
      ⊢ WP c pr fun _ => iprop(ctx m K c ∗ (∃ W, owes (c : Thread nD τ) O W) ∗ atPos ER (cellD c (k p)) 1 ∅ 0 ∗ P p)) :
    WaitSt m K k N P c r O n ⊢ WP c pr fun _ => WaitSt m K k N P c r O (n + 1) := by
  unfold WaitSt
  iintro ⟨⟨HC, HO⟩, HP⟩
  ihave HP := (prog_pop hn hG) $$ HP
  icases HP with ⟨HI, HT, HD⟩
  iapply (wp_wand (Fr := frame) (wpE := wpE (defs₀ (F := F)) 𝒱₀ (c : Thread nD τ) none) (E := Set.univ) (p := pr)
    (Q := fun _ => iprop(ctx m K c ∗ (∃ W, owes (c : Thread nD τ) O W) ∗ atPos ER (cellD c (k p)) 1 ∅ 0 ∗ P p))) $$ [HC HO HI]
  · iapply h
    isplitl [HC]; · iexact HC
    isplitl [HO]; · iexact HO
    unfold waitIn; iexact HI
  iintro %x ⟨HC, HO, HD'⟩
  isplitl [HC HO]
  · isplitl [HC]; · iexact HC
    iexact HO
  iapply (prog_push hn hG)
  isplitl [HD']; · unfold waitOut; iexact HD'
  isplitl [HT]; · iexact HT
  iexact HD

theorem wait_skip {k : Dev nD → DmaSem sig} {N : ℕ} {P : Dev nD → sProp 𝕄} {c p : Dev nD} {r : Order} {O : CellTallies nD τ sig Unit} {n : ℕ} (hn : r.rk p = n) (hG : p ∉ others c) :
    WaitSt m K k N P c r O n = WaitSt m K k N P c r O (n + 1) := by
  unfold WaitSt; rw [prog_skip hn hG]

end Cert.KernelIdeal.Mesh
-- ==== Proof.KI.Ops.lean ====
/-
  The operations of the kernel's body as the body prints them: each local copy, each copy to another device, each wait, each
  load and store, on the states of `Steps`.
-/
module

public import proofs.«01_k».proof.Proof.KI.Steps

@[expose] public section

noncomputable section

namespace Cert.KernelIdeal.Mesh

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : GSem nD τ sig → ℕ} {c : Dev nD}

/-- The device `o` places on from `c`. -/
abbrev peer (c : Dev nD) (o : ℕ) : Dev nD := (⟨(c.val + o) % 32, Nat.mod_lt _ (by decide)⟩ : Fin 32)
/-- Device `j` of the order that takes the first sixteen from one's own place round, then the others. -/
abbrev peerH (c : Dev nD) (j : ℕ) : Dev nD := (⟨(16 * (j / 16) + (c.val + j) % 16) % 32, Nat.mod_lt _ (by decide)⟩ : Fin 32)
abbrev dev (i : ℕ) : Dev nD := (⟨i % 32, Nat.mod_lt _ (by decide)⟩ : Fin 32)

theorem peer_ne (o : ℕ) (h1 : 1 ≤ o) (h2 : o < 32) : peer c o ≠ c := fun h => by
  have h3 : c.val < 32 := c.isLt
  have := congrArg (fun p : Dev nD => p.val) h
  change (c.val + o) % 32 = c.val at this; omega
theorem rk_peer (o : ℕ) (h2 : o < 32) : (byOff c).rk (peer c o) = o := by
  have h3 : c.val < 32 := c.isLt
  change ((c.val + o) % 32 + 32 - c.val) % 32 = o; omega
theorem rk_peerH (j : ℕ) (h2 : j < 32) : (byHalf c).rk (peerH c j) = j := by
  have h3 : c.val < 32 := c.isLt
  change 16 * ((16 * (j / 16) + (c.val + j) % 16) % 32 / 16) + ((16 * (j / 16) + (c.val + j) % 16) % 32 + 32 - c.val) % 16 = j; omega
theorem rk_dev (i : ℕ) (h : i < 32) : byIx.rk (dev i) = i := Nat.mod_eq_of_lt h

/-- The device's place among thirty-two, as the body computes it. -/
abbrev w2 (c : Dev nD) : BitVec 32 := Scalar.remsi (Scalar.divsi (Dev.word c) 1#32) 32#32

theorem ne_word : ∀ c i : Fin 32, (Scalar.cmpi .ne (Scalar.extui (Scalar.cmpi .ne (w2 c) (BitVec.ofNat 32 i.val)) : BitVec 32) 0#32 = 1#1) ↔ i ≠ c := by
  decide +kernel

/-! ## The semaphores, as the body names them -/

/-- Semaphore `off` of an array of thirty-two. -/
abbrev semOf (s : DmaSems sig S32) (off : Fin 1 → ℕ) (inb : ∀ a, off a + S1.size a ≤ S32.size a) : DmaSem sig :=
  ((s.slice (Rect.unit (s := S32) off S1.size inb)).squeeze S_ squeezes_S1_S_).sem

theorem sem_snd0 (p : Dev nD) {off : Fin 1 → ℕ} {inb} (h : off = ![p.val]) : semOf cc0_scratch11 off inb = snd 0 p :=
  have hp : p.val < 32 := p.isLt
  sem_consecutive _ (by omega) h
theorem sem_rcv0 (p : Dev nD) {off : Fin 1 → ℕ} {inb} (h : off = ![p.val]) : semOf cc0_scratch12 off inb = rcv 0 p :=
  have hp : p.val < 32 := p.isLt
  sem_consecutive _ (by omega) h
theorem sem_snd1 (p : Dev nD) {off : Fin 1 → ℕ} {inb} (h : off = ![p.val]) : semOf cc0_scratch13 off inb = snd 1 p :=
  have hp : p.val < 32 := p.isLt
  sem_consecutive _ (by omega) h
theorem sem_rcv1 (p : Dev nD) {off : Fin 1 → ℕ} {inb} (h : off = ![p.val]) : semOf cc0_scratch14 off inb = rcv 1 p :=
  have hp : p.val < 32 := p.isLt
  sem_consecutive _ (by omega) h
theorem sem_snd2 (p : Dev nD) {off : Fin 1 → ℕ} {inb} (h : off = ![p.val]) : semOf cc0_scratch15 off inb = snd 2 p :=
  have hp : p.val < 32 := p.isLt
  sem_consecutive _ (by omega) h
theorem sem_rcv2 (p : Dev nD) {off : Fin 1 → ℕ} {inb} (h : off = ![p.val]) : semOf cc0_scratch16 off inb = rcv 2 p :=
  have hp : p.val < 32 := p.isLt
  sem_consecutive _ (by omega) h

/-! ## What the copies read and write, over the slices the body names -/

theorem src0 (p : Dev nD) {off : Fin 3 → ℕ} {inb} (h : off = ![p.val, 0, 0]) :
    srcP m 0 c p = ((sl256 kvsM off inb).view.loc (c : Thread nD τ) ↦[(sl256 kvsM off inb).view.set]{fullShare} kvs m c) :=
  congrArg (fun S => ptS c cc0_scratch4 S (kvs m c)) (kvs_set p h).symm
theorem any0 (p : Dev nD) {off : Fin 3 → ℕ} {inb} (h : off = ![c.val, 0, 0]) :
    (anyP 0 p c : sProp 𝕄) = iprop(∃ fd, (sl256 kvrM off inb).view.loc (p : Thread nD τ) ↦[(sl256 kvrM off inb).view.set]{fullShare} fd) :=
  congrArg (fun S => (iprop(∃ f, ptS p cc0_scratch5 S f) : sProp 𝕄)) (kvr_set c h).symm
theorem land0 (p : Dev nD) {offs offd : Fin 3 → ℕ} {inbs inbd} (hs : offs = ![p.val, 0, 0]) (hd : offd = ![c.val, 0, 0]) (fd) :
    ((sl256 kvrM offd inbd).view.loc (p : Thread nD τ) ↦[(sl256 kvrM offd inbd).view.set]{fullShare}
      (sl256 kvrM offd inbd).view.write (Elt F) fd ((sl256 kvsM offs inbs).view.read (Elt F) (kvs m c)) Finset.univ : sProp 𝕄) ⊢ landP m 0 p c :=
  (Entails.of_eq (pointsTo_congr (landed_eq (Val := Elt F) (sl256 kvsM offs inbs).view (sl256 kvrM offd inbd).view (kvs m c) fd (kvr m p) (kvr_slot m p c hs hd)))).trans
    (Entails.of_eq (congrArg (fun S => ptS p cc0_scratch5 S (kvr m p)) (kvr_set c hd)))

theorem src1 (p : Dev nD) {off : Fin 3 → ℕ} {inb} (h : off = ![p.val, 0, 0]) :
    srcP m 1 c p = ((sl512 parM off inb).view.loc (c : Thread nD τ) ↦[(sl512 parM off inb).view.set]{fullShare} par m c) :=
  congrArg (fun S => ptS c cc0_scratch6 S (par m c)) (par_set p h).symm
theorem any1 (p : Dev nD) {off : Fin 3 → ℕ} {inb} (h : off = ![c.val, 0, 0]) :
    (anyP 1 p c : sProp 𝕄) = iprop(∃ fd, (sl512 comM off inb).view.loc (p : Thread nD τ) ↦[(sl512 comM off inb).view.set]{fullShare} fd) :=
  congrArg (fun S => (iprop(∃ f, ptS p cc0_scratch7 S f) : sProp 𝕄)) (com_set c h).symm
theorem land1 (p : Dev nD) {offs offd : Fin 3 → ℕ} {inbs inbd} (hs : offs = ![p.val, 0, 0]) (hd : offd = ![c.val, 0, 0]) (fd) :
    ((sl512 comM offd inbd).view.loc (p : Thread nD τ) ↦[(sl512 comM offd inbd).view.set]{fullShare}
      (sl512 comM offd inbd).view.write (Elt F) fd ((sl512 parM offs inbs).view.read (Elt F) (par m c)) Finset.univ : sProp 𝕄) ⊢ landP m 1 p c :=
  (Entails.of_eq (pointsTo_congr (landed_eq (Val := Elt F) (sl512 parM offs inbs).view (sl512 comM offd inbd).view (par m c) fd (com m p) (com_slot m p c hs hd)))).trans
    (Entails.of_eq (congrArg (fun S => ptS p cc0_scratch7 S (com m p)) (com_set c hd)))

theorem src2 (p : Dev nD) :
    srcP m 2 c p = (redM.view.loc (c : Thread nD τ) ↦[redM.view.set]{Transfers.shareTokN fullShare p.val} red m c) :=
  congrArg (fun S => (((c : Thread nD τ).loc cc0_scratch8) ↦[S]{Transfers.shareTokN fullShare p.val} red m c : sProp 𝕄)) (View.set_whole cc0_scratch8).symm
theorem any2 (p : Dev nD) {off : Fin 3 → ℕ} {inb} (h : off = chunkOff c.val) :
    (anyP 2 p c : sProp 𝕄) = iprop(∃ fd, (slOut off inb).view.loc (p : Thread nD τ) ↦[(slOut off inb).view.set]{fullShare} fd) :=
  congrArg (fun S => (iprop(∃ f, ptS p outR S f) : sProp 𝕄)) (slOut_set c h).symm
theorem land2 (p : Dev nD) {offd : Fin 3 → ℕ} {inbd} (hd : offd = chunkOff c.val) (fd) :
    ((slOut offd inbd).view.loc (p : Thread nD τ) ↦[(slOut offd inbd).view.set]{fullShare}
      (slOut offd inbd).view.write (Elt F) fd (redM.view.read (Elt F) (red m c)) Finset.univ : sProp 𝕄) ⊢ landP m 2 p c :=
  (Entails.of_eq (pointsTo_congr (landed_eq (Val := Elt F) redM.view (slOut offd inbd).view (red m c) fd (res m) (out_slot m c hd)))).trans
    (Entails.of_eq (congrArg (fun S => ptS p outR S (res m)) (slOut_set c hd)))

theorem NA_0 : NA 0 = N256 := if_pos rfl
theorem NA_1 : NA 1 = N512 := (if_neg (by decide)).trans (if_pos rfl)
theorem NA_2 : NA 2 = Nout := (if_neg (by decide)).trans (if_neg (by decide))

theorem kvs_credit {off inb} : (sl256 kvsM off inb).view.dmaCredit = N256 := rfl
theorem kvr_credit {off inb} : (sl256 kvrM off inb).view.dmaCredit = N256 := rfl
theorem par_credit {off inb} : (sl512 parM off inb).view.dmaCredit = N512 := rfl
theorem com_credit {off inb} : (sl512 comM off inb).view.dmaCredit = N512 := rfl
theorem out_credit {off inb} : (slOut off inb).view.dmaCredit = Nout := rfl
theorem red_credit : redM.view.dmaCredit = Nout := rfl

/-! ## The copies to other devices -/

theorem kv_send {O : CellTallies nD τ sig Unit} (o : ℕ) {d : Dev nD} {offA offB : Fin 1 → ℕ} {inbA inbB} {offS offD : Fin 3 → ℕ} {inbS inbD} {hsc h1 h2 h3}
    (hd : d = peer c o) (hA : offA = ![(peer c o).val]) (hB : offB = ![c.val]) (hS : offS = ![(peer c o).val, 0, 0]) (hD : offD = ![c.val, 0, 0])
    (l1 : 1 ≤ o := by decide) (l2 : o < 32 := by decide) :
    SendSt m K 0 c (others c) (byOff c) O o
      ⊢ WP c (Prog.lift (.enqueueDma (sl256 kvsM offS inbS) (.remote (Dev.tc d) (sl256 kvrM offD inbD) (.dma (semOf cc0_scratch11 offA inbA)) hsc)
          (.dma (semOf cc0_scratch12 offB inbB)) h1 h2 h3)) fun _ => SendSt m K 0 c (others c) (byOff c) O (o + 1) := by
  subst hd
  have e1 := src0 (m := m) (c := c) (inb := inbS) _ hS
  have e2 := any0 (F := F) (c := c) (inb := inbD) (peer c o) hD
  have e3 := land0 (m := m) (c := c) (inbs := inbS) (inbd := inbD) _ hS hD
  have e4 := sem_snd0 (inb := inbA) _ hA
  have e5 := sem_rcv0 (inb := inbB) _ hB
  have e6 : (sl256 kvrM offD inbD).view.dmaCredit = NA 0 := kvr_credit.trans NA_0.symm
  refine send_step (rk_peer o l2) (mem_others.2 (peer_ne o l1 l2)) fun O W => ?_
  exact send_one (peer_ne o l1 l2) e4 e5 e1 e2 e3 e6 O W

theorem part_send_one {O : CellTallies nD τ sig Unit} {G : Finset (Dev nD)} (j : ℕ) {d : Dev nD} {offA offB : Fin 1 → ℕ} {inbA inbB} {offS offD : Fin 3 → ℕ} {inbS inbD} {hsc h1 h2 h3}
    (hd : d = peerH c j) (hp : peerH c j ≠ c) (hA : offA = ![(peerH c j).val]) (hB : offB = ![c.val]) (hS : offS = ![(peerH c j).val, 0, 0]) (hD : offD = ![c.val, 0, 0])
    (hG : peerH c j ∈ G) (l2 : j < 32 := by decide) :
    SendSt m K 1 c G (byHalf c) O j
      ⊢ WP c (Prog.lift (.enqueueDma (sl512 parM offS inbS) (.remote (Dev.tc d) (sl512 comM offD inbD) (.dma (semOf cc0_scratch13 offA inbA)) hsc)
          (.dma (semOf cc0_scratch14 offB inbB)) h1 h2 h3)) fun _ => SendSt m K 1 c G (byHalf c) O (j + 1) := by
  subst hd
  have e1 := src1 (m := m) (c := c) (inb := inbS) _ hS
  have e2 := any1 (F := F) (c := c) (inb := inbD) (peerH c j) hD
  have e3 := land1 (m := m) (c := c) (inbs := inbS) (inbd := inbD) _ hS hD
  have e4 := sem_snd1 (inb := inbA) _ hA
  have e5 := sem_rcv1 (inb := inbB) _ hB
  have e6 : (sl512 comM offD inbD).view.dmaCredit = NA 1 := com_credit.trans NA_1.symm
  refine send_step (rk_peerH j l2) hG fun O W => ?_
  exact send_one hp e4 e5 e1 e2 e3 e6 O W

theorem part_send {O : CellTallies nD τ sig Unit} {G : Finset (Dev nD)} (j : ℕ) {cond : Prop} [Decidable cond] {d : cond → Dev nD} {offA offB : Fin 1 → ℕ} {inbA : cond → ∀ a, offA a + S1.size a ≤ S32.size a} {inbB : cond → ∀ a, offB a + S1.size a ≤ S32.size a}
    {offS offD : Fin 3 → ℕ} {inbS : cond → ∀ a, offS a + S1x16x512.size a ≤ S32x16x512.size a} {inbD : cond → ∀ a, offD a + S1x16x512.size a ≤ S32x16x512.size a}
    {hsc : ∀ h, (sl512 comM offD (inbD h)).view.ref.isScScratch = false} {h1 : ∀ h, (sl512 parM offS (inbS h)).view.WordExact} {h2 : ∀ h, (sl512 comM offD (inbD h)).view.WordExact}
    {h3 : ∀ h, DmaTarget.Typed .vmem (.dma (semOf cc0_scratch14 offB (inbB h))) (.remote (Dev.tc (d h)) (sl512 comM offD (inbD h)) (.dma (semOf cc0_scratch13 offA (inbA h))) (hsc h))}
    (hc : cond ↔ peerH c j ≠ c) (hd : ∀ h, d h = peerH c j) (hA : offA = ![(peerH c j).val]) (hB : offB = ![c.val]) (hS : offS = ![(peerH c j).val, 0, 0]) (hD : offD = ![c.val, 0, 0])
    (hG : peerH c j ≠ c → peerH c j ∈ G) (hG' : peerH c j = c → peerH c j ∉ G) (l2 : j < 32 := by decide) :
    SendSt m K 1 c G (byHalf c) O j
      ⊢ WP c (if h : cond then
          Prog.lift (.enqueueDma (sl512 parM offS (inbS h)) (.remote (Dev.tc (d h)) (sl512 comM offD (inbD h)) (.dma (semOf cc0_scratch13 offA (inbA h))) (hsc h))
            (.dma (semOf cc0_scratch14 offB (inbB h))) (h1 h) (h2 h) (h3 h))
          else (pure ⟨⟩ : Prog (TpuEff nD τ sig (Elt F) Λ₀ .tc) PUnit)) fun _ => SendSt m K 1 c G (byHalf c) O (j + 1) := by
  refine cond_step hc (fun h hp => ?_)
    fun h hp => ret1 (Entails.of_eq (send_skip (rk_peerH j l2) (hG' (not_not.mp hp))))
  exact part_send_one j (hd h) hp hA hB hS hD (hG hp) l2

theorem out_send {O : CellTallies nD τ sig Unit} (o : ℕ) {d : Dev nD} {offA offB : Fin 1 → ℕ} {inbA inbB} {offD : Fin 3 → ℕ} {inbD} {hsc h1 h2 h3}
    (hd : d = peer c o) (hA : offA = ![(peer c o).val]) (hB : offB = ![c.val]) (hD : offD = chunkOff c.val)
    (l1 : 1 ≤ o := by decide) (l2 : o < 32 := by decide) :
    SendSt m K 2 c (others c) (byOff c) O o
      ⊢ WP c (Prog.lift (.enqueueDma redM (.remote (Dev.tc d) (slOut offD inbD) (.dma (semOf cc0_scratch15 offA inbA)) hsc)
          (.dma (semOf cc0_scratch16 offB inbB)) h1 h2 h3)) fun _ => SendSt m K 2 c (others c) (byOff c) O (o + 1) := by
  subst hd
  exact send_step (rk_peer o l2) (mem_others.2 (peer_ne o l1 l2)) fun O W =>
    send_one (peer_ne o l1 l2) (sem_snd2 _ hA) (sem_rcv2 _ hB) (src2 _) (any2 _ hD) (land2 _ hD) (out_credit.trans NA_2.symm) O W

/-! ## The waits on what the other devices send -/

/-- A wait that every device but `dev i` takes. -/
theorem wait_if {k : Dev nD → DmaSem sig} (k0 : ∀ p, k p ≠ (0 : Fin 200)) {N : ℕ} {P : Dev nD → sProp 𝕄} {r : Order} {O : CellTallies nD τ sig Unit} {n l : ℕ} {p : Dev nD}
    (hn : r.rk p = n) {cond : Prop} [Decidable cond] (hc : cond ↔ p ≠ c) (hO : Above l O)
    (hx : p ≠ c → (Rd m).expect (cellD c (k p)) 0 = N)
    (hrest : p ≠ c → bigSep ((Rd m).duties (cellD c (k p)) 0 \ ∅) (fun d => (Rd m).payload (cellD c (k p)) 0 d) = P p)
    (hl : lvR (role (.dma (k p))) ≤ l)
    {k' : cond → DmaSem sig} (hk : ∀ h, k' h = k p)
    {sp sp' : Space} {s s' : Shape} {e e' : EltTy} {src : cond → Memref sig .tc sp' s' e'} {dst : cond → Memref sig .tc sp s e} {h1 : ∀ h, (src h).view.WordExact} {h2 : ∀ h, (dst h).view.WordExact} (hN : ∀ h, (dst h).view.dmaCredit = N) :
    WaitSt m K k N P c r O n ⊢ WP c (if h : cond then Prog.lift (.waitDma2 (k' h) (src h) (dst h) (h1 h) (h2 h)) else (pure ⟨⟩ : Prog (TpuEff nD τ sig (Elt F) Λ₀ .tc) PUnit))
      fun _ => WaitSt m K k N P c r O (n + 1) := by
  refine cond_step hc (fun h hp => ?_)
    fun h hp => ret1 (Entails.of_eq (wait_skip hn fun hG => hp (mem_others.1 hG)))
  exact wait_step hn (mem_others.2 hp) (wait_one (hk h) (k0 p) (hx hp) (hrest hp) hl hO (hN h))

abbrev KvWait (m : (ℓ : Loc nD τ sig) → Buf (Elt F) ℓ) (K : GSem nD τ sig → ℕ) (c : Dev nD) (O : CellTallies nD τ sig Unit) (n : ℕ) : sProp 𝕄 := WaitSt m K (rcv 0) (NA 0) (landP m 0 c) c byIx O n
abbrev PartWait (m : (ℓ : Loc nD τ sig) → Buf (Elt F) ℓ) (K : GSem nD τ sig → ℕ) (c : Dev nD) (O : CellTallies nD τ sig Unit) (n : ℕ) : sProp 𝕄 := WaitSt m K (rcv 1) (NA 1) (landP m 1 c) c byIx O n
abbrev OutWait (m : (ℓ : Loc nD τ sig) → Buf (Elt F) ℓ) (K : GSem nD τ sig → ℕ) (c : Dev nD) (O : CellTallies nD τ sig Unit) (n : ℕ) : sProp 𝕄 := WaitSt m K (rcv 2) (NA 2) (landP m 2 c) c byIx O n

theorem kv_wait {O : CellTallies nD τ sig Unit} (hO : Above 2 O) (i : ℕ) {cond : Prop} [Decidable cond] (hc : cond ↔ dev i ≠ c) {off : Fin 1 → ℕ} {inb}
    (h : off = ![(dev i).val]) {offS offD : Fin 3 → ℕ} {inbS inbD} {h1 h2} (l : i < 32 := by decide) :
    KvWait m K c O i ⊢ WP c (if _h : cond then Prog.lift (.waitDma2 (semOf cc0_scratch12 off inb) (sl256 kvsM offS inbS) (sl256 kvrM offD inbD) h1 h2) else (pure ⟨⟩ : Prog (TpuEff nD τ sig (Elt F) Λ₀ .tc) PUnit))
      fun _ => KvWait m K c O (i + 1) :=
  wait_if (rcv_ne 0) (rk_dev i l) hc hO (expect_rcv m c 0 _) (rest_rcv m c 0 _) (le_of_eq (by rw [role_rcv]; rfl)) (fun _ => sem_rcv0 _ h) fun _ => kvr_credit.trans NA_0.symm
theorem part_wait {O : CellTallies nD τ sig Unit} (hO : Above 3 O) (i : ℕ) {cond : Prop} [Decidable cond] (hc : cond ↔ dev i ≠ c) {off : Fin 1 → ℕ} {inb}
    (h : off = ![(dev i).val]) {offS offD : Fin 3 → ℕ} {inbS inbD} {h1 h2} (l : i < 32 := by decide) :
    PartWait m K c O i ⊢ WP c (if _h : cond then Prog.lift (.waitDma2 (semOf cc0_scratch14 off inb) (sl512 parM offS inbS) (sl512 comM offD inbD) h1 h2) else (pure ⟨⟩ : Prog (TpuEff nD τ sig (Elt F) Λ₀ .tc) PUnit))
      fun _ => PartWait m K c O (i + 1) :=
  wait_if (rcv_ne 1) (rk_dev i l) hc hO (expect_rcv m c 1 _) (rest_rcv m c 1 _) (le_of_eq (by rw [role_rcv]; rfl)) (fun _ => sem_rcv1 _ h) fun _ => com_credit.trans NA_1.symm
theorem out_wait {O : CellTallies nD τ sig Unit} (hO : Above 4 O) (i : ℕ) {cond : Prop} [Decidable cond] (hc : cond ↔ dev i ≠ c) {off : Fin 1 → ℕ} {inb}
    (h : off = ![(dev i).val]) {offD : Fin 3 → ℕ} {inbD} {h1 h2} (l : i < 32 := by decide) :
    OutWait m K c O i ⊢ WP c (if _h : cond then Prog.lift (.waitDma2 (semOf cc0_scratch16 off inb) redM (slOut offD inbD) h1 h2) else (pure ⟨⟩ : Prog (TpuEff nD τ sig (Elt F) Λ₀ .tc) PUnit))
      fun _ => OutWait m K c O (i + 1) :=
  wait_if (rcv_ne 2) (rk_dev i l) hc hO (expect_rcv m c 2 _) (rest_rcv m c 2 _) (le_of_eq (by rw [role_rcv]; rfl)) (fun _ => sem_rcv2 _ h) fun _ => out_credit.trans NA_2.symm

/-! ## The waits for one's own copies to have left -/

abbrev KvDrain (m : (ℓ : Loc nD τ sig) → Buf (Elt F) ℓ) (K : GSem nD τ sig → ℕ) (c : Dev nD) (n : ℕ) : sProp 𝕄 := WaitSt m K (snd 0) (NA 0) (srcP m 0 c) c (byOff c) 0 n
abbrev PartDrain (m : (ℓ : Loc nD τ sig) → Buf (Elt F) ℓ) (K : GSem nD τ sig → ℕ) (c : Dev nD) (n : ℕ) : sProp 𝕄 := WaitSt m K (snd 1) (NA 1) (srcP m 1 c) c (byHalf c) 0 n
abbrev OutDrain (m : (ℓ : Loc nD τ sig) → Buf (Elt F) ℓ) (K : GSem nD τ sig → ℕ) (c : Dev nD) (n : ℕ) : sProp 𝕄 := WaitSt m K (snd 2) (NA 2) (srcP m 2 c) c (byOff c) 0 n

theorem kv_drain (o : ℕ) {off : Fin 1 → ℕ} {inb} (h : off = ![(peer c o).val]) {offS offD : Fin 3 → ℕ} {inbS inbD} {h1 h2}
    (l1 : 1 ≤ o := by decide) (l2 : o < 32 := by decide) :
    KvDrain m K c o ⊢ WP c (Prog.lift (.waitDma2 (semOf cc0_scratch11 off inb) (sl256 kvrM offD inbD) (sl256 kvsM offS inbS) h1 h2)) fun _ => KvDrain m K c (o + 1) :=
  wait_step (rk_peer o l2) (mem_others.2 (peer_ne o l1 l2))
    (wait_one (sem_snd0 _ h) (snd_ne 0 _) (expect_snd m c 0 _ (peer_ne o l1 l2)) (rest_snd m c 0 _ (peer_ne o l1 l2)) (l := 0) (le_of_eq (by rw [role_snd]; rfl)) (above_zero 0) (kvs_credit.trans NA_0.symm))
theorem out_drain (o : ℕ) {off : Fin 1 → ℕ} {inb} (h : off = ![(peer c o).val]) {offD : Fin 3 → ℕ} {inbD} {h1 h2}
    (l1 : 1 ≤ o := by decide) (l2 : o < 32 := by decide) :
    OutDrain m K c o ⊢ WP c (Prog.lift (.waitDma2 (semOf cc0_scratch15 off inb) (slOut offD inbD) redM h1 h2)) fun _ => OutDrain m K c (o + 1) :=
  wait_step (rk_peer o l2) (mem_others.2 (peer_ne o l1 l2))
    (wait_one (sem_snd2 _ h) (snd_ne 2 _) (expect_snd m c 2 _ (peer_ne o l1 l2)) (rest_snd m c 2 _ (peer_ne o l1 l2)) (l := 0) (le_of_eq (by rw [role_snd]; rfl)) (above_zero 0) (red_credit.trans NA_2.symm))
theorem part_drain (j : ℕ) {cond : Prop} [Decidable cond] (hc : cond ↔ peerH c j ≠ c) {off : Fin 1 → ℕ} {inb : cond → ∀ a, off a + S1.size a ≤ S32.size a} (h : off = ![(peerH c j).val])
    {offS offD : Fin 3 → ℕ} {inbS : cond → ∀ a, offS a + S1x16x512.size a ≤ S32x16x512.size a} {inbD : cond → ∀ a, offD a + S1x16x512.size a ≤ S32x16x512.size a}
    {h1 : ∀ h, (sl512 comM offD (inbD h)).view.WordExact} {h2 : ∀ h, (sl512 parM offS (inbS h)).view.WordExact} (l : j < 32 := by decide) :
    PartDrain m K c j ⊢ WP c (if h : cond then Prog.lift (.waitDma2 (semOf cc0_scratch13 off (inb h)) (sl512 comM offD (inbD h)) (sl512 parM offS (inbS h)) (h1 h) (h2 h)) else (pure ⟨⟩ : Prog (TpuEff nD τ sig (Elt F) Λ₀ .tc) PUnit))
      fun _ => PartDrain m K c (j + 1) :=
  wait_if (snd_ne 1) (rk_peerH j l) hc (above_zero 0) (expect_snd m c 1 _) (rest_snd m c 1 _) (le_of_eq (by rw [role_snd]; rfl)) (fun _ => sem_snd1 _ h) fun _ => par_credit.trans NA_1.symm

/-! ## The loads and stores -/

/-- The elements `S` of a buffer, those of `D` at the contents `g`. -/
def Fill (c : Dev nD) (b : Ref sig .tc) (S D : Finset b.ty.shape.Idx) (g : b.ty.Contents (Elt F)) : sProp 𝕄 :=
  iprop(∃ f, ptS c b S f ∗ ⌜∀ i ∈ D, f i = g i⌝)

theorem fill_mono {b : Ref sig .tc} {S D D' : Finset b.ty.shape.Idx} {g : b.ty.Contents (Elt F)} (h : D' ⊆ D) : (Fill c b S D g : sProp 𝕄) ⊢ Fill c b S D' g := by
  unfold Fill
  iintro ⟨%f, HP, %hf⟩
  iexists f
  isplitl [HP]; · iexact HP
  ipureintro; exact fun i hi => hf i (h hi)
theorem fill_full {b : Ref sig .tc} {S : Finset b.ty.shape.Idx} {g : b.ty.Contents (Elt F)} : (Fill c b S S g : sProp 𝕄) ⊢ ptS c b S g := by
  unfold Fill
  iintro ⟨%f, HP, %hf⟩
  iapply (Entails.of_eq (pointsTo_congr hf)) $$ HP
theorem fill_none {b : Ref sig .tc} {S : Finset b.ty.shape.Idx} {g : b.ty.Contents (Elt F)} : (iprop(∃ f, ptS c b S f) : sProp 𝕄) ⊢ Fill c b S ∅ g := by
  unfold Fill
  iintro ⟨%f, HP⟩
  iexists f
  isplitl [HP]; · iexact HP
  ipureintro; exact fun i hi => absurd hi (Finset.notMem_empty i)

section Mem
variable {sp : CoreSpace} {s : Shape} {e : EltTy} {M : Memref sig .tc sp s e} {r : Rect s}

/-- A load that returns what is there. -/
theorem load_val {S : Finset (Idx ((M.access r).loc (c : Thread nD τ)))} {q : PosShare TreeShare} {f : Buf (Elt F) ((M.access r).loc (c : Thread nD τ))}
    (hS : (M.access r).set ⊆ S) {hl : M.view.LoadsAt r.toLoadRect} :
    ((M.access r).loc (c : Thread nD τ) ↦[S]{q} f : sProp 𝕄)
      ⊢ WP c (Prog.lift (.load M r.toLoadRect hl)) fun x => iprop(⌜x = (M.access r).read (Elt F) f⌝ ∗ ((M.access r).loc (c : Thread nD τ) ↦[S]{q} f)) := by
  iintro H
  iapply (wp_load_rect 𝒱₀ (c : Thread nD τ) none Set.univ (m := M) (r := r) hS) $$ H
  iintro H
  iapply (le_wp_ret (Fr := frame) (wpE := wpE (defs₀ (F := F)) 𝒱₀ (c : Thread nD τ) none) (E := Set.univ))
  isplitr; · ipureintro; rfl
  iexact H

theorem load_fill {S D : Finset (Idx ((M.access r).loc (c : Thread nD τ)))} {g : Buf (Elt F) ((M.access r).loc (c : Thread nD τ))}
    (hS : (M.access r).set ⊆ S) {hl : M.view.LoadsAt r.toLoadRect} :
    (iprop(∃ f, ((M.access r).loc (c : Thread nD τ) ↦[S]{fullShare} f) ∗ ⌜∀ i ∈ D, f i = g i⌝) : sProp 𝕄)
      ⊢ WP c (Prog.lift (.load M r.toLoadRect hl)) fun _ => iprop(∃ f, ((M.access r).loc (c : Thread nD τ) ↦[S]{fullShare} f) ∗ ⌜∀ i ∈ D, f i = g i⌝) := by
  iintro ⟨%f, H, %hf⟩
  iapply (wp_load_rect 𝒱₀ (c : Thread nD τ) none Set.univ (m := M) (r := r) hS) $$ H
  iintro H
  iapply (le_wp_ret (Fr := frame) (wpE := wpE (defs₀ (F := F)) 𝒱₀ (c : Thread nD τ) none) (E := Set.univ))
  iexists f
  isplitl [H]; · iexact H
  ipureintro; exact hf

/-- A store of what `g` has there. -/
theorem store_fill {S D D' : Finset (Idx ((M.access r).loc (c : Thread nD τ)))} {g : Buf (Elt F) ((M.access r).loc (c : Thread nD τ))}
    (hS : (M.access r).set ⊆ S) {w : r.shape.Idx → Elt F e} (hw : w = (M.access r).read (Elt F) g) (hD : ∀ i ∈ D', i ∈ D ∨ i ∈ (M.access r).set)
    {hx : (M.access r).Stores Finset.univ} {hm : Finset.univ = Finset.univ ∨ ∀ a, r.stride a = 1} :
    (iprop(∃ f, ((M.access r).loc (c : Thread nD τ) ↦[S]{fullShare} f) ∗ ⌜∀ i ∈ D, f i = g i⌝) : sProp 𝕄)
      ⊢ WP c (Prog.lift (.store M r w Finset.univ hx hm)) fun _ => iprop(∃ f, ((M.access r).loc (c : Thread nD τ) ↦[S]{fullShare} f) ∗ ⌜∀ i ∈ D', f i = g i⌝) := by
  subst hw
  iintro ⟨%f, H, %hf⟩
  iapply (wp_store 𝒱₀ (c : Thread nD τ) none Set.univ (m := M) (r := r) hS) $$ H
  iintro H
  iapply (le_wp_ret (Fr := frame) (wpE := wpE (defs₀ (F := F)) 𝒱₀ (c : Thread nD τ) none) (E := Set.univ))
  iexists _
  isplitl [H]; · iexact H
  ipureintro
  intro i hi
  by_cases h : i ∈ (M.access r).set
  · obtain ⟨x, -, rfl⟩ := Finset.mem_map.1 h
    rw [View.write_emb_of_mem _ _ (Finset.mem_univ x), View.read_apply]
    exact cast_cast _ _ _
  · rw [View.write_of_not_mem _ _ _ h]
    exact hf i ((hD i hi).resolve_right h)
end Mem

end Cert.KernelIdeal.Mesh
-- ==== Proof.KI.Fills.lean ====
/-
  The loads and stores of the kernel's body, buffer by buffer: packing the keys and values for the other devices, one's own
  slot of what is received, the chunks of one's share of the output, the sum and its place in the result.
-/
module

public import proofs.«01_k».proof.Proof.KI.Ops

@[expose] public section

noncomputable section

namespace Cert.KernelIdeal.Mesh

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : GSem nD τ sig → ℕ} {c : Dev nD}

/-- The elements of a whole buffer that an access covers. -/
theorem mem_access (b : Ref sig .tc) (r : Rect b.ty.shape) (i : b.ty.shape.Idx) (x : r.shape.Idx)
    (h : ∀ a, (i a).val = r.off a + r.stride a * (x a).val) : i ∈ ((Memref.whole b).access r).set :=
  Finset.mem_map.2 ⟨x, Finset.mem_univ x, funext fun a => Fin.ext (h a).symm⟩

/-! ## Packing the keys and values -/

/-- What the first `n` stores of the packing fill. -/
def packSet (n : ℕ) : Finset S32x32x256.Idx := Finset.univ.filter fun i => 32 * ((i 1).val / 8) + (i 0).val < n
theorem mem_packSet {n : ℕ} {i : S32x32x256.Idx} : i ∈ packSet n ↔ 32 * ((i 1).val / 8) + (i 0).val < n := by simp [packSet]
theorem packSet_zero : packSet 0 = ∅ := Finset.eq_empty_of_forall_notMem fun i h => absurd (mem_packSet.1 h) (Nat.not_lt_zero _)
theorem packSet_last : packSet 128 = Finset.univ := Finset.eq_univ_of_forall fun i => mem_packSet.2 (by
  have h0 : (i 0).val < 32 := (i 0).isLt
  have h1 : (i 1).val < 32 := (i 1).isLt
  omega)

/-- The rectangle of one store of the packing. -/
abbrev packR (off : Fin 3 → ℕ) (inb : ∀ a, off a + S1x8x256.size a ≤ S32x32x256.size a) : Rect S32x32x256 := Rect.unit (s := S32x32x256) off S1x8x256.size inb
abbrev rdR (off : Fin 5 → ℕ) (inb : ∀ a, off a + S1x1x8x64x128.size a ≤ S2x2x8x64x128.size a) : Rect S2x2x8x64x128 := Rect.unit (s := S2x2x8x64x128) off S1x1x8x64x128.size inb

/-- The packing under way: `n` of its stores done. -/
def PackSt (m : (ℓ : Loc nD τ sig) → Buf (Elt F) ℓ) (c : Dev nD) (n : ℕ) : sProp 𝕄 :=
  iprop(Fill c cc0_scratch4 Finset.univ (packSet n) (kvs m c) ∗ pt c cc0_scratch3 (rdB m c))

/-- The eight rows of keys (`t = 0`) or values (`t = 1`) of batch `b`. -/
def rdL (m : (ℓ : Loc nD τ sig) → Buf (Elt F) ℓ) (c : Dev nD) (t b : Fin 2) : Vec F S1x1x8x64x128 .f32 := fun x => rdB m c (ix5 t b (x 2) (x 3) (x 4))

theorem rd_read (t b : Fin 2) {off : Fin 5 → ℕ} {inb} (h : off = ![t.val, b.val, 0, 0, 0]) : (rdM.access (rdR off inb)).read (Elt F) (rdB m c) = rdL m c t b := by
  subst h
  funext x
  rw [View.read_apply]
  refine (?_ : rdB m c _ = rdB m c _)
  congr 1
  have h0 : (x 0).val = 0 := by have : (x 0).val < 1 := (x 0).isLt; omega
  have h1 : (x 1).val = 0 := by have : (x 1).val < 1 := (x 1).isLt; omega
  funext a
  refine Fin.ext ?_
  show (![t.val, b.val, 0, 0, 0] : Fin 5 → ℕ) a + 1 * (x a).val = _
  match a with
  | ⟨0, _⟩ => show t.val + 1 * (x 0).val = t.val; omega
  | ⟨1, _⟩ => show b.val + 1 * (x 1).val = b.val; omega
  | ⟨2, _⟩ => show 0 + 1 * (x 2).val = (x 2).val; omega
  | ⟨3, _⟩ => show 0 + 1 * (x 3).val = (x 3).val; omega
  | ⟨4, _⟩ => show 0 + 1 * (x 4).val = (x 4).val; omega

/-- Four heads of the eight rows, laid side by side, are a store's worth of what is packed. -/
theorem pack_eq (t b : Fin 2) (n : ℕ) (hn : n < 128) (ht : n / 32 = 2 * t.val + b.val) {off : Fin 3 → ℕ} {inb} (h : off = ![n % 32, 8 * (n / 32), 0])
    {o4 : Fin 3 → ℕ} (hsl : S8x128x64.Slices o4 S8x4x64) (h4 : o4 = ![0, 4 * (n % 32), 0]) :
    shapeCast S1x8x256 (shapeCast S8x256 (extractStridedSlice S8x4x64 o4 (k0_pay1 (rdL m c t b)) hsl) shapeCasts_S8x4x64_S8x256) shapeCasts_S8x256_S1x8x256
      = (kvsM.access (packR off inb)).read (Elt F) (kvs m c) := by
  subst h h4
  funext x
  have hx0 : (x 0).val < 1 := (x 0).isLt
  have hx1 : (x 1).val < 8 := (x 1).isLt
  have hx2 : (x 2).val < 256 := (x 2).isLt
  have htl : t.val < 2 := t.isLt
  have hbl : b.val < 2 := b.isLt
  have hd : (x 2).val / 64 < 4 := by omega
  have hm : (x 2).val % 64 < 64 := by omega
  have ha : 4 * (n % 32) + (x 2).val / 64 < 128 := by omega
  have e1 : shapeCast S1x8x256 (shapeCast S8x256 (extractStridedSlice S8x4x64 ![0, 4 * (n % 32), 0] (k0_pay1 (rdL m c t b)) hsl) shapeCasts_S8x4x64_S8x256) shapeCasts_S8x256_S1x8x256 x
      = shapeCast S8x256 (extractStridedSlice S8x4x64 ![0, 4 * (n % 32), 0] (k0_pay1 (rdL m c t b)) hsl) shapeCasts_S8x4x64_S8x256 (ix2 (x 1) (x 2)) :=
    shapeCast_apply _ _ _ _ (by
      rw [Shape.rowMajor_val_three, Shape.rowMajor_val_two]
      show (x 1).val * 256 + (x 2).val = ((x 0).val * 8 + (x 1).val) * 256 + (x 2).val
      omega)
  have e2 : shapeCast S8x256 (extractStridedSlice S8x4x64 ![0, 4 * (n % 32), 0] (k0_pay1 (rdL m c t b)) hsl) shapeCasts_S8x4x64_S8x256 (ix2 (x 1) (x 2))
      = extractStridedSlice S8x4x64 ![0, 4 * (n % 32), 0] (k0_pay1 (rdL m c t b)) hsl (ix3 (x 1) ⟨(x 2).val / 64, hd⟩ ⟨(x 2).val % 64, hm⟩) :=
    shapeCast_apply _ _ _ _ (by
      rw [Shape.rowMajor_val_three, Shape.rowMajor_val_two]
      show ((x 1).val * 4 + (x 2).val / 64) * 64 + (x 2).val % 64 = (x 1).val * 256 + (x 2).val
      omega)
  have e3 : extractStridedSlice S8x4x64 ![0, 4 * (n % 32), 0] (k0_pay1 (rdL m c t b)) hsl (ix3 (x 1) ⟨(x 2).val / 64, hd⟩ ⟨(x 2).val % 64, hm⟩)
      = k0_pay1 (rdL m c t b) (ix3 (x 1) ⟨4 * (n % 32) + (x 2).val / 64, ha⟩ ⟨(x 2).val % 64, hm⟩) :=
    extractStridedSlice_apply _ _ _ _ _ fun a => by
      match a with
      | ⟨0, _⟩ => show (x 1).val = 0 + (x 1).val; omega
      | ⟨1, _⟩ => rfl
      | ⟨2, _⟩ => show (x 2).val % 64 = 0 + (x 2).val % 64; omega
  have e4 : k0_pay1 (rdL m c t b) (ix3 (x 1) ⟨4 * (n % 32) + (x 2).val / 64, ha⟩ ⟨(x 2).val % 64, hm⟩)
      = rdB m c (ix5 t b (x 1) ⟨(x 2).val % 64, hm⟩ ⟨4 * (n % 32) + (x 2).val / 64, ha⟩) := by
    unfold k0_pay1
    refine (transpose_ix3_021_apply _ _ _ _ _).trans ?_
    refine (shapeCast_apply _ _ _ (ix5 (0 : Fin 1) (0 : Fin 1) (x 1) (⟨(x 2).val % 64, hm⟩ : Fin 64) (⟨4 * (n % 32) + (x 2).val / 64, ha⟩ : Fin 128)) ?_).trans rfl
    rw [Shape.rowMajor_val_three, Shape.rowMajor_val_five]
    show (((0 * 1 + 0) * 8 + (x 1).val) * 64 + (x 2).val % 64) * 128 + (4 * (n % 32) + (x 2).val / 64)
      = ((x 1).val * 64 + (x 2).val % 64) * 128 + (4 * (n % 32) + (x 2).val / 64)
    omega
  rw [e1, e2, e3, e4, View.read_apply]
  refine (?_ : rdB m c _ = kvs m c _)
  unfold kvs
  congr 1
  funext a
  refine Fin.ext ?_
  match a with
  | ⟨0, _⟩ => show t.val = (8 * (n / 32) + 1 * (x 1).val) / 16; omega
  | ⟨1, _⟩ => show b.val = (8 * (n / 32) + 1 * (x 1).val) / 8 % 2; omega
  | ⟨2, _⟩ => show (x 1).val = (8 * (n / 32) + 1 * (x 1).val) % 8; omega
  | ⟨3, _⟩ => show (x 2).val % 64 = (0 + 1 * (x 2).val) % 64; omega
  | ⟨4, _⟩ => show 4 * (n % 32) + (x 2).val / 64 = 4 * (n % 32 + 1 * (x 0).val) + (0 + 1 * (x 2).val) / 64; omega

theorem pack_load {n : ℕ} {off : Fin 3 → ℕ} {inb} {hl : kvsM.view.LoadsAt (packR off inb).toLoadRect} :
    PackSt m c n ⊢ WP c (Prog.lift (.load kvsM (packR off inb).toLoadRect hl)) fun _ => PackSt m c n :=
  frameR (load_fill (c := c) (M := kvsM) (r := packR off inb) (S := Finset.univ) (D := packSet n) (g := kvs m c) (Finset.subset_univ _))

theorem pack_store {n : ℕ} {off : Fin 3 → ℕ} {inb} {w : Vec F S1x8x256 .f32} {hx hm}
    (hw : w = (kvsM.access (packR off inb)).read (Elt F) (kvs m c)) (h : off = ![n % 32, 8 * (n / 32), 0] := by rfl) :
    PackSt m c n ⊢ WP c (Prog.lift (.store kvsM (packR off inb) w Finset.univ hx hm)) fun _ => PackSt m c (n + 1) := by
  subst h
  refine frameR (store_fill (c := c) (M := kvsM) (r := packR _ inb) (S := Finset.univ) (D := packSet n) (D' := packSet (n + 1)) (g := kvs m c) (Finset.subset_univ _) hw ?_)
  intro i hi
  have hi := mem_packSet.1 hi
  have h0 : (i 0).val < 32 := (i 0).isLt
  by_cases hlt : 32 * ((i 1).val / 8) + (i 0).val < n
  · exact .inl (mem_packSet.2 hlt)
  · refine .inr (mem_access cc0_scratch4 (packR _ inb) i (ix3 (0 : Fin 1) (⟨(i 1).val % 8, by omega⟩ : Fin 8) (i 2)) fun a => ?_)
    match a with
    | ⟨0, _⟩ => show (i 0).val = n % 32 + 1 * 0; omega
    | ⟨1, _⟩ => show (i 1).val = 8 * (n / 32) + 1 * ((i 1).val % 8); omega
    | ⟨2, _⟩ => show (i 2).val = 0 + 1 * (i 2).val; omega

theorem rd_load {n : ℕ} (t b : Fin 2) {off : Fin 5 → ℕ} {inb} {hl : rdM.view.LoadsAt (rdR off inb).toLoadRect} (h : off = ![t.val, b.val, 0, 0, 0] := by rfl) :
    PackSt m c n ⊢ WP c (Prog.lift (.load rdM (rdR off inb).toLoadRect hl)) fun x => iprop(⌜x = rdL m c t b⌝ ∗ PackSt m c n) := by
  unfold PackSt
  iintro ⟨HF, HR⟩
  iapply (wp_wand (Fr := frame) (wpE := wpE (defs₀ (F := F)) 𝒱₀ (c : Thread nD τ) none) (E := Set.univ)) $$ [HR]
  · iapply (load_val (c := c) (M := rdM) (r := rdR off inb) (S := Finset.univ) (q := fullShare) (f := rdB m c) (Finset.subset_univ _)) $$ HR
  iintro %x ⟨%hx, HR⟩
  isplitr; · ipureintro; exact hx.trans (rd_read t b h)
  isplitl [HF]; · iexact HF
  iexact HR

/-! ## The chunks of one's share of the output -/

abbrev parR (off : Fin 3 → ℕ) (inb : ∀ a, off a + S1x16x512.size a ≤ S32x16x512.size a) : Rect S32x16x512 := Rect.unit (s := S32x16x512) off S1x16x512.size inb

/-- The chunks of batch `b` before chunk `n`. -/
def parSet (b n : ℕ) : Finset S32x16x512.Idx := Finset.univ.filter fun i => 16 * b ≤ (i 0).val ∧ (i 0).val < n
theorem mem_parSet {b n : ℕ} {i : S32x16x512.Idx} : i ∈ parSet b n ↔ 16 * b ≤ (i 0).val ∧ (i 0).val < n := by simp [parSet]
theorem parSet_first (b : ℕ) : parSet b (16 * b) = ∅ := Finset.eq_empty_of_forall_notMem fun i h => by have := mem_parSet.1 h; omega

/-- The chunks of batch `b` under way: those before chunk `n` stored. -/
abbrev ParSt (m : (ℓ : Loc nD τ sig) → Buf (Elt F) ℓ) (c : Dev nD) (b n : ℕ) : sProp 𝕄 :=
  Fill c cc0_scratch6 (parSet b (16 * b + 16)) (parSet b n) (par m c)

theorem par_sub {b n : ℕ} (hb : 16 * b ≤ n) (hn : n < 16 * b + 16) {off : Fin 3 → ℕ} {inb} (h : off = ![n, 0, 0]) :
    (parM.access (parR off inb)).set ⊆ parSet b (16 * b + 16) := by
  subst h
  intro i hi
  obtain ⟨x, -, rfl⟩ := Finset.mem_map.1 hi
  have h0 : (x 0).val < 1 := (x 0).isLt
  refine mem_parSet.2 ?_
  show 16 * b ≤ n + 1 * (x 0).val ∧ n + 1 * (x 0).val < 16 * b + 16
  omega

theorem par_load {b n : ℕ} {off : Fin 3 → ℕ} {inb} {hl : parM.view.LoadsAt (parR off inb).toLoadRect}
    (h : off = ![n, 0, 0] := by rfl) (hb : 16 * b ≤ n := by decide) (hn : n < 16 * b + 16 := by decide) :
    ParSt m c b n ⊢ WP c (Prog.lift (.load parM (parR off inb).toLoadRect hl)) fun _ => ParSt m c b n :=
  load_fill (c := c) (M := parM) (r := parR off inb) (D := parSet b n) (g := par m c) (par_sub hb hn h)

theorem par_store {b n : ℕ} {off : Fin 3 → ℕ} {inb} {w : Vec F S1x16x512 .f32} {hx hm} (hw : w = (parM.access (parR off inb)).read (Elt F) (par m c))
    (h : off = ![n, 0, 0] := by rfl) (hb : 16 * b ≤ n := by decide) (hn : n < 16 * b + 16 := by decide) :
    ParSt m c b n ⊢ WP c (Prog.lift (.store parM (parR off inb) w Finset.univ hx hm)) fun _ => ParSt m c b (n + 1) := by
  refine store_fill (c := c) (M := parM) (r := parR off inb) (D := parSet b n) (D' := parSet b (n + 1)) (g := par m c) (par_sub hb hn h) hw ?_
  subst h
  intro i hi
  have hi := mem_parSet.1 hi
  by_cases hlt : (i 0).val < n
  · exact .inl (mem_parSet.2 ⟨hi.1, hlt⟩)
  · refine .inr (mem_access cc0_scratch6 (parR _ inb) i (ix3 (0 : Fin 1) (i 1) (i 2)) fun a => ?_)
    match a with
    | ⟨0, _⟩ => show (i 0).val = n + 1 * 0; omega
    | ⟨1, _⟩ => show (i 1).val = 0 + 1 * (i 1).val; omega
    | ⟨2, _⟩ => show (i 2).val = 0 + 1 * (i 2).val; omega

/-- Sixteen rows of a batch's share are a chunk of the whole. -/
theorem par_eq (b : Fin 2) (n : ℕ) (hb : n / 16 = b.val) {off : Fin 3 → ℕ} {inb} (h : off = ![n, 0, 0])
    {o2 : Fin 2 → ℕ} (hsl : S256x512.Slices o2 S16x512) (h2 : o2 = ![16 * (n % 16), 0]) {v : FVec F S256x512 .f32} (hv : v = pb m c b) :
    shapeCast S1x16x512 (extractStridedSlice S16x512 o2 v hsl) shapeCasts_S16x512_S1x16x512
      = (parM.access (parR off inb)).read (Elt F) (par m c) := by
  subst h h2 hv
  funext x
  have hx0 : (x 0).val < 1 := (x 0).isLt
  have hx1 : (x 1).val < 16 := (x 1).isLt
  have ha : 16 * (n % 16) + (x 1).val < 256 := by omega
  have e1 : shapeCast S1x16x512 (extractStridedSlice S16x512 ![16 * (n % 16), 0] (pb m c b) hsl) shapeCasts_S16x512_S1x16x512 x
      = extractStridedSlice S16x512 ![16 * (n % 16), 0] (pb m c b) hsl (ix2 (x 1) (x 2)) :=
    shapeCast_apply _ _ _ _ (by
      rw [Shape.rowMajor_val_three, Shape.rowMajor_val_two]
      show (x 1).val * 512 + (x 2).val = ((x 0).val * 16 + (x 1).val) * 512 + (x 2).val
      omega)
  have e2 : extractStridedSlice S16x512 ![16 * (n % 16), 0] (pb m c b) hsl (ix2 (x 1) (x 2)) = pb m c b (ix2 (⟨16 * (n % 16) + (x 1).val, ha⟩ : Fin 256) (x 2)) :=
    extractStridedSlice_apply _ _ _ _ _ fun a => by
      match a with
      | ⟨0, _⟩ => rfl
      | ⟨1, _⟩ => show (x 2).val = 0 + (x 2).val; omega
  rw [e1, e2, View.read_apply]
  refine (?_ : _ = par m c _)
  unfold par
  have key : ∀ (b' : Fin 2) (r r' : Fin 256) (l l' : Fin 512), b = b' → r = r' → l = l' → pb m c b (ix2 r l) = pb m c b' (ix2 r' l') := by
    rintro _ _ _ _ _ rfl rfl rfl; rfl
  refine key _ _ _ _ _ (Fin.ext ?_) (Fin.ext ?_) (Fin.ext ?_)
  · show b.val = (n + 1 * (x 0).val) / 16; omega
  · show 16 * (n % 16) + (x 1).val = 16 * ((n + 1 * (x 0).val) % 16) + (0 + 1 * (x 1).val); omega
  · show (x 2).val = 0 + 1 * (x 2).val; omega

/-! ## One's own slots, the sum and its place in the result -/

section Mem
variable {sp : CoreSpace} {s : Shape} {e : EltTy} {M : Memref sig .tc sp s e} {r : Rect s}

/-- A load of what is not yet of use. -/
theorem load_any {S : Finset (Idx ((M.access r).loc (c : Thread nD τ)))} (hS : (M.access r).set ⊆ S) {hl : M.view.LoadsAt r.toLoadRect} :
    (iprop(∃ f, ((M.access r).loc (c : Thread nD τ) ↦[S]{fullShare} f)) : sProp 𝕄)
      ⊢ WP c (Prog.lift (.load M r.toLoadRect hl)) fun _ => iprop(∃ f, ((M.access r).loc (c : Thread nD τ) ↦[S]{fullShare} f)) := by
  iintro ⟨%f, H⟩
  iapply (wp_load_rect 𝒱₀ (c : Thread nD τ) none Set.univ (m := M) (r := r) hS) $$ H
  iintro H
  iapply (le_wp_ret (Fr := frame) (wpE := wpE (defs₀ (F := F)) 𝒱₀ (c : Thread nD τ) none) (E := Set.univ))
  iexists f
  iexact H

/-- A store of what `g` has on all of `S`. -/
theorem store_all {S : Finset (Idx ((M.access r).loc (c : Thread nD τ)))} {g : Buf (Elt F) ((M.access r).loc (c : Thread nD τ))}
    (hS : (M.access r).set = S) {w : r.shape.Idx → Elt F e} (hw : w = (M.access r).read (Elt F) g)
    {hx : (M.access r).Stores Finset.univ} {hm : Finset.univ = Finset.univ ∨ ∀ a, r.stride a = 1} :
    (iprop(∃ f, ((M.access r).loc (c : Thread nD τ) ↦[S]{fullShare} f)) : sProp 𝕄)
      ⊢ WP c (Prog.lift (.store M r w Finset.univ hx hm)) fun _ => iprop((M.access r).loc (c : Thread nD τ) ↦[S]{fullShare} g) := by
  subst hS
  iintro ⟨%f, H⟩
  iapply (wp_wand (Fr := frame) (wpE := wpE (defs₀ (F := F)) 𝒱₀ (c : Thread nD τ) none) (E := Set.univ)) $$ [H]
  · iapply (store_fill (c := c) (M := M) (r := r) (S := (M.access r).set) (D := ∅) (D' := (M.access r).set) (g := g) (le_refl _) hw fun i hi => .inr hi)
    iexists f
    isplitl [H]; · iexact H
    ipureintro; exact fun i hi => absurd hi (Finset.notMem_empty i)
  iintro %x ⟨%f', H, %hf⟩
  iapply (Entails.of_eq (pointsTo_congr hf)) $$ H
end Mem

/-- The rectangle of one whole slot. -/
abbrev slotR (off : Fin 3 → ℕ) (inb : ∀ a, off a + S1x32x256.size a ≤ S32x32x256.size a) : Rect S32x32x256 := Rect.unit (s := S32x32x256) off S1x32x256.size inb

theorem kvr_access_set {off : Fin 3 → ℕ} {inb} (h : off = ![c.val, 0, 0]) : (kvrM.access (slotR off inb)).set = slot256 c.val := by
  subst h
  ext i
  rw [mem_slot256]
  constructor
  · intro hi
    obtain ⟨x, -, rfl⟩ := Finset.mem_map.1 hi
    have h0 : (x 0).val < 1 := (x 0).isLt
    show c.val + 1 * (x 0).val = c.val
    omega
  · intro hi
    refine mem_access cc0_scratch5 (slotR _ inb) i (ix3 (0 : Fin 1) (i 1) (i 2)) fun a => ?_
    match a with
    | ⟨0, _⟩ => show (i 0).val = c.val + 1 * 0; omega
    | ⟨1, _⟩ => show (i 1).val = 0 + 1 * (i 1).val; omega
    | ⟨2, _⟩ => show (i 2).val = 0 + 1 * (i 2).val; omega

theorem com_access_set {off : Fin 3 → ℕ} {inb} (h : off = ![c.val, 0, 0]) : (comM.access (parR off inb)).set = slot512 c.val := by
  subst h
  ext i
  rw [mem_slot512]
  constructor
  · intro hi
    obtain ⟨x, -, rfl⟩ := Finset.mem_map.1 hi
    have h0 : (x 0).val < 1 := (x 0).isLt
    show c.val + 1 * (x 0).val = c.val
    omega
  · intro hi
    refine mem_access cc0_scratch7 (parR _ inb) i (ix3 (0 : Fin 1) (i 1) (i 2)) fun a => ?_
    match a with
    | ⟨0, _⟩ => show (i 0).val = c.val + 1 * 0; omega
    | ⟨1, _⟩ => show (i 1).val = 0 + 1 * (i 1).val; omega
    | ⟨2, _⟩ => show (i 2).val = 0 + 1 * (i 2).val; omega

/-- One's own slot of what is packed is one's own slot of what is received. -/
theorem kvr_own {off off' : Fin 3 → ℕ} {inb inb'} (h : off = ![c.val, 0, 0]) (h' : off' = ![c.val, 0, 0]) :
    (kvsM.access (slotR off inb)).read (Elt F) (kvs m c) = (kvrM.access (slotR off' inb')).read (Elt F) (kvr m c) := by
  subst h h'
  funext x
  have h0 : (x 0).val < 1 := (x 0).isLt
  rw [View.read_apply, View.read_apply]
  refine (?_ : kvs m c _ = kvr m c _)
  have key : ∀ (a : Fin 32) (i j : S32x32x256.Idx), i = ix3 c (j 1) (j 2) → j 0 = c → kvs m c i = kvr m c j := by
    intro a i j hi hj
    unfold kvr; rw [hi, hj]; rfl
  refine key 0 _ _ ?_ ?_
  · funext a
    refine Fin.ext ?_
    match a with
    | ⟨0, _⟩ => show c.val + 1 * (x 0).val = c.val; omega
    | ⟨1, _⟩ => rfl
    | ⟨2, _⟩ => rfl
  · exact Fin.ext (show c.val + 1 * (x 0).val = c.val by omega)
theorem com_own {off off' : Fin 3 → ℕ} {inb inb'} (h : off = ![c.val, 0, 0]) (h' : off' = ![c.val, 0, 0]) :
    (parM.access (parR off inb)).read (Elt F) (par m c) = (comM.access (parR off' inb')).read (Elt F) (com m c) := by
  subst h h'
  funext x
  have h0 : (x 0).val < 1 := (x 0).isLt
  rw [View.read_apply, View.read_apply]
  refine (?_ : par m c _ = com m c _)
  have key : ∀ (a : Fin 32) (i j : S32x16x512.Idx), i = ix3 c (j 1) (j 2) → j 0 = c → par m c i = com m c j := by
    intro a i j hi hj
    unfold com; rw [hi, hj]; rfl
  refine key 0 _ _ ?_ ?_
  · funext a
    refine Fin.ext ?_
    match a with
    | ⟨0, _⟩ => show c.val + 1 * (x 0).val = c.val; omega
    | ⟨1, _⟩ => rfl
    | ⟨2, _⟩ => rfl
  · exact Fin.ext (show c.val + 1 * (x 0).val = c.val by omega)

abbrev outRc (off : Fin 3 → ℕ) (inb : ∀ a, off a + S1x16x512.size a ≤ S2x256x512.size a) : Rect S2x256x512 := Rect.unit (s := S2x256x512) off S1x16x512.size inb

theorem out_access_set {off : Fin 3 → ℕ} {inb} (h : off = chunkOff c.val) : (outM.access (outRc off inb)).set = chunk c.val := by
  exact slOut_set c h
theorem out_own {off : Fin 3 → ℕ} {inb} (h : off = chunkOff c.val) : red m c = (outM.access (outRc off inb)).read (Elt F) (res m) :=
  out_slot m c h

/-! ## The local copies -/

/-- What local copy `k` takes: its source, its destination and the right to it. -/
def lclIn (m : (ℓ : Loc nD τ sig) → Buf (Elt F) ℓ) (c : Dev nD) (k : Fin 7) : sProp 𝕄 :=
  iprop((match k with
    | 0 => iprop(pt c main_arg0 (V m c main_arg0) ∗ ∃ f, pt c cc0_scratch0 f)
    | 1 => iprop(pt c main_arg1 (V m c main_arg1) ∗ ∃ f, pt c cc0_scratch1 f)
    | 2 => iprop(pt c main_arg4 (V m c main_arg4) ∗ ∃ f, pt c cc0_scratch2 f)
    | 3 => iprop(ptS c main_v1 (srcSet 0 c.val) (V m c main_v1) ∗ ∃ f, ptS c cc0_scratch3 (rdSet 0 0) f)
    | 4 => iprop(ptS c main_v1 (srcSet 1 c.val) (V m c main_v1) ∗ ∃ f, ptS c cc0_scratch3 (rdSet 0 1) f)
    | 5 => iprop(ptS c main_v2 (srcSet 0 c.val) (V m c main_v2) ∗ ∃ f, ptS c cc0_scratch3 (rdSet 1 0) f)
    | 6 => iprop(ptS c main_v2 (srcSet 1 c.val) (V m c main_v2) ∗ ∃ f, ptS c cc0_scratch3 (rdSet 1 1) f))
    ∗ dutyTok ER (cellD c (lcl k)) 0 c)
/-- What is left meanwhile. -/
abbrev lclGo (c : Dev nD) (k : Fin 7) : sProp 𝕄 := cred (tallyAt (cellD c (lcl k)) () (NL k))

theorem copy_one (k : Fin 7) {sp sp' : Space} {s : Shape} {e : EltTy} {src : Memref sig .tc sp s e} {dst : Memref sig .tc sp' s e} {sem : DmaSem sig} (hs : sem = lcl k)
    {h1 : src.view.WordExact} {h2 : dst.view.WordExact} {h3} {A B : sProp 𝕄} {q : PosShare TreeShare} {fs : Buf (Elt F) (src.view.loc (c : Thread nD τ))}
    (hA : A ⊢ (src.view.loc (c : Thread nD τ) ↦[src.view.set]{q} fs)) (hB : B ⊢ iprop(∃ fd, dst.view.loc (c : Thread nD τ) ↦[dst.view.set]{fullShare} fd))
    (hpay : ∀ fd, (iprop((dst.view.loc (c : Thread nD τ) ↦[dst.view.set]{fullShare} dst.view.write (Elt F) fd (src.view.read (Elt F) fs) Finset.univ) ∗ (src.view.loc (c : Thread nD τ) ↦[src.view.set]{q} fs)) : sProp 𝕄) ⊢ lclP m c k)
    (hN : dst.view.dmaCredit = NL k) :
    iprop(ctx m K c ∗ (A ∗ B) ∗ dutyTok ER (cellD c (lcl k)) 0 c) ⊢ WP c (Prog.lift (.enqueueDma src (.here dst) (.dma sem) h1 h2 h3)) fun _ => lclGo c k := by
  subst hs
  iintro ⟨#HC, ⟨HA, HB⟩, Ht⟩
  ihave HA := hA $$ HA
  ihave HB := hB $$ HB
  icases HB with ⟨%fd, HB⟩
  ihave #Hi := (ctx_inv (m := m) (K := K) (c := c) c (lcl k) (lcl_ne k)) $$ HC
  ihave #Hr := (ctx_reached (m := m) (K := K) (c := c) (lcl k) (lcl_ne k)) $$ HC
  iapply (Rounds.wp_copy_pointsTo 𝒱₀ ER (Rd m) (c : Thread nD τ) none (src := src) (dst := dst) (sem := .dma (lcl k)) (q := q) (fs := fs) (fd := fd) (r := 0) (d := c)
    (by rw [duties_lcl]; exact Finset.mem_singleton_self _) () (NL k) hN (amount_lcl m c c k) (by rw [payload_lcl]; exact hpay fd)) $$ [HA HB Ht]
  · isplitr; · iexact Hi
    isplitl [HA]; · iexact HA
    isplitl [HB]; · iexact HB
    isplitl [Ht]; · iexact Ht
    iexact Hr
  iintro Hc
  iapply (le_wp_ret (Fr := frame) (wpE := wpE (defs₀ (F := F)) 𝒱₀ (c : Thread nD τ) none) (E := Set.univ))
  iexact Hc

/-! The seven copies, as the body prints them. -/

theorem rd_slot (t b : Fin 2) {M : Memref sig .tc .hbm S2x256x64x128 .f32} {f : M.view.ty.Contents (Elt F)} {offs : Fin 4 → ℕ} {offd : Fin 5 → ℕ} {inbs inbd}
    (hs : offs = ![b.val, 8 * c.val, 0, 0]) (hd : offd = ![t.val, b.val, 0, 0, 0]) (hf : ∀ i, M.view.read (Elt F) f i = kvB m c t i) :
    (slSrc M offs inbs).view.read (Elt F) f = (slRd offd inbd).view.read (Elt F) (rdB m c) := by
  funext x
  rw [View.read_apply, View.read_apply, slSrc_emb M b c hs, slRd_emb t b hd]
  exact (View.read_apply (v := M.view) f _).symm.trans (hf _)

/-- The copy of one of the three whole inputs. -/
theorem copy_in (k : Fin 7) {src : Ref sig .tc} {dst : Ref sig .tc} {sp sp' : Space} {s : Shape} {e : EltTy} {vs : Memref sig .tc sp s e} {vd : Memref sig .tc sp' s e} {sem : DmaSem sig} {h1 h2}
    {h3 : DmaTarget.Typed (nD := nD) (p := (.tc : Proc τ)) sp (.dma sem) (.here vd)} (hs : sem = lcl k)
    {fs : Buf (Elt F) (vs.view.loc (c : Thread nD τ))} {g : Buf (Elt F) (vd.view.loc (c : Thread nD τ))} (hvs : vs.view.set = Finset.univ) (hvd : vd.view.set = Finset.univ)
    (hr : vs.view.read (Elt F) fs = vd.view.read (Elt F) g)
    (hk : lclIn m c k = iprop(((vs.view.loc (c : Thread nD τ) ↦{fullShare} fs) ∗ ∃ fd, vd.view.loc (c : Thread nD τ) ↦{fullShare} fd) ∗ dutyTok ER (cellD c (lcl k)) 0 c))
    (hl : lclP m c k = iprop((vd.view.loc (c : Thread nD τ) ↦{fullShare} g) ∗ (vs.view.loc (c : Thread nD τ) ↦{fullShare} fs)))
    (hN : vd.view.dmaCredit = NL k) :
    iprop(ctx m K c ∗ lclIn m c k) ⊢ WP c (Prog.lift (.enqueueDma vs (.here vd) (.dma sem) h1 h2 h3)) fun _ => lclGo c k := by
  rw [hk]
  refine copy_one (src := vs) (dst := vd) k hs (q := fullShare) (fs := fs) ?_ ?_ (fun fd => ?_) hN
  · rw [hvs]
  · rw [hvd]
  · rw [hl]
    refine BI.sep_mono ((Entails.of_eq (pointsTo_congr (landed_eq (Val := Elt F) vs.view vd.view fs fd g hr))).trans ?_) ?_
    · rw [hvd]
    · rw [hvs]; exact BI.Entails.refl _

theorem copy_x {sem : DmaSem sig} {h1 h2} {h3 : DmaTarget.Typed (nD := nD) (p := (.tc : Proc τ)) .hbm (.dma sem) (.here xvM)} (hs : sem = lcl 0) :
    iprop(ctx m K c ∗ lclIn m c 0) ⊢ WP c (Prog.lift (.enqueueDma (Memref.whole main_arg0) (.here xvM) (.dma sem) h1 h2 h3)) fun _ => lclGo c 0 :=
  copy_in (src := main_arg0) (dst := cc0_scratch0) (vs := Memref.whole main_arg0) (vd := xvM) 0 hs (fs := V m c main_arg0) (g := xB m c) (View.set_whole _) (View.set_whole _)
    (funext fun x => (View.read_apply (v := (Memref.whole main_arg0).view) _ x).trans (View.read_apply (v := xvM.view) _ x).symm) rfl rfl rfl
theorem copy_wq {sem : DmaSem sig} {h1 h2} {h3 : DmaTarget.Typed (nD := nD) (p := (.tc : Proc τ)) .hbm (.dma sem) (.here wqM)} (hs : sem = lcl 1) :
    iprop(ctx m K c ∗ lclIn m c 1) ⊢ WP c (Prog.lift (.enqueueDma (Memref.whole main_arg1) (.here wqM) (.dma sem) h1 h2 h3)) fun _ => lclGo c 1 :=
  copy_in (src := main_arg1) (dst := cc0_scratch1) (vs := Memref.whole main_arg1) (vd := wqM) 1 hs (fs := V m c main_arg1) (g := wqB m c) (View.set_whole _) (View.set_whole _)
    (funext fun x => (View.read_apply (v := (Memref.whole main_arg1).view) _ x).trans (View.read_apply (v := wqM.view) _ x).symm) rfl rfl rfl
theorem copy_wo {sem : DmaSem sig} {h1 h2} {h3 : DmaTarget.Typed (nD := nD) (p := (.tc : Proc τ)) .hbm (.dma sem) (.here woM)} (hs : sem = lcl 2) :
    iprop(ctx m K c ∗ lclIn m c 2) ⊢ WP c (Prog.lift (.enqueueDma (Memref.whole main_arg4) (.here woM) (.dma sem) h1 h2 h3)) fun _ => lclGo c 2 :=
  copy_in (src := main_arg4) (dst := cc0_scratch2) (vs := Memref.whole main_arg4) (vd := woM) 2 hs (fs := V m c main_arg4) (g := woB m c) (View.set_whole _) (View.set_whole _)
    (funext fun x => (View.read_apply (v := (Memref.whole main_arg4).view) _ x).trans (View.read_apply (v := woM.view) _ x).symm) rfl rfl rfl

/-- The copy of eight rows of keys or values. -/
theorem copy_rd (k : Fin 7) (t b : Fin 2) {bf : Ref sig .tc} {vs : Memref sig .tc .hbm S2x256x64x128 .f32} {sem : DmaSem sig} {offs : Fin 4 → ℕ} {offd : Fin 5 → ℕ} {inbs inbd} {h1 h2}
    {h3 : DmaTarget.Typed (nD := nD) (p := (.tc : Proc τ)) .hbm (.dma sem) (.here (slRd offd inbd))} (hs : sem = lcl k)
    {fs : Buf (Elt F) (vs.view.loc (c : Thread nD τ))} {S : Finset (Idx (vs.view.loc (c : Thread nD τ)))} (hS : (slSrc vs offs inbs).view.set = S)
    (hos : offs = ![b.val, 8 * c.val, 0, 0]) (hod : offd = ![t.val, b.val, 0, 0, 0]) (hf : ∀ i, vs.view.read (Elt F) fs i = kvB m c t i)
    (hk : lclIn m c k = iprop(((vs.view.loc (c : Thread nD τ) ↦[S]{fullShare} fs) ∗ ∃ fd, ptS c cc0_scratch3 (rdSet t.val b.val) fd) ∗ dutyTok ER (cellD c (lcl k)) 0 c))
    (hl : lclP m c k = iprop(rdP m c t b ∗ (vs.view.loc (c : Thread nD τ) ↦[S]{fullShare} fs)))
    (hN : NR = NL k) :
    iprop(ctx m K c ∗ lclIn m c k) ⊢ WP c (Prog.lift (.enqueueDma (slSrc vs offs inbs) (.here (slRd offd inbd)) (.dma sem) h1 h2 h3)) fun _ => lclGo c k := by
  have hset : ((slRd offd inbd).view.set : Finset S2x2x8x64x128.Idx) = rdSet t.val b.val := slRd_set t b hod
  rw [hk]
  subst hS
  refine copy_one (src := slSrc vs offs inbs) (dst := slRd offd inbd) k hs (q := fullShare) (fs := fs) (BI.Entails.refl _) ?_ (fun fd => ?_) hN
  · exact Entails.of_eq (congrArg (fun S => (iprop(∃ f, ptS c cc0_scratch3 S f) : sProp 𝕄)) hset.symm)
  · rw [hl]
    refine BI.sep_mono ((Entails.of_eq (pointsTo_congr (landed_eq (Val := Elt F) (slSrc vs offs inbs).view (slRd offd inbd).view fs fd (rdB m c) (rd_slot t b hos hod hf)))).trans ?_) (BI.Entails.refl _)
    exact Entails.of_eq (congrArg (fun S => ptS c cc0_scratch3 S (rdB m c)) hset)

theorem copy_k0 {sem : DmaSem sig} {offs : Fin 4 → ℕ} {offd : Fin 5 → ℕ} {inbs inbd} {h1 h2} {h3 : DmaTarget.Typed (nD := nD) (p := (.tc : Proc τ)) .hbm (.dma sem) (.here (slRd offd inbd))}
    (hs : sem = lcl 3) (ho : offs = ![0, 8 * c.val, 0, 0]) (hd : offd = ![0, 0, 0, 0, 0]) :
    iprop(ctx m K c ∗ lclIn m c 3) ⊢ WP c (Prog.lift (.enqueueDma (slSrc (Memref.whole main_v1) offs inbs) (.here (slRd offd inbd)) (.dma sem) h1 h2 h3)) fun _ => lclGo c 3 :=
  copy_rd (bf := main_v1) (vs := Memref.whole main_v1) 3 0 0 hs (fs := V m c main_v1) (S := srcSet 0 c.val) ((slSrc_set _ 0 c ho).trans Finset.map_refl) ho hd (fun i => by
    refine (congrFun (View.read_whole main_v1 (V m c main_v1)) i).trans ?_; unfold kvB; rw [if_pos rfl]) rfl rfl rfl
theorem copy_k1 {sem : DmaSem sig} {offs : Fin 4 → ℕ} {offd : Fin 5 → ℕ} {inbs inbd} {h1 h2} {h3 : DmaTarget.Typed (nD := nD) (p := (.tc : Proc τ)) .hbm (.dma sem) (.here (slRd offd inbd))}
    (hs : sem = lcl 4) (ho : offs = ![1, 8 * c.val, 0, 0]) (hd : offd = ![0, 1, 0, 0, 0]) :
    iprop(ctx m K c ∗ lclIn m c 4) ⊢ WP c (Prog.lift (.enqueueDma (slSrc (Memref.whole main_v1) offs inbs) (.here (slRd offd inbd)) (.dma sem) h1 h2 h3)) fun _ => lclGo c 4 :=
  copy_rd (bf := main_v1) (vs := Memref.whole main_v1) 4 0 1 hs (fs := V m c main_v1) (S := srcSet 1 c.val) ((slSrc_set _ 1 c ho).trans Finset.map_refl) ho hd (fun i => by
    refine (congrFun (View.read_whole main_v1 (V m c main_v1)) i).trans ?_; unfold kvB; rw [if_pos rfl]) rfl rfl rfl
theorem copy_v0 {sem : DmaSem sig} {offs : Fin 4 → ℕ} {offd : Fin 5 → ℕ} {inbs inbd} {h1 h2} {h3 : DmaTarget.Typed (nD := nD) (p := (.tc : Proc τ)) .hbm (.dma sem) (.here (slRd offd inbd))}
    (hs : sem = lcl 5) (ho : offs = ![0, 8 * c.val, 0, 0]) (hd : offd = ![1, 0, 0, 0, 0]) :
    iprop(ctx m K c ∗ lclIn m c 5) ⊢ WP c (Prog.lift (.enqueueDma (slSrc (Memref.whole main_v2) offs inbs) (.here (slRd offd inbd)) (.dma sem) h1 h2 h3)) fun _ => lclGo c 5 :=
  copy_rd (bf := main_v2) (vs := Memref.whole main_v2) 5 1 0 hs (fs := V m c main_v2) (S := srcSet 0 c.val) ((slSrc_set _ 0 c ho).trans Finset.map_refl) ho hd (fun i => by
    refine (congrFun (View.read_whole main_v2 (V m c main_v2)) i).trans ?_; unfold kvB; rw [if_neg (by decide)]) rfl rfl rfl
theorem copy_v1 {sem : DmaSem sig} {offs : Fin 4 → ℕ} {offd : Fin 5 → ℕ} {inbs inbd} {h1 h2} {h3 : DmaTarget.Typed (nD := nD) (p := (.tc : Proc τ)) .hbm (.dma sem) (.here (slRd offd inbd))}
    (hs : sem = lcl 6) (ho : offs = ![1, 8 * c.val, 0, 0]) (hd : offd = ![1, 1, 0, 0, 0]) :
    iprop(ctx m K c ∗ lclIn m c 6) ⊢ WP c (Prog.lift (.enqueueDma (slSrc (Memref.whole main_v2) offs inbs) (.here (slRd offd inbd)) (.dma sem) h1 h2 h3)) fun _ => lclGo c 6 :=
  copy_rd (bf := main_v2) (vs := Memref.whole main_v2) 6 1 1 hs (fs := V m c main_v2) (S := srcSet 1 c.val) ((slSrc_set _ 1 c ho).trans Finset.map_refl) ho hd (fun i => by
    refine (congrFun (View.read_whole main_v2 (V m c main_v2)) i).trans ?_; unfold kvB; rw [if_neg (by decide)]) rfl rfl rfl

/-- The wait for local copy `k`. -/
theorem lcl_wait (k : Fin 7) {O : CellTallies nD τ sig Unit} (hO : Above 0 O) {k' : DmaSem sig} (hs : k' = lcl k) {sp sp' : Space} {s s' : Shape} {e e' : EltTy} {src : Memref sig .tc sp' s' e'}
    {dst : Memref sig .tc sp s e} {h1 h2} (hN : dst.view.dmaCredit = NL k) :
    iprop(ctx m K c ∗ (∃ W, owes (c : Thread nD τ) O W) ∗ lclGo c k ∗ atPos ER (cellD c (lcl k)) 0 ∅ 0)
      ⊢ WP c (Prog.lift (.waitDma2 k' src dst h1 h2)) fun _ => iprop(ctx m K c ∗ (∃ W, owes (c : Thread nD τ) O W) ∗ atPos ER (cellD c (lcl k)) 1 ∅ 0 ∗ lclP m c k) :=
  wait_one hs (lcl_ne k) (expect_lcl m c k) (rest_lcl m c k) (l := 0) (le_of_eq (by rw [role_lcl]; rfl)) hO hN

/-! ## A part of the body, then the rest -/

theorem bindI {α β : Type} {A : sProp 𝕄} {B : α → sProp 𝕄} {p : Prog (TpuEff nD τ sig (Elt F) Λ₀ .tc) α} {k : α → Prog (TpuEff nD τ sig (Elt F) Λ₀ .tc) β} {Q : β → sProp 𝕄}
    (h : A ⊢ WP c p B) : A ⊢ iprop((∀ x, B x -∗ WP c (k x) Q) -∗ WP c (p >>= k) Q) := by
  unfold WP; rw [wp_bind]
  iintro HA HK
  iapply (wp_wand (Fr := frame) (wpE := wpE (defs₀ (F := F)) 𝒱₀ (c : Thread nD τ) none) (E := Set.univ)) $$ [HA]
  · iapply h $$ HA
  iexact HK

theorem wandI {α : Type} {A : sProp 𝕄} {B : α → sProp 𝕄} {p : Prog (TpuEff nD τ sig (Elt F) Λ₀ .tc) α} {Q : α → sProp 𝕄}
    (h : A ⊢ WP c p B) : A ⊢ iprop((∀ x, B x -∗ Q x) -∗ WP c p Q) := by
  iintro HA HK
  iapply (wp_wand (Fr := frame) (wpE := wpE (defs₀ (F := F)) 𝒱₀ (c : Thread nD τ) none) (E := Set.univ)) $$ [HA]
  · iapply h $$ HA
  iexact HK

theorem ifsI {β : Type} {A B : sProp 𝕄} {cond : Prop} [Decidable cond] {t : cond → Prog (TpuEff nD τ sig (Elt F) Λ₀ .tc) PUnit} {rest : Prog (TpuEff nD τ sig (Elt F) Λ₀ .tc) β} {Q : β → sProp 𝕄}
    (h : A ⊢ WP c (if h : cond then t h else pure ⟨⟩) fun _ => B) :
    A ⊢ iprop((B -∗ WP c rest Q) -∗ WP c (if h : cond then (t h >>= fun _ => rest) else rest) Q) := by
  iintro HA HK
  iapply (ifs1 (c := c) (Q := Q) (rest := rest) (t := t) (A := iprop(A ∗ (B -∗ WP c rest Q))) (B := iprop(B ∗ (B -∗ WP c rest Q))) (frameR h) (by
    iintro ⟨HB, HK⟩
    iapply HK $$ HB))
  isplitl [HA]; · iexact HA
  iexact HK

theorem slices_pack (n : ℕ) : S8x128x64.Slices ![0, 4 * (n % 32), 0] S8x4x64 := ⟨rfl, fun a => by
  match a with
  | ⟨0, _⟩ => show 0 + 8 ≤ 8; omega
  | ⟨1, _⟩ => show 4 * (n % 32) + 4 ≤ 128; omega
  | ⟨2, _⟩ => show 0 + 64 ≤ 64; omega⟩
theorem slices_par (n : ℕ) : S256x512.Slices ![16 * (n % 16), 0] S16x512 := ⟨rfl, fun a => by
  match a with
  | ⟨0, _⟩ => show 16 * (n % 16) + 16 ≤ 256; omega
  | ⟨1, _⟩ => show 0 + 512 ≤ 512; omega⟩

/-- A store of four heads, side by side, of the eight rows of keys (`t = 0`) or values (`t = 1`) of batch `b`. -/
theorem pack_put (t b : Fin 2) {n : ℕ} {off : Fin 3 → ℕ} {inb} {w : Vec F S1x8x256 .f32} {hx hm} {o4 : Fin 3 → ℕ}
    (hw : ∀ hsl : S8x128x64.Slices o4 S8x4x64, w = shapeCast S1x8x256 (shapeCast S8x256 (extractStridedSlice S8x4x64 o4 (k0_pay1 (rdL m c t b)) hsl) shapeCasts_S8x4x64_S8x256) shapeCasts_S8x256_S1x8x256)
    (h4 : o4 = ![0, 4 * (n % 32), 0] := by rfl) (h : off = ![n % 32, 8 * (n / 32), 0] := by rfl) (hn : n < 128 := by decide) (ht : n / 32 = 2 * t.val + b.val := by decide) :
    PackSt m c n ⊢ WP c (Prog.lift (.store kvsM (packR off inb) w Finset.univ hx hm)) fun _ => PackSt m c (n + 1) :=
  pack_store ((hw (h4 ▸ slices_pack n)).trans (pack_eq t b n hn ht h _ h4)) h

/-- A store of sixteen rows of batch `b`'s share of the output. -/
theorem par_put (b : Fin 2) {n : ℕ} {off : Fin 3 → ℕ} {inb} {w : Vec F S1x16x512 .f32} {hx hm} {o2 : Fin 2 → ℕ}
    (hw : ∀ hsl : S256x512.Slices o2 S16x512, w = shapeCast S1x16x512 (extractStridedSlice S16x512 o2 (pb m c b) hsl) shapeCasts_S16x512_S1x16x512)
    (h2 : o2 = ![16 * (n % 16), 0] := by rfl) (h : off = ![n, 0, 0] := by rfl) (hb : n / 16 = b.val := by decide) :
    ParSt m c b.val n ⊢ WP c (Prog.lift (.store parM (parR off inb) w Finset.univ hx hm)) fun _ => ParSt m c b.val (n + 1) :=
  par_store ((hw (h2 ▸ slices_par n)).trans (par_eq b n hb h _ h2 rfl)) h (by omega) (by omega)

theorem seqV {α β : Type} {A B' : sProp 𝕄} {P : α → Prop} {p : Prog (TpuEff nD τ sig (Elt F) Λ₀ .tc) α} {k : α → Prog (TpuEff nD τ sig (Elt F) Λ₀ .tc) β} {Q : β → sProp 𝕄}
    (h : A ⊢ WP c p fun x => iprop(⌜P x⌝ ∗ B')) (next : ∀ x, P x → B' ⊢ WP c (k x) Q) : A ⊢ WP c (p >>= k) Q :=
  seq1 h fun x => by
    iintro ⟨%hP, HB⟩
    iapply (next x hP) $$ HB

/-- The packing done, one's own slot of it read. -/
theorem pack_done {off : Fin 3 → ℕ} {inb} {hl : kvsM.view.LoadsAt (slotR off inb).toLoadRect} :
    PackSt m c 128 ⊢ WP c (Prog.lift (.load kvsM (slotR off inb).toLoadRect hl))
      fun x => iprop(⌜x = (kvsM.access (slotR off inb)).read (Elt F) (kvs m c)⌝ ∗ (pt c cc0_scratch4 (kvs m c) ∗ pt c cc0_scratch3 (rdB m c))) := by
  unfold PackSt
  rw [packSet_last]
  iintro ⟨HF, HR⟩
  ihave HF := (fill_full (c := c) (b := cc0_scratch4) (S := Finset.univ) (g := kvs m c)) $$ HF
  iapply (wp_wand (Fr := frame) (wpE := wpE (defs₀ (F := F)) 𝒱₀ (c : Thread nD τ) none) (E := Set.univ)) $$ [HF]
  · iapply (load_val (c := c) (M := kvsM) (r := slotR off inb) (S := Finset.univ) (q := fullShare) (f := kvs m c) (Finset.subset_univ _)) $$ HF
  iintro %x ⟨%hx, HF⟩
  isplitr; · ipureintro; exact hx
  isplitl [HF]; · iexact HF
  iexact HR

theorem own_load {off : Fin 3 → ℕ} {inb} (h : off = ![c.val, 0, 0]) {hl : kvrM.view.LoadsAt (slotR off inb).toLoadRect} :
    (iprop(∃ f, ptS c cc0_scratch5 (slot256 c.val) f) : sProp 𝕄) ⊢ WP c (Prog.lift (.load kvrM (slotR off inb).toLoadRect hl)) fun _ => iprop(∃ f, ptS c cc0_scratch5 (slot256 c.val) f) :=
  load_any (c := c) (M := kvrM) (r := slotR off inb) (S := slot256 c.val) (le_of_eq (kvr_access_set h))
theorem own_store {off : Fin 3 → ℕ} {inb} (h : off = ![c.val, 0, 0]) {w : Vec F S1x32x256 .f32} {hx hm} (hw : w = (kvrM.access (slotR off inb)).read (Elt F) (kvr m c)) :
    (iprop(∃ f, ptS c cc0_scratch5 (slot256 c.val) f) : sProp 𝕄) ⊢ WP c (Prog.lift (.store kvrM (slotR off inb) w Finset.univ hx hm)) fun _ => ptS c cc0_scratch5 (slot256 c.val) (kvr m c) :=
  store_all (c := c) (M := kvrM) (r := slotR off inb) (S := slot256 c.val) (g := kvr m c) (kvr_access_set h) hw

/-! ## The body's parts, on the buffers the launch hands over -/

/-- A part of the body at the kernel's own buffers and semaphores. -/
abbrev onMem {β : Type 1} (p : (arg0 : Memref sig .tc .hbm S2x256x512 .f32) → (harg0 : arg0.IsWhole) → (arg1 : Memref sig .tc .hbm S512x256 .f32) → (harg1 : arg1.IsWhole) → (arg2 : Memref sig .tc .hbm S2x256x64x128 .f32) → (harg2 : arg2.IsWhole) → (arg3 : Memref sig .tc .hbm S2x256x64x128 .f32) → (harg3 : arg3.IsWhole) → (arg4 : Memref sig .tc .hbm S256x512 .f32) → (harg4 : arg4.IsWhole) → (arg5 : Memref sig .tc .vmem S2x256x512 .f32) → (harg5 : arg5.IsWhole) → (arg6 : Memref sig .tc .vmem S2x256x512 .f32) → (harg6 : arg6.IsWhole) → (arg7 : Memref sig .tc .vmem S512x256 .f32) → (harg7 : arg7.IsWhole) → (arg8 : Memref sig .tc .vmem S256x512 .f32) → (harg8 : arg8.IsWhole) → (arg9 : Memref sig .tc .vmem S2x2x8x64x128 .f32) → (harg9 : arg9.IsWhole) → (arg10 : Memref sig .tc .vmem S32x32x256 .f32) → (harg10 : arg10.IsWhole) → (arg11 : Memref sig .tc .vmem S32x32x256 .f32) → (harg11 : arg11.IsWhole) → (arg12 : Memref sig .tc .vmem S32x16x512 .f32) → (harg12 : arg12.IsWhole) → (arg13 : Memref sig .tc .vmem S32x16x512 .f32) → (harg13 : arg13.IsWhole) → (arg14 : Memref sig .tc .vmem S1x16x512 .f32) → (harg14 : arg14.IsWhole) → (arg15 : DmaSems sig S3) → (arg16 : DmaSems sig S4) → (arg17 : DmaSems sig S32) → (arg18 : DmaSems sig S32) → (arg19 : DmaSems sig S32) → (arg20 : DmaSems sig S32) → (arg21 : DmaSems sig S32) → (arg22 : DmaSems sig S32) → β) : β :=
  p (Memref.whole main_arg0) (Memref.isWhole_whole _) (Memref.whole main_arg1) (Memref.isWhole_whole _) (Memref.whole main_v1) (Memref.isWhole_whole _) (Memref.whole main_v2) (Memref.isWhole_whole _)
    (Memref.whole main_arg4) (Memref.isWhole_whole _) outM (hstage0_0 0) xvM (Memref.isWhole_whole _) wqM (Memref.isWhole_whole _) woM (Memref.isWhole_whole _) rdM (Memref.isWhole_whole _)
    kvsM (Memref.isWhole_whole _) kvrM (Memref.isWhole_whole _) parM (Memref.isWhole_whole _) comM (Memref.isWhole_whole _) redM (Memref.isWhole_whole _)
    cc0_scratch9 cc0_scratch10 cc0_scratch11 cc0_scratch12 cc0_scratch13 cc0_scratch14 cc0_scratch15 cc0_scratch16

end Cert.KernelIdeal.Mesh
-- ==== Proof.KI.Pack.lean ====
/-
  The parts of the body that read the keys and values and pack them for the other devices.
-/
module

public import proofs.«01_k».proof.Proof.KI.Fills

@[expose] public section

noncomputable section

namespace Cert.KernelIdeal.Mesh

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : GSem nD τ sig → ℕ} {c : Dev nD}

theorem part7 : PackSt m c 0 ⊢ WP c (onMem k0_part7 (k0_pay1 (rdL m c 0 0)) (k0_pay2 (rdL m c 0 0))) fun x => iprop(⌜x = k0_pay9 (k0_pay1 (rdL m c 0 0))⌝ ∗ PackSt m c 6) := by
  rw [k0_part7_eq_skeleton]; unfold k0_part7_skel
  iterate 6 (refine seq1 pack_load fun _ => ?_; refine seq1 (pack_put 0 0 fun _ => rfl) fun _ => ?_)
  refine seq1 pack_load fun _ => ?_
  exact retP rfl (BI.Entails.refl _)

theorem part8 : PackSt m c 6 ⊢ WP c (onMem k0_part8 (k0_pay1 (rdL m c 0 0)) (k0_pay9 (k0_pay1 (rdL m c 0 0)))) fun x => iprop(⌜x = k0_pay16 (k0_pay1 (rdL m c 0 0))⌝ ∗ PackSt m c 13) := by
  rw [k0_part8_eq_skeleton]; unfold k0_part8_skel
  refine seq1 (pack_put 0 0 fun _ => rfl) fun _ => ?_
  iterate 6 (refine seq1 pack_load fun _ => ?_; refine seq1 (pack_put 0 0 fun _ => rfl) fun _ => ?_)
  exact retP rfl (BI.Entails.refl _)

theorem part9 : PackSt m c 13 ⊢ WP c (onMem k0_part9 (k0_pay1 (rdL m c 0 0)) (k0_pay16 (k0_pay1 (rdL m c 0 0)))) fun x => iprop(⌜x = k0_pay24 (k0_pay1 (rdL m c 0 0))⌝ ∗ PackSt m c 20) := by
  rw [k0_part9_eq_skeleton]; unfold k0_part9_skel
  iterate 7 (refine seq1 pack_load fun _ => ?_; refine seq1 (pack_put 0 0 fun _ => rfl) fun _ => ?_)
  exact retP rfl (BI.Entails.refl _)

theorem part10 : PackSt m c 20 ⊢ WP c (onMem k0_part10 (k0_pay1 (rdL m c 0 0)) (k0_pay24 (k0_pay1 (rdL m c 0 0)))) fun x => iprop(⌜x = k0_pay31 (k0_pay1 (rdL m c 0 0))⌝ ∗ PackSt m c 26) := by
  rw [k0_part10_eq_skeleton]; unfold k0_part10_skel
  iterate 6 (refine seq1 pack_load fun _ => ?_; refine seq1 (pack_put 0 0 fun _ => rfl) fun _ => ?_)
  refine seq1 pack_load fun _ => ?_
  exact retP rfl (BI.Entails.refl _)

theorem part11 : PackSt m c 26 ⊢ WP c (onMem k0_part11 (k0_pay1 (rdL m c 0 0)) (k0_pay31 (k0_pay1 (rdL m c 0 0)))) fun x => iprop(⌜x.1 = k0_pay1 (rdL m c 0 1) ∧ x.2.1 = k0_pay2 (rdL m c 0 1)⌝ ∗ PackSt m c 32) := by
  rw [k0_part11_eq_skeleton]; unfold k0_part11_skel
  refine seq1 (pack_put 0 0 fun _ => rfl) fun _ => ?_
  iterate 5 (refine seq1 pack_load fun _ => ?_; refine seq1 (pack_put 0 0 fun _ => rfl) fun _ => ?_)
  refine seqV (rd_load 0 1) fun y hy => ?_
  subst hy
  refine seq1 pack_load fun _ => ?_
  exact retP ⟨rfl, rfl⟩ (BI.Entails.refl _)

theorem part12 (z : Vec F S1x8x256 .f32) : PackSt m c 32 ⊢ WP c (onMem k0_part12 (k0_pay1 (rdL m c 0 1)) (k0_pay2 (rdL m c 0 1)) z) fun x => iprop(⌜x = k0_pay46 (k0_pay1 (rdL m c 0 1))⌝ ∗ PackSt m c 39) := by
  rw [k0_part12_eq_skeleton]; unfold k0_part12_skel
  refine seq1 (pack_put 0 1 fun _ => rfl) fun _ => ?_
  iterate 6 (refine seq1 pack_load fun _ => ?_; refine seq1 (pack_put 0 1 fun _ => rfl) fun _ => ?_)
  exact retP rfl (BI.Entails.refl _)

theorem part13 : PackSt m c 39 ⊢ WP c (onMem k0_part13 (k0_pay1 (rdL m c 0 1)) (k0_pay46 (k0_pay1 (rdL m c 0 1)))) fun x => PackSt m c 46 := by
  rw [k0_part13_eq_skeleton]; unfold k0_part13_skel
  iterate 7 (refine seq1 pack_load fun _ => ?_; refine seq1 (pack_put 0 1 fun _ => rfl) fun _ => ?_)
  exact ret1 (BI.Entails.refl _)

theorem part14 : PackSt m c 46 ⊢ WP c (onMem k0_part14 (k0_pay1 (rdL m c 0 1)) ) fun x => iprop(⌜x.1 = k0_pay60 (k0_pay1 (rdL m c 0 1))⌝ ∗ PackSt m c 52) := by
  rw [k0_part14_eq_skeleton]; unfold k0_part14_skel
  iterate 6 (refine seq1 pack_load fun _ => ?_; refine seq1 (pack_put 0 1 fun _ => rfl) fun _ => ?_)
  refine seq1 pack_load fun _ => ?_
  exact retP rfl (BI.Entails.refl _)

theorem part15 (z : Vec F S1x8x256 .f32) : PackSt m c 52 ⊢ WP c (onMem k0_part15 (k0_pay1 (rdL m c 0 1)) (k0_pay60 (k0_pay1 (rdL m c 0 1))) z) fun x => iprop(⌜x = k0_pay68 (k0_pay1 (rdL m c 0 1))⌝ ∗ PackSt m c 59) := by
  rw [k0_part15_eq_skeleton]; unfold k0_part15_skel
  refine seq1 (pack_put 0 1 fun _ => rfl) fun _ => ?_
  iterate 6 (refine seq1 pack_load fun _ => ?_; refine seq1 (pack_put 0 1 fun _ => rfl) fun _ => ?_)
  exact retP rfl (BI.Entails.refl _)

theorem part16 : PackSt m c 59 ⊢ WP c (onMem k0_part16 (k0_pay1 (rdL m c 0 1)) (k0_pay68 (k0_pay1 (rdL m c 0 1)))) fun x => iprop(⌜x.1 = k0_pay1 (rdL m c 1 0) ∧ x.2 = k0_pay76 (rdL m c 1 0)⌝ ∗ PackSt m c 65) := by
  rw [k0_part16_eq_skeleton]; unfold k0_part16_skel
  iterate 5 (refine seq1 pack_load fun _ => ?_; refine seq1 (pack_put 0 1 fun _ => rfl) fun _ => ?_)
  refine seqV (rd_load 1 0) fun y hy => ?_
  subst hy
  iterate 1 (refine seq1 pack_load fun _ => ?_; refine seq1 (pack_put 1 0 fun _ => rfl) fun _ => ?_)
  exact retP ⟨rfl, rfl⟩ (BI.Entails.refl _)

theorem part17 : PackSt m c 65 ⊢ WP c (onMem k0_part17 (k0_pay1 (rdL m c 1 0)) (k0_pay76 (rdL m c 1 0))) fun x => iprop(⌜x = k0_pay83 (k0_pay1 (rdL m c 1 0))⌝ ∗ PackSt m c 71) := by
  rw [k0_part17_eq_skeleton]; unfold k0_part17_skel
  iterate 6 (refine seq1 pack_load fun _ => ?_; refine seq1 (pack_put 1 0 fun _ => rfl) fun _ => ?_)
  refine seq1 pack_load fun _ => ?_
  exact retP rfl (BI.Entails.refl _)

theorem part18 : PackSt m c 71 ⊢ WP c (onMem k0_part18 (k0_pay1 (rdL m c 1 0)) (k0_pay83 (k0_pay1 (rdL m c 1 0)))) fun x => iprop(⌜x = k0_pay91 (k0_pay1 (rdL m c 1 0))⌝ ∗ PackSt m c 78) := by
  rw [k0_part18_eq_skeleton]; unfold k0_part18_skel
  refine seq1 (pack_put 1 0 fun _ => rfl) fun _ => ?_
  iterate 6 (refine seq1 pack_load fun _ => ?_; refine seq1 (pack_put 1 0 fun _ => rfl) fun _ => ?_)
  exact retP rfl (BI.Entails.refl _)

theorem part19 : PackSt m c 78 ⊢ WP c (onMem k0_part19 (k0_pay1 (rdL m c 1 0)) (k0_pay91 (k0_pay1 (rdL m c 1 0)))) fun x => iprop(⌜x = k0_pay99 (k0_pay1 (rdL m c 1 0))⌝ ∗ PackSt m c 85) := by
  rw [k0_part19_eq_skeleton]; unfold k0_part19_skel
  iterate 7 (refine seq1 pack_load fun _ => ?_; refine seq1 (pack_put 1 0 fun _ => rfl) fun _ => ?_)
  exact retP rfl (BI.Entails.refl _)

theorem part20 : PackSt m c 85 ⊢ WP c (onMem k0_part20 (k0_pay1 (rdL m c 1 0)) (k0_pay99 (k0_pay1 (rdL m c 1 0)))) fun x => iprop(⌜x = k0_pay106 (k0_pay1 (rdL m c 1 0))⌝ ∗ PackSt m c 91) := by
  rw [k0_part20_eq_skeleton]; unfold k0_part20_skel
  iterate 6 (refine seq1 pack_load fun _ => ?_; refine seq1 (pack_put 1 0 fun _ => rfl) fun _ => ?_)
  refine seq1 pack_load fun _ => ?_
  exact retP rfl (BI.Entails.refl _)

theorem part21 : PackSt m c 91 ⊢ WP c (onMem k0_part21 (k0_pay1 (rdL m c 1 0)) (k0_pay106 (k0_pay1 (rdL m c 1 0)))) fun x => iprop(⌜x.1 = k0_pay1 (rdL m c 1 1) ∧ x.2 = k0_pay114 (rdL m c 1 1)⌝ ∗ PackSt m c 97) := by
  rw [k0_part21_eq_skeleton]; unfold k0_part21_skel
  refine seq1 (pack_put 1 0 fun _ => rfl) fun _ => ?_
  iterate 4 (refine seq1 pack_load fun _ => ?_; refine seq1 (pack_put 1 0 fun _ => rfl) fun _ => ?_)
  refine seqV (rd_load 1 1) fun y hy => ?_
  subst hy
  iterate 1 (refine seq1 pack_load fun _ => ?_; refine seq1 (pack_put 1 1 fun _ => rfl) fun _ => ?_)
  exact retP ⟨rfl, rfl⟩ (BI.Entails.refl _)

theorem part22 : PackSt m c 97 ⊢ WP c (onMem k0_part22 (k0_pay1 (rdL m c 1 1)) (k0_pay114 (rdL m c 1 1))) fun x => iprop(⌜x = k0_pay122 (k0_pay1 (rdL m c 1 1))⌝ ∗ PackSt m c 104) := by
  rw [k0_part22_eq_skeleton]; unfold k0_part22_skel
  iterate 7 (refine seq1 pack_load fun _ => ?_; refine seq1 (pack_put 1 1 fun _ => rfl) fun _ => ?_)
  exact retP rfl (BI.Entails.refl _)

theorem part23 : PackSt m c 104 ⊢ WP c (onMem k0_part23 (k0_pay1 (rdL m c 1 1)) (k0_pay122 (k0_pay1 (rdL m c 1 1)))) fun x => iprop(⌜x = k0_pay129 (k0_pay1 (rdL m c 1 1))⌝ ∗ PackSt m c 110) := by
  rw [k0_part23_eq_skeleton]; unfold k0_part23_skel
  iterate 6 (refine seq1 pack_load fun _ => ?_; refine seq1 (pack_put 1 1 fun _ => rfl) fun _ => ?_)
  refine seq1 pack_load fun _ => ?_
  exact retP rfl (BI.Entails.refl _)

theorem part24 : PackSt m c 110 ⊢ WP c (onMem k0_part24 (k0_pay1 (rdL m c 1 1)) (k0_pay129 (k0_pay1 (rdL m c 1 1)))) fun x => iprop(⌜x = k0_pay136 (k0_pay1 (rdL m c 1 1))⌝ ∗ PackSt m c 117) := by
  rw [k0_part24_eq_skeleton]; unfold k0_part24_skel
  refine seq1 (pack_put 1 1 fun _ => rfl) fun _ => ?_
  iterate 6 (refine seq1 pack_load fun _ => ?_; refine seq1 (pack_put 1 1 fun _ => rfl) fun _ => ?_)
  exact retP rfl (BI.Entails.refl _)

theorem part25 : PackSt m c 117 ⊢ WP c (onMem k0_part25 (k0_pay1 (rdL m c 1 1)) (k0_pay136 (k0_pay1 (rdL m c 1 1)))) fun x => iprop(⌜x = k0_pay144 (k0_pay1 (rdL m c 1 1))⌝ ∗ PackSt m c 124) := by
  rw [k0_part25_eq_skeleton]; unfold k0_part25_skel
  iterate 7 (refine seq1 pack_load fun _ => ?_; refine seq1 (pack_put 1 1 fun _ => rfl) fun _ => ?_)
  exact retP rfl (BI.Entails.refl _)

/-- The last piece of the packing, then one's own slot of the receive buffer, written from the packed buffer. -/
theorem part26 (v2 : BitVec 32) : iprop(PackSt m c 124 ∗ ∃ f, ptS c cc0_scratch5 (slot256 c.val) f) ⊢
    WP c (onMem k0_part26 c v2 (k0_pay1 (rdL m c 1 1)) (k0_pay144 (k0_pay1 (rdL m c 1 1)))) fun _ => iprop((pt c cc0_scratch4 (kvs m c) ∗ pt c cc0_scratch3 (rdB m c)) ∗ ptS c cc0_scratch5 (slot256 c.val) (kvr m c)) := by
  rw [k0_part26_eq_skeleton]; unfold k0_part26_skel
  iterate 4 (refine seq pack_load fun _ => ?_; refine seq (pack_put 1 1 fun _ => rfl) fun _ => ?_)
  refine seq (pack_done) fun y => ?_
  iintro ⟨⟨%hy, HA⟩, HR⟩
  subst hy
  iapply (bindI (own_load (k0_off3_eq c))) $$ HR
  iintro %_ HR
  iapply (bindI (own_store (m := m) (k0_off3_eq c) ((shapeCast_self _ _).trans (kvr_own (k0_off3_eq c) (k0_off3_eq c))))) $$ HR
  iintro %_ HR
  iapply (ret1 (c := c) (BI.Entails.refl _))
  isplitl [HA]; · iexact HA
  iexact HR

end Cert.KernelIdeal.Mesh
-- ==== Proof.KI.Start.lean ====
/-
  The first parts of the body: the local copies go out, the barrier, and the rows of keys and values come in.
-/
module

public import proofs.«01_k».proof.Proof.KI.Pack

@[expose] public section

noncomputable section

namespace Cert.KernelIdeal.Mesh

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : GSem nD τ sig → ℕ} {c : Dev nD}

theorem dev_step {A : sProp 𝕄} : A ⊢ WP c (Prog.lift .deviceId) fun x => iprop(⌜x = c⌝ ∗ A) := by
  refine BI.Entails.trans ?_ (Entails.of_eq (wp_deviceId (defs := defs₀ (F := F)) 𝒱₀ (c : Thread nD τ) none Set.univ).symm)
  refine BI.Entails.trans ?_ (le_wp_ret _ _ _ _ _)
  refine (?_ : A ⊢ iprop(⌜c = c⌝ ∗ A))
  iintro H
  isplitr; · ipureintro; rfl
  iexact H

/-- The semaphores of the local copies, as the body names them. -/
abbrev semIn (off : Fin 1 → ℕ) (inb : ∀ a, off a + S1.size a ≤ S3.size a) : DmaSem sig := ((cc0_scratch9.slice (Rect.unit (s := S3) off S1.size inb)).squeeze S_ squeezes_S1_S_).sem
abbrev semRd (off : Fin 1 → ℕ) (inb : ∀ a, off a + S1.size a ≤ S4.size a) : DmaSem sig := ((cc0_scratch10.slice (Rect.unit (s := S4) off S1.size inb)).squeeze S_ squeezes_S1_S_).sem

/-- The copies of the inputs and the first two copies of the keys go out. -/
theorem part1 : iprop(ctx m K c ∗ lclIn m c 0 ∗ lclIn m c 1 ∗ lclIn m c 2 ∗ lclIn m c 3 ∗ lclIn m c 4)
    ⊢ WP c (onMem k0_part1) fun x => iprop(⌜x.1 = c ∧ x.2 = w2 c⌝ ∗ lclGo c 0 ∗ lclGo c 1 ∗ lclGo c 2 ∗ lclGo c 3 ∗ lclGo c 4) := by
  rw [k0_part1_eq_skeleton]; unfold k0_part1_skel
  refine seqV dev_step fun d hd => ?_
  subst hd
  iintro ⟨#HC, H0, H1, H2, H3, H4⟩
  iapply (bindI (copy_x (m := m) (K := K) (c := d) (sem := semIn ![0] inb_S3_S1_0) rfl)) $$ [H0]
  · isplitr; · iexact HC
    iexact H0
  iintro %_ H0
  iapply (bindI (copy_wq (m := m) (K := K) (c := d) (sem := semIn ![1] inb_S3_S1_1) rfl)) $$ [H1]
  · isplitr; · iexact HC
    iexact H1
  iintro %_ H1
  iapply (bindI (copy_wo (m := m) (K := K) (c := d) (sem := semIn ![2] inb_S3_S1_2) rfl)) $$ [H2]
  · isplitr; · iexact HC
    iexact H2
  iintro %_ H2
  iapply (bindI (copy_k0 (m := m) (K := K) (c := d) (sem := semRd ![0] inb_S4_S1_0) rfl (k0_off1_eq d) rfl)) $$ [H3]
  · isplitr; · iexact HC
    iexact H3
  iintro %_ H3
  iapply (bindI (copy_k1 (m := m) (K := K) (c := d) (sem := semRd ![1] inb_S4_S1_1) rfl (k0_off2_eq d) rfl)) $$ [H4]
  · isplitr; · iexact HC
    iexact H4
  iintro %_ H4
  iapply (retP (c := d) ⟨rfl, rfl⟩ (BI.Entails.refl _))
  isplitl [H0]; · iexact H0
  isplitl [H1]; · iexact H1
  isplitl [H2]; · iexact H2
  isplitl [H3]; · iexact H3
  iexact H4

attribute [local irreducible] Scalar.cmpi

variable {O : CellTallies nD τ sig Unit}

/-- The barrier's semaphore, as the body names it. -/
abbrev barV : Sems sig S_ := SemArray.scalar (sig.barrier 0 rfl)

/-- The other two copies, of the values, and the first four signals of the barrier. -/
theorem part2 (v2 : BitVec 32) : iprop(ctx m K c ∗ lclIn m c 5 ∗ lclIn m c 6 ∗ BarSt m K c O 0)
    ⊢ WP c (onMem k0_part2 c v2) fun x => iprop(⌜x = barV⌝ ∗ lclGo c 5 ∗ lclGo c 6 ∗ BarSt m K c O 4) := by
  rw [k0_part2_eq_skeleton]; unfold k0_part2_skel
  refine seq1 (B := fun _ => iprop(ctx m K c ∗ lclGo c 5 ∗ lclIn m c 6 ∗ BarSt m K c O 0)) ?_ fun _ => ?_
  · iintro ⟨#HC, H0, HR⟩
    iapply (wandI (copy_v0 (m := m) (K := K) (c := c) (sem := semRd ![2] inb_S4_S1_2) rfl (k0_off1_eq c) rfl)) $$ [H0]
    · isplitr; · iexact HC
      iexact H0
    iintro %_ H0
    isplitr; · iexact HC
    isplitl [H0]; · iexact H0
    iexact HR
  refine seq1 (B := fun _ => iprop(BarSt m K c O 0 ∗ (lclGo c 5 ∗ lclGo c 6))) ?_ fun _ => ?_
  · iintro ⟨#HC, HG, H0, HR⟩
    iapply (wandI (copy_v1 (m := m) (K := K) (c := c) (sem := semRd ![3] inb_S4_S1_3) rfl (k0_off2_eq c) rfl)) $$ [H0]
    · isplitr; · iexact HC
      iexact H0
    iintro %_ H0
    isplitl [HR]; · iexact HR
    isplitl [HG]; · iexact HG
    iexact H0
  refine ifs (bar_step (p := dev 0) (sem := barV.sem) (by rfl) (by revert c; decide +kernel) (by intro _; exact Fin.ext k0_dev1_eq) rfl) ?_
  refine ifs (bar_step (p := dev 1) (sem := barV.sem) (by rfl) (by revert c; decide +kernel) (by intro _; exact Fin.ext k0_dev2_eq) rfl) ?_
  refine ifs (bar_step (p := dev 2) (sem := barV.sem) (by rfl) (by revert c; decide +kernel) (by intro _; exact Fin.ext k0_dev3_eq) rfl) ?_
  refine ifs (bar_step (p := dev 3) (sem := barV.sem) (by rfl) (by revert c; decide +kernel) (by intro _; exact Fin.ext k0_dev4_eq) rfl) ?_
  refine retP rfl ?_
  iintro ⟨HB, H0, H1⟩
  isplitl [H0]; · iexact H0
  isplitl [H1]; · iexact H1
  iexact HB

theorem part3 (v2 : BitVec 32) : BarSt m K c O 4 ⊢ WP c (onMem k0_part3 c v2 barV) fun _ => BarSt m K c O 14 := by
  rw [k0_part3_eq_skeleton]; unfold k0_part3_skel
  refine ifs1 (bar_step (p := dev 4) (sem := barV.sem) (by rfl) (by revert c; decide +kernel) (by intro _; exact Fin.ext k0_dev5_eq) rfl) ?_
  refine ifs1 (bar_step (p := dev 5) (sem := barV.sem) (by rfl) (by revert c; decide +kernel) (by intro _; exact Fin.ext k0_dev6_eq) rfl) ?_
  refine ifs1 (bar_step (p := dev 6) (sem := barV.sem) (by rfl) (by revert c; decide +kernel) (by intro _; exact Fin.ext k0_dev7_eq) rfl) ?_
  refine ifs1 (bar_step (p := dev 7) (sem := barV.sem) (by rfl) (by revert c; decide +kernel) (by intro _; exact Fin.ext k0_dev8_eq) rfl) ?_
  refine ifs1 (bar_step (p := dev 8) (sem := barV.sem) (by rfl) (by revert c; decide +kernel) (by intro _; exact Fin.ext k0_dev9_eq) rfl) ?_
  refine ifs1 (bar_step (p := dev 9) (sem := barV.sem) (by rfl) (by revert c; decide +kernel) (by intro _; exact Fin.ext k0_dev10_eq) rfl) ?_
  refine ifs1 (bar_step (p := dev 10) (sem := barV.sem) (by rfl) (by revert c; decide +kernel) (by intro _; exact Fin.ext k0_dev11_eq) rfl) ?_
  refine ifs1 (bar_step (p := dev 11) (sem := barV.sem) (by rfl) (by revert c; decide +kernel) (by intro _; exact Fin.ext k0_dev12_eq) rfl) ?_
  refine ifs1 (bar_step (p := dev 12) (sem := barV.sem) (by rfl) (by revert c; decide +kernel) (by intro _; exact Fin.ext k0_dev13_eq) rfl) ?_
  refine ifs1 (bar_step (p := dev 13) (sem := barV.sem) (by rfl) (by revert c; decide +kernel) (by intro _; exact Fin.ext k0_dev14_eq) rfl) ?_
  exact ret1 (BI.Entails.refl _)

theorem part4 (v2 : BitVec 32) : BarSt m K c O 14 ⊢ WP c (onMem k0_part4 c v2 barV) fun _ => BarSt m K c O 24 := by
  rw [k0_part4_eq_skeleton]; unfold k0_part4_skel
  refine ifs1 (bar_step (p := dev 14) (sem := barV.sem) (by rfl) (by revert c; decide +kernel) (by intro _; exact Fin.ext k0_dev15_eq) rfl) ?_
  refine ifs1 (bar_step (p := dev 15) (sem := barV.sem) (by rfl) (by revert c; decide +kernel) (by intro _; exact Fin.ext k0_dev16_eq) rfl) ?_
  refine ifs1 (bar_step (p := dev 16) (sem := barV.sem) (by rfl) (by revert c; decide +kernel) (by intro _; exact Fin.ext k0_dev17_eq) rfl) ?_
  refine ifs1 (bar_step (p := dev 17) (sem := barV.sem) (by rfl) (by revert c; decide +kernel) (by intro _; exact Fin.ext k0_dev18_eq) rfl) ?_
  refine ifs1 (bar_step (p := dev 18) (sem := barV.sem) (by rfl) (by revert c; decide +kernel) (by intro _; exact Fin.ext k0_dev19_eq) rfl) ?_
  refine ifs1 (bar_step (p := dev 19) (sem := barV.sem) (by rfl) (by revert c; decide +kernel) (by intro _; exact Fin.ext k0_dev20_eq) rfl) ?_
  refine ifs1 (bar_step (p := dev 20) (sem := barV.sem) (by rfl) (by revert c; decide +kernel) (by intro _; exact Fin.ext k0_dev21_eq) rfl) ?_
  refine ifs1 (bar_step (p := dev 21) (sem := barV.sem) (by rfl) (by revert c; decide +kernel) (by intro _; exact Fin.ext k0_dev22_eq) rfl) ?_
  refine ifs1 (bar_step (p := dev 22) (sem := barV.sem) (by rfl) (by revert c; decide +kernel) (by intro _; exact Fin.ext k0_dev23_eq) rfl) ?_
  refine ifs1 (bar_step (p := dev 23) (sem := barV.sem) (by rfl) (by revert c; decide +kernel) (by intro _; exact Fin.ext k0_dev24_eq) rfl) ?_
  exact ret1 (BI.Entails.refl _)

theorem bar_done : iprop(BarSt m K c O 32 ∗ cred (tallyAt (cellB c) () 31) ∗ atPos ER (cellB c) 0 ∅ 0)
    ⊢ iprop(ctx m K c ∗ (∃ W, owes (c : Thread nD τ) O W) ∗ cred (tallyAt (cellB c) () 31) ∗ atPos ER (cellB c) 0 ∅ 0) := by
  have hl : ∀ p ∈ others c, byIx.rk p < 32 := fun p _ => byIx.lt p
  unfold BarSt
  rw [todo_last hl, oB_empty, zero_add]
  iintro ⟨⟨HC, HO, -⟩, HR⟩
  isplitl [HC]; · iexact HC
  isplitl [HO]; · iexact HO
  iexact HR

/-- The last signals of the barrier, and the wait for everybody else's. -/
theorem part5 (v2 : BitVec 32) (hO : Above 1 O) : iprop(BarSt m K c O 24 ∗ cred (tallyAt (cellB c) () 31) ∗ atPos ER (cellB c) 0 ∅ 0)
    ⊢ WP c (onMem k0_part5 c v2 barV) fun _ => iprop(ctx m K c ∗ (∃ W, owes (c : Thread nD τ) O W) ∗ atPos ER (cellB c) 1 ∅ 0 ∗ bigSep (others c) (barP c)) := by
  rw [k0_part5_eq_skeleton]; unfold k0_part5_skel
  refine ifs (bar_step (p := dev 24) (sem := barV.sem) (by rfl) (by revert c; decide +kernel) (by intro _; exact Fin.ext k0_dev25_eq) rfl) ?_
  refine ifs (bar_step (p := dev 25) (sem := barV.sem) (by rfl) (by revert c; decide +kernel) (by intro _; exact Fin.ext k0_dev26_eq) rfl) ?_
  refine ifs (bar_step (p := dev 26) (sem := barV.sem) (by rfl) (by revert c; decide +kernel) (by intro _; exact Fin.ext k0_dev27_eq) rfl) ?_
  refine ifs (bar_step (p := dev 27) (sem := barV.sem) (by rfl) (by revert c; decide +kernel) (by intro _; exact Fin.ext k0_dev28_eq) rfl) ?_
  refine ifs (bar_step (p := dev 28) (sem := barV.sem) (by rfl) (by revert c; decide +kernel) (by intro _; exact Fin.ext k0_dev29_eq) rfl) ?_
  refine ifs (bar_step (p := dev 29) (sem := barV.sem) (by rfl) (by revert c; decide +kernel) (by intro _; exact Fin.ext k0_dev30_eq) rfl) ?_
  refine ifs (bar_step (p := dev 30) (sem := barV.sem) (by rfl) (by revert c; decide +kernel) (by intro _; exact Fin.ext k0_dev31_eq) rfl) ?_
  refine ifs (bar_step (p := dev 31) (sem := barV.sem) (by rfl) (by revert c; decide +kernel) (by intro _; exact Fin.ext k0_dev32_eq) rfl) ?_
  refine seq1 ((bar_done (m := m) (K := K) (c := c) (O := O)).trans (bar_wait rfl hO)) fun _ => ?_
  exact ret1 (BI.Entails.refl _)

theorem lclP_0 (m : (ℓ : Loc nD τ sig) → Buf (Elt F) ℓ) (c : Dev nD) : lclP m c 0 = iprop(pt c cc0_scratch0 (xB m c) ∗ pt c main_arg0 (V m c main_arg0)) := rfl
theorem lclP_1 (m : (ℓ : Loc nD τ sig) → Buf (Elt F) ℓ) (c : Dev nD) : lclP m c 1 = iprop(pt c cc0_scratch1 (wqB m c) ∗ pt c main_arg1 (V m c main_arg1)) := rfl
theorem lclP_2 (m : (ℓ : Loc nD τ sig) → Buf (Elt F) ℓ) (c : Dev nD) : lclP m c 2 = iprop(pt c cc0_scratch2 (woB m c) ∗ pt c main_arg4 (V m c main_arg4)) := rfl
theorem lclP_3 (m : (ℓ : Loc nD τ sig) → Buf (Elt F) ℓ) (c : Dev nD) : lclP m c 3 = iprop(rdP m c 0 0 ∗ ptS c main_v1 (srcSet 0 c.val) (V m c main_v1)) := rfl
theorem lclP_4 (m : (ℓ : Loc nD τ sig) → Buf (Elt F) ℓ) (c : Dev nD) : lclP m c 4 = iprop(rdP m c 0 1 ∗ ptS c main_v1 (srcSet 1 c.val) (V m c main_v1)) := rfl
theorem lclP_5 (m : (ℓ : Loc nD τ sig) → Buf (Elt F) ℓ) (c : Dev nD) : lclP m c 5 = iprop(rdP m c 1 0 ∗ ptS c main_v2 (srcSet 0 c.val) (V m c main_v2)) := rfl
theorem lclP_6 (m : (ℓ : Loc nD τ sig) → Buf (Elt F) ℓ) (c : Dev nD) : lclP m c 6 = iprop(rdP m c 1 1 ∗ ptS c main_v2 (srcSet 1 c.val) (V m c main_v2)) := rfl

/-- The four pieces of the buffer of keys and values that have been read make it up. -/
theorem rd_join : iprop(rdP m c 0 0 ∗ rdP m c 0 1 ∗ rdP m c 1 0 ∗ rdP m c 1 1) ⊢ pt c cc0_scratch3 (rdB m c) := by
  have e : (Finset.univ : Finset (Fin 2 × Fin 2)).biUnion (fun t => rdSet t.1.val t.2.val) = Finset.univ := by
    ext i
    simp only [Finset.mem_biUnion, Finset.mem_univ, true_and, iff_true]
    exact ⟨(i 0, i 1), mem_rdSet.2 ⟨rfl, rfl⟩⟩
  have h := pointsTo_biUnion (ℓ := (c : Thread nD τ).loc cc0_scratch3) (q := fullShare) (f := rdB m c) (Ix := Unit) (Name := ℕ) (U := UU) (Lvl := ℕ) (Finset.univ : Finset (Fin 2 × Fin 2)) (fun t => rdSet t.1.val t.2.val) (fun t _ t' _ hne => by
    refine Finset.disjoint_left.2 fun i hi hi' => hne ?_
    obtain ⟨a, b⟩ := mem_rdSet.1 hi
    obtain ⟨a', b'⟩ := mem_rdSet.1 hi'
    exact Prod.ext (Fin.ext (a.symm.trans a')) (Fin.ext (b.symm.trans b')))
  rw [e] at h
  refine BI.Entails.trans ?_ (Entails.of_eq h.symm)
  have hu : (Finset.univ : Finset (Fin 2 × Fin 2)) = insert (0, 0) (insert (0, 1) (insert (1, 0) (insert (1, 1) ∅))) := by decide
  rw [hu, bigSep_cons (by decide), bigSep_cons (by decide), bigSep_cons (by decide), bigSep_cons (by decide), bigSep_none]
  refine (?_ : iprop(rdP m c 0 0 ∗ rdP m c 0 1 ∗ rdP m c 1 0 ∗ rdP m c 1 1) ⊢ iprop(rdP m c 0 0 ∗ rdP m c 0 1 ∗ rdP m c 1 0 ∗ rdP m c 1 1 ∗ emp))
  iintro ⟨H1, H2, H3, H4⟩
  isplitl [H1]; · iexact H1
  isplitl [H2]; · iexact H2
  isplitl [H3]; · iexact H3
  isplitl [H4]; · iexact H4
  iempintro

/-- The buffers before the packing. -/
theorem pack_start : iprop((∃ f, pt c cc0_scratch4 f) ∗ pt c cc0_scratch3 (rdB m c)) ⊢ PackSt m c 0 := by
  unfold PackSt
  rw [packSet_zero]
  exact sep_mono_left fill_none

/-- A wait for a local copy, among what has come and what has not. -/
theorem lcl_step (k : Fin 7) (hO : Above 0 O) {D R : sProp 𝕄} {α : Type} {kk : PUnit → Prog (TpuEff nD τ sig (Elt F) Λ₀ .tc) α} {Q : α → sProp 𝕄} {k' : DmaSem sig} (hs : k' = lcl k)
    {sp sp' : Space} {s s' : Shape} {e e' : EltTy} {src : Memref sig .tc sp' s' e'} {dst : Memref sig .tc sp s e} {h1 h2} (hN : dst.view.dmaCredit = NL k)
    (next : iprop((ctx m K c ∗ (∃ W, owes (c : Thread nD τ) O W)) ∗ (D ∗ (atPos ER (cellD c (lcl k)) 1 ∅ 0 ∗ lclP m c k)) ∗ R) ⊢ WP c (kk ⟨⟩) Q) :
    iprop((ctx m K c ∗ (∃ W, owes (c : Thread nD τ) O W)) ∗ D ∗ (lclGo c k ∗ atPos ER (cellD c (lcl k)) 0 ∅ 0) ∗ R)
      ⊢ WP c (Prog.lift (.waitDma2 k' src dst h1 h2) >>= kk) Q := by
  refine seq1 (B := fun _ => iprop((ctx m K c ∗ (∃ W, owes (c : Thread nD τ) O W)) ∗ (D ∗ (atPos ER (cellD c (lcl k)) 1 ∅ 0 ∗ lclP m c k)) ∗ R)) ?_ fun _ => next
  have h := lcl_wait (m := m) (K := K) (c := c) k hO hs (src := src) (dst := dst) (h1 := h1) (h2 := h2) hN
  iintro ⟨⟨HC, HO⟩, HD, ⟨HG, HA⟩, HR⟩
  iapply (wandI h) $$ [HC HO HG HA]
  · isplitl [HC]; · iexact HC
    isplitl [HO]; · iexact HO
    isplitl [HG]; · iexact HG
    iexact HA
  iintro %_ ⟨HC, HO, HA, HP⟩
  isplitl [HC HO]
  · isplitl [HC]; · iexact HC
    iexact HO
  isplitr [HR]
  · isplitl [HD]; · iexact HD
    isplitl [HA]; · iexact HA
    iexact HP
  iexact HR

/-- The rows of keys and values have been read; the first of them is loaded. -/
theorem part6 (hO : Above 0 O) {R : sProp 𝕄} : iprop((ctx m K c ∗ (∃ W, owes (c : Thread nD τ) O W)) ∗ (∃ f, pt c cc0_scratch4 f)
      ∗ (lclGo c 3 ∗ atPos ER (cellD c (lcl 3)) 0 ∅ 0) ∗ (lclGo c 4 ∗ atPos ER (cellD c (lcl 4)) 0 ∅ 0)
      ∗ (lclGo c 5 ∗ atPos ER (cellD c (lcl 5)) 0 ∅ 0) ∗ (lclGo c 6 ∗ atPos ER (cellD c (lcl 6)) 0 ∅ 0) ∗ R)
    ⊢ WP c (onMem k0_part6 c) fun x => iprop(⌜x.1 = k0_pay1 (rdL m c 0 0) ∧ x.2 = k0_pay2 (rdL m c 0 0)⌝ ∗ PackSt m c 0 ∗ (ctx m K c ∗ (∃ W, owes (c : Thread nD τ) O W)) ∗ R
      ∗ (atPos ER (cellD c (lcl 3)) 1 ∅ 0 ∗ atPos ER (cellD c (lcl 4)) 1 ∅ 0 ∗ atPos ER (cellD c (lcl 5)) 1 ∅ 0 ∗ atPos ER (cellD c (lcl 6)) 1 ∅ 0)
      ∗ (ptS c main_v1 (srcSet 0 c.val) (V m c main_v1) ∗ ptS c main_v1 (srcSet 1 c.val) (V m c main_v1))
      ∗ (ptS c main_v2 (srcSet 0 c.val) (V m c main_v2) ∗ ptS c main_v2 (srcSet 1 c.val) (V m c main_v2))) := by
  rw [k0_part6_eq_skeleton]; unfold k0_part6_skel
  refine lcl_step 3 hO rfl rfl ?_
  refine lcl_step 4 hO rfl rfl ?_
  refine lcl_step 5 hO rfl rfl ?_
  refine lcl_step 6 hO rfl rfl ?_
  rw [lclP_3, lclP_4, lclP_5, lclP_6]
  iintro ⟨⟨HC, HO⟩, ⟨⟨⟨⟨HP, ⟨A3, ⟨R3, S3⟩⟩⟩, ⟨A4, ⟨R4, S4⟩⟩⟩, ⟨A5, ⟨R5, S5⟩⟩⟩, ⟨A6, ⟨R6, S6⟩⟩⟩, HZ⟩
  ihave HR := (rd_join (m := m) (c := c)) $$ [R3 R4 R5 R6]
  · isplitl [R3]; · iexact R3
    isplitl [R4]; · iexact R4
    isplitl [R5]; · iexact R5
    iexact R6
  ihave HP := (pack_start (m := m) (c := c)) $$ [HP HR]
  · isplitl [HP]; · iexact HP
    iexact HR
  iapply (bindI (rd_load (m := m) (c := c) 0 0)) $$ HP
  iintro %y ⟨%hy, HP⟩
  subst hy
  iapply (retP (c := c) ⟨rfl, rfl⟩ (BI.Entails.refl _))
  isplitl [HP]; · iexact HP
  isplitl [HC HO]
  · isplitl [HC]; · iexact HC
    iexact HO
  isplitl [HZ]; · iexact HZ
  isplitl [A3 A4 A5 A6]
  · isplitl [A3]; · iexact A3
    isplitl [A4]; · iexact A4
    isplitl [A5]; · iexact A5
    iexact A6
  isplitl [S3 S4]
  · isplitl [S3]; · iexact S3
    iexact S4
  isplitl [S5]; · iexact S5
  iexact S6

end Cert.KernelIdeal.Mesh
-- ==== Proof.KI.Heads.lean ====
/-
  The parts of the body that take the inputs, wait for the packed keys and values and compute the first batch.
-/
module

public import proofs.«01_k».proof.Proof.KI.Start

@[expose] public section

noncomputable section

namespace Cert.KernelIdeal.Mesh

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : GSem nD τ sig → ℕ} {c : Dev nD}

attribute [local irreducible] Scalar.cmpi

variable {O : CellTallies nD τ sig Unit}

/-! ## The first and the last state of an exchange -/

theorem send_start {a : Fin 3} {G : Finset (Dev nD)} {r : Order} {n : ℕ} (h : ∀ p ∈ G, n ≤ r.rk p) :
    iprop((ctx m K c ∗ (∃ W, owes (c : Thread nD τ) (oR a c G + O) W)) ∗ bigSep G (sendIn m a c)) ⊢ SendSt m K a c G r O n := by
  unfold SendSt
  rw [prog_first h, todo_first h]
  iintro ⟨⟨HC, HO⟩, HP⟩
  isplitl [HC]; · iexact HC
  isplitl [HO]; · iexact HO
  iexact HP
theorem send_done {a : Fin 3} {G : Finset (Dev nD)} {r : Order} {n : ℕ} (h : ∀ p ∈ G, r.rk p < n) :
    SendSt m K a c G r O n ⊢ iprop((ctx m K c ∗ (∃ W, owes (c : Thread nD τ) O W)) ∗ bigSep G (sendOut a c)) := by
  unfold SendSt
  rw [prog_last h, todo_last h, oR_empty, zero_add]
  iintro ⟨HC, HO, HP⟩
  isplitl [HC HO]
  · isplitl [HC]; · iexact HC
    iexact HO
  iexact HP
theorem bigSep_two {ι : Type} (s : Finset ι) (Φ Ψ : ι → sProp 𝕄) : bigSep s (fun i => iprop(Φ i ∗ Ψ i)) = iprop(bigSep s Φ ∗ bigSep s Ψ) := BI.bigSep_sep s Φ Ψ
theorem wait_start {k : Dev nD → DmaSem sig} {N : ℕ} {P : Dev nD → sProp 𝕄} {r : Order} {n : ℕ} (h : ∀ p ∈ others c, n ≤ r.rk p) :
    iprop((ctx m K c ∗ (∃ W, owes (c : Thread nD τ) O W)) ∗ (bigSep (others c) fun p => cred (tallyAt (cellD c (k p)) () N)) ∗ (bigSep (others c) fun p => atPos ER (cellD c (k p)) 0 ∅ 0))
      ⊢ WaitSt m K k N P c r O n := by
  unfold WaitSt
  rw [prog_first h]
  iintro ⟨HC, H1, H2⟩
  isplitl [HC]; · iexact HC
  iapply (Entails.of_eq (bigSep_two (others c) (fun p => (cred (tallyAt (cellD c (k p)) () N) : sProp 𝕄)) (fun p => atPos ER (cellD c (k p)) 0 ∅ 0)).symm)
  isplitl [H1]; · iexact H1
  iexact H2
theorem wait_done {k : Dev nD → DmaSem sig} {N : ℕ} {P : Dev nD → sProp 𝕄} {r : Order} :
    WaitSt m K k N P c r O 32 ⊢ iprop((ctx m K c ∗ (∃ W, owes (c : Thread nD τ) O W)) ∗ (bigSep (others c) fun p => atPos ER (cellD c (k p)) 1 ∅ 0) ∗ bigSep (others c) P) := by
  unfold WaitSt
  rw [prog_last fun p _ => r.lt p]
  iintro ⟨HC, H⟩
  isplitl [HC]; · iexact HC
  have e : bigSep (others c) (waitOut k P c) = iprop((bigSep (others c) fun p => atPos ER (cellD c (k p)) 1 ∅ 0) ∗ bigSep (others c) P) :=
    bigSep_two (others c) (fun p => (atPos ER (cellD c (k p)) 1 ∅ 0 : sProp 𝕄)) P
  ihave H := (Entails.of_eq e) $$ H
  icases H with ⟨H1, H2⟩
  isplitl [H1]; · iexact H1
  iexact H2

/-- A step on the middle of three states. -/
theorem mid {α β : Type} {p : Prog (TpuEff nD τ sig (Elt F) Λ₀ .tc) α} {k : α → Prog (TpuEff nD τ sig (Elt F) Λ₀ .tc) β} {A B D R : sProp 𝕄} {P : α → Prop} {Q : β → sProp 𝕄}
    (h : A ⊢ WP c p fun x => iprop(⌜P x⌝ ∗ B)) (next : ∀ x, P x → iprop((D ∗ B) ∗ R) ⊢ WP c (k x) Q) : iprop(D ∗ A ∗ R) ⊢ WP c (p >>= k) Q := by
  refine seq1 (B := fun x => iprop(⌜P x⌝ ∗ (D ∗ B) ∗ R)) ?_ fun x => ?_
  · iintro ⟨HD, HA, HR⟩
    iapply (wandI h) $$ HA
    iintro %x ⟨%hx, HB⟩
    isplitr; · ipureintro; exact hx
    isplitr [HR]
    · isplitl [HD]; · iexact HD
      iexact HB
    iexact HR
  · iintro ⟨%hx, H⟩
    iapply (next x hx) $$ H

/-! ## The loads of the inputs -/

theorem wq_load {off : Fin 2 → ℕ} {inb} {hl : wqM.view.LoadsAt (Rect.unit (s := S512x256) off S512x256.size inb).toLoadRect} (h : off = ![0, 0]) :
    pt c cc0_scratch1 (wqB m c) ⊢ WP c (Prog.lift (.load wqM (Rect.unit (s := S512x256) off S512x256.size inb).toLoadRect hl)) fun x => iprop(⌜x = wqB m c⌝ ∗ pt c cc0_scratch1 (wqB m c)) := by
  refine post (load_val (c := c) (M := wqM) (r := Rect.unit (s := S512x256) off S512x256.size inb) (S := Finset.univ) (q := fullShare) (f := wqB m c) (Finset.subset_univ _)) fun x => ?_
  iintro ⟨%hx, H⟩
  isplitr
  · ipureintro
    subst h
    refine hx.trans (funext fun y => (View.read_apply _ _).trans ?_)
    refine (?_ : wqB m c _ = wqB m c y)
    congr 1
    funext a
    refine Fin.ext ?_
    match a with
    | ⟨0, _⟩ => show 0 + 1 * (y 0).val = (y 0).val; omega
    | ⟨1, _⟩ => show 0 + 1 * (y 1).val = (y 1).val; omega
  iexact H
theorem wo_load {off : Fin 2 → ℕ} {inb} {hl : woM.view.LoadsAt (Rect.unit (s := S256x512) off S256x512.size inb).toLoadRect} (h : off = ![0, 0]) :
    pt c cc0_scratch2 (woB m c) ⊢ WP c (Prog.lift (.load woM (Rect.unit (s := S256x512) off S256x512.size inb).toLoadRect hl)) fun x => iprop(⌜x = woB m c⌝ ∗ pt c cc0_scratch2 (woB m c)) := by
  refine post (load_val (c := c) (M := woM) (r := Rect.unit (s := S256x512) off S256x512.size inb) (S := Finset.univ) (q := fullShare) (f := woB m c) (Finset.subset_univ _)) fun x => ?_
  iintro ⟨%hx, H⟩
  isplitr
  · ipureintro
    subst h
    refine hx.trans (funext fun y => (View.read_apply _ _).trans ?_)
    refine (?_ : woB m c _ = woB m c y)
    congr 1
    funext a
    refine Fin.ext ?_
    match a with
    | ⟨0, _⟩ => show 0 + 1 * (y 0).val = (y 0).val; omega
    | ⟨1, _⟩ => show 0 + 1 * (y 1).val = (y 1).val; omega
  iexact H
theorem x_load (b : Fin 2) {off : Fin 3 → ℕ} {inb} {hl : xvM.view.LoadsAt (Rect.unit (s := S2x256x512) off S1x256x512.size inb).toLoadRect} (h : off = ![b.val, 0, 0]) :
    pt c cc0_scratch0 (xB m c) ⊢ WP c (Prog.lift (.load xvM (Rect.unit (s := S2x256x512) off S1x256x512.size inb).toLoadRect hl))
      fun x => iprop(⌜x = fun i => xB m c (ix3 b (i 1) (i 2))⌝ ∗ pt c cc0_scratch0 (xB m c)) := by
  refine post (load_val (c := c) (M := xvM) (r := Rect.unit (s := S2x256x512) off S1x256x512.size inb) (S := Finset.univ) (q := fullShare) (f := xB m c) (Finset.subset_univ _)) fun x => ?_
  iintro ⟨%hx, H⟩
  isplitr
  · ipureintro
    subst h
    refine hx.trans (funext fun y => (View.read_apply _ _).trans ?_)
    refine (?_ : xB m c _ = xB m c (ix3 b (y 1) (y 2)))
    congr 1
    funext a
    refine Fin.ext ?_
    have h0 : (y 0).val < 1 := (y 0).isLt
    match a with
    | ⟨0, _⟩ => show b.val + 1 * (y 0).val = b.val; omega
    | ⟨1, _⟩ => show 0 + 1 * (y 1).val = (y 1).val; omega
    | ⟨2, _⟩ => show 0 + 1 * (y 2).val = (y 2).val; omega
  iexact H

/-- One head's keys or values of one batch, from what has been received. -/
theorem head_load (t b : Fin 2) (h : Fin 4) {off : Fin 3 → ℕ} {inb} {hl : kvrM.view.LoadsAt (Rect.unit (s := S32x32x256) off S32x8x64.size inb).toLoadRect}
    (ho : off = ![0, 16 * t.val + 8 * b.val, 64 * h.val]) :
    pt c cc0_scratch5 (kvr m c) ⊢ WP c (Prog.lift (.load kvrM (Rect.unit (s := S32x32x256) off S32x8x64.size inb).toLoadRect hl))
      fun x => iprop(⌜x = kvH m c t b h⌝ ∗ pt c cc0_scratch5 (kvr m c)) := by
  refine post (load_val (c := c) (M := kvrM) (r := Rect.unit (s := S32x32x256) off S32x8x64.size inb) (S := Finset.univ) (q := fullShare) (f := kvr m c) (Finset.subset_univ _)) fun x => ?_
  iintro ⟨%hx, H⟩
  isplitr
  · ipureintro
    subst ho
    refine hx.trans (funext fun y => (View.read_apply _ _).trans ?_)
    refine (?_ : kvr m c _ = kvH m c t b h y)
    unfold kvH
    congr 1
    funext a
    refine Fin.ext ?_
    match a with
    | ⟨0, _⟩ => show 0 + 1 * (y 0).val = (y 0).val; omega
    | ⟨1, _⟩ => show 16 * t.val + 8 * b.val + 1 * (y 1).val = 16 * t.val + 8 * b.val + (y 1).val; omega
    | ⟨2, _⟩ => show 64 * h.val + 1 * (y 2).val = 64 * h.val + (y 2).val; omega
  iexact H

/-- All that has been received, with one's own slot. -/
theorem slots_kvr : iprop(bigSep (others c) (landP m 0 c) ∗ ptS c cc0_scratch5 (slot256 c.val) (kvr m c)) ⊢ pt c cc0_scratch5 (kvr m c) := by
  have e : (Finset.univ : Finset (Dev nD)).biUnion (fun p => slot256 p.val) = Finset.univ := by
    ext i
    simp only [Finset.mem_biUnion, Finset.mem_univ, true_and, iff_true]
    exact ⟨i 0, mem_slot256.2 rfl⟩
  have h := pointsTo_biUnion (ℓ := (c : Thread nD τ).loc cc0_scratch5) (q := fullShare) (f := kvr m c) (Ix := Unit) (Name := ℕ) (U := UU) (Lvl := ℕ) (Finset.univ : Finset (Dev nD)) (fun p => slot256 p.val) (fun t _ t' _ hne => by
    refine Finset.disjoint_left.2 fun i hi hi' => hne ?_
    exact Fin.ext ((mem_slot256.1 hi).symm.trans (mem_slot256.1 hi')))
  rw [e] at h
  have hu : (Finset.univ : Finset (Dev nD)) = insert c (others c) := (Finset.insert_erase (Finset.mem_univ c)).symm
  rw [hu, bigSep_cons (Finset.notMem_erase c _)] at h
  refine BI.Entails.trans ?_ (Entails.of_eq h.symm)
  refine (?_ : iprop(bigSep (others c) (landP m 0 c) ∗ ptS c cc0_scratch5 (slot256 c.val) (kvr m c)) ⊢ iprop(ptS c cc0_scratch5 (slot256 c.val) (kvr m c) ∗ bigSep (others c) (fun p => landP m 0 c p)))
  exact sep_comm

/-! ## The waits on the packed keys and values -/

/-- The inputs while the keys and values arrive, and what is left aside. -/
abbrev InsSt (m : (ℓ : Loc nD τ sig) → Buf (Elt F) ℓ) (c : Dev nD) : sProp 𝕄 :=
  iprop((pt c cc0_scratch0 (xB m c) ∗ pt c cc0_scratch1 (wqB m c) ∗ pt c cc0_scratch2 (woB m c))
    ∗ (pt c main_arg0 (V m c main_arg0) ∗ pt c main_arg1 (V m c main_arg1) ∗ pt c main_arg4 (V m c main_arg4))
    ∗ (atPos ER (cellD c (lcl 0)) 1 ∅ 0 ∗ atPos ER (cellD c (lcl 1)) 1 ∅ 0 ∗ atPos ER (cellD c (lcl 2)) 1 ∅ 0))

theorem ins_turn {A B C D : sProp 𝕄} : iprop((((A ∗ B) ∗ C) ∗ D)) ⊢ iprop(A ∗ B ∗ C ∗ D) := by
  iintro ⟨⟨⟨HA, HB⟩, HC⟩, HD⟩
  isplitl [HA]; · iexact HA
  isplitl [HB]; · iexact HB
  isplitl [HC]; · iexact HC
  iexact HD

/-- A known fact beside a state. -/
theorem purE {φ : Prop} {A B : sProp 𝕄} (h : φ → A ⊢ B) : iprop(⌜φ⌝ ∗ A) ⊢ B := by
  iintro ⟨%hp, H⟩
  iapply (h hp) $$ H

/-- The inputs have come; the queries are computed. -/
theorem part45 (hO : Above 0 O) (hO2 : Above 2 O) :
    iprop((ctx m K c ∗ (∃ W, owes (c : Thread nD τ) O W)) ∗ prog (waitIn (rcv 0) (NA 0) c) (waitOut (rcv 0) (landP m 0 c) c) (others c) byIx 0
      ∗ (lclGo c 0 ∗ atPos ER (cellD c (lcl 0)) 0 ∅ 0) ∗ (lclGo c 1 ∗ atPos ER (cellD c (lcl 1)) 0 ∅ 0) ∗ (lclGo c 2 ∗ atPos ER (cellD c (lcl 2)) 0 ∅ 0) ∗ emp)
    ⊢ WP c (onMem k0_part45 (w2 c)) fun x => iprop(⌜x.1 = woB m c ∧ x.2.1 = qB m c 0 ∧ x.2.2.1 = qB m c 1 ∧ x.2.2.2 = 3#32⌝ ∗ KvWait m K c O 3 ∗ InsSt m c) := by
  rw [k0_part45_eq_skeleton]; unfold k0_part45_skel
  refine lcl_step 0 hO rfl rfl ?_
  refine lcl_step 1 hO rfl rfl ?_
  refine lcl_step 2 hO rfl rfl ?_
  rw [lclP_0, lclP_1, lclP_2]
  refine BI.Entails.trans (?_ : _ ⊢ iprop(iprop(KvWait m K c O 0 ∗ (pt c main_arg0 (V m c main_arg0) ∗ pt c main_arg1 (V m c main_arg1) ∗ pt c main_arg4 (V m c main_arg4))
    ∗ (atPos ER (cellD c (lcl 0)) 1 ∅ 0 ∗ atPos ER (cellD c (lcl 1)) 1 ∅ 0 ∗ atPos ER (cellD c (lcl 2)) 1 ∅ 0)) ∗ pt c cc0_scratch1 (wqB m c) ∗ pt c cc0_scratch2 (woB m c) ∗ pt c cc0_scratch0 (xB m c))) ?_
  · unfold KvWait WaitSt
    iintro ⟨HC, ⟨⟨⟨HP, ⟨A0, ⟨R0, S0⟩⟩⟩, ⟨A1, ⟨R1, S1⟩⟩⟩, ⟨A2, ⟨R2, S2⟩⟩⟩, -⟩
    isplitl [HC HP S0 S1 S2 A0 A1 A2]
    · isplitl [HC HP]
      · isplitl [HC]; · iexact HC
        iexact HP
      isplitl [S0 S1 S2]
      · isplitl [S0]; · iexact S0
        isplitl [S1]; · iexact S1
        iexact S2
      isplitl [A0]; · iexact A0
      isplitl [A1]; · iexact A1
      iexact A2
    isplitl [R1]; · iexact R1
    isplitl [R2]; · iexact R2
    iexact R0
  refine mid (wq_load rfl) fun w hw => ?_
  refine mid (wo_load rfl) fun o ho => ?_
  refine seqR (x_load 0 rfl) fun x0 => ?_
  refine seq1 (B := fun x1 => iprop(⌜x0 = (fun i => xB m c (ix3 0 (i 1) (i 2))) ∧ x1 = (fun i => xB m c (ix3 1 (i 1) (i 2)))⌝ ∗ KvWait m K c O 0 ∗ InsSt m c)) ?_ fun x1 => ?_
  · iintro ⟨⟨⟨⟨HK, HS, HA⟩, H1⟩, H2⟩, ⟨%hx0, H0⟩⟩
    iapply (wandI (x_load 1 rfl)) $$ H0
    iintro %x1 ⟨%hx1, H0⟩
    isplitr; · ipureintro; exact ⟨hx0, hx1⟩
    isplitl [HK]; · iexact HK
    isplitl [H0 H1 H2]
    · isplitl [H0]; · iexact H0
      isplitl [H1]; · iexact H1
      iexact H2
    isplitl [HS]; · iexact HS
    iexact HA
  refine purE fun hx => ?_
  obtain ⟨hx0, hx1⟩ := hx
  refine ifs (kv_wait hO2 0 (ne_word c ⟨0, by decide⟩) rfl) ?_
  refine ifs (kv_wait hO2 1 (ne_word c ⟨1, by decide⟩) rfl) ?_
  refine ifs (kv_wait hO2 2 (ne_word c ⟨2, by decide⟩) rfl) ?_
  subst hw ho hx0 hx1
  exact retP ⟨rfl, rfl, rfl, rfl⟩ (BI.Entails.refl _)

theorem part46 (hO : Above 2 O) : KvWait m K c O 3 ⊢ WP c (onMem k0_part46 (w2 c) 3#32) fun x => iprop(⌜x = 9#32⌝ ∗ KvWait m K c O 9) := by
  rw [k0_part46_eq_skeleton]; unfold k0_part46_skel
  refine ifs1 (kv_wait hO 3 (ne_word c ⟨3, by decide⟩) rfl) ?_
  refine ifs1 (kv_wait hO 4 (ne_word c ⟨4, by decide⟩) rfl) ?_
  refine ifs1 (kv_wait hO 5 (ne_word c ⟨5, by decide⟩) rfl) ?_
  refine ifs1 (kv_wait hO 6 (ne_word c ⟨6, by decide⟩) rfl) ?_
  refine ifs1 (kv_wait hO 7 (ne_word c ⟨7, by decide⟩) rfl) ?_
  refine ifs1 (kv_wait hO 8 (ne_word c ⟨8, by decide⟩) rfl) ?_
  exact retP rfl (BI.Entails.refl _)

theorem part47 (hO : Above 2 O) : KvWait m K c O 9 ⊢ WP c (onMem k0_part47 (w2 c) 9#32) fun x => iprop(⌜x = 15#32⌝ ∗ KvWait m K c O 15) := by
  rw [k0_part47_eq_skeleton]; unfold k0_part47_skel
  refine ifs1 (kv_wait hO 9 (ne_word c ⟨9, by decide⟩) rfl) ?_
  refine ifs1 (kv_wait hO 10 (ne_word c ⟨10, by decide⟩) rfl) ?_
  refine ifs1 (kv_wait hO 11 (ne_word c ⟨11, by decide⟩) rfl) ?_
  refine ifs1 (kv_wait hO 12 (ne_word c ⟨12, by decide⟩) rfl) ?_
  refine ifs1 (kv_wait hO 13 (ne_word c ⟨13, by decide⟩) rfl) ?_
  refine ifs1 (kv_wait hO 14 (ne_word c ⟨14, by decide⟩) rfl) ?_
  exact retP rfl (BI.Entails.refl _)

theorem part48 (hO : Above 2 O) : KvWait m K c O 15 ⊢ WP c (onMem k0_part48 (w2 c) 15#32) fun x => iprop(⌜x = 21#32⌝ ∗ KvWait m K c O 21) := by
  rw [k0_part48_eq_skeleton]; unfold k0_part48_skel
  refine ifs1 (kv_wait hO 15 (ne_word c ⟨15, by decide⟩) rfl) ?_
  refine ifs1 (kv_wait hO 16 (ne_word c ⟨16, by decide⟩) rfl) ?_
  refine ifs1 (kv_wait hO 17 (ne_word c ⟨17, by decide⟩) rfl) ?_
  refine ifs1 (kv_wait hO 18 (ne_word c ⟨18, by decide⟩) rfl) ?_
  refine ifs1 (kv_wait hO 19 (ne_word c ⟨19, by decide⟩) rfl) ?_
  refine ifs1 (kv_wait hO 20 (ne_word c ⟨20, by decide⟩) rfl) ?_
  exact retP rfl (BI.Entails.refl _)

theorem part49 (hO : Above 2 O) : KvWait m K c O 21 ⊢ WP c (onMem k0_part49 (w2 c) 21#32) fun x => iprop(⌜x = 27#32⌝ ∗ KvWait m K c O 27) := by
  rw [k0_part49_eq_skeleton]; unfold k0_part49_skel
  refine ifs1 (kv_wait hO 21 (ne_word c ⟨21, by decide⟩) rfl) ?_
  refine ifs1 (kv_wait hO 22 (ne_word c ⟨22, by decide⟩) rfl) ?_
  refine ifs1 (kv_wait hO 23 (ne_word c ⟨23, by decide⟩) rfl) ?_
  refine ifs1 (kv_wait hO 24 (ne_word c ⟨24, by decide⟩) rfl) ?_
  refine ifs1 (kv_wait hO 25 (ne_word c ⟨25, by decide⟩) rfl) ?_
  refine ifs1 (kv_wait hO 26 (ne_word c ⟨26, by decide⟩) rfl) ?_
  exact retP rfl (BI.Entails.refl _)

theorem swapP {A B C : sProp 𝕄} : iprop(A ∗ (B ∗ C)) ⊢ iprop(B ∗ (A ∗ C)) := by
  iintro ⟨HA, HB, HC⟩
  isplitl [HB]; · iexact HB
  isplitl [HA]; · iexact HA
  iexact HC

/-- The last keys and values have come. -/
theorem part50 (hO : Above 2 O) (q : FVec F S256x256 .f32) : iprop(KvWait m K c O 27 ∗ ptS c cc0_scratch5 (slot256 c.val) (kvr m c)) ⊢ WP c (onMem k0_part50 (w2 c) q 27#32)
    fun x => iprop(⌜x.1 = k0_pay153 q ∧ x.2.1 = k0_pay154 (kvH m c 0 0 0) ∧ x.2.2 = k0_pay155 (kvH m c 1 0 0)⌝
      ∗ ((ctx m K c ∗ (∃ W, owes (c : Thread nD τ) O W)) ∗ (bigSep (others c) fun p => atPos ER (cellD c (rcv 0 p)) 1 ∅ 0)) ∗ pt c cc0_scratch5 (kvr m c)) := by
  rw [k0_part50_eq_skeleton]; unfold k0_part50_skel
  refine ifs (kv_wait hO 27 (ne_word c ⟨27, by decide⟩) rfl) ?_
  refine ifs (kv_wait hO 28 (ne_word c ⟨28, by decide⟩) rfl) ?_
  refine ifs (kv_wait hO 29 (ne_word c ⟨29, by decide⟩) rfl) ?_
  refine ifs (kv_wait hO 30 (ne_word c ⟨30, by decide⟩) rfl) ?_
  refine ifs (kv_wait hO 31 (ne_word c ⟨31, by decide⟩) rfl) ?_
  refine BI.Entails.trans (?_ : _ ⊢ iprop(((ctx m K c ∗ (∃ W, owes (c : Thread nD τ) O W)) ∗ (bigSep (others c) fun p => atPos ER (cellD c (rcv 0 p)) 1 ∅ 0)) ∗ pt c cc0_scratch5 (kvr m c))) ?_
  · iintro ⟨HK, HS⟩
    ihave HK := wait_done $$ HK
    icases HK with ⟨HC, HA, HL⟩
    isplitl [HC HA]
    · isplitl [HC]; · iexact HC
      iexact HA
    iapply slots_kvr
    isplitl [HL]; · iexact HL
    iexact HS
  refine seqR (head_load 0 0 0 rfl) fun k => ?_
  refine BI.Entails.trans swapP (purE fun hk => ?_)
  refine seqR (head_load 1 0 0 rfl) fun v => ?_
  refine BI.Entails.trans swapP (purE fun hv => ?_)
  subst hk hv
  exact retP ⟨rfl, rfl, rfl⟩ (BI.Entails.refl _)

theorem part51 (v1472 : IVec S256x256 1) (v1483 : FVec F S256x256 .f32) (v1583 : FVec F S256x64 .f32) (v1585 : FVec F S256x64 .f32) (v1587 : FVec F S256x64 .f32) : pt c cc0_scratch5 (kvr m c) ⊢ WP c (onMem k0_part51 v1472 v1483 v1583 v1585 v1587)
    fun x => iprop(⌜x.1 = k0_pay156 v1472 v1583 v1585 v1587 ∧ x.2.1 = k0_pay157 v1472 v1483 (kvH m c 0 0 1) (kvH m c 1 0 1) ∧ x.2.2.1 = k0_pay158 v1483 ∧ x.2.2.2 = k0_pay159 (kvH m c 0 0 2)⌝ ∗ pt c cc0_scratch5 (kvr m c)) := by
  rw [k0_part51_eq_skeleton]; unfold k0_part51_skel
  refine seqV (head_load 0 0 1 rfl) fun v0 h0 => ?_
  refine seqV (head_load 1 0 1 rfl) fun v1 h1 => ?_
  refine seqV (head_load 0 0 2 rfl) fun v2 h2 => ?_
  subst h0 h1 h2
  exact retP ⟨rfl, rfl, rfl, rfl⟩ (BI.Entails.refl _)

theorem part52 (v1472 : IVec S256x256 1) (v1480 : Vec F S256x512 .f32) (v1483 : FVec F S256x256 .f32) (v1602 : FVec F S256x64 .f32) (v1622 : FVec F S256x64 .f32) (v1623 : FVec F S256x64 .f32) (v1625 : FVec F S256x64 .f32) : pt c cc0_scratch5 (kvr m c) ⊢ WP c (onMem k0_part52 v1472 v1480 v1483 v1602 v1622 v1623 v1625)
    fun x => iprop(⌜x = k0_pay160 v1472 v1480 v1483 v1602 v1622 v1623 v1625 (kvH m c 1 0 2) (kvH m c 0 0 3) (kvH m c 1 0 3)⌝ ∗ pt c cc0_scratch5 (kvr m c)) := by
  rw [k0_part52_eq_skeleton]; unfold k0_part52_skel
  refine seqV (head_load 1 0 2 rfl) fun v0 h0 => ?_
  refine seqV (head_load 0 0 3 rfl) fun v1 h1 => ?_
  refine seqV (head_load 1 0 3 rfl) fun v2 h2 => ?_
  subst h0 h1 h2
  exact retP rfl (BI.Entails.refl _)

/-- The share of the output of batch 0, as the body reckons it. -/
theorem pb_0 : k0_pay160 maskV (woB m c) (qB m c 0) (k0_pay156 maskV (k0_pay153 (qB m c 0)) (k0_pay154 (kvH m c 0 0 0)) (k0_pay155 (kvH m c 1 0 0)))
    (k0_pay157 maskV (qB m c 0) (kvH m c 0 0 1) (kvH m c 1 0 1)) (k0_pay158 (qB m c 0)) (k0_pay159 (kvH m c 0 0 2)) (kvH m c 1 0 2) (kvH m c 0 0 3) (kvH m c 1 0 3) = pb m c 0 := rfl

end Cert.KernelIdeal.Mesh
-- ==== Proof.KI.Share.lean ====
/-
  The parts of the body that lay out each batch's share of the output, send its chunks and compute the second batch.
-/
module

public import proofs.«01_k».proof.Proof.KI.Heads

@[expose] public section

noncomputable section

namespace Cert.KernelIdeal.Mesh

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : GSem nD τ sig → ℕ} {c : Dev nD}

attribute [local irreducible] Scalar.cmpi

variable {O : CellTallies nD τ sig Unit}

/-! ## The two halves of the second exchange -/

/-- The other devices that take the chunks of batch `b`. -/
abbrev half (b : ℕ) (c : Dev nD) : Finset (Dev nD) := (others c).filter fun p => p.val / 16 = b

theorem mem_half {b : ℕ} {p : Dev nD} : p ∈ half b c ↔ p ≠ c ∧ p.val / 16 = b := by simp [half]
theorem peerH_half (j b : ℕ) (h : j / 16 = b) (hj : j < 32) : (peerH c j ≠ c → peerH c j ∈ half b c) ∧ (peerH c j = c → peerH c j ∉ half b c) := by
  refine ⟨fun hp => mem_half.2 ⟨hp, ?_⟩, fun hp hG => (mem_half.1 hG).1 hp⟩
  have h3 : c.val < 32 := c.isLt
  change (16 * (j / 16) + (c.val + j) % 16) % 32 / 16 = b
  omega
theorem half_first (b : ℕ) : ∀ p ∈ half b c, 16 * b ≤ (byHalf c).rk p := fun p hp => by
  have h := (mem_half.1 hp).2
  change 16 * b ≤ 16 * (p.val / 16) + (p.val + 32 - c.val) % 16
  omega
theorem half_last (b : ℕ) : ∀ p ∈ half b c, (byHalf c).rk p < 16 * b + 16 := fun p hp => by
  have h := (mem_half.1 hp).2
  change 16 * (p.val / 16) + (p.val + 32 - c.val) % 16 < 16 * b + 16
  omega
theorem half_disj : Disjoint (half 0 c) (half 1 c) := Finset.disjoint_left.2 fun p h0 h1 => by
  have h0 := (mem_half.1 h0).2; have h1 := (mem_half.1 h1).2; omega
theorem half_union : half 0 c ∪ half 1 c = others c := by
  ext p
  have h : p.val < 32 := p.isLt
  rw [Finset.mem_union, mem_half, mem_half, mem_others]
  constructor
  · rintro (h | h) <;> exact h.1
  · intro hp
    rcases (by omega : p.val / 16 = 0 ∨ p.val / 16 = 1) with h' | h'
    · exact .inl ⟨hp, h'⟩
    · exact .inr ⟨hp, h'⟩

/-- What a copy of exchange `a` needs besides its source. -/
def sendRest (a : Fin 3) (c p : Dev nD) : sProp 𝕄 :=
  iprop(anyP a p c ∗ reached ER (cellD p (rcv a c)) 0 ∗ dutyTok ER (cellD c (snd a p)) 0 c ∗ dutyTok ER (cellD p (rcv a c)) 0 c)

theorem send_join {a : Fin 3} {G : Finset (Dev nD)} : iprop(bigSep G (srcP m a c) ∗ bigSep G (sendRest a c)) ⊢ bigSep G (sendIn m a c) :=
  Entails.of_eq (bigSep_two G (srcP m a c) (sendRest a c)).symm

/-- One's own chunk of one's own share, if it is one of batch `b`'s. -/
def ownPar (m : (ℓ : Loc nD τ sig) → Buf (Elt F) ℓ) (c : Dev nD) (b : ℕ) : sProp 𝕄 :=
  bigSep (({c} : Finset (Dev nD)).filter fun p => p.val / 16 = b) (srcP m 1 c)

theorem own_two : iprop(ownPar m c 0 ∗ ownPar m c 1) ⊢ ptS c cc0_scratch6 (slot512 c.val) (par m c) := by
  unfold ownPar
  have hd : Disjoint (({c} : Finset (Dev nD)).filter fun p => p.val / 16 = 0) (({c} : Finset (Dev nD)).filter fun p => p.val / 16 = 1) :=
    Finset.disjoint_left.2 fun p h0 h1 => by have h0 := (Finset.mem_filter.1 h0).2; have h1 := (Finset.mem_filter.1 h1).2; omega
  have hu : (({c} : Finset (Dev nD)).filter fun p => p.val / 16 = 0) ∪ (({c} : Finset (Dev nD)).filter fun p => p.val / 16 = 1) = insert c ∅ := by
    have h : c.val < 32 := c.isLt
    ext p
    simp only [Finset.mem_union, Finset.mem_filter, Finset.mem_singleton, insert_empty_eq]
    constructor
    · rintro (h | h) <;> exact h.1
    · rintro rfl
      rcases (by omega : p.val / 16 = 0 ∨ p.val / 16 = 1) with h' | h'
      · exact .inl ⟨rfl, h'⟩
      · exact .inr ⟨rfl, h'⟩
  refine (Entails.of_eq (BI.bigSep_union hd (Φ := srcP m 1 c)).symm).trans ?_
  rw [hu, bigSep_cons (Finset.notMem_empty c), bigSep_none]
  exact Entails.of_eq (sep_emp_eq _)

theorem par_hand (b : ℕ) (hb : b < 2) : ptS c cc0_scratch6 (parSet b (16 * b + 16)) (par m c) ⊢ iprop(bigSep (half b c) (srcP m 1 c) ∗ ownPar m c b) := by
  have e : (Finset.univ.filter fun p : Dev nD => p.val / 16 = b).biUnion (fun p => slot512 p.val) = parSet b (16 * b + 16) := by
    ext i
    have h0 : (i 0).val < 32 := (i 0).isLt
    simp only [Finset.mem_biUnion, Finset.mem_filter, Finset.mem_univ, true_and]
    constructor
    · rintro ⟨p, hp, hi⟩
      have hi := mem_slot512.1 hi
      exact mem_parSet.2 (by omega)
    · intro hi
      have hi := mem_parSet.1 hi
      exact ⟨i 0, by omega, mem_slot512.2 rfl⟩
  have h := pointsTo_biUnion (ℓ := (c : Thread nD τ).loc cc0_scratch6) (q := fullShare) (f := par m c) (Ix := Unit) (Name := ℕ) (U := UU) (Lvl := ℕ) (Finset.univ.filter fun p : Dev nD => p.val / 16 = b) (fun p => slot512 p.val) (fun t _ t' _ hne => by
    refine Finset.disjoint_left.2 fun i hi hi' => hne ?_
    exact Fin.ext ((mem_slot512.1 hi).symm.trans (mem_slot512.1 hi')))
  rw [e] at h
  have hu : (Finset.univ.filter fun p : Dev nD => p.val / 16 = b) = half b c ∪ (({c} : Finset (Dev nD)).filter fun p => p.val / 16 = b) := by
    ext p
    simp only [Finset.mem_union, Finset.mem_filter, Finset.mem_univ, true_and, mem_half, Finset.mem_singleton]
    by_cases hp : p = c <;> simp [hp]
  have hd : Disjoint (half b c) (({c} : Finset (Dev nD)).filter fun p => p.val / 16 = b) :=
    Finset.disjoint_left.2 fun p h0 h1 => (mem_half.1 h0).1 (Finset.mem_singleton.1 (Finset.mem_filter.1 h1).1)
  rw [hu] at h
  refine (Entails.of_eq h).trans ?_
  exact Entails.of_eq (BI.bigSep_union hd (Φ := srcP m 1 c))

/-- The state while batch `b`'s chunks are sent. -/
abbrev PartSt (m : (ℓ : Loc nD τ sig) → Buf (Elt F) ℓ) (K : GSem nD τ sig → ℕ) (c : Dev nD) (b : ℕ) (O : CellTallies nD τ sig Unit) (n : ℕ) : sProp 𝕄 :=
  SendSt m K 1 c (half b c) (byHalf c) O n

theorem part_start (b : ℕ) (hb : b < 2) :
    iprop(ParSt m c b (16 * b + 16) ∗ (ctx m K c ∗ (∃ W, owes (c : Thread nD τ) (oR 1 c (half b c) + O) W)) ∗ bigSep (half b c) (sendRest 1 c))
      ⊢ iprop(PartSt m K c b O (16 * b) ∗ ownPar m c b) := by
  iintro ⟨HP, HC, HR⟩
  ihave HP := (fill_full.trans (par_hand b hb)) $$ HP
  icases HP with ⟨HP, HO⟩
  isplitr [HO]
  · iapply (send_start (half_first b))
    isplitl [HC]; · iexact HC
    iapply send_join
    isplitl [HP]; · iexact HP
    iexact HR
  iexact HO

/-! ## The parts that lay out and send the first batch's share -/

theorem part53 : ParSt m c 0 0 ⊢ WP c (onMem k0_part53 (pb m c 0)) fun x => iprop(⌜x = k0_pay168 (pb m c 0)⌝ ∗ ParSt m c 0 7) := by
  rw [k0_part53_eq_skeleton]; unfold k0_part53_skel
  refine seq1 (par_load (b := 0) (n := 0)) fun _ => ?_
  refine seq1 (par_put 0 fun _ => rfl) fun _ => ?_
  refine seq1 (par_load (b := 0) (n := 1)) fun _ => ?_
  refine seq1 (par_put 0 fun _ => rfl) fun _ => ?_
  refine seq1 (par_load (b := 0) (n := 2)) fun _ => ?_
  refine seq1 (par_put 0 fun _ => rfl) fun _ => ?_
  refine seq1 (par_load (b := 0) (n := 3)) fun _ => ?_
  refine seq1 (par_put 0 fun _ => rfl) fun _ => ?_
  refine seq1 (par_load (b := 0) (n := 4)) fun _ => ?_
  refine seq1 (par_put 0 fun _ => rfl) fun _ => ?_
  refine seq1 (par_load (b := 0) (n := 5)) fun _ => ?_
  refine seq1 (par_put 0 fun _ => rfl) fun _ => ?_
  refine seq1 (par_load (b := 0) (n := 6)) fun _ => ?_
  refine seq1 (par_put 0 fun _ => rfl) fun _ => ?_
  exact retP rfl (BI.Entails.refl _)

theorem part54 : ParSt m c 0 7 ⊢ WP c (onMem k0_part54 (pb m c 0) (k0_pay168 (pb m c 0))) fun _ => ParSt m c 0 15 := by
  rw [k0_part54_eq_skeleton]; unfold k0_part54_skel
  refine seq1 (par_load (b := 0) (n := 7)) fun _ => ?_
  refine seq1 (par_put 0 fun _ => rfl) fun _ => ?_
  refine seq1 (par_load (b := 0) (n := 8)) fun _ => ?_
  refine seq1 (par_put 0 fun _ => rfl) fun _ => ?_
  refine seq1 (par_load (b := 0) (n := 9)) fun _ => ?_
  refine seq1 (par_put 0 fun _ => rfl) fun _ => ?_
  refine seq1 (par_load (b := 0) (n := 10)) fun _ => ?_
  refine seq1 (par_put 0 fun _ => rfl) fun _ => ?_
  refine seq1 (par_load (b := 0) (n := 11)) fun _ => ?_
  refine seq1 (par_put 0 fun _ => rfl) fun _ => ?_
  refine seq1 (par_load (b := 0) (n := 12)) fun _ => ?_
  refine seq1 (par_put 0 fun _ => rfl) fun _ => ?_
  refine seq1 (par_load (b := 0) (n := 13)) fun _ => ?_
  refine seq1 (par_put 0 fun _ => rfl) fun _ => ?_
  refine seq1 (par_load (b := 0) (n := 14)) fun _ => ?_
  refine seq1 (par_put 0 fun _ => rfl) fun _ => ?_
  exact ret1 (BI.Entails.refl _)

theorem part55 (v2 : BitVec 32) :
    iprop(ParSt m c 0 15 ∗ (ctx m K c ∗ (∃ W, owes (c : Thread nD τ) (oR 1 c (half 0 c) + O) W)) ∗ bigSep (half 0 c) (sendRest 1 c))
      ⊢ WP c (onMem k0_part55 c v2 (pb m c 0)) fun _ => iprop(PartSt m K c 0 O 2 ∗ ownPar m c 0) := by
  rw [k0_part55_eq_skeleton]; unfold k0_part55_skel
  refine seq (par_load (b := 0) (n := 15)) fun _ => ?_
  refine seq (par_put 0 fun _ => rfl) fun _ => ?_
  refine (part_start 0 (by decide)).trans ?_
  refine ifs (part_send (G := half 0 c) 0 (by revert c; decide +kernel) (by intro _; exact Fin.ext (by revert c; decide +kernel)) (by revert c; decide +kernel) (k0_off9_eq c) (by revert c; decide +kernel) (k0_off10_eq c) (peerH_half 0 0 rfl (by decide)).1 (peerH_half 0 0 rfl (by decide)).2) ?_
  refine ifs (part_send (G := half 0 c) 1 (by revert c; decide +kernel) (by intro _; exact Fin.ext (by revert c; decide +kernel)) (by revert c; decide +kernel) (k0_off13_eq c) (by revert c; decide +kernel) (k0_off14_eq c) (peerH_half 1 0 rfl (by decide)).1 (peerH_half 1 0 rfl (by decide)).2) ?_
  exact ret1 (BI.Entails.refl _)

theorem part56 (v2 : BitVec 32) (v1759 : BitVec 32) : PartSt m K c 0 O 2 ⊢ WP c (onMem k0_part56 c v2 v1759) fun _ => PartSt m K c 0 O 4 := by
  rw [k0_part56_eq_skeleton]; unfold k0_part56_skel
  refine ifs1 (part_send (G := half 0 c) 2 (by revert c; decide +kernel) (by intro _; exact Fin.ext (by revert c; decide +kernel)) (by revert c; decide +kernel) (k0_off17_eq c) (by revert c; decide +kernel) (k0_off18_eq c) (peerH_half 2 0 rfl (by decide)).1 (peerH_half 2 0 rfl (by decide)).2) ?_
  refine ifs1 (part_send (G := half 0 c) 3 (by revert c; decide +kernel) (by intro _; exact Fin.ext (by revert c; decide +kernel)) (by revert c; decide +kernel) (k0_off21_eq c) (by revert c; decide +kernel) (k0_off22_eq c) (peerH_half 3 0 rfl (by decide)).1 (peerH_half 3 0 rfl (by decide)).2) ?_
  exact ret1 (BI.Entails.refl _)

theorem part57 (v2 : BitVec 32) (v1791 : BitVec 32) (v1792 : BitVec 32) (v1793 : BitVec 1) (v1794 : BitVec 1) : PartSt m K c 0 O 4 ⊢ WP c (onMem k0_part57 c v2 v1791 v1792 v1793 v1794) fun _ => PartSt m K c 0 O 6 := by
  rw [k0_part57_eq_skeleton]; unfold k0_part57_skel
  refine ifs1 (part_send (G := half 0 c) 4 (by revert c; decide +kernel) (by intro _; exact Fin.ext (by revert c; decide +kernel)) (by revert c; decide +kernel) (k0_off25_eq c) (by revert c; decide +kernel) (k0_off26_eq c) (peerH_half 4 0 rfl (by decide)).1 (peerH_half 4 0 rfl (by decide)).2) ?_
  refine ifs1 (part_send (G := half 0 c) 5 (by revert c; decide +kernel) (by intro _; exact Fin.ext (by revert c; decide +kernel)) (by revert c; decide +kernel) (k0_off29_eq c) (by revert c; decide +kernel) (k0_off30_eq c) (peerH_half 5 0 rfl (by decide)).1 (peerH_half 5 0 rfl (by decide)).2) ?_
  exact ret1 (BI.Entails.refl _)

theorem part58 (v2 : BitVec 32) (v1830 : BitVec 32) (v1832 : BitVec 32) : PartSt m K c 0 O 6 ⊢ WP c (onMem k0_part58 c v2 v1830 v1832) fun _ => PartSt m K c 0 O 9 := by
  rw [k0_part58_eq_skeleton]; unfold k0_part58_skel
  refine ifs1 (part_send (G := half 0 c) 6 (by revert c; decide +kernel) (by intro _; exact Fin.ext (by revert c; decide +kernel)) (by revert c; decide +kernel) (k0_off33_eq c) (by revert c; decide +kernel) (k0_off34_eq c) (peerH_half 6 0 rfl (by decide)).1 (peerH_half 6 0 rfl (by decide)).2) ?_
  refine ifs1 (part_send (G := half 0 c) 7 (by revert c; decide +kernel) (by intro _; exact Fin.ext (by revert c; decide +kernel)) (by revert c; decide +kernel) (k0_off37_eq c) (by revert c; decide +kernel) (k0_off38_eq c) (peerH_half 7 0 rfl (by decide)).1 (peerH_half 7 0 rfl (by decide)).2) ?_
  refine ifs1 (part_send (G := half 0 c) 8 (by revert c; decide +kernel) (by intro _; exact Fin.ext (by revert c; decide +kernel)) (by revert c; decide +kernel) (k0_off41_eq c) (by revert c; decide +kernel) (k0_off42_eq c) (peerH_half 8 0 rfl (by decide)).1 (peerH_half 8 0 rfl (by decide)).2) ?_
  exact ret1 (BI.Entails.refl _)

theorem part59 (v2 : BitVec 32) (v1864 : BitVec 32) (v1866 : BitVec 32) : PartSt m K c 0 O 9 ⊢ WP c (onMem k0_part59 c v2 v1864 v1866) fun _ => PartSt m K c 0 O 11 := by
  rw [k0_part59_eq_skeleton]; unfold k0_part59_skel
  refine ifs1 (part_send (G := half 0 c) 9 (by revert c; decide +kernel) (by intro _; exact Fin.ext (by revert c; decide +kernel)) (by revert c; decide +kernel) (k0_off45_eq c) (by revert c; decide +kernel) (k0_off46_eq c) (peerH_half 9 0 rfl (by decide)).1 (peerH_half 9 0 rfl (by decide)).2) ?_
  refine ifs1 (part_send (G := half 0 c) 10 (by revert c; decide +kernel) (by intro _; exact Fin.ext (by revert c; decide +kernel)) (by revert c; decide +kernel) (k0_off49_eq c) (by revert c; decide +kernel) (k0_off50_eq c) (peerH_half 10 0 rfl (by decide)).1 (peerH_half 10 0 rfl (by decide)).2) ?_
  exact ret1 (BI.Entails.refl _)

theorem part60 (v2 : BitVec 32) (v1897 : BitVec 32) (v1902 : BitVec 1) (v1903 : BitVec 32) : PartSt m K c 0 O 11 ⊢ WP c (onMem k0_part60 c v2 v1897 v1902 v1903) fun _ => PartSt m K c 0 O 14 := by
  rw [k0_part60_eq_skeleton]; unfold k0_part60_skel
  refine ifs1 (part_send (G := half 0 c) 11 (by revert c; decide +kernel) (by intro _; exact Fin.ext (by revert c; decide +kernel)) (by revert c; decide +kernel) (k0_off53_eq c) (by revert c; decide +kernel) (k0_off54_eq c) (peerH_half 11 0 rfl (by decide)).1 (peerH_half 11 0 rfl (by decide)).2) ?_
  refine ifs1 (part_send (G := half 0 c) 12 (by revert c; decide +kernel) (by intro _; exact Fin.ext (by revert c; decide +kernel)) (by revert c; decide +kernel) (k0_off57_eq c) (by revert c; decide +kernel) (k0_off58_eq c) (peerH_half 12 0 rfl (by decide)).1 (peerH_half 12 0 rfl (by decide)).2) ?_
  refine ifs1 (part_send (G := half 0 c) 13 (by revert c; decide +kernel) (by intro _; exact Fin.ext (by revert c; decide +kernel)) (by revert c; decide +kernel) (k0_off61_eq c) (by revert c; decide +kernel) (k0_off62_eq c) (peerH_half 13 0 rfl (by decide)).1 (peerH_half 13 0 rfl (by decide)).2) ?_
  exact ret1 (BI.Entails.refl _)

theorem part61 (v2 : BitVec 32) (v1486 : FVec F S256x256 .f32) (v1939 : BitVec 32) : iprop(PartSt m K c 0 O 14 ∗ pt c cc0_scratch5 (kvr m c)) ⊢ WP c (onMem k0_part61 c v2 v1486 v1939) fun x =>
    iprop(⌜x.2.2.1 = k0_pay178 v1486 ∧ x.2.2.2.1 = k0_pay179 (kvH m c 0 1 0) ∧ x.2.2.2.2.1 = k0_pay180 (kvH m c 1 1 0) ∧ x.2.2.2.2.2 = constant S256x256 .f32 0x00000000#32⌝
      ∗ PartSt m K c 0 O 16 ∗ pt c cc0_scratch5 (kvr m c)) := by
  rw [k0_part61_eq_skeleton]; unfold k0_part61_skel
  refine ifs (part_send (G := half 0 c) 14 (by revert c; decide +kernel) (by intro _; exact Fin.ext (by revert c; decide +kernel)) (by revert c; decide +kernel) (k0_off65_eq c) (by revert c; decide +kernel) (k0_off66_eq c) (peerH_half 14 0 rfl (by decide)).1 (peerH_half 14 0 rfl (by decide)).2) ?_
  refine ifs (part_send (G := half 0 c) 15 (by revert c; decide +kernel) (by intro _; exact Fin.ext (by revert c; decide +kernel)) (by revert c; decide +kernel) (k0_off69_eq c) (by revert c; decide +kernel) (k0_off70_eq c) (peerH_half 15 0 rfl (by decide)).1 (peerH_half 15 0 rfl (by decide)).2) ?_
  refine seqR (head_load 0 1 0 rfl) fun k => ?_
  refine BI.Entails.trans swapP (purE fun hk => ?_)
  refine seqR (head_load 1 1 0 rfl) fun v => ?_
  refine BI.Entails.trans swapP (purE fun hv => ?_)
  subst hk hv
  exact retP ⟨rfl, rfl, rfl, rfl⟩ (BI.Entails.refl _)

/-! ## The second batch, and the parts that lay out and send its share -/

theorem part62 (v1472 : IVec S256x256 1) (v1486 : FVec F S256x256 .f32) (v1969 : FVec F S256x64 .f32) (v1971 : FVec F S256x64 .f32) (v1973 : FVec F S256x64 .f32) (z : FVec F S256x256 .f32) : pt c cc0_scratch5 (kvr m c) ⊢ WP c (onMem k0_part62 v1472 v1486 v1969 v1971 v1973 z)
    fun x => iprop(⌜x.1 = k0_pay181 v1472 v1969 v1971 v1973 z ∧ x.2.1 = k0_pay182 v1472 v1486 (kvH m c 0 1 1) (kvH m c 1 1 1) ∧ x.2.2.1 = k0_pay183 v1486 ∧ x.2.2.2 = k0_pay184 (kvH m c 0 1 2)⌝ ∗ pt c cc0_scratch5 (kvr m c)) := by
  rw [k0_part62_eq_skeleton]; unfold k0_part62_skel
  refine seqV (head_load 0 1 1 rfl) fun v0 h0 => ?_
  refine seqV (head_load 1 1 1 rfl) fun v1 h1 => ?_
  refine seqV (head_load 0 1 2 rfl) fun v2 h2 => ?_
  subst h0 h1 h2
  exact retP ⟨rfl, rfl, rfl, rfl⟩ (BI.Entails.refl _)

theorem part63 (v1472 : IVec S256x256 1) (v1480 : Vec F S256x512 .f32) (v1486 : FVec F S256x256 .f32) (v1988 : FVec F S256x64 .f32) (v2008 : FVec F S256x64 .f32) (v2009 : FVec F S256x64 .f32) (v2011 : FVec F S256x64 .f32) : pt c cc0_scratch5 (kvr m c) ⊢ WP c (onMem k0_part63 v1472 v1480 v1486 v1988 v2008 v2009 v2011)
    fun x => iprop(⌜x.1 = k0_pay185 v1472 v1480 v1486 v1988 v2008 v2009 v2011 (kvH m c 1 1 2) (kvH m c 0 1 3) (kvH m c 1 1 3) ∧ x.2 = k0_pay186 v1472 v1480 v1486 v1988 v2008 v2009 v2011 (kvH m c 1 1 2) (kvH m c 0 1 3) (kvH m c 1 1 3)⌝ ∗ pt c cc0_scratch5 (kvr m c)) := by
  rw [k0_part63_eq_skeleton]; unfold k0_part63_skel
  refine seqV (head_load 1 1 2 rfl) fun v0 h0 => ?_
  refine seqV (head_load 0 1 3 rfl) fun v1 h1 => ?_
  refine seqV (head_load 1 1 3 rfl) fun v2 h2 => ?_
  subst h0 h1 h2
  exact retP ⟨rfl, rfl⟩ (BI.Entails.refl _)

/-- The share of the output of batch 1, as the body reckons it. -/
theorem pb_1 : k0_pay185 maskV (woB m c) (qB m c 1) (k0_pay181 maskV (k0_pay178 (qB m c 1)) (k0_pay179 (kvH m c 0 1 0)) (k0_pay180 (kvH m c 1 1 0)) (constant S256x256 .f32 0x00000000#32))
    (k0_pay182 maskV (qB m c 1) (kvH m c 0 1 1) (kvH m c 1 1 1)) (k0_pay183 (qB m c 1)) (k0_pay184 (kvH m c 0 1 2)) (kvH m c 1 1 2) (kvH m c 0 1 3) (kvH m c 1 1 3) = pb m c 1 := rfl

/-- The first sixteen rows of it. -/
abbrev pbHead (m : (ℓ : Loc nD τ sig) → Buf (Elt F) ℓ) (c : Dev nD) : FVec F S16x512 .f32 :=
  k0_pay186 maskV (woB m c) (qB m c 1) (k0_pay181 maskV (k0_pay178 (qB m c 1)) (k0_pay179 (kvH m c 0 1 0)) (k0_pay180 (kvH m c 1 1 0)) (constant S256x256 .f32 0x00000000#32))
    (k0_pay182 maskV (qB m c 1) (kvH m c 0 1 1) (kvH m c 1 1 1)) (k0_pay183 (qB m c 1)) (k0_pay184 (kvH m c 0 1 2)) (kvH m c 1 1 2) (kvH m c 0 1 3) (kvH m c 1 1 3)

theorem par_access_set {off : Fin 3 → ℕ} {inb} (h : off = ![c.val, 0, 0]) : (parM.access (parR off inb)).set = slot512 c.val := com_access_set (inb := inb) h
theorem com_load {off : Fin 3 → ℕ} {inb} (h : off = ![c.val, 0, 0]) {hl : comM.view.LoadsAt (parR off inb).toLoadRect} :
    (iprop(∃ f, ptS c cc0_scratch7 (slot512 c.val) f) : sProp 𝕄) ⊢ WP c (Prog.lift (.load comM (parR off inb).toLoadRect hl)) fun _ => iprop(∃ f, ptS c cc0_scratch7 (slot512 c.val) f) :=
  load_any (c := c) (M := comM) (r := parR off inb) (S := slot512 c.val) (le_of_eq (com_access_set h))
theorem com_store {off : Fin 3 → ℕ} {inb} (h : off = ![c.val, 0, 0]) {w : Vec F S1x16x512 .f32} {hx hm} (hw : w = (comM.access (parR off inb)).read (Elt F) (com m c)) :
    (iprop(∃ f, ptS c cc0_scratch7 (slot512 c.val) f) : sProp 𝕄) ⊢ WP c (Prog.lift (.store comM (parR off inb) w Finset.univ hx hm)) fun _ => ptS c cc0_scratch7 (slot512 c.val) (com m c) :=
  store_all (c := c) (M := comM) (r := parR off inb) (S := slot512 c.val) (g := com m c) (com_access_set h) hw

theorem part64 : ParSt m c 1 16 ⊢ WP c (onMem k0_part64 (pb m c 1) (pbHead m c)) fun x => iprop(⌜x.1 = k0_pay194 (pb m c 1)⌝ ∗ ParSt m c 1 23) := by
  rw [k0_part64_eq_skeleton]; unfold k0_part64_skel
  refine seq1 (par_load (b := 1) (n := 16)) fun _ => ?_
  refine seq1 (par_put 1 fun _ => rfl) fun _ => ?_
  refine seq1 (par_load (b := 1) (n := 17)) fun _ => ?_
  refine seq1 (par_put 1 fun _ => rfl) fun _ => ?_
  refine seq1 (par_load (b := 1) (n := 18)) fun _ => ?_
  refine seq1 (par_put 1 fun _ => rfl) fun _ => ?_
  refine seq1 (par_load (b := 1) (n := 19)) fun _ => ?_
  refine seq1 (par_put 1 fun _ => rfl) fun _ => ?_
  refine seq1 (par_load (b := 1) (n := 20)) fun _ => ?_
  refine seq1 (par_put 1 fun _ => rfl) fun _ => ?_
  refine seq1 (par_load (b := 1) (n := 21)) fun _ => ?_
  refine seq1 (par_put 1 fun _ => rfl) fun _ => ?_
  refine seq1 (par_load (b := 1) (n := 22)) fun _ => ?_
  refine seq1 (par_put 1 fun _ => rfl) fun _ => ?_
  refine seq1 (par_load (b := 1) (n := 23)) fun _ => ?_
  exact retP rfl (BI.Entails.refl _)

theorem part65 (v2080 : Vec F S1x16x512 .f32) : ParSt m c 1 23 ⊢ WP c (onMem k0_part65 (pb m c 1) (k0_pay194 (pb m c 1)) v2080) fun x => iprop(⌜x = k0_pay203 (pb m c 1)⌝ ∗ ParSt m c 1 31) := by
  rw [k0_part65_eq_skeleton]; unfold k0_part65_skel
  refine seq1 (par_put 1 fun _ => rfl) fun _ => ?_
  refine seq1 (par_load (b := 1) (n := 24)) fun _ => ?_
  refine seq1 (par_put 1 fun _ => rfl) fun _ => ?_
  refine seq1 (par_load (b := 1) (n := 25)) fun _ => ?_
  refine seq1 (par_put 1 fun _ => rfl) fun _ => ?_
  refine seq1 (par_load (b := 1) (n := 26)) fun _ => ?_
  refine seq1 (par_put 1 fun _ => rfl) fun _ => ?_
  refine seq1 (par_load (b := 1) (n := 27)) fun _ => ?_
  refine seq1 (par_put 1 fun _ => rfl) fun _ => ?_
  refine seq1 (par_load (b := 1) (n := 28)) fun _ => ?_
  refine seq1 (par_put 1 fun _ => rfl) fun _ => ?_
  refine seq1 (par_load (b := 1) (n := 29)) fun _ => ?_
  refine seq1 (par_put 1 fun _ => rfl) fun _ => ?_
  refine seq1 (par_load (b := 1) (n := 30)) fun _ => ?_
  refine seq1 (par_put 1 fun _ => rfl) fun _ => ?_
  exact retP rfl (BI.Entails.refl _)

theorem part66 (v2 : BitVec 32) :
    iprop(ParSt m c 1 31 ∗ (ctx m K c ∗ (∃ W, owes (c : Thread nD τ) (oR 1 c (half 1 c) + O) W)) ∗ bigSep (half 1 c) (sendRest 1 c))
      ⊢ WP c (onMem k0_part66 c v2 (k0_pay203 (pb m c 1))) fun _ => iprop(PartSt m K c 1 O 18 ∗ ownPar m c 1) := by
  rw [k0_part66_eq_skeleton]; unfold k0_part66_skel
  refine seq (par_load (b := 1) (n := 31)) fun _ => ?_
  refine seq (par_put 1 fun _ => rfl) fun _ => ?_
  refine (part_start 1 (by decide)).trans ?_
  refine ifs (part_send (G := half 1 c) 16 (by revert c; decide +kernel) (by intro _; exact Fin.ext (by revert c; decide +kernel)) (by revert c; decide +kernel) (k0_off73_eq c) (by revert c; decide +kernel) (k0_off74_eq c) (peerH_half 16 1 rfl (by decide)).1 (peerH_half 16 1 rfl (by decide)).2) ?_
  refine ifs (part_send (G := half 1 c) 17 (by revert c; decide +kernel) (by intro _; exact Fin.ext (by revert c; decide +kernel)) (by revert c; decide +kernel) (k0_off77_eq c) (by revert c; decide +kernel) (k0_off78_eq c) (peerH_half 17 1 rfl (by decide)).1 (peerH_half 17 1 rfl (by decide)).2) ?_
  exact ret1 (BI.Entails.refl _)

theorem part67 (v2 : BitVec 32) (v2145 : BitVec 32) (c16_i32_1452 : BitVec 32) : PartSt m K c 1 O 18 ⊢ WP c (onMem k0_part67 c v2 v2145 c16_i32_1452) fun _ => PartSt m K c 1 O 20 := by
  rw [k0_part67_eq_skeleton]; unfold k0_part67_skel
  refine ifs1 (part_send (G := half 1 c) 18 (by revert c; decide +kernel) (by intro _; exact Fin.ext (by revert c; decide +kernel)) (by revert c; decide +kernel) (k0_off81_eq c) (by revert c; decide +kernel) (k0_off82_eq c) (peerH_half 18 1 rfl (by decide)).1 (peerH_half 18 1 rfl (by decide)).2) ?_
  refine ifs1 (part_send (G := half 1 c) 19 (by revert c; decide +kernel) (by intro _; exact Fin.ext (by revert c; decide +kernel)) (by revert c; decide +kernel) (k0_off85_eq c) (by revert c; decide +kernel) (k0_off86_eq c) (peerH_half 19 1 rfl (by decide)).1 (peerH_half 19 1 rfl (by decide)).2) ?_
  exact ret1 (BI.Entails.refl _)

theorem part68 (v2 : BitVec 32) (v2177 : BitVec 32) (v2178 : BitVec 32) (v2179 : BitVec 1) (v2180 : BitVec 1) (c0_i32_1475 : BitVec 32) : PartSt m K c 1 O 20 ⊢ WP c (onMem k0_part68 c v2 v2177 v2178 v2179 v2180 c0_i32_1475) fun _ => PartSt m K c 1 O 22 := by
  rw [k0_part68_eq_skeleton]; unfold k0_part68_skel
  refine ifs1 (part_send (G := half 1 c) 20 (by revert c; decide +kernel) (by intro _; exact Fin.ext (by revert c; decide +kernel)) (by revert c; decide +kernel) (k0_off89_eq c) (by revert c; decide +kernel) (k0_off90_eq c) (peerH_half 20 1 rfl (by decide)).1 (peerH_half 20 1 rfl (by decide)).2) ?_
  refine ifs1 (part_send (G := half 1 c) 21 (by revert c; decide +kernel) (by intro _; exact Fin.ext (by revert c; decide +kernel)) (by revert c; decide +kernel) (k0_off93_eq c) (by revert c; decide +kernel) (k0_off94_eq c) (peerH_half 21 1 rfl (by decide)).1 (peerH_half 21 1 rfl (by decide)).2) ?_
  exact ret1 (BI.Entails.refl _)

theorem part69 (v2 : BitVec 32) (v2216 : BitVec 32) (v2218 : BitVec 32) (c0_i32_1495 : BitVec 32) : PartSt m K c 1 O 22 ⊢ WP c (onMem k0_part69 c v2 v2216 v2218 c0_i32_1495) fun _ => PartSt m K c 1 O 25 := by
  rw [k0_part69_eq_skeleton]; unfold k0_part69_skel
  refine ifs1 (part_send (G := half 1 c) 22 (by revert c; decide +kernel) (by intro _; exact Fin.ext (by revert c; decide +kernel)) (by revert c; decide +kernel) (k0_off97_eq c) (by revert c; decide +kernel) (k0_off98_eq c) (peerH_half 22 1 rfl (by decide)).1 (peerH_half 22 1 rfl (by decide)).2) ?_
  refine ifs1 (part_send (G := half 1 c) 23 (by revert c; decide +kernel) (by intro _; exact Fin.ext (by revert c; decide +kernel)) (by revert c; decide +kernel) (k0_off101_eq c) (by revert c; decide +kernel) (k0_off102_eq c) (peerH_half 23 1 rfl (by decide)).1 (peerH_half 23 1 rfl (by decide)).2) ?_
  refine ifs1 (part_send (G := half 1 c) 24 (by revert c; decide +kernel) (by intro _; exact Fin.ext (by revert c; decide +kernel)) (by revert c; decide +kernel) (k0_off105_eq c) (by revert c; decide +kernel) (k0_off106_eq c) (peerH_half 24 1 rfl (by decide)).1 (peerH_half 24 1 rfl (by decide)).2) ?_
  exact ret1 (BI.Entails.refl _)

theorem part70 (v2 : BitVec 32) (v2252 : BitVec 32) (v2253 : BitVec 32) : PartSt m K c 1 O 25 ⊢ WP c (onMem k0_part70 c v2 v2252 v2253) fun _ => PartSt m K c 1 O 27 := by
  rw [k0_part70_eq_skeleton]; unfold k0_part70_skel
  refine ifs1 (part_send (G := half 1 c) 25 (by revert c; decide +kernel) (by intro _; exact Fin.ext (by revert c; decide +kernel)) (by revert c; decide +kernel) (k0_off109_eq c) (by revert c; decide +kernel) (k0_off110_eq c) (peerH_half 25 1 rfl (by decide)).1 (peerH_half 25 1 rfl (by decide)).2) ?_
  refine ifs1 (part_send (G := half 1 c) 26 (by revert c; decide +kernel) (by intro _; exact Fin.ext (by revert c; decide +kernel)) (by revert c; decide +kernel) (k0_off113_eq c) (by revert c; decide +kernel) (k0_off114_eq c) (peerH_half 26 1 rfl (by decide)).1 (peerH_half 26 1 rfl (by decide)).2) ?_
  exact ret1 (BI.Entails.refl _)

theorem part71 (v2 : BitVec 32) (v2290 : BitVec 32) : PartSt m K c 1 O 27 ⊢ WP c (onMem k0_part71 c v2 v2290) fun _ => PartSt m K c 1 O 30 := by
  rw [k0_part71_eq_skeleton]; unfold k0_part71_skel
  refine ifs1 (part_send (G := half 1 c) 27 (by revert c; decide +kernel) (by intro _; exact Fin.ext (by revert c; decide +kernel)) (by revert c; decide +kernel) (k0_off117_eq c) (by revert c; decide +kernel) (k0_off118_eq c) (peerH_half 27 1 rfl (by decide)).1 (peerH_half 27 1 rfl (by decide)).2) ?_
  refine ifs1 (part_send (G := half 1 c) 28 (by revert c; decide +kernel) (by intro _; exact Fin.ext (by revert c; decide +kernel)) (by revert c; decide +kernel) (k0_off121_eq c) (by revert c; decide +kernel) (k0_off122_eq c) (peerH_half 28 1 rfl (by decide)).1 (peerH_half 28 1 rfl (by decide)).2) ?_
  refine ifs1 (part_send (G := half 1 c) 29 (by revert c; decide +kernel) (by intro _; exact Fin.ext (by revert c; decide +kernel)) (by revert c; decide +kernel) (k0_off125_eq c) (by revert c; decide +kernel) (k0_off126_eq c) (peerH_half 29 1 rfl (by decide)).1 (peerH_half 29 1 rfl (by decide)).2) ?_
  exact ret1 (BI.Entails.refl _)

/-- The last two copies, then one's own chunk into one's own slot. -/
theorem part72 (v2325 : BitVec 32) (c16_i32_1560 : BitVec 32) : iprop(PartSt m K c 1 O 30 ∗ ptS c cc0_scratch6 (slot512 c.val) (par m c) ∗ ∃ f, ptS c cc0_scratch7 (slot512 c.val) f) ⊢ WP c (onMem k0_part72 c (w2 c) v2325 c16_i32_1560) fun x =>
    iprop(⌜x.2.2 = Scalar.cmpi .ne (w2 c) 0#32⌝ ∗ PartSt m K c 1 O 32 ∗ ptS c cc0_scratch6 (slot512 c.val) (par m c) ∗ ptS c cc0_scratch7 (slot512 c.val) (com m c)) := by
  rw [k0_part72_eq_skeleton]; unfold k0_part72_skel
  refine ifs (part_send (G := half 1 c) 30 (by revert c; decide +kernel) (by intro _; exact Fin.ext (by revert c; decide +kernel)) (by revert c; decide +kernel) (k0_off129_eq c) (by revert c; decide +kernel) (k0_off130_eq c) (peerH_half 30 1 rfl (by decide)).1 (peerH_half 30 1 rfl (by decide)).2) ?_
  refine ifs (part_send (G := half 1 c) 31 (by revert c; decide +kernel) (by intro _; exact Fin.ext (by revert c; decide +kernel)) (by revert c; decide +kernel) (k0_off133_eq c) (by revert c; decide +kernel) (k0_off134_eq c) (peerH_half 31 1 rfl (by decide)).1 (peerH_half 31 1 rfl (by decide)).2) ?_
  refine mid (load_val (c := c) (M := parM) (r := parR (k0_off136 c) (k0_off136_inb c)) (S := slot512 c.val) (q := fullShare) (f := par m c) (le_of_eq (par_access_set (k0_off136_eq c)))) fun y hy => ?_
  refine seqR (com_load (k0_off136_eq c)) fun _ => ?_
  subst hy
  refine seqR (com_store (m := m) (k0_off136_eq c) ((shapeCast_self _ _).trans (com_own (k0_off136_eq c) (k0_off136_eq c)))) fun _ => ?_
  exact retP rfl sep_assoc.1

end Cert.KernelIdeal.Mesh
-- ==== Proof.KI.SendKv.lean ====
/-
  The parts of the body that send the packed keys and values: each device is sent its own slot.
-/
module

public import proofs.«01_k».proof.Proof.KI.Pack

@[expose] public section

noncomputable section

namespace Cert.KernelIdeal.Mesh

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : GSem nD τ sig → ℕ} {c : Dev nD}

/-! ## Where the pieces of the first exchange lie -/

theorem off4_eq : ∀ (c : Dev nD) (r : Fin 31), k0_off4 c (BitVec.ofNat 32 (1 + r.val)) = ![(peer c (1 + r.val)).val] := by decide +kernel
theorem off7_eq : ∀ (c : Dev nD) (r : Fin 31), k0_off7 c (BitVec.ofNat 32 (1 + r.val)) = ![(peer c (1 + r.val)).val, 0, 0] := by decide +kernel

/-- The state while the packed keys and values are sent: device `n - 1` places on has been sent its slot. -/
abbrev KvSt (m : (ℓ : Loc nD τ sig) → Buf (Elt F) ℓ) (K : GSem nD τ sig → ℕ) (c : Dev nD) (O : CellTallies nD τ sig Unit) (n : ℕ) : sProp 𝕄 :=
  SendSt m K 0 c (others c) (byOff c) O n

variable {O : CellTallies nD τ sig Unit}

/-! ## The parts that send the packed keys and values, in order -/

theorem part27 (v2 : BitVec 32) (v818 : BitVec 32) (v819 : BitVec 32) (v820 : BitVec 1) (v823 : BitVec 1) : KvSt m K c O 1 ⊢ WP c (onMem k0_part27 c v2 v818 v819 v820 v823) fun _ => KvSt m K c O 3 := by
  rw [k0_part27_eq_skeleton]; unfold k0_part27_skel
  refine seq1 (kv_send 1 (Fin.ext (by revert c; decide +kernel)) (off4_eq c 0) (k0_off5_eq c) (off7_eq c 0) (k0_off6_eq c)) fun _ => ?_
  refine seq1 (kv_send 2 (Fin.ext (by revert c; decide +kernel)) (off4_eq c 1) (k0_off5_eq c) (off7_eq c 1) (k0_off6_eq c)) fun _ => ?_
  exact ret1 (BI.Entails.refl _)

theorem part28 (v2 : BitVec 32) (v858 : BitVec 32) (c32_i32_516 : BitVec 32) (v859 : BitVec 1) : KvSt m K c O 3 ⊢ WP c (onMem k0_part28 c v2 v858 c32_i32_516 v859) fun _ => KvSt m K c O 4 := by
  rw [k0_part28_eq_skeleton]; unfold k0_part28_skel
  refine seq1 (kv_send 3 (Fin.ext (by revert c; decide +kernel)) (off4_eq c 2) (k0_off5_eq c) (off7_eq c 2) (k0_off6_eq c)) fun _ => ?_
  exact ret1 (BI.Entails.refl _)

theorem part29 (v2 : BitVec 32) : KvSt m K c O 4 ⊢ WP c (onMem k0_part29 c v2) fun _ => KvSt m K c O 6 := by
  rw [k0_part29_eq_skeleton]; unfold k0_part29_skel
  refine seq1 (kv_send 4 (Fin.ext (by revert c; decide +kernel)) (off4_eq c 3) (k0_off5_eq c) (off7_eq c 3) (k0_off6_eq c)) fun _ => ?_
  refine seq1 (kv_send 5 (Fin.ext (by revert c; decide +kernel)) (off4_eq c 4) (k0_off5_eq c) (off7_eq c 4) (k0_off6_eq c)) fun _ => ?_
  exact ret1 (BI.Entails.refl _)

theorem part30 (v2 : BitVec 32) (v932 : BitVec 32) : KvSt m K c O 6 ⊢ WP c (onMem k0_part30 c v2 v932) fun _ => KvSt m K c O 8 := by
  rw [k0_part30_eq_skeleton]; unfold k0_part30_skel
  refine seq1 (kv_send 6 (Fin.ext (by revert c; decide +kernel)) (off4_eq c 5) (k0_off5_eq c) (off7_eq c 5) (k0_off6_eq c)) fun _ => ?_
  refine seq1 (kv_send 7 (Fin.ext (by revert c; decide +kernel)) (off4_eq c 6) (k0_off5_eq c) (off7_eq c 6) (k0_off6_eq c)) fun _ => ?_
  exact ret1 (BI.Entails.refl _)

theorem part31 (v2 : BitVec 32) (v965 : BitVec 32) (v966 : BitVec 32) (v967 : BitVec 1) : KvSt m K c O 8 ⊢ WP c (onMem k0_part31 c v2 v965 v966 v967) fun _ => KvSt m K c O 10 := by
  rw [k0_part31_eq_skeleton]; unfold k0_part31_skel
  refine seq1 (kv_send 8 (Fin.ext (by revert c; decide +kernel)) (off4_eq c 7) (k0_off5_eq c) (off7_eq c 7) (k0_off6_eq c)) fun _ => ?_
  refine seq1 (kv_send 9 (Fin.ext (by revert c; decide +kernel)) (off4_eq c 8) (k0_off5_eq c) (off7_eq c 8) (k0_off6_eq c)) fun _ => ?_
  exact ret1 (BI.Entails.refl _)

theorem part32 (v2 : BitVec 32) : KvSt m K c O 10 ⊢ WP c (onMem k0_part32 c v2) fun _ => KvSt m K c O 11 := by
  rw [k0_part32_eq_skeleton]; unfold k0_part32_skel
  refine seq1 (kv_send 10 (Fin.ext (by revert c; decide +kernel)) (off4_eq c 9) (k0_off5_eq c) (off7_eq c 9) (k0_off6_eq c)) fun _ => ?_
  exact ret1 (BI.Entails.refl _)

theorem part33 (v2 : BitVec 32) : KvSt m K c O 11 ⊢ WP c (onMem k0_part33 c v2) fun _ => KvSt m K c O 13 := by
  rw [k0_part33_eq_skeleton]; unfold k0_part33_skel
  refine seq1 (kv_send 11 (Fin.ext (by revert c; decide +kernel)) (off4_eq c 10) (k0_off5_eq c) (off7_eq c 10) (k0_off6_eq c)) fun _ => ?_
  refine seq1 (kv_send 12 (Fin.ext (by revert c; decide +kernel)) (off4_eq c 11) (k0_off5_eq c) (off7_eq c 11) (k0_off6_eq c)) fun _ => ?_
  exact ret1 (BI.Entails.refl _)

theorem part34 (v2 : BitVec 32) (v1070 : BitVec 32) (v1071 : BitVec 32) (v1072 : BitVec 1) (v1075 : BitVec 1) : KvSt m K c O 13 ⊢ WP c (onMem k0_part34 c v2 v1070 v1071 v1072 v1075) fun _ => KvSt m K c O 15 := by
  rw [k0_part34_eq_skeleton]; unfold k0_part34_skel
  refine seq1 (kv_send 13 (Fin.ext (by revert c; decide +kernel)) (off4_eq c 12) (k0_off5_eq c) (off7_eq c 12) (k0_off6_eq c)) fun _ => ?_
  refine seq1 (kv_send 14 (Fin.ext (by revert c; decide +kernel)) (off4_eq c 13) (k0_off5_eq c) (off7_eq c 13) (k0_off6_eq c)) fun _ => ?_
  exact ret1 (BI.Entails.refl _)

theorem part35 (v2 : BitVec 32) (v1110 : BitVec 32) (c32_i32_672 : BitVec 32) (v1111 : BitVec 1) : KvSt m K c O 15 ⊢ WP c (onMem k0_part35 c v2 v1110 c32_i32_672 v1111) fun _ => KvSt m K c O 16 := by
  rw [k0_part35_eq_skeleton]; unfold k0_part35_skel
  refine seq1 (kv_send 15 (Fin.ext (by revert c; decide +kernel)) (off4_eq c 14) (k0_off5_eq c) (off7_eq c 14) (k0_off6_eq c)) fun _ => ?_
  exact ret1 (BI.Entails.refl _)

theorem part36 (v2 : BitVec 32) : KvSt m K c O 16 ⊢ WP c (onMem k0_part36 c v2) fun _ => KvSt m K c O 18 := by
  rw [k0_part36_eq_skeleton]; unfold k0_part36_skel
  refine seq1 (kv_send 16 (Fin.ext (by revert c; decide +kernel)) (off4_eq c 15) (k0_off5_eq c) (off7_eq c 15) (k0_off6_eq c)) fun _ => ?_
  refine seq1 (kv_send 17 (Fin.ext (by revert c; decide +kernel)) (off4_eq c 16) (k0_off5_eq c) (off7_eq c 16) (k0_off6_eq c)) fun _ => ?_
  exact ret1 (BI.Entails.refl _)

theorem part37 (v2 : BitVec 32) (v1184 : BitVec 32) : KvSt m K c O 18 ⊢ WP c (onMem k0_part37 c v2 v1184) fun _ => KvSt m K c O 20 := by
  rw [k0_part37_eq_skeleton]; unfold k0_part37_skel
  refine seq1 (kv_send 18 (Fin.ext (by revert c; decide +kernel)) (off4_eq c 17) (k0_off5_eq c) (off7_eq c 17) (k0_off6_eq c)) fun _ => ?_
  refine seq1 (kv_send 19 (Fin.ext (by revert c; decide +kernel)) (off4_eq c 18) (k0_off5_eq c) (off7_eq c 18) (k0_off6_eq c)) fun _ => ?_
  exact ret1 (BI.Entails.refl _)

theorem part38 (v2 : BitVec 32) (v1217 : BitVec 32) (v1218 : BitVec 32) (v1219 : BitVec 1) : KvSt m K c O 20 ⊢ WP c (onMem k0_part38 c v2 v1217 v1218 v1219) fun _ => KvSt m K c O 22 := by
  rw [k0_part38_eq_skeleton]; unfold k0_part38_skel
  refine seq1 (kv_send 20 (Fin.ext (by revert c; decide +kernel)) (off4_eq c 19) (k0_off5_eq c) (off7_eq c 19) (k0_off6_eq c)) fun _ => ?_
  refine seq1 (kv_send 21 (Fin.ext (by revert c; decide +kernel)) (off4_eq c 20) (k0_off5_eq c) (off7_eq c 20) (k0_off6_eq c)) fun _ => ?_
  exact ret1 (BI.Entails.refl _)

theorem part39 (v2 : BitVec 32) : KvSt m K c O 22 ⊢ WP c (onMem k0_part39 c v2) fun _ => KvSt m K c O 23 := by
  rw [k0_part39_eq_skeleton]; unfold k0_part39_skel
  refine seq1 (kv_send 22 (Fin.ext (by revert c; decide +kernel)) (off4_eq c 21) (k0_off5_eq c) (off7_eq c 21) (k0_off6_eq c)) fun _ => ?_
  exact ret1 (BI.Entails.refl _)

theorem part40 (v2 : BitVec 32) : KvSt m K c O 23 ⊢ WP c (onMem k0_part40 c v2) fun _ => KvSt m K c O 25 := by
  rw [k0_part40_eq_skeleton]; unfold k0_part40_skel
  refine seq1 (kv_send 23 (Fin.ext (by revert c; decide +kernel)) (off4_eq c 22) (k0_off5_eq c) (off7_eq c 22) (k0_off6_eq c)) fun _ => ?_
  refine seq1 (kv_send 24 (Fin.ext (by revert c; decide +kernel)) (off4_eq c 23) (k0_off5_eq c) (off7_eq c 23) (k0_off6_eq c)) fun _ => ?_
  exact ret1 (BI.Entails.refl _)

theorem part41 (v2 : BitVec 32) (v1322 : BitVec 32) (v1323 : BitVec 32) (v1324 : BitVec 1) (v1327 : BitVec 1) : KvSt m K c O 25 ⊢ WP c (onMem k0_part41 c v2 v1322 v1323 v1324 v1327) fun _ => KvSt m K c O 27 := by
  rw [k0_part41_eq_skeleton]; unfold k0_part41_skel
  refine seq1 (kv_send 25 (Fin.ext (by revert c; decide +kernel)) (off4_eq c 24) (k0_off5_eq c) (off7_eq c 24) (k0_off6_eq c)) fun _ => ?_
  refine seq1 (kv_send 26 (Fin.ext (by revert c; decide +kernel)) (off4_eq c 25) (k0_off5_eq c) (off7_eq c 25) (k0_off6_eq c)) fun _ => ?_
  exact ret1 (BI.Entails.refl _)

theorem part42 (v2 : BitVec 32) (v1362 : BitVec 32) (c32_i32_828 : BitVec 32) (v1363 : BitVec 1) : KvSt m K c O 27 ⊢ WP c (onMem k0_part42 c v2 v1362 c32_i32_828 v1363) fun _ => KvSt m K c O 28 := by
  rw [k0_part42_eq_skeleton]; unfold k0_part42_skel
  refine seq1 (kv_send 27 (Fin.ext (by revert c; decide +kernel)) (off4_eq c 26) (k0_off5_eq c) (off7_eq c 26) (k0_off6_eq c)) fun _ => ?_
  exact ret1 (BI.Entails.refl _)

theorem part43 (v2 : BitVec 32) : KvSt m K c O 28 ⊢ WP c (onMem k0_part43 c v2) fun _ => KvSt m K c O 30 := by
  rw [k0_part43_eq_skeleton]; unfold k0_part43_skel
  refine seq1 (kv_send 28 (Fin.ext (by revert c; decide +kernel)) (off4_eq c 27) (k0_off5_eq c) (off7_eq c 27) (k0_off6_eq c)) fun _ => ?_
  refine seq1 (kv_send 29 (Fin.ext (by revert c; decide +kernel)) (off4_eq c 28) (k0_off5_eq c) (off7_eq c 28) (k0_off6_eq c)) fun _ => ?_
  exact ret1 (BI.Entails.refl _)

theorem part44 (v2 : BitVec 32) (v1436 : BitVec 32) : KvSt m K c O 30 ⊢ WP c (onMem k0_part44 c v2 v1436) fun x => iprop(⌜x = k0_pay150⌝ ∗ KvSt m K c O 32) := by
  rw [k0_part44_eq_skeleton]; unfold k0_part44_skel
  refine seq1 (kv_send 30 (Fin.ext (by revert c; decide +kernel)) (off4_eq c 29) (k0_off5_eq c) (off7_eq c 29) (k0_off6_eq c)) fun _ => ?_
  refine seq1 (kv_send 31 (Fin.ext (by revert c; decide +kernel)) (off4_eq c 30) (k0_off5_eq c) (off7_eq c 30) (k0_off6_eq c)) fun _ => ?_
  exact retP rfl (BI.Entails.refl _)

end Cert.KernelIdeal.Mesh
-- ==== Proof.KI.Gather.lean ====
/-
  The parts of the body that take the shares, add them up and send the sum.
-/
module

public import proofs.«01_k».proof.Proof.KI.Share
public import proofs.«01_k».proof.Proof.KI.SendKv

@[expose] public section

noncomputable section

namespace Cert.KernelIdeal.Mesh

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : GSem nD τ sig → ℕ} {c : Dev nD}

attribute [local irreducible] Scalar.cmpi

variable {O : CellTallies nD τ sig Unit}

/-! ## A buffer by its slots -/

/-- A whole buffer is one's own slot of it and the slots that belong to the others. -/
theorem slots_eq (b : Ref sig .tc) (f : b.ty.Contents (Elt F)) (S : Dev nD → Finset b.ty.shape.Idx) (hc : ∀ i, ∃ p, i ∈ S p) (hd : ∀ p p' i, i ∈ S p → i ∈ S p' → p = p') :
    (pt c b f : sProp 𝕄) = iprop(ptS c b (S c) f ∗ bigSep (others c) fun p => ptS c b (S p) f) := by
  have e : (Finset.univ : Finset (Dev nD)).biUnion S = Finset.univ := by
    ext i
    simp only [Finset.mem_biUnion, Finset.mem_univ, true_and, iff_true]
    exact hc i
  have h := pointsTo_biUnion (ℓ := (c : Thread nD τ).loc b) (q := fullShare) (f := f) (Ix := Unit) (Name := ℕ) (U := UU) (Lvl := ℕ) (Finset.univ : Finset (Dev nD)) S (fun t _ t' _ hne =>
    Finset.disjoint_left.2 fun i hi hi' => hne (hd t t' i hi hi'))
  rw [e] at h
  have hu : (Finset.univ : Finset (Dev nD)) = insert c (others c) := (Finset.insert_erase (Finset.mem_univ c)).symm
  rw [hu, bigSep_cons (Finset.notMem_erase c _)] at h
  exact h

theorem slot256_mem (i : S32x32x256.Idx) : ∃ p : Dev nD, i ∈ slot256 p.val := ⟨i 0, mem_slot256.2 rfl⟩
theorem slot256_one (p p' : Dev nD) (i : S32x32x256.Idx) (h : i ∈ slot256 p.val) (h' : i ∈ slot256 p'.val) : p = p' := Fin.ext ((mem_slot256.1 h).symm.trans (mem_slot256.1 h'))
theorem slot512_mem (i : S32x16x512.Idx) : ∃ p : Dev nD, i ∈ slot512 p.val := ⟨i 0, mem_slot512.2 rfl⟩
theorem slot512_one (p p' : Dev nD) (i : S32x16x512.Idx) (h : i ∈ slot512 p.val) (h' : i ∈ slot512 p'.val) : p = p' := Fin.ext ((mem_slot512.1 h).symm.trans (mem_slot512.1 h'))
theorem chunk_mem (i : S2x256x512.Idx) : ∃ p : Dev nD, i ∈ chunk p.val := by
  have h0 : (i 0).val < 2 := (i 0).isLt
  have h1 : (i 1).val < 256 := (i 1).isLt
  refine ⟨(⟨16 * (i 0).val + (i 1).val / 16, by show _ < 32; omega⟩ : Dev nD), mem_chunk.2 ?_⟩
  show (i 0).val * 16 + (i 1).val / 16 = 16 * (i 0).val + (i 1).val / 16
  omega
theorem chunk_one (p p' : Dev nD) (i : S2x256x512.Idx) (h : i ∈ chunk p.val) (h' : i ∈ chunk p'.val) : p = p' := by
  have h := mem_chunk.1 h
  have h' := mem_chunk.1 h'
  exact Fin.ext (h.symm.trans h')

theorem kvs_slots : (pt c cc0_scratch4 (kvs m c) : sProp 𝕄) = iprop(ptS c cc0_scratch4 (slot256 c.val) (kvs m c) ∗ bigSep (others c) (srcP m 0 c)) :=
  slots_eq cc0_scratch4 (kvs m c) (fun p => slot256 p.val) slot256_mem slot256_one
theorem par_slots : (pt c cc0_scratch6 (par m c) : sProp 𝕄) = iprop(ptS c cc0_scratch6 (slot512 c.val) (par m c) ∗ bigSep (others c) (srcP m 1 c)) :=
  slots_eq cc0_scratch6 (par m c) (fun p => slot512 p.val) slot512_mem slot512_one
theorem com_slots : (pt c cc0_scratch7 (com m c) : sProp 𝕄) = iprop(ptS c cc0_scratch7 (slot512 c.val) (com m c) ∗ bigSep (others c) (landP m 1 c)) :=
  slots_eq cc0_scratch7 (com m c) (fun p => slot512 p.val) slot512_mem slot512_one
theorem out_slots : (pt c outR (res m) : sProp 𝕄) = iprop(ptS c outR (chunk c.val) (res m) ∗ bigSep (others c) (landP m 2 c)) :=
  slots_eq outR (res m) (fun p => chunk p.val) chunk_mem chunk_one

/-- What the copies of the sum leave of it. -/
def redKeep (m : (ℓ : Loc nD τ sig) → Buf (Elt F) ℓ) (c : Dev nD) : sProp 𝕄 :=
  iprop((((c : Thread nD τ).loc cc0_scratch8) ↦{Transfers.shareDrop fullShare 32} red m c) ∗ redTok m c c)
theorem red_split : (pt c cc0_scratch8 (red m c) : sProp 𝕄) = iprop(bigSep (others c) (srcP m 2 c) ∗ redKeep m c) := by
  have h := Transfers.pointsTo_toks (Ix := Unit) (Name := ℕ) (U := UU) (Lvl := ℕ) (ℓ := (c : Thread nD τ).loc cc0_scratch8) (S := Finset.univ) (f := red m c) fullShare 32
  have hu : (Finset.univ : Finset (Fin 32)) = insert c (others c) := (Finset.insert_erase (Finset.mem_univ (α := Dev nD) c)).symm
  rw [hu] at h
  have h2 := bigSep_cons (F := F) (Finset.notMem_erase c (Finset.univ : Finset (Dev nD))) (fun p => redTok m c p)
  have h3 : (bigSep (insert c (others c)) (fun i : Fin 32 => (((c : Thread nD τ).loc cc0_scratch8) ↦[Finset.univ]{Transfers.shareTok fullShare 32 i} red m c : sProp 𝕄)))
      = iprop(redTok m c c ∗ bigSep (others c) (fun p => redTok m c p)) := h2
  rw [h3] at h
  unfold redKeep
  refine equiv_iff.mp ⟨?_, ?_⟩
  · refine h.1.trans ?_
    refine (?_ : iprop((((c : Thread nD τ).loc cc0_scratch8) ↦{Transfers.shareDrop fullShare 32} red m c) ∗ redTok m c c ∗ bigSep (others c) (fun p => redTok m c p)) ⊢ iprop(bigSep (others c) (fun p => redTok m c p) ∗ (((c : Thread nD τ).loc cc0_scratch8) ↦{Transfers.shareDrop fullShare 32} red m c) ∗ redTok m c c))
    iintro ⟨H1, H2, H3⟩
    isplitl [H3]; · iexact H3
    isplitl [H1]; · iexact H1
    iexact H2
  · refine BI.Entails.trans ?_ h.2
    refine (?_ : iprop(bigSep (others c) (fun p => redTok m c p) ∗ (((c : Thread nD τ).loc cc0_scratch8) ↦{Transfers.shareDrop fullShare 32} red m c) ∗ redTok m c c) ⊢ iprop((((c : Thread nD τ).loc cc0_scratch8) ↦{Transfers.shareDrop fullShare 32} red m c) ∗ redTok m c c ∗ bigSep (others c) (fun p => redTok m c p)))
    iintro ⟨H3, H1, H2⟩
    isplitl [H1]; · iexact H1
    isplitl [H2]; · iexact H2
    iexact H3

/-! ## From one row of waits to the next -/

/-- What a row of waits needs, -/
abbrev readyW (k : Dev nD → DmaSem sig) (N : ℕ) (c : Dev nD) : sProp 𝕄 :=
  iprop((bigSep (others c) fun p => cred (tallyAt (cellD c (k p)) () N)) ∗ (bigSep (others c) fun p => atPos ER (cellD c (k p)) 0 ∅ 0))
/-- and where one stands after it. -/
abbrev pastW (k : Dev nD → DmaSem sig) (c : Dev nD) : sProp 𝕄 := bigSep (others c) fun p => atPos ER (cellD c (k p)) 1 ∅ 0

theorem wait_next {k k' : Dev nD → DmaSem sig} {N N' : ℕ} {P P' : Dev nD → sProp 𝕄} {r r' : Order} {n : ℕ} (h : ∀ p ∈ others c, n ≤ r'.rk p) :
    iprop(WaitSt m K k N P c r O 32 ∗ readyW k' N' c) ⊢ iprop(WaitSt m K k' N' P' c r' O n ∗ pastW k c ∗ bigSep (others c) P) := by
  iintro ⟨HW, HR⟩
  ihave HW := wait_done $$ HW
  icases HW with ⟨HC, HA⟩
  isplitr [HA]
  · iapply (wait_start h)
    isplitl [HC]; · iexact HC
    iexact HR
  iexact HA

theorem byOff_first : ∀ p ∈ others c, 1 ≤ (byOff c).rk p := fun p hp => by
  have hp := mem_others.1 hp
  have h1 : p.val < 32 := p.isLt
  have h3 : c.val < 32 := c.isLt
  have hne : p.val ≠ c.val := fun h => hp (Fin.ext h)
  change 1 ≤ (p.val + 32 - c.val) % 32
  omega

theorem off137_eq : ∀ c : Dev nD, k0_off137 c = chunkOff c.val := by decide +kernel
theorem off138_eq : ∀ c : Dev nD, k0_off138 c = chunkOff c.val := by decide +kernel

theorem out_load {off : Fin 3 → ℕ} {inb} (h : off = chunkOff c.val) {hl : outM.view.LoadsAt (outRc off inb).toLoadRect} :
    (iprop(∃ f, ptS c outR (chunk c.val) f) : sProp 𝕄) ⊢ WP c (Prog.lift (.load outM (outRc off inb).toLoadRect hl)) fun _ => iprop(∃ f, ptS c outR (chunk c.val) f) :=
  load_any (c := c) (M := outM) (r := outRc off inb) (S := chunk c.val) (le_of_eq (out_access_set h))
theorem out_store {off : Fin 3 → ℕ} {inb} (h : off = chunkOff c.val) {w : Vec F S1x16x512 .f32} {hx hm} (hw : w = (outM.access (outRc off inb)).read (Elt F) (res m)) :
    (iprop(∃ f, ptS c outR (chunk c.val) f) : sProp 𝕄) ⊢ WP c (Prog.lift (.store outM (outRc off inb) w Finset.univ hx hm)) fun _ => ptS c outR (chunk c.val) (res m) :=
  store_all (c := c) (M := outM) (r := outRc off inb) (S := chunk c.val) (g := res m) (out_access_set h) hw

abbrev comR (off : Fin 3 → ℕ) (inb : ∀ a, off a + S32x16x512.size a ≤ S32x16x512.size a) : Rect S32x16x512 := Rect.unit (s := S32x16x512) off S32x16x512.size inb
abbrev redR (off : Fin 3 → ℕ) (inb : ∀ a, off a + S1x16x512.size a ≤ S1x16x512.size a) : Rect S1x16x512 := Rect.unit (s := S1x16x512) off S1x16x512.size inb

theorem com_whole {off : Fin 3 → ℕ} {inb} (h : off = ![0, 0, 0]) : (comM.access (comR off inb)).read (Elt F) (com m c) = com m c := by
  subst h
  funext y
  refine (View.read_apply _ _).trans ?_
  refine (?_ : com m c _ = com m c y)
  congr 1
  funext a
  refine Fin.ext ?_
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
theorem red_whole {off : Fin 3 → ℕ} {inb} (h : off = ![0, 0, 0]) : (redM.access (redR off inb)).read (Elt F) (red m c) = red m c := by
  subst h
  funext y
  refine (View.read_apply _ _).trans ?_
  refine (?_ : red m c _ = red m c y)
  congr 1
  funext a
  refine Fin.ext ?_
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
theorem red_access_set {off : Fin 3 → ℕ} {inb} (h : off = ![0, 0, 0]) : (redM.access (redR off inb)).set = Finset.univ := by
  subst h
  refine Finset.eq_univ_of_forall fun i => mem_access cc0_scratch8 (redR _ inb) i i fun a => ?_
  match a with
  | ⟨0, _⟩ => show (i 0).val = 0 + 1 * (i 0).val; omega
  | ⟨1, _⟩ => show (i 1).val = 0 + 1 * (i 1).val; omega
  | ⟨2, _⟩ => show (i 2).val = 0 + 1 * (i 2).val; omega

theorem com_read {off : Fin 3 → ℕ} {inb} (h : off = ![0, 0, 0]) {hl : comM.view.LoadsAt (comR off inb).toLoadRect} :
    pt c cc0_scratch7 (com m c) ⊢ WP c (Prog.lift (.load comM (comR off inb).toLoadRect hl)) fun x => iprop(⌜x = com m c⌝ ∗ pt c cc0_scratch7 (com m c)) := by
  refine post (load_val (c := c) (M := comM) (r := comR off inb) (S := Finset.univ) (q := fullShare) (f := com m c) (Finset.subset_univ _)) fun x => ?_
  iintro ⟨%hx, H⟩
  isplitr; · ipureintro; exact hx.trans (com_whole h)
  iexact H
theorem red_load {off : Fin 3 → ℕ} {inb} {hl : redM.view.LoadsAt (redR off inb).toLoadRect} :
    (iprop(∃ f, pt c cc0_scratch8 f) : sProp 𝕄) ⊢ WP c (Prog.lift (.load redM (redR off inb).toLoadRect hl)) fun _ => iprop(∃ f, pt c cc0_scratch8 f) :=
  load_any (c := c) (M := redM) (r := redR off inb) (S := Finset.univ) (Finset.subset_univ _)
theorem red_store {off : Fin 3 → ℕ} {inb} (h : off = ![0, 0, 0]) {w : Vec F S1x16x512 .f32} {hx hm} (hw : w = red m c) :
    (iprop(∃ f, pt c cc0_scratch8 f) : sProp 𝕄) ⊢ WP c (Prog.lift (.store redM (redR off inb) w Finset.univ hx hm)) fun _ => pt c cc0_scratch8 (red m c) :=
  store_all (c := c) (M := redM) (r := redR off inb) (S := Finset.univ) (g := red m c) (red_access_set h) (hw.trans (red_whole h).symm)

/-! ## The parts that wait for the shares -/

theorem part73 (hO : Above 3 O) : PartWait m K c O 0 ⊢ WP c (onMem k0_part73 (w2 c) (Scalar.cmpi .ne (w2 c) 0#32)) fun x => iprop(⌜x = Scalar.cmpi .ne (w2 c) 6#32⌝ ∗ PartWait m K c O 6) := by
  rw [k0_part73_eq_skeleton]; unfold k0_part73_skel
  refine ifs1 (part_wait hO 0 (ne_word c ⟨0, by decide⟩) rfl) ?_
  refine ifs1 (part_wait hO 1 (ne_word c ⟨1, by decide⟩) rfl) ?_
  refine ifs1 (part_wait hO 2 (ne_word c ⟨2, by decide⟩) rfl) ?_
  refine ifs1 (part_wait hO 3 (ne_word c ⟨3, by decide⟩) rfl) ?_
  refine ifs1 (part_wait hO 4 (ne_word c ⟨4, by decide⟩) rfl) ?_
  refine ifs1 (part_wait hO 5 (ne_word c ⟨5, by decide⟩) rfl) ?_
  exact retP rfl (BI.Entails.refl _)

theorem part74 (hO : Above 3 O) : PartWait m K c O 6 ⊢ WP c (onMem k0_part74 (w2 c) (Scalar.cmpi .ne (w2 c) 6#32)) fun x => iprop(⌜x = Scalar.cmpi .ne (w2 c) 12#32⌝ ∗ PartWait m K c O 12) := by
  rw [k0_part74_eq_skeleton]; unfold k0_part74_skel
  refine ifs1 (part_wait hO 6 (ne_word c ⟨6, by decide⟩) rfl) ?_
  refine ifs1 (part_wait hO 7 (ne_word c ⟨7, by decide⟩) rfl) ?_
  refine ifs1 (part_wait hO 8 (ne_word c ⟨8, by decide⟩) rfl) ?_
  refine ifs1 (part_wait hO 9 (ne_word c ⟨9, by decide⟩) rfl) ?_
  refine ifs1 (part_wait hO 10 (ne_word c ⟨10, by decide⟩) rfl) ?_
  refine ifs1 (part_wait hO 11 (ne_word c ⟨11, by decide⟩) rfl) ?_
  exact retP rfl (BI.Entails.refl _)

theorem part75 (hO : Above 3 O) : PartWait m K c O 12 ⊢ WP c (onMem k0_part75 (w2 c) (Scalar.cmpi .ne (w2 c) 12#32)) fun x => iprop(⌜x = Scalar.cmpi .ne (w2 c) 18#32⌝ ∗ PartWait m K c O 18) := by
  rw [k0_part75_eq_skeleton]; unfold k0_part75_skel
  refine ifs1 (part_wait hO 12 (ne_word c ⟨12, by decide⟩) rfl) ?_
  refine ifs1 (part_wait hO 13 (ne_word c ⟨13, by decide⟩) rfl) ?_
  refine ifs1 (part_wait hO 14 (ne_word c ⟨14, by decide⟩) rfl) ?_
  refine ifs1 (part_wait hO 15 (ne_word c ⟨15, by decide⟩) rfl) ?_
  refine ifs1 (part_wait hO 16 (ne_word c ⟨16, by decide⟩) rfl) ?_
  refine ifs1 (part_wait hO 17 (ne_word c ⟨17, by decide⟩) rfl) ?_
  exact retP rfl (BI.Entails.refl _)

theorem part76 (hO : Above 3 O) : PartWait m K c O 18 ⊢ WP c (onMem k0_part76 (w2 c) (Scalar.cmpi .ne (w2 c) 18#32)) fun x => iprop(⌜x = Scalar.cmpi .ne (w2 c) 24#32⌝ ∗ PartWait m K c O 24) := by
  rw [k0_part76_eq_skeleton]; unfold k0_part76_skel
  refine ifs1 (part_wait hO 18 (ne_word c ⟨18, by decide⟩) rfl) ?_
  refine ifs1 (part_wait hO 19 (ne_word c ⟨19, by decide⟩) rfl) ?_
  refine ifs1 (part_wait hO 20 (ne_word c ⟨20, by decide⟩) rfl) ?_
  refine ifs1 (part_wait hO 21 (ne_word c ⟨21, by decide⟩) rfl) ?_
  refine ifs1 (part_wait hO 22 (ne_word c ⟨22, by decide⟩) rfl) ?_
  refine ifs1 (part_wait hO 23 (ne_word c ⟨23, by decide⟩) rfl) ?_
  exact retP rfl (BI.Entails.refl _)

theorem part77 (hO : Above 3 O) : PartWait m K c O 24 ⊢ WP c (onMem k0_part77 (w2 c) (Scalar.cmpi .ne (w2 c) 24#32)) fun x => iprop(⌜x = Scalar.cmpi .ne (w2 c) 30#32⌝ ∗ PartWait m K c O 30) := by
  rw [k0_part77_eq_skeleton]; unfold k0_part77_skel
  refine ifs1 (part_wait hO 24 (ne_word c ⟨24, by decide⟩) rfl) ?_
  refine ifs1 (part_wait hO 25 (ne_word c ⟨25, by decide⟩) rfl) ?_
  refine ifs1 (part_wait hO 26 (ne_word c ⟨26, by decide⟩) rfl) ?_
  refine ifs1 (part_wait hO 27 (ne_word c ⟨27, by decide⟩) rfl) ?_
  refine ifs1 (part_wait hO 28 (ne_word c ⟨28, by decide⟩) rfl) ?_
  refine ifs1 (part_wait hO 29 (ne_word c ⟨29, by decide⟩) rfl) ?_
  exact retP rfl (BI.Entails.refl _)

/-- The last shares have come; they are added up. -/
theorem part78 (hO : Above 3 O) : iprop(PartWait m K c O 30 ∗ ptS c cc0_scratch7 (slot512 c.val) (com m c) ∗ ∃ f, pt c cc0_scratch8 f) ⊢ WP c (onMem k0_part78 (w2 c) (Scalar.cmpi .ne (w2 c) 30#32))
    fun x => iprop(⌜x.1 = k0_pay206 (com m c)⌝ ∗ (((ctx m K c ∗ (∃ W, owes (c : Thread nD τ) O W)) ∗ pastW (rcv 1) c) ∗ pt c cc0_scratch7 (com m c)) ∗ pt c cc0_scratch8 (red m c)) := by
  rw [k0_part78_eq_skeleton]; unfold k0_part78_skel
  refine ifs (part_wait hO 30 (ne_word c ⟨30, by decide⟩) rfl) ?_
  refine ifs (part_wait hO 31 (ne_word c ⟨31, by decide⟩) rfl) ?_
  refine BI.Entails.trans (?_ : _ ⊢ iprop(((ctx m K c ∗ (∃ W, owes (c : Thread nD τ) O W)) ∗ pastW (rcv 1) c) ∗ pt c cc0_scratch7 (com m c) ∗ ∃ f, pt c cc0_scratch8 f)) ?_
  · rw [com_slots]
    iintro ⟨HW, HO, HR⟩
    ihave HW := wait_done $$ HW
    icases HW with ⟨HC, HA, HL⟩
    isplitl [HC HA]
    · isplitl [HC]; · iexact HC
      iexact HA
    isplitl [HL HO]
    · isplitl [HO]; · iexact HO
      iexact HL
    iexact HR
  refine mid (com_read rfl) fun y hy => ?_
  subst hy
  refine seqR red_load fun _ => ?_
  refine seqR (red_store (m := m) rfl rfl) fun _ => ?_
  exact retP rfl (BI.Entails.refl _)

/-! ## The parts that send the sum -/

/-- The state while the sum is sent: device `n - 1` places on has been sent it. -/
abbrev OutSt (m : (ℓ : Loc nD τ sig) → Buf (Elt F) ℓ) (K : GSem nD τ sig → ℕ) (c : Dev nD) (O : CellTallies nD τ sig Unit) (n : ℕ) : sProp 𝕄 :=
  SendSt m K 2 c (others c) (byOff c) O n

/-- One's own chunk of the result, and the first copy of it. -/
theorem part79 (v2 : BitVec 32) (v2478 : BitVec 32) (v2480 : BitVec 32) : iprop((∃ f, ptS c outR (chunk c.val) f) ∗ ((ctx m K c ∗ (∃ W, owes (c : Thread nD τ) (oR 2 c (others c) + O) W)) ∗ pt c cc0_scratch8 (red m c) ∗ bigSep (others c) (sendRest 2 c)))
    ⊢ WP c (onMem k0_part79 c v2 (k0_pay206 (com m c)) v2478 v2480) fun _ => iprop(OutSt m K c O 2 ∗ redKeep m c ∗ ptS c outR (chunk c.val) (res m)) := by
  rw [k0_part79_eq_skeleton]; unfold k0_part79_skel
  refine seq (out_load (off137_eq c)) fun _ => ?_
  refine seq (out_store (m := m) (off137_eq c) (out_own (m := m) (off137_eq c))) fun _ => ?_
  refine BI.Entails.trans (?_ : _ ⊢ iprop(OutSt m K c O 1 ∗ redKeep m c ∗ ptS c outR (chunk c.val) (res m))) ?_
  · rw [red_split]
    iintro ⟨HO, HC, ⟨HS, HK⟩, HR⟩
    isplitl [HC HS HR]
    · iapply (send_start byOff_first)
      isplitl [HC]; · iexact HC
      iapply send_join
      isplitl [HS]; · iexact HS
      iexact HR
    isplitl [HK]; · iexact HK
    iexact HO
  refine seq (out_send 1 (Fin.ext (by revert c; decide +kernel)) (off4_eq c 0) (k0_off5_eq c) (off138_eq c)) fun _ => ?_
  exact ret1 (BI.Entails.refl _)

theorem part80 (v2 : BitVec 32) (v2514 : BitVec 32) (v2515 : BitVec 32) (v2516 : BitVec 1) (v2517 : BitVec 1) : OutSt m K c O 2 ⊢ WP c (onMem k0_part80 c v2 v2514 v2515 v2516 v2517) fun _ => OutSt m K c O 4 := by
  rw [k0_part80_eq_skeleton]; unfold k0_part80_skel
  refine seq1 (out_send 2 (Fin.ext (by revert c; decide +kernel)) (off4_eq c 1) (k0_off5_eq c) (off138_eq c)) fun _ => ?_
  refine seq1 (out_send 3 (Fin.ext (by revert c; decide +kernel)) (off4_eq c 2) (k0_off5_eq c) (off138_eq c)) fun _ => ?_
  exact ret1 (BI.Entails.refl _)

theorem part81 (v2 : BitVec 32) (v2550 : BitVec 32) (v2551 : BitVec 32) (v2552 : BitVec 1) (v2553 : BitVec 1) (v2554 : BitVec 1) : OutSt m K c O 4 ⊢ WP c (onMem k0_part81 c v2 v2550 v2551 v2552 v2553 v2554) fun _ => OutSt m K c O 6 := by
  rw [k0_part81_eq_skeleton]; unfold k0_part81_skel
  refine seq1 (out_send 4 (Fin.ext (by revert c; decide +kernel)) (off4_eq c 3) (k0_off5_eq c) (off138_eq c)) fun _ => ?_
  refine seq1 (out_send 5 (Fin.ext (by revert c; decide +kernel)) (off4_eq c 4) (k0_off5_eq c) (off138_eq c)) fun _ => ?_
  exact ret1 (BI.Entails.refl _)

theorem part82 (v2 : BitVec 32) (v2586 : BitVec 32) (v2587 : BitVec 32) (v2592 : BitVec 1) : OutSt m K c O 6 ⊢ WP c (onMem k0_part82 c v2 v2586 v2587 v2592) fun _ => OutSt m K c O 8 := by
  rw [k0_part82_eq_skeleton]; unfold k0_part82_skel
  refine seq1 (out_send 6 (Fin.ext (by revert c; decide +kernel)) (off4_eq c 5) (k0_off5_eq c) (off138_eq c)) fun _ => ?_
  refine seq1 (out_send 7 (Fin.ext (by revert c; decide +kernel)) (off4_eq c 6) (k0_off5_eq c) (off138_eq c)) fun _ => ?_
  exact ret1 (BI.Entails.refl _)

theorem part83 (v2 : BitVec 32) (v2630 : BitVec 32) : OutSt m K c O 8 ⊢ WP c (onMem k0_part83 c v2 v2630) fun _ => OutSt m K c O 10 := by
  rw [k0_part83_eq_skeleton]; unfold k0_part83_skel
  refine seq1 (out_send 8 (Fin.ext (by revert c; decide +kernel)) (off4_eq c 7) (k0_off5_eq c) (off138_eq c)) fun _ => ?_
  refine seq1 (out_send 9 (Fin.ext (by revert c; decide +kernel)) (off4_eq c 8) (k0_off5_eq c) (off138_eq c)) fun _ => ?_
  exact ret1 (BI.Entails.refl _)

theorem part84 (v2 : BitVec 32) (v2667 : BitVec 32) : OutSt m K c O 10 ⊢ WP c (onMem k0_part84 c v2 v2667) fun _ => OutSt m K c O 12 := by
  rw [k0_part84_eq_skeleton]; unfold k0_part84_skel
  refine seq1 (out_send 10 (Fin.ext (by revert c; decide +kernel)) (off4_eq c 9) (k0_off5_eq c) (off138_eq c)) fun _ => ?_
  refine seq1 (out_send 11 (Fin.ext (by revert c; decide +kernel)) (off4_eq c 10) (k0_off5_eq c) (off138_eq c)) fun _ => ?_
  exact ret1 (BI.Entails.refl _)

theorem part85 (v2 : BitVec 32) : OutSt m K c O 12 ⊢ WP c (onMem k0_part85 c v2) fun _ => OutSt m K c O 14 := by
  rw [k0_part85_eq_skeleton]; unfold k0_part85_skel
  refine seq1 (out_send 12 (Fin.ext (by revert c; decide +kernel)) (off4_eq c 11) (k0_off5_eq c) (off138_eq c)) fun _ => ?_
  refine seq1 (out_send 13 (Fin.ext (by revert c; decide +kernel)) (off4_eq c 12) (k0_off5_eq c) (off138_eq c)) fun _ => ?_
  exact ret1 (BI.Entails.refl _)

theorem part86 (v2 : BitVec 32) : OutSt m K c O 14 ⊢ WP c (onMem k0_part86 c v2) fun _ => OutSt m K c O 16 := by
  rw [k0_part86_eq_skeleton]; unfold k0_part86_skel
  refine seq1 (out_send 14 (Fin.ext (by revert c; decide +kernel)) (off4_eq c 13) (k0_off5_eq c) (off138_eq c)) fun _ => ?_
  refine seq1 (out_send 15 (Fin.ext (by revert c; decide +kernel)) (off4_eq c 14) (k0_off5_eq c) (off138_eq c)) fun _ => ?_
  exact ret1 (BI.Entails.refl _)

theorem part87 (v2 : BitVec 32) : OutSt m K c O 16 ⊢ WP c (onMem k0_part87 c v2) fun _ => OutSt m K c O 18 := by
  rw [k0_part87_eq_skeleton]; unfold k0_part87_skel
  refine seq1 (out_send 16 (Fin.ext (by revert c; decide +kernel)) (off4_eq c 15) (k0_off5_eq c) (off138_eq c)) fun _ => ?_
  refine seq1 (out_send 17 (Fin.ext (by revert c; decide +kernel)) (off4_eq c 16) (k0_off5_eq c) (off138_eq c)) fun _ => ?_
  exact ret1 (BI.Entails.refl _)

theorem part88 (v2 : BitVec 32) : OutSt m K c O 18 ⊢ WP c (onMem k0_part88 c v2) fun _ => OutSt m K c O 21 := by
  rw [k0_part88_eq_skeleton]; unfold k0_part88_skel
  refine seq1 (out_send 18 (Fin.ext (by revert c; decide +kernel)) (off4_eq c 17) (k0_off5_eq c) (off138_eq c)) fun _ => ?_
  refine seq1 (out_send 19 (Fin.ext (by revert c; decide +kernel)) (off4_eq c 18) (k0_off5_eq c) (off138_eq c)) fun _ => ?_
  refine seq1 (out_send 20 (Fin.ext (by revert c; decide +kernel)) (off4_eq c 19) (k0_off5_eq c) (off138_eq c)) fun _ => ?_
  exact ret1 (BI.Entails.refl _)

theorem part89 (v2 : BitVec 32) (c21_i32_1995 : BitVec 32) : OutSt m K c O 21 ⊢ WP c (onMem k0_part89 c v2 c21_i32_1995) fun _ => OutSt m K c O 23 := by
  rw [k0_part89_eq_skeleton]; unfold k0_part89_skel
  refine seq1 (out_send 21 (Fin.ext (by revert c; decide +kernel)) (off4_eq c 20) (k0_off5_eq c) (off138_eq c)) fun _ => ?_
  refine seq1 (out_send 22 (Fin.ext (by revert c; decide +kernel)) (off4_eq c 21) (k0_off5_eq c) (off138_eq c)) fun _ => ?_
  exact ret1 (BI.Entails.refl _)

theorem part90 (v2 : BitVec 32) (v2890 : BitVec 32) (c32_i32_2016 : BitVec 32) : OutSt m K c O 23 ⊢ WP c (onMem k0_part90 c v2 v2890 c32_i32_2016) fun _ => OutSt m K c O 25 := by
  rw [k0_part90_eq_skeleton]; unfold k0_part90_skel
  refine seq1 (out_send 23 (Fin.ext (by revert c; decide +kernel)) (off4_eq c 22) (k0_off5_eq c) (off138_eq c)) fun _ => ?_
  refine seq1 (out_send 24 (Fin.ext (by revert c; decide +kernel)) (off4_eq c 23) (k0_off5_eq c) (off138_eq c)) fun _ => ?_
  exact ret1 (BI.Entails.refl _)

theorem part91 (v2 : BitVec 32) (v2926 : BitVec 32) (c32_i32_2036 : BitVec 32) (v2927 : BitVec 1) : OutSt m K c O 25 ⊢ WP c (onMem k0_part91 c v2 v2926 c32_i32_2036 v2927) fun _ => OutSt m K c O 27 := by
  rw [k0_part91_eq_skeleton]; unfold k0_part91_skel
  refine seq1 (out_send 25 (Fin.ext (by revert c; decide +kernel)) (off4_eq c 24) (k0_off5_eq c) (off138_eq c)) fun _ => ?_
  refine seq1 (out_send 26 (Fin.ext (by revert c; decide +kernel)) (off4_eq c 25) (k0_off5_eq c) (off138_eq c)) fun _ => ?_
  exact ret1 (BI.Entails.refl _)

theorem part92 (v2 : BitVec 32) (v2962 : BitVec 32) (v2964 : BitVec 32) : OutSt m K c O 27 ⊢ WP c (onMem k0_part92 c v2 v2962 v2964) fun _ => OutSt m K c O 29 := by
  rw [k0_part92_eq_skeleton]; unfold k0_part92_skel
  refine seq1 (out_send 27 (Fin.ext (by revert c; decide +kernel)) (off4_eq c 26) (k0_off5_eq c) (off138_eq c)) fun _ => ?_
  refine seq1 (out_send 28 (Fin.ext (by revert c; decide +kernel)) (off4_eq c 27) (k0_off5_eq c) (off138_eq c)) fun _ => ?_
  exact ret1 (BI.Entails.refl _)

theorem part93 (v2 : BitVec 32) (v3000 : BitVec 32) (v3001 : BitVec 32) (c0_i32_2079 : BitVec 32) : OutSt m K c O 29 ⊢ WP c (onMem k0_part93 c v2 v3000 v3001 c0_i32_2079) fun _ => OutSt m K c O 31 := by
  rw [k0_part93_eq_skeleton]; unfold k0_part93_skel
  refine seq1 (out_send 29 (Fin.ext (by revert c; decide +kernel)) (off4_eq c 28) (k0_off5_eq c) (off138_eq c)) fun _ => ?_
  refine seq1 (out_send 30 (Fin.ext (by revert c; decide +kernel)) (off4_eq c 29) (k0_off5_eq c) (off138_eq c)) fun _ => ?_
  exact ret1 (BI.Entails.refl _)

end Cert.KernelIdeal.Mesh
-- ==== Proof.KI.Drain.lean ====
/-
  The parts of the body that take the chunks of the result and wait until the copies have left.
-/
module

public import proofs.«01_k».proof.Proof.KI.Gather

@[expose] public section

noncomputable section

namespace Cert.KernelIdeal.Mesh

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : GSem nD τ sig → ℕ} {c : Dev nD}

attribute [local irreducible] Scalar.cmpi

/-! ## The parts that wait for the chunks of the result -/

theorem part94 (v3036 : BitVec 32) (v3037 : BitVec 32) (v3038 : BitVec 1) (c0_i32_2100 : BitVec 32) : iprop(OutSt m K c 0 31 ∗ readyW (rcv 2) (NA 2) c) ⊢ WP c (onMem k0_part94 c (w2 c) v3036 v3037 v3038 c0_i32_2100) fun x => iprop(⌜x = Scalar.cmpi .ne (w2 c) 5#32⌝ ∗ OutWait m K c 0 5 ∗ bigSep (others c) (sendOut 2 c)) := by
  rw [k0_part94_eq_skeleton]; unfold k0_part94_skel
  refine seq (out_send 31 (Fin.ext (by revert c; decide +kernel)) (off4_eq c 30) (k0_off5_eq c) (off138_eq c)) fun _ => ?_
  refine BI.Entails.trans (?_ : _ ⊢ iprop(OutWait m K c 0 0 ∗ bigSep (others c) (sendOut 2 c))) ?_
  · iintro ⟨HS, HR⟩
    ihave HS := (send_done fun p _ => (byOff c).lt p) $$ HS
    icases HS with ⟨HC, HS⟩
    isplitr [HS]
    · iapply (wait_start fun p _ => Nat.zero_le _)
      isplitl [HC]; · iexact HC
      iexact HR
    iexact HS
  refine ifs (out_wait (above_zero 4) 0 (ne_word c ⟨0, by decide⟩) rfl) ?_
  refine ifs (out_wait (above_zero 4) 1 (ne_word c ⟨1, by decide⟩) rfl) ?_
  refine ifs (out_wait (above_zero 4) 2 (ne_word c ⟨2, by decide⟩) rfl) ?_
  refine ifs (out_wait (above_zero 4) 3 (ne_word c ⟨3, by decide⟩) rfl) ?_
  refine ifs (out_wait (above_zero 4) 4 (ne_word c ⟨4, by decide⟩) rfl) ?_
  exact retP rfl (BI.Entails.refl _)

theorem part95 : OutWait m K c 0 5 ⊢ WP c (onMem k0_part95 (w2 c) (Scalar.cmpi .ne (w2 c) 5#32)) fun x => iprop(⌜x.1 = Scalar.extui (Scalar.cmpi .ne (w2 c) 12#32) ∧ x.2 = 0#32⌝ ∗ OutWait m K c 0 12) := by
  rw [k0_part95_eq_skeleton]; unfold k0_part95_skel
  refine ifs1 (out_wait (above_zero 4) 5 (ne_word c ⟨5, by decide⟩) rfl) ?_
  refine ifs1 (out_wait (above_zero 4) 6 (ne_word c ⟨6, by decide⟩) rfl) ?_
  refine ifs1 (out_wait (above_zero 4) 7 (ne_word c ⟨7, by decide⟩) rfl) ?_
  refine ifs1 (out_wait (above_zero 4) 8 (ne_word c ⟨8, by decide⟩) rfl) ?_
  refine ifs1 (out_wait (above_zero 4) 9 (ne_word c ⟨9, by decide⟩) rfl) ?_
  refine ifs1 (out_wait (above_zero 4) 10 (ne_word c ⟨10, by decide⟩) rfl) ?_
  refine ifs1 (out_wait (above_zero 4) 11 (ne_word c ⟨11, by decide⟩) rfl) ?_
  exact retP ⟨rfl, rfl⟩ (BI.Entails.refl _)

theorem part96 : OutWait m K c 0 12 ⊢ WP c (onMem k0_part96 (w2 c) (Scalar.extui (Scalar.cmpi .ne (w2 c) 12#32)) 0#32) fun x => iprop(⌜x = Scalar.cmpi .ne (w2 c) 20#32⌝ ∗ OutWait m K c 0 20) := by
  rw [k0_part96_eq_skeleton]; unfold k0_part96_skel
  refine ifs1 (out_wait (above_zero 4) 12 (ne_word c ⟨12, by decide⟩) rfl) ?_
  refine ifs1 (out_wait (above_zero 4) 13 (ne_word c ⟨13, by decide⟩) rfl) ?_
  refine ifs1 (out_wait (above_zero 4) 14 (ne_word c ⟨14, by decide⟩) rfl) ?_
  refine ifs1 (out_wait (above_zero 4) 15 (ne_word c ⟨15, by decide⟩) rfl) ?_
  refine ifs1 (out_wait (above_zero 4) 16 (ne_word c ⟨16, by decide⟩) rfl) ?_
  refine ifs1 (out_wait (above_zero 4) 17 (ne_word c ⟨17, by decide⟩) rfl) ?_
  refine ifs1 (out_wait (above_zero 4) 18 (ne_word c ⟨18, by decide⟩) rfl) ?_
  refine ifs1 (out_wait (above_zero 4) 19 (ne_word c ⟨19, by decide⟩) rfl) ?_
  exact retP rfl (BI.Entails.refl _)

theorem part97 : OutWait m K c 0 20 ⊢ WP c (onMem k0_part97 (w2 c) (Scalar.cmpi .ne (w2 c) 20#32)) fun x => iprop(⌜x.1 = Scalar.extui (Scalar.cmpi .ne (w2 c) 27#32) ∧ x.2 = 0#32⌝ ∗ OutWait m K c 0 27) := by
  rw [k0_part97_eq_skeleton]; unfold k0_part97_skel
  refine ifs1 (out_wait (above_zero 4) 20 (ne_word c ⟨20, by decide⟩) rfl) ?_
  refine ifs1 (out_wait (above_zero 4) 21 (ne_word c ⟨21, by decide⟩) rfl) ?_
  refine ifs1 (out_wait (above_zero 4) 22 (ne_word c ⟨22, by decide⟩) rfl) ?_
  refine ifs1 (out_wait (above_zero 4) 23 (ne_word c ⟨23, by decide⟩) rfl) ?_
  refine ifs1 (out_wait (above_zero 4) 24 (ne_word c ⟨24, by decide⟩) rfl) ?_
  refine ifs1 (out_wait (above_zero 4) 25 (ne_word c ⟨25, by decide⟩) rfl) ?_
  refine ifs1 (out_wait (above_zero 4) 26 (ne_word c ⟨26, by decide⟩) rfl) ?_
  exact retP ⟨rfl, rfl⟩ (BI.Entails.refl _)

/-- The last chunks of the result; then the first copies of the first exchange have left. -/
theorem part98 : iprop(OutWait m K c 0 27 ∗ readyW (snd 0) (NA 0) c) ⊢ WP c (onMem k0_part98 c (w2 c) (Scalar.extui (Scalar.cmpi .ne (w2 c) 27#32)) 0#32) fun _ => iprop(KvDrain m K c 3 ∗ pastW (rcv 2) c ∗ bigSep (others c) (landP m 2 c)) := by
  rw [k0_part98_eq_skeleton]; unfold k0_part98_skel
  refine ifs (out_wait (above_zero 4) 27 (ne_word c ⟨27, by decide⟩) rfl) ?_
  refine ifs (out_wait (above_zero 4) 28 (ne_word c ⟨28, by decide⟩) rfl) ?_
  refine ifs (out_wait (above_zero 4) 29 (ne_word c ⟨29, by decide⟩) rfl) ?_
  refine ifs (out_wait (above_zero 4) 30 (ne_word c ⟨30, by decide⟩) rfl) ?_
  refine ifs (out_wait (above_zero 4) 31 (ne_word c ⟨31, by decide⟩) rfl) ?_
  refine (wait_next (P' := srcP m 0 c) byOff_first).trans ?_
  refine seq (kv_drain 1 (off4_eq c 0)) fun _ => ?_
  refine seq (kv_drain 2 (off4_eq c 1)) fun _ => ?_
  exact ret1 (BI.Entails.refl _)

theorem part99 : KvDrain m K c 3 ⊢ WP c (onMem k0_part99 c) fun _ => KvDrain m K c 8 := by
  rw [k0_part99_eq_skeleton]; unfold k0_part99_skel
  refine seq1 (kv_drain 3 (off4_eq c 2)) fun _ => ?_
  refine seq1 (kv_drain 4 (off4_eq c 3)) fun _ => ?_
  refine seq1 (kv_drain 5 (off4_eq c 4)) fun _ => ?_
  refine seq1 (kv_drain 6 (off4_eq c 5)) fun _ => ?_
  refine seq1 (kv_drain 7 (off4_eq c 6)) fun _ => ?_
  exact ret1 (BI.Entails.refl _)

theorem part100 : KvDrain m K c 8 ⊢ WP c (onMem k0_part100 c) fun _ => KvDrain m K c 13 := by
  rw [k0_part100_eq_skeleton]; unfold k0_part100_skel
  refine seq1 (kv_drain 8 (off4_eq c 7)) fun _ => ?_
  refine seq1 (kv_drain 9 (off4_eq c 8)) fun _ => ?_
  refine seq1 (kv_drain 10 (off4_eq c 9)) fun _ => ?_
  refine seq1 (kv_drain 11 (off4_eq c 10)) fun _ => ?_
  refine seq1 (kv_drain 12 (off4_eq c 11)) fun _ => ?_
  exact ret1 (BI.Entails.refl _)

theorem part101 : KvDrain m K c 13 ⊢ WP c (onMem k0_part101 c) fun _ => KvDrain m K c 18 := by
  rw [k0_part101_eq_skeleton]; unfold k0_part101_skel
  refine seq1 (kv_drain 13 (off4_eq c 12)) fun _ => ?_
  refine seq1 (kv_drain 14 (off4_eq c 13)) fun _ => ?_
  refine seq1 (kv_drain 15 (off4_eq c 14)) fun _ => ?_
  refine seq1 (kv_drain 16 (off4_eq c 15)) fun _ => ?_
  refine seq1 (kv_drain 17 (off4_eq c 16)) fun _ => ?_
  exact ret1 (BI.Entails.refl _)

theorem part102 : KvDrain m K c 18 ⊢ WP c (onMem k0_part102 c) fun _ => KvDrain m K c 23 := by
  rw [k0_part102_eq_skeleton]; unfold k0_part102_skel
  refine seq1 (kv_drain 18 (off4_eq c 17)) fun _ => ?_
  refine seq1 (kv_drain 19 (off4_eq c 18)) fun _ => ?_
  refine seq1 (kv_drain 20 (off4_eq c 19)) fun _ => ?_
  refine seq1 (kv_drain 21 (off4_eq c 20)) fun _ => ?_
  refine seq1 (kv_drain 22 (off4_eq c 21)) fun _ => ?_
  exact ret1 (BI.Entails.refl _)

theorem part103 : KvDrain m K c 23 ⊢ WP c (onMem k0_part103 c) fun _ => KvDrain m K c 28 := by
  rw [k0_part103_eq_skeleton]; unfold k0_part103_skel
  refine seq1 (kv_drain 23 (off4_eq c 22)) fun _ => ?_
  refine seq1 (kv_drain 24 (off4_eq c 23)) fun _ => ?_
  refine seq1 (kv_drain 25 (off4_eq c 24)) fun _ => ?_
  refine seq1 (kv_drain 26 (off4_eq c 25)) fun _ => ?_
  refine seq1 (kv_drain 27 (off4_eq c 26)) fun _ => ?_
  exact ret1 (BI.Entails.refl _)

theorem part104 (v2 : BitVec 32) (v1740 : BitVec 32) (v1755 : BitVec 32) (v1770 : BitVec 32) : iprop(KvDrain m K c 28 ∗ readyW (snd 1) (NA 1) c) ⊢ WP c (onMem k0_part104 c v2 v1740 v1755 v1770) fun _ => iprop(PartDrain m K c 2 ∗ pastW (snd 0) c ∗ bigSep (others c) (srcP m 0 c)) := by
  rw [k0_part104_eq_skeleton]; unfold k0_part104_skel
  refine seq (kv_drain 28 (off4_eq c 27)) fun _ => ?_
  refine seq (kv_drain 29 (off4_eq c 28)) fun _ => ?_
  refine seq (kv_drain 30 (off4_eq c 29)) fun _ => ?_
  refine seq (kv_drain 31 (off4_eq c 30)) fun _ => ?_
  refine (wait_next (P' := srcP m 1 c) (r' := byHalf c) (n := 0) fun p _ => Nat.zero_le _).trans ?_
  refine ifs (part_drain 0 (by revert c; decide +kernel) (by revert c; decide +kernel)) ?_
  refine ifs (part_drain 1 (by revert c; decide +kernel) (by revert c; decide +kernel)) ?_
  exact ret1 (BI.Entails.refl _)

theorem part105 (v2 : BitVec 32) (v1785 : BitVec 32) (v1800 : BitVec 32) (v1815 : BitVec 32) (v1830 : BitVec 32) (v1845 : BitVec 32) (v1860 : BitVec 32) (v1875 : BitVec 32) (v1890 : BitVec 32) (v1905 : BitVec 32) (v1920 : BitVec 32) (v1935 : BitVec 32) (v1950 : BitVec 32) : PartDrain m K c 2 ⊢ WP c (onMem k0_part105 c v2 v1785 v1800 v1815 v1830 v1845 v1860 v1875 v1890 v1905 v1920 v1935 v1950) fun _ => PartDrain m K c 14 := by
  rw [k0_part105_eq_skeleton]; unfold k0_part105_skel
  refine ifs1 (part_drain 2 (by revert c; decide +kernel) (by revert c; decide +kernel)) ?_
  refine ifs1 (part_drain 3 (by revert c; decide +kernel) (by revert c; decide +kernel)) ?_
  refine ifs1 (part_drain 4 (by revert c; decide +kernel) (by revert c; decide +kernel)) ?_
  refine ifs1 (part_drain 5 (by revert c; decide +kernel) (by revert c; decide +kernel)) ?_
  refine ifs1 (part_drain 6 (by revert c; decide +kernel) (by revert c; decide +kernel)) ?_
  refine ifs1 (part_drain 7 (by revert c; decide +kernel) (by revert c; decide +kernel)) ?_
  refine ifs1 (part_drain 8 (by revert c; decide +kernel) (by revert c; decide +kernel)) ?_
  refine ifs1 (part_drain 9 (by revert c; decide +kernel) (by revert c; decide +kernel)) ?_
  refine ifs1 (part_drain 10 (by revert c; decide +kernel) (by revert c; decide +kernel)) ?_
  refine ifs1 (part_drain 11 (by revert c; decide +kernel) (by revert c; decide +kernel)) ?_
  refine ifs1 (part_drain 12 (by revert c; decide +kernel) (by revert c; decide +kernel)) ?_
  refine ifs1 (part_drain 13 (by revert c; decide +kernel) (by revert c; decide +kernel)) ?_
  exact ret1 (BI.Entails.refl _)

theorem part106 (v2 : BitVec 32) (v1965 : BitVec 32) (v2126 : BitVec 32) (v2141 : BitVec 32) (v2156 : BitVec 32) (v2171 : BitVec 32) (v2186 : BitVec 32) (v2201 : BitVec 32) (v2216 : BitVec 32) (v2231 : BitVec 32) (v2246 : BitVec 32) (v2261 : BitVec 32) (v2276 : BitVec 32) : PartDrain m K c 14 ⊢ WP c (onMem k0_part106 c v2 v1965 v2126 v2141 v2156 v2171 v2186 v2201 v2216 v2231 v2246 v2261 v2276) fun _ => PartDrain m K c 26 := by
  rw [k0_part106_eq_skeleton]; unfold k0_part106_skel
  refine ifs1 (part_drain 14 (by revert c; decide +kernel) (by revert c; decide +kernel)) ?_
  refine ifs1 (part_drain 15 (by revert c; decide +kernel) (by revert c; decide +kernel)) ?_
  refine ifs1 (part_drain 16 (by revert c; decide +kernel) (by revert c; decide +kernel)) ?_
  refine ifs1 (part_drain 17 (by revert c; decide +kernel) (by revert c; decide +kernel)) ?_
  refine ifs1 (part_drain 18 (by revert c; decide +kernel) (by revert c; decide +kernel)) ?_
  refine ifs1 (part_drain 19 (by revert c; decide +kernel) (by revert c; decide +kernel)) ?_
  refine ifs1 (part_drain 20 (by revert c; decide +kernel) (by revert c; decide +kernel)) ?_
  refine ifs1 (part_drain 21 (by revert c; decide +kernel) (by revert c; decide +kernel)) ?_
  refine ifs1 (part_drain 22 (by revert c; decide +kernel) (by revert c; decide +kernel)) ?_
  refine ifs1 (part_drain 23 (by revert c; decide +kernel) (by revert c; decide +kernel)) ?_
  refine ifs1 (part_drain 24 (by revert c; decide +kernel) (by revert c; decide +kernel)) ?_
  refine ifs1 (part_drain 25 (by revert c; decide +kernel) (by revert c; decide +kernel)) ?_
  exact ret1 (BI.Entails.refl _)

theorem part107 (v2 : BitVec 32) (v2291 : BitVec 32) (v2306 : BitVec 32) (v2321 : BitVec 32) (v2336 : BitVec 32) (v2351 : BitVec 32) : iprop(PartDrain m K c 26 ∗ readyW (snd 2) (NA 2) c) ⊢ WP c (onMem k0_part107 c v2 v2291 v2306 v2321 v2336 v2351) fun _ => iprop(OutDrain m K c 6 ∗ pastW (snd 1) c ∗ bigSep (others c) (srcP m 1 c)) := by
  rw [k0_part107_eq_skeleton]; unfold k0_part107_skel
  refine ifs (part_drain 26 (by revert c; decide +kernel) (by revert c; decide +kernel)) ?_
  refine ifs (part_drain 27 (by revert c; decide +kernel) (by revert c; decide +kernel)) ?_
  refine ifs (part_drain 28 (by revert c; decide +kernel) (by revert c; decide +kernel)) ?_
  refine ifs (part_drain 29 (by revert c; decide +kernel) (by revert c; decide +kernel)) ?_
  refine ifs (part_drain 30 (by revert c; decide +kernel) (by revert c; decide +kernel)) ?_
  refine ifs (part_drain 31 (by revert c; decide +kernel) (by revert c; decide +kernel)) ?_
  refine (wait_next (P' := srcP m 2 c) byOff_first).trans ?_
  refine seq (out_drain 1 (off4_eq c 0)) fun _ => ?_
  refine seq (out_drain 2 (off4_eq c 1)) fun _ => ?_
  refine seq (out_drain 3 (off4_eq c 2)) fun _ => ?_
  refine seq (out_drain 4 (off4_eq c 3)) fun _ => ?_
  refine seq (out_drain 5 (off4_eq c 4)) fun _ => ?_
  exact ret1 (BI.Entails.refl _)

theorem part108 : OutDrain m K c 6 ⊢ WP c (onMem k0_part108 c) fun _ => OutDrain m K c 16 := by
  rw [k0_part108_eq_skeleton]; unfold k0_part108_skel
  refine seq1 (out_drain 6 (off4_eq c 5)) fun _ => ?_
  refine seq1 (out_drain 7 (off4_eq c 6)) fun _ => ?_
  refine seq1 (out_drain 8 (off4_eq c 7)) fun _ => ?_
  refine seq1 (out_drain 9 (off4_eq c 8)) fun _ => ?_
  refine seq1 (out_drain 10 (off4_eq c 9)) fun _ => ?_
  refine seq1 (out_drain 11 (off4_eq c 10)) fun _ => ?_
  refine seq1 (out_drain 12 (off4_eq c 11)) fun _ => ?_
  refine seq1 (out_drain 13 (off4_eq c 12)) fun _ => ?_
  refine seq1 (out_drain 14 (off4_eq c 13)) fun _ => ?_
  refine seq1 (out_drain 15 (off4_eq c 14)) fun _ => ?_
  exact ret1 (BI.Entails.refl _)

theorem part109 : OutDrain m K c 16 ⊢ WP c (onMem k0_part109 c) fun _ => OutDrain m K c 26 := by
  rw [k0_part109_eq_skeleton]; unfold k0_part109_skel
  refine seq1 (out_drain 16 (off4_eq c 15)) fun _ => ?_
  refine seq1 (out_drain 17 (off4_eq c 16)) fun _ => ?_
  refine seq1 (out_drain 18 (off4_eq c 17)) fun _ => ?_
  refine seq1 (out_drain 19 (off4_eq c 18)) fun _ => ?_
  refine seq1 (out_drain 20 (off4_eq c 19)) fun _ => ?_
  refine seq1 (out_drain 21 (off4_eq c 20)) fun _ => ?_
  refine seq1 (out_drain 22 (off4_eq c 21)) fun _ => ?_
  refine seq1 (out_drain 23 (off4_eq c 22)) fun _ => ?_
  refine seq1 (out_drain 24 (off4_eq c 23)) fun _ => ?_
  refine seq1 (out_drain 25 (off4_eq c 24)) fun _ => ?_
  exact ret1 (BI.Entails.refl _)

end Cert.KernelIdeal.Mesh
-- ==== Proof.KI.Body.lean ====
/-
  The whole body on a device: its parts one after the other.
-/
module

public import proofs.«01_k».proof.Proof.KI.Drain

@[expose] public section

noncomputable section

namespace Cert.KernelIdeal.Mesh

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : GSem nD τ sig → ℕ} {c : Dev nD}

attribute [local irreducible] Scalar.cmpi

/-! ## What is owed as the body goes -/

/-- While the chunks of the result go out, -/
abbrev Ow2 (c : Dev nD) : CellTallies nD τ sig Unit := oR 2 c (others c) + 0
/-- while the second half of the shares goes out, -/
abbrev Ow1b (c : Dev nD) : CellTallies nD τ sig Unit := oR 1 c (half 1 c) + Ow2 c
/-- while the first half does, -/
abbrev Ow1a (c : Dev nD) : CellTallies nD τ sig Unit := oR 1 c (half 0 c) + Ow1b c
/-- and while the keys and values do. -/
abbrev Ow0 (c : Dev nD) : CellTallies nD τ sig Unit := oR 0 c (others c) + Ow1a c

theorem O₀_eq (c : Dev nD) : O₀ c = oB (others c) + Ow0 c := by
  have h := oR_union 1 c (half_disj (c := c))
  rw [half_union] at h
  unfold O₀
  rw [h, add_assoc]
  unfold Ow0 Ow1a Ow1b Ow2
  rw [add_zero]

theorem aboveTwo (n : ℕ) (hn : n < 4) (c : Dev nD) : Above n (Ow2 c) := above_add (above_oR n 2 c _ hn) (above_zero n)
theorem above3 (c : Dev nD) : Above 3 (Ow2 c) := aboveTwo 3 (by decide) c
theorem aboveOne (n : ℕ) (hn : n < 3) (c : Dev nD) : Above n (Ow1a c) :=
  above_add (above_oR n 1 c _ hn) (above_add (above_oR n 1 c _ hn) (aboveTwo n (by omega) c))
theorem above2 (c : Dev nD) : Above 2 (Ow1a c) := aboveOne 2 (by decide) c
theorem above0a (c : Dev nD) : Above 0 (Ow1a c) := aboveOne 0 (by decide) c
theorem above0 (c : Dev nD) : Above 0 (Ow0 c) := above_add (above_oR 0 0 c _ (by decide)) (above0a c)
theorem above1 (c : Dev nD) : Above 1 (Ow0 c) := above_add (above_oR 1 0 c _ (by decide)) (aboveOne 1 (by decide) c)

/-! ## Small rearrangements -/

theorem emp_all : ⊢ (iprop(emp) : sProp 𝕄) := BI.Entails.refl _

theorem bar_start {O : CellTallies nD τ sig Unit} :
    iprop(ctx m K c ∗ (∃ W, owes (c : Thread nD τ) (oB (others c) + O) W) ∗ bigSep (others c) (barIn c)) ⊢ BarSt m K c O 0 := by
  unfold BarSt
  rw [prog_first fun _ _ => Nat.zero_le _, todo_first fun _ _ => Nat.zero_le _]

theorem wait_in {k : Dev nD → DmaSem sig} {N : ℕ} {D : Dev nD → sProp 𝕄} :
    readyW k N c ⊢ prog (waitIn k N c) D (others c) byIx 0 := by
  rw [prog_first fun _ _ => Nat.zero_le _]
  exact Entails.of_eq (bigSep_two _ _ _).symm

/-- The rights to a copy of exchange `a` to each other device. -/
def sendTok (a : Fin 3) (c : Dev nD) : sProp 𝕄 :=
  bigSep (others c) fun p => iprop(dutyTok ER (cellD c (snd a p)) 0 c ∗ dutyTok ER (cellD p (rcv a c)) 0 c)

/-- What the others' signals hand over, with the rights, is what the copies want. -/
theorem rest_of_bar : iprop(bigSep (others c) (barP c) ∗ sendTok 0 c ∗ sendTok 1 c ∗ sendTok 2 c)
    ⊢ iprop(bigSep (others c) (sendRest 0 c) ∗ bigSep (half 0 c) (sendRest 1 c) ∗ bigSep (half 1 c) (sendRest 1 c) ∗ bigSep (others c) (sendRest 2 c) : sProp 𝕄) := by
  have h1 : (iprop(bigSep (half 0 c) (sendRest 1 c) ∗ bigSep (half 1 c) (sendRest 1 c)) : sProp 𝕄) = bigSep (others c) (sendRest 1 c) :=
    (BI.bigSep_union half_disj (Φ := sendRest 1 c)).symm.trans (by rw [half_union])
  refine (?_ : _ ⊢ iprop(bigSep (others c) (sendRest 0 c) ∗ bigSep (others c) (sendRest 1 c) ∗ bigSep (others c) (sendRest 2 c))).trans ?_
  · unfold sendTok
    rw [← bigSep_two, ← bigSep_two, ← bigSep_two, ← bigSep_two, ← bigSep_two]
    refine BI.bigSep_mono fun p _ => ?_
    unfold barP sendRest
    refine (?_ : iprop(((anyP 0 p c ∗ anyP 1 p c ∗ anyP 2 p c) ∗ (reached ER (cellD p (rcv 0 c)) 0 ∗ reached ER (cellD p (rcv 1 c)) 0 ∗ reached ER (cellD p (rcv 2 c)) 0))
        ∗ (dutyTok ER (cellD c (snd 0 p)) 0 c ∗ dutyTok ER (cellD p (rcv 0 c)) 0 c) ∗ (dutyTok ER (cellD c (snd 1 p)) 0 c ∗ dutyTok ER (cellD p (rcv 1 c)) 0 c)
        ∗ (dutyTok ER (cellD c (snd 2 p)) 0 c ∗ dutyTok ER (cellD p (rcv 2 c)) 0 c))
      ⊢ iprop((anyP 0 p c ∗ reached ER (cellD p (rcv 0 c)) 0 ∗ dutyTok ER (cellD c (snd 0 p)) 0 c ∗ dutyTok ER (cellD p (rcv 0 c)) 0 c)
        ∗ (anyP 1 p c ∗ reached ER (cellD p (rcv 1 c)) 0 ∗ dutyTok ER (cellD c (snd 1 p)) 0 c ∗ dutyTok ER (cellD p (rcv 1 c)) 0 c)
        ∗ (anyP 2 p c ∗ reached ER (cellD p (rcv 2 c)) 0 ∗ dutyTok ER (cellD c (snd 2 p)) 0 c ∗ dutyTok ER (cellD p (rcv 2 c)) 0 c)))
    iintro ⟨⟨⟨HA0, HA1, HA2⟩, HR0, HR1, HR2⟩, ⟨HS0, HT0⟩, ⟨HS1, HT1⟩, HS2, HT2⟩
    isplitl [HA0 HR0 HS0 HT0]
    · isplitl [HA0]; · iexact HA0
      isplitl [HR0]; · iexact HR0
      isplitl [HS0]; · iexact HS0
      iexact HT0
    isplitl [HA1 HR1 HS1 HT1]
    · isplitl [HA1]; · iexact HA1
      isplitl [HR1]; · iexact HR1
      isplitl [HS1]; · iexact HS1
      iexact HT1
    isplitl [HA2]; · iexact HA2
    isplitl [HR2]; · iexact HR2
    isplitl [HS2]; · iexact HS2
    iexact HT2
  · iintro ⟨H0, H1, H2⟩
    isplitl [H0]; · iexact H0
    ihave H1 := (Entails.of_eq h1.symm) $$ H1
    icases H1 with ⟨H1, H3⟩
    isplitl [H1]; · iexact H1
    isplitl [H3]; · iexact H3
    iexact H2

/-- The shares of the first batch and those of the second. -/
theorem par_halves : (iprop(∃ f, pt c cc0_scratch6 f) : sProp 𝕄) ⊢ iprop((∃ f, ptS c cc0_scratch6 (parSet 0 16) f) ∗ ∃ f, ptS c cc0_scratch6 (parSet 1 32) f) := by
  have e : (Finset.univ : Finset S32x16x512.Idx) \ parSet 0 16 = parSet 1 32 := by
    ext i
    have h0 : (i 0).val < 32 := (i 0).isLt
    simp only [Finset.mem_sdiff, Finset.mem_univ, true_and, mem_parSet]
    omega
  iintro ⟨%f, H⟩
  ihave H := (pointsTo_split_subset (q := fullShare) (f := f) (Finset.subset_univ (parSet 0 16))).1 $$ H
  rw [e]
  icases H with ⟨H1, H2⟩
  isplitl [H1]
  · iexists f; iexact H1
  iexists f; iexact H2

/-- What the two halves of the shares sent bring back. -/
theorem outs_join : iprop(bigSep (half 0 c) (sendOut (F := F) 1 c) ∗ bigSep (half 1 c) (sendOut 1 c)) ⊢ bigSep (others c) (sendOut 1 c) :=
  Entails.of_eq ((BI.bigSep_union half_disj (Φ := sendOut 1 c)).symm.trans (by rw [half_union]))

/-! ## The states -/

abbrev posW (k : Dev nD → DmaSem sig) (c : Dev nD) : sProp 𝕄 := bigSep (others c) fun p => atPos ER (cellD c (k p)) 0 ∅ 0

variable (m K c) in
/-- What the body starts from, -/
def BodyPre : sProp 𝕄 :=
  iprop(ctx m K c ∗ (∃ W, owes (c : Thread nD τ) (O₀ c) W)
    ∗ (lclIn m c 0 ∗ lclIn m c 1 ∗ lclIn m c 2 ∗ lclIn m c 3 ∗ lclIn m c 4 ∗ lclIn m c 5 ∗ lclIn m c 6)
    ∗ (atPos ER (cellD c (lcl 0)) 0 ∅ 0 ∗ atPos ER (cellD c (lcl 1)) 0 ∅ 0 ∗ atPos ER (cellD c (lcl 2)) 0 ∅ 0 ∗ atPos ER (cellD c (lcl 3)) 0 ∅ 0
      ∗ atPos ER (cellD c (lcl 4)) 0 ∅ 0 ∗ atPos ER (cellD c (lcl 5)) 0 ∅ 0 ∗ atPos ER (cellD c (lcl 6)) 0 ∅ 0)
    ∗ bigSep (others c) (barIn c)
    ∗ (cred (tallyAt (cellB c) () 31) ∗ atPos ER (cellB c) 0 ∅ 0)
    ∗ ((∃ f, pt c cc0_scratch4 f) ∗ (∃ f, pt c cc0_scratch6 f) ∗ ∃ f, pt c cc0_scratch8 f)
    ∗ ((∃ f, ptS c cc0_scratch5 (slot256 c.val) f) ∗ (∃ f, ptS c cc0_scratch7 (slot512 c.val) f) ∗ ∃ f, ptS c outR (chunk c.val) f)
    ∗ (sendTok 0 c ∗ sendTok 1 c ∗ sendTok 2 c)
    ∗ (readyW (rcv 0) (NA 0) c ∗ readyW (rcv 1) (NA 1) c ∗ readyW (rcv 2) (NA 2) c)
    ∗ (posW (snd 0) c ∗ posW (snd 1) c ∗ posW (snd 2) c))

variable (m c) in
/-- what its second half leaves alone, -/
def Kept : sProp 𝕄 :=
  iprop(atPos ER (cellB c) 1 ∅ 0 ∗ pastW (rcv 0) c ∗ InsSt m c
    ∗ (atPos ER (cellD c (lcl 3)) 1 ∅ 0 ∗ atPos ER (cellD c (lcl 4)) 1 ∅ 0 ∗ atPos ER (cellD c (lcl 5)) 1 ∅ 0 ∗ atPos ER (cellD c (lcl 6)) 1 ∅ 0)
    ∗ (ptS c main_v1 (srcSet 0 c.val) (V m c main_v1) ∗ ptS c main_v1 (srcSet 1 c.val) (V m c main_v1))
    ∗ (ptS c main_v2 (srcSet 0 c.val) (V m c main_v2) ∗ ptS c main_v2 (srcSet 1 c.val) (V m c main_v2))
    ∗ pt c cc0_scratch3 (rdB m c) ∗ ptS c cc0_scratch4 (slot256 c.val) (kvs m c))

variable (m K c) in
/-- what its second half starts from, -/
def BodyMid : sProp 𝕄 :=
  iprop(PartSt m K c 0 (Ow1b c) 14 ∗ ownPar m c 0 ∗ (∃ f, ptS c cc0_scratch6 (parSet 1 32) f) ∗ pt c cc0_scratch5 (kvr m c)
    ∗ (∃ f, ptS c cc0_scratch7 (slot512 c.val) f) ∗ (∃ f, ptS c outR (chunk c.val) f) ∗ (∃ f, pt c cc0_scratch8 f)
    ∗ bigSep (half 1 c) (sendRest 1 c) ∗ bigSep (others c) (sendRest 2 c)
    ∗ readyW (rcv 1) (NA 1) c ∗ readyW (rcv 2) (NA 2) c ∗ readyW (snd 0) (NA 0) c ∗ posW (snd 1) c ∗ posW (snd 2) c ∗ Kept m c)

variable (m c) in
/-- the buffers and the positions at the end, all but those of the last copies, -/
def Ended : sProp 𝕄 :=
  iprop((pastW (rcv 0) c ∗ pastW (rcv 1) c ∗ pastW (rcv 2) c) ∗ (pastW (snd 0) c ∗ pastW (snd 1) c) ∗ atPos ER (cellB c) 1 ∅ 0
    ∗ (atPos ER (cellD c (lcl 3)) 1 ∅ 0 ∗ atPos ER (cellD c (lcl 4)) 1 ∅ 0 ∗ atPos ER (cellD c (lcl 5)) 1 ∅ 0 ∗ atPos ER (cellD c (lcl 6)) 1 ∅ 0)
    ∗ InsSt m c
    ∗ (ptS c main_v1 (srcSet 0 c.val) (V m c main_v1) ∗ ptS c main_v1 (srcSet 1 c.val) (V m c main_v1))
    ∗ (ptS c main_v2 (srcSet 0 c.val) (V m c main_v2) ∗ ptS c main_v2 (srcSet 1 c.val) (V m c main_v2))
    ∗ pt c cc0_scratch3 (rdB m c) ∗ pt c cc0_scratch4 (kvs m c) ∗ pt c cc0_scratch5 (kvr m c) ∗ pt c cc0_scratch6 (par m c) ∗ pt c cc0_scratch7 (com m c) ∗ pt c outR (res m))

variable (m K c) in
def BodyEnd : sProp 𝕄 := iprop(OutDrain m K c 28 ∗ redKeep m c ∗ Ended m c)

variable (m K c) in
/-- and what the body ends with. -/
def BodyPost : sProp 𝕄 :=
  iprop((ctx m K c ∗ (∃ W, owes (c : Thread nD τ) 0 W)) ∗ pastW (snd 2) c ∗ pt c cc0_scratch8 (red m c) ∗ Ended m c)

/-! ## The body -/

theorem all110 : BodyPre m K c ⊢ WP c (onMem k0_part110) fun x => iprop(⌜x.1 = c ∧ x.2.1 = w2 c ∧ x.2.2.1 = maskV ∧ x.2.2.2.1 = woB m c ∧ x.2.2.2.2.1 = qB m c 1⌝ ∗ BodyMid m K c) := by
  rw [k0_part110_eq_skeleton]; unfold k0_part110_skel
  rw [BodyPre, O₀_eq]
  iintro ⟨#HC, HW, ⟨H0, H1, H2, H3, H4, H5, H6⟩, ⟨A0, A1, A2, A3, A4, A5, A6⟩, HB, ⟨Hc, Ha⟩, ⟨HS4, HS6, HS8⟩, ⟨HS5, HS7, HSO⟩, ⟨T0, T1, T2⟩, ⟨R0, R1, R2⟩, ⟨P0, P1, P2⟩⟩
  iapply (bindI (part1)) $$ [H0 H1 H2 H3 H4]
  · isplitr; · iexact HC
    isplitl [H0]; · iexact H0
    isplitl [H1]; · iexact H1
    isplitl [H2]; · iexact H2
    isplitl [H3]; · iexact H3
    iexact H4
  iintro %x ⟨%hx, ⟨H0, H1, H2, H3, H4⟩⟩
  obtain ⟨x1, x2⟩ := x
  obtain ⟨h1, h2⟩ := hx
  dsimp only at h1 h2
  replace h1 := h1.symm
  subst h1 h2
  ihave HZ := (bar_start (m := m) (K := K) (O := Ow0 c)) $$ [HW HB]
  · isplitr; · iexact HC
    isplitl [HW]; · iexact HW
    iexact HB
  icases HZ with HB
  iapply (bindI (part2 _)) $$ [H5 H6 HB]
  · isplitr; · iexact HC
    isplitl [H5]; · iexact H5
    isplitl [H6]; · iexact H6
    iexact HB
  iintro %x ⟨%hx, ⟨H5, H6, HB⟩⟩
  subst hx
  iapply (bindI (part3 _)) $$ HB
  iintro %x HB
  iapply (bindI (part4 _)) $$ HB
  iintro %x HB
  iapply (bindI (part5 (hO := above1 c) _)) $$ [HB Hc Ha]
  · isplitl [HB]; · iexact HB
    isplitl [Hc]; · iexact Hc
    iexact Ha
  iintro %x ⟨-, HW, Ha, HB⟩
  ihave HZ := (rest_of_bar) $$ [HB T0 T1 T2]
  · isplitl [HB]; · iexact HB
    isplitl [T0]; · iexact T0
    isplitl [T1]; · iexact T1
    iexact T2
  icases HZ with ⟨R0s, R1a, R1b, R2s⟩
  iapply (bindI (part6 (hO := above0 c))) $$ [HW HS4 H3 A3 H4 A4 H5 A5 H6 A6 R0s]
  · isplitl [HW]
    · isplitr; · iexact HC
      iexact HW
    isplitl [HS4]; · iexact HS4
    isplitl [H3 A3]
    · isplitl [H3]; · iexact H3
      iexact A3
    isplitl [H4 A4]
    · isplitl [H4]; · iexact H4
      iexact A4
    isplitl [H5 A5]
    · isplitl [H5]; · iexact H5
      iexact A5
    isplitl [H6 A6]
    · isplitl [H6]; · iexact H6
      iexact A6
    iexact R0s
  iintro %x ⟨%hx, ⟨HP, ⟨-, HW⟩, R0s, HA36, HV1, HV2⟩⟩
  obtain ⟨x1, x2⟩ := x
  obtain ⟨h1, h2⟩ := hx
  dsimp only at h1 h2
  subst h1 h2
  iapply (bindI (part7)) $$ HP
  iintro %x ⟨%hx, HP⟩
  subst hx
  iapply (bindI (part8)) $$ HP
  iintro %x ⟨%hx, HP⟩
  subst hx
  iapply (bindI (part9)) $$ HP
  iintro %x ⟨%hx, HP⟩
  subst hx
  iapply (bindI (part10)) $$ HP
  iintro %x ⟨%hx, HP⟩
  subst hx
  iapply (bindI (part11)) $$ HP
  iintro %x ⟨%hx, HP⟩
  obtain ⟨x1, x2, x3⟩ := x
  obtain ⟨h1, h2⟩ := hx
  dsimp only at h1 h2
  subst h1 h2
  iapply (bindI (part12 _)) $$ HP
  iintro %x ⟨%hx, HP⟩
  subst hx
  iapply (bindI (part13)) $$ HP
  iintro %x HP
  iapply (bindI (part14)) $$ HP
  iintro %x ⟨%hx, HP⟩
  obtain ⟨x1, x2⟩ := x
  dsimp only at hx
  subst hx
  iapply (bindI (part15 _)) $$ HP
  iintro %x ⟨%hx, HP⟩
  subst hx
  iapply (bindI (part16)) $$ HP
  iintro %x ⟨%hx, HP⟩
  obtain ⟨x1, x2⟩ := x
  obtain ⟨h1, h2⟩ := hx
  dsimp only at h1 h2
  subst h1 h2
  iapply (bindI (part17)) $$ HP
  iintro %x ⟨%hx, HP⟩
  subst hx
  iapply (bindI (part18)) $$ HP
  iintro %x ⟨%hx, HP⟩
  subst hx
  iapply (bindI (part19)) $$ HP
  iintro %x ⟨%hx, HP⟩
  subst hx
  iapply (bindI (part20)) $$ HP
  iintro %x ⟨%hx, HP⟩
  subst hx
  iapply (bindI (part21)) $$ HP
  iintro %x ⟨%hx, HP⟩
  obtain ⟨x1, x2⟩ := x
  obtain ⟨h1, h2⟩ := hx
  dsimp only at h1 h2
  subst h1 h2
  iapply (bindI (part22)) $$ HP
  iintro %x ⟨%hx, HP⟩
  subst hx
  iapply (bindI (part23)) $$ HP
  iintro %x ⟨%hx, HP⟩
  subst hx
  iapply (bindI (part24)) $$ HP
  iintro %x ⟨%hx, HP⟩
  subst hx
  iapply (bindI (part25)) $$ HP
  iintro %x ⟨%hx, HP⟩
  subst hx
  iapply (bindI (part26 _)) $$ [HP HS5]
  · isplitl [HP]; · iexact HP
    iexact HS5
  iintro %x ⟨⟨HS4, HS3⟩, HS5⟩
  obtain ⟨x1, x2, x3, x4⟩ := x
  ihave HZ := (Entails.of_eq (kvs_slots (m := m) (c := c))) $$ HS4
  icases HZ with ⟨HS4, HX⟩
  ihave HZ := (send_join (m := m)) $$ [HX R0s]
  · isplitl [HX]; · iexact HX
    iexact R0s
  icases HZ with HX
  ihave HZ := (send_start (m := m) (K := K) (a := 0) (G := others c) (r := byOff c) (O := Ow1a c) (n := 1) byOff_first) $$ [HW HX]
  · isplitl [HW]
    · isplitr; · iexact HC
      iexact HW
    iexact HX
  icases HZ with HP
  iapply (bindI (part27 _ _ _ _ _)) $$ HP
  iintro %x HP
  obtain ⟨x1, x2, x3⟩ := x
  iapply (bindI (part28 _ _ _ _)) $$ HP
  iintro %x HP
  iapply (bindI (part29 _)) $$ HP
  iintro %x HP
  iapply (bindI (part30 _ _)) $$ HP
  iintro %x HP
  obtain ⟨x1, x2, x3⟩ := x
  iapply (bindI (part31 _ _ _ _)) $$ HP
  iintro %x HP
  iapply (bindI (part32 _)) $$ HP
  iintro %x HP
  iapply (bindI (part33 _)) $$ HP
  iintro %x HP
  obtain ⟨x1, x2, x3, x4⟩ := x
  iapply (bindI (part34 _ _ _ _ _)) $$ HP
  iintro %x HP
  obtain ⟨x1, x2, x3⟩ := x
  iapply (bindI (part35 _ _ _ _)) $$ HP
  iintro %x HP
  iapply (bindI (part36 _)) $$ HP
  iintro %x HP
  iapply (bindI (part37 _ _)) $$ HP
  iintro %x HP
  obtain ⟨x1, x2, x3⟩ := x
  iapply (bindI (part38 _ _ _ _)) $$ HP
  iintro %x HP
  iapply (bindI (part39 _)) $$ HP
  iintro %x HP
  iapply (bindI (part40 _)) $$ HP
  iintro %x HP
  obtain ⟨x1, x2, x3, x4⟩ := x
  iapply (bindI (part41 _ _ _ _ _)) $$ HP
  iintro %x HP
  obtain ⟨x1, x2, x3⟩ := x
  iapply (bindI (part42 _ _ _ _)) $$ HP
  iintro %x HP
  iapply (bindI (part43 _)) $$ HP
  iintro %x HP
  iapply (bindI (part44 _ _)) $$ HP
  iintro %x ⟨%hx, HP⟩
  subst hx
  ihave HZ := (send_done (m := m) (K := K) (a := 0) (G := others c) (r := byOff c) (O := Ow1a c) (n := 32) fun p _ => (byOff c).lt p) $$ HP
  icases HZ with ⟨⟨-, HW⟩, HD0⟩
  ihave HZ := (wait_in (k := rcv 0) (N := NA 0) (D := waitOut (rcv 0) (landP m 0 c) c)) $$ R0
  icases HZ with R0
  ihave HE := emp_all
  iapply (bindI (part45 (above0a c) (above2 c))) $$ [HW R0 H0 A0 H1 A1 H2 A2 HE]
  · isplitl [HW]
    · isplitr; · iexact HC
      iexact HW
    isplitl [R0]; · iexact R0
    isplitl [H0 A0]
    · isplitl [H0]; · iexact H0
      iexact A0
    isplitl [H1 A1]
    · isplitl [H1]; · iexact H1
      iexact A1
    isplitl [H2 A2]
    · isplitl [H2]; · iexact H2
      iexact A2
    iexact HE
  iintro %x ⟨%hx, ⟨HP, HI⟩⟩
  obtain ⟨x1, x2, x3, x4⟩ := x
  obtain ⟨h1, h2, h3, h4⟩ := hx
  dsimp only at h1 h2 h3 h4
  subst h1 h2 h3 h4
  iapply (bindI (part46 (hO := above2 c))) $$ HP
  iintro %x ⟨%hx, HP⟩
  subst hx
  iapply (bindI (part47 (hO := above2 c))) $$ HP
  iintro %x ⟨%hx, HP⟩
  subst hx
  iapply (bindI (part48 (hO := above2 c))) $$ HP
  iintro %x ⟨%hx, HP⟩
  subst hx
  iapply (bindI (part49 (hO := above2 c))) $$ HP
  iintro %x ⟨%hx, HP⟩
  subst hx
  iapply (bindI (part50 (hO := above2 c) _)) $$ [HP HS5]
  · isplitl [HP]; · iexact HP
    iexact HS5
  iintro %x ⟨%hx, ⟨⟨⟨-, HW⟩, HR0⟩, HS5⟩⟩
  obtain ⟨x1, x2, x3⟩ := x
  obtain ⟨h1, h2, h3⟩ := hx
  dsimp only at h1 h2 h3
  subst h1 h2 h3
  iapply (bindI (part51 _ _ _ _ _)) $$ HS5
  iintro %x ⟨%hx, HS5⟩
  obtain ⟨x1, x2, x3, x4⟩ := x
  obtain ⟨h1, h2, h3, h4⟩ := hx
  dsimp only at h1 h2 h3 h4
  subst h1 h2 h3 h4
  iapply (bindI (part52 _ _ _ _ _ _ _)) $$ HS5
  iintro %x ⟨%hx, HS5⟩
  replace hx := hx.trans pb_0
  subst hx
  ihave HZ := (par_halves (c := c)) $$ HS6
  icases HZ with ⟨HS6a, HS6b⟩
  ihave HZ := ((fill_none (g := par m c)).trans (Entails.of_eq (by rw [← parSet_first 0]))) $$ HS6a
  icases HZ with HP
  iapply (bindI (part53)) $$ HP
  iintro %x ⟨%hx, HP⟩
  subst hx
  iapply (bindI (part54)) $$ HP
  iintro %x HP
  iapply (bindI (part55 _)) $$ [HP HW R1a]
  · isplitl [HP]; · iexact HP
    isplitl [HW]
    · isplitr; · iexact HC
      iexact HW
    iexact R1a
  iintro %x ⟨HP, HO0⟩
  obtain ⟨x1, x2, x3⟩ := x
  iapply (bindI (part56 _ _)) $$ HP
  iintro %x HP
  obtain ⟨x1, x2, x3, x4, x5, x6⟩ := x
  iapply (bindI (part57 _ _ _ _ _)) $$ HP
  iintro %x HP
  obtain ⟨x1, x2, x3, x4⟩ := x
  iapply (bindI (part58 _ _ _)) $$ HP
  iintro %x HP
  obtain ⟨x1, x2, x3, x4⟩ := x
  iapply (bindI (part59 _ _ _)) $$ HP
  iintro %x HP
  obtain ⟨x1, x2, x3, x4, x5⟩ := x
  iapply (bindI (part60 _ _ _ _)) $$ HP
  iintro %x HP
  obtain ⟨x1, x2, x3, x4⟩ := x
  iapply (le_wp_ret (Fr := frame) (wpE := wpE (defs₀ (F := F)) 𝒱₀ (c : Thread nD τ) none) (E := Set.univ))
  isplitr; · ipureintro; exact ⟨rfl, rfl, rfl, rfl, rfl⟩
  iapply (Entails.of_eq (BodyMid.eq_1 m K c).symm)
  isplitl [HP]; · iexact HP
  isplitl [HO0]; · iexact HO0
  isplitl [HS6b]; · iexact HS6b
  isplitl [HS5]; · iexact HS5
  isplitl [HS7]; · iexact HS7
  isplitl [HSO]; · iexact HSO
  isplitl [HS8]; · iexact HS8
  isplitl [R1b]; · iexact R1b
  isplitl [R2s]; · iexact R2s
  isplitl [R1]; · iexact R1
  isplitl [R2]; · iexact R2
  isplitl [HD0 P0]
  · isplitl [HD0]; · iexact HD0
    iexact P0
  isplitl [P1]; · iexact P1
  isplitl [P2]; · iexact P2
  iapply (Entails.of_eq (Kept.eq_1 m c).symm)
  isplitl [Ha]; · iexact Ha
  isplitl [HR0]; · iexact HR0
  isplitl [HI]; · iexact HI
  isplitl [HA36]; · iexact HA36
  isplitl [HV1]; · iexact HV1
  isplitl [HV2]; · iexact HV2
  isplitl [HS3]; · iexact HS3
  iexact HS4

theorem all111 (v1740 : BitVec 32) (v1755 : BitVec 32) (v1770 : BitVec 32) (v1785 : BitVec 32) (v1800 : BitVec 32) (v1815 : BitVec 32) (v1830 : BitVec 32) (v1845 : BitVec 32) (v1860 : BitVec 32) (v1875 : BitVec 32) (v1890 : BitVec 32) (v1905 : BitVec 32) (v1920 : BitVec 32) (v1935 : BitVec 32) (v1939 : BitVec 32) :
    BodyMid m K c ⊢ WP c (onMem k0_part111 c (w2 c) maskV (woB m c) (qB m c 1) v1740 v1755 v1770 v1785 v1800 v1815 v1830 v1845 v1860 v1875 v1890 v1905 v1920 v1935 v1939) fun _ => BodyEnd m K c := by
  rw [k0_part111_eq_skeleton]; unfold k0_part111_skel
  rw [BodyMid, Kept]
  iintro ⟨HP, HO0, HS6, HS5, HS7, HSO, HS8, R1b, R2s, R1, R2, HS0, P1, P2, ⟨Ha, HR0, HI, HA36, HV1, HV2, HS3, HS4⟩⟩
  iapply (bindI (part61 _ _ _)) $$ [HP HS5]
  · isplitl [HP]; · iexact HP
    iexact HS5
  iintro %x ⟨%hx, ⟨HP, HS5⟩⟩
  obtain ⟨x1, x2, x3, x4, x5, x6⟩ := x
  obtain ⟨h1, h2, h3, h4⟩ := hx
  dsimp only at h1 h2 h3 h4
  subst h1 h2 h3 h4
  iapply (bindI (part62 _ _ _ _ _ _)) $$ HS5
  iintro %x ⟨%hx, HS5⟩
  obtain ⟨x1, x2, x3, x4⟩ := x
  obtain ⟨h1, h2, h3, h4⟩ := hx
  dsimp only at h1 h2 h3 h4
  subst h1 h2 h3 h4
  iapply (bindI (part63 _ _ _ _ _ _ _)) $$ HS5
  iintro %x ⟨%hx, HS5⟩
  obtain ⟨x1, x2⟩ := x
  obtain ⟨h1, h2⟩ := hx
  replace h1 := h1.trans pb_1
  replace h2 : x2 = pbHead m c := h2
  dsimp only at h1
  subst h1 h2
  ihave HZ := ((fill_none (g := par m c)).trans (Entails.of_eq (by rw [← parSet_first 1]))) $$ HS6
  icases HZ with HQ
  iapply (bindI (part64)) $$ HQ
  iintro %x ⟨%hx, HQ⟩
  obtain ⟨x1, x2⟩ := x
  dsimp only at hx
  subst hx
  iapply (bindI (part65 _)) $$ HQ
  iintro %x ⟨%hx, HQ⟩
  subst hx
  ihave HZ := (send_done (m := m) (K := K) (a := 1) (G := half 0 c) (r := byHalf c) (O := Ow1b c) (n := 16) (half_last 0)) $$ HP
  icases HZ with ⟨⟨#HC, HW⟩, HD1⟩
  iapply (bindI (part66 _)) $$ [HQ HW R1b]
  · isplitl [HQ]; · iexact HQ
    isplitl [HW]
    · isplitr; · iexact HC
      iexact HW
    iexact R1b
  iintro %x ⟨HP, HO1⟩
  obtain ⟨x1, x2, x3, x4⟩ := x
  iapply (bindI (part67 _ _ _)) $$ HP
  iintro %x HP
  obtain ⟨x1, x2, x3, x4, x5, x6, x7⟩ := x
  iapply (bindI (part68 _ _ _ _ _ _)) $$ HP
  iintro %x HP
  obtain ⟨x1, x2, x3, x4, x5⟩ := x
  iapply (bindI (part69 _ _ _ _)) $$ HP
  iintro %x HP
  obtain ⟨x1, x2, x3, x4⟩ := x
  iapply (bindI (part70 _ _ _)) $$ HP
  iintro %x HP
  obtain ⟨x1, x2, x3⟩ := x
  iapply (bindI (part71 _ _)) $$ HP
  iintro %x HP
  obtain ⟨x1, x2, x3, x4, x5⟩ := x
  ihave HZ := (own_two (m := m)) $$ [HO0 HO1]
  · isplitl [HO0]; · iexact HO0
    iexact HO1
  icases HZ with HS6
  iapply (bindI (part72 _ _)) $$ [HP HS6 HS7]
  · isplitl [HP]; · iexact HP
    isplitl [HS6]; · iexact HS6
    iexact HS7
  iintro %x ⟨%hx, ⟨HP, HS6, HS7⟩⟩
  obtain ⟨x1, x2, x3⟩ := x
  dsimp only at hx
  subst hx
  ihave HZ := (send_done (m := m) (K := K) (a := 1) (G := half 1 c) (r := byHalf c) (O := Ow2 c) (n := 32) (half_last 1)) $$ HP
  icases HZ with ⟨⟨-, HW⟩, HD2⟩
  ihave HZ := (outs_join (c := c)) $$ [HD1 HD2]
  · isplitl [HD1]; · iexact HD1
    iexact HD2
  icases HZ with HD1
  ihave HZ := (wait_start (m := m) (K := K) (c := c) (O := Ow2 c) (k := rcv 1) (N := NA 1) (P := landP m 1 c) (r := byIx) (n := 0) fun _ _ => Nat.zero_le _) $$ [HW R1]
  · isplitl [HW]
    · isplitr; · iexact HC
      iexact HW
    iexact R1
  icases HZ with HP
  iapply (bindI (part73 (hO := above3 c))) $$ HP
  iintro %x ⟨%hx, HP⟩
  subst hx
  iapply (bindI (part74 (hO := above3 c))) $$ HP
  iintro %x ⟨%hx, HP⟩
  subst hx
  iapply (bindI (part75 (hO := above3 c))) $$ HP
  iintro %x ⟨%hx, HP⟩
  subst hx
  iapply (bindI (part76 (hO := above3 c))) $$ HP
  iintro %x ⟨%hx, HP⟩
  subst hx
  iapply (bindI (part77 (hO := above3 c))) $$ HP
  iintro %x ⟨%hx, HP⟩
  subst hx
  iapply (bindI (part78 (hO := above3 c))) $$ [HP HS7 HS8]
  · isplitl [HP]; · iexact HP
    isplitl [HS7]; · iexact HS7
    iexact HS8
  iintro %x ⟨%hx, ⟨⟨⟨⟨-, HW⟩, HR1⟩, HS7⟩, HS8⟩⟩
  obtain ⟨x1, x2, x3⟩ := x
  dsimp only at hx
  subst hx
  iapply (bindI (part79 _ _ _)) $$ [HSO HW HS8 R2s]
  · isplitl [HSO]; · iexact HSO
    isplitl [HW]
    · isplitr; · iexact HC
      iexact HW
    isplitl [HS8]; · iexact HS8
    iexact R2s
  iintro %x ⟨HP, HKp, HSO⟩
  obtain ⟨x1, x2, x3, x4⟩ := x
  iapply (bindI (part80 _ _ _ _ _)) $$ HP
  iintro %x HP
  obtain ⟨x1, x2, x3, x4, x5⟩ := x
  iapply (bindI (part81 _ _ _ _ _ _)) $$ HP
  iintro %x HP
  obtain ⟨x1, x2, x3⟩ := x
  iapply (bindI (part82 _ _ _ _)) $$ HP
  iintro %x HP
  iapply (bindI (part83 _ _)) $$ HP
  iintro %x HP
  iapply (bindI (part84 _ _)) $$ HP
  iintro %x HP
  iapply (bindI (part85 _)) $$ HP
  iintro %x HP
  iapply (bindI (part86 _)) $$ HP
  iintro %x HP
  iapply (bindI (part87 _)) $$ HP
  iintro %x HP
  iapply (bindI (part88 _)) $$ HP
  iintro %x HP
  iapply (bindI (part89 _ _)) $$ HP
  iintro %x HP
  obtain ⟨x1, x2⟩ := x
  iapply (bindI (part90 _ _ _)) $$ HP
  iintro %x HP
  obtain ⟨x1, x2, x3⟩ := x
  iapply (bindI (part91 _ _ _ _)) $$ HP
  iintro %x HP
  obtain ⟨x1, x2⟩ := x
  iapply (bindI (part92 _ _ _)) $$ HP
  iintro %x HP
  obtain ⟨x1, x2, x3⟩ := x
  iapply (bindI (part93 _ _ _ _)) $$ HP
  iintro %x HP
  obtain ⟨x1, x2, x3, x4⟩ := x
  iapply (bindI (part94 _ _ _ _)) $$ [HP R2]
  · isplitl [HP]; · iexact HP
    iexact R2
  iintro %x ⟨%hx, ⟨HP, HD2⟩⟩
  subst hx
  iapply (bindI (part95)) $$ HP
  iintro %x ⟨%hx, HP⟩
  obtain ⟨x1, x2⟩ := x
  obtain ⟨h1, h2⟩ := hx
  dsimp only at h1 h2
  subst h1 h2
  iapply (bindI (part96)) $$ HP
  iintro %x ⟨%hx, HP⟩
  subst hx
  iapply (bindI (part97)) $$ HP
  iintro %x ⟨%hx, HP⟩
  obtain ⟨x1, x2⟩ := x
  obtain ⟨h1, h2⟩ := hx
  dsimp only at h1 h2
  subst h1 h2
  iapply (bindI (part98)) $$ [HP HS0]
  · isplitl [HP]; · iexact HP
    iexact HS0
  iintro %x ⟨HP, HR2, HL⟩
  ihave HZ := (Entails.of_eq (out_slots (m := m) (c := c)).symm) $$ [HSO HL]
  · isplitl [HSO]; · iexact HSO
    iexact HL
  icases HZ with HSO
  iapply (bindI (part99)) $$ HP
  iintro %x HP
  iapply (bindI (part100)) $$ HP
  iintro %x HP
  iapply (bindI (part101)) $$ HP
  iintro %x HP
  iapply (bindI (part102)) $$ HP
  iintro %x HP
  iapply (bindI (part103)) $$ HP
  iintro %x HP
  iapply (bindI (part104 _ _ _ _)) $$ [HP HD1 P1]
  · isplitl [HP]; · iexact HP
    isplitl [HD1]; · iexact HD1
    iexact P1
  iintro %x ⟨HP, HT0, HL⟩
  ihave HZ := (Entails.of_eq (kvs_slots (m := m) (c := c)).symm) $$ [HS4 HL]
  · isplitl [HS4]; · iexact HS4
    iexact HL
  icases HZ with HS4
  iapply (bindI (part105 _ _ _ _ _ _ _ _ _ _ _ _ _)) $$ HP
  iintro %x HP
  iapply (bindI (part106 _ _ _ _ _ _ _ _ _ _ _ _ _)) $$ HP
  iintro %x HP
  iapply (bindI (part107 _ _ _ _ _ _)) $$ [HP HD2 P2]
  · isplitl [HP]; · iexact HP
    isplitl [HD2]; · iexact HD2
    iexact P2
  iintro %x ⟨HP, HT1, HL⟩
  ihave HZ := (Entails.of_eq (par_slots (m := m) (c := c)).symm) $$ [HS6 HL]
  · isplitl [HS6]; · iexact HS6
    iexact HL
  icases HZ with HS6
  iapply (bindI (part108)) $$ HP
  iintro %x HP
  iapply (bindI (part109)) $$ HP
  iintro %x HP
  iapply (bindI (out_drain 26 (off4_eq c 25))) $$ HP
  iintro %x HP
  dsimp only
  iapply (bindI (out_drain 27 (off4_eq c 26))) $$ HP
  iintro %x HP
  iapply (le_wp_ret (Fr := frame) (wpE := wpE (defs₀ (F := F)) 𝒱₀ (c : Thread nD τ) none) (E := Set.univ))
  iapply (Entails.of_eq (BodyEnd.eq_1 m K c).symm)
  isplitl [HP]; · iexact HP
  isplitl [HKp]; · iexact HKp
  iapply (Entails.of_eq (Ended.eq_1 m c).symm)
  isplitl [HR0 HR1 HR2]
  · isplitl [HR0]; · iexact HR0
    isplitl [HR1]; · iexact HR1
    iexact HR2
  isplitl [HT0 HT1]
  · isplitl [HT0]; · iexact HT0
    iexact HT1
  isplitl [Ha]; · iexact Ha
  isplitl [HA36]; · iexact HA36
  isplitl [HI]; · iexact HI
  isplitl [HV1]; · iexact HV1
  isplitl [HV2]; · iexact HV2
  isplitl [HS3]; · iexact HS3
  isplitl [HS4]; · iexact HS4
  isplitl [HS5]; · iexact HS5
  isplitl [HS6]; · iexact HS6
  isplitl [HS7]; · iexact HS7
  iexact HSO

theorem body_all : BodyPre m K c ⊢ WP c (onMem cc0_body) fun _ => BodyPost m K c := by
  rw [cc0_body_eq_skeleton]; unfold cc0_body_skel
  iintro HP
  iapply (bindI (all110 (m := m) (K := K))) $$ HP
  iintro %x ⟨%hx, HP⟩
  obtain ⟨x1, x2, x3, x4, x5, x6, x7, x8, x9, x10, x11, x12, x13, x14, x15, x16, x17, x18, x19, x20⟩ := x
  obtain ⟨h1, h2, h3, h4, h5⟩ := hx
  dsimp only at h1 h2 h3 h4 h5
  replace h1 := h1.symm
  subst h1 h2 h3 h4 h5
  iapply (bindI (all111 _ _ _ _ _ _ _ _ _ _ _ _ _ _ _)) $$ HP
  iintro %x HP
  ihave HP := (Entails.of_eq (BodyEnd.eq_1 m K _)) $$ HP
  icases HP with ⟨HP, HKp, HE⟩
  iapply (bindI (out_drain 28 (off4_eq _ 27))) $$ HP
  iintro %x HP
  iapply (bindI (out_drain 29 (off4_eq _ 28))) $$ HP
  iintro %x HP
  iapply (bindI (out_drain 30 (off4_eq _ 29))) $$ HP
  iintro %x HP
  iapply (bindI (out_drain 31 (off4_eq _ 30))) $$ HP
  iintro %x HP
  iapply (le_wp_ret (Fr := frame) (wpE := wpE (defs₀ (F := F)) 𝒱₀ (c : Thread nD τ) none) (E := Set.univ))
  ihave HZ := (wait_done) $$ HP
  icases HZ with ⟨HW, HT2, HL⟩
  ihave HZ := (Entails.of_eq (red_split (m := m)).symm) $$ [HL HKp]
  · isplitl [HL]; · iexact HL
    iexact HKp
  icases HZ with HS8
  iapply (Entails.of_eq (BodyPost.eq_1 m K _).symm)
  isplitl [HW]; · iexact HW
  isplitl [HT2]; · iexact HT2
  isplitl [HS8]; · iexact HS8
  iexact HE

end Cert.KernelIdeal.Mesh
-- ==== Proof.KI.Deal.lean ====
/-
  What the launch hands out: the semaphores of a device by purpose, the credit each device starts with, and the rights to pay.
-/
module

public import proofs.«01_k».proof.Proof.KI.Body

@[expose] public section

noncomputable section

namespace Cert.KernelIdeal.Mesh

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : GSem nD τ sig → ℕ} {c : Dev nD}

/-! ## A device's own semaphores by purpose -/

abbrev OwnIx : Type := Fin 7 ⊕ (Fin 3 × (Dev nD ⊕ Dev nD))

/-- Local copy `k`'s semaphore, exchange `a`'s send semaphore for `p`, its receive semaphore for `p`. -/
def ownOf : OwnIx → Fin 199
  | .inl k => ⟨k.val, by omega⟩
  | .inr (a, .inl p) => ⟨7 + 64 * a.val + p.val, by have h : p.val < 32 := p.isLt; omega⟩
  | .inr (a, .inr p) => ⟨39 + 64 * a.val + p.val, by have h : p.val < 32 := p.isLt; omega⟩

theorem osem_inl (k : Fin 7) : osem (ownOf (.inl k)) = .dma (lcl k) := rfl
theorem osem_snd (a : Fin 3) (p : Dev nD) : osem (ownOf (.inr (a, .inl p))) = .dma (snd a p) :=
  congrArg SemLoc.dma (Fin.ext (by show 1 + (7 + 64 * a.val + p.val) = 8 + 64 * a.val + p.val; omega))
theorem osem_rcv (a : Fin 3) (p : Dev nD) : osem (ownOf (.inr (a, .inr p))) = .dma (rcv a p) :=
  congrArg SemLoc.dma (Fin.ext (by show 1 + (39 + 64 * a.val + p.val) = 40 + 64 * a.val + p.val; omega))

def ownRole : OwnIx → Role
  | .inl k => .lcl k
  | .inr (a, .inl p) => .snd a p
  | .inr (a, .inr p) => .rcv a p

theorem ownRole_eq (i : OwnIx) : role (osem (ownOf i)) = ownRole i := by
  rcases i with k | ⟨a, p | p⟩
  · rw [osem_inl, role_lcl]; rfl
  · rw [osem_snd, role_snd]; rfl
  · rw [osem_rcv, role_rcv]; rfl

theorem ownRole_inj : Function.Injective ownRole := by
  rintro (k | ⟨a, p | p⟩) (k' | ⟨a', p' | p'⟩) h <;> first | (cases h; rfl) | cases h

theorem ownOf_bij : Function.Bijective ownOf := by
  rw [Fintype.bijective_iff_injective_and_card]
  refine ⟨fun i j h => ownRole_inj ?_, ?_⟩
  · rw [← ownRole_eq, ← ownRole_eq, h]
  · simp only [Fintype.card_sum, Fintype.card_prod, Fintype.card_fin]
    rfl

/-- A family over a device's own semaphores, by purpose. -/
theorem own_split (c : Dev nD) (Φ : GSem nD τ sig → sProp 𝕄) :
    (bigSep Finset.univ fun k : Fin 199 => Φ ((c : Thread nD τ), osem k))
      = iprop((bigSep Finset.univ fun k : Fin 7 => Φ (cellD c (lcl k)))
        ∗ bigSep Finset.univ fun a : Fin 3 => iprop((bigSep Finset.univ fun p : Dev nD => Φ (cellD c (snd a p))) ∗ bigSep Finset.univ fun p : Dev nD => Φ (cellD c (rcv a p)))) := by
  rw [BI.bigSep_univ_equiv (Equiv.ofBijective ownOf ownOf_bij), BI.bigSep_univ_sum, BI.bigSep_univ_prod]
  refine congrArg₂ _ rfl (BI.bigSep_congr fun a _ => ?_)
  rw [BI.bigSep_univ_sum]
  refine congrArg₂ _ (BI.bigSep_congr fun p _ => ?_) (BI.bigSep_congr fun p _ => ?_)
  · exact congrArg (fun s => Φ ((c : Thread nD τ), s)) (osem_snd a p)
  · exact congrArg (fun s => Φ ((c : Thread nD τ), s)) (osem_rcv a p)

theorem fin_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem fin_three (Φ : Fin 3 → sProp 𝕄) : bigSep Finset.univ Φ = iprop(Φ 0 ∗ Φ 1 ∗ Φ 2) :=
  bigSep_univ_eq_bigSepL [0, 1, 2] (by decide) (by decide) Φ

/-- A family over the devices is one's own member and the others'. -/
theorem own_others (c : Dev nD) (Φ : Dev nD → sProp 𝕄) : bigSep Finset.univ Φ = iprop(Φ c ∗ bigSep (others c) Φ) := bigSep_univ_at Φ c

/-! ## The credit a device starts with -/

/-- What the others owe device `c` in exchange `a`. -/
def iR (a : Fin 3) (c : Dev nD) : CellTallies nD τ sig Unit := ∑ p ∈ others c, tallyAt (cellD c (rcv a p)) () (NA a)
def iAll (c : Dev nD) : CellTallies nD τ sig Unit := tallyAt (cellB c) () 31 + (iR 0 c + (iR 1 c + iR 2 c))

theorem sum_bar : (∑ d : Dev nD, oB (others d)) = ∑ c : Dev nD, (tallyAt (cellB c) () 31 : CellTallies nD τ sig Unit) := by
  unfold oB
  rw [Finset.sum_comm' (s' := fun c : Dev nD => others c) (t' := Finset.univ) fun x y => by
    simp only [Finset.mem_univ, true_and, and_true, Finset.mem_erase]; exact ⟨Ne.symm, Ne.symm⟩]
  refine Finset.sum_congr rfl fun c _ => ?_
  rw [Finset.sum_const, Finset.card_erase_of_mem (Finset.mem_univ c)]
  funext g
  refine Finsupp.ext fun u => ?_
  rw [Pi.smul_apply, Finsupp.smul_apply, tallyAt_apply, tallyAt_apply]
  split
  · rfl
  · rfl

theorem sum_rcv (a : Fin 3) : (∑ d : Dev nD, oR a d (others d)) = ∑ c : Dev nD, iR a c := by
  unfold oR iR
  exact Finset.sum_comm' fun x y => by
    simp only [Finset.mem_univ, true_and, and_true, Finset.mem_erase]; exact ⟨Ne.symm, Ne.symm⟩

theorem sum_all : (∑ d : Dev nD, O₀ d) = ∑ c : Dev nD, iAll c := by
  unfold O₀ iAll
  simp only [Finset.sum_add_distrib]
  rw [sum_bar, sum_rcv, sum_rcv, sum_rcv]

theorem iR_own {a : Fin 3} {c : Dev nD} {g : GSem nD τ sig} (h : g.1 ≠ (c : Thread nD τ)) : iR a c g = 0 := by
  refine Finsupp.ext fun u => ?_
  by_contra hz
  obtain ⟨p, -, e⟩ := tally_sum_pos (Nat.pos_of_ne_zero hz)
  exact h (congrArg Prod.fst e)

theorem iAll_own (c : Dev nD) (g : GSem nD τ sig) (h : iAll c g ≠ 0) : g.1 = (c : Thread nD τ) := by
  by_contra hg
  refine h ?_
  unfold iAll
  rw [Pi.add_apply, Pi.add_apply, Pi.add_apply, iR_own hg, iR_own hg, iR_own hg, tallyAt_ne_cell (fun e => hg (congrArg Prod.fst e)), add_zero, add_zero, add_zero]

theorem cred_all {ι : Type} [DecidableEq ι] (s : Finset ι) (f : ι → CellTallies nD τ sig Unit) :
    (cred (∑ p ∈ s, f p) : sProp 𝕄) ⊢ bigSep s fun p => cred (f p) := by
  induction s using Finset.induction_on with
  | empty => rw [Finset.sum_empty, cred_zero, bigSep_none]
  | insert i s hi ih =>
    rw [Finset.sum_insert hi, bigSep_cons hi]
    exact (cred_add _ _).1.trans (sep_mono_right ih)

/-- The credit of exchange `a`. -/
def credA (a : Fin 3) (c : Dev nD) : sProp 𝕄 := bigSep (others c) fun p => cred (tallyAt (cellD c (rcv a p)) () (NA a))

theorem launch_creds (c : Dev nD) :
    (Pipeline.launchCred O₀ c : sProp 𝕄) ⊢ iprop(cred (tallyAt (cellB c) () 31) ∗ credA 0 c ∗ credA 1 c ∗ credA 2 c) := by
  rw [Pipeline.launchCred_of_sum O₀ iAll sum_all iAll_own c]
  unfold iAll credA
  refine (cred_add _ _).1.trans (sep_mono_right ((cred_add _ _).1.trans ?_))
  exact BI.sep_mono (cred_all _ _) ((cred_add _ _).1.trans (BI.sep_mono (cred_all _ _) (cred_all _ _)))

/-! ## The rights to pay -/

abbrev TokIx : Type := Fin 7 ⊕ (Dev nD × (Unit ⊕ (Fin 3 ⊕ Fin 3)))

/-- The duties that device `c` pays: its local copies'; to each device `p` its barrier's, its own send semaphore's and the
    receive semaphore's there. -/
def tokOf : Dev nD × TokIx → GSem nD τ sig × ℕ × Dev nD
  | (c, .inl k) => (cellD c (lcl k), 0, c)
  | (c, .inr (p, .inl _)) => (cellB p, 0, c)
  | (c, .inr (p, .inr (.inl a))) => (cellD c (snd a p), 0, c)
  | (c, .inr (p, .inr (.inr a))) => (cellD p (rcv a c), 0, c)

/-- Which duty a triple is. -/
def tokIx (x : GSem nD τ sig × ℕ × Dev nD) : Dev nD × TokIx :=
  match role x.1.2 with
  | .none => (x.2.2, .inl 0)
  | .bar => (x.2.2, .inr (x.1.1.1, .inl ()))
  | .lcl k => (x.2.2, .inl k)
  | .snd a p => (x.2.2, .inr (p, .inr (.inl a)))
  | .rcv a _ => (x.2.2, .inr (x.1.1.1, .inr (.inr a)))

theorem tokIx_tokOf : Function.LeftInverse tokIx tokOf := by
  rintro ⟨c, k | ⟨p, _ | a | a⟩⟩
  · unfold tokIx tokOf; dsimp only; rw [role_lcl]
  · rfl
  · unfold tokIx tokOf; dsimp only; rw [role_snd]
  · unfold tokIx tokOf; dsimp only; rw [role_rcv]

def allToks : Finset (GSem nD τ sig × ℕ × Dev nD) := Finset.univ.map ⟨tokOf, tokIx_tokOf.injective⟩

/-- What device `c` gets of them. -/
def toksOf (c : Dev nD) : sProp 𝕄 :=
  iprop((bigSep Finset.univ fun k : Fin 7 => dutyTok ER (cellD c (lcl k)) 0 c) ∗ (bigSep (others c) fun p => dutyTok ER (cellB p) 0 c)
    ∗ (sendTok 0 c ∗ sendTok 1 c ∗ sendTok 2 c))

theorem toks_deal : (bigSep allToks fun x => (dutyTok ER x.1 x.2.1 x.2.2 : sProp 𝕄)) ⊢ bigSep Finset.univ (toksOf (F := F)) := by
  unfold allToks
  rw [BI.bigSep_map, BI.bigSep_univ_prod]
  refine BI.bigSep_mono fun c _ => ?_
  rw [BI.bigSep_univ_sum, BI.bigSep_univ_prod]
  unfold toksOf
  refine BI.sep_mono (BI.Entails.refl _) ((BI.bigSep_subset (Finset.erase_subset c _)).trans ?_)
  have e : ∀ p : Dev nD, (bigSep Finset.univ fun b : Unit ⊕ (Fin 3 ⊕ Fin 3) => (dutyTok ER (tokOf (c, .inr (p, b))).1 (tokOf (c, .inr (p, b))).2.1 (tokOf (c, .inr (p, b))).2.2 : sProp 𝕄))
      ⊢ iprop(dutyTok ER (cellB p) 0 c ∗ (dutyTok ER (cellD c (snd 0 p)) 0 c ∗ dutyTok ER (cellD p (rcv 0 c)) 0 c)
        ∗ (dutyTok ER (cellD c (snd 1 p)) 0 c ∗ dutyTok ER (cellD p (rcv 1 c)) 0 c) ∗ (dutyTok ER (cellD c (snd 2 p)) 0 c ∗ dutyTok ER (cellD p (rcv 2 c)) 0 c)) := by
    intro p
    rw [BI.bigSep_univ_sum, BI.bigSep_univ_sum, fin_three, fin_three, Finset.univ_unique, BI.bigSep_singleton]
    refine (?_ : iprop(dutyTok ER (cellB p) 0 c ∗ (dutyTok ER (cellD c (snd 0 p)) 0 c ∗ dutyTok ER (cellD c (snd 1 p)) 0 c ∗ dutyTok ER (cellD c (snd 2 p)) 0 c)
        ∗ (dutyTok ER (cellD p (rcv 0 c)) 0 c ∗ dutyTok ER (cellD p (rcv 1 c)) 0 c ∗ dutyTok ER (cellD p (rcv 2 c)) 0 c)) ⊢ _)
    iintro ⟨HB, ⟨H0, H1, H2⟩, G0, G1, G2⟩
    isplitl [HB]; · iexact HB
    isplitl [H0 G0]; · isplitl [H0]; · iexact H0
                       iexact G0
    isplitl [H1 G1]; · isplitl [H1]; · iexact H1
                       iexact G1
    isplitl [H2]; · iexact H2
    iexact G2
  refine (BI.bigSep_mono fun p _ => e p).trans ?_
  unfold sendTok
  exact (Entails.of_eq (bigSep_two _ _ _)).trans (BI.sep_mono (BI.Entails.refl _) ((Entails.of_eq (bigSep_two _ _ _)).trans
    (BI.sep_mono (BI.Entails.refl _) (Entails.of_eq (bigSep_two _ _ _)))))

end Cert.KernelIdeal.Mesh
-- ==== Proof.KI.Close.lean ====
/-
  The kernel's own semaphores on a device: opened at the kernel's entry, closed with their counters at zero before it returns.
-/
module

public import proofs.«01_k».proof.Proof.KI.Deal

@[expose] public section

noncomputable section

namespace Cert.KernelIdeal.Mesh

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) {K : GSem nD τ sig → ℕ} {c : Dev nD}

/-! ## Opening -/

/-- What the launch tells every device: the invariants of all cells, and that the barriers' first round is on. -/
def known (K : GSem nD τ sig → ℕ) : sProp 𝕄 :=
  iprop((bigSep Finset.univ fun p : Dev nD => cellInv ER (Rd m) (K (cellB p)) (cellB p))
    ∗ (bigSep Finset.univ fun p : Dev nD => reached ER (cellB p) 0)
    ∗ bigSep Finset.univ fun p : Dev nD => bigSep Finset.univ fun k : Fin 199 => cellInv ER (Rd m) (K ((p : Thread nD τ), osem k)) ((p : Thread nD τ), osem k))

instance known_persistent (K : GSem nD τ sig → ℕ) : BI.Persistent (known m K) := by unfold known; infer_instance

/-- The credit a device starts with. -/
def creds (c : Dev nD) : sProp 𝕄 := iprop(cred (tallyAt (cellB c) () 31) ∗ credA 0 c ∗ credA 1 c ∗ credA 2 c)

/-- What device `c` takes from the launch to the kernel, -/
def Tk (c : Dev nD) : sProp 𝕄 :=
  iprop(∃ K, known m K ∗ atPos ER (cellB c) 0 ∅ 0 ∗ (bigSep Finset.univ fun k : Fin 199 => openTok ER ((c : Thread nD τ), osem k)) ∗ toksOf c ∗ creds c)
/-- and what it has once its own semaphores are open. -/
def Xk (c : Dev nD) : sProp 𝕄 :=
  iprop(∃ K, ctx m K c ∗ atPos ER (cellB c) 0 ∅ 0 ∗ (bigSep Finset.univ fun k : Fin 199 => atPos ER ((c : Thread nD τ), osem k) 0 ∅ 0) ∗ toksOf c ∗ creds c)

variable {m}

theorem known_inv (k : Fin 199) : known m K ⊢ cellInv ER (Rd m) (K ((c : Thread nD τ), osem k)) ((c : Thread nD τ), osem k) := by
  unfold known
  exact Laws.sep_elim_right.trans (Laws.sep_elim_right.trans ((bigSep_elim (Finset.mem_univ c)).trans (bigSep_elim (Finset.mem_univ k))))

theorem open_one (k : Fin 199) :
    iprop(known m K ∗ openTok ER ((c : Thread nD τ), osem k) ∗ semVal ((c : Thread nD τ), osem k) 0)
      ⊢ iprop(|={Set.univ}=> (atPos ER ((c : Thread nD τ), osem k) 0 ∅ 0 ∗ reached ER ((c : Thread nD τ), osem k) 0)) := by
  iintro ⟨#HK, Ho, Hv⟩
  iapply (Rounds.cell_open ER (Rd m) (g := ((c : Thread nD τ), osem k)) (Set.mem_univ (K ((c : Thread nD τ), osem k))))
  isplitr; · iapply (known_inv (c := c) k); iexact HK
  isplitl [Ho] <;> iassumption

theorem open_all (c : Dev nD) :
    iprop(known m K ∗ (bigSep Finset.univ fun k : Fin 199 => openTok ER ((c : Thread nD τ), osem k)) ∗ Pipeline.ownSems0 osem c)
      ⊢ iprop(|={Set.univ}=> ((bigSep Finset.univ fun k : Fin 199 => atPos ER ((c : Thread nD τ), osem k) 0 ∅ 0)
        ∗ bigSep Finset.univ fun k : Fin 199 => reached ER ((c : Thread nD τ), osem k) 0)) := by
  unfold Pipeline.ownSems0
  refine (sep_mono_right (Entails.of_eq (bigSep_two _ _ _).symm)).trans ?_
  refine (bigSep_with_persistent fun k _ => open_one k).trans ?_
  refine (BI.bigSep_fupd _ _).trans (fupd_mono ?_)
  exact Entails.of_eq (bigSep_two _ _ _)

/-- Entering the kernel, a device opens its own semaphores. -/
theorem opening (c : Dev nD) : iprop(Tk m c ∗ Pipeline.ownSems0 osem c ∗ levAts L lv) ⊢ (|={Set.univ}=> Xk m c : sProp 𝕄) := by
  unfold Tk Xk
  iintro ⟨⟨%K, #HK, Hb, Ho, Ht, Hc⟩, Hs, #HL⟩
  imod (open_all (m := m) (K := K) c) $$ [Ho Hs] with ⟨Hat, #Hr⟩
  · isplitr; · iexact HK
    isplitl [Ho] <;> iassumption
  imodintro
  iexists K
  isplitr
  · unfold known ctx
    icases HK with ⟨#H1, #H2, #H3⟩
    isplitr; · iexact HL
    isplitr; · iexact H1
    isplitr; · iexact H2
    isplitr; · iexact H3
    iexact Hr
  isplitl [Hb]; · iexact Hb
  isplitl [Hat]; · iexact Hat
  isplitl [Ht] <;> iassumption

/-! ## Closing -/

variable (m) in
/-- A position with no duty at it or after it. -/
def closable (g : GSem nD τ sig) : sProp 𝕄 := iprop(∃ R, ⌜∀ r, R ≤ r → (Rd (F := F) m).duties g r = ∅⌝ ∗ atPos ER g R ∅ 0)

theorem close_one {κ : ℕ} {g : GSem nD τ sig} : iprop(cellInv ER (Rd m) κ g ∗ closable m g) ⊢ (|={Set.univ}=> semVal g 0 : sProp 𝕄) := by
  unfold closable
  iintro ⟨#HI, ⟨%R, %hR, Hat⟩⟩
  iapply (Rounds.cell_close ER (Rd m) (Set.mem_univ κ) id hR)
  isplitr; · iexact HI
  iexact Hat

theorem close_own (c : Dev nD) :
    iprop(ctx m K c ∗ bigSep Finset.univ fun k : Fin 199 => closable m ((c : Thread nD τ), osem k)) ⊢ (|={Set.univ}=> Pipeline.ownSems0 osem c : sProp 𝕄) := by
  unfold Pipeline.ownSems0
  refine (bigSep_with_persistent fun k _ => ?_).trans (BI.bigSep_fupd _ _)
  exact (sep_mono_left (ctx_invK c k)).trans close_one

theorem past_closable (g : GSem nD τ sig) : atPos ER g 1 ∅ 0 ⊢ closable m g := by
  unfold closable
  iintro H
  iexists 1
  isplitr; · ipureintro; exact duties_later m g
  iexact H

theorem idle_closable (g : GSem nD τ sig) (h : (Rd (F := F) m).duties g 0 = ∅) : atPos ER g 0 ∅ 0 ⊢ closable m g := by
  unfold closable
  iintro H
  iexists 0
  isplitr
  · ipureintro
    intro r _
    rcases Nat.eq_zero_or_pos r with rfl | hr
    · exact h
    · exact duties_later m g r hr
  iexact H

/-- A device's positions on the send or receive semaphores of one exchange, its own among them: all can be closed. -/
theorem fan_closable (k : Dev nD → DmaSem sig) (h : (Rd (F := F) m).duties (cellD c (k c)) 0 = ∅) :
    iprop(atPos ER (cellD c (k c)) 0 ∅ 0 ∗ pastW k c) ⊢ bigSep Finset.univ fun p : Dev nD => closable m (cellD c (k p)) := by
  rw [own_others c]
  unfold pastW
  exact BI.sep_mono (idle_closable _ h) (BI.bigSep_mono fun p _ => past_closable _)

/-- The positions on the semaphores that a device would use to copy to itself: it makes no such copy. -/
def selfPos (c : Dev nD) : sProp 𝕄 :=
  iprop((atPos ER (cellD c (snd 0 c)) 0 ∅ 0 ∗ atPos ER (cellD c (rcv 0 c)) 0 ∅ 0) ∗ (atPos ER (cellD c (snd 1 c)) 0 ∅ 0 ∗ atPos ER (cellD c (rcv 1 c)) 0 ∅ 0)
    ∗ (atPos ER (cellD c (snd 2 c)) 0 ∅ 0 ∗ atPos ER (cellD c (rcv 2 c)) 0 ∅ 0))

/-- The positions on the local copies' semaphores in round `R`. -/
def lclPos (c : Dev nD) (R : ℕ) : sProp 𝕄 :=
  iprop(atPos ER (cellD c (lcl 0)) R ∅ 0 ∗ atPos ER (cellD c (lcl 1)) R ∅ 0 ∗ atPos ER (cellD c (lcl 2)) R ∅ 0 ∗ atPos ER (cellD c (lcl 3)) R ∅ 0
    ∗ atPos ER (cellD c (lcl 4)) R ∅ 0 ∗ atPos ER (cellD c (lcl 5)) R ∅ 0 ∗ atPos ER (cellD c (lcl 6)) R ∅ 0)

/-- At the start: the positions on a device's own semaphores, by purpose. -/
theorem pos_split (c : Dev nD) : (bigSep Finset.univ fun k : Fin 199 => (atPos ER ((c : Thread nD τ), osem k) 0 ∅ 0 : sProp 𝕄))
    ⊢ iprop(lclPos c 0 ∗ selfPos c ∗ (posW (rcv 0) c ∗ posW (rcv 1) c ∗ posW (rcv 2) c) ∗ (posW (snd 0) c ∗ posW (snd 1) c ∗ posW (snd 2) c)) := by
  rw [own_split c (fun g => (atPos ER g 0 ∅ 0 : sProp 𝕄)), fin_seven, fin_three]
  simp only [own_others c]
  unfold lclPos selfPos posW
  iintro ⟨HL, ⟨⟨Hs0, HS0⟩, Hr0, HR0⟩, ⟨⟨Hs1, HS1⟩, Hr1, HR1⟩, ⟨Hs2, HS2⟩, Hr2, HR2⟩
  isplitl [HL]; · iexact HL
  isplitl [Hs0 Hr0 Hs1 Hr1 Hs2 Hr2]
  · isplitl [Hs0 Hr0]; · isplitl [Hs0] <;> iassumption
    isplitl [Hs1 Hr1]; · isplitl [Hs1] <;> iassumption
    isplitl [Hs2] <;> iassumption
  isplitl [HR0 HR1 HR2]
  · isplitl [HR0]; · iexact HR0
    isplitl [HR1] <;> iassumption
  isplitl [HS0]; · iexact HS0
  isplitl [HS1] <;> iassumption

/-- At the end they can all be closed. -/
theorem pos_join (c : Dev nD) :
    iprop(lclPos c 1 ∗ selfPos c ∗ (pastW (rcv 0) c ∗ pastW (rcv 1) c ∗ pastW (rcv 2) c) ∗ (pastW (snd 0) c ∗ pastW (snd 1) c ∗ pastW (snd 2) c))
      ⊢ (bigSep Finset.univ fun k : Fin 199 => closable m ((c : Thread nD τ), osem k) : sProp 𝕄) := by
  rw [own_split c (fun g => closable m g), fin_three]
  have hl : lclPos c 1 ⊢ (bigSep Finset.univ fun k : Fin 7 => closable m (cellD c (lcl k)) : sProp 𝕄) := by
    refine (Entails.of_eq (fin_seven fun k => (atPos ER (cellD c (lcl k)) 1 ∅ 0 : sProp 𝕄)).symm).trans ?_
    exact BI.bigSep_mono fun k _ => past_closable _
  unfold selfPos
  refine (?_ : _ ⊢ iprop((bigSep Finset.univ fun k : Fin 7 => closable m (cellD c (lcl k)))
    ∗ ((bigSep Finset.univ fun p : Dev nD => closable m (cellD c (snd 0 p))) ∗ bigSep Finset.univ fun p : Dev nD => closable m (cellD c (rcv 0 p)))
    ∗ ((bigSep Finset.univ fun p : Dev nD => closable m (cellD c (snd 1 p))) ∗ bigSep Finset.univ fun p : Dev nD => closable m (cellD c (rcv 1 p)))
    ∗ ((bigSep Finset.univ fun p : Dev nD => closable m (cellD c (snd 2 p))) ∗ bigSep Finset.univ fun p : Dev nD => closable m (cellD c (rcv 2 p)))))
  iintro ⟨HL, ⟨⟨Hs0, Hr0⟩, ⟨Hs1, Hr1⟩, Hs2, Hr2⟩, ⟨HR0, HR1, HR2⟩, HS0, HS1, HS2⟩
  isplitl [HL]; · iapply hl; iexact HL
  isplitl [Hs0 Hr0 HS0 HR0]
  · isplitl [Hs0 HS0]
    · iapply (fan_closable (snd 0) (duties_snd_self m c 0)); isplitl [Hs0] <;> iassumption
    · iapply (fan_closable (rcv 0) (duties_rcv_self m c 0)); isplitl [Hr0] <;> iassumption
  isplitl [Hs1 Hr1 HS1 HR1]
  · isplitl [Hs1 HS1]
    · iapply (fan_closable (snd 1) (duties_snd_self m c 1)); isplitl [Hs1] <;> iassumption
    · iapply (fan_closable (rcv 1) (duties_rcv_self m c 1)); isplitl [Hr1] <;> iassumption
  isplitl [Hs2 HS2]
  · iapply (fan_closable (snd 2) (duties_snd_self m c 2)); isplitl [Hs2] <;> iassumption
  · iapply (fan_closable (rcv 2) (duties_rcv_self m c 2)); isplitl [Hr2] <;> iassumption

/-- The barrier of a device, closed once its round is over. -/
theorem close_bar (c : Dev nD) : iprop(ctx m K c ∗ atPos ER (cellB c) 1 ∅ 0) ⊢ (|={Set.univ}=> semVal (cellB c) 0 : sProp 𝕄) :=
  (BI.sep_mono (ctx_invB c) (past_closable _)).trans close_one

end Cert.KernelIdeal.Mesh

end
-- ==== Proof.KI.Entry.lean ====
/-
  The kernel's body between what a device holds on entering the kernel and what it holds on leaving it.
-/
module

public import proofs.«01_k».proof.Proof.KI.Close

@[expose] public section

noncomputable section

namespace Cert.KernelIdeal.Mesh

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : GSem nD τ sig → ℕ} {c : Dev nD}

/-! ## Buffers cut up -/

theorem take {b : Ref sig .tc} {f : b.ty.Contents (Elt F)} {S T : Finset b.ty.shape.Idx} (h : S ⊆ T) : ptS c b T f ⊢ iprop(ptS c b S f ∗ ptS c b (T \ S) f) :=
  (pointsTo_split_subset h).1

theorem src_sub {p : ℕ} : srcSet 1 p ⊆ Finset.univ \ srcSet 0 p := fun i hi => by
  have h := (mem_srcSet.1 hi).1
  refine Finset.mem_sdiff.2 ⟨Finset.mem_univ _, fun h' => ?_⟩
  have h2 := (mem_srcSet.1 h').1
  omega

theorem cut_v1 (f : (main_v1 : Ref sig .tc).ty.Contents (Elt F)) : pt c main_v1 f ⊢ iprop(ptS c main_v1 (srcSet 0 c.val) f ∗ ptS c main_v1 (srcSet 1 c.val) f) :=
  (take (b := main_v1) (Finset.subset_univ (srcSet 0 c.val))).trans (sep_mono_right ((take (b := main_v1) src_sub).trans Laws.sep_elim_left))
theorem cut_v2 (f : (main_v2 : Ref sig .tc).ty.Contents (Elt F)) : pt c main_v2 f ⊢ iprop(ptS c main_v2 (srcSet 0 c.val) f ∗ ptS c main_v2 (srcSet 1 c.val) f) :=
  (take (b := main_v2) (Finset.subset_univ (srcSet 0 c.val))).trans (sep_mono_right ((take (b := main_v2) src_sub).trans Laws.sep_elim_left))

/-- Pieces of a buffer, no two of which meet. -/
theorem take_rd {t b : ℕ} {T : Finset S2x2x8x64x128.Idx} {f : (cc0_scratch3 : Ref sig .tc).ty.Contents (Elt F)} (h : ∀ i : S2x2x8x64x128.Idx, (i 0).val = t → (i 1).val = b → i ∈ T) :
    ptS c cc0_scratch3 T f ⊢ iprop((∃ f, ptS c cc0_scratch3 (rdSet t b) f) ∗ ptS c cc0_scratch3 (T \ rdSet t b) f) := by
  refine (take (b := cc0_scratch3) (S := rdSet t b) fun i hi => h i (mem_rdSet.1 hi).1 (mem_rdSet.1 hi).2).trans (sep_mono_left ?_)
  iintro H
  iexists f
  iexact H

theorem cut_rd : (iprop(∃ f, pt c cc0_scratch3 f) : sProp 𝕄)
    ⊢ iprop((∃ f, ptS c cc0_scratch3 (rdSet 0 0) f) ∗ (∃ f, ptS c cc0_scratch3 (rdSet 0 1) f) ∗ (∃ f, ptS c cc0_scratch3 (rdSet 1 0) f) ∗ ∃ f, ptS c cc0_scratch3 (rdSet 1 1) f) := by
  iintro ⟨%f, H⟩
  ihave H := (take_rd (t := 0) (b := 0) (T := Finset.univ) (f := f) fun i _ _ => Finset.mem_univ i) $$ H
  icases H with ⟨H0, H⟩
  isplitl [H0]; · iexact H0
  ihave H := (take_rd (t := 0) (b := 1) (f := f) fun i h0 h1 => by simp [mem_rdSet, h0, h1]) $$ H
  icases H with ⟨H1, H⟩
  isplitl [H1]; · iexact H1
  ihave H := (take_rd (t := 1) (b := 0) (f := f) fun i h0 h1 => by simp [mem_rdSet, h0, h1]) $$ H
  icases H with ⟨H2, H⟩
  isplitl [H2]; · iexact H2
  ihave H := (take_rd (t := 1) (b := 1) (f := f) fun i h0 h1 => by simp [mem_rdSet, h0, h1]) $$ H
  icases H with ⟨H3, -⟩
  iexact H3

/-- The three buffers that other devices write to: one's own slot of each, and the slots handed out at the barrier. -/
theorem cut_slots (a : Fin 3) (b : Ref sig .tc) (S : Dev nD → Finset b.ty.shape.Idx) (hc : ∀ i, ∃ p, i ∈ S p) (hd : ∀ p p' i, i ∈ S p → i ∈ S p' → p = p')
    (ha : ∀ p, (anyP (F := F) a c p) = iprop(∃ f, ptS c b (S p) f)) : (iprop(∃ f, pt c b f) : sProp 𝕄) ⊢ iprop((∃ f, ptS c b (S c) f) ∗ bigSep (others c) (anyP a c)) := by
  iintro ⟨%f, H⟩
  ihave H := (Entails.of_eq (slots_eq b f S hc hd)) $$ H
  icases H with ⟨H0, H⟩
  isplitl [H0]
  · iexists f; iexact H0
  have h : (bigSep (others c) fun p => ptS c b (S p) f : sProp 𝕄) ⊢ bigSep (others c) (anyP a c) := BI.bigSep_mono fun p _ => by
    rw [ha p]
    refine (?_ : ptS c b (S p) f ⊢ (iprop(∃ f, ptS c b (S p) f) : sProp 𝕄))
    iintro H
    iexists f
    iexact H
  iapply h
  iexact H

/-- What a device's signals hand out. -/
theorem bar_in (c : Dev nD) : iprop(ctx m K c ∗ (bigSep (others c) (anyP 0 c) ∗ bigSep (others c) (anyP 1 c) ∗ bigSep (others c) (anyP 2 c))
      ∗ bigSep (others c) fun p => dutyTok ER (cellB p) 0 c) ⊢ bigSep (others c) (barIn c) := by
  refine (sep_mono_right (Entails.of_eq ?_)).trans (bigSep_with_persistent
    (Φ := fun p => iprop((anyP 0 c p ∗ anyP 1 c p ∗ anyP 2 c p) ∗ dutyTok ER (cellB p) 0 c)) fun p _ => ?_)
  · rw [bigSep_two (others c) (fun p => iprop(anyP 0 c p ∗ anyP 1 c p ∗ anyP 2 c p)) (fun p => dutyTok ER (cellB p) 0 c),
      bigSep_two (others c) (anyP 0 c) (fun p => iprop(anyP 1 c p ∗ anyP 2 c p)), bigSep_two (others c) (anyP 1 c) (anyP 2 c)]
  · unfold barIn barP
    iintro ⟨#HC, HA, HT⟩
    isplitr [HT]
    · isplitl [HA]; · iexact HA
      isplitr; · iapply (ctx_reached (rcv 0 p) (rcv_ne 0 p)); iexact HC
      isplitr; · iapply (ctx_reached (rcv 1 p) (rcv_ne 1 p)); iexact HC
      iapply (ctx_reached (rcv 2 p) (rcv_ne 2 p)); iexact HC
    iexact HT

theorem ready (a : Fin 3) (c : Dev nD) : iprop(credA a c ∗ posW (rcv a) c) ⊢ (readyW (rcv a) (NA a) c : sProp 𝕄) := by
  unfold credA posW readyW
  exact BI.Entails.refl _

/-! ## Entering -/

/-- The buffers of the kernel's scratch memory, whatever they hold. -/
def scratch (c : Dev nD) : sProp 𝕄 :=
  iprop((∃ f, pt c cc0_scratch0 f) ∗ (∃ f, pt c cc0_scratch1 f) ∗ (∃ f, pt c cc0_scratch2 f) ∗ (∃ f, pt c cc0_scratch3 f) ∗ (∃ f, pt c cc0_scratch4 f)
    ∗ (∃ f, pt c cc0_scratch5 f) ∗ (∃ f, pt c cc0_scratch6 f) ∗ (∃ f, pt c cc0_scratch7 f) ∗ ∃ f, pt c cc0_scratch8 f)

variable (m c) in
/-- The arguments, as they were, -/
def argPts : sProp 𝕄 :=
  iprop(pt c main_arg0 (V m c main_arg0) ∗ pt c main_arg1 (V m c main_arg1) ∗ pt c main_arg2 (V m c main_arg2) ∗ pt c main_arg3 (V m c main_arg3)
    ∗ pt c main_arg4 (V m c main_arg4))

variable (m c) in
/-- with the two transposed ones. -/
def inPts : sProp 𝕄 :=
  iprop(pt c main_arg0 (V m c main_arg0) ∗ pt c main_arg1 (V m c main_arg1) ∗ pt c main_arg2 (V m c main_arg2) ∗ pt c main_arg3 (V m c main_arg3)
    ∗ pt c main_arg4 (V m c main_arg4) ∗ pt c main_v1 (V m c main_v1) ∗ pt c main_v2 (V m c main_v2))

variable (m c) in
/-- What no part of the body touches. -/
def Aside : sProp 𝕄 := iprop(selfPos c ∗ pt c main_arg2 (V m c main_arg2) ∗ pt c main_arg3 (V m c main_arg3))

theorem entering (c : Dev nD) :
    iprop(Xk m c ∗ inPts m c ∗ scratch c ∗ (∃ W, owes (c : Thread nD τ) (O₀ c) W) ∗ ∃ f, pt c outR f) ⊢ iprop(∃ K, BodyPre m K c ∗ Aside m c) := by
  unfold Xk inPts scratch creds toksOf
  rw [fin_seven fun k => (dutyTok ER (cellD c (lcl k)) 0 c : sProp 𝕄)]
  iintro ⟨⟨%K, #HC, Ha, Hp, ⟨⟨L0, L1, L2, L3, L4, L5, L6⟩, HT, T⟩, Hc, C0, C1, C2⟩, ⟨A0, A1, A2, A3, A4, V1, V2⟩, ⟨S0, S1, S2, S3, S4, S5, S6, S7, S8⟩, HW, HO⟩
  iexists K
  ihave Hp := (pos_split c) $$ Hp
  icases Hp with ⟨HL, Hself, ⟨R0, R1, R2⟩, P⟩
  ihave V1 := (cut_v1 _) $$ V1
  icases V1 with ⟨V10, V11⟩
  ihave V2 := (cut_v2 _) $$ V2
  icases V2 with ⟨V20, V21⟩
  ihave S3 := cut_rd $$ S3
  icases S3 with ⟨S30, S31, S32, S33⟩
  ihave S5 := (cut_slots 0 cc0_scratch5 (fun p => slot256 p.val) slot256_mem slot256_one fun _ => rfl) $$ S5
  icases S5 with ⟨S5, B0⟩
  ihave S7 := (cut_slots 1 cc0_scratch7 (fun p => slot512 p.val) slot512_mem slot512_one fun _ => rfl) $$ S7
  icases S7 with ⟨S7, B1⟩
  ihave HO := (cut_slots 2 outR (fun p => chunk p.val) chunk_mem chunk_one fun _ => rfl) $$ HO
  icases HO with ⟨HO, B2⟩
  ihave HB := (bar_in (m := m) (K := K) c) $$ [B0 B1 B2 HT]
  · isplitr; · iexact HC
    isplitr [HT]
    · isplitl [B0]; · iexact B0
      isplitl [B1] <;> iassumption
    iexact HT
  ihave R0 := (ready 0 c) $$ [C0 R0]
  · isplitl [C0] <;> iassumption
  ihave R1 := (ready 1 c) $$ [C1 R1]
  · isplitl [C1] <;> iassumption
  ihave R2 := (ready 2 c) $$ [C2 R2]
  · isplitl [C2] <;> iassumption
  unfold BodyPre Aside lclIn lclPos
  isplitl [HW A0 S0 L0 A1 S1 L1 A4 S2 L2 V10 S30 L3 V11 S31 L4 V20 S32 L5 V21 S33 L6 HL HB Hc Ha S4 S6 S8 S5 S7 HO T R0 R1 R2 P]
  · isplitr; · iexact HC
    isplitl [HW]; · iexact HW
    isplitl [A0 S0 L0 A1 S1 L1 A4 S2 L2 V10 S30 L3 V11 S31 L4 V20 S32 L5 V21 S33 L6]
    · isplitl [A0 S0 L0]
      · isplitl [A0 S0]
        · isplitl [A0]; · iexact A0
          iexact S0
        iexact L0
      isplitl [A1 S1 L1]
      · isplitl [A1 S1]
        · isplitl [A1]; · iexact A1
          iexact S1
        iexact L1
      isplitl [A4 S2 L2]
      · isplitl [A4 S2]
        · isplitl [A4]; · iexact A4
          iexact S2
        iexact L2
      isplitl [V10 S30 L3]
      · isplitl [V10 S30]
        · isplitl [V10]; · iexact V10
          iexact S30
        iexact L3
      isplitl [V11 S31 L4]
      · isplitl [V11 S31]
        · isplitl [V11]; · iexact V11
          iexact S31
        iexact L4
      isplitl [V20 S32 L5]
      · isplitl [V20 S32]
        · isplitl [V20]; · iexact V20
          iexact S32
        iexact L5
      isplitl [V21 S33]
      · isplitl [V21]; · iexact V21
        iexact S33
      iexact L6
    isplitl [HL]; · iexact HL
    isplitl [HB]; · iexact HB
    isplitl [Hc Ha]
    · isplitl [Hc]; · iexact Hc
      iexact Ha
    isplitl [S4 S6 S8]
    · isplitl [S4]; · iexact S4
      isplitl [S6]; · iexact S6
      iexact S8
    isplitl [S5 S7 HO]
    · isplitl [S5]; · iexact S5
      isplitl [S7]; · iexact S7
      iexact HO
    isplitl [T]; · iexact T
    isplitl [R0 R1 R2]
    · isplitl [R0]; · iexact R0
      isplitl [R1]; · iexact R1
      iexact R2
    iexact P
  isplitl [Hself]; · iexact Hself
  isplitl [A2]; · iexact A2
  iexact A3

/-! ## Leaving -/

theorem any_of {b : Ref sig .tc} (f : b.ty.Contents (Elt F)) : pt c b f ⊢ (iprop(∃ f, pt c b f) : sProp 𝕄) := by
  iintro H
  iexists f
  iexact H

theorem leaving (c : Dev nD) : iprop(BodyPost m K c ∗ Aside m c)
    ⊢ (|={Set.univ}=> ((argPts m c ∗ semVal (cellB c) 0) ∗ Pipeline.ownSems0 osem c ∗ scratch c ∗ (∃ W, owes (c : Thread nD τ) 0 W) ∗ pt c outR (res m)) : sProp 𝕄) := by
  unfold BodyPost Ended InsSt Aside
  iintro ⟨⟨⟨#HC, HW⟩, P2, S8, ⟨R, ⟨P0, P1⟩, Ha, ⟨L3, L4, L5, L6⟩, ⟨⟨S0, S1, S2⟩, ⟨A0, A1, A4⟩, ⟨L0, L1, L2⟩⟩, -, -, S3, S4, S5, S6, S7, HO⟩⟩, Hself, A2, A3⟩
  imod (close_bar (m := m) (K := K) c) $$ [Ha] with Hb
  · isplitr; · iexact HC
    iexact Ha
  ihave Hp := (pos_join (m := m) c) $$ [L0 L1 L2 L3 L4 L5 L6 Hself R P0 P1 P2]
  · unfold lclPos
    isplitl [L0 L1 L2 L3 L4 L5 L6]
    · isplitl [L0]; · iexact L0
      isplitl [L1]; · iexact L1
      isplitl [L2]; · iexact L2
      isplitl [L3]; · iexact L3
      isplitl [L4]; · iexact L4
      isplitl [L5]; · iexact L5
      iexact L6
    isplitl [Hself]; · iexact Hself
    isplitl [R]; · iexact R
    isplitl [P0]; · iexact P0
    isplitl [P1]; · iexact P1
    iexact P2
  imod (close_own (m := m) (K := K) c) $$ [Hp] with Hs
  · isplitr; · iexact HC
    iexact Hp
  imodintro
  unfold argPts scratch
  isplitl [A0 A1 A2 A3 A4 Hb]
  · isplitl [A0 A1 A2 A3 A4]
    · isplitl [A0]; · iexact A0
      isplitl [A1]; · iexact A1
      isplitl [A2]; · iexact A2
      isplitl [A3]; · iexact A3
      iexact A4
    iexact Hb
  isplitl [Hs]; · iexact Hs
  isplitl [S0 S1 S2 S3 S4 S5 S6 S7 S8]
  · isplitl [S0]; · iapply (any_of _) $$ S0
    isplitl [S1]; · iapply (any_of _) $$ S1
    isplitl [S2]; · iapply (any_of _) $$ S2
    isplitl [S3]; · iapply (any_of _) $$ S3
    isplitl [S4]; · iapply (any_of _) $$ S4
    isplitl [S5]; · iapply (any_of _) $$ S5
    isplitl [S6]; · iapply (any_of _) $$ S6
    isplitl [S7]; · iapply (any_of _) $$ S7
    iapply (any_of _) $$ S8
  isplitl [HW]; · iexact HW
  iexact HO

/-- The body, from what a device brings to what it takes away. -/
theorem body_run (c : Dev nD) :
    iprop(Xk m c ∗ inPts m c ∗ scratch c ∗ (∃ W, owes (c : Thread nD τ) (O₀ c) W) ∗ ∃ f, pt c outR f)
      ⊢ WP c (onMem cc0_body) fun _ => iprop((argPts m c ∗ semVal (cellB c) 0) ∗ Pipeline.ownSems0 osem c ∗ scratch c ∗ (∃ W, owes (c : Thread nD τ) 0 W) ∗ pt c outR (res m)) := by
  refine (entering c).trans ?_
  iintro ⟨%K, H⟩
  iapply (wp_fupd _ _ _)
  iapply ((frameR (R := Aside m c) (body_all (m := m) (K := K) (c := c))).trans (wp_mono _ _ _ fun _ => leaving c)) $$ H

end Cert.KernelIdeal.Mesh

end
-- ==== Proof.KI.Region.lean ====
/-
  The kernel as one region of @main: what it is entered with, what it leaves.
-/
module

public import proofs.«01_k».proof.Proof.KI.Entry
public import proofs.«01_k».proof.Proof.Gen.KernelIdeal.Frame

@[expose] public section

noncomputable section

namespace Cert.KernelIdeal.Mesh

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The region's data -/

/-- What the body finds beside its output window, and what it leaves there. -/
def PhiIn (c : Dev nD) : sProp 𝕄 := iprop(Xk m c ∗ inPts m c ∗ scratch c)
def PhiOut (c : Dev nD) : sProp 𝕄 := iprop((argPts m c ∗ semVal (cellB c) 0) ∗ Pipeline.ownSems0 osem c ∗ scratch c)

/-- The invariant before the body (`n = 0`) and after it, and what the core owes then. -/
def PhiAt (c : Dev nD) (n : ℕ) : sProp 𝕄 := if n = 0 then PhiIn m c else PhiOut m c
def owedAt (c : Dev nD) (n : ℕ) : CellTallies nD τ sig Unit := if n = 0 then O₀ c else 0
theorem PhiAt_zero (c : Dev nD) : PhiAt m c 0 = PhiIn m c := if_pos rfl
theorem PhiAt_pos (c : Dev nD) {n : ℕ} (h : ¬ n = 0) : PhiAt m c n = PhiOut m c := if_neg h
theorem owedAt_zero (c : Dev nD) : owedAt c 0 = O₀ c := if_pos rfl
theorem owedAt_pos (c : Dev nD) {n : ℕ} (h : ¬ n = 0) : owedAt c n = 0 := if_neg h

/-- The region on device `c`: the output window ends at the result. -/
def dat (c : Dev nD) : Dat τ (Elt F) Unit ℕ UU ℕ cfg0 c where
  A w := V m c (Pipeline.arrRef spec0 w)
  after w _ := match w with | ⟨0, _⟩ => res m
  Φ t := PhiAt m c t.val
  q _ := fullShare
  owed t := owedAt c t.val

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | ⟨0, _⟩ => dat m

variable {m}

theorem last_ne : ¬ (Fin.last cfg0.N).val = 0 := by rw [Fin.val_last, show cfg0.N = 1 from N_0]; decide
theorem succ_ne : ¬ (t0_0.succ : Fin (cfg0.N + 1)).val = 0 := by rw [Fin.val_succ]; exact Nat.succ_ne_zero _

theorem owed_first (c : Dev nD) : (dat m c).owed (0 : Fin (cfg0.N + 1)) = O₀ c := owedAt_zero c
theorem owed_cast (c : Dev nD) : (dat m c).owed (Fin.castSucc t0_0) = O₀ c := owedAt_zero c
theorem owed_succ (c : Dev nD) : (dat m c).owed (Fin.succ t0_0) = 0 := owedAt_pos c succ_ne
theorem owed_last (c : Dev nD) : (dat m c).owed (Fin.last cfg0.N) = 0 := owedAt_pos c last_ne
theorem Phi_first (c : Dev nD) : (dat m c).Φ (0 : Fin (cfg0.N + 1)) = PhiIn m c := PhiAt_zero m c
theorem Phi_cast (c : Dev nD) : (dat m c).Φ (Fin.castSucc t0_0) = PhiIn m c := PhiAt_zero m c
theorem Phi_succ (c : Dev nD) : (dat m c).Φ (Fin.succ t0_0) = PhiOut m c := PhiAt_pos m c succ_ne
theorem Phi_last (c : Dev nD) : (dat m c).Φ (Fin.last cfg0.N) = PhiOut m c := PhiAt_pos m c last_ne

/-- What a core owes, as the region's tally at a point, and back. -/
theorem owes_in {c : Dev nD} (t : Fin (cfg0.N + 1)) (O : CellTallies nD τ sig Unit) (h : (dat m c).owed t = O) :
    iprop(∃ W, owes (c : Thread nD τ) O W) ⊢ ((dat m c).owesAt () t : sProp 𝕄) := by
  unfold Dat.owesAt Pipeline.owesWithin Dat.bound
  rw [h]
  iintro ⟨%W, HO⟩
  iexists W
  isplitr; · ipureintro; exact fun _ _ => Or.inl trivial
  iexact HO
theorem owes_out {c : Dev nD} (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin
  rw [h]
  iintro ⟨%W, -, HO⟩
  iexists W; iexact HO

/-- The body's obligation at the region's one point. -/
theorem body_ok (c : Dev nD) : BodyObligation (dat m c) (defs₀ (F := F)) 𝒱₀ () Set.univ := fun t => by
  obtain rfl : t = t0_0 := fin_N0 t
  rw [bigSep_W0, bigSep_W0, Phi_cast, Phi_succ]
  show iprop(PhiIn m c ∗ (dat m c).owesAt () (Fin.castSucc t0_0) ∗ ∃ d, owns (c : Thread nD τ) (Memref.whole outR) fullShare ((dat m c).before (0 : Fin 1) t0_0 d))
    ⊢ WP c (onMem cc0_body) fun _ => iprop(PhiOut m c ∗ (dat m c).owesAt () (Fin.succ t0_0) ∗ owns (c : Thread nD τ) (Memref.whole outR) fullShare (res m))
  simp only [owns_whole_eq]
  refine BIBase.Entails.trans ?_ ((body_run (m := m) c).trans (wp_mono _ _ _ fun _ => ?_))
  · unfold PhiIn
    iintro ⟨⟨HX, HI, HS⟩, HO, ⟨%d, ⟨%f, -, Hf⟩⟩⟩
    isplitl [HX]; · iexact HX
    isplitl [HI]; · iexact HI
    isplitl [HS]; · iexact HS
    isplitl [HO]; · iapply (owes_out (m := m) _ _ (owed_cast c)) $$ HO
    iexists f; iexact Hf
  · unfold PhiOut
    iintro ⟨HA, HS, Hc, HO, Hf⟩
    isplitl [HA HS Hc]
    · isplitl [HA]; · iexact HA
      isplitl [HS] <;> iassumption
    isplitl [HO]; · iapply (owes_in (m := m) _ _ (owed_succ c)) $$ HO
    iexists _; isplitr; · (ipureintro; rfl)
    iexact Hf

/-! ## The region's segment -/

/-- The output array after the region: the result. -/
theorem arrAt_end (c : Dev nD) : (dat m c).arrAt (0 : Fin 1) cfg0.N = res m := by
  have h1 : (win0_0.blk t0_0).view.read (Elt F) ((dat m c).arrAt (0 : Fin 1) cfg0.N) = res m := by
    rw [show cfg0.N = (t0_0 : Fin cfg0.N).val + 1 from rfl, (dat m c).arrAt_succ (0 : Fin 1) t0_0, if_pos (flush0_0 t0_0)]
    exact View.read_write_univ _ _
  refine Eq.trans ?_ h1
  funext i
  refine congrArg _ (funext fun a => Fin.ext ?_)
  match a with
  | ⟨0, _⟩ => exact ((Nat.zero_add _).trans (Nat.one_mul _)).symm
  | ⟨1, _⟩ => exact ((Nat.zero_add _).trans (Nat.one_mul _)).symm
  | ⟨2, _⟩ => exact ((Nat.zero_add _).trans (Nat.one_mul _)).symm

theorem share_full (c : Dev nD) (w : Fin cfg0.W) : (dat m c).share w = fullShare := by unfold Dat.share; split <;> rfl

/-- The windows' one array as a points-to. -/
theorem arrays_in (c : Dev nD) (G) : ((dat m c).arrays G : sProp 𝕄) = pt c main_v3 (G (0 : Fin 1)) := by
  have := Pipeline.arrays_eq (Pipeline.pin (pcfgs (F := F)) adm) (pdats m) 0 c arr_whole0 (fun w => share_full c w) G
  exact this.trans (bigSep_W0 _)

/-- A device's unscoped buffers: the output array and the rest. -/
theorem unscoped_split (c : Dev nD) (W : Valuation τ sig (Elt F)) :
    (StableHlo.held (c : Thread nD τ) (Pipeline.ucRefs τ sig) W : sProp 𝕄)
      = iprop(pt c main_v3 (W main_v3) ∗ Pipeline.unscopedRest spec0 c (fun b => W b)) := by
  rw [← Pipeline.unscopedBufs_held]
  refine (Pipeline.unscopedBufs_split (Pipeline.pin (pcfgs (F := F)) adm) 0 winFacts0.arr_unscoped winFacts0.arr_inj c (fun b => W b)).trans ?_
  rw [bigSep_W0]

theorem ownSems_ok : Pipeline.OwnSemFacts spec0 osem := by decide +kernel

theorem stage_role : ∀ (w : Fin 1) (s : Fin (spec0 w).nbuf), lvR (role (.dma ((spec0 w).sem s))) = 0 := by decide +kernel

theorem above_owed (c : Dev nD) (n : ℕ) : Above 0 (owedAt c n) := by
  unfold owedAt
  split
  · rw [O₀_eq]; exact above_add (above_oB _) (above0 c)
  · exact above_zero 0

variable (m)

/-- What the core owes, whatever it recorded. -/
def owing (c : Dev nD) (O : CellTallies nD τ sig Unit) : sProp 𝕄 := iprop(∃ W, owes (c : Thread nD τ) O W)

/-- What rides beside the buffers from the launch to the region. -/
def Beside (c : Dev nD) : sProp 𝕄 := iprop(Tk m c ∗ owing c (O₀ c))

/-- What the region leaves of a device's state. -/
def Left (c : Dev nD) : sProp 𝕄 := iprop(pt c main_v3 (res m) ∗ argPts m c ∗ semVal (cellB c) 0)

local notation "ℝ𝕊" => Pipeline.RegionSeg (pcfgs (F := F)) adm (pdats m) () defs₀ 𝒱₀ L lv

/-- The kernel's region. -/
def reg : ℝ𝕊 0 where
  win := winFacts0.to₀
  block_pos := block_pos0
  stage_whole := stage_whole0
  K := Fin 199
  osem := osem
  ho := ownSems_ok
  hbody c := (body_ok (m := m) c).loose
  hwaits c := Pipeline.cellsWaits_intro _ (pdats m) () 0 c fun w s t =>
    mayWait c _ _ 0 (le_of_eq (stage_role w s)) (above_owed c t.val)
  pre c := iprop(StableHlo.held (c : Thread nD τ) (Pipeline.ucRefs τ sig) (StableHlo.after hostOps0 (fun b => m (c, b))) ∗ Beside m c)
  post c := iprop(Left m c ∗ owing c 0)
  X c := iprop(Xk m c ∗ inPts m c)
  Y c := iprop(argPts m c ∗ semVal (cellB c) 0)
  Z _ := iprop(emp)
  hentry c := by
    rw [show (pdats m 0 c).arrays ((pdats m 0 c).arrAt · 0) = pt c main_v3 (V m c main_v3) from arrays_in c _,
      Pipeline.prefHeld_of_none _ rfl, unscoped_split, unscopedRest0_eq]
    show _ ⊢ (|={Set.univ}=> iprop(pt c main_v3 (V m c main_v3) ∗ emp ∗ (dat m c).owesAt () (0 : Fin (cfg0.N + 1)) ∗ (Xk m c ∗ inPts m c) ∗ emp) : sProp 𝕄)
    unfold Beside
    iintro ⟨⟨⟨Ho, Hi⟩, HT, HO⟩, Hs, #HL⟩
    imod (opening c) $$ [HT Hs] with HX
    · isplitl [HT]; · iexact HT
      isplitl [Hs]; · iexact Hs
      iexact HL
    imodintro
    isplitl [Ho]; · iexact Ho
    isplitr; · iempintro
    isplitl [HO]; · unfold owing; iapply (owes_in (m := m) _ _ (owed_first c)) $$ HO
    isplitl [HX Hi]
    · isplitl [HX]; · iexact HX
      unfold inPts; iexact Hi
    iempintro
  hin c := by
    rw [show (pdats m 0 c).Φ 0 = PhiIn m c from Phi_first c, Pipeline.prefHeld_of_none _ rfl]
    show iprop((Xk m c ∗ inPts m c) ∗ emp ∗ Pipeline.scopedRest spec0 c) ⊢ _
    rw [scopedRest0_eq]
    unfold PhiIn
    iintro ⟨⟨HX, Hi⟩, -, Hs⟩
    isplitl [HX]; · iexact HX
    isplitl [Hi]; · iexact Hi
    unfold scratch; iexact Hs
  hout c := by
    rw [show (pdats m 0 c).Φ (Fin.last _) = PhiOut m c from Phi_last c]
    show _ ⊢ iprop((argPts m c ∗ semVal (cellB c) 0) ∗ Pipeline.ownSems0 osem c ∗ Pipeline.scopedRest spec0 c)
    rw [scopedRest0_eq]
    unfold PhiOut scratch
    exact BI.Entails.refl _
  hexit c := by
    show iprop((dat m c).arrays ((dat m c).arrAt · cfg0.N) ∗ (dat m c).owesAt () (Fin.last cfg0.N) ∗ (argPts m c ∗ semVal (cellB c) 0) ∗ emp) ⊢ _
    rw [arrays_in, arrAt_end]
    unfold Left
    iintro ⟨Ho, HO, HY, -⟩
    imodintro
    isplitl [Ho HY]
    · isplitl [Ho] <;> iassumption
    unfold owing
    iapply (owes_out (m := m) _ _ (owed_last c)) $$ HO

end Cert.KernelIdeal.Mesh

end
-- ==== Proof.KI.Launch.lean ====
/-
  The launch: every cell's invariant allocated, everything dealt to the devices, and the run of @main.
-/
module

public import proofs.«01_k».proof.Proof.KI.Region

@[expose] public section

noncomputable section

namespace Cert.KernelIdeal.Mesh

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The segments -/

local notation "ℍ" => Pipeline.HostSeg (Name := ℕ) (U := UU) (pcfgs (F := F)) defs₀ 𝒱₀ L lv

/-- The two host transposes before the kernel. -/
def hostSeg : ℍ := Pipeline.HostSeg.ofOps _ _ _ _ _ (Pipeline.ucRefs τ sig) hostOps0
  (fun op h => Pipeline.sub_ucRefs op (List.forall_iff_forall_mem.mp hostOps0_sub op h))
  (fun op h => List.forall_iff_forall_mem.mp hostOps0_fresh op h) (fun c b => m (c, b)) (Beside m)

def segs : List (Pipeline.Seg (pcfgs (F := F)) adm (pdats m) () defs₀ 𝒱₀ L lv) := [.host (hostSeg m), .region (reg m)]

/-! ## The cells -/

theorem osem_inj : Function.Injective osem := by decide +kernel
theorem osem_ne_bar : ∀ k : Fin 199, osem k ≠ .reg barS := by decide +kernel

def barEmb : Dev nD ↪ GSem nD τ sig := ⟨fun c => cellB c, fun _ _ h => congrArg (fun g : GSem nD τ sig => g.1.1) h⟩
def ownEmb : Dev nD × Fin 199 ↪ GSem nD τ sig :=
  ⟨fun ck => ((ck.1 : Thread nD τ), osem ck.2), fun _ _ h =>
    Prod.ext (congrArg (fun g : GSem nD τ sig => g.1.1) h) (osem_inj (congrArg Prod.snd h))⟩

/-- The barriers, funded from their counters, and the kernels' own semaphores, opened at the kernel's entry. -/
abbrev barCells : Finset (GSem nD τ sig) := Finset.univ.map barEmb
abbrev ownCells : Finset (GSem nD τ sig) := Finset.univ.map ownEmb

theorem cells_disjoint : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The ghost state the run starts from. -/
def u₀ : UU :=
  (initOf (Pipeline.cells (Pipeline.pin (pcfgs (F := F)) adm) cellOf_inj) (Pipeline.launchToks (Pipeline.pin (pcfgs (F := F)) adm) cellOf_inj),
    launchOf barCells ownCells allToks)

/-- The protocol's part of it, kept by device 0 until the launch deals it. -/
def G (c : Dev nD) : sProp 𝕄 := if c = 0 then BI.own (ER (launchOf barCells ownCells allToks)) else iprop(emp)

theorem G_all : bigSep Finset.univ (G (F := F)) = BI.own (ER (launchOf barCells ownCells allToks)) := by
  have h : ∀ c ∈ Finset.univ.erase (0 : Dev nD), G (F := F) c = (BI.emp : sProp 𝕄) := fun c hc => if_neg (Finset.ne_of_mem_erase hc)
  rw [bigSep_univ_at _ 0, bigSep_congr h, BI.bigSep_emp_const]
  exact (BI.equiv_iff.mp sep_emp).trans (if_pos rfl)

/-! ## The deal -/

/-- The launch's records are what every device may know. -/
theorem known_intro (κ : GSem nD τ sig → ℕ) :
    iprop((bigSep (barCells ∪ ownCells) fun g => cellInv ER (Rd m) (κ g) g) ∗ bigSep barCells fun g => reached ER g 0) ⊢ known m κ := by
  have h := BI.bigSep_union (Φ := fun g => cellInv ER (Rd m) (κ g) g) cells_disjoint
  rw [bigSep_map, bigSep_map, bigSep_univ_prod] at h
  have h' : bigSep barCells (fun g => (reached ER g 0 : sProp 𝕄)) = bigSep Finset.univ fun p : Dev nD => reached ER (cellB p) 0 := bigSep_map ..
  have hk : (bigSep (barCells ∪ ownCells) fun g => (cellInv ER (Rd m) (κ g) g : sProp 𝕄))
      ⊢ iprop((bigSep Finset.univ fun p : Dev nD => cellInv ER (Rd m) (κ (cellB p)) (cellB p))
        ∗ bigSep Finset.univ fun p : Dev nD => bigSep Finset.univ fun k : Fin 199 => cellInv ER (Rd m) (κ ((p : Thread nD τ), osem k)) ((p : Thread nD τ), osem k)) :=
    Entails.of_eq h
  rw [h']
  unfold known
  iintro ⟨H, H3⟩
  ihave H' := hk $$ H
  icases H' with ⟨H1, H2⟩
  isplitl [H1]; · iexact H1
  isplitl [H3]; · iexact H3
  iexact H2

/-- What stays with device `c`. -/
def share (c : Dev nD) : sProp 𝕄 :=
  iprop(atPos ER (cellB c) 0 ∅ 0 ∗ (bigSep Finset.univ fun k : Fin 199 => openTok ER ((c : Thread nD τ), osem k)) ∗ toksOf c)
def bundle (c : Dev nD) : sProp 𝕄 :=
  iprop(StableHlo.held (c : Thread nD τ) (Pipeline.ucRefs τ sig) (fun b => m (c, b)) ∗ creds c ∗ owing c (O₀ c))

abbrev T₀ (c : Dev nD) : sProp 𝕄 := iprop(StableHlo.held (c : Thread nD τ) (Pipeline.ucRefs τ sig) (fun b => m (c, b)) ∗ Beside m c)

theorem T₀_intro (κ : GSem nD τ sig → ℕ) (c : Dev nD) : iprop(known m κ ∗ (share c ∗ bundle m c)) ⊢ T₀ m c := by
  unfold share bundle T₀ Beside Tk
  iintro ⟨#HK, ⟨Hb, Ho, Ht⟩, Hh, Hc, HO⟩
  isplitl [Hh]; · iexact Hh
  isplitr [HO]
  · iexists κ
    isplitr; · iexact HK
    isplitl [Hb]; · iexact Hb
    isplitl [Ho]; · iexact Ho
    isplitl [Ht] <;> iassumption
  iexact HO

theorem unscopedSems (c : Dev nD) : (unscopedSems0 c : sProp 𝕄) = semVal (cellB c) 0 := by
  unfold unscopedSems0
  rw [show (Finset.univ.filter fun sm : SemLoc sig => ¬ sm.isScoped .tc) = {SemLoc.reg barS} from by decide +kernel, bigSep_singleton]

theorem start_one (c : Dev nD) :
    iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (cellB c) 0 ∗ G c)) : sProp 𝕄) := by
  rw [show unscopedBufs c (fun b => m ((c : Thread nD τ).loc b)) = StableHlo.held (c : Thread nD τ) (Pipeline.ucRefs τ sig) (fun b => m (c, b)) from
      Pipeline.unscopedBufs_held c (fun b => m (c, b)), unscopedSems]
  unfold bundle creds owing
  iintro ⟨Hh, Hs, HO, Hc, -, HG⟩
  isplitl [Hh Hc HO]
  · isplitl [Hh]; · iexact Hh
    isplitl [Hc]; · iapply (launch_creds c) $$ Hc
    iexists ∅; iexact HO
  isplitl [Hs] <;> iassumption

/-- The launch: from every device's buffers and counters and the ghost state, everything its run starts with. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (cellB c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cellB c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => bigSep Finset.univ fun k : Fin 199 => (openTok ER ((c : Thread nD τ), osem k) : sProp 𝕄)) :=
    Entails.of_eq (by rw [bigSep_map, bigSep_univ_prod]; rfl)
  have hone : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (cellB c) 0 ∗ G c)) : sProp 𝕄) := bigSep_mono fun c _ => start_one m ρ c
  iintro ⟨H, -⟩
  ihave H' := hone $$ H
  ihave H2 := (Entails.of_eq (bigSep_two Finset.univ _ _)) $$ H'; icases H2 with ⟨HB, H3⟩
  ihave H4 := (Entails.of_eq (bigSep_two Finset.univ _ _)) $$ H3; icases H4 with ⟨Hv, HG⟩
  ihave Hu := (Entails.of_eq (G_all (F := F))) $$ HG
  imod (Rounds.fund_launch ER (Rd m) cells_disjoint (fun g _ h => h) allToks) $$ [Hv Hu] with ⟨%κ, -, #Hinv, #Hr, Hat, Hopen, Htok⟩
  · isplitl [Hv]
    · iapply hv $$ Hv
    · iexact Hu
  imodintro
  iapply (bigSep_with_persistent (R := known m κ) (Φ := fun c => iprop(share c ∗ bundle m c)) fun c _ => T₀_intro m κ c)
  isplitr
  · iapply (known_intro m κ)
    isplitr; · iexact Hinv
    iexact Hr
  iapply (Entails.of_eq (bigSep_two Finset.univ _ _).symm)
  isplitr [HB]
  · unfold share
    iapply (Entails.of_eq (bigSep_two Finset.univ _ _).symm); isplitl [Hat]; · iapply hat $$ Hat
    iapply (Entails.of_eq (bigSep_two Finset.univ _ _).symm); isplitl [Hopen]; · iapply hopen $$ Hopen
    iapply (toks_deal) $$ Htok
  · iexact HB

theorem unscoped_eq : ∀ sm : SemLoc sig, sm.isScoped .tc = false → sm = .reg barS := by decide +kernel

set_option backward.isDefEq.respectTransparency.types false in
/-- From any memory with zero counters, every run of @main on the devices terminates; every final state has the result on every
    device, every argument unchanged, and all counters at zero. -/
theorem run_main : θ_run defs (onTc (τ := τ) (main (F := F))) ⟨m, fun _ => 0, ρ⟩
    (fun r => (∀ c : Dev nD, r.2.mem ((c : Thread nD τ).loc main_v3) = res m
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (hostSeg m) (reg m) rfl c]; rfl)
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Left m)
    (hch := by
      refine ⟨fun c => BI.Entails.refl _, fun c => BI.Entails.refl _, fun c => ?_⟩
      show iprop(Left m c ∗ owing c 0) ⊢ iprop(Left m c ∗ ∃ W, owes (c : Thread nD τ) (0 : CellTallies nD τ sig Unit) W)
      unfold owing
      exact BI.Entails.refl _)
    (hinit := init m ρ)
    (QY := fun c s => (s.mem ((c : Thread nD τ).loc main_v3) = res m
        ∧ s.mem ((c : Thread nD τ).loc main_arg0) = V m c main_arg0
        ∧ s.mem ((c : Thread nD τ).loc main_arg1) = V m c main_arg1
        ∧ s.mem ((c : Thread nD τ).loc main_arg2) = V m c main_arg2
        ∧ s.mem ((c : Thread nD τ).loc main_arg3) = V m c main_arg3
        ∧ s.mem ((c : Thread nD τ).loc main_arg4) = V m c main_arg4)
      ∧ s.sem (cellB c) = 0)
    (hfin := fun c s' => by
      unfold Left argPts
      iintro ⟨⟨Ho, ⟨H0, H1, H2, H3, H4⟩, Hb⟩, HSI⟩
      icombine HSI Ho gives %ho
      icombine HSI H0 gives %h0
      icombine HSI H1 gives %h1
      icombine HSI H2 gives %h2
      icombine HSI H3 gives %h3
      icombine HSI H4 gives %h4
      icombine HSI Hb gives %hb
      imodintro
      isplitr
      · ipureintro
        exact ⟨⟨Buf.eq_of_forall_mem_univ ho, Buf.eq_of_forall_mem_univ h0, Buf.eq_of_forall_mem_univ h1, Buf.eq_of_forall_mem_univ h2,
          Buf.eq_of_forall_mem_univ h3, Buf.eq_of_forall_mem_univ h4⟩, by simpa using hb⟩
      iexact HSI)
    (hQ := fun s h hs => ⟨fun c => by
        obtain ⟨⟨ho, h0, h1, h2, h3, h4⟩, -⟩ := h c
        exact ⟨ho, h0.trans (V_main_arg0 m c), h1.trans (V_main_arg1 m c), h2.trans (V_main_arg2 m c), h3.trans (V_main_arg3 m c), h4.trans (V_main_arg4 m c)⟩,
      sem_eq_zero hs fun c sm hsm => by
        obtain rfl := unscoped_eq sm hsm
        exact (h c).2⟩)

end Cert.KernelIdeal.Mesh

end
-- ==== Proof.Top.Frames.lean ====
/-
  The frame claims: each program runs, its arguments end unchanged and all counters end at zero.
-/
module

public import proofs.«01_k».proof.Defs
public import proofs.«01_k».proof.Proof.Gen.Kernel
public import proofs.«01_k».proof.Proof.Gen.ReferenceIdeal.Run
public import proofs.«01_k».proof.Proof.Top.Same
public import proofs.«01_k».proof.Proof.KI.Launch

@[expose] public section

noncomputable section

namespace Cert.Top

open Idealize.ShloMosaic Idealize.SL.Sem

/-- The kernel as printed. -/
theorem frame_kernel : Cert.quiescent_Kernel (hKernel := Cert.Kernel.Gen.facts) := by
  intro m g _
  rw [Cert.Same.defs_eq (hI := Cert.KernelIdeal.Gen.facts)]
  exact (θ_run _ _ _).mono (fun r h => ⟨fun c => (h.1 c).2, h.2⟩) (Cert.KernelIdeal.Mesh.run_main (F := Bits) m g)

/-- The idealized kernel. -/
theorem frame_ideal : Cert.quiescent_KernelIdeal (hKernelIdeal := Cert.KernelIdeal.Gen.facts) := fun m g _ =>
  (θ_run _ _ _).mono (fun r h => ⟨fun c => (h.1 c).2, h.2⟩) (Cert.KernelIdeal.Mesh.run_main (F := Ideal) m g)

/-- The idealized reference. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

end Cert.Top

end
-- ==== Proof.Val.Head.lean ====
/-
  One head's attention as a formula over the extended reals, and the kernel's head read at an index.
-/
module

public import proofs.«01_k».proof.Proof.KI.Vals
public import Idealize.ShloMosaic.Lib.Pointwise

@[expose] public section

noncomputable section

namespace Cert.Val

open Idealize.ShloMosaic Cert.KernelIdeal Cert.KernelIdeal.Gen

/-- The mask's bit at row `i` and column `j`. -/
def bit (i j : Fin 256) : BitVec 1 := IntOp.cmpi .sle (IntOp.absi (IntOp.subi (BitVec.ofNat 32 i.val) (BitVec.ofNat 32 j.val))) 128#32

/-- The masked scores of one head. -/
def score (q k : Fin 256 → Fin 64 → EReal) (i j : Fin 256) : EReal :=
  Scalar.select (bit i j) ((∑ e : Fin 64, q i e * k j e) * Ideal.ofBits .f32 0x3E000000#32) (Ideal.ofBits .f32 0xCE6E6B28#32)

/-- The exponentials of a row's scores less the row's greatest. -/
def pexp (q k : Fin 256 → Fin 64 → EReal) (i j : Fin 256) : EReal :=
  Ideal.exp (score q k i j - Finset.univ.fold max (Ideal.ofBits .f32 0xFF800000#32) fun l : Fin 256 => score q k i l)

/-- The weights: each exponential over its row's sum. -/
def weight (q k : Fin 256 → Fin 64 → EReal) (i j : Fin 256) : EReal := Ideal.div (pexp q k i j) (∑ l : Fin 256, pexp q k i l)

/-- One head's attention: the values, weighted. -/
def head (q k v : Fin 256 → Fin 64 → EReal) (i : Fin 256) (d : Fin 64) : EReal := ∑ j : Fin 256, weight q k i j * v j d

set_option maxRecDepth 16384 in
theorem mask_apply (i j : Fin 256) : k0_pay150 (ix2 i j) = bit i j := by
  pointwise [k0_pay150, bit]

set_option maxRecDepth 16384 in
/-- The kernel's head at row `i` and column `d`. -/
theorem att_apply (q k v : FVec Ideal S256x64 .f32) (i : Fin 256) (d : Fin 64) :
    k0_pay181 k0_pay150 q k v (constant S256x256 .f32 0x00000000#32) (ix2 i d)
      = head (fun r e => q (ix2 r e)) (fun r e => k (ix2 r e)) (fun r e => v (ix2 r e)) i d := by
  unfold k0_pay181 head weight pexp score
  pointwise [mask_apply]

end Cert.Val

end
-- ==== Proof.Val.Share.lean ====
/-
  A device's share of the output read at an index: four heads' attention against the device's rows of the output
  projection, the queries, keys and values by the coordinates of the arguments.
-/
module

public import proofs.«01_k».proof.Proof.Val.Head

@[expose] public section

noncomputable section

namespace Cert.Val

open Idealize.ShloMosaic Cert.KernelIdeal Cert.KernelIdeal.Gen Cert.KernelIdeal.Mesh

/-- Column `d` of head `h` among a device's 256. -/
def col (h : Fin 4) (d : Fin 64) : Fin 256 := ⟨64 * h.val + d.val, by omega⟩
/-- Head `h` of device `c` among the 128. -/
def hd (c : Fin 32) (h : Fin 4) : Fin 128 := ⟨4 * c.val + h.val, by omega⟩

/-- A sum over `n = a b` positions, block after block. -/
theorem sum_blocks {n : ℕ} (a b : ℕ) (h : n = a * b) (f : Fin n → EReal) :
    ∑ k, f k = ∑ i : Fin a, ∑ j : Fin b, f ⟨b * i.val + j.val, by
      have h1 : b * (i.val + 1) ≤ b * a := Nat.mul_le_mul_left b i.isLt
      rw [Nat.mul_add, Nat.mul_comm b a, ← h] at h1
      omega⟩ := by
  subst h
  refine (finProdFinEquiv.sum_comp f).symm.trans ((Fintype.sum_prod_type _).trans ?_)
  refine Finset.sum_congr rfl fun i _ => Finset.sum_congr rfl fun j _ => congrArg f (Fin.ext ?_)
  show j.val + b * i.val = b * i.val + j.val
  omega

/-- The share's payload is one product with the four heads side by side. -/
theorem share_eq (wo : Vec Ideal S256x512 .f32) (qs : FVec Ideal S256x256 .f32) (a b q2 k2 : FVec Ideal S256x64 .f32)
    (v2 k3 v3 : Vec Ideal S32x8x64 .f32) :
    k0_pay185 k0_pay150 wo qs a b q2 k2 v2 k3 v3
      = matmul (φ₂ := .f32) dot_S256x256_S256x512_S256x512_1_0_0_1_n_n none
          (concatenate S256x256 1 [⟨S256x64, a⟩, ⟨S256x64, b⟩,
            ⟨S256x64, k0_pay181 k0_pay150 q2 k2 (k0_pay179 v2) (constant S256x256 .f32 0x00000000#32)⟩,
            ⟨S256x64, k0_pay181 k0_pay150 (extractStridedSlice S256x64 ![0, 192] qs slices_S256x256_o0_192_S256x64)
              (k0_pay179 k3) (k0_pay179 v3) (constant S256x256 .f32 0x00000000#32)⟩]
            concatenates_S256x64_S256x64_S256x64_S256x64_S256x256_d1)
          (wo : FVec Ideal S256x512 .f32) (constant S256x512 .f32 0x00000000#32) := rfl

set_option maxRecDepth 16384 in
/-- … at row `i` and column `n`, head after head. -/
theorem share_apply (wo : Vec Ideal S256x512 .f32) (qs : FVec Ideal S256x256 .f32) (a b q2 k2 : FVec Ideal S256x64 .f32)
    (v2 k3 v3 : Vec Ideal S32x8x64 .f32) (i : Fin 256) (n : Fin 512) :
    k0_pay185 k0_pay150 wo qs a b q2 k2 v2 k3 v3 (ix2 i n)
      = (∑ d : Fin 64, a (ix2 i d) * wo (ix2 (col 0 d) n)) + (∑ d : Fin 64, b (ix2 i d) * wo (ix2 (col 1 d) n))
        + (∑ d : Fin 64, k0_pay181 k0_pay150 q2 k2 (k0_pay179 v2) (constant S256x256 .f32 0x00000000#32) (ix2 i d) * wo (ix2 (col 2 d) n))
        + (∑ d : Fin 64, k0_pay181 k0_pay150 (extractStridedSlice S256x64 ![0, 192] qs slices_S256x256_o0_192_S256x64)
              (k0_pay179 k3) (k0_pay179 v3) (constant S256x256 .f32 0x00000000#32) (ix2 i d) * wo (ix2 (col 3 d) n)) := by
  rw [share_eq]
  generalize k0_pay181 k0_pay150 q2 k2 (k0_pay179 v2) (constant S256x256 .f32 0x00000000#32) = x
  generalize k0_pay181 k0_pay150 (extractStridedSlice S256x64 ![0, 192] qs slices_S256x256_o0_192_S256x64)
              (k0_pay179 k3) (k0_pay179 v3) (constant S256x256 .f32 0x00000000#32) = y
  pointwise
  rw [sum_blocks 4 64 (by norm_num), Fin.sum_univ_four]
  refine congrArg₂ (· + ·) (congrArg₂ (· + ·) (congrArg₂ (· + ·) ?_ ?_) ?_) ?_ <;>
    refine Finset.sum_congr rfl fun d _ => congrArg₂ (· * ·) ?_ rfl
  · rw [dif_pos (by show 64 * 0 + d.val < 64; omega)]
    exact congrArg (fun t => a (ix2 i t)) (Fin.ext (by show 64 * 0 + d.val = d.val; omega))
  · rw [dif_neg (by show ¬ 64 * 1 + d.val < 64; omega), dif_pos (by show 64 * 1 + d.val - 64 < 64; omega)]
    exact congrArg (fun t => b (ix2 i t)) (Fin.ext (by show 64 * 1 + d.val - 64 = d.val; omega))
  · rw [dif_neg (by show ¬ 64 * 2 + d.val < 64; omega), dif_neg (by show ¬ 64 * 2 + d.val - 64 < 64; omega),
      dif_pos (by show 64 * 2 + d.val - 64 - 64 < 64; omega)]
    exact congrArg (fun t => x (ix2 i t)) (Fin.ext (by show 64 * 2 + d.val - 64 - 64 = d.val; omega))
  · rw [dif_neg (by show ¬ 64 * 3 + d.val < 64; omega), dif_neg (by show ¬ 64 * 3 + d.val - 64 < 64; omega),
      dif_neg (by show ¬ 64 * 3 + d.val - 64 - 64 < 64; omega)]
    exact congrArg (fun t => y (ix2 i t)) (Fin.ext (by show 64 * 3 + d.val - 64 - 64 - 64 = d.val; omega))

variable (m : (ℓ : Loc nD τ sig) → Buf (Elt Ideal) ℓ)

set_option maxRecDepth 16384 in
/-- Device `c`'s queries at row `i` and column `n`. -/
theorem query_apply (c : Dev nD) (b : Fin 2) (i n : Fin 256) :
    qB m c b (ix2 i n) = ∑ l : Fin 512, xB m c (ix3 b i l) * wqB m c (ix2 l n) := by
  unfold qB
  pointwise [k0_pay151]
  rfl

set_option maxRecDepth 16384 in
/-- The keys or values of head `h` of device `c`, at row `j` and column `d`. -/
theorem kv_apply (c : Dev nD) (t b : Fin 2) (h : Fin 4) (j : Fin 256) (d : Fin 64) :
    rows (kvH m c t b h) (ix2 j d) = kvB m (⟨j.val / 8, by show _ < 32; omega⟩ : Fin 32) t (ix4 b j d (hd c h)) := by
  pointwise [k0_pay179]
  have key : ∀ (p p' : Dev nD) (t t' b b' : Fin 2) (j j' : Fin 256) (d d' : Fin 64) (g g' : Fin 128),
      p = p' → t = t' → b = b' → j = j' → d = d' → g = g' → kvB m p t (ix4 b j d g) = kvB m p' t' (ix4 b' j' d' g') := by
    rintro p _ t _ b _ j _ d _ g _ rfl rfl rfl rfl rfl rfl; rfl
  have hb : b.val < 2 := b.isLt
  have ht : t.val < 2 := t.isLt
  refine key _ _ _ _ _ _ _ _ _ _ _ _ rfl (Fin.ext ?_) (Fin.ext ?_) (Fin.ext ?_) (Fin.ext ?_) (Fin.ext ?_)
  · show (16 * t.val + 8 * b.val + j.val % 8) / 16 = t.val
    omega
  · show (16 * t.val + 8 * b.val + j.val % 8) / 8 % 2 = b.val
    omega
  · show 8 * (j.val / 8) + (16 * t.val + 8 * b.val + j.val % 8) % 8 = j.val
    omega
  · show (64 * h.val + d.val) % 64 = d.val
    omega
  · show 4 * c.val + (64 * h.val + d.val) / 64 = 4 * c.val + h.val
    omega

/-- Head `h` of device `c` in batch `b`, from the coordinates of the arguments. -/
def headAt (c : Fin 32) (b : Fin 2) (h : Fin 4) : Fin 256 → Fin 64 → EReal :=
  head (fun i e => ∑ l : Fin 512, xB m c (ix3 b i l) * wqB m c (ix2 l (col h e)))
    (fun j e => kvB m (⟨j.val / 8, by show _ < 32; omega⟩ : Fin 32) 0 (ix4 b j e (hd c h)))
    (fun j e => kvB m (⟨j.val / 8, by show _ < 32; omega⟩ : Fin 32) 1 (ix4 b j e (hd c h)))

set_option maxRecDepth 16384 in
theorem slice_apply (c : Dev nD) (b : Fin 2) (i : Fin 256) (e : Fin 64) :
    extractStridedSlice S256x64 ![0, 0] (qB m c b) slices_S256x256_o0_0_S256x64 (ix2 i e) = qB m c b (ix2 i (col 0 e))
    ∧ extractStridedSlice S256x64 ![0, 64] (qB m c b) slices_S256x256_o0_64_S256x64 (ix2 i e) = qB m c b (ix2 i (col 1 e))
    ∧ extractStridedSlice S256x64 ![0, 128] (qB m c b) slices_S256x256_o0_128_S256x64 (ix2 i e) = qB m c b (ix2 i (col 2 e))
    ∧ extractStridedSlice S256x64 ![0, 192] (qB m c b) slices_S256x256_o0_192_S256x64 (ix2 i e) = qB m c b (ix2 i (col 3 e)) := by
  unfold col
  generalize qB m c b = x
  refine ⟨?_, ?_, ?_, ?_⟩ <;> pointwise

/-- The kernel's head `h` is that head of the arguments. -/
theorem head_att (c : Dev nD) (b : Fin 2) (h : Fin 4) (q : FVec Ideal S256x64 .f32)
    (hq : ∀ (i : Fin 256) (e : Fin 64), q (ix2 i e) = qB m c b (ix2 i (col h e))) (i : Fin 256) (d : Fin 64) :
    k0_pay181 k0_pay150 q (rows (kvH m c 0 b h)) (rows (kvH m c 1 b h)) (constant S256x256 .f32 0x00000000#32) (ix2 i d)
      = headAt m c b h i d := by
  rw [att_apply]
  unfold headAt
  simp only [hq, query_apply, kv_apply]

/-- Device `c`'s share of batch `b` at row `i` and column `n`. -/
theorem pb_apply (c : Dev nD) (b : Fin 2) (i : Fin 256) (n : Fin 512) :
    pb m c b (ix2 i n) = ∑ h : Fin 4, ∑ d : Fin 64, headAt m c b h i d * woB m c (ix2 (col h d) n) := by
  unfold pb
  refine (share_apply _ _ _ _ _ _ _ _ _ i n).trans ?_
  rw [Fin.sum_univ_four]
  refine congrArg₂ (· + ·) (congrArg₂ (· + ·) (congrArg₂ (· + ·) ?_ ?_) ?_) ?_ <;>
    refine Finset.sum_congr rfl fun d _ => congrArg₂ (· * ·) ?_ rfl
  · exact head_att m c b 0 _ (fun i e => (slice_apply m c b i e).1) i d
  · exact head_att m c b 1 _ (fun i e => (slice_apply m c b i e).2.1) i d
  · exact head_att m c b 2 _ (fun i e => (slice_apply m c b i e).2.2.1) i d
  · exact head_att m c b 3 _ (fun i e => (slice_apply m c b i e).2.2.2) i d

set_option maxRecDepth 16384 in
/-- The kernel's result at batch `b`, row `i` and column `n`: the sum of the devices' shares. -/
theorem res_apply (b : Fin 2) (i : Fin 256) (n : Fin 512) :
    res m (ix3 b i n) = ∑ c : Fin 32, ∑ h : Fin 4, ∑ d : Fin 64, headAt m c b h i d * woB m c (ix2 (col h d) n) := by
  unfold res red
  pointwise [k0_pay207, k0_pay206]
  refine Finset.sum_congr rfl fun c _ => ?_
  rw [← pb_apply]
  have key : ∀ (b b' : Fin 2) (i i' : Fin 256), b = b' → i = i' → pb m c b (ix2 i n) = pb m c b' (ix2 i' n) := by
    rintro b _ i _ rfl rfl; rfl
  have hb : b.val < 2 := b.isLt
  refine key _ _ _ _ (Fin.ext ?_) (Fin.ext ?_)
  · show (16 * b.val + i.val / 16) / 16 = b.val
    omega
  · show 16 * ((16 * b.val + i.val / 16) % 16) + i.val % 16 = i.val
    omega

end Cert.Val

end
-- ==== Proof.Val.Reference.lean ====
/-
  The reference's result read at an index: every head's attention against its rows of the output projection.
-/
module

public import proofs.«01_k».proof.Proof.Val.Share
public import proofs.«01_k».proof.Proof.Gen.ReferenceIdeal.Run
public import Idealize.ShloMosaic.Lib.Tactic.CleanTypes
public import Idealize.ShloMosaic.Lib.Routing.OpsOrder

@[expose] public section

noncomputable section

namespace Cert.Val

open Idealize.ShloMosaic Cert.ReferenceIdeal Cert.ReferenceIdeal.Gen

variable (x : FVec Ideal S2x256x512 .f32) (wq : FVec Ideal S512x8192 .f32) (kk vv : FVec Ideal S2x256x128x64 .f32)
  (wo : FVec Ideal S8192x512 .f32)

/-- The reference's mask. -/
def rmask : IVec S256x256 1 :=
  cmpi .sle (absi (subi (broadcastInDim S256x256 ![0, 1] bcast_S256x1_S256x256_0_1 (broadcastInDim S256x1 ![0] bcast_S256_S256x1_0 (iotaInDim S256 32 0)))
      (broadcastInDim S256x256 ![0, 1] bcast_S1x256_S256x256_0_1 (broadcastInDim S1x256 ![1] bcast_S256_S1x256_1 (iotaInDim S256 32 0)))))
    (broadcastInDim S256x256 ![] bcast_S_S256x256 (constantI S_ 32 128#32))

/-- Which rows keep an entry. -/
def rkeep : IVec S256 1 := Host.reduce IntOp.ori rmask (constantI S_ 1 0#1) reducesTo_S256x256_S256_d1 h_S_

/-- The masked scores. -/
def rscore : FVec Ideal S2x128x256x256 .f32 :=
  select (broadcastInDim S2x128x256x256 ![0, 1, 2, 3] bcast_S1x1x256x256_S2x128x256x256_0_1_2_3 (broadcastInDim S1x1x256x256 ![2, 3] bcast_S256x256_S1x1x256x256_2_3 rmask))
    (mulf (Host.dotGeneral dot_S2x256x128x64_S2x256x128x64_S2x128x256x256_3_3_1_1_02_02 none
        (shapeCast S2x256x128x64 (Host.dotGeneral dot_S2x256x512_S512x8192_S2x256x8192_2_0_01_1_n_n none x wq) shapeCasts_S2x256x8192_S2x256x128x64) kk)
      (broadcastInDim S2x128x256x256 ![] bcast_S_S2x128x256x256 (constant S_ .f32 0x3E000000#32)))
    (broadcastInDim S2x128x256x256 ![] bcast_S_S2x128x256x256 (constant S_ .f32 0xCE6E6B28#32))

set_option maxRecDepth 16384 in
theorem rmask_apply (i j : Fin 256) : rmask (ix2 i j) = bit i j := by
  pointwise [rmask, bit]

/-- Every row keeps its diagonal entry. -/
theorem bit_diag : ∀ i : Fin 256, bit i i = 1#1 := by
  intro i
  have h : IntOp.subi (BitVec.ofNat 32 i.val) (BitVec.ofNat 32 i.val) = 0#32 := BitVec.sub_self _
  unfold bit
  rw [h]
  decide

set_option maxRecDepth 16384 in
theorem rkeep_apply (i : Fin 256) : rkeep (ix1 i) = 1#1 := by
  pointwise [rkeep, rmask_apply]
  exact (Routing.fold_ori _ _).2 ⟨i, Finset.mem_univ _, bit_diag i⟩

/-- The exponentials of the scores less their row's greatest. -/
def rexp : FVec Ideal S2x128x256x256 .f32 :=
  Host.exp (subf (rscore x wq kk) (broadcastInDim S2x128x256x256 ![0, 1, 2, 3] bcast_S2x128x256x1_S2x128x256x256_0_1_2_3 (broadcastInDim S2x128x256x1 ![0, 1, 2] bcast_S2x128x256_S2x128x256x1_0_1_2
    (Host.reduce FloatOps.maximumf (rscore x wq kk) (constant S_ .f32 0xFF800000#32) reducesTo_S2x128x256x256_S2x128x256_d3 h_S_))))

/-- The weights. -/
def rweight : FVec Ideal S2x128x256x256 .f32 :=
  select (broadcastInDim S2x128x256x256 ![0, 1, 2, 3] bcast_S1x1x256x1_S2x128x256x256_0_1_2_3 (broadcastInDim S1x1x256x1 ![2] bcast_S256_S1x1x256x1_2 rkeep))
    (Host.divf (rexp x wq kk) (broadcastInDim S2x128x256x256 ![0, 1, 2, 3] bcast_S2x128x256x1_S2x128x256x256_0_1_2_3
      (select (broadcastInDim S2x128x256x1 ![0, 1, 2, 3] bcast_S1x1x256x1_S2x128x256x1_0_1_2_3 (broadcastInDim S1x1x256x1 ![2] bcast_S256_S1x1x256x1_2 rkeep))
        (broadcastInDim S2x128x256x1 ![0, 1, 2] bcast_S2x128x256_S2x128x256x1_0_1_2 (Host.reduceAdd (rexp x wq kk) (constant S_ .f32 0x00000000#32) reducesTo_S2x128x256x256_S2x128x256_d3 h_S_))
        (broadcastInDim S2x128x256x1 ![] bcast_S_S2x128x256x1 (constant S_ .f32 0x3F800000#32)))))
    (broadcastInDim S2x128x256x256 ![] bcast_S_S2x128x256x256 (constant S_ .f32 0x00000000#32))

/-- The result. -/
def rout : FVec Ideal S2x256x512 .f32 :=
  Host.dotGeneral dot_S2x256x8192_S8192x512_S2x256x512_2_0_01_1_n_n none
    (shapeCast S2x256x8192 (transpose S2x256x128x64 [0, 3, 1, 2] (Host.dotGeneral (φ₁ := .f32) (φ₂ := .f32) dot_S2x256x128x64_S2x128x256x256_S2x128x64x256_1_3_3_2_02_01 none vv (rweight x wq kk))
      transposes_S2x128x64x256_S2x256x128x64_0_3_1_2) shapeCasts_S2x256x128x64_S2x256x8192) wo

/-- The query of batch `b`, head `h`, row `i` and column `e`. -/
def rq (b : Fin 2) (h : Fin 128) (i : Fin 256) (e : Fin 64) : EReal :=
  ∑ l : Fin 512, x (ix3 b i l) * wq (ix2 l (⟨h.val * 64 + e.val, by omega⟩ : Fin 8192))

set_option maxRecDepth 16384 in
theorem rscore_apply (b : Fin 2) (h : Fin 128) (i j : Fin 256) :
    rscore x wq kk (ix4 b h i j) = score (rq x wq b h) (fun j e => kk (ix4 b j h e)) i j := by
  unfold score rq
  pointwise [rscore, rmask_apply]

set_option maxRecDepth 16384 in
theorem rexp_apply (b : Fin 2) (h : Fin 128) (i j : Fin 256) :
    rexp x wq kk (ix4 b h i j) = pexp (rq x wq b h) (fun j e => kk (ix4 b j h e)) i j := by
  unfold pexp
  pointwise [rexp, rscore_apply]

set_option maxRecDepth 16384 in
theorem rweight_apply (b : Fin 2) (h : Fin 128) (i j : Fin 256) :
    rweight x wq kk (ix4 b h i j) = weight (rq x wq b h) (fun j e => kk (ix4 b j h e)) i j := by
  unfold weight
  pointwise [rweight, rexp_apply, rkeep_apply]

set_option maxRecDepth 16384 in
theorem rout_apply (b : Fin 2) (i : Fin 256) (n : Fin 512) :
    rout x wq kk vv wo (ix3 b i n) = ∑ h : Fin 128, ∑ d : Fin 64,
      head (rq x wq b h) (fun j e => kk (ix4 b j h e)) (fun j e => vv (ix4 b j h e)) i d * wo (ix2 (⟨64 * h.val + d.val, by omega⟩ : Fin 8192) n) := by
  pointwise [rout, rweight_apply]
  rw [sum_blocks 128 64 (by norm_num)]
  refine Finset.sum_congr rfl fun h _ => Finset.sum_congr rfl fun d _ => congrArg₂ (· * ·) ?_ rfl
  have key : ∀ (h' : Fin 128) (d' : Fin 64), h' = h → d' = d →
      (∑ j : Fin 256, vv (ix4 b j h' d') * weight (rq x wq b h') (fun j e => kk (ix4 b j h' e)) i j)
        = head (rq x wq b h) (fun j e => kk (ix4 b j h e)) (fun j e => vv (ix4 b j h e)) i d := by
    rintro _ _ rfl rfl
    exact Finset.sum_congr rfl fun j _ => mul_comm _ _
  exact key _ _ (Fin.ext (by show (64 * h.val + d.val) / 64 = h.val; omega)) (Fin.ext (by show (64 * h.val + d.val) % 64 = d.val; omega))

variable (m : (ℓ : Loc nD τ sig) → Buf (Elt Ideal) ℓ)

/-- The reference's composed term is the one read above. -/
theorem res_eq (c : Dev nD) : Cert.ReferenceIdeal.Value.res_main_v34 m c
    = rout (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  rfl

end Cert.Val

end
-- ==== Proof.Val.Agree.lean ====
/-
  The kernel's result and the reference's are one: the shares of the devices, head after head, are the reference's heads
  in order.
-/
module

public import proofs.«01_k».proof.Proof.Val.Reference

@[expose] public section

noncomputable section

namespace Cert.Val

open Idealize.ShloMosaic Cert.KernelIdeal Cert.KernelIdeal.Gen Cert.KernelIdeal.Mesh

variable (m : (ℓ : Loc nD τ sig) → Buf (Elt Ideal) ℓ)

set_option maxRecDepth 16384 in
/-- The host's exchange of the last two axes of the keys. -/
theorem keys_apply (c : Dev nD) (b : Fin 2) (j : Fin 256) (e : Fin 64) (h : Fin 128) :
    kvB m c 0 (ix4 b j e h) = (m ((c.tc : Thread nD τ).loc main_arg2) : FVec Ideal S2x256x128x64 .f32) (ix4 b j h e) := by
  have e1 : ktB m c = transpose S2x256x64x128 [0, 1, 3, 2] (m ((c.tc : Thread nD τ).loc main_arg2) : FVec Ideal S2x256x128x64 .f32)
      transposes_S2x256x128x64_S2x256x64x128_0_1_3_2 := by
    show StableHlo.after hostOps0 _ _ = _
    after_results_simp
  show ktB m c (ix4 b j e h) = _
  rw [e1]
  pointwise

set_option maxRecDepth 16384 in
/-- … and of the values. -/
theorem values_apply (c : Dev nD) (b : Fin 2) (j : Fin 256) (e : Fin 64) (h : Fin 128) :
    kvB m c 1 (ix4 b j e h) = (m ((c.tc : Thread nD τ).loc main_arg3) : FVec Ideal S2x256x128x64 .f32) (ix4 b j h e) := by
  have e1 : vtB m c = transpose S2x256x64x128 [0, 1, 3, 2] (m ((c.tc : Thread nD τ).loc main_arg3) : FVec Ideal S2x256x128x64 .f32)
      transposes_S2x256x128x64_S2x256x64x128_0_1_3_2 := by
    show StableHlo.after hostOps0 _ _ = _
    after_results_simp
  show vtB m c (ix4 b j e h) = _
  rw [e1]
  pointwise

variable (x : FVec Ideal S2x256x512 .f32) (wq : FVec Ideal ⟨2, ![512, 8192]⟩ .f32) (kk vv : FVec Ideal S2x256x128x64 .f32)
  (wo : FVec Ideal ⟨2, ![8192, 512]⟩ .f32)

/-- What every device holds of the five arguments. -/
def Holds : Prop := ∀ c : Dev nD,
  m ((c.tc : Thread nD τ).loc main_arg0) = x
  ∧ m ((c.tc : Thread nD τ).loc main_arg1) = Layout.block ⟨2, ![512, 256]⟩ ⟨2, ![512, 8192]⟩ 1 32 c wq
  ∧ m ((c.tc : Thread nD τ).loc main_arg2) = kk
  ∧ m ((c.tc : Thread nD τ).loc main_arg3) = vv
  ∧ m ((c.tc : Thread nD τ).loc main_arg4) = Layout.block ⟨2, ![256, 512]⟩ ⟨2, ![8192, 512]⟩ 0 32 c wo

/-- A device's columns of the query projection, and its rows of the output projection. -/
theorem wq_apply (H : Holds m x wq kk vv wo) (c : Dev nD) (l : Fin 512) (n : Fin 256) :
    wqB m c (ix2 l n) = wq (ix2 l (⟨256 * c.val + n.val, by have : c.val < 32 := c.isLt; omega⟩ : Fin 8192)) := by
  have e : wqB m c = Layout.block ⟨2, ![512, 256]⟩ ⟨2, ![512, 8192]⟩ 1 32 c wq := (V_main_arg1 m c).trans (H c).2.1
  rw [e]
  refine congrArg wq ((eq_ix2 _).trans (congrArg₂ ix2 (Fin.ext rfl) (Fin.ext ?_)))
  show c.val * 256 + n.val = 256 * c.val + n.val
  omega

theorem wo_apply (H : Holds m x wq kk vv wo) (c : Dev nD) (k : Fin 256) (n : Fin 512) :
    woB m c (ix2 k n) = wo (ix2 (⟨256 * c.val + k.val, by have : c.val < 32 := c.isLt; omega⟩ : Fin 8192) n) := by
  have e : woB m c = Layout.block ⟨2, ![256, 512]⟩ ⟨2, ![8192, 512]⟩ 0 32 c wo := (V_main_arg4 m c).trans (H c).2.2.2.2
  rw [e]
  refine congrArg wo ((eq_ix2 _).trans (congrArg₂ ix2 (Fin.ext ?_) (Fin.ext rfl)))
  show c.val * 256 + k.val = 256 * c.val + k.val
  omega

theorem headAt_eq (H : Holds m x wq kk vv wo) (c : Fin 32) (b : Fin 2) (h : Fin 4) :
    headAt m c b h = head (rq x wq b (hd c h)) (fun j e => kk (ix4 b j (hd c h) e)) (fun j e => vv (ix4 b j (hd c h) e)) := by
  have hx : ∀ c : Dev nD, xB m c = x := fun c => (V_main_arg0 m c).trans (H c).1
  unfold headAt
  simp only [keys_apply, values_apply, hx, wq_apply m x wq kk vv wo H, (H _).2.2.1, (H _).2.2.2.1]
  refine congrArg (fun q => head q _ _) (funext fun i => funext fun e => ?_)
  refine Finset.sum_congr rfl fun l _ => congrArg (fun t => x (ix3 b i l) * wq (ix2 l t)) (Fin.ext ?_)
  show 256 * c.val + (64 * h.val + e.val) = (4 * c.val + h.val) * 64 + e.val
  omega

/-- The kernel's result is the reference's. -/
theorem res_rout (H : Holds m x wq kk vv wo) : res m = rout x wq kk vv wo := by
  funext y
  obtain ⟨b, i, n, rfl⟩ : ∃ (b : Fin 2) (i : Fin 256) (n : Fin 512), y = ix3 b i n := ⟨y 0, y 1, y 2, eq_ix3 y⟩
  rw [res_apply]
  refine Eq.trans ?_ ((rout_apply x wq kk vv wo b i n).trans (sum_blocks (n := 128) 32 4 rfl _)).symm
  refine Finset.sum_congr rfl fun c _ => Finset.sum_congr rfl fun h _ => Finset.sum_congr rfl fun d _ => ?_
  rw [headAt_eq m x wq kk vv wo H, wo_apply m x wq kk vv wo H]
  refine congrArg₂ (· * ·) rfl (congrArg (fun t => wo (ix2 t n)) (Fin.ext ?_))
  show 256 * c.val + (64 * h.val + d.val) = 64 * (4 * c.val + h.val) + d.val
  omega

end Cert.Val

end
-- ==== Proof.Top.Algebraic.lean ====
/-
  The value claim: on the extended reals every device's result is the reference's.
-/
module

public import proofs.«01_k».proof.Defs
public import proofs.«01_k».proof.Proof.KI.Launch
public import proofs.«01_k».proof.Proof.Val.Agree

@[expose] public section

noncomputable section

namespace Cert.Top

open Idealize.ShloMosaic Idealize.SL.Sem

/-- From matching arguments, the kernel on its thirty-two devices and the reference on one both run, and every device
    ends with the reference's result. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨Cert.ReferenceIdeal.Value.res_main_v34 m' 0, ?_, ?_⟩
  · refine (θ_run _ _ _).mono (fun r h c => ⟨((h.1 c).1).trans ?_, (h.1 c).2⟩) (Cert.KernelIdeal.Mesh.run_main (F := Ideal) m g)
    exact (Cert.Val.res_rout m _ _ _ _ _ hargs).trans (Cert.Val.res_eq m' 0).symm
  · exact (θ_run _ _ _).mono (fun r h => h 0) (Cert.ReferenceIdeal.Value.run (F := Ideal) m' g')

end Cert.Top

end
-- ==== Proof.lean ====
/-
  The certificate: every claim, assembled from the modules.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Top.Frames
public import proofs.«01_k».proof.Proof.Top.Algebraic
public import Idealize.ShloMosaic.Adequacy
public import Idealize.ShloMosaic.Init

@[expose] public section

noncomputable section

namespace Cert.Proof

open Idealize.ShloMosaic Idealize.SL.Sem

/-- All claims of the certificate. -/
theorem claim : Cert.Claim := ⟨Cert.Kernel.Gen.facts, Cert.KernelIdeal.Gen.facts, Cert.ReferenceIdeal.Gen.facts,
  Cert.Top.frame_kernel, Cert.Top.frame_ideal, Cert.Top.frame_reference, trivial, Cert.Top.algebraic⟩

end Cert.Proof

end
